-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)) (v4 : (c : Dev Cert.KernelIdeal.nD) → Buf (Elt Ideal) ((c.tc : Thread Cert.KernelIdeal.nD Cert.KernelIdeal.τ).loc Cert.KernelIdeal.main_v11_4)) (v5 : (c : Dev Cert.KernelIdeal.nD) → Buf (Elt Ideal) ((c.tc : Thread Cert.KernelIdeal.nD Cert.KernelIdeal.τ).loc Cert.KernelIdeal.main_v11_5)) (v6 : (c : Dev Cert.KernelIdeal.nD) → Buf (Elt Ideal) ((c.tc : Thread Cert.KernelIdeal.nD Cert.KernelIdeal.τ).loc Cert.KernelIdeal.main_v11_6)) (v7 : (c : Dev Cert.KernelIdeal.nD) → Buf (Elt Ideal) ((c.tc : Thread Cert.KernelIdeal.nD Cert.KernelIdeal.τ).loc Cert.KernelIdeal.main_v11_7)) (v8 : (c : Dev Cert.KernelIdeal.nD) → Buf (Elt Ideal) ((c.tc : Thread Cert.KernelIdeal.nD Cert.KernelIdeal.τ).loc Cert.KernelIdeal.main_v11_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_v11_4) = v4 c
          ∧ r.2.mem ((c.tc : Thread Cert.KernelIdeal.nD Cert.KernelIdeal.τ).loc Cert.KernelIdeal.main_v11_5) = v5 c
          ∧ r.2.mem ((c.tc : Thread Cert.KernelIdeal.nD Cert.KernelIdeal.τ).loc Cert.KernelIdeal.main_v11_6) = v6 c
          ∧ r.2.mem ((c.tc : Thread Cert.KernelIdeal.nD Cert.KernelIdeal.τ).loc Cert.KernelIdeal.main_v11_7) = v7 c
          ∧ r.2.mem ((c.tc : Thread Cert.KernelIdeal.nD Cert.KernelIdeal.τ).loc Cert.KernelIdeal.main_v11_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_v168) = v1 c
          ∧ r.2.mem ((c.tc : Thread Cert.ReferenceIdeal.nD Cert.ReferenceIdeal.τ).loc Cert.ReferenceIdeal.main_v169) = v2 c
          ∧ r.2.mem ((c.tc : Thread Cert.ReferenceIdeal.nD Cert.ReferenceIdeal.τ).loc Cert.ReferenceIdeal.main_v170) = v3 c
          ∧ r.2.mem ((c.tc : Thread Cert.ReferenceIdeal.nD Cert.ReferenceIdeal.τ).loc Cert.ReferenceIdeal.main_v127) = v4 c
          ∧ r.2.mem ((c.tc : Thread Cert.ReferenceIdeal.nD Cert.ReferenceIdeal.τ).loc Cert.ReferenceIdeal.main_v171) = v5 c
          ∧ r.2.mem ((c.tc : Thread Cert.ReferenceIdeal.nD Cert.ReferenceIdeal.τ).loc Cert.ReferenceIdeal.main_v172) = v6 c
          ∧ r.2.mem ((c.tc : Thread Cert.ReferenceIdeal.nD Cert.ReferenceIdeal.τ).loc Cert.ReferenceIdeal.main_v173) = v7 c
          ∧ r.2.mem ((c.tc : Thread Cert.ReferenceIdeal.nD Cert.ReferenceIdeal.τ).loc Cert.ReferenceIdeal.main_v174) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  IdealRules.named_const.Statement Cert.Kernel2Ideal.κ "inv_log_two" .f32 0x3FB8AA3B#32 (((Real.log 2)⁻¹ : ℝ) : EReal)
  ∧ IdealRules.named_const.Statement Cert.Kernel2Ideal.κ "scale" .f32 0x3DD105EC#32 (((Real.sqrt 96)⁻¹ : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v37)) (v1 : (c : Dev Cert.Kernel2Ideal.nD) → Buf (Elt Ideal) ((c.tc : Thread Cert.Kernel2Ideal.nD Cert.Kernel2Ideal.τ).loc Cert.Kernel2Ideal.main_v40)) (v2 : (c : Dev Cert.Kernel2Ideal.nD) → Buf (Elt Ideal) ((c.tc : Thread Cert.Kernel2Ideal.nD Cert.Kernel2Ideal.τ).loc Cert.Kernel2Ideal.main_v46)) (v3 : (c : Dev Cert.Kernel2Ideal.nD) → Buf (Elt Ideal) ((c.tc : Thread Cert.Kernel2Ideal.nD Cert.Kernel2Ideal.τ).loc Cert.Kernel2Ideal.main_v48)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v37) = v0 c
          ∧ r.2.mem ((c.tc : Thread Cert.Kernel2Ideal.nD Cert.Kernel2Ideal.τ).loc Cert.Kernel2Ideal.main_v40) = v1 c
          ∧ r.2.mem ((c.tc : Thread Cert.Kernel2Ideal.nD Cert.Kernel2Ideal.τ).loc Cert.Kernel2Ideal.main_v46) = v2 c
          ∧ r.2.mem ((c.tc : Thread Cert.Kernel2Ideal.nD Cert.Kernel2Ideal.τ).loc Cert.Kernel2Ideal.main_v48) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v67) = v1 c
          ∧ r.2.mem ((c.tc : Thread Cert.Reference2Ideal.nD Cert.Reference2Ideal.τ).loc Cert.Reference2Ideal.main_v65) = v2 c
          ∧ r.2.mem ((c.tc : Thread Cert.Reference2Ideal.nD Cert.Reference2Ideal.τ).loc Cert.Reference2Ideal.main_v47) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.named_const.Statement Cert.Kernel3Ideal.κ "log_two" .f32 0x3F317218#32 ((Real.log 2 : ℝ) : EReal)

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v79_0)) (v1 : (c : Dev Cert.Kernel3Ideal.nD) → Buf (Elt Ideal) ((c.tc : Thread Cert.Kernel3Ideal.nD Cert.Kernel3Ideal.τ).loc Cert.Kernel3Ideal.main_v83)) (v2 : (c : Dev Cert.Kernel3Ideal.nD) → Buf (Elt Ideal) ((c.tc : Thread Cert.Kernel3Ideal.nD Cert.Kernel3Ideal.τ).loc Cert.Kernel3Ideal.main_v92)) (v3 : (c : Dev Cert.Kernel3Ideal.nD) → Buf (Elt Ideal) ((c.tc : Thread Cert.Kernel3Ideal.nD Cert.Kernel3Ideal.τ).loc Cert.Kernel3Ideal.main_v86)) (v4 : (c : Dev Cert.Kernel3Ideal.nD) → Buf (Elt Ideal) ((c.tc : Thread Cert.Kernel3Ideal.nD Cert.Kernel3Ideal.τ).loc Cert.Kernel3Ideal.main_v93)) (v5 : (c : Dev Cert.Kernel3Ideal.nD) → Buf (Elt Ideal) ((c.tc : Thread Cert.Kernel3Ideal.nD Cert.Kernel3Ideal.τ).loc Cert.Kernel3Ideal.main_v91)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v79_0) = v0 c
          ∧ r.2.mem ((c.tc : Thread Cert.Kernel3Ideal.nD Cert.Kernel3Ideal.τ).loc Cert.Kernel3Ideal.main_v83) = v1 c
          ∧ r.2.mem ((c.tc : Thread Cert.Kernel3Ideal.nD Cert.Kernel3Ideal.τ).loc Cert.Kernel3Ideal.main_v92) = v2 c
          ∧ r.2.mem ((c.tc : Thread Cert.Kernel3Ideal.nD Cert.Kernel3Ideal.τ).loc Cert.Kernel3Ideal.main_v86) = v3 c
          ∧ r.2.mem ((c.tc : Thread Cert.Kernel3Ideal.nD Cert.Kernel3Ideal.τ).loc Cert.Kernel3Ideal.main_v93) = v4 c
          ∧ r.2.mem ((c.tc : Thread Cert.Kernel3Ideal.nD Cert.Kernel3Ideal.τ).loc Cert.Kernel3Ideal.main_v91) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v201) = v0 c
          ∧ r.2.mem ((c.tc : Thread Cert.Reference3Ideal.nD Cert.Reference3Ideal.τ).loc Cert.Reference3Ideal.main_v198) = v1 c
          ∧ r.2.mem ((c.tc : Thread Cert.Reference3Ideal.nD Cert.Reference3Ideal.τ).loc Cert.Reference3Ideal.main_v180) = v2 c
          ∧ r.2.mem ((c.tc : Thread Cert.Reference3Ideal.nD Cert.Reference3Ideal.τ).loc Cert.Reference3Ideal.main_v173) = v3 c
          ∧ r.2.mem ((c.tc : Thread Cert.Reference3Ideal.nD Cert.Reference3Ideal.τ).loc Cert.Reference3Ideal.main_v134) = v4 c
          ∧ r.2.mem ((c.tc : Thread Cert.Reference3Ideal.nD Cert.Reference3Ideal.τ).loc Cert.Reference3Ideal.main_v127) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v13)) (v2 : (c : Dev Cert.Kernel4Ideal.nD) → Buf (Elt Ideal) ((c.tc : Thread Cert.Kernel4Ideal.nD Cert.Kernel4Ideal.τ).loc Cert.Kernel4Ideal.main_v14)) (v3 : (c : Dev Cert.Kernel4Ideal.nD) → Buf (Elt Ideal) ((c.tc : Thread Cert.Kernel4Ideal.nD Cert.Kernel4Ideal.τ).loc Cert.Kernel4Ideal.main_v15)) (v4 : (c : Dev Cert.Kernel4Ideal.nD) → Buf (Elt Ideal) ((c.tc : Thread Cert.Kernel4Ideal.nD Cert.Kernel4Ideal.τ).loc Cert.Kernel4Ideal.main_v12_4)) (v5 : (c : Dev Cert.Kernel4Ideal.nD) → Buf (Elt Ideal) ((c.tc : Thread Cert.Kernel4Ideal.nD Cert.Kernel4Ideal.τ).loc Cert.Kernel4Ideal.main_v12_5)) (v6 : (c : Dev Cert.Kernel4Ideal.nD) → Buf (Elt Ideal) ((c.tc : Thread Cert.Kernel4Ideal.nD Cert.Kernel4Ideal.τ).loc Cert.Kernel4Ideal.main_v12_6)) (v7 : (c : Dev Cert.Kernel4Ideal.nD) → Buf (Elt Ideal) ((c.tc : Thread Cert.Kernel4Ideal.nD Cert.Kernel4Ideal.τ).loc Cert.Kernel4Ideal.main_v12_7)) (v8 : (c : Dev Cert.Kernel4Ideal.nD) → Buf (Elt Ideal) ((c.tc : Thread Cert.Kernel4Ideal.nD Cert.Kernel4Ideal.τ).loc Cert.Kernel4Ideal.main_v12_8)) (v9 : (c : Dev Cert.Kernel4Ideal.nD) → Buf (Elt Ideal) ((c.tc : Thread Cert.Kernel4Ideal.nD Cert.Kernel4Ideal.τ).loc Cert.Kernel4Ideal.main_v12_9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v13) = v1 c
          ∧ r.2.mem ((c.tc : Thread Cert.Kernel4Ideal.nD Cert.Kernel4Ideal.τ).loc Cert.Kernel4Ideal.main_v14) = v2 c
          ∧ r.2.mem ((c.tc : Thread Cert.Kernel4Ideal.nD Cert.Kernel4Ideal.τ).loc Cert.Kernel4Ideal.main_v15) = v3 c
          ∧ r.2.mem ((c.tc : Thread Cert.Kernel4Ideal.nD Cert.Kernel4Ideal.τ).loc Cert.Kernel4Ideal.main_v12_4) = v4 c
          ∧ r.2.mem ((c.tc : Thread Cert.Kernel4Ideal.nD Cert.Kernel4Ideal.τ).loc Cert.Kernel4Ideal.main_v12_5) = v5 c
          ∧ r.2.mem ((c.tc : Thread Cert.Kernel4Ideal.nD Cert.Kernel4Ideal.τ).loc Cert.Kernel4Ideal.main_v12_6) = v6 c
          ∧ r.2.mem ((c.tc : Thread Cert.Kernel4Ideal.nD Cert.Kernel4Ideal.τ).loc Cert.Kernel4Ideal.main_v12_7) = v7 c
          ∧ r.2.mem ((c.tc : Thread Cert.Kernel4Ideal.nD Cert.Kernel4Ideal.τ).loc Cert.Kernel4Ideal.main_v12_8) = v8 c
          ∧ r.2.mem ((c.tc : Thread Cert.Kernel4Ideal.nD Cert.Kernel4Ideal.τ).loc Cert.Kernel4Ideal.main_v12_9) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v157) = v0 c
          ∧ r.2.mem ((c.tc : Thread Cert.Reference4Ideal.nD Cert.Reference4Ideal.τ).loc Cert.Reference4Ideal.main_v158) = v1 c
          ∧ r.2.mem ((c.tc : Thread Cert.Reference4Ideal.nD Cert.Reference4Ideal.τ).loc Cert.Reference4Ideal.main_v160) = v2 c
          ∧ r.2.mem ((c.tc : Thread Cert.Reference4Ideal.nD Cert.Reference4Ideal.τ).loc Cert.Reference4Ideal.main_v156) = v3 c
          ∧ r.2.mem ((c.tc : Thread Cert.Reference4Ideal.nD Cert.Reference4Ideal.τ).loc Cert.Reference4Ideal.main_v161) = v4 c
          ∧ r.2.mem ((c.tc : Thread Cert.Reference4Ideal.nD Cert.Reference4Ideal.τ).loc Cert.Reference4Ideal.main_v162) = v5 c
          ∧ r.2.mem ((c.tc : Thread Cert.Reference4Ideal.nD Cert.Reference4Ideal.τ).loc Cert.Reference4Ideal.main_v113) = v6 c
          ∧ r.2.mem ((c.tc : Thread Cert.Reference4Ideal.nD Cert.Reference4Ideal.τ).loc Cert.Reference4Ideal.main_v163) = v7 c
          ∧ r.2.mem ((c.tc : Thread Cert.Reference4Ideal.nD Cert.Reference4Ideal.τ).loc Cert.Reference4Ideal.main_v164) = v8 c
          ∧ r.2.mem ((c.tc : Thread Cert.Reference4Ideal.nD Cert.Reference4Ideal.τ).loc Cert.Reference4Ideal.main_v165) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite2 : Cert.Pre_finite2.Facts) (hPre_finite3 : Cert.Pre_finite3.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S1x8192x768 : Shape := ⟨3, ![1, 8192, 768]⟩
abbrev S1x8192x1024 : Shape := ⟨3, ![1, 8192, 1024]⟩
abbrev S1x8192x256 : Shape := ⟨3, ![1, 8192, 256]⟩
abbrev S1x256x512 : Shape := ⟨3, ![1, 256, 512]⟩
abbrev S1024x1024 : Shape := ⟨2, ![1024, 1024]⟩
abbrev S1024 : Shape := ⟨1, ![1024]⟩
abbrev S_ : Shape := ⟨0, ![]⟩

class Facts : Prop where
  bcast_S_S1x8192x768 : S_.BroadcastsInDim S1x8192x768 (![] : Fin 0 → Fin S1x8192x768.rank)
  reducesTo_S1x8192x768_S_d0_1_2 : S1x8192x768.ReducesTo [0, 1, 2] S_
  h_S_ : 0 < S_.numel
  bcast_S_S1x8192x1024 : S_.BroadcastsInDim S1x8192x1024 (![] : Fin 0 → Fin S1x8192x1024.rank)
  reducesTo_S1x8192x1024_S_d0_1_2 : S1x8192x1024.ReducesTo [0, 1, 2] S_
  bcast_S_S1x8192x256 : S_.BroadcastsInDim S1x8192x256 (![] : Fin 0 → Fin S1x8192x256.rank)
  reducesTo_S1x8192x256_S_d0_1_2 : S1x8192x256.ReducesTo [0, 1, 2] S_
  bcast_S_S1x256x512 : S_.BroadcastsInDim S1x256x512 (![] : Fin 0 → Fin S1x256x512.rank)
  reducesTo_S1x256x512_S_d0_1_2 : S1x256x512.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1x8192x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1x8192x1024 .f32 := Host.absf main_arg8
  let main_cst_14 : FVec F S_ .f32 := constant S_ .f32 0x7F800000#32
  let main_v40 : FVec F S1x8192x1024 .f32 := broadcastInDim S1x8192x1024 ![] bcast_S_S1x8192x1024 main_cst_14
  let main_v41 : IVec S1x8192x1024 1 := cmpf .olt main_v39 main_v40
  let main_c_15 : IVec S_ 1 := constantI S_ 1 1#1
  let main_v42 : IVec S_ 1 := (fun x v => Host.reduce IntOp.andi x v reducesTo_S1x8192x1024_S_d0_1_2 h_S_) main_v41 main_c_15
  let main_v43 : IVec S_ 1 := andi main_v38 main_v42
  main_v43

def fn_part1 {F : FTy → Type} [FloatOps F] (main_arg4 : FVec F S1024x1024 .f32) (main_arg5 : FVec F S1x8192x1024 .f32) (main_arg6 : FVec F S1024 .f32) (main_arg7 : FVec F S1024 .f32) (main_arg8 : FVec F S1x8192x1024 .f32) (main_v13 : IVec S_ 1) (main_v16 : IVec S1x256x512 1) : IVec S_ 1 :=
  let main_c_5 : IVec S_ 1 := constantI S_ 1 1#1
  let main_v17 : IVec S_ 1 := (fun x v => Host.reduce IntOp.andi x v reducesTo_S1x256x512_S_d0_1_2 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1x8192x1024 .f32 := Host.absf main_arg5
  let main_cst_8 : FVec F S_ .f32 := constant S_ .f32 0x7F800000#32
  let main_v25 : FVec F S1x8192x1024 .f32 := broadcastInDim S1x8192x1024 ![] bcast_S_S1x8192x1024 main_cst_8
  let main_v26 : IVec S1x8192x1024 1 := cmpf .olt main_v24 main_v25
  let main_c_9 : IVec S_ 1 := constantI S_ 1 1#1
  let main_v27 : IVec S_ 1 := (fun x v => Host.reduce IntOp.andi x v reducesTo_S1x8192x1024_S_d0_1_2 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S1x8192x768 .f32) (main_arg1 : FVec F S1x8192x1024 .f32) (main_arg2 : FVec F S1x8192x256 .f32) (main_arg3 : FVec F S1x256x512 .f32) (main_arg4 : FVec F S1024x1024 .f32) (main_arg5 : FVec F S1x8192x1024 .f32) (main_arg6 : FVec F S1024 .f32) (main_arg7 : FVec F S1024 .f32) (main_arg8 : FVec F S1x8192x1024 .f32) : IVec S_ 1 :=
  let main_v0 : FVec F S1x8192x768 .f32 := Host.absf main_arg0
  let main_cst : FVec F S_ .f32 := constant S_ .f32 0x7F800000#32
  let main_v1 : FVec F S1x8192x768 .f32 := broadcastInDim S1x8192x768 ![] bcast_S_S1x8192x768 main_cst
  let main_v2 : IVec S1x8192x768 1 := cmpf .olt main_v0 main_v1
  let main_c : IVec S_ 1 := constantI S_ 1 1#1
  let main_v3 : IVec S_ 1 := (fun x v => Host.reduce IntOp.andi x v reducesTo_S1x8192x768_S_d0_1_2 h_S_) main_v2 main_c
  let main_v4 : FVec F S1x8192x1024 .f32 := Host.absf main_arg1
  let main_cst_0 : FVec F S_ .f32 := constant S_ .f32 0x7F800000#32
  let main_v5 : FVec F S1x8192x1024 .f32 := broadcastInDim S1x8192x1024 ![] bcast_S_S1x8192x1024 main_cst_0
  let main_v6 : IVec S1x8192x1024 1 := cmpf .olt main_v4 main_v5
  let main_c_1 : IVec S_ 1 := constantI S_ 1 1#1
  let main_v7 : IVec S_ 1 := (fun x v => Host.reduce IntOp.andi x v reducesTo_S1x8192x1024_S_d0_1_2 h_S_) main_v6 main_c_1
  let main_v8 : IVec S_ 1 := andi main_v3 main_v7
  let main_v9 : FVec F S1x8192x256 .f32 := Host.absf main_arg2
  let main_cst_2 : FVec F S_ .f32 := constant S_ .f32 0x7F800000#32
  let main_v10 : FVec F S1x8192x256 .f32 := broadcastInDim S1x8192x256 ![] bcast_S_S1x8192x256 main_cst_2
  let main_v11 : IVec S1x8192x256 1 := cmpf .olt main_v9 main_v10
  let main_c_3 : IVec S_ 1 := constantI S_ 1 1#1
  let main_v12 : IVec S_ 1 := (fun x v => Host.reduce IntOp.andi x v reducesTo_S1x8192x256_S_d0_1_2 h_S_) main_v11 main_c_3
  let main_v13 : IVec S_ 1 := andi main_v8 main_v12
  let main_v14 : FVec F S1x256x512 .f32 := Host.absf main_arg3
  let main_cst_4 : FVec F S_ .f32 := constant S_ .f32 0x7F800000#32
  let main_v15 : FVec F S1x256x512 .f32 := broadcastInDim S1x256x512 ![] bcast_S_S1x256x512 main_cst_4
  let main_v16 : IVec S1x256x512 1 := cmpf .olt main_v14 main_v15
  fn_part1 (F := F) main_arg4 main_arg5 main_arg6 main_arg7 main_arg8 main_v13 main_v16
-- ==== Pre_finite2.lean ====
abbrev S1x8192x12x96 : Shape := ⟨4, ![1, 8192, 12, 96]⟩
abbrev S1x8192x12x64 : Shape := ⟨4, ![1, 8192, 12, 64]⟩
abbrev S1x8192x768 : Shape := ⟨3, ![1, 8192, 768]⟩
abbrev S_ : Shape := ⟨0, ![]⟩

class Facts : Prop where
  bcast_S_S1x8192x12x96 : S_.BroadcastsInDim S1x8192x12x96 (![] : Fin 0 → Fin S1x8192x12x96.rank)
  reducesTo_S1x8192x12x96_S_d0_1_2_3 : S1x8192x12x96.ReducesTo [0, 1, 2, 3] S_
  h_S_ : 0 < S_.numel
  bcast_S_S1x8192x12x64 : S_.BroadcastsInDim S1x8192x12x64 (![] : Fin 0 → Fin S1x8192x12x64.rank)
  reducesTo_S1x8192x12x64_S_d0_1_2_3 : S1x8192x12x64.ReducesTo [0, 1, 2, 3] S_
  bcast_S_S1x8192x768 : S_.BroadcastsInDim S1x8192x768 (![] : Fin 0 → Fin S1x8192x768.rank)
  reducesTo_S1x8192x768_S_d0_1_2 : S1x8192x768.ReducesTo [0, 1, 2] S_

variable [Facts]

def fn_part1 {F : FTy → Type} [FloatOps F] (main_v13 : IVec S_ 1) (main_v16 : IVec S1x8192x768 1) : IVec S_ 1 :=
  let main_c_5 : IVec S_ 1 := constantI S_ 1 1#1
  let main_v17 : IVec S_ 1 := (fun x v => Host.reduce IntOp.andi x v reducesTo_S1x8192x768_S_d0_1_2 h_S_) main_v16 main_c_5
  let main_v18 : IVec S_ 1 := andi main_v13 main_v17
  main_v18

def fn {F : FTy → Type} [FloatOps F] (main_arg0 : FVec F S1x8192x12x96 .f32) (main_arg1 : FVec F S1x8192x12x96 .f32) (main_arg2 : FVec F S1x8192x12x64 .f32) (main_arg3 : FVec F S1x8192x768 .f32) : IVec S_ 1 :=
  let main_v0 : FVec F S1x8192x12x96 .f32 := Host.absf main_arg0
  let main_cst : FVec F S_ .f32 := constant S_ .f32 0x7F800000#32
  let main_v1 : FVec F S1x8192x12x96 .f32 := broadcastInDim S1x8192x12x96 ![] bcast_S_S1x8192x12x96 main_cst
  let main_v2 : IVec S1x8192x12x96 1 := cmpf .olt main_v0 main_v1
  let main_c : IVec S_ 1 := constantI S_ 1 1#1
  let main_v3 : IVec S_ 1 := (fun x v => Host.reduce IntOp.andi x v reducesTo_S1x8192x12x96_S_d0_1_2_3 h_S_) main_v2 main_c
  let main_v4 : FVec F S1x8192x12x96 .f32 := Host.absf main_arg1
  let main_cst_0 : FVec F S_ .f32 := constant S_ .f32 0x7F800000#32
  let main_v5 : FVec F S1x8192x12x96 .f32 := broadcastInDim S1x8192x12x96 ![] bcast_S_S1x8192x12x96 main_cst_0
  let main_v6 : IVec S1x8192x12x96 1 := cmpf .olt main_v4 main_v5
  let main_c_1 : IVec S_ 1 := constantI S_ 1 1#1
  let main_v7 : IVec S_ 1 := (fun x v => Host.reduce IntOp.andi x v reducesTo_S1x8192x12x96_S_d0_1_2_3 h_S_) main_v6 main_c_1
  let main_v8 : IVec S_ 1 := andi main_v3 main_v7
  let main_v9 : FVec F S1x8192x12x64 .f32 := Host.absf main_arg2
  let main_cst_2 : FVec F S_ .f32 := constant S_ .f32 0x7F800000#32
  let main_v10 : FVec F S1x8192x12x64 .f32 := broadcastInDim S1x8192x12x64 ![] bcast_S_S1x8192x12x64 main_cst_2
  let main_v11 : IVec S1x8192x12x64 1 := cmpf .olt main_v9 main_v10
  let main_c_3 : IVec S_ 1 := constantI S_ 1 1#1
  let main_v12 : IVec S_ 1 := (fun x v => Host.reduce IntOp.andi x v reducesTo_S1x8192x12x64_S_d0_1_2_3 h_S_) main_v11 main_c_3
  let main_v13 : IVec S_ 1 := andi main_v8 main_v12
  let main_v14 : FVec F S1x8192x768 .f32 := Host.absf main_arg3
  let main_cst_4 : FVec F S_ .f32 := constant S_ .f32 0x7F800000#32
  let main_v15 : FVec F S1x8192x768 .f32 := broadcastInDim S1x8192x768 ![] bcast_S_S1x8192x768 main_cst_4
  let main_v16 : IVec S1x8192x768 1 := cmpf .olt main_v14 main_v15
  fn_part1 (F := F) main_v13 main_v16
-- ==== Pre_finite3.lean ====
abbrev S1x8192x1024 : Shape := ⟨3, ![1, 8192, 1024]⟩
abbrev S1x8192 : Shape := ⟨2, ![1, 8192]⟩
abbrev S1024x1952 : Shape := ⟨2, ![1024, 1952]⟩
abbrev S384 : Shape := ⟨1, ![384]⟩
abbrev S384x1152 : Shape := ⟨2, ![384, 1152]⟩
abbrev S256 : Shape := ⟨1, ![256]⟩
abbrev S256x1536 : Shape := ⟨2, ![256, 1536]⟩
abbrev S1x8192x12x96 : Shape := ⟨4, ![1, 8192, 12, 96]⟩
abbrev S1x8192x12x64 : Shape := ⟨4, ![1, 8192, 12, 64]⟩
abbrev S1x8192x256 : Shape := ⟨3, ![1, 8192, 256]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1024x1952 : S_.BroadcastsInDim S1024x1952 (![] : Fin 0 → Fin S1024x1952.rank)
  reducesTo_S1024x1952_S_d0_1 : S1024x1952.ReducesTo [0, 1] S_
  bcast_S_S384 : S_.BroadcastsInDim S384 (![] : Fin 0 → Fin S384.rank)
  reducesTo_S384_S_d0 : S384.ReducesTo [0] S_
  bcast_S_S384x1152 : S_.BroadcastsInDim S384x1152 (![] : Fin 0 → Fin S384x1152.rank)
  reducesTo_S384x1152_S_d0_1 : S384x1152.ReducesTo [0, 1] S_
  bcast_S_S256 : S_.BroadcastsInDim S256 (![] : Fin 0 → Fin S256.rank)
  reducesTo_S256_S_d0 : S256.ReducesTo [0] S_
  bcast_S_S256x1536 : S_.BroadcastsInDim S256x1536 (![] : Fin 0 → Fin S256x1536.rank)
  reducesTo_S256x1536_S_d0_1 : S256x1536.ReducesTo [0, 1] S_
  bcast_S_S1x8192x12x96 : S_.BroadcastsInDim S1x8192x12x96 (![] : Fin 0 → Fin S1x8192x12x96.rank)
  reducesTo_S1x8192x12x96_S_d0_1_2_3 : S1x8192x12x96.ReducesTo [0, 1, 2, 3] S_
  bcast_S_S1x8192x12x64 : S_.BroadcastsInDim S1x8192x12x64 (![] : Fin 0 → Fin S1x8192x12x64.rank)
  reducesTo_S1x8192x12x64_S_d0_1_2_3 : S1x8192x12x64.ReducesTo [0, 1, 2, 3] S_
  bcast_S_S1x8192x256 : S_.BroadcastsInDim S1x8192x256 (![] : Fin 0 → Fin S1x8192x256.rank)
  reducesTo_S1x8192x256_S_d0_1_2 : S1x8192x256.ReducesTo [0, 1, 2] S_

variable [Facts]

def fn_part3 {F : FTy → Type} [FloatOps F] (main_arg12 : FVec F S1x8192x1024 .f32) (main_v48 : IVec S_ 1) (main_v49 : FVec F S1x8192x256 .f32) (main_v50 : FVec F S1x8192x256 .f32) : IVec S_ 1 :=
  let main_v51 : IVec S1x8192x256 1 := cmpf .olt main_v49 main_v50
  let main_c_19 : IVec S_ 1 := constantI S_ 1 1#1
  let main_v52 : IVec S_ 1 := (fun x v => Host.reduce IntOp.andi x v reducesTo_S1x8192x256_S_d0_1_2 h_S_) main_v51 main_c_19
  let main_v53 : IVec S_ 1 := andi main_v48 main_v52
  let main_v54 : FVec F S1x8192x1024 .f32 := Host.absf main_arg12
  let main_cst_20 : FVec F S_ .f32 := constant S_ .f32 0x7F800000#32
  let main_v55 : FVec F S1x8192x1024 .f32 := broadcastInDim S1x8192x1024 ![] bcast_S_S1x8192x1024 main_cst_20
  let main_v56 : IVec S1x8192x1024 1 := cmpf .olt main_v54 main_v55
  let main_c_21 : IVec S_ 1 := constantI S_ 1 1#1
  let main_v57 : IVec S_ 1 := (fun x v => Host.reduce IntOp.andi x v reducesTo_S1x8192x1024_S_d0_1_2 h_S_) main_v56 main_c_21
  let main_v58 : IVec S_ 1 := andi main_v53 main_v57
  main_v58

def fn_part2 {F : FTy → Type} [FloatOps F] (main_arg8 : FVec F S1x8192x12x96 .f32) (main_arg9 : FVec F S1x8192x12x64 .f32) (main_arg10 : FVec F S1x8192x1024 .f32) (main_arg11 : FVec F S1x8192x256 .f32) (main_arg12 : FVec F S1x8192x1024 .f32) (main_v33 : IVec S_ 1) : IVec S_ 1 :=
  let main_v34 : FVec F S1x8192x12x96 .f32 := Host.absf main_arg8
  let main_cst_12 : FVec F S_ .f32 := constant S_ .f32 0x7F800000#32
  let main_v35 : FVec F S1x8192x12x96 .f32 := broadcastInDim S1x8192x12x96 ![] bcast_S_S1x8192x12x96 main_cst_12
  let main_v36 : IVec S1x8192x12x96 1 := cmpf .olt main_v34 main_v35
  let main_c_13 : IVec S_ 1 := constantI S_ 1 1#1
  let main_v37 : IVec S_ 1 := (fun x v => Host.reduce IntOp.andi x v reducesTo_S1x8192x12x96_S_d0_1_2_3 h_S_) main_v36 main_c_13
  let main_v38 : IVec S_ 1 := andi main_v33 main_v37
  let main_v39 : FVec F S1x8192x12x64 .f32 := Host.absf main_arg9
  let main_cst_14 : FVec F S_ .f32 := constant S_ .f32 0x7F800000#32
  let main_v40 : FVec F S1x8192x12x64 .f32 := broadcastInDim S1x8192x12x64 ![] bcast_S_S1x8192x12x64 main_cst_14
  let main_v41 : IVec S1x8192x12x64 1 := cmpf .olt main_v39 main_v40
  let main_c_15 : IVec S_ 1 := constantI S_ 1 1#1
  let main_v42 : IVec S_ 1 := (fun x v => Host.reduce IntOp.andi x v reducesTo_S1x8192x12x64_S_d0_1_2_3 h_S_) main_v41 main_c_15
  let main_v43 : IVec S_ 1 := andi main_v38 main_v42
  let main_v44 : FVec F S1x8192x1024 .f32 := Host.absf main_arg10
  let main_cst_16 : FVec F S_ .f32 := constant S_ .f32 0x7F800000#32
  let main_v45 : FVec F S1x8192x1024 .f32 := broadcastInDim S1x8192x1024 ![] bcast_S_S1x8192x1024 main_cst_16
  let main_v46 : IVec S1x8192x1024 1 := cmpf .olt main_v44 main_v45
  let main_c_17 : IVec S_ 1 := constantI S_ 1 1#1
  let main_v47 : IVec S_ 1 := (fun x v => Host.reduce IntOp.andi x v reducesTo_S1x8192x1024_S_d0_1_2 h_S_) main_v46 main_c_17
  let main_v48 : IVec S_ 1 := andi main_v43 main_v47
  let main_v49 : FVec F S1x8192x256 .f32 := Host.absf main_arg11
  let main_cst_18 : FVec F S_ .f32 := constant S_ .f32 0x7F800000#32
  let main_v50 : FVec F S1x8192x256 .f32 := broadcastInDim S1x8192x256 ![] bcast_S_S1x8192x256 main_cst_18
  fn_part3 (F := F) main_arg12 main_v48 main_v49 main_v50

def fn_part1 {F : FTy → Type} [FloatOps F] (main_arg5 : FVec F S256 .f32) (main_arg6 : FVec F S256x1536 .f32) (main_arg7 : FVec F S1x8192x12x96 .f32) (main_arg8 : FVec F S1x8192x12x96 .f32) (main_arg9 : FVec F S1x8192x12x64 .f32) (main_arg10 : FVec F S1x8192x1024 .f32) (main_arg11 : FVec F S1x8192x256 .f32) (main_arg12 : FVec F S1x8192x1024 .f32) (main_v13 : IVec S_ 1) (main_v16 : IVec S384x1152 1) : IVec S_ 1 :=
  let main_c_5 : IVec S_ 1 := constantI S_ 1 1#1
  let main_v17 : IVec S_ 1 := (fun x v => Host.reduce IntOp.andi x v reducesTo_S384x1152_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1536 .f32 := Host.absf main_arg6
  let main_cst_8 : FVec F S_ .f32 := constant S_ .f32 0x7F800000#32
  let main_v25 : FVec F S256x1536 .f32 := broadcastInDim S256x1536 ![] bcast_S_S256x1536 main_cst_8
  let main_v26 : IVec S256x1536 1 := cmpf .olt main_v24 main_v25
  let main_c_9 : IVec S_ 1 := constantI S_ 1 1#1
  let main_v27 : IVec S_ 1 := (fun x v => Host.reduce IntOp.andi x v reducesTo_S256x1536_S_d0_1 h_S_) main_v26 main_c_9
  let main_v28 : IVec S_ 1 := andi main_v23 main_v27
  let main_v29 : FVec F S1x8192x12x96 .f32 := Host.absf main_arg7
  let main_cst_10 : FVec F S_ .f32 := constant S_ .f32 0x7F800000#32
  let main_v30 : FVec F S1x8192x12x96 .f32 := broadcastInDim S1x8192x12x96 ![] bcast_S_S1x8192x12x96 main_cst_10
  let main_v31 : IVec S1x8192x12x96 1 := cmpf .olt main_v29 main_v30
  let main_c_11 : IVec S_ 1 := constantI S_ 1 1#1
  let main_v32 : IVec S_ 1 := (fun x v => Host.reduce IntOp.andi x v reducesTo_S1x8192x12x96_S_d0_1_2_3 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S1x8192x1024 .f32) (main_arg1 : IVec S1x8192 32) (main_arg2 : FVec F S1024x1952 .f32) (main_arg3 : FVec F S384 .f32) (main_arg4 : FVec F S384x1152 .f32) (main_arg5 : FVec F S256 .f32) (main_arg6 : FVec F S256x1536 .f32) (main_arg7 : FVec F S1x8192x12x96 .f32) (main_arg8 : FVec F S1x8192x12x96 .f32) (main_arg9 : FVec F S1x8192x12x64 .f32) (main_arg10 : FVec F S1x8192x1024 .f32) (main_arg11 : FVec F S1x8192x256 .f32) (main_arg12 : FVec F S1x8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1024x1952 .f32 := Host.absf main_arg2
  let main_cst_0 : FVec F S_ .f32 := constant S_ .f32 0x7F800000#32
  let main_v5 : FVec F S1024x1952 .f32 := broadcastInDim S1024x1952 ![] bcast_S_S1024x1952 main_cst_0
  let main_v6 : IVec S1024x1952 1 := cmpf .olt main_v4 main_v5
  let main_c_1 : IVec S_ 1 := constantI S_ 1 1#1
  let main_v7 : IVec S_ 1 := (fun x v => Host.reduce IntOp.andi x v reducesTo_S1024x1952_S_d0_1 h_S_) main_v6 main_c_1
  let main_v8 : IVec S_ 1 := andi main_v3 main_v7
  let main_v9 : FVec F S384 .f32 := Host.absf main_arg3
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S384x1152 .f32 := Host.absf main_arg4
  let main_cst_4 : FVec F S_ .f32 := constant S_ .f32 0x7F800000#32
  let main_v15 : FVec F S384x1152 .f32 := broadcastInDim S384x1152 ![] bcast_S_S384x1152 main_cst_4
  let main_v16 : IVec S384x1152 1 := cmpf .olt main_v14 main_v15
  fn_part1 (F := F) main_arg5 main_arg6 main_arg7 main_arg8 main_arg9 main_arg10 main_arg11 main_arg12 main_v13 main_v16
-- ==== Pre_finite4.lean ====
abbrev S1x8192x768 : Shape := ⟨3, ![1, 8192, 768]⟩
abbrev S1x8192x1024 : Shape := ⟨3, ![1, 8192, 1024]⟩
abbrev S1x8192x256 : Shape := ⟨3, ![1, 8192, 256]⟩
abbrev S1x256x512 : Shape := ⟨3, ![1, 256, 512]⟩
abbrev S1024x1024 : Shape := ⟨2, ![1024, 1024]⟩
abbrev S1024 : Shape := ⟨1, ![1024]⟩
abbrev S_ : Shape := ⟨0, ![]⟩

class Facts : Prop where
  bcast_S_S1x8192x768 : S_.BroadcastsInDim S1x8192x768 (![] : Fin 0 → Fin S1x8192x768.rank)
  reducesTo_S1x8192x768_S_d0_1_2 : S1x8192x768.ReducesTo [0, 1, 2] S_
  h_S_ : 0 < S_.numel
  bcast_S_S1x8192x1024 : S_.BroadcastsInDim S1x8192x1024 (![] : Fin 0 → Fin S1x8192x1024.rank)
  reducesTo_S1x8192x1024_S_d0_1_2 : S1x8192x1024.ReducesTo [0, 1, 2] S_
  bcast_S_S1x8192x256 : S_.BroadcastsInDim S1x8192x256 (![] : Fin 0 → Fin S1x8192x256.rank)
  reducesTo_S1x8192x256_S_d0_1_2 : S1x8192x256.ReducesTo [0, 1, 2] S_
  bcast_S_S1x256x512 : S_.BroadcastsInDim S1x256x512 (![] : Fin 0 → Fin S1x256x512.rank)
  reducesTo_S1x256x512_S_d0_1_2 : S1x256x512.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1x8192x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1x8192x1024 .f32 := Host.absf main_arg8
  let main_cst_14 : FVec F S_ .f32 := constant S_ .f32 0x7F800000#32
  let main_v40 : FVec F S1x8192x1024 .f32 := broadcastInDim S1x8192x1024 ![] bcast_S_S1x8192x1024 main_cst_14
  let main_v41 : IVec S1x8192x1024 1 := cmpf .olt main_v39 main_v40
  let main_c_15 : IVec S_ 1 := constantI S_ 1 1#1
  let main_v42 : IVec S_ 1 := (fun x v => Host.reduce IntOp.andi x v reducesTo_S1x8192x1024_S_d0_1_2 h_S_) main_v41 main_c_15
  let main_v43 : IVec S_ 1 := andi main_v38 main_v42
  main_v43

def fn_part1 {F : FTy → Type} [FloatOps F] (main_arg4 : FVec F S1024x1024 .f32) (main_arg5 : FVec F S1x8192x1024 .f32) (main_arg6 : FVec F S1024 .f32) (main_arg7 : FVec F S1024 .f32) (main_arg8 : FVec F S1x8192x1024 .f32) (main_v13 : IVec S_ 1) (main_v16 : IVec S1x256x512 1) : IVec S_ 1 :=
  let main_c_5 : IVec S_ 1 := constantI S_ 1 1#1
  let main_v17 : IVec S_ 1 := (fun x v => Host.reduce IntOp.andi x v reducesTo_S1x256x512_S_d0_1_2 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1x8192x1024 .f32 := Host.absf main_arg5
  let main_cst_8 : FVec F S_ .f32 := constant S_ .f32 0x7F800000#32
  let main_v25 : FVec F S1x8192x1024 .f32 := broadcastInDim S1x8192x1024 ![] bcast_S_S1x8192x1024 main_cst_8
  let main_v26 : IVec S1x8192x1024 1 := cmpf .olt main_v24 main_v25
  let main_c_9 : IVec S_ 1 := constantI S_ 1 1#1
  let main_v27 : IVec S_ 1 := (fun x v => Host.reduce IntOp.andi x v reducesTo_S1x8192x1024_S_d0_1_2 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S1x8192x768 .f32) (main_arg1 : FVec F S1x8192x1024 .f32) (main_arg2 : FVec F S1x8192x256 .f32) (main_arg3 : FVec F S1x256x512 .f32) (main_arg4 : FVec F S1024x1024 .f32) (main_arg5 : FVec F S1x8192x1024 .f32) (main_arg6 : FVec F S1024 .f32) (main_arg7 : FVec F S1024 .f32) (main_arg8 : FVec F S1x8192x1024 .f32) : IVec S_ 1 :=
  let main_v0 : FVec F S1x8192x768 .f32 := Host.absf main_arg0
  let main_cst : FVec F S_ .f32 := constant S_ .f32 0x7F800000#32
  let main_v1 : FVec F S1x8192x768 .f32 := broadcastInDim S1x8192x768 ![] bcast_S_S1x8192x768 main_cst
  let main_v2 : IVec S1x8192x768 1 := cmpf .olt main_v0 main_v1
  let main_c : IVec S_ 1 := constantI S_ 1 1#1
  let main_v3 : IVec S_ 1 := (fun x v => Host.reduce IntOp.andi x v reducesTo_S1x8192x768_S_d0_1_2 h_S_) main_v2 main_c
  let main_v4 : FVec F S1x8192x1024 .f32 := Host.absf main_arg1
  let main_cst_0 : FVec F S_ .f32 := constant S_ .f32 0x7F800000#32
  let main_v5 : FVec F S1x8192x1024 .f32 := broadcastInDim S1x8192x1024 ![] bcast_S_S1x8192x1024 main_cst_0
  let main_v6 : IVec S1x8192x1024 1 := cmpf .olt main_v4 main_v5
  let main_c_1 : IVec S_ 1 := constantI S_ 1 1#1
  let main_v7 : IVec S_ 1 := (fun x v => Host.reduce IntOp.andi x v reducesTo_S1x8192x1024_S_d0_1_2 h_S_) main_v6 main_c_1
  let main_v8 : IVec S_ 1 := andi main_v3 main_v7
  let main_v9 : FVec F S1x8192x256 .f32 := Host.absf main_arg2
  let main_cst_2 : FVec F S_ .f32 := constant S_ .f32 0x7F800000#32
  let main_v10 : FVec F S1x8192x256 .f32 := broadcastInDim S1x8192x256 ![] bcast_S_S1x8192x256 main_cst_2
  let main_v11 : IVec S1x8192x256 1 := cmpf .olt main_v9 main_v10
  let main_c_3 : IVec S_ 1 := constantI S_ 1 1#1
  let main_v12 : IVec S_ 1 := (fun x v => Host.reduce IntOp.andi x v reducesTo_S1x8192x256_S_d0_1_2 h_S_) main_v11 main_c_3
  let main_v13 : IVec S_ 1 := andi main_v8 main_v12
  let main_v14 : FVec F S1x256x512 .f32 := Host.absf main_arg3
  let main_cst_4 : FVec F S_ .f32 := constant S_ .f32 0x7F800000#32
  let main_v15 : FVec F S1x256x512 .f32 := broadcastInDim S1x256x512 ![] bcast_S_S1x256x512 main_cst_4
  let main_v16 : IVec S1x256x512 1 := cmpf .olt main_v14 main_v15
  fn_part1 (F := F) main_arg4 main_arg5 main_arg6 main_arg7 main_arg8 main_v13 main_v16
-- ==== Kernel.lean ====
abbrev S1x8192x768 : Shape := ⟨3, ![1, 8192, 768]⟩
abbrev S1x8192x1024 : Shape := ⟨3, ![1, 8192, 1024]⟩
abbrev S1x8192x256 : Shape := ⟨3, ![1, 8192, 256]⟩
abbrev S1x256x512 : Shape := ⟨3, ![1, 256, 512]⟩
abbrev S1024x1024 : Shape := ⟨2, ![1024, 1024]⟩
abbrev S1024 : Shape := ⟨1, ![1024]⟩
abbrev S8192x768 : Shape := ⟨2, ![8192, 768]⟩
abbrev S8192x1024 : Shape := ⟨2, ![8192, 1024]⟩
abbrev S8192x256 : Shape := ⟨2, ![8192, 256]⟩
abbrev S256x512 : Shape := ⟨2, ![256, 512]⟩
abbrev S1x1024 : Shape := ⟨2, ![1, 1024]⟩
abbrev S1x1 : Shape := ⟨2, ![1, 1]⟩
abbrev S512x768 : Shape := ⟨2, ![512, 768]⟩
abbrev S512x1024 : Shape := ⟨2, ![512, 1024]⟩
abbrev S512x256 : Shape := ⟨2, ![512, 256]⟩
abbrev S512x128 : Shape := ⟨2, ![512, 128]⟩
abbrev S256x128 : Shape := ⟨2, ![256, 128]⟩
abbrev S512 : Shape := ⟨1, ![512]⟩
abbrev S512x1 : Shape := ⟨2, ![512, 1]⟩
abbrev S1 : Shape := ⟨1, ![1]⟩

abbrev nBuf : Space → Nat
  | .hbm => 29
  | .vmem => 27
  | .smem => 0
  | _ => 0

abbrev bufTy : (tb : Table) → Fin (tcTables nBuf tb) → BufTy
  | .hbm, ⟨0, _⟩ => ⟨S1x8192x768, .f32⟩
  | .hbm, ⟨1, _⟩ => ⟨S1x8192x1024, .f32⟩
  | .hbm, ⟨2, _⟩ => ⟨S1x8192x256, .f32⟩
  | .hbm, ⟨3, _⟩ => ⟨S1x256x512, .f32⟩
  | .hbm, ⟨4, _⟩ => ⟨S1024x1024, .f32⟩
  | .hbm, ⟨5, _⟩ => ⟨S1x8192x1024, .f32⟩
  | .hbm, ⟨6, _⟩ => ⟨S1024, .f32⟩
  | .hbm, ⟨7, _⟩ => ⟨S1024, .f32⟩
  | .hbm, ⟨8, _⟩ => ⟨S1x8192x1024, .f32⟩
  | .hbm, ⟨9, _⟩ => ⟨S8192x768, .f32⟩
  | .hbm, ⟨10, _⟩ => ⟨S8192x1024, .f32⟩
  | .hbm, ⟨11, _⟩ => ⟨S8192x256, .f32⟩
  | .hbm, ⟨12, _⟩ => ⟨S8192x256, .bf16⟩
  | .hbm, ⟨13, _⟩ => ⟨S256x512, .f32⟩
  | .hbm, ⟨14, _⟩ => ⟨S256x512, .bf16⟩
  | .hbm, ⟨15, _⟩ => ⟨S1024x1024, .bf16⟩
  | .hbm, ⟨16, _⟩ => ⟨S8192x1024, .f32⟩
  | .hbm, ⟨17, _⟩ => ⟨S1x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x768, .f32⟩
  | .hbm, ⟨22, _⟩ => ⟨S8192x1024, .f32⟩
  | .hbm, ⟨23, _⟩ => ⟨S8192x256, .f32⟩
  | .hbm, ⟨24, _⟩ => ⟨S1024x1024, .f32⟩
  | .hbm, ⟨25, _⟩ => ⟨S256x512, .f32⟩
  | .hbm, ⟨26, _⟩ => ⟨S1x1024, .f32⟩
  | .hbm, ⟨27, _⟩ => ⟨S1x1024, .f32⟩
  | .hbm, ⟨28, _⟩ => ⟨S1x1, .f32⟩
  | .local _ .vmem, ⟨0, _⟩ => ⟨S512x768, .f32⟩
  | .local _ .vmem, ⟨1, _⟩ => ⟨S512x768, .f32⟩
  | .local _ .vmem, ⟨2, _⟩ => ⟨S512x1024, .f32⟩
  | .local _ .vmem, ⟨3, _⟩ => ⟨S512x1024, .f32⟩
  | .local _ .vmem, ⟨4, _⟩ => ⟨S512x256, .bf16⟩
  | .local _ .vmem, ⟨5, _⟩ => ⟨S512x256, .bf16⟩
  | .local _ .vmem, ⟨6, _⟩ => ⟨S256x512, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x768, .f32⟩
  | .local _ .vmem, ⟨17, _⟩ => ⟨S512x768, .f32⟩
  | .local _ .vmem, ⟨18, _⟩ => ⟨S512x1024, .f32⟩
  | .local _ .vmem, ⟨19, _⟩ => ⟨S512x1024, .f32⟩
  | .local _ .vmem, ⟨20, _⟩ => ⟨S512x256, .f32⟩
  | .local _ .vmem, ⟨21, _⟩ => ⟨S512x256, .f32⟩
  | .local _ .vmem, ⟨22, _⟩ => ⟨S1024x1024, .f32⟩
  | .local _ .vmem, ⟨23, _⟩ => ⟨S256x512, .f32⟩
  | .local _ .vmem, ⟨24, _⟩ => ⟨S1x1024, .f32⟩
  | .local _ .vmem, ⟨25, _⟩ => ⟨S1x1024, .f32⟩
  | .local _ .vmem, ⟨26, _⟩ => ⟨S1x1, .f32⟩
  | _, _ => ⟨S1x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v11_4 : Ref sig .tc := ⟨.hbm, 24, rfl⟩
abbrev main_v11_5 : Ref sig .tc := ⟨.hbm, 25, rfl⟩
abbrev main_v11_6 : Ref sig .tc := ⟨.hbm, 26, rfl⟩
abbrev main_v11_7 : Ref sig .tc := ⟨.hbm, 27, rfl⟩
abbrev main_v11_8 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S1x8192x768 : Shape := ⟨3, ![1, 8192, 768]⟩
abbrev S1x8192x1024 : Shape := ⟨3, ![1, 8192, 1024]⟩
abbrev S1x8192x256 : Shape := ⟨3, ![1, 8192, 256]⟩
abbrev S1x256x512 : Shape := ⟨3, ![1, 256, 512]⟩
abbrev S1024x1024 : Shape := ⟨2, ![1024, 1024]⟩
abbrev S1024 : Shape := ⟨1, ![1024]⟩
abbrev S1x256x2x4x64 : Shape := ⟨5, ![1, 256, 2, 4, 64]⟩
abbrev S1x8192x4x64 : Shape := ⟨4, ![1, 8192, 4, 64]⟩
abbrev S1x256x1x4x64 : Shape := ⟨5, ![1, 256, 1, 4, 64]⟩
abbrev S1x256x4x64 : Shape := ⟨4, ![1, 256, 4, 64]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x64x8192 : Shape := ⟨4, ![1, 4, 64, 8192]⟩
abbrev S1x8192 : Shape := ⟨2, ![1, 8192]⟩
abbrev S1x8192x1 : Shape := ⟨3, ![1, 8192, 1]⟩
abbrev S1x1x1024 : Shape := ⟨3, ![1, 1, 1024]⟩
abbrev S1x1024 : Shape := ⟨2, ![1, 1024]⟩
abbrev S8192 : Shape := ⟨1, ![8192]⟩
abbrev S1x4x64x256 : Shape := ⟨4, ![1, 4, 64, 256]⟩
abbrev S4x8192 : Shape := ⟨2, ![4, 8192]⟩
abbrev S1x4x256x64 : Shape := ⟨4, ![1, 4, 256, 64]⟩
abbrev S1x4x8192x64 : Shape := ⟨4, ![1, 4, 8192, 64]⟩
abbrev S8192x1024 : Shape := ⟨2, ![8192, 1024]⟩
abbrev S8192x768 : Shape := ⟨2, ![8192, 768]⟩
abbrev S8192x256 : Shape := ⟨2, ![8192, 256]⟩
abbrev S256x512 : Shape := ⟨2, ![256, 512]⟩
abbrev S1x1 : Shape := ⟨2, ![1, 1]⟩

abbrev nBuf : Space → Nat
  | .hbm => 243
  | .vmem => 0
  | .smem => 0
  | _ => 0

abbrev hbmTy0_0 (i : Nat) : BufTy := match i % 128 with
  | 0 => ⟨S1x8192x768, .f32⟩
  | 1 => ⟨S1x8192x1024, .f32⟩
  | 2 => ⟨S1x8192x256, .f32⟩
  | 3 => ⟨S1x256x512, .f32⟩
  | 4 => ⟨S1024x1024, .f32⟩
  | 5 => ⟨S1x8192x1024, .f32⟩
  | 6 => ⟨S1024, .f32⟩
  | 7 => ⟨S1024, .f32⟩
  | 8 => ⟨S1x8192x1024, .f32⟩
  | 9 => ⟨S1x256x2x4x64, .f32⟩
  | 10 => ⟨S1x8192x4x64, .f32⟩
  | 11 => ⟨S1x256x1x4x64, .f32⟩
  | 12 => ⟨S1x256x4x64, .f32⟩
  | 13 => ⟨S1x256x1x4x64, .f32⟩
  | 14 => ⟨S1x256x4x64, .f32⟩
  | 15 => ⟨S1x4x8192x256, .f32⟩
  | 16 => ⟨S_, .f32⟩
  | 17 => ⟨S1x4x8192x256, .f32⟩
  | 18 => ⟨S1x4x8192x256, .f32⟩
  | 19 => ⟨S_, .f32⟩
  | 20 => ⟨S1x4x8192, .f32⟩
  | 21 => ⟨S1x4x8192x1, .f32⟩
  | 22 => ⟨S1x4x8192x256, .f32⟩
  | 23 => ⟨S1x4x8192x256, .i1⟩
  | 24 => ⟨S1x4x8192x256, .f32⟩
  | 25 => ⟨S_, .f32⟩
  | 26 => ⟨S1x4x8192, .f32⟩
  | 27 => ⟨S_, .f32⟩
  | 28 => ⟨S1x4x8192, .f32⟩
  | 29 => ⟨S1x4x8192, .f32⟩
  | 30 => ⟨S_, .f32⟩
  | 31 => ⟨S1x4x8192, .f32⟩
  | 32 => ⟨S1x4x8192, .i1⟩
  | 33 => ⟨S_, .f32⟩
  | 34 => ⟨S1x4x8192, .f32⟩
  | 35 => ⟨S1x4x8192, .i1⟩
  | 36 => ⟨S_, .f32⟩
  | 37 => ⟨S1x4x8192, .f32⟩
  | 38 => ⟨S_, .f32⟩
  | 39 => ⟨S1x4x8192, .f32⟩
  | 40 => ⟨S_, .f32⟩
  | 41 => ⟨S1x4x8192, .f32⟩
  | 42 => ⟨S1x4x8192, .f32⟩
  | 43 => ⟨S1x4x8192, .f32⟩
  | 44 => ⟨S1x4x8192x1, .f32⟩
  | 45 => ⟨S1x4x8192x256, .f32⟩
  | 46 => ⟨S1x4x8192x256, .f32⟩
  | 47 => ⟨S1x4x8192x256, .f32⟩
  | 48 => ⟨S_, .f32⟩
  | 49 => ⟨S1x4x8192, .f32⟩
  | 50 => ⟨S1x4x8192x1, .f32⟩
  | 51 => ⟨S1x4x8192x256, .f32⟩
  | 52 => ⟨S1x4x8192x256, .f32⟩
  | 53 => ⟨S1x4x8192x1, .f32⟩
  | 54 => ⟨S_, .f32⟩
  | 55 => ⟨S1x4x8192x1, .f32⟩
  | 56 => ⟨S1x4x8192x1, .f32⟩
  | 57 => ⟨S1x4x64x8192, .f32⟩
  | 58 => ⟨S1x8192x4x64, .f32⟩
  | 59 => ⟨S1x8192x256, .f32⟩
  | 60 => ⟨S1x8192x1024, .f32⟩
  | 61 => ⟨S1x8192x1024, .f32⟩
  | 62 => ⟨S1x8192x1024, .f32⟩
  | 63 => ⟨S_, .f32⟩
  | 64 => ⟨S1x8192x1024, .f32⟩
  | 65 => ⟨S1x8192x1024, .f32⟩
  | 66 => ⟨S_, .f32⟩
  | 67 => ⟨S1x8192x1024, .f32⟩
  | 68 => ⟨S1x8192x1024, .f32⟩
  | 69 => ⟨S_, .f32⟩
  | 70 => ⟨S1x8192x1024, .f32⟩
  | 71 => ⟨S1x8192x1024, .f32⟩
  | 72 => ⟨S1x8192x1024, .f32⟩
  | 73 => ⟨S1x8192x1024, .f32⟩
  | 74 => ⟨S1x8192x1024, .f32⟩
  | 75 => ⟨S_, .f32⟩
  | 76 => ⟨S1x8192x1024, .f32⟩
  | 77 => ⟨S1x8192x1024, .f32⟩
  | 78 => ⟨S1x8192x1024, .f32⟩
  | 79 => ⟨S1x8192x1024, .f32⟩
  | 80 => ⟨S_, .f32⟩
  | 81 => ⟨S1x8192, .f32⟩
  | 82 => ⟨S1x8192x1, .f32⟩
  | 83 => ⟨S_, .f32⟩
  | 84 => ⟨S1x8192x1, .f32⟩
  | 85 => ⟨S1x8192x1, .f32⟩
  | 86 => ⟨S1x8192x1024, .f32⟩
  | 87 => ⟨S1x8192x1024, .f32⟩
  | 88 => ⟨S1x8192x1024, .f32⟩
  | 89 => ⟨S_, .f32⟩
  | 90 => ⟨S1x8192x1024, .f32⟩
  | 91 => ⟨S1x8192x1024, .f32⟩
  | 92 => ⟨S_, .f32⟩
  | 93 => ⟨S1x8192, .f32⟩
  | 94 => ⟨S1x8192x1, .f32⟩
  | 95 => ⟨S_, .f32⟩
  | 96 => ⟨S1x8192x1, .f32⟩
  | 97 => ⟨S1x8192x1, .f32⟩
  | 98 => ⟨S1x8192x1024, .f32⟩
  | 99 => ⟨S1x8192x1024, .f32⟩
  | 100 => ⟨S_, .f32⟩
  | 101 => ⟨S1x8192x1, .f32⟩
  | 102 => ⟨S1x8192x1, .f32⟩
  | 103 => ⟨S1x8192x1, .f32⟩
  | 104 => ⟨S1x8192x1, .f32⟩
  | 105 => ⟨S_, .f32⟩
  | 106 => ⟨S1x8192x1, .f32⟩
  | 107 => ⟨S1x8192x1, .f32⟩
  | 108 => ⟨S1x8192x1024, .f32⟩
  | 109 => ⟨S1x8192x1024, .f32⟩
  | 110 => ⟨S1x1x1024, .f32⟩
  | 111 => ⟨S1x8192x1024, .f32⟩
  | 112 => ⟨S1x8192x1024, .f32⟩
  | 113 => ⟨S1x1x1024, .f32⟩
  | 114 => ⟨S1x8192x1024, .f32⟩
  | 115 => ⟨S1x8192x1024, .f32⟩
  | 116 => ⟨S1x8192x1024, .f32⟩
  | 117 => ⟨S1x8192x1024, .f32⟩
  | 118 => ⟨S_, .f32⟩
  | 119 => ⟨S1x8192x1024, .f32⟩
  | 120 => ⟨S1x8192x1024, .f32⟩
  | 121 => ⟨S_, .f32⟩
  | 122 => ⟨S1x8192, .f32⟩
  | 123 => ⟨S_, .f32⟩
  | 124 => ⟨S1x8192, .f32⟩
  | 125 => ⟨S1x8192, .f32⟩
  | 126 => ⟨S_, .f32⟩
  | 127 => ⟨S_, .f32⟩
  | _ => ⟨S1x8192x768, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S1x8192, .f32⟩
  | 6 => ⟨S_, .f32⟩
  | 7 => ⟨S1x8192, .f32⟩
  | 8 => ⟨S1x8192, .f32⟩
  | 9 => ⟨S1x8192x1024, .f32⟩
  | 10 => ⟨S1x8192x1024, .f32⟩
  | 11 => ⟨S_, .f32⟩
  | 12 => ⟨S1x1024, .f32⟩
  | 13 => ⟨S1x1x1024, .f32⟩
  | 14 => ⟨S_, .f32⟩
  | 15 => ⟨S1024, .f32⟩
  | 16 => ⟨S1x8192x1024, .f32⟩
  | 17 => ⟨S_, .f32⟩
  | 18 => ⟨S1x1024, .f32⟩
  | 19 => ⟨S1x1x1024, .f32⟩
  | 20 => ⟨S1x8192x1024, .f32⟩
  | 21 => ⟨S1x8192x1024, .f32⟩
  | 22 => ⟨S_, .f32⟩
  | 23 => ⟨S1024, .f32⟩
  | 24 => ⟨S1x8192x1024, .f32⟩
  | 25 => ⟨S_, .f32⟩
  | 26 => ⟨S1x8192, .f32⟩
  | 27 => ⟨S1x8192x1, .f32⟩
  | 28 => ⟨S1x8192x1024, .f32⟩
  | 29 => ⟨S1x8192x1024, .f32⟩
  | 30 => ⟨S1x8192x1, .f32⟩
  | 31 => ⟨S1x8192x1024, .f32⟩
  | 32 => ⟨S_, .f32⟩
  | 33 => ⟨S1x8192, .f32⟩
  | 34 => ⟨S1x8192x1, .f32⟩
  | 35 => ⟨S_, .f32⟩
  | 36 => ⟨S1x8192x1, .f32⟩
  | 37 => ⟨S1x8192x1, .f32⟩
  | 38 => ⟨S_, .f32⟩
  | 39 => ⟨S8192, .f32⟩
  | 40 => ⟨S1x8192, .f32⟩
  | 41 => ⟨S1x8192x1024, .f32⟩
  | 42 => ⟨S1x8192x1024, .f32⟩
  | 43 => ⟨S1x8192x1024, .f32⟩
  | 44 => ⟨S_, .f32⟩
  | 45 => ⟨S1x8192, .f32⟩
  | 46 => ⟨S1x8192x1, .f32⟩
  | 47 => ⟨S1x8192x1024, .f32⟩
  | 48 => ⟨S1x8192x1, .f32⟩
  | 49 => ⟨S_, .f32⟩
  | 50 => ⟨S1x8192x1, .f32⟩
  | 51 => ⟨S1x8192x1, .f32⟩
  | 52 => ⟨S_, .f32⟩
  | 53 => ⟨S8192, .f32⟩
  | 54 => ⟨S1x8192, .f32⟩
  | 55 => ⟨S1x8192x1024, .f32⟩
  | 56 => ⟨S1x8192x1024, .f32⟩
  | 57 => ⟨S1024x1024, .f32⟩
  | 58 => ⟨S1024x1024, .f32⟩
  | 59 => ⟨S1x8192x1024, .f32⟩
  | 60 => ⟨S_, .f32⟩
  | 61 => ⟨S1x8192x1024, .f32⟩
  | 62 => ⟨S1x8192x1024, .f32⟩
  | 63 => ⟨S1x8192x1024, .f32⟩
  | 64 => ⟨S1x8192x1024, .f32⟩
  | 65 => ⟨S1x8192x1024, .f32⟩
  | 66 => ⟨S1x8192x1024, .f32⟩
  | 67 => ⟨S1x8192x1024, .f32⟩
  | 68 => ⟨S1x8192x1024, .f32⟩
  | 69 => ⟨S1x8192x768, .f32⟩
  | 70 => ⟨S1x8192x256, .f32⟩
  | 71 => ⟨S1x8192x4x64, .f32⟩
  | 72 => ⟨S1x4x64x8192, .f32⟩
  | 73 => ⟨S1x4x8192x256, .f32⟩
  | 74 => ⟨S1x4x64x256, .f32⟩
  | 75 => ⟨S1x256x4x64, .f32⟩
  | 76 => ⟨S1x4x8192x256, .f32⟩
  | 77 => ⟨S1x4x8192x256, .f32⟩
  | 78 => ⟨S1x4x8192x256, .f32⟩
  | 79 => ⟨S_, .f32⟩
  | 80 => ⟨S1x4x8192, .f32⟩
  | 81 => ⟨S1x4x8192x1, .f32⟩
  | 82 => ⟨S1x4x8192x1, .f32⟩
  | 83 => ⟨S1x4x8192x256, .f32⟩
  | 84 => ⟨S1x4x8192x256, .f32⟩
  | 85 => ⟨S_, .f32⟩
  | 86 => ⟨S4x8192, .f32⟩
  | 87 => ⟨S1x4x8192, .f32⟩
  | 88 => ⟨S1x4x8192x256, .f32⟩
  | 89 => ⟨S1x4x8192x256, .f32⟩
  | 90 => ⟨S1x4x8192x256, .f32⟩
  | 91 => ⟨S_, .f32⟩
  | 92 => ⟨S1x4x8192x256, .f32⟩
  | 93 => ⟨S1x4x8192x256, .f32⟩
  | 94 => ⟨S1x4x256x64, .f32⟩
  | 95 => ⟨S1x256x4x64, .f32⟩
  | 96 => ⟨S1x4x8192x64, .f32⟩
  | 97 => ⟨S1x8192x4x64, .f32⟩
  | 98 => ⟨S1x256x1x4x64, .f32⟩
  | 99 => ⟨S_, .f32⟩
  | 100 => ⟨S1x256x2x4x64, .f32⟩
  | 101 => ⟨S1x256x1x4x64, .f32⟩
  | 102 => ⟨S_, .f32⟩
  | 103 => ⟨S1x256x2x4x64, .f32⟩
  | 104 => ⟨S1x256x2x4x64, .f32⟩
  | 105 => ⟨S1x8192x256, .f32⟩
  | 106 => ⟨S1x256x512, .f32⟩
  | 107 => ⟨S8192x1024, .f32⟩
  | 108 => ⟨S8192x768, .f32⟩
  | 109 => ⟨S8192x1024, .f32⟩
  | 110 => ⟨S8192x256, .f32⟩
  | 111 => ⟨S256x512, .f32⟩
  | 112 => ⟨S1x1024, .f32⟩
  | 113 => ⟨S1x1024, .f32⟩
  | 114 => ⟨S1x1, .f32⟩
  | _ => ⟨S1x8192x768, .f32⟩

abbrev hbmTy (i : Nat) : BufTy := match i / 128 with
  | 0 => hbmTy0_0 i
  | 1 => hbmTy0_1 i
  | _ => ⟨S1x8192x768, .f32⟩

abbrev bufTy : (tb : Table) → Fin (tcTables nBuf tb) → BufTy
  | .hbm, ⟨i, _⟩ => hbmTy i
  | _, _ => ⟨S1x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_v41_2 : Ref sig .tc := ⟨.hbm, 68, rfl⟩
abbrev main_call0_cst_1 : Ref sig .tc := ⟨.hbm, 69, rfl⟩
abbrev main_call0_v6 : Ref sig .tc := ⟨.hbm, 70, rfl⟩
abbrev main_call0_v7 : Ref sig .tc := ⟨.hbm, 71, rfl⟩
abbrev main_v41_1 : Ref sig .tc := ⟨.hbm, 72, rfl⟩
abbrev main_v41_0 : Ref sig .tc := ⟨.hbm, 73, rfl⟩
abbrev main_v42 : Ref sig .tc := ⟨.hbm, 74, rfl⟩
abbrev main_cst_10 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_11 : Ref sig .tc := ⟨.hbm, 80, rfl⟩
abbrev main_v47 : Ref sig .tc := ⟨.hbm, 81, rfl⟩
abbrev main_v48 : Ref sig .tc := ⟨.hbm, 82, rfl⟩
abbrev main_cst_12 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_13 : Ref sig .tc := ⟨.hbm, 89, rfl⟩
abbrev main_v54 : Ref sig .tc := ⟨.hbm, 90, rfl⟩
abbrev main_v55 : Ref sig .tc := ⟨.hbm, 91, rfl⟩
abbrev main_cst_14 : Ref sig .tc := ⟨.hbm, 92, rfl⟩
abbrev main_v56 : Ref sig .tc := ⟨.hbm, 93, rfl⟩
abbrev main_v57 : Ref sig .tc := ⟨.hbm, 94, rfl⟩
abbrev main_cst_15 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_16 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_17 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_18 : Ref sig .tc := ⟨.hbm, 118, rfl⟩
abbrev main_v78 : Ref sig .tc := ⟨.hbm, 119, rfl⟩
abbrev main_v79 : Ref sig .tc := ⟨.hbm, 120, rfl⟩
abbrev main_cst_19 : Ref sig .tc := ⟨.hbm, 121, rfl⟩
abbrev main_v80 : Ref sig .tc := ⟨.hbm, 122, rfl⟩
abbrev main_cst_20 : Ref sig .tc := ⟨.hbm, 123, rfl⟩
abbrev main_v81 : Ref sig .tc := ⟨.hbm, 124, rfl⟩
abbrev main_v82 : Ref sig .tc := ⟨.hbm, 125, rfl⟩
abbrev main_cst_21 : Ref sig .tc := ⟨.hbm, 126, rfl⟩
abbrev main_v83 : Ref sig .tc := ⟨.hbm, 127, rfl⟩
abbrev main_cst_22 : Ref sig .tc := ⟨.hbm, 128, rfl⟩
abbrev main_v84 : Ref sig .tc := ⟨.hbm, 129, rfl⟩
abbrev main_cst_23 : Ref sig .tc := ⟨.hbm, 130, rfl⟩
abbrev main_cst_24 : Ref sig .tc := ⟨.hbm, 131, rfl⟩
abbrev main_v85 : Ref sig .tc := ⟨.hbm, 132, rfl⟩
abbrev main_v86 : Ref sig .tc := ⟨.hbm, 133, rfl⟩
abbrev main_cst_25 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_cst_26 : Ref sig .tc := ⟨.hbm, 139, rfl⟩
abbrev main_v91 : Ref sig .tc := ⟨.hbm, 140, rfl⟩
abbrev main_v92 : Ref sig .tc := ⟨.hbm, 141, rfl⟩
abbrev main_cst_27 : Ref sig .tc := ⟨.hbm, 142, rfl⟩
abbrev main_v93 : Ref sig .tc := ⟨.hbm, 143, rfl⟩
abbrev main_v94 : Ref sig .tc := ⟨.hbm, 144, rfl⟩
abbrev main_cst_28 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_cst_29 : Ref sig .tc := ⟨.hbm, 150, rfl⟩
abbrev main_v99 : Ref sig .tc := ⟨.hbm, 151, rfl⟩
abbrev main_v100 : Ref sig .tc := ⟨.hbm, 152, rfl⟩
abbrev main_cst_30 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_cst_31 : Ref sig .tc := ⟨.hbm, 160, rfl⟩
abbrev main_v107 : Ref sig .tc := ⟨.hbm, 161, rfl⟩
abbrev main_v108 : Ref sig .tc := ⟨.hbm, 162, rfl⟩
abbrev main_cst_32 : Ref sig .tc := ⟨.hbm, 163, rfl⟩
abbrev main_v109 : Ref sig .tc := ⟨.hbm, 164, rfl⟩
abbrev main_v110 : Ref sig .tc := ⟨.hbm, 165, rfl⟩
abbrev main_cst_33 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_cst_34 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_cst_35 : Ref sig .tc := ⟨.hbm, 177, rfl⟩
abbrev main_v120 : Ref sig .tc := ⟨.hbm, 178, rfl⟩
abbrev main_v121 : Ref sig .tc := ⟨.hbm, 179, rfl⟩
abbrev main_cst_36 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_cst_37 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_call1_v0 : Ref sig .tc := ⟨.hbm, 193, rfl⟩
abbrev main_call1_v1 : Ref sig .tc := ⟨.hbm, 194, rfl⟩
abbrev main_call1_v2 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_cst_38 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_cst_39 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_cst_40 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_cst_41 : Ref sig .tc := ⟨.hbm, 227, rfl⟩
abbrev main_v161 : Ref sig .tc := ⟨.hbm, 228, rfl⟩
abbrev main_v162 : Ref sig .tc := ⟨.hbm, 229, rfl⟩
abbrev main_cst_42 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩

abbrev nD : Nat := 1
abbrev τ : Topo := Topo.v7x

variable {F : FTy → Type} [FloatOps F]
-- ==== Kernel2.lean ====
abbrev S1x8192x12x96 : Shape := ⟨4, ![1, 8192, 12, 96]⟩
abbrev S1x8192x12x64 : Shape := ⟨4, ![1, 8192, 12, 64]⟩
abbrev S1x8192x768 : Shape := ⟨3, ![1, 8192, 768]⟩
abbrev S_ : Shape := ⟨0, ![]⟩
abbrev S8192x12x96 : Shape := ⟨3, ![8192, 12, 96]⟩
abbrev S8192x12x128 : Shape := ⟨3, ![8192, 12, 128]⟩
abbrev S8192x1536 : Shape := ⟨2, ![8192, 1536]⟩
abbrev S1536x8192 : Shape := ⟨2, ![1536, 8192]⟩
abbrev S8192x12x64 : Shape := ⟨3, ![8192, 12, 64]⟩
abbrev S8192x768 : Shape := ⟨2, ![8192, 768]⟩
abbrev S768x8192 : Shape := ⟨2, ![768, 8192]⟩
abbrev S1024x256 : Shape := ⟨2, ![1024, 256]⟩
abbrev S8192x256 : Shape := ⟨2, ![8192, 256]⟩
abbrev S128x8192 : Shape := ⟨2, ![128, 8192]⟩
abbrev S1024x128 : Shape := ⟨2, ![1024, 128]⟩
abbrev S1024x1024 : Shape := ⟨2, ![1024, 1024]⟩
abbrev S16x1024 : Shape := ⟨2, ![16, 1024]⟩
abbrev S1x1024 : Shape := ⟨2, ![1, 1024]⟩
abbrev S80x1024 : Shape := ⟨2, ![80, 1024]⟩
abbrev S1024 : Shape := ⟨1, ![1024]⟩
abbrev S64x1024 : Shape := ⟨2, ![64, 1024]⟩
abbrev S128x1024 : Shape := ⟨2, ![128, 1024]⟩
abbrev S8192x6x2x64 : Shape := ⟨4, ![8192, 6, 2, 64]⟩
abbrev S8192x6x2 : Shape := ⟨3, ![8192, 6, 2]⟩
abbrev S8192x6x2x1 : Shape := ⟨4, ![8192, 6, 2, 1]⟩
abbrev S8192x6x124 : Shape := ⟨3, ![8192, 6, 124]⟩
abbrev S8192x6x128 : Shape := ⟨3, ![8192, 6, 128]⟩
abbrev S6x8192x128 : Shape := ⟨3, ![6, 8192, 128]⟩
abbrev S512x256 : Shape := ⟨2, ![512, 256]⟩
abbrev S256x512 : Shape := ⟨2, ![256, 512]⟩
abbrev S512x128 : Shape := ⟨2, ![512, 128]⟩
abbrev S128x512 : Shape := ⟨2, ![128, 512]⟩
abbrev S1x512x128 : Shape := ⟨3, ![1, 512, 128]⟩
abbrev S8192x128 : Shape := ⟨2, ![8192, 128]⟩
abbrev S256x8192 : Shape := ⟨2, ![256, 8192]⟩
abbrev S512x512 : Shape := ⟨2, ![512, 512]⟩
abbrev S512x1 : Shape := ⟨2, ![512, 1]⟩
abbrev S64x512 : Shape := ⟨2, ![64, 512]⟩
abbrev S96x512 : Shape := ⟨2, ![96, 512]⟩

abbrev nBuf : Space → Nat
  | .hbm => 64
  | .vmem => 30
  | .smem => 0
  | _ => 0

abbrev bufTy : (tb : Table) → Fin (tcTables nBuf tb) → BufTy
  | .hbm, ⟨0, _⟩ => ⟨S1x8192x12x96, .f32⟩
  | .hbm, ⟨1, _⟩ => ⟨S1x8192x12x96, .f32⟩
  | .hbm, ⟨2, _⟩ => ⟨S1x8192x12x64, .f32⟩
  | .hbm, ⟨3, _⟩ => ⟨S1x8192x768, .f32⟩
  | .hbm, ⟨4, _⟩ => ⟨S_, .f32⟩
  | .hbm, ⟨5, _⟩ => ⟨S_, .f32⟩
  | .hbm, ⟨6, _⟩ => ⟨S8192x12x96, .f32⟩
  | .hbm, ⟨7, _⟩ => ⟨S_, .i32⟩
  | .hbm, ⟨8, _⟩ => ⟨S_, .f32⟩
  | .hbm, ⟨9, _⟩ => ⟨S8192x12x128, .f32⟩
  | .hbm, ⟨10, _⟩ => ⟨S8192x1536, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8192x1536, .f32⟩
  | .hbm, ⟨15, _⟩ => ⟨S8192x1536, .f32⟩
  | .hbm, ⟨16, _⟩ => ⟨S8192x1536, .bf16⟩
  | .hbm, ⟨17, _⟩ => ⟨S1536x8192, .f32⟩
  | .hbm, ⟨18, _⟩ => ⟨S1536x8192, .bf16⟩
  | .hbm, ⟨19, _⟩ => ⟨S8192x12x96, .f32⟩
  | .hbm, ⟨20, _⟩ => ⟨S_, .i32⟩
  | .hbm, ⟨21, _⟩ => ⟨S_, .f32⟩
  | .hbm, ⟨22, _⟩ => ⟨S8192x12x128, .f32⟩
  | .hbm, ⟨23, _⟩ => ⟨S8192x1536, .f32⟩
  | .hbm, ⟨24, _⟩ => ⟨S8192x1536, .bf16⟩
  | .hbm, ⟨25, _⟩ => ⟨S8192x12x64, .f32⟩
  | .hbm, ⟨26, _⟩ => ⟨S8192x768, .f32⟩
  | .hbm, ⟨27, _⟩ => ⟨S8192x768, .bf16⟩
  | .hbm, ⟨28, _⟩ => ⟨S768x8192, .f32⟩
  | .hbm, ⟨29, _⟩ => ⟨S768x8192, .bf16⟩
  | .hbm, ⟨30, _⟩ => ⟨S8192x768, .f32⟩
  | .hbm, ⟨31, _⟩ => ⟨S8192x768, .f32⟩
  | .hbm, ⟨32, _⟩ => ⟨S8192x768, .f32⟩
  | .hbm, ⟨33, _⟩ => ⟨S8192x768, .f32⟩
  | .hbm, ⟨34, _⟩ => ⟨S8192x6x2x64, .f32⟩
  | .hbm, ⟨35, _⟩ => ⟨S_, .f32⟩
  | .hbm, ⟨36, _⟩ => ⟨S8192x6x2, .f32⟩
  | .hbm, ⟨37, _⟩ => ⟨S8192x6x2x64, .f32⟩
  | .hbm, ⟨38, _⟩ => ⟨S8192x6x2x1, .f32⟩
  | .hbm, ⟨39, _⟩ => ⟨S8192x6x2, .f32⟩
  | .hbm, ⟨40, _⟩ => ⟨S_, .f32⟩
  | .hbm, ⟨41, _⟩ => ⟨S8192x6x124, .f32⟩
  | .hbm, ⟨42, _⟩ => ⟨S8192x6x128, .f32⟩
  | .hbm, ⟨43, _⟩ => ⟨S6x8192x128, .f32⟩
  | .hbm, ⟨44, _⟩ => ⟨S8192x768, .f32⟩
  | .hbm, ⟨45, _⟩ => ⟨S8192x768, .bf16⟩
  | .hbm, ⟨46, _⟩ => ⟨S8192x768, .f32⟩
  | .hbm, ⟨47, _⟩ => ⟨S768x8192, .f32⟩
  | .hbm, ⟨48, _⟩ => ⟨S768x8192, .bf16⟩
  | .hbm, ⟨49, _⟩ => ⟨S8192x1536, .f32⟩
  | .hbm, ⟨50, _⟩ => ⟨S1536x8192, .f32⟩
  | .hbm, ⟨51, _⟩ => ⟨S768x8192, .f32⟩
  | .hbm, ⟨52, _⟩ => ⟨S1x8192x768, .f32⟩
  | .hbm, ⟨53, _⟩ => ⟨S8192x12x128, .f32⟩
  | .hbm, ⟨54, _⟩ => ⟨S8192x12x96, .f32⟩
  | .hbm, ⟨55, _⟩ => ⟨S1x8192x12x96, .f32⟩
  | .hbm, ⟨56, _⟩ => ⟨S8192x1536, .f32⟩
  | .hbm, ⟨57, _⟩ => ⟨S8192x1536, .f32⟩
  | .hbm, ⟨58, _⟩ => ⟨S8192x1536, .f32⟩
  | .hbm, ⟨59, _⟩ => ⟨S8192x12x128, .f32⟩
  | .hbm, ⟨60, _⟩ => ⟨S8192x12x96, .f32⟩
  | .hbm, ⟨61, _⟩ => ⟨S1x8192x12x96, .f32⟩
  | .hbm, ⟨62, _⟩ => ⟨S8192x768, .f32⟩
  | .hbm, ⟨63, _⟩ => ⟨S1x8192x12x64, .f32⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S8192x256, .bf16⟩
  | .local _ .vmem, ⟨4, _⟩ => ⟨S128x8192, .bf16⟩
  | .local _ .vmem, ⟨5, _⟩ => ⟨S128x8192, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S512x256, .bf16⟩
  | .local _ .vmem, ⟨11, _⟩ => ⟨S512x256, .bf16⟩
  | .local _ .vmem, ⟨12, _⟩ => ⟨S256x512, .bf16⟩
  | .local _ .vmem, ⟨13, _⟩ => ⟨S256x512, .bf16⟩
  | .local _ .vmem, ⟨14, _⟩ => ⟨S512x128, .bf16⟩
  | .local _ .vmem, ⟨15, _⟩ => ⟨S512x128, .bf16⟩
  | .local _ .vmem, ⟨16, _⟩ => ⟨S128x512, .bf16⟩
  | .local _ .vmem, ⟨17, _⟩ => ⟨S128x512, .bf16⟩
  | .local _ .vmem, ⟨18, _⟩ => ⟨S1x512x128, .f32⟩
  | .local _ .vmem, ⟨19, _⟩ => ⟨S1x512x128, .f32⟩
  | .local _ .vmem, ⟨20, _⟩ => ⟨S8192x256, .bf16⟩
  | .local _ .vmem, ⟨21, _⟩ => ⟨S8192x256, .bf16⟩
  | .local _ .vmem, ⟨22, _⟩ => ⟨S8192x128, .bf16⟩
  | .local _ .vmem, ⟨23, _⟩ => ⟨S8192x128, .bf16⟩
  | .local _ .vmem, ⟨24, _⟩ => ⟨S512x256, .f32⟩
  | .local _ .vmem, ⟨25, _⟩ => ⟨S512x256, .f32⟩
  | .local _ .vmem, ⟨26, _⟩ => ⟨S256x8192, .f32⟩
  | .local _ .vmem, ⟨27, _⟩ => ⟨S256x8192, .f32⟩
  | .local _ .vmem, ⟨28, _⟩ => ⟨S128x8192, .f32⟩
  | .local _ .vmem, ⟨29, _⟩ => ⟨S128x8192, .f32⟩
  | _, _ => ⟨S1x8192x12x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_call1_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36_0 : Ref sig .tc := ⟨.hbm, 49, rfl⟩
abbrev main_v36_1 : Ref sig .tc := ⟨.hbm, 50, rfl⟩
abbrev main_v36_2 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29

abbrev nD : Nat := 1
abbrev τ : Topo := Topo.v7x

variable {F : FTy → Type} [FloatOps F]

abbrev grid0 : Pipeline.Grid := ⟨2, ![6, 8], ![false, false]⟩

@[reducible] def k0_t1_loop (i : grid0.Coords) : Scf.Loop 32 :=
  let c0_i32_10 : BitVec 32 := 0#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let v28 : BitVec 32 := Scalar.subi v17 c0_i32_10
  let c1_i32_11 : BitVec 32 := 1#32
  let v30 : BitVec 32 := Scalar.divsi v28 c1_i32_11
  let v31 : BitVec 32 := Scalar.muli v30 c1_i32_11
  let v32 : BitVec 32 := Scalar.addi c0_i32_10 v31
  let c1_i32_12 : BitVec 32 := 1#32
  ⟨c0_i32_10, v32, c1_i32_12⟩
def k0_mult1 (i : grid0.Coords) (k0_t1 : Fin (k0_t1_loop i).trips) : BitVec 32 :=
  let c0_i32_10 : BitVec 32 := 0#32
  let c1_i32_12 : BitVec 32 := 1#32
  let arg7 : BitVec 32 := Scf.iv c0_i32_10 c1_i32_12 k0_t1
  let c1024_i32_34 : BitVec 32 := 1024#32
  let v119 : BitVec 32 := Scalar.muli arg7 c1024_i32_34
  v119
def k0_off1 (i : grid0.Coords) (k0_t1 : Fin (k0_t1_loop i).trips) : Fin 2 → Nat :=
  let c0_i32_10 : BitVec 32 := 0#32
  let c1_i32_12 : BitVec 32 := 1#32
  let arg7 : BitVec 32 := Scf.iv c0_i32_10 c1_i32_12 k0_t1
  let c1024_i32_34 : BitVec 32 := 1024#32
  let v119 : BitVec 32 := Scalar.muli arg7 c1024_i32_34
  let v120 : BitVec 32 := v119
  let v121 : Index := Scalar.indexCast v120
  let c0_35 : Index := 0#32
  ![v121.toNat, 0]
def k0_off2 (i : grid0.Coords) (k0_t1 : Fin (k0_t1_loop i).trips) : Fin 2 → Nat :=
  let c0_40 : Index := 0#32
  let c0_i32_10 : BitVec 32 := 0#32
  let c1_i32_12 : BitVec 32 := 1#32
  let arg7 : BitVec 32 := Scf.iv c0_i32_10 c1_i32_12 k0_t1
  let c1024_i32_34 : BitVec 32 := 1024#32
  let v119 : BitVec 32 := Scalar.muli arg7 c1024_i32_34
  let v120 : BitVec 32 := v119
  let v136 : Index := Scalar.indexCast v120
  ![0, v136.toNat]
def k0_off3 (i : grid0.Coords) (k0_t1 : Fin (k0_t1_loop i).trips) : Fin 2 → Nat :=
  let c0_i32_10 : BitVec 32 := 0#32
  let c1_i32_12 : BitVec 32 := 1#32
  let arg7 : BitVec 32 := Scf.iv c0_i32_10 c1_i32_12 k0_t1
  let c1024_i32_34 : BitVec 32 := 1024#32
  let v119 : BitVec 32 := Scalar.muli arg7 c1024_i32_34
  let v120 : BitVec 32 := v119
  let v144 : Index := Scalar.indexCast v120
  let c128_42 : Index := 128#32
  ![v144.toNat, 128]
def k0_off4 (i : grid0.Coords) (k0_t1 : Fin (k0_t1_loop i).trips) : Fin 2 → Nat :=
  let c64_47 : Index := 64#32
  let c0_i32_10 : BitVec 32 := 0#32
  let c1_i32_12 : BitVec 32 := 1#32
  let arg7 : BitVec 32 := Scf.iv c0_i32_10 c1_i32_12 k0_t1
  let c1024_i32_34 : BitVec 32 := 1024#32
  let v119 : BitVec 32 := Scalar.muli arg7 c1024_i32_34
  let v120 : BitVec 32 := v119
  let v159 : Index := Scalar.indexCast v120
  ![64, v159.toNat]
@[reducible] def k0_t2_loop (i : grid0.Coords) : Scf.Loop 32 :=
  let c0_i32_10 : BitVec 32 := 0#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let v28 : BitVec 32 := Scalar.subi v17 c0_i32_10
  let c1_i32_11 : BitVec 32 := 1#32
  let v30 : BitVec 32 := Scalar.divsi v28 c1_i32_11
  let v31 : BitVec 32 := Scalar.muli v30 c1_i32_11
  let v32 : BitVec 32 := Scalar.addi c0_i32_10 v31
  let v29 : BitVec 32 := Scalar.addi c0_i32_10 v28
  let c1_i32_13 : BitVec 32 := 1#32
  ⟨v32, v29, c1_i32_13⟩
def k0_mult2 (i : grid0.Coords) (k0_t2 : Fin (k0_t2_loop i).trips) : BitVec 32 :=
  let c0_i32_10 : BitVec 32 := 0#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let v28 : BitVec 32 := Scalar.subi v17 c0_i32_10
  let c1_i32_11 : BitVec 32 := 1#32
  let v30 : BitVec 32 := Scalar.divsi v28 c1_i32_11
  let v31 : BitVec 32 := Scalar.muli v30 c1_i32_11
  let v32 : BitVec 32 := Scalar.addi c0_i32_10 v31
  let c1_i32_13 : BitVec 32 := 1#32
  let arg7 : BitVec 32 := Scf.iv v32 c1_i32_13 k0_t2
  let c1024_i32_34 : BitVec 32 := 1024#32
  let v119 : BitVec 32 := Scalar.muli arg7 c1024_i32_34
  v119
def k0_off5 (i : grid0.Coords) (k0_t2 : Fin (k0_t2_loop i).trips) : Fin 2 → Nat :=
  let c0_i32_10 : BitVec 32 := 0#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let v28 : BitVec 32 := Scalar.subi v17 c0_i32_10
  let c1_i32_11 : BitVec 32 := 1#32
  let v30 : BitVec 32 := Scalar.divsi v28 c1_i32_11
  let v31 : BitVec 32 := Scalar.muli v30 c1_i32_11
  let v32 : BitVec 32 := Scalar.addi c0_i32_10 v31
  let c1_i32_13 : BitVec 32 := 1#32
  let arg7 : BitVec 32 := Scf.iv v32 c1_i32_13 k0_t2
  let c1024_i32_34 : BitVec 32 := 1024#32
  let v119 : BitVec 32 := Scalar.muli arg7 c1024_i32_34
  let v120 : BitVec 32 := v119
  let v121 : Index := Scalar.indexCast v120
  let c0_35 : Index := 0#32
  ![v121.toNat, 0]
def k0_off6 (i : grid0.Coords) (k0_t2 : Fin (k0_t2_loop i).trips) : Fin 2 → Nat :=
  let c0_40 : Index := 0#32
  let c0_i32_10 : BitVec 32 := 0#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let v28 : BitVec 32 := Scalar.subi v17 c0_i32_10
  let c1_i32_11 : BitVec 32 := 1#32
  let v30 : BitVec 32 := Scalar.divsi v28 c1_i32_11
  let v31 : BitVec 32 := Scalar.muli v30 c1_i32_11
  let v32 : BitVec 32 := Scalar.addi c0_i32_10 v31
  let c1_i32_13 : BitVec 32 := 1#32
  let arg7 : BitVec 32 := Scf.iv v32 c1_i32_13 k0_t2
  let c1024_i32_34 : BitVec 32 := 1024#32
  let v119 : BitVec 32 := Scalar.muli arg7 c1024_i32_34
  let v120 : BitVec 32 := v119
  let v136 : Index := Scalar.indexCast v120
  ![0, v136.toNat]
def k0_off7 (i : grid0.Coords) (k0_t2 : Fin (k0_t2_loop i).trips) : Fin 2 → Nat :=
  let c0_i32_10 : BitVec 32 := 0#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let v28 : BitVec 32 := Scalar.subi v17 c0_i32_10
  let c1_i32_11 : BitVec 32 := 1#32
  let v30 : BitVec 32 := Scalar.divsi v28 c1_i32_11
  let v31 : BitVec 32 := Scalar.muli v30 c1_i32_11
  let v32 : BitVec 32 := Scalar.addi c0_i32_10 v31
  let c1_i32_13 : BitVec 32 := 1#32
  let arg7 : BitVec 32 := Scf.iv v32 c1_i32_13 k0_t2
  let c1024_i32_34 : BitVec 32 := 1024#32
  let v119 : BitVec 32 := Scalar.muli arg7 c1024_i32_34
  let v120 : BitVec 32 := v119
  let v144 : Index := Scalar.indexCast v120
  let c128_42 : Index := 128#32
  ![v144.toNat, 128]
def k0_off8 (i : grid0.Coords) (k0_t2 : Fin (k0_t2_loop i).trips) : Fin 2 → Nat :=
  let c64_47 : Index := 64#32
  let c0_i32_10 : BitVec 32 := 0#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let v28 : BitVec 32 := Scalar.subi v17 c0_i32_10
  let c1_i32_11 : BitVec 32 := 1#32
  let v30 : BitVec 32 := Scalar.divsi v28 c1_i32_11
  let v31 : BitVec 32 := Scalar.muli v30 c1_i32_11
  let v32 : BitVec 32 := Scalar.addi c0_i32_10 v31
  let c1_i32_13 : BitVec 32 := 1#32
  let arg7 : BitVec 32 := Scf.iv v32 c1_i32_13 k0_t2
  let c1024_i32_34 : BitVec 32 := 1024#32
  let v119 : BitVec 32 := Scalar.muli arg7 c1024_i32_34
  let v120 : BitVec 32 := v119
  let v159 : Index := Scalar.indexCast v120
  ![64, v159.toNat]
def k0_mult3 (i : grid0.Coords) : BitVec 32 :=
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let c1024_i32_14 : BitVec 32 := 1024#32
  let v35 : BitVec 32 := Scalar.muli v17 c1024_i32_14
  v35
def k0_off9 (i : grid0.Coords) : Fin 2 → Nat :=
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let c1024_i32_14 : BitVec 32 := 1024#32
  let v35 : BitVec 32 := Scalar.muli v17 c1024_i32_14
  let v36 : BitVec 32 := v35
  let v37 : Index := Scalar.indexCast v36
  let c0 : Index := 0#32
  ![v37.toNat, 0]
def k0_off10 (i : grid0.Coords) : Fin 2 → Nat :=
  let c0_20 : Index := 0#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let c1024_i32_14 : BitVec 32 := 1024#32
  let v35 : BitVec 32 := Scalar.muli v17 c1024_i32_14
  let v36 : BitVec 32 := v35
  let v57 : Index := Scalar.indexCast v36
  ![0, v57.toNat]
def k0_off11 (i : grid0.Coords) : Fin 2 → Nat :=
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let c1024_i32_14 : BitVec 32 := 1024#32
  let v35 : BitVec 32 := Scalar.muli v17 c1024_i32_14
  let v36 : BitVec 32 := v35
  let v65 : Index := Scalar.indexCast v36
  let c128 : Index := 128#32
  ![v65.toNat, 128]
def k0_off12 (i : grid0.Coords) : Fin 2 → Nat :=
  let c64 : Index := 64#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let c1024_i32_14 : BitVec 32 := 1024#32
  let v35 : BitVec 32 := Scalar.muli v17 c1024_i32_14
  let v36 : BitVec 32 := v35
  let v85 : Index := Scalar.indexCast v36
  ![64, v85.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![6, 16], ![false, false]⟩

@[reducible] def k1_t1_loop (i : grid1.Coords) : Scf.Loop 32 :=
  let c0_i32_5 : BitVec 32 := 0#32
  let arg1 : BitVec 32 := BitVec.ofNat 32 (i 1).val
  let v11 : BitVec 32 := Scalar.subi arg1 c0_i32_5
  let c1_i32 : BitVec 32 := 1#32
  let v13 : BitVec 32 := Scalar.divsi v11 c1_i32
  let v14 : BitVec 32 := Scalar.muli v13 c1_i32
  let v15 : BitVec 32 := Scalar.addi c0_i32_5 v14
  let c1_i32_6 : BitVec 32 := 1#32
  ⟨c0_i32_5, v15, c1_i32_6⟩
def k1_mult1 (i : grid1.Coords) (k1_t1 : Fin (k1_t1_loop i).trips) : BitVec 32 :=
  let c0_i32_5 : BitVec 32 := 0#32
  let c1_i32_6 : BitVec 32 := 1#32
  let arg12 : BitVec 32 := Scf.iv c0_i32_5 c1_i32_6 k1_t1
  let c512_i32_48 : BitVec 32 := 512#32
  let v118 : BitVec 32 := Scalar.muli arg12 c512_i32_48
  v118
def k1_off1 (i : grid1.Coords) (k1_t1 : Fin (k1_t1_loop i).trips) : Fin 2 → Nat :=
  let c0_i32_5 : BitVec 32 := 0#32
  let c1_i32_6 : BitVec 32 := 1#32
  let arg12 : BitVec 32 := Scf.iv c0_i32_5 c1_i32_6 k1_t1
  let c512_i32_48 : BitVec 32 := 512#32
  let v118 : BitVec 32 := Scalar.muli arg12 c512_i32_48
  let v119 : BitVec 32 := v118
  let v122 : Index := Scalar.indexCast v119
  let c0_51 : Index := 0#32
  ![v122.toNat, 0]
def k1_off2 (i : grid1.Coords) (k1_t1 : Fin (k1_t1_loop i).trips) : Fin 2 → Nat :=
  let c0_i32_5 : BitVec 32 := 0#32
  let c1_i32_6 : BitVec 32 := 1#32
  let arg12 : BitVec 32 := Scf.iv c0_i32_5 c1_i32_6 k1_t1
  let c512_i32_48 : BitVec 32 := 512#32
  let v118 : BitVec 32 := Scalar.muli arg12 c512_i32_48
  let v119 : BitVec 32 := v118
  let v135 : Index := Scalar.indexCast v119
  let c0_55 : Index := 0#32
  ![v135.toNat, 0]
def k1_off3 (i : grid1.Coords) (k1_t1 : Fin (k1_t1_loop i).trips) : Fin 2 → Nat :=
  let c0_57 : Index := 0#32
  let c0_i32_5 : BitVec 32 := 0#32
  let c1_i32_6 : BitVec 32 := 1#32
  let arg12 : BitVec 32 := Scf.iv c0_i32_5 c1_i32_6 k1_t1
  let c512_i32_48 : BitVec 32 := 512#32
  let v118 : BitVec 32 := Scalar.muli arg12 c512_i32_48
  let v119 : BitVec 32 := v118
  let v143 : Index := Scalar.indexCast v119
  ![0, v143.toNat]
def k1_off4 (i : grid1.Coords) (k1_t1 : Fin (k1_t1_loop i).trips) : Fin 2 → Nat :=
  let c0_62 : Index := 0#32
  let c0_i32_5 : BitVec 32 := 0#32
  let c1_i32_6 : BitVec 32 := 1#32
  let arg12 : BitVec 32 := Scf.iv c0_i32_5 c1_i32_6 k1_t1
  let c512_i32_48 : BitVec 32 := 512#32
  let v118 : BitVec 32 := Scalar.muli arg12 c512_i32_48
  let v119 : BitVec 32 := v118
  let v153 : Index := Scalar.indexCast v119
  ![0, v153.toNat]
def k1_off5 (i : grid1.Coords) (k1_t1 : Fin (k1_t1_loop i).trips) : Fin 2 → Nat :=
  let c0_i32_5 : BitVec 32 := 0#32
  let c1_i32_6 : BitVec 32 := 1#32
  let arg12 : BitVec 32 := Scf.iv c0_i32_5 c1_i32_6 k1_t1
  let c512_i32_48 : BitVec 32 := 512#32
  let v118 : BitVec 32 := Scalar.muli arg12 c512_i32_48
  let v119 : BitVec 32 := v118
  let v166 : Index := Scalar.indexCast v119
  let c128_70 : Index := 128#32
  ![v166.toNat, 128]
def k1_off6 (i : grid1.Coords) (k1_t1 : Fin (k1_t1_loop i).trips) : Fin 2 → Nat :=
  let c64_76 : Index := 64#32
  let c0_i32_5 : BitVec 32 := 0#32
  let c1_i32_6 : BitVec 32 := 1#32
  let arg12 : BitVec 32 := Scf.iv c0_i32_5 c1_i32_6 k1_t1
  let c512_i32_48 : BitVec 32 := 512#32
  let v118 : BitVec 32 := Scalar.muli arg12 c512_i32_48
  let v119 : BitVec 32 := v118
  let v187 : Index := Scalar.indexCast v119
  ![64, v187.toNat]
def k1_off7 (i : grid1.Coords) (k1_t1 : Fin (k1_t1_loop i).trips) : Fin 2 → Nat :=
  let c128_81 : Index := 128#32
  let c0_i32_5 : BitVec 32 := 0#32
  let c1_i32_6 : BitVec 32 := 1#32
  let arg12 : BitVec 32 := Scf.iv c0_i32_5 c1_i32_6 k1_t1
  let c512_i32_48 : BitVec 32 := 512#32
  let v118 : BitVec 32 := Scalar.muli arg12 c512_i32_48
  let v119 : BitVec 32 := v118
  let v197 : Index := Scalar.indexCast v119
  ![128, v197.toNat]
@[reducible] def k1_t2_loop (i : grid1.Coords) : Scf.Loop 32 :=
  let c0_i32_5 : BitVec 32 := 0#32
  let arg1 : BitVec 32 := BitVec.ofNat 32 (i 1).val
  let v11 : BitVec 32 := Scalar.subi arg1 c0_i32_5
  let c1_i32 : BitVec 32 := 1#32
  let v13 : BitVec 32 := Scalar.divsi v11 c1_i32
  let v14 : BitVec 32 := Scalar.muli v13 c1_i32
  let v15 : BitVec 32 := Scalar.addi c0_i32_5 v14
  let v12 : BitVec 32 := Scalar.addi c0_i32_5 v11
  let c1_i32_7 : BitVec 32 := 1#32
  ⟨v15, v12, c1_i32_7⟩
def k1_mult2 (i : grid1.Coords) (k1_t2 : Fin (k1_t2_loop i).trips) : BitVec 32 :=
  let c0_i32_5 : BitVec 32 := 0#32
  let arg1 : BitVec 32 := BitVec.ofNat 32 (i 1).val
  let v11 : BitVec 32 := Scalar.subi arg1 c0_i32_5
  let c1_i32 : BitVec 32 := 1#32
  let v13 : BitVec 32 := Scalar.divsi v11 c1_i32
  let v14 : BitVec 32 := Scalar.muli v13 c1_i32
  let v15 : BitVec 32 := Scalar.addi c0_i32_5 v14
  let c1_i32_7 : BitVec 32 := 1#32
  let arg12 : BitVec 32 := Scf.iv v15 c1_i32_7 k1_t2
  let c512_i32_48 : BitVec 32 := 512#32
  let v118 : BitVec 32 := Scalar.muli arg12 c512_i32_48
  v118
def k1_off8 (i : grid1.Coords) (k1_t2 : Fin (k1_t2_loop i).trips) : Fin 2 → Nat :=
  let c0_i32_5 : BitVec 32 := 0#32
  let arg1 : BitVec 32 := BitVec.ofNat 32 (i 1).val
  let v11 : BitVec 32 := Scalar.subi arg1 c0_i32_5
  let c1_i32 : BitVec 32 := 1#32
  let v13 : BitVec 32 := Scalar.divsi v11 c1_i32
  let v14 : BitVec 32 := Scalar.muli v13 c1_i32
  let v15 : BitVec 32 := Scalar.addi c0_i32_5 v14
  let c1_i32_7 : BitVec 32 := 1#32
  let arg12 : BitVec 32 := Scf.iv v15 c1_i32_7 k1_t2
  let c512_i32_48 : BitVec 32 := 512#32
  let v118 : BitVec 32 := Scalar.muli arg12 c512_i32_48
  let v119 : BitVec 32 := v118
  let v122 : Index := Scalar.indexCast v119
  let c0_51 : Index := 0#32
  ![v122.toNat, 0]
def k1_off9 (i : grid1.Coords) (k1_t2 : Fin (k1_t2_loop i).trips) : Fin 2 → Nat :=
  let c0_i32_5 : BitVec 32 := 0#32
  let arg1 : BitVec 32 := BitVec.ofNat 32 (i 1).val
  let v11 : BitVec 32 := Scalar.subi arg1 c0_i32_5
  let c1_i32 : BitVec 32 := 1#32
  let v13 : BitVec 32 := Scalar.divsi v11 c1_i32
  let v14 : BitVec 32 := Scalar.muli v13 c1_i32
  let v15 : BitVec 32 := Scalar.addi c0_i32_5 v14
  let c1_i32_7 : BitVec 32 := 1#32
  let arg12 : BitVec 32 := Scf.iv v15 c1_i32_7 k1_t2
  let c512_i32_48 : BitVec 32 := 512#32
  let v118 : BitVec 32 := Scalar.muli arg12 c512_i32_48
  let v119 : BitVec 32 := v118
  let v135 : Index := Scalar.indexCast v119
  let c0_55 : Index := 0#32
  ![v135.toNat, 0]
def k1_off10 (i : grid1.Coords) (k1_t2 : Fin (k1_t2_loop i).trips) : Fin 2 → Nat :=
  let c0_57 : Index := 0#32
  let c0_i32_5 : BitVec 32 := 0#32
  let arg1 : BitVec 32 := BitVec.ofNat 32 (i 1).val
  let v11 : BitVec 32 := Scalar.subi arg1 c0_i32_5
  let c1_i32 : BitVec 32 := 1#32
  let v13 : BitVec 32 := Scalar.divsi v11 c1_i32
  let v14 : BitVec 32 := Scalar.muli v13 c1_i32
  let v15 : BitVec 32 := Scalar.addi c0_i32_5 v14
  let c1_i32_7 : BitVec 32 := 1#32
  let arg12 : BitVec 32 := Scf.iv v15 c1_i32_7 k1_t2
  let c512_i32_48 : BitVec 32 := 512#32
  let v118 : BitVec 32 := Scalar.muli arg12 c512_i32_48
  let v119 : BitVec 32 := v118
  let v143 : Index := Scalar.indexCast v119
  ![0, v143.toNat]
def k1_off11 (i : grid1.Coords) (k1_t2 : Fin (k1_t2_loop i).trips) : Fin 2 → Nat :=
  let c0_62 : Index := 0#32
  let c0_i32_5 : BitVec 32 := 0#32
  let arg1 : BitVec 32 := BitVec.ofNat 32 (i 1).val
  let v11 : BitVec 32 := Scalar.subi arg1 c0_i32_5
  let c1_i32 : BitVec 32 := 1#32
  let v13 : BitVec 32 := Scalar.divsi v11 c1_i32
  let v14 : BitVec 32 := Scalar.muli v13 c1_i32
  let v15 : BitVec 32 := Scalar.addi c0_i32_5 v14
  let c1_i32_7 : BitVec 32 := 1#32
  let arg12 : BitVec 32 := Scf.iv v15 c1_i32_7 k1_t2
  let c512_i32_48 : BitVec 32 := 512#32
  let v118 : BitVec 32 := Scalar.muli arg12 c512_i32_48
  let v119 : BitVec 32 := v118
  let v153 : Index := Scalar.indexCast v119
  ![0, v153.toNat]
def k1_off12 (i : grid1.Coords) (k1_t2 : Fin (k1_t2_loop i).trips) : Fin 2 → Nat :=
  let c0_i32_5 : BitVec 32 := 0#32
  let arg1 : BitVec 32 := BitVec.ofNat 32 (i 1).val
  let v11 : BitVec 32 := Scalar.subi arg1 c0_i32_5
  let c1_i32 : BitVec 32 := 1#32
  let v13 : BitVec 32 := Scalar.divsi v11 c1_i32
  let v14 : BitVec 32 := Scalar.muli v13 c1_i32
  let v15 : BitVec 32 := Scalar.addi c0_i32_5 v14
  let c1_i32_7 : BitVec 32 := 1#32
  let arg12 : BitVec 32 := Scf.iv v15 c1_i32_7 k1_t2
  let c512_i32_48 : BitVec 32 := 512#32
  let v118 : BitVec 32 := Scalar.muli arg12 c512_i32_48
  let v119 : BitVec 32 := v118
  let v166 : Index := Scalar.indexCast v119
  let c128_70 : Index := 128#32
  ![v166.toNat, 128]
def k1_off13 (i : grid1.Coords) (k1_t2 : Fin (k1_t2_loop i).trips) : Fin 2 → Nat :=
  let c64_76 : Index := 64#32
  let c0_i32_5 : BitVec 32 := 0#32
  let arg1 : BitVec 32 := BitVec.ofNat 32 (i 1).val
  let v11 : BitVec 32 := Scalar.subi arg1 c0_i32_5
  let c1_i32 : BitVec 32 := 1#32
  let v13 : BitVec 32 := Scalar.divsi v11 c1_i32
  let v14 : BitVec 32 := Scalar.muli v13 c1_i32
  let v15 : BitVec 32 := Scalar.addi c0_i32_5 v14
  let c1_i32_7 : BitVec 32 := 1#32
  let arg12 : BitVec 32 := Scf.iv v15 c1_i32_7 k1_t2
  let c512_i32_48 : BitVec 32 := 512#32
  let v118 : BitVec 32 := Scalar.muli arg12 c512_i32_48
  let v119 : BitVec 32 := v118
  let v187 : Index := Scalar.indexCast v119
  ![64, v187.toNat]
def k1_off14 (i : grid1.Coords) (k1_t2 : Fin (k1_t2_loop i).trips) : Fin 2 → Nat :=
  let c128_81 : Index := 128#32
  let c0_i32_5 : BitVec 32 := 0#32
  let arg1 : BitVec 32 := BitVec.ofNat 32 (i 1).val
  let v11 : BitVec 32 := Scalar.subi arg1 c0_i32_5
  let c1_i32 : BitVec 32 := 1#32
  let v13 : BitVec 32 := Scalar.divsi v11 c1_i32
  let v14 : BitVec 32 := Scalar.muli v13 c1_i32
  let v15 : BitVec 32 := Scalar.addi c0_i32_5 v14
  let c1_i32_7 : BitVec 32 := 1#32
  let arg12 : BitVec 32 := Scf.iv v15 c1_i32_7 k1_t2
  let c512_i32_48 : BitVec 32 := 512#32
  let v118 : BitVec 32 := Scalar.muli arg12 c512_i32_48
  let v119 : BitVec 32 := v118
  let v197 : Index := Scalar.indexCast v119
  ![128, v197.toNat]
def k1_mult3 (i : grid1.Coords) : BitVec 32 :=
  let arg1 : BitVec 32 := BitVec.ofNat 32 (i 1).val
  let c512_i32 : BitVec 32 := 512#32
  let v18 : BitVec 32 := Scalar.muli arg1 c512_i32
  v18
def k1_off15 (i : grid1.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v22 : Index := Scalar.indexCast v19
  let c0_10 : Index := 0#32
  ![v22.toNat, 0]
def k1_off16 (i : grid1.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v38 : Index := Scalar.indexCast v19
  let c0_14 : Index := 0#32
  ![v38.toNat, 0]
def k1_off17 (i : grid1.Coords) : Fin 2 → Nat :=
  let c0_16 : Index := 0#32
  let arg1 : BitVec 32 := BitVec.ofNat 32 (i 1).val
  let c512_i32 : BitVec 32 := 512#32
  let v18 : BitVec 32 := Scalar.muli arg1 c512_i32
  let v19 : BitVec 32 := v18
  let v46 : Index := Scalar.indexCast v19
  ![0, v46.toNat]
def k1_off18 (i : grid1.Coords) : Fin 2 → Nat :=
  let c0_21 : Index := 0#32
  let arg1 : BitVec 32 := BitVec.ofNat 32 (i 1).val
  let c512_i32 : BitVec 32 := 512#32
  let v18 : BitVec 32 := Scalar.muli arg1 c512_i32
  let v19 : BitVec 32 := v18
  let v56 : Index := Scalar.indexCast v19
  ![0, v56.toNat]
def k1_off19 (i : grid1.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v69 : Index := Scalar.indexCast v19
  let c128_28 : Index := 128#32
  ![v69.toNat, 128]
def k1_off20 (i : grid1.Coords) : Fin 2 → Nat :=
  let c64 : Index := 64#32
  let arg1 : BitVec 32 := BitVec.ofNat 32 (i 1).val
  let c512_i32 : BitVec 32 := 512#32
  let v18 : BitVec 32 := Scalar.muli arg1 c512_i32
  let v19 : BitVec 32 := v18
  let v93 : Index := Scalar.indexCast v19
  ![64, v93.toNat]
def k1_off21 (i : grid1.Coords) : Fin 2 → Nat :=
  let c128_39 : Index := 128#32
  let arg1 : BitVec 32 := BitVec.ofNat 32 (i 1).val
  let c512_i32 : BitVec 32 := 512#32
  let v18 : BitVec 32 := Scalar.muli arg1 c512_i32
  let v19 : BitVec 32 := v18
  let v103 : Index := Scalar.indexCast v19
  ![128, v103.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S8192x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S8192x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S512x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S256x8192 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S128x8192 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]
-- ==== Kernel2Ideal.lean ====
variable {F : FTy → Type} [FloatOps F] [Named F]
def κ : String → Option EReal := fun
  | "inv_log_two" => some (((Real.log 2)⁻¹ : ℝ) : EReal)
  | "scale" => some (((Real.sqrt 96)⁻¹ : ℝ) : EReal)
  | _ => none
-- ==== Reference2Ideal.lean ====
abbrev S1x8192x12x96 : Shape := ⟨4, ![1, 8192, 12, 96]⟩
abbrev S1x8192x12x64 : Shape := ⟨4, ![1, 8192, 12, 64]⟩
abbrev S1x8192x768 : Shape := ⟨3, ![1, 8192, 768]⟩
abbrev S1x12x8192x8192 : Shape := ⟨4, ![1, 12, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S1x12x8192 : Shape := ⟨3, ![1, 12, 8192]⟩
abbrev S1x12x8192x1 : Shape := ⟨4, ![1, 12, 8192, 1]⟩
abbrev S1x12x64x8192 : Shape := ⟨4, ![1, 12, 64, 8192]⟩
abbrev S12x8192 : Shape := ⟨2, ![12, 8192]⟩
abbrev S1x12x8192x96 : Shape := ⟨4, ![1, 12, 8192, 96]⟩

abbrev nBuf : Space → Nat
  | .hbm => 93
  | .vmem => 0
  | .smem => 0
  | _ => 0

abbrev bufTy : (tb : Table) → Fin (tcTables nBuf tb) → BufTy
  | .hbm, ⟨0, _⟩ => ⟨S1x8192x12x96, .f32⟩
  | .hbm, ⟨1, _⟩ => ⟨S1x8192x12x96, .f32⟩
  | .hbm, ⟨2, _⟩ => ⟨S1x8192x12x64, .f32⟩
  | .hbm, ⟨3, _⟩ => ⟨S1x8192x768, .f32⟩
  | .hbm, ⟨4, _⟩ => ⟨S1x12x8192x8192, .f32⟩
  | .hbm, ⟨5, _⟩ => ⟨S_, .f32⟩
  | .hbm, ⟨6, _⟩ => ⟨S_, .f32⟩
  | .hbm, ⟨7, _⟩ => ⟨S1x12x8192x8192, .f32⟩
  | .hbm, ⟨8, _⟩ => ⟨S1x12x8192x8192, .f32⟩
  | .hbm, ⟨9, _⟩ => ⟨S8192, .i32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S1x1x8192x8192, .i1⟩
  | .hbm, ⟨16, _⟩ => ⟨S_, .f32⟩
  | .hbm, ⟨17, _⟩ => ⟨S_, .f32⟩
  | .hbm, ⟨18, _⟩ => ⟨S1x12x8192x8192, .i1⟩
  | .hbm, ⟨19, _⟩ => ⟨S1x12x8192x8192, .f32⟩
  | .hbm, ⟨20, _⟩ => ⟨S1x12x8192x8192, .f32⟩
  | .hbm, ⟨21, _⟩ => ⟨S_, .f32⟩
  | .hbm, ⟨22, _⟩ => ⟨S1x12x8192x8192, .f32⟩
  | .hbm, ⟨23, _⟩ => ⟨S_, .f32⟩
  | .hbm, ⟨24, _⟩ => ⟨S1x12x8192, .f32⟩
  | .hbm, ⟨25, _⟩ => ⟨S1x12x8192x1, .f32⟩
  | .hbm, ⟨26, _⟩ => ⟨S1x12x8192x8192, .f32⟩
  | .hbm, ⟨27, _⟩ => ⟨S1x12x8192x8192, .i1⟩
  | .hbm, ⟨28, _⟩ => ⟨S1x12x8192x8192, .f32⟩
  | .hbm, ⟨29, _⟩ => ⟨S_, .f32⟩
  | .hbm, ⟨30, _⟩ => ⟨S1x12x8192, .f32⟩
  | .hbm, ⟨31, _⟩ => ⟨S_, .f32⟩
  | .hbm, ⟨32, _⟩ => ⟨S1x12x8192, .f32⟩
  | .hbm, ⟨33, _⟩ => ⟨S1x12x8192, .f32⟩
  | .hbm, ⟨34, _⟩ => ⟨S_, .f32⟩
  | .hbm, ⟨35, _⟩ => ⟨S1x12x8192, .f32⟩
  | .hbm, ⟨36, _⟩ => ⟨S1x12x8192, .i1⟩
  | .hbm, ⟨37, _⟩ => ⟨S_, .f32⟩
  | .hbm, ⟨38, _⟩ => ⟨S1x12x8192, .f32⟩
  | .hbm, ⟨39, _⟩ => ⟨S1x12x8192, .i1⟩
  | .hbm, ⟨40, _⟩ => ⟨S_, .f32⟩
  | .hbm, ⟨41, _⟩ => ⟨S1x12x8192, .f32⟩
  | .hbm, ⟨42, _⟩ => ⟨S_, .f32⟩
  | .hbm, ⟨43, _⟩ => ⟨S1x12x8192, .f32⟩
  | .hbm, ⟨44, _⟩ => ⟨S_, .f32⟩
  | .hbm, ⟨45, _⟩ => ⟨S1x12x8192, .f32⟩
  | .hbm, ⟨46, _⟩ => ⟨S1x12x8192, .f32⟩
  | .hbm, ⟨47, _⟩ => ⟨S1x12x8192, .f32⟩
  | .hbm, ⟨48, _⟩ => ⟨S1x12x8192x1, .f32⟩
  | .hbm, ⟨49, _⟩ => ⟨S1x12x8192x8192, .f32⟩
  | .hbm, ⟨50, _⟩ => ⟨S1x12x8192x8192, .f32⟩
  | .hbm, ⟨51, _⟩ => ⟨S1x12x8192x8192, .f32⟩
  | .hbm, ⟨52, _⟩ => ⟨S_, .f32⟩
  | .hbm, ⟨53, _⟩ => ⟨S1x12x8192, .f32⟩
  | .hbm, ⟨54, _⟩ => ⟨S1x12x8192x1, .f32⟩
  | .hbm, ⟨55, _⟩ => ⟨S1x12x8192x8192, .f32⟩
  | .hbm, ⟨56, _⟩ => ⟨S1x12x8192x8192, .f32⟩
  | .hbm, ⟨57, _⟩ => ⟨S1x12x8192x1, .f32⟩
  | .hbm, ⟨58, _⟩ => ⟨S_, .f32⟩
  | .hbm, ⟨59, _⟩ => ⟨S1x12x8192x1, .f32⟩
  | .hbm, ⟨60, _⟩ => ⟨S1x12x8192x1, .f32⟩
  | .hbm, ⟨61, _⟩ => ⟨S1x12x64x8192, .f32⟩
  | .hbm, ⟨62, _⟩ => ⟨S1x8192x12x64, .f32⟩
  | .hbm, ⟨63, _⟩ => ⟨S1x8192x768, .f32⟩
  | .hbm, ⟨64, _⟩ => ⟨S1x8192x12x64, .f32⟩
  | .hbm, ⟨65, _⟩ => ⟨S1x12x64x8192, .f32⟩
  | .hbm, ⟨66, _⟩ => ⟨S1x12x8192x8192, .f32⟩
  | .hbm, ⟨67, _⟩ => ⟨S1x12x64x8192, .f32⟩
  | .hbm, ⟨68, _⟩ => ⟨S1x8192x12x64, .f32⟩
  | .hbm, ⟨69, _⟩ => ⟨S1x12x8192x8192, .f32⟩
  | .hbm, ⟨70, _⟩ => ⟨S1x12x8192x8192, .f32⟩
  | .hbm, ⟨71, _⟩ => ⟨S1x12x8192x8192, .f32⟩
  | .hbm, ⟨72, _⟩ => ⟨S_, .f32⟩
  | .hbm, ⟨73, _⟩ => ⟨S1x12x8192, .f32⟩
  | .hbm, ⟨74, _⟩ => ⟨S1x12x8192x1, .f32⟩
  | .hbm, ⟨75, _⟩ => ⟨S1x12x8192x1, .f32⟩
  | .hbm, ⟨76, _⟩ => ⟨S1x12x8192x8192, .f32⟩
  | .hbm, ⟨77, _⟩ => ⟨S1x12x8192x8192, .f32⟩
  | .hbm, ⟨78, _⟩ => ⟨S_, .f32⟩
  | .hbm, ⟨79, _⟩ => ⟨S12x8192, .f32⟩
  | .hbm, ⟨80, _⟩ => ⟨S1x12x8192, .f32⟩
  | .hbm, ⟨81, _⟩ => ⟨S1x12x8192x8192, .f32⟩
  | .hbm, ⟨82, _⟩ => ⟨S1x12x8192x8192, .f32⟩
  | .hbm, ⟨83, _⟩ => ⟨S1x12x8192x8192, .f32⟩
  | .hbm, ⟨84, _⟩ => ⟨S_, .f32⟩
  | .hbm, ⟨85, _⟩ => ⟨S1x12x8192x8192, .f32⟩
  | .hbm, ⟨86, _⟩ => ⟨S1x12x8192x8192, .f32⟩
  | .hbm, ⟨87, _⟩ => ⟨S1x12x8192x8192, .f32⟩
  | .hbm, ⟨88, _⟩ => ⟨S1x12x8192x8192, .f32⟩
  | .hbm, ⟨89, _⟩ => ⟨S1x12x8192x96, .f32⟩
  | .hbm, ⟨90, _⟩ => ⟨S1x8192x12x96, .f32⟩
  | .hbm, ⟨91, _⟩ => ⟨S1x12x8192x96, .f32⟩
  | .hbm, ⟨92, _⟩ => ⟨S1x8192x12x96, .f32⟩
  | _, _ => ⟨S1x8192x12x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_v11_1 : Ref sig .tc := ⟨.hbm, 18, rfl⟩
abbrev main_call0_v2 : Ref sig .tc := ⟨.hbm, 19, rfl⟩
abbrev main_v11_0 : Ref sig .tc := ⟨.hbm, 20, rfl⟩
abbrev main_call0_cst : Ref sig .tc := ⟨.hbm, 21, rfl⟩
abbrev main_v11_2 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_call1_cst : Ref sig .tc := ⟨.hbm, 84, rfl⟩
abbrev main_call1_v0 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]
-- ==== Kernel3.lean ====
abbrev S1x8192x1024 : Shape := ⟨3, ![1, 8192, 1024]⟩
abbrev S1x8192 : Shape := ⟨2, ![1, 8192]⟩
abbrev S1024x1952 : Shape := ⟨2, ![1024, 1952]⟩
abbrev S384 : Shape := ⟨1, ![384]⟩
abbrev S384x1152 : Shape := ⟨2, ![384, 1152]⟩
abbrev S256 : Shape := ⟨1, ![256]⟩
abbrev S256x1536 : Shape := ⟨2, ![256, 1536]⟩
abbrev S1x8192x12x96 : Shape := ⟨4, ![1, 8192, 12, 96]⟩
abbrev S1x8192x12x64 : Shape := ⟨4, ![1, 8192, 12, 64]⟩
abbrev S1x8192x256 : Shape := ⟨3, ![1, 8192, 256]⟩
abbrev S_ : Shape := ⟨0, ![]⟩
abbrev S1024x64 : Shape := ⟨2, ![1024, 64]⟩
abbrev S1024x1280 : Shape := ⟨2, ![1024, 1280]⟩
abbrev S1024x640 : Shape := ⟨2, ![1024, 640]⟩
abbrev S1024x32 : Shape := ⟨2, ![1024, 32]⟩
abbrev S1024x2048 : Shape := ⟨2, ![1024, 2048]⟩
abbrev S1x384 : Shape := ⟨2, ![1, 384]⟩
abbrev S1x256 : Shape := ⟨2, ![1, 256]⟩
abbrev S384x12x96 : Shape := ⟨3, ![384, 12, 96]⟩
abbrev S384x12x128 : Shape := ⟨3, ![384, 12, 128]⟩
abbrev S384x1536 : Shape := ⟨2, ![384, 1536]⟩
abbrev S256x12x128 : Shape := ⟨3, ![256, 12, 128]⟩
abbrev S256x12x64 : Shape := ⟨3, ![256, 12, 64]⟩
abbrev S256x768 : Shape := ⟨2, ![256, 768]⟩
abbrev S16 : Shape := ⟨1, ![16]⟩
abbrev S64 : Shape := ⟨1, ![64]⟩
abbrev S32 : Shape := ⟨1, ![32]⟩
abbrev S128 : Shape := ⟨1, ![128]⟩
abbrev S1x128 : Shape := ⟨2, ![1, 128]⟩
abbrev S8192x1024 : Shape := ⟨2, ![8192, 1024]⟩
abbrev S8192x2048 : Shape := ⟨2, ![8192, 2048]⟩
abbrev S8192x384 : Shape := ⟨2, ![8192, 384]⟩
abbrev S8192x256 : Shape := ⟨2, ![8192, 256]⟩
abbrev S8192x1 : Shape := ⟨2, ![8192, 1]⟩
abbrev S8192x128 : Shape := ⟨2, ![8192, 128]⟩
abbrev S8192x12x96 : Shape := ⟨3, ![8192, 12, 96]⟩
abbrev S8192x12x128 : Shape := ⟨3, ![8192, 12, 128]⟩
abbrev S8192x1536 : Shape := ⟨2, ![8192, 1536]⟩
abbrev S1536x8192 : Shape := ⟨2, ![1536, 8192]⟩
abbrev S8192x12x64 : Shape := ⟨3, ![8192, 12, 64]⟩
abbrev S8192x768 : Shape := ⟨2, ![8192, 768]⟩
abbrev S768x8192 : Shape := ⟨2, ![768, 8192]⟩
abbrev S512x1024 : Shape := ⟨2, ![512, 1024]⟩
abbrev S512x384 : Shape := ⟨2, ![512, 384]⟩
abbrev S512x256 : Shape := ⟨2, ![512, 256]⟩
abbrev S512x1536 : Shape := ⟨2, ![512, 1536]⟩
abbrev S1536x512 : Shape := ⟨2, ![1536, 512]⟩
abbrev S768x512 : Shape := ⟨2, ![768, 512]⟩
abbrev S512x128 : Shape := ⟨2, ![512, 128]⟩
abbrev S512 : Shape := ⟨1, ![512]⟩
abbrev S512x1 : Shape := ⟨2, ![512, 1]⟩
abbrev S512x768 : Shape := ⟨2, ![512, 768]⟩
abbrev S512x2048 : Shape := ⟨2, ![512, 2048]⟩

abbrev nBuf : Space → Nat
  | .hbm => 145
  | .vmem => 38
  | .smem => 0
  | _ => 0

abbrev hbmTy0_0 (i : Nat) : BufTy := match i % 128 with
  | 0 => ⟨S1x8192x1024, .f32⟩
  | 1 => ⟨S1x8192, .i32⟩
  | 2 => ⟨S1024x1952, .f32⟩
  | 3 => ⟨S384, .f32⟩
  | 4 => ⟨S384x1152, .f32⟩
  | 5 => ⟨S256, .f32⟩
  | 6 => ⟨S256x1536, .f32⟩
  | 7 => ⟨S1x8192x12x96, .f32⟩
  | 8 => ⟨S1x8192x12x96, .f32⟩
  | 9 => ⟨S1x8192x12x64, .f32⟩
  | 10 => ⟨S1x8192x1024, .f32⟩
  | 11 => ⟨S1x8192x256, .f32⟩
  | 12 => ⟨S1x8192x1024, .f32⟩
  | 13 => ⟨S_, .f32⟩
  | 14 => ⟨S1024x64, .f32⟩
  | 15 => ⟨S1024x1280, .f32⟩
  | 16 => ⟨S1024x640, .f32⟩
  | 17 => ⟨S1024x32, .f32⟩
  | 18 => ⟨S1024x32, .f32⟩
  | 19 => ⟨S1024x2048, .f32⟩
  | 20 => ⟨S1024x2048, .bf16⟩
  | 21 => ⟨S1x384, .f32⟩
  | 22 => ⟨S1x256, .f32⟩
  | 23 => ⟨S384x12x96, .f32⟩
  | 24 => ⟨S_, .i32⟩
  | 25 => ⟨S_, .f32⟩
  | 26 => ⟨S384x12x128, .f32⟩
  | 27 => ⟨S384x1536, .f32⟩
  | 28 => ⟨S384x1536, .bf16⟩
  | 29 => ⟨S256x12x128, .f32⟩
  | 30 => ⟨S256x12x64, .f32⟩
  | 31 => ⟨S_, .i32⟩
  | 32 => ⟨S_, .f32⟩
  | 33 => ⟨S256x12x128, .f32⟩
  | 34 => ⟨S256x1536, .f32⟩
  | 35 => ⟨S256x1536, .bf16⟩
  | 36 => ⟨S256x12x64, .f32⟩
  | 37 => ⟨S256x768, .f32⟩
  | 38 => ⟨S256x768, .bf16⟩
  | 39 => ⟨S16, .f32⟩
  | 40 => ⟨S16, .f32⟩
  | 41 => ⟨S_, .f32⟩
  | 42 => ⟨S16, .f32⟩
  | 43 => ⟨S16, .f32⟩
  | 44 => ⟨S_, .f32⟩
  | 45 => ⟨S16, .f32⟩
  | 46 => ⟨S16, .f32⟩
  | 47 => ⟨S_, .f32⟩
  | 48 => ⟨S64, .f32⟩
  | 49 => ⟨S_, .f32⟩
  | 50 => ⟨S32, .f32⟩
  | 51 => ⟨S128, .f32⟩
  | 52 => ⟨S1x128, .f32⟩
  | 53 => ⟨S8192x1024, .f32⟩
  | 54 => ⟨S8192x1024, .bf16⟩
  | 55 => ⟨S8192x2048, .f32⟩
  | 56 => ⟨S8192x384, .f32⟩
  | 57 => ⟨S8192x256, .f32⟩
  | 58 => ⟨S8192x1, .i32⟩
  | 59 => ⟨S8192x1, .f32⟩
  | 60 => ⟨S8192x128, .f32⟩
  | 61 => ⟨S8192x128, .f32⟩
  | 62 => ⟨S8192x128, .f32⟩
  | 63 => ⟨S8192x128, .i32⟩
  | 64 => ⟨S8192x128, .f32⟩
  | 65 => ⟨S8192x128, .f32⟩
  | 66 => ⟨S_, .i32⟩
  | 67 => ⟨S8192x128, .i32⟩
  | 68 => ⟨S8192x128, .i1⟩
  | 69 => ⟨S_, .i32⟩
  | 70 => ⟨S8192x128, .i32⟩
  | 71 => ⟨S8192x128, .i1⟩
  | 72 => ⟨S_, .f32⟩
  | 73 => ⟨S_, .f32⟩
  | 74 => ⟨S8192x128, .f32⟩
  | 75 => ⟨S8192x128, .f32⟩
  | 76 => ⟨S_, .f32⟩
  | 77 => ⟨S_, .f32⟩
  | 78 => ⟨S8192x128, .f32⟩
  | 79 => ⟨S8192x128, .f32⟩
  | 80 => ⟨S_, .i32⟩
  | 81 => ⟨S8192x128, .i32⟩
  | 82 => ⟨S8192x128, .i1⟩
  | 83 => ⟨S_, .i32⟩
  | 84 => ⟨S8192x128, .i32⟩
  | 85 => ⟨S8192x128, .i1⟩
  | 86 => ⟨S8192x128, .i1⟩
  | 87 => ⟨S8192x128, .f32⟩
  | 88 => ⟨S_, .f32⟩
  | 89 => ⟨S_, .f32⟩
  | 90 => ⟨S8192x128, .f32⟩
  | 91 => ⟨S8192x128, .f32⟩
  | 92 => ⟨S_, .i32⟩
  | 93 => ⟨S8192x128, .i32⟩
  | 94 => ⟨S8192x128, .i1⟩
  | 95 => ⟨S_, .i32⟩
  | 96 => ⟨S8192x128, .i32⟩
  | 97 => ⟨S8192x128, .i1⟩
  | 98 => ⟨S8192x128, .i1⟩
  | 99 => ⟨S_, .f32⟩
  | 100 => ⟨S_, .f32⟩
  | 101 => ⟨S8192x128, .f32⟩
  | 102 => ⟨S8192x128, .f32⟩
  | 103 => ⟨S8192x12x96, .f32⟩
  | 104 => ⟨S_, .i32⟩
  | 105 => ⟨S_, .f32⟩
  | 106 => ⟨S8192x12x128, .f32⟩
  | 107 => ⟨S8192x1536, .f32⟩
  | 108 => ⟨S_, .f32⟩
  | 109 => ⟨S_, .f32⟩
  | 110 => ⟨S8192x1536, .f32⟩
  | 111 => ⟨S8192x1536, .f32⟩
  | 112 => ⟨S1536x8192, .f32⟩
  | 113 => ⟨S8192x12x64, .f32⟩
  | 114 => ⟨S8192x768, .f32⟩
  | 115 => ⟨S768x8192, .f32⟩
  | 116 => ⟨S8192x12x96, .f32⟩
  | 117 => ⟨S_, .i32⟩
  | 118 => ⟨S_, .f32⟩
  | 119 => ⟨S8192x12x128, .f32⟩
  | 120 => ⟨S8192x1536, .f32⟩
  | 121 => ⟨S8192x1024, .f32⟩
  | 122 => ⟨S8192x256, .f32⟩
  | 123 => ⟨S8192x1024, .f32⟩
  | 124 => ⟨S8192x1024, .f32⟩
  | 125 => ⟨S1024x2048, .f32⟩
  | 126 => ⟨S384x1536, .f32⟩
  | 127 => ⟨S256x1536, .f32⟩
  | _ => ⟨S1x8192x1024, .f32⟩

abbrev hbmTy0_1 (i : Nat) : BufTy := match i % 128 with
  | 0 => ⟨S256x768, .f32⟩
  | 1 => ⟨S1x384, .f32⟩
  | 2 => ⟨S1x256, .f32⟩
  | 3 => ⟨S1024x640, .f32⟩
  | 4 => ⟨S1024x32, .f32⟩
  | 5 => ⟨S1024x1280, .f32⟩
  | 6 => ⟨S1024x1952, .f32⟩
  | 7 => ⟨S384x12x128, .f32⟩
  | 8 => ⟨S384x12x96, .f32⟩
  | 9 => ⟨S384x1152, .f32⟩
  | 10 => ⟨S256x12x128, .f32⟩
  | 11 => ⟨S256x12x64, .f32⟩
  | 12 => ⟨S256x12x64, .f32⟩
  | 13 => ⟨S256x12x128, .f32⟩
  | 14 => ⟨S256x1536, .f32⟩
  | 15 => ⟨S384, .f32⟩
  | 16 => ⟨S256, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x384, .f32⟩
  | .local _ .vmem, ⟨3, _⟩ => ⟨S512x384, .f32⟩
  | .local _ .vmem, ⟨4, _⟩ => ⟨S512x256, .f32⟩
  | .local _ .vmem, ⟨5, _⟩ => ⟨S512x256, .f32⟩
  | .local _ .vmem, ⟨6, _⟩ => ⟨S512x1536, .f32⟩
  | .local _ .vmem, ⟨7, _⟩ => ⟨S512x1536, .f32⟩
  | .local _ .vmem, ⟨8, _⟩ => ⟨S1536x512, .f32⟩
  | .local _ .vmem, ⟨9, _⟩ => ⟨S1536x512, .f32⟩
  | .local _ .vmem, ⟨10, _⟩ => ⟨S768x512, .f32⟩
  | .local _ .vmem, ⟨11, _⟩ => ⟨S768x512, .f32⟩
  | .local _ .vmem, ⟨12, _⟩ => ⟨S512x1024, .f32⟩
  | .local _ .vmem, ⟨13, _⟩ => ⟨S512x1024, .f32⟩
  | .local _ .vmem, ⟨14, _⟩ => ⟨S512x256, .f32⟩
  | .local _ .vmem, ⟨15, _⟩ => ⟨S512x256, .f32⟩
  | .local _ .vmem, ⟨16, _⟩ => ⟨S512x1024, .f32⟩
  | .local _ .vmem, ⟨17, _⟩ => ⟨S512x1024, .f32⟩
  | .local _ .vmem, ⟨18, _⟩ => ⟨S1024x2048, .bf16⟩
  | .local _ .vmem, ⟨19, _⟩ => ⟨S1x384, .f32⟩
  | .local _ .vmem, ⟨20, _⟩ => ⟨S1x256, .f32⟩
  | .local _ .vmem, ⟨21, _⟩ => ⟨S384x1536, .bf16⟩
  | .local _ .vmem, ⟨22, _⟩ => ⟨S256x1536, .bf16⟩
  | .local _ .vmem, ⟨23, _⟩ => ⟨S256x768, .bf16⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | .local _ .vmem, ⟨30, _⟩ => ⟨S512x1024, .f32⟩
  | .local _ .vmem, ⟨31, _⟩ => ⟨S512x1024, .f32⟩
  | .local _ .vmem, ⟨32, _⟩ => ⟨S1024x2048, .f32⟩
  | .local _ .vmem, ⟨33, _⟩ => ⟨S384x1536, .f32⟩
  | .local _ .vmem, ⟨34, _⟩ => ⟨S256x1536, .f32⟩
  | .local _ .vmem, ⟨35, _⟩ => ⟨S256x768, .f32⟩
  | .local _ .vmem, ⟨36, _⟩ => ⟨S1x384, .f32⟩
  | .local _ .vmem, ⟨37, _⟩ => ⟨S1x256, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_call0_v0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_0 : Ref sig .tc := ⟨.hbm, 31, rfl⟩
abbrev main_call1_v0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_1 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_5 : Ref sig .tc := ⟨.hbm, 66, rfl⟩
abbrev main_v44 : Ref sig .tc := ⟨.hbm, 67, rfl⟩
abbrev main_v45 : Ref sig .tc := ⟨.hbm, 68, rfl⟩
abbrev main_c_6 : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_call2_v0 : Ref sig .tc := ⟨.hbm, 73, rfl⟩
abbrev main_call2_v1 : Ref sig .tc := ⟨.hbm, 74, rfl⟩
abbrev main_v48 : Ref sig .tc := ⟨.hbm, 75, rfl⟩
abbrev main_cst_8 : Ref sig .tc := ⟨.hbm, 76, rfl⟩
abbrev main_call3_v0 : Ref sig .tc := ⟨.hbm, 77, rfl⟩
abbrev main_call3_v1 : Ref sig .tc := ⟨.hbm, 78, rfl⟩
abbrev main_v49 : Ref sig .tc := ⟨.hbm, 79, rfl⟩
abbrev main_c_9 : Ref sig .tc := ⟨.hbm, 80, rfl⟩
abbrev main_v50 : Ref sig .tc := ⟨.hbm, 81, rfl⟩
abbrev main_v51 : Ref sig .tc := ⟨.hbm, 82, rfl⟩
abbrev main_c_10 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_11 : Ref sig .tc := ⟨.hbm, 88, rfl⟩
abbrev main_call4_v0 : Ref sig .tc := ⟨.hbm, 89, rfl⟩
abbrev main_call4_v1 : Ref sig .tc := ⟨.hbm, 90, rfl⟩
abbrev main_v56 : Ref sig .tc := ⟨.hbm, 91, rfl⟩
abbrev main_c_12 : Ref sig .tc := ⟨.hbm, 92, rfl⟩
abbrev main_v57 : Ref sig .tc := ⟨.hbm, 93, rfl⟩
abbrev main_v58 : Ref sig .tc := ⟨.hbm, 94, rfl⟩
abbrev main_c_13 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_14 : Ref sig .tc := ⟨.hbm, 99, rfl⟩
abbrev main_call5_v0 : Ref sig .tc := ⟨.hbm, 100, rfl⟩
abbrev main_call5_v1 : Ref sig .tc := ⟨.hbm, 101, rfl⟩
abbrev main_v62 : Ref sig .tc := ⟨.hbm, 102, rfl⟩
abbrev main_v63 : Ref sig .tc := ⟨.hbm, 103, rfl⟩
abbrev main_c_15 : Ref sig .tc := ⟨.hbm, 104, rfl⟩
abbrev main_call6_v0 : Ref sig .tc := ⟨.hbm, 105, rfl⟩
abbrev main_v64 : Ref sig .tc := ⟨.hbm, 106, rfl⟩
abbrev main_v65 : Ref sig .tc := ⟨.hbm, 107, rfl⟩
abbrev main_cst_16 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_c_17 : Ref sig .tc := ⟨.hbm, 117, rfl⟩
abbrev main_call7_v0 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79_0 : Ref sig .tc := ⟨.hbm, 124, rfl⟩
abbrev main_v79_1 : Ref sig .tc := ⟨.hbm, 125, rfl⟩
abbrev main_v79_2 : Ref sig .tc := ⟨.hbm, 126, rfl⟩
abbrev main_v79_3 : Ref sig .tc := ⟨.hbm, 127, rfl⟩
abbrev main_v79_4 : Ref sig .tc := ⟨.hbm, 128, rfl⟩
abbrev main_v79_5 : Ref sig .tc := ⟨.hbm, 129, rfl⟩
abbrev main_v79_6 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg21_0 : Ref sig .tc := ⟨.vmem, 34, rfl⟩
abbrev cc0_stg22_0 : Ref sig .tc := ⟨.vmem, 35, rfl⟩
abbrev cc0_stg23_0 : Ref sig .tc := ⟨.vmem, 36, rfl⟩
abbrev cc0_stg24_0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem20_0 : DmaSem sig := 33
abbrev cc0_sem21_0 : DmaSem sig := 34
abbrev cc0_sem22_0 : DmaSem sig := 35
abbrev cc0_sem23_0 : DmaSem sig := 36
abbrev cc0_sem24_0 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S384x1536 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1536 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x768 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1024x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S384x1536 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x1536 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x768 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x384 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== Kernel3Ideal.lean ====
variable {F : FTy → Type} [FloatOps F] [Named F]
def κ : String → Option EReal := fun
  | "log_two" => some ((Real.log 2 : ℝ) : EReal)
  | _ => none
-- ==== Reference3Ideal.lean ====
abbrev S1x8192x1024 : Shape := ⟨3, ![1, 8192, 1024]⟩
abbrev S1x8192 : Shape := ⟨2, ![1, 8192]⟩
abbrev S1024x1952 : Shape := ⟨2, ![1024, 1952]⟩
abbrev S384 : Shape := ⟨1, ![384]⟩
abbrev S384x1152 : Shape := ⟨2, ![384, 1152]⟩
abbrev S256 : Shape := ⟨1, ![256]⟩
abbrev S256x1536 : Shape := ⟨2, ![256, 1536]⟩
abbrev S1x8192x12x96 : Shape := ⟨4, ![1, 8192, 12, 96]⟩
abbrev S1x8192x12x64 : Shape := ⟨4, ![1, 8192, 12, 64]⟩
abbrev S1x8192x256 : Shape := ⟨3, ![1, 8192, 256]⟩
abbrev S1x8192x1952 : Shape := ⟨3, ![1, 8192, 1952]⟩
abbrev S1x8192x384 : Shape := ⟨3, ![1, 8192, 384]⟩
abbrev S1x8192x32 : Shape := ⟨3, ![1, 8192, 32]⟩
abbrev S_ : Shape := ⟨0, ![]⟩
abbrev S1x8192x1 : Shape := ⟨3, ![1, 8192, 1]⟩
abbrev S1x1x384 : Shape := ⟨3, ![1, 1, 384]⟩
abbrev S1x8192x1152 : Shape := ⟨3, ![1, 8192, 1152]⟩
abbrev S1x8192x12x32 : Shape := ⟨4, ![1, 8192, 12, 32]⟩
abbrev S16 : Shape := ⟨1, ![16]⟩
abbrev S1x1x16 : Shape := ⟨3, ![1, 1, 16]⟩
abbrev S1x8192x16 : Shape := ⟨3, ![1, 8192, 16]⟩
abbrev S1x8192x1x16 : Shape := ⟨4, ![1, 8192, 1, 16]⟩
abbrev S1x8192x12x16 : Shape := ⟨4, ![1, 8192, 12, 16]⟩
abbrev S1x1x256 : Shape := ⟨3, ![1, 1, 256]⟩
abbrev S1x8192x1536 : Shape := ⟨3, ![1, 8192, 1536]⟩
abbrev S1x8192x12x128 : Shape := ⟨4, ![1, 8192, 12, 128]⟩
abbrev S1x8192x1x32 : Shape := ⟨4, ![1, 8192, 1, 32]⟩
abbrev S8192x32 : Shape := ⟨2, ![8192, 32]⟩
abbrev S1536x256 : Shape := ⟨2, ![1536, 256]⟩
abbrev S1x256 : Shape := ⟨2, ![1, 256]⟩
abbrev S8192 : Shape := ⟨1, ![8192]⟩
abbrev S1152x384 : Shape := ⟨2, ![1152, 384]⟩
abbrev S1x384 : Shape := ⟨2, ![1, 384]⟩
abbrev S1952x1024 : Shape := ⟨2, ![1952, 1024]⟩
abbrev S8192x1024 : Shape := ⟨2, ![8192, 1024]⟩

abbrev nBuf : Space → Nat
  | .hbm => 247
  | .vmem => 0
  | .smem => 0
  | _ => 0

abbrev hbmTy0_0 (i : Nat) : BufTy := match i % 128 with
  | 0 => ⟨S1x8192x1024, .f32⟩
  | 1 => ⟨S1x8192, .i32⟩
  | 2 => ⟨S1024x1952, .f32⟩
  | 3 => ⟨S384, .f32⟩
  | 4 => ⟨S384x1152, .f32⟩
  | 5 => ⟨S256, .f32⟩
  | 6 => ⟨S256x1536, .f32⟩
  | 7 => ⟨S1x8192x12x96, .f32⟩
  | 8 => ⟨S1x8192x12x96, .f32⟩
  | 9 => ⟨S1x8192x12x64, .f32⟩
  | 10 => ⟨S1x8192x1024, .f32⟩
  | 11 => ⟨S1x8192x256, .f32⟩
  | 12 => ⟨S1x8192x1024, .f32⟩
  | 13 => ⟨S1x8192x1952, .f32⟩
  | 14 => ⟨S1x8192x384, .f32⟩
  | 15 => ⟨S1x8192x256, .f32⟩
  | 16 => ⟨S1x8192x32, .f32⟩
  | 17 => ⟨S1x8192x1024, .f32⟩
  | 18 => ⟨S1x8192x256, .f32⟩
  | 19 => ⟨S1x8192x384, .f32⟩
  | 20 => ⟨S_, .f32⟩
  | 21 => ⟨S1x8192, .f32⟩
  | 22 => ⟨S1x8192x1, .f32⟩
  | 23 => ⟨S_, .f32⟩
  | 24 => ⟨S1x8192x1, .f32⟩
  | 25 => ⟨S1x8192x1, .f32⟩
  | 26 => ⟨S_, .f32⟩
  | 27 => ⟨S1x8192x1, .f32⟩
  | 28 => ⟨S1x8192x1, .f32⟩
  | 29 => ⟨S1x8192x1, .f32⟩
  | 30 => ⟨S1x8192x1, .f32⟩
  | 31 => ⟨S_, .f32⟩
  | 32 => ⟨S1x8192x1, .f32⟩
  | 33 => ⟨S1x8192x1, .f32⟩
  | 34 => ⟨S1x8192x384, .f32⟩
  | 35 => ⟨S1x8192x384, .f32⟩
  | 36 => ⟨S1x1x384, .f32⟩
  | 37 => ⟨S1x8192x384, .f32⟩
  | 38 => ⟨S1x8192x384, .f32⟩
  | 39 => ⟨S1x8192x1152, .f32⟩
  | 40 => ⟨S1x8192x12x96, .f32⟩
  | 41 => ⟨S1x8192x12x64, .f32⟩
  | 42 => ⟨S1x8192x12x32, .f32⟩
  | 43 => ⟨S16, .f32⟩
  | 44 => ⟨S16, .f32⟩
  | 45 => ⟨S_, .f32⟩
  | 46 => ⟨S16, .f32⟩
  | 47 => ⟨S16, .f32⟩
  | 48 => ⟨S_, .f32⟩
  | 49 => ⟨S16, .f32⟩
  | 50 => ⟨S16, .f32⟩
  | 51 => ⟨S1x8192, .f32⟩
  | 52 => ⟨S1x8192x1, .f32⟩
  | 53 => ⟨S1x1x16, .f32⟩
  | 54 => ⟨S1x8192x16, .f32⟩
  | 55 => ⟨S1x8192x16, .f32⟩
  | 56 => ⟨S1x8192x16, .f32⟩
  | 57 => ⟨S1x8192x16, .f32⟩
  | 58 => ⟨S1x8192x1x16, .f32⟩
  | 59 => ⟨S1x8192x16, .f32⟩
  | 60 => ⟨S1x8192x1x16, .f32⟩
  | 61 => ⟨S1x8192x12x16, .f32⟩
  | 62 => ⟨S1x8192x12x16, .f32⟩
  | 63 => ⟨S1x8192x12x16, .f32⟩
  | 64 => ⟨S1x8192x12x16, .f32⟩
  | 65 => ⟨S1x8192x12x16, .f32⟩
  | 66 => ⟨S1x8192x12x16, .f32⟩
  | 67 => ⟨S1x8192x12x16, .f32⟩
  | 68 => ⟨S1x8192x12x16, .f32⟩
  | 69 => ⟨S1x8192x12x16, .f32⟩
  | 70 => ⟨S1x8192x12x16, .f32⟩
  | 71 => ⟨S1x8192x12x16, .f32⟩
  | 72 => ⟨S1x8192x12x16, .f32⟩
  | 73 => ⟨S1x8192x12x32, .f32⟩
  | 74 => ⟨S1x8192x12x96, .f32⟩
  | 75 => ⟨S1x8192x256, .f32⟩
  | 76 => ⟨S_, .f32⟩
  | 77 => ⟨S1x8192, .f32⟩
  | 78 => ⟨S1x8192x1, .f32⟩
  | 79 => ⟨S_, .f32⟩
  | 80 => ⟨S1x8192x1, .f32⟩
  | 81 => ⟨S1x8192x1, .f32⟩
  | 82 => ⟨S_, .f32⟩
  | 83 => ⟨S1x8192x1, .f32⟩
  | 84 => ⟨S1x8192x1, .f32⟩
  | 85 => ⟨S1x8192x1, .f32⟩
  | 86 => ⟨S1x8192x1, .f32⟩
  | 87 => ⟨S_, .f32⟩
  | 88 => ⟨S1x8192x1, .f32⟩
  | 89 => ⟨S1x8192x1, .f32⟩
  | 90 => ⟨S1x8192x256, .f32⟩
  | 91 => ⟨S1x8192x256, .f32⟩
  | 92 => ⟨S1x1x256, .f32⟩
  | 93 => ⟨S1x8192x256, .f32⟩
  | 94 => ⟨S1x8192x256, .f32⟩
  | 95 => ⟨S1x8192x1536, .f32⟩
  | 96 => ⟨S1x8192x12x128, .f32⟩
  | 97 => ⟨S1x8192x12x64, .f32⟩
  | 98 => ⟨S1x8192x12x64, .f32⟩
  | 99 => ⟨S1x8192x1x32, .f32⟩
  | 100 => ⟨S16, .f32⟩
  | 101 => ⟨S16, .f32⟩
  | 102 => ⟨S_, .f32⟩
  | 103 => ⟨S16, .f32⟩
  | 104 => ⟨S16, .f32⟩
  | 105 => ⟨S_, .f32⟩
  | 106 => ⟨S16, .f32⟩
  | 107 => ⟨S16, .f32⟩
  | 108 => ⟨S1x8192, .f32⟩
  | 109 => ⟨S1x8192x1, .f32⟩
  | 110 => ⟨S1x1x16, .f32⟩
  | 111 => ⟨S1x8192x16, .f32⟩
  | 112 => ⟨S1x8192x16, .f32⟩
  | 113 => ⟨S1x8192x16, .f32⟩
  | 114 => ⟨S1x8192x16, .f32⟩
  | 115 => ⟨S1x8192x1x16, .f32⟩
  | 116 => ⟨S1x8192x16, .f32⟩
  | 117 => ⟨S1x8192x1x16, .f32⟩
  | 118 => ⟨S1x8192x1x16, .f32⟩
  | 119 => ⟨S1x8192x1x16, .f32⟩
  | 120 => ⟨S1x8192x1x16, .f32⟩
  | 121 => ⟨S1x8192x1x16, .f32⟩
  | 122 => ⟨S1x8192x1x16, .f32⟩
  | 123 => ⟨S1x8192x1x16, .f32⟩
  | 124 => ⟨S1x8192x1x16, .f32⟩
  | 125 => ⟨S1x8192x1x16, .f32⟩
  | 126 => ⟨S1x8192x1x32, .f32⟩
  | 127 => ⟨S1x8192x12x32, .f32⟩
  | _ => ⟨S1x8192x1024, .f32⟩

abbrev hbmTy0_1 (i : Nat) : BufTy := match i % 128 with
  | 0 => ⟨S1x8192x12x96, .f32⟩
  | 1 => ⟨S1x8192x12x64, .f32⟩
  | 2 => ⟨S1x8192x12x32, .f32⟩
  | 3 => ⟨S_, .f32⟩
  | 4 => ⟨S8192x32, .f32⟩
  | 5 => ⟨S1x8192x1x32, .f32⟩
  | 6 => ⟨S1x8192x1x16, .f32⟩
  | 7 => ⟨S1x8192x1x16, .f32⟩
  | 8 => ⟨S1x8192x1x16, .f32⟩
  | 9 => ⟨S1x8192x1x16, .f32⟩
  | 10 => ⟨S1x8192x1x16, .f32⟩
  | 11 => ⟨S1x8192x1x16, .f32⟩
  | 12 => ⟨S1x8192x1x16, .f32⟩
  | 13 => ⟨S1x8192x1x16, .f32⟩
  | 14 => ⟨S1x8192x1x16, .f32⟩
  | 15 => ⟨S_, .f32⟩
  | 16 => ⟨S1x8192x1x32, .f32⟩
  | 17 => ⟨S_, .f32⟩
  | 18 => ⟨S1x8192x1x32, .f32⟩
  | 19 => ⟨S1x8192x1x32, .f32⟩
  | 20 => ⟨S_, .f32⟩
  | 21 => ⟨S8192x32, .f32⟩
  | 22 => ⟨S1x8192x32, .f32⟩
  | 23 => ⟨S_, .f32⟩
  | 24 => ⟨S1x8192x12x128, .f32⟩
  | 25 => ⟨S_, .f32⟩
  | 26 => ⟨S1x8192x12x128, .f32⟩
  | 27 => ⟨S1x8192x12x128, .f32⟩
  | 28 => ⟨S1x8192x1536, .f32⟩
  | 29 => ⟨S1536x256, .f32⟩
  | 30 => ⟨S256x1536, .f32⟩
  | 31 => ⟨S1x8192x256, .f32⟩
  | 32 => ⟨S1x8192x256, .f32⟩
  | 33 => ⟨S_, .f32⟩
  | 34 => ⟨S1x256, .f32⟩
  | 35 => ⟨S1x1x256, .f32⟩
  | 36 => ⟨S1x8192x256, .f32⟩
  | 37 => ⟨S1x8192x256, .f32⟩
  | 38 => ⟨S_, .f32⟩
  | 39 => ⟨S256, .f32⟩
  | 40 => ⟨S1x8192x256, .f32⟩
  | 41 => ⟨S_, .f32⟩
  | 42 => ⟨S1x8192, .f32⟩
  | 43 => ⟨S1x8192x1, .f32⟩
  | 44 => ⟨S1x8192x256, .f32⟩
  | 45 => ⟨S1x8192x256, .f32⟩
  | 46 => ⟨S1x8192x1, .f32⟩
  | 47 => ⟨S_, .f32⟩
  | 48 => ⟨S1x8192x1, .f32⟩
  | 49 => ⟨S1x8192x1, .f32⟩
  | 50 => ⟨S_, .f32⟩
  | 51 => ⟨S8192, .f32⟩
  | 52 => ⟨S1x8192, .f32⟩
  | 53 => ⟨S1x8192x256, .f32⟩
  | 54 => ⟨S1x8192x256, .f32⟩
  | 55 => ⟨S1x8192x256, .f32⟩
  | 56 => ⟨S1x8192x256, .f32⟩
  | 57 => ⟨S1x8192x256, .f32⟩
  | 58 => ⟨S1x8192x12x64, .f32⟩
  | 59 => ⟨S1x8192x12x32, .f32⟩
  | 60 => ⟨S1x8192x12x16, .f32⟩
  | 61 => ⟨S1x8192x12x16, .f32⟩
  | 62 => ⟨S1x8192x12x16, .f32⟩
  | 63 => ⟨S1x8192x12x16, .f32⟩
  | 64 => ⟨S1x8192x12x16, .f32⟩
  | 65 => ⟨S1x8192x12x16, .f32⟩
  | 66 => ⟨S1x8192x12x16, .f32⟩
  | 67 => ⟨S1x8192x12x16, .f32⟩
  | 68 => ⟨S1x8192x12x16, .f32⟩
  | 69 => ⟨S1x8192x12x16, .f32⟩
  | 70 => ⟨S1x8192x12x16, .f32⟩
  | 71 => ⟨S1x8192x12x16, .f32⟩
  | 72 => ⟨S1x8192x12x16, .f32⟩
  | 73 => ⟨S_, .f32⟩
  | 74 => ⟨S1x8192x12x32, .f32⟩
  | 75 => ⟨S_, .f32⟩
  | 76 => ⟨S1x8192x12x32, .f32⟩
  | 77 => ⟨S1x8192x12x32, .f32⟩
  | 78 => ⟨S_, .f32⟩
  | 79 => ⟨S1x8192x12x96, .f32⟩
  | 80 => ⟨S_, .f32⟩
  | 81 => ⟨S1x8192x12x96, .f32⟩
  | 82 => ⟨S1x8192x12x96, .f32⟩
  | 83 => ⟨S1x8192x1152, .f32⟩
  | 84 => ⟨S1152x384, .f32⟩
  | 85 => ⟨S384x1152, .f32⟩
  | 86 => ⟨S1x8192x384, .f32⟩
  | 87 => ⟨S1x8192x384, .f32⟩
  | 88 => ⟨S_, .f32⟩
  | 89 => ⟨S1x384, .f32⟩
  | 90 => ⟨S1x1x384, .f32⟩
  | 91 => ⟨S1x8192x384, .f32⟩
  | 92 => ⟨S1x8192x384, .f32⟩
  | 93 => ⟨S_, .f32⟩
  | 94 => ⟨S384, .f32⟩
  | 95 => ⟨S1x8192x384, .f32⟩
  | 96 => ⟨S_, .f32⟩
  | 97 => ⟨S1x8192, .f32⟩
  | 98 => ⟨S1x8192x1, .f32⟩
  | 99 => ⟨S1x8192x384, .f32⟩
  | 100 => ⟨S1x8192x384, .f32⟩
  | 101 => ⟨S1x8192x1, .f32⟩
  | 102 => ⟨S_, .f32⟩
  | 103 => ⟨S1x8192x1, .f32⟩
  | 104 => ⟨S1x8192x1, .f32⟩
  | 105 => ⟨S_, .f32⟩
  | 106 => ⟨S8192, .f32⟩
  | 107 => ⟨S1x8192, .f32⟩
  | 108 => ⟨S1x8192x384, .f32⟩
  | 109 => ⟨S1x8192x384, .f32⟩
  | 110 => ⟨S1x8192x384, .f32⟩
  | 111 => ⟨S1x8192x384, .f32⟩
  | 112 => ⟨S1x8192x384, .f32⟩
  | 113 => ⟨S1x8192x1952, .f32⟩
  | 114 => ⟨S1952x1024, .f32⟩
  | 115 => ⟨S1024x1952, .f32⟩
  | 116 => ⟨S1x8192x1024, .f32⟩
  | 117 => ⟨S1x8192x1024, .f32⟩
  | 118 => ⟨S8192x1024, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_5 : Ref sig .tc := ⟨.hbm, 76, rfl⟩
abbrev main_v57 : Ref sig .tc := ⟨.hbm, 77, rfl⟩
abbrev main_v58 : Ref sig .tc := ⟨.hbm, 78, rfl⟩
abbrev main_cst_6 : Ref sig .tc := ⟨.hbm, 79, rfl⟩
abbrev main_v59 : Ref sig .tc := ⟨.hbm, 80, rfl⟩
abbrev main_v60 : Ref sig .tc := ⟨.hbm, 81, rfl⟩
abbrev main_cst_7 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_8 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_9 : Ref sig .tc := ⟨.hbm, 102, rfl⟩
abbrev main_v79 : Ref sig .tc := ⟨.hbm, 103, rfl⟩
abbrev main_v80 : Ref sig .tc := ⟨.hbm, 104, rfl⟩
abbrev main_cst_10 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_cst_11 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_cst_12 : Ref sig .tc := ⟨.hbm, 143, rfl⟩
abbrev main_v117 : Ref sig .tc := ⟨.hbm, 144, rfl⟩
abbrev main_cst_13 : Ref sig .tc := ⟨.hbm, 145, rfl⟩
abbrev main_v118 : Ref sig .tc := ⟨.hbm, 146, rfl⟩
abbrev main_v119 : Ref sig .tc := ⟨.hbm, 147, rfl⟩
abbrev main_cst_14 : Ref sig .tc := ⟨.hbm, 148, rfl⟩
abbrev main_v120 : Ref sig .tc := ⟨.hbm, 149, rfl⟩
abbrev main_v121 : Ref sig .tc := ⟨.hbm, 150, rfl⟩
abbrev main_cst_15 : Ref sig .tc := ⟨.hbm, 151, rfl⟩
abbrev main_v122 : Ref sig .tc := ⟨.hbm, 152, rfl⟩
abbrev main_cst_16 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_cst_17 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_cst_18 : Ref sig .tc := ⟨.hbm, 166, rfl⟩
abbrev main_v134 : Ref sig .tc := ⟨.hbm, 167, rfl⟩
abbrev main_v135 : Ref sig .tc := ⟨.hbm, 168, rfl⟩
abbrev main_cst_19 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_cst_20 : Ref sig .tc := ⟨.hbm, 175, rfl⟩
abbrev main_v141 : Ref sig .tc := ⟨.hbm, 176, rfl⟩
abbrev main_v142 : Ref sig .tc := ⟨.hbm, 177, rfl⟩
abbrev main_cst_21 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_cst_22 : Ref sig .tc := ⟨.hbm, 201, rfl⟩
abbrev main_v165 : Ref sig .tc := ⟨.hbm, 202, rfl⟩
abbrev main_cst_23 : Ref sig .tc := ⟨.hbm, 203, rfl⟩
abbrev main_v166 : Ref sig .tc := ⟨.hbm, 204, rfl⟩
abbrev main_v167 : Ref sig .tc := ⟨.hbm, 205, rfl⟩
abbrev main_cst_24 : Ref sig .tc := ⟨.hbm, 206, rfl⟩
abbrev main_v168 : Ref sig .tc := ⟨.hbm, 207, rfl⟩
abbrev main_cst_25 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_cst_26 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_cst_27 : Ref sig .tc := ⟨.hbm, 221, rfl⟩
abbrev main_v180 : Ref sig .tc := ⟨.hbm, 222, rfl⟩
abbrev main_v181 : Ref sig .tc := ⟨.hbm, 223, rfl⟩
abbrev main_cst_28 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_cst_29 : Ref sig .tc := ⟨.hbm, 230, rfl⟩
abbrev main_v187 : Ref sig .tc := ⟨.hbm, 231, rfl⟩
abbrev main_v188 : Ref sig .tc := ⟨.hbm, 232, rfl⟩
abbrev main_cst_30 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩

abbrev nD : Nat := 1
abbrev τ : Topo := Topo.v7x

variable {F : FTy → Type} [FloatOps F]
-- ==== Kernel4.lean ====
abbrev S1x8192x768 : Shape := ⟨3, ![1, 8192, 768]⟩
abbrev S1x8192x1024 : Shape := ⟨3, ![1, 8192, 1024]⟩
abbrev S1x8192x256 : Shape := ⟨3, ![1, 8192, 256]⟩
abbrev S1x256x512 : Shape := ⟨3, ![1, 256, 512]⟩
abbrev S1024x1024 : Shape := ⟨2, ![1024, 1024]⟩
abbrev S1024 : Shape := ⟨1, ![1024]⟩
abbrev S8192x768 : Shape := ⟨2, ![8192, 768]⟩
abbrev S8192x1024 : Shape := ⟨2, ![8192, 1024]⟩
abbrev S8192x256 : Shape := ⟨2, ![8192, 256]⟩
abbrev S256x512 : Shape := ⟨2, ![256, 512]⟩
abbrev S1x1024 : Shape := ⟨2, ![1, 1024]⟩
abbrev S_ : Shape := ⟨0, ![]⟩
abbrev S768x8192 : Shape := ⟨2, ![768, 8192]⟩
abbrev S6x8192x128 : Shape := ⟨3, ![6, 8192, 128]⟩
abbrev S1x1 : Shape := ⟨2, ![1, 1]⟩
abbrev S512x768 : Shape := ⟨2, ![512, 768]⟩
abbrev S512x1024 : Shape := ⟨2, ![512, 1024]⟩
abbrev S512x256 : Shape := ⟨2, ![512, 256]⟩
abbrev S768x512 : Shape := ⟨2, ![768, 512]⟩
abbrev S6x512x128 : Shape := ⟨3, ![6, 512, 128]⟩
abbrev S512x128 : Shape := ⟨2, ![512, 128]⟩
abbrev S256x128 : Shape := ⟨2, ![256, 128]⟩
abbrev S512 : Shape := ⟨1, ![512]⟩
abbrev S512x1 : Shape := ⟨2, ![512, 1]⟩
abbrev S128x512 : Shape := ⟨2, ![128, 512]⟩
abbrev S1x512x128 : Shape := ⟨3, ![1, 512, 128]⟩
abbrev S6x8192x2 : Shape := ⟨3, ![6, 8192, 2]⟩

abbrev nBuf : Space → Nat
  | .hbm => 36
  | .vmem => 33
  | .smem => 0
  | _ => 0

abbrev bufTy : (tb : Table) → Fin (tcTables nBuf tb) → BufTy
  | .hbm, ⟨0, _⟩ => ⟨S1x8192x768, .f32⟩
  | .hbm, ⟨1, _⟩ => ⟨S1x8192x1024, .f32⟩
  | .hbm, ⟨2, _⟩ => ⟨S1x8192x256, .f32⟩
  | .hbm, ⟨3, _⟩ => ⟨S1x256x512, .f32⟩
  | .hbm, ⟨4, _⟩ => ⟨S1024x1024, .f32⟩
  | .hbm, ⟨5, _⟩ => ⟨S1x8192x1024, .f32⟩
  | .hbm, ⟨6, _⟩ => ⟨S1024, .f32⟩
  | .hbm, ⟨7, _⟩ => ⟨S1024, .f32⟩
  | .hbm, ⟨8, _⟩ => ⟨S1x8192x1024, .f32⟩
  | .hbm, ⟨9, _⟩ => ⟨S8192x768, .f32⟩
  | .hbm, ⟨10, _⟩ => ⟨S8192x1024, .f32⟩
  | .hbm, ⟨11, _⟩ => ⟨S8192x256, .f32⟩
  | .hbm, ⟨12, _⟩ => ⟨S8192x256, .bf16⟩
  | .hbm, ⟨13, _⟩ => ⟨S256x512, .f32⟩
  | .hbm, ⟨14, _⟩ => ⟨S256x512, .bf16⟩
  | .hbm, ⟨15, _⟩ => ⟨S1024x1024, .bf16⟩
  | .hbm, ⟨16, _⟩ => ⟨S8192x1024, .f32⟩
  | .hbm, ⟨17, _⟩ => ⟨S1x1024, .f32⟩
  | .hbm, ⟨18, _⟩ => ⟨S1x1024, .f32⟩
  | .hbm, ⟨19, _⟩ => ⟨S8192x1024, .f32⟩
  | .hbm, ⟨20, _⟩ => ⟨S_, .f32⟩
  | .hbm, ⟨21, _⟩ => ⟨S8192x768, .f32⟩
  | .hbm, ⟨22, _⟩ => ⟨S8192x1024, .f32⟩
  | .hbm, ⟨23, _⟩ => ⟨S8192x768, .bf16⟩
  | .hbm, ⟨24, _⟩ => ⟨S768x8192, .bf16⟩
  | .hbm, ⟨25, _⟩ => ⟨S6x8192x128, .f32⟩
  | .hbm, ⟨26, _⟩ => ⟨S8192x1024, .f32⟩
  | .hbm, ⟨27, _⟩ => ⟨S8192x256, .f32⟩
  | .hbm, ⟨28, _⟩ => ⟨S1024x1024, .f32⟩
  | .hbm, ⟨29, _⟩ => ⟨S256x512, .f32⟩
  | .hbm, ⟨30, _⟩ => ⟨S1x1024, .f32⟩
  | .hbm, ⟨31, _⟩ => ⟨S1x1024, .f32⟩
  | .hbm, ⟨32, _⟩ => ⟨S1x1, .f32⟩
  | .hbm, ⟨33, _⟩ => ⟨S8192x768, .f32⟩
  | .hbm, ⟨34, _⟩ => ⟨S768x8192, .f32⟩
  | .hbm, ⟨35, _⟩ => ⟨S6x8192x2, .f32⟩
  | .local _ .vmem, ⟨0, _⟩ => ⟨S512x768, .f32⟩
  | .local _ .vmem, ⟨1, _⟩ => ⟨S512x768, .f32⟩
  | .local _ .vmem, ⟨2, _⟩ => ⟨S512x1024, .f32⟩
  | .local _ .vmem, ⟨3, _⟩ => ⟨S512x1024, .f32⟩
  | .local _ .vmem, ⟨4, _⟩ => ⟨S512x256, .bf16⟩
  | .local _ .vmem, ⟨5, _⟩ => ⟨S512x256, .bf16⟩
  | .local _ .vmem, ⟨6, _⟩ => ⟨S256x512, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x768, .f32⟩
  | .local _ .vmem, ⟨15, _⟩ => ⟨S512x768, .f32⟩
  | .local _ .vmem, ⟨16, _⟩ => ⟨S512x1024, .f32⟩
  | .local _ .vmem, ⟨17, _⟩ => ⟨S512x1024, .f32⟩
  | .local _ .vmem, ⟨18, _⟩ => ⟨S512x768, .bf16⟩
  | .local _ .vmem, ⟨19, _⟩ => ⟨S512x768, .bf16⟩
  | .local _ .vmem, ⟨20, _⟩ => ⟨S768x512, .bf16⟩
  | .local _ .vmem, ⟨21, _⟩ => ⟨S768x512, .bf16⟩
  | .local _ .vmem, ⟨22, _⟩ => ⟨S6x512x128, .f32⟩
  | .local _ .vmem, ⟨23, _⟩ => ⟨S6x512x128, .f32⟩
  | .local _ .vmem, ⟨24, _⟩ => ⟨S512x1024, .f32⟩
  | .local _ .vmem, ⟨25, _⟩ => ⟨S512x1024, .f32⟩
  | .local _ .vmem, ⟨26, _⟩ => ⟨S512x256, .f32⟩
  | .local _ .vmem, ⟨27, _⟩ => ⟨S512x256, .f32⟩
  | .local _ .vmem, ⟨28, _⟩ => ⟨S1024x1024, .f32⟩
  | .local _ .vmem, ⟨29, _⟩ => ⟨S256x512, .f32⟩
  | .local _ .vmem, ⟨30, _⟩ => ⟨S1x1024, .f32⟩
  | .local _ .vmem, ⟨31, _⟩ => ⟨S1x1024, .f32⟩
  | .local _ .vmem, ⟨32, _⟩ => ⟨S1x1, .f32⟩
  | _, _ => ⟨S1x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev main_v12_5 : Ref sig .tc := ⟨.hbm, 27, rfl⟩
abbrev main_v12_6 : Ref sig .tc := ⟨.hbm, 28, rfl⟩
abbrev main_v12_7 : Ref sig .tc := ⟨.hbm, 29, rfl⟩
abbrev main_v12_8 : Ref sig .tc := ⟨.hbm, 30, rfl⟩
abbrev main_v12_9 : Ref sig .tc := ⟨.hbm, 31, rfl⟩
abbrev main_v12_10 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg20_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem17_0 : DmaSem sig := 29
abbrev cc0_sem18_0 : DmaSem sig := 30
abbrev cc0_sem19_0 : DmaSem sig := 31
abbrev cc0_sem20_0 : DmaSem sig := 32

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S768x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S6x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1024x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference4Ideal.lean ====
abbrev S1x8192x768 : Shape := ⟨3, ![1, 8192, 768]⟩
abbrev S1x8192x1024 : Shape := ⟨3, ![1, 8192, 1024]⟩
abbrev S1x8192x256 : Shape := ⟨3, ![1, 8192, 256]⟩
abbrev S1x256x512 : Shape := ⟨3, ![1, 256, 512]⟩
abbrev S1024x1024 : Shape := ⟨2, ![1024, 1024]⟩
abbrev S1024 : Shape := ⟨1, ![1024]⟩
abbrev S1x256x2x4x64 : Shape := ⟨5, ![1, 256, 2, 4, 64]⟩
abbrev S1x8192x4x64 : Shape := ⟨4, ![1, 8192, 4, 64]⟩
abbrev S1x256x1x4x64 : Shape := ⟨5, ![1, 256, 1, 4, 64]⟩
abbrev S1x256x4x64 : Shape := ⟨4, ![1, 256, 4, 64]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x64x8192 : Shape := ⟨4, ![1, 4, 64, 8192]⟩
abbrev S1x8192 : Shape := ⟨2, ![1, 8192]⟩
abbrev S1x8192x1 : Shape := ⟨3, ![1, 8192, 1]⟩
abbrev S1x1x1024 : Shape := ⟨3, ![1, 1, 1024]⟩
abbrev S1x1024 : Shape := ⟨2, ![1, 1024]⟩
abbrev S8192 : Shape := ⟨1, ![8192]⟩
abbrev S1x4x64x256 : Shape := ⟨4, ![1, 4, 64, 256]⟩
abbrev S4x8192 : Shape := ⟨2, ![4, 8192]⟩
abbrev S1x4x256x64 : Shape := ⟨4, ![1, 4, 256, 64]⟩
abbrev S1x4x8192x64 : Shape := ⟨4, ![1, 4, 8192, 64]⟩
abbrev S8192x6x2x64 : Shape := ⟨4, ![8192, 6, 2, 64]⟩
abbrev S8192x6x2 : Shape := ⟨3, ![8192, 6, 2]⟩
abbrev S6x8192x2 : Shape := ⟨3, ![6, 8192, 2]⟩
abbrev S8192x1024 : Shape := ⟨2, ![8192, 1024]⟩
abbrev S8192x768 : Shape := ⟨2, ![8192, 768]⟩
abbrev S768x8192 : Shape := ⟨2, ![768, 8192]⟩
abbrev S8192x256 : Shape := ⟨2, ![8192, 256]⟩
abbrev S256x512 : Shape := ⟨2, ![256, 512]⟩

abbrev nBuf : Space → Nat
  | .hbm => 227
  | .vmem => 0
  | .smem => 0
  | _ => 0

abbrev hbmTy0_0 (i : Nat) : BufTy := match i % 128 with
  | 0 => ⟨S1x8192x768, .f32⟩
  | 1 => ⟨S1x8192x1024, .f32⟩
  | 2 => ⟨S1x8192x256, .f32⟩
  | 3 => ⟨S1x256x512, .f32⟩
  | 4 => ⟨S1024x1024, .f32⟩
  | 5 => ⟨S1x8192x1024, .f32⟩
  | 6 => ⟨S1024, .f32⟩
  | 7 => ⟨S1024, .f32⟩
  | 8 => ⟨S1x8192x1024, .f32⟩
  | 9 => ⟨S1x256x2x4x64, .f32⟩
  | 10 => ⟨S1x8192x4x64, .f32⟩
  | 11 => ⟨S1x256x1x4x64, .f32⟩
  | 12 => ⟨S1x256x4x64, .f32⟩
  | 13 => ⟨S1x256x1x4x64, .f32⟩
  | 14 => ⟨S1x256x4x64, .f32⟩
  | 15 => ⟨S1x4x8192x256, .f32⟩
  | 16 => ⟨S_, .f32⟩
  | 17 => ⟨S1x4x8192x256, .f32⟩
  | 18 => ⟨S1x4x8192x256, .f32⟩
  | 19 => ⟨S_, .f32⟩
  | 20 => ⟨S1x4x8192, .f32⟩
  | 21 => ⟨S1x4x8192x1, .f32⟩
  | 22 => ⟨S1x4x8192x256, .f32⟩
  | 23 => ⟨S1x4x8192x256, .i1⟩
  | 24 => ⟨S1x4x8192x256, .f32⟩
  | 25 => ⟨S_, .f32⟩
  | 26 => ⟨S1x4x8192, .f32⟩
  | 27 => ⟨S_, .f32⟩
  | 28 => ⟨S1x4x8192, .f32⟩
  | 29 => ⟨S1x4x8192, .f32⟩
  | 30 => ⟨S_, .f32⟩
  | 31 => ⟨S1x4x8192, .f32⟩
  | 32 => ⟨S1x4x8192, .i1⟩
  | 33 => ⟨S_, .f32⟩
  | 34 => ⟨S1x4x8192, .f32⟩
  | 35 => ⟨S1x4x8192, .i1⟩
  | 36 => ⟨S_, .f32⟩
  | 37 => ⟨S1x4x8192, .f32⟩
  | 38 => ⟨S_, .f32⟩
  | 39 => ⟨S1x4x8192, .f32⟩
  | 40 => ⟨S_, .f32⟩
  | 41 => ⟨S1x4x8192, .f32⟩
  | 42 => ⟨S1x4x8192, .f32⟩
  | 43 => ⟨S1x4x8192, .f32⟩
  | 44 => ⟨S1x4x8192x1, .f32⟩
  | 45 => ⟨S1x4x8192x256, .f32⟩
  | 46 => ⟨S1x4x8192x256, .f32⟩
  | 47 => ⟨S1x4x8192x256, .f32⟩
  | 48 => ⟨S_, .f32⟩
  | 49 => ⟨S1x4x8192, .f32⟩
  | 50 => ⟨S1x4x8192x1, .f32⟩
  | 51 => ⟨S1x4x8192x256, .f32⟩
  | 52 => ⟨S1x4x8192x256, .f32⟩
  | 53 => ⟨S1x4x8192x1, .f32⟩
  | 54 => ⟨S_, .f32⟩
  | 55 => ⟨S1x4x8192x1, .f32⟩
  | 56 => ⟨S1x4x8192x1, .f32⟩
  | 57 => ⟨S1x4x64x8192, .f32⟩
  | 58 => ⟨S1x8192x4x64, .f32⟩
  | 59 => ⟨S1x8192x256, .f32⟩
  | 60 => ⟨S1x8192x1024, .f32⟩
  | 61 => ⟨S1x8192x1024, .f32⟩
  | 62 => ⟨S1x8192x1024, .f32⟩
  | 63 => ⟨S_, .f32⟩
  | 64 => ⟨S1x8192x1024, .f32⟩
  | 65 => ⟨S1x8192x1024, .f32⟩
  | 66 => ⟨S_, .f32⟩
  | 67 => ⟨S1x8192x1024, .f32⟩
  | 68 => ⟨S1x8192x1024, .f32⟩
  | 69 => ⟨S_, .f32⟩
  | 70 => ⟨S1x8192x1024, .f32⟩
  | 71 => ⟨S1x8192x1024, .f32⟩
  | 72 => ⟨S1x8192x1024, .f32⟩
  | 73 => ⟨S1x8192x1024, .f32⟩
  | 74 => ⟨S1x8192x1024, .f32⟩
  | 75 => ⟨S_, .f32⟩
  | 76 => ⟨S1x8192x1024, .f32⟩
  | 77 => ⟨S1x8192x1024, .f32⟩
  | 78 => ⟨S1x8192x1024, .f32⟩
  | 79 => ⟨S1x8192x1024, .f32⟩
  | 80 => ⟨S_, .f32⟩
  | 81 => ⟨S1x8192, .f32⟩
  | 82 => ⟨S1x8192x1, .f32⟩
  | 83 => ⟨S_, .f32⟩
  | 84 => ⟨S1x8192x1, .f32⟩
  | 85 => ⟨S1x8192x1, .f32⟩
  | 86 => ⟨S1x8192x1024, .f32⟩
  | 87 => ⟨S1x8192x1024, .f32⟩
  | 88 => ⟨S1x8192x1024, .f32⟩
  | 89 => ⟨S_, .f32⟩
  | 90 => ⟨S1x8192x1024, .f32⟩
  | 91 => ⟨S1x8192x1024, .f32⟩
  | 92 => ⟨S_, .f32⟩
  | 93 => ⟨S1x8192, .f32⟩
  | 94 => ⟨S1x8192x1, .f32⟩
  | 95 => ⟨S_, .f32⟩
  | 96 => ⟨S1x8192x1, .f32⟩
  | 97 => ⟨S1x8192x1, .f32⟩
  | 98 => ⟨S1x8192x1024, .f32⟩
  | 99 => ⟨S1x8192x1024, .f32⟩
  | 100 => ⟨S_, .f32⟩
  | 101 => ⟨S1x8192x1, .f32⟩
  | 102 => ⟨S1x8192x1, .f32⟩
  | 103 => ⟨S1x8192x1, .f32⟩
  | 104 => ⟨S1x8192x1, .f32⟩
  | 105 => ⟨S_, .f32⟩
  | 106 => ⟨S1x8192x1, .f32⟩
  | 107 => ⟨S1x8192x1, .f32⟩
  | 108 => ⟨S1x8192x1024, .f32⟩
  | 109 => ⟨S1x8192x1024, .f32⟩
  | 110 => ⟨S1x1x1024, .f32⟩
  | 111 => ⟨S1x8192x1024, .f32⟩
  | 112 => ⟨S1x8192x1024, .f32⟩
  | 113 => ⟨S1x1x1024, .f32⟩
  | 114 => ⟨S1x8192x1024, .f32⟩
  | 115 => ⟨S1x8192x1024, .f32⟩
  | 116 => ⟨S1x8192x1024, .f32⟩
  | 117 => ⟨S_, .f32⟩
  | 118 => ⟨S1x1024, .f32⟩
  | 119 => ⟨S1x1x1024, .f32⟩
  | 120 => ⟨S_, .f32⟩
  | 121 => ⟨S1024, .f32⟩
  | 122 => ⟨S1x8192x1024, .f32⟩
  | 123 => ⟨S_, .f32⟩
  | 124 => ⟨S1x1024, .f32⟩
  | 125 => ⟨S1x1x1024, .f32⟩
  | 126 => ⟨S1x8192x1024, .f32⟩
  | 127 => ⟨S1x8192x1024, .f32⟩
  | _ => ⟨S1x8192x768, .f32⟩

abbrev hbmTy0_1 (i : Nat) : BufTy := match i % 128 with
  | 0 => ⟨S_, .f32⟩
  | 1 => ⟨S1024, .f32⟩
  | 2 => ⟨S1x8192x1024, .f32⟩
  | 3 => ⟨S_, .f32⟩
  | 4 => ⟨S1x8192, .f32⟩
  | 5 => ⟨S1x8192x1, .f32⟩
  | 6 => ⟨S1x8192x1024, .f32⟩
  | 7 => ⟨S1x8192x1024, .f32⟩
  | 8 => ⟨S1x8192x1, .f32⟩
  | 9 => ⟨S1x8192x1024, .f32⟩
  | 10 => ⟨S_, .f32⟩
  | 11 => ⟨S1x8192, .f32⟩
  | 12 => ⟨S1x8192x1, .f32⟩
  | 13 => ⟨S_, .f32⟩
  | 14 => ⟨S1x8192x1, .f32⟩
  | 15 => ⟨S1x8192x1, .f32⟩
  | 16 => ⟨S_, .f32⟩
  | 17 => ⟨S8192, .f32⟩
  | 18 => ⟨S1x8192, .f32⟩
  | 19 => ⟨S1x8192x1024, .f32⟩
  | 20 => ⟨S1x8192x1024, .f32⟩
  | 21 => ⟨S1x8192x1024, .f32⟩
  | 22 => ⟨S_, .f32⟩
  | 23 => ⟨S1x8192, .f32⟩
  | 24 => ⟨S1x8192x1, .f32⟩
  | 25 => ⟨S1x8192x1024, .f32⟩
  | 26 => ⟨S1x8192x1, .f32⟩
  | 27 => ⟨S_, .f32⟩
  | 28 => ⟨S1x8192x1, .f32⟩
  | 29 => ⟨S1x8192x1, .f32⟩
  | 30 => ⟨S_, .f32⟩
  | 31 => ⟨S8192, .f32⟩
  | 32 => ⟨S1x8192, .f32⟩
  | 33 => ⟨S1x8192x1024, .f32⟩
  | 34 => ⟨S1x8192x1024, .f32⟩
  | 35 => ⟨S1024x1024, .f32⟩
  | 36 => ⟨S1024x1024, .f32⟩
  | 37 => ⟨S1x8192x1024, .f32⟩
  | 38 => ⟨S_, .f32⟩
  | 39 => ⟨S1x8192x1024, .f32⟩
  | 40 => ⟨S1x8192x1024, .f32⟩
  | 41 => ⟨S1x8192x1024, .f32⟩
  | 42 => ⟨S1x8192x1024, .f32⟩
  | 43 => ⟨S1x8192x1024, .f32⟩
  | 44 => ⟨S1x8192x1024, .f32⟩
  | 45 => ⟨S1x8192x1024, .f32⟩
  | 46 => ⟨S1x8192x1024, .f32⟩
  | 47 => ⟨S1x8192x768, .f32⟩
  | 48 => ⟨S1x8192x256, .f32⟩
  | 49 => ⟨S1x8192x4x64, .f32⟩
  | 50 => ⟨S1x4x64x8192, .f32⟩
  | 51 => ⟨S1x4x8192x256, .f32⟩
  | 52 => ⟨S1x4x64x256, .f32⟩
  | 53 => ⟨S1x256x4x64, .f32⟩
  | 54 => ⟨S1x4x8192x256, .f32⟩
  | 55 => ⟨S1x4x8192x256, .f32⟩
  | 56 => ⟨S1x4x8192x256, .f32⟩
  | 57 => ⟨S_, .f32⟩
  | 58 => ⟨S1x4x8192, .f32⟩
  | 59 => ⟨S1x4x8192x1, .f32⟩
  | 60 => ⟨S1x4x8192x1, .f32⟩
  | 61 => ⟨S1x4x8192x256, .f32⟩
  | 62 => ⟨S1x4x8192x256, .f32⟩
  | 63 => ⟨S_, .f32⟩
  | 64 => ⟨S4x8192, .f32⟩
  | 65 => ⟨S1x4x8192, .f32⟩
  | 66 => ⟨S1x4x8192x256, .f32⟩
  | 67 => ⟨S1x4x8192x256, .f32⟩
  | 68 => ⟨S1x4x8192x256, .f32⟩
  | 69 => ⟨S_, .f32⟩
  | 70 => ⟨S1x4x8192x256, .f32⟩
  | 71 => ⟨S1x4x8192x256, .f32⟩
  | 72 => ⟨S1x4x256x64, .f32⟩
  | 73 => ⟨S1x256x4x64, .f32⟩
  | 74 => ⟨S1x4x8192x64, .f32⟩
  | 75 => ⟨S1x8192x4x64, .f32⟩
  | 76 => ⟨S1x256x1x4x64, .f32⟩
  | 77 => ⟨S_, .f32⟩
  | 78 => ⟨S1x256x2x4x64, .f32⟩
  | 79 => ⟨S1x256x1x4x64, .f32⟩
  | 80 => ⟨S_, .f32⟩
  | 81 => ⟨S1x256x2x4x64, .f32⟩
  | 82 => ⟨S1x256x2x4x64, .f32⟩
  | 83 => ⟨S1x8192x256, .f32⟩
  | 84 => ⟨S1x256x512, .f32⟩
  | 85 => ⟨S1x8192x768, .f32⟩
  | 86 => ⟨S8192x6x2x64, .f32⟩
  | 87 => ⟨S_, .f32⟩
  | 88 => ⟨S8192x6x2, .f32⟩
  | 89 => ⟨S6x8192x2, .f32⟩
  | 90 => ⟨S8192x1024, .f32⟩
  | 91 => ⟨S8192x768, .f32⟩
  | 92 => ⟨S8192x768, .f32⟩
  | 93 => ⟨S768x8192, .f32⟩
  | 94 => ⟨S8192x1024, .f32⟩
  | 95 => ⟨S8192x256, .f32⟩
  | 96 => ⟨S256x512, .f32⟩
  | 97 => ⟨S1x1024, .f32⟩
  | 98 => ⟨S1x1024, .f32⟩
  | _ => ⟨S1x8192x768, .f32⟩

abbrev hbmTy (i : Nat) : BufTy := match i / 128 with
  | 0 => hbmTy0_0 i
  | 1 => hbmTy0_1 i
  | _ => ⟨S1x8192x768, .f32⟩

abbrev bufTy : (tb : Table) → Fin (tcTables nBuf tb) → BufTy
  | .hbm, ⟨i, _⟩ => hbmTy i
  | _, _ => ⟨S1x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_v41_2 : Ref sig .tc := ⟨.hbm, 68, rfl⟩
abbrev main_call0_cst_1 : Ref sig .tc := ⟨.hbm, 69, rfl⟩
abbrev main_call0_v6 : Ref sig .tc := ⟨.hbm, 70, rfl⟩
abbrev main_call0_v7 : Ref sig .tc := ⟨.hbm, 71, rfl⟩
abbrev main_v41_1 : Ref sig .tc := ⟨.hbm, 72, rfl⟩
abbrev main_v41_0 : Ref sig .tc := ⟨.hbm, 73, rfl⟩
abbrev main_v42 : Ref sig .tc := ⟨.hbm, 74, rfl⟩
abbrev main_cst_10 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_11 : Ref sig .tc := ⟨.hbm, 80, rfl⟩
abbrev main_v47 : Ref sig .tc := ⟨.hbm, 81, rfl⟩
abbrev main_v48 : Ref sig .tc := ⟨.hbm, 82, rfl⟩
abbrev main_cst_12 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_13 : Ref sig .tc := ⟨.hbm, 89, rfl⟩
abbrev main_v54 : Ref sig .tc := ⟨.hbm, 90, rfl⟩
abbrev main_v55 : Ref sig .tc := ⟨.hbm, 91, rfl⟩
abbrev main_cst_14 : Ref sig .tc := ⟨.hbm, 92, rfl⟩
abbrev main_v56 : Ref sig .tc := ⟨.hbm, 93, rfl⟩
abbrev main_v57 : Ref sig .tc := ⟨.hbm, 94, rfl⟩
abbrev main_cst_15 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_16 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_17 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_18 : Ref sig .tc := ⟨.hbm, 117, rfl⟩
abbrev main_v77 : Ref sig .tc := ⟨.hbm, 118, rfl⟩
abbrev main_v78 : Ref sig .tc := ⟨.hbm, 119, rfl⟩
abbrev main_cst_19 : Ref sig .tc := ⟨.hbm, 120, rfl⟩
abbrev main_v79 : Ref sig .tc := ⟨.hbm, 121, rfl⟩
abbrev main_v80 : Ref sig .tc := ⟨.hbm, 122, rfl⟩
abbrev main_cst_20 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_21 : Ref sig .tc := ⟨.hbm, 128, rfl⟩
abbrev main_v85 : Ref sig .tc := ⟨.hbm, 129, rfl⟩
abbrev main_v86 : Ref sig .tc := ⟨.hbm, 130, rfl⟩
abbrev main_cst_22 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_23 : Ref sig .tc := ⟨.hbm, 138, rfl⟩
abbrev main_v93 : Ref sig .tc := ⟨.hbm, 139, rfl⟩
abbrev main_v94 : Ref sig .tc := ⟨.hbm, 140, rfl⟩
abbrev main_cst_24 : Ref sig .tc := ⟨.hbm, 141, rfl⟩
abbrev main_v95 : Ref sig .tc := ⟨.hbm, 142, rfl⟩
abbrev main_v96 : Ref sig .tc := ⟨.hbm, 143, rfl⟩
abbrev main_cst_25 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_cst_26 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_cst_27 : Ref sig .tc := ⟨.hbm, 155, rfl⟩
abbrev main_v106 : Ref sig .tc := ⟨.hbm, 156, rfl⟩
abbrev main_v107 : Ref sig .tc := ⟨.hbm, 157, rfl⟩
abbrev main_cst_28 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_cst_29 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_call1_v0 : Ref sig .tc := ⟨.hbm, 171, rfl⟩
abbrev main_call1_v1 : Ref sig .tc := ⟨.hbm, 172, rfl⟩
abbrev main_call1_v2 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_cst_30 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_cst_31 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_cst_32 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_cst_33 : Ref sig .tc := ⟨.hbm, 205, rfl⟩
abbrev main_v147 : Ref sig .tc := ⟨.hbm, 206, rfl⟩
abbrev main_v148 : Ref sig .tc := ⟨.hbm, 207, rfl⟩
abbrev main_cst_34 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_cst_35 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩

abbrev nD : Nat := 1
abbrev τ : Topo := Topo.v7x

variable {F : FTy → Type} [FloatOps F]
-- ==== Proof.Core.lean ====
/-
Extended reals that are reals: what the kernels' and the reference's operations give at arguments that are
coercions of real numbers, and the constants of the programs as reals.
-/
module

public import Idealize.ShloMosaic.Lib.Pipeline.ValueKit

@[expose] public section

noncomputable section

open Idealize.ShloMosaic

namespace Cert.Core

/-! ## Sums, quotients and maxima of reals -/

/-- A finite sum of coercions is the coercion of the sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of reals whose divisor is not zero. -/
theorem div_real (x : ℝ) {y : ℝ} (hy : y ≠ 0) : Ideal.div (x : EReal) (y : EReal) = ((x / y : ℝ) : EReal) := by
  rw [Ideal.div_coe hy, ← EReal.coe_mul, mul_one_div]

/-- The reciprocal square root of a positive real. -/
theorem rsqrt_real {x : ℝ} (hx : 0 < x) : Ideal.rsqrt (x : EReal) = (((√x)⁻¹ : ℝ) : EReal) := by
  rw [Ideal.rsqrt_coe, if_neg (not_lt.mpr hx.le), if_neg hx.ne']

/-- The larger of two reals. -/
theorem max_real (x y : ℝ) : max (x : EReal) (y : EReal) = ((max x y : ℝ) : EReal) :=
  (EReal.coe_strictMono.monotone.map_max).symm

/-- The maximum of finitely many reals, at least one, is a real. -/
theorem fold_max_real {n : ℕ} (f : Fin (n + 1) → ℝ) :
    ∃ M : ℝ, Finset.univ.fold max (⊥ : EReal) (fun j => ((f j : ℝ) : EReal)) = (M : EReal) := by
  classical
  have h : ∀ s : Finset (Fin (n + 1)), s.Nonempty →
      ∃ M : ℝ, s.fold max (⊥ : EReal) (fun j => ((f j : ℝ) : EReal)) = (M : EReal) := by
    intro s hs
    induction hs using Finset.Nonempty.cons_induction with
    | singleton a => exact ⟨f a, by simp⟩
    | cons a s ha hs ih =>
      obtain ⟨M, hM⟩ := ih
      exact ⟨max (f a) M, by rw [Finset.fold_cons, hM, max_real]⟩
  exact h Finset.univ Finset.univ_nonempty

/-- A choice between two reals is a real. -/
theorem ite_real (p : Prop) [Decidable p] (x y : ℝ) :
    (if p then (x : EReal) else (y : EReal)) = ((if p then x else y : ℝ) : EReal) := by
  split <;> rfl

/-! ## The programs' constants -/

theorem bits_neg_inf : Ideal.ofBits .f32 0xFF800000#32 = (⊥ : EReal) := by
  simp [Ideal.ofBits, Ideal.ieee]

theorem bits_eighth : Ideal.ofBits .f32 0x3E000000#32 = (((1 : ℝ) / 8 : ℝ) : EReal) := by
  simp [Ideal.ofBits, Ideal.ieee, -EReal.coe_mul]; norm_num

theorem bits_eight : Ideal.ofBits .f32 0x41000000#32 = ((8 : ℝ) : EReal) := by
  simp [Ideal.ofBits, Ideal.ieee, -EReal.coe_mul]; norm_num

theorem bits_half : Ideal.ofBits .f32 0x3F000000#32 = (((1 : ℝ) / 2 : ℝ) : EReal) := by
  simp [Ideal.ofBits, Ideal.ieee, -EReal.coe_mul]; norm_num

theorem bits_one : Ideal.ofBits .f32 0x3F800000#32 = ((1 : ℝ) : EReal) := by
  rw [Ideal.ofBits_one_f32, EReal.coe_one]

theorem bits_zero : Ideal.ofBits .f32 0x00000000#32 = ((0 : ℝ) : EReal) := by
  rw [Ideal.ofBits_zero_f32, EReal.coe_zero]

theorem bits_two : Ideal.ofBits .f32 0x40000000#32 = ((2 : ℝ) : EReal) := by
  simp [Ideal.ofBits, Ideal.ieee, -EReal.coe_mul]; norm_num

theorem bits_neg_half : Ideal.ofBits .f32 0xBF000000#32 = ((-(1 / 2) : ℝ) : EReal) := by
  simp [Ideal.ofBits, Ideal.ieee, -EReal.coe_mul, -EReal.coe_neg]; norm_num

theorem bits_1024 : Ideal.ofBits .f32 0x44800000#32 = ((1024 : ℝ) : EReal) := by
  simp [Ideal.ofBits, Ideal.ieee, -EReal.coe_mul]; norm_num

theorem bits_1024th : Ideal.ofBits .f32 0x3A800000#32 = (((1 : ℝ) / 1024 : ℝ) : EReal) := by
  simp [Ideal.ofBits, Ideal.ieee, -EReal.coe_mul]; norm_num

/-- The residual weight of the deep-norm layer, as the programs write it (the f32 nearest to √2). -/
def alpha : ℝ := 11863283 / 8388608

theorem bits_alpha : Ideal.ofBits .f32 0x3FB504F3#32 = ((alpha : ℝ) : EReal) := by
  simp [Ideal.ofBits, Ideal.ieee, -EReal.coe_mul, alpha]; norm_num

/-- The layer norm's epsilon, as the programs write it (the f32 nearest to 10⁻⁶). -/
def eps : ℝ := 8796093 / 8796093022208

theorem bits_eps : Ideal.ofBits .f32 0x358637BD#32 = ((eps : ℝ) : EReal) := by
  simp [Ideal.ofBits, Ideal.ieee, -EReal.coe_mul, eps]; norm_num

theorem eps_pos : 0 < eps := by norm_num [eps]

end Cert.Core

end
-- ==== Proof.Finite.lean ====
/-
The precondition read at an element: an argument whose every element has a finite magnitude holds real numbers.
-/
module

public import proofs.«01_k».proof.Defs
public import proofs.«01_k».proof.Proof.Core
public import Idealize.ShloMosaic.Lib.ReduceAll
public import Idealize.ShloMosaic.Lib.IdealHost

@[expose] public section

noncomputable section

namespace Cert.Finite

open Idealize.ShloMosaic Idealize.SL.Sem

theorem bits_inf : Ideal.ofBits .f32 0x7F800000#32 = ⊤ := by simp [Ideal.ofBits, Ideal.ieee]

/-- An extended real of magnitude below infinity is a real. -/
theorem real_of_abs (x : EReal) (h : max x (-x) < ⊤) : x = ((x.toReal : ℝ) : EReal) := by
  induction x with
  | bot => simp at h
  | top => simp at h
  | coe r => rfl

/-- The finiteness test of one array, and what it says of an element. -/
theorem all_real {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (j : (⟨0, ![]⟩ : Shape).Idx)
    (e : Host.reduce IntOp.andi (cmpf .olt (Host.absf x) (broadcastInDim s ![] hb (constant ⟨0, ![]⟩ .f32 0x7F800000#32)))
      (constantI ⟨0, ![]⟩ 1 1#1) hr hu j = 1#1) (i : s.Idx) : x i = (((x i : EReal).toReal : ℝ) : EReal) := by
  have : Subsingleton (⟨0, ![]⟩ : Shape).Idx := ⟨fun a b => funext fun k => k.elim0⟩
  have h := Host.reduce_andi_all _ _ hr hu j e i
  refine real_of_abs (x i) ?_
  have h2 : Ideal.cmp .olt (max (x i : EReal) (-(x i : EReal))) (Ideal.ofBits .f32 0x7F800000#32) = 1#1 := by
    rw [← h]
    show _ = FloatOps.cmpf .olt (Host.absf x i) (broadcastInDim s ![] hb (constant ⟨0, ![]⟩ .f32 0x7F800000#32) i)
    rw [ValueIdx.broadcastInDim_scalar_apply]
    rfl
  rw [bits_inf] at h2
  by_contra hn
  rw [show Ideal.cmp .olt (max (x i : EReal) (-(x i : EReal))) ⊤ = BitVec.ofBool (decide (max (x i : EReal) (-(x i : EReal)) < ⊤)) from rfl,
    decide_eq_false hn] at h2
  exact absurd h2 (by decide)

theorem facts : Cert.Pre_finite.Facts := by constructor <;> decide

/-- The precondition says that every element of every argument is a real. -/
theorem reals [Cert.Pre_finite.Facts] {x0 x1 x2 x3 x4 x5 x6 x7 x8} (h : Cert.Pre_finite.fn (F := Ideal) x0 x1 x2 x3 x4 x5 x6 x7 x8 = fun _ => 1#1) :
    (∀ i, x0 i = (((x0 i : EReal).toReal : ℝ) : EReal)) ∧ (∀ i, x1 i = (((x1 i : EReal).toReal : ℝ) : EReal))
      ∧ (∀ i, x2 i = (((x2 i : EReal).toReal : ℝ) : EReal)) ∧ (∀ i, x3 i = (((x3 i : EReal).toReal : ℝ) : EReal))
      ∧ (∀ i, x4 i = (((x4 i : EReal).toReal : ℝ) : EReal)) ∧ (∀ i, x5 i = (((x5 i : EReal).toReal : ℝ) : EReal))
      ∧ (∀ i, x6 i = (((x6 i : EReal).toReal : ℝ) : EReal)) ∧ (∀ i, x7 i = (((x7 i : EReal).toReal : ℝ) : EReal))
      ∧ (∀ i, x8 i = (((x8 i : EReal).toReal : ℝ) : EReal)) := by
  have h0 := congrFun h ValueIdx.ix0
  unfold Cert.Pre_finite.fn Cert.Pre_finite.fn_part1 Cert.Pre_finite.fn_part2 at h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨all_real _ _ _ _ _ h0, all_real _ _ _ _ _ h1, all_real _ _ _ _ _ h2, all_real _ _ _ _ _ h3, all_real _ _ _ _ _ h4,
    all_real _ _ _ _ _ h5, all_real _ _ _ _ _ h6, all_real _ _ _ _ _ h7, all_real _ _ _ _ _ h8⟩

end Cert.Finite
-- ==== Proof.Model.lean ====
/-
The last layer of the step as functions of real numbers, one row (token) at a time: attention to the memory
slots, the SiLU gate, the output projection, the deep-norm residual and its layer norm, the mean squared error
of the normalised row, and the gradient of that error with respect to every argument.
-/
module

public import proofs.«01_k».proof.Proof.Core

@[expose] public section

noncomputable section

namespace Cert.Model

open Cert.Core

/-- Softmax of finitely many reals. -/
def softmax {n : ℕ} (s : Fin n → ℝ) (j : Fin n) : ℝ := Real.exp (s j) / ∑ i, Real.exp (s i)

/-- Softmax does not see a shift of its arguments. -/
theorem softmax_shift {n : ℕ} (s : Fin n → ℝ) (M : ℝ) (j : Fin n) :
    Real.exp (s j - M) / ∑ i, Real.exp (s i - M) = softmax s j := by
  have h : ∀ i, Real.exp (s i - M) = Real.exp (s i) * Real.exp (-M) := fun i => by rw [← Real.exp_add]; rfl
  simp only [h, ← Finset.sum_mul, softmax]
  rw [mul_div_mul_right _ _ (Real.exp_pos _).ne']

theorem sum_exp_pos {n : ℕ} (s : Fin (n + 1) → ℝ) : 0 < ∑ i, Real.exp (s i) :=
  Finset.sum_pos (fun _ _ => Real.exp_pos _) Finset.univ_nonempty

/-- The layer's parameters: the memory's keys (columns 0–255) and values (256–511), the output projection, and
the layer norm's scale and shift. -/
structure Params where
  kv : Fin 256 → Fin 512 → ℝ
  w : Fin 1024 → Fin 1024 → ℝ
  g : Fin 1024 → ℝ
  b : Fin 1024 → ℝ

/-- What the layer reads of one token. -/
structure Row where
  tok : Fin 768 → ℝ
  gate : Fin 1024 → ℝ
  qm : Fin 256 → ℝ
  h : Fin 1024 → ℝ
  tgt : Fin 1024 → ℝ

/-- All the layer reads: its parameters and the 8192 tokens. -/
structure Input where
  par : Params
  row : Fin 8192 → Row

/-- The head of a feature of the memory attention. -/
def hd (c : Fin 256) : Fin 4 := ⟨c.val / 64, by omega⟩
/-- The feature `d` of head `a`. -/
def col (a : Fin 4) (d : Fin 64) : Fin 256 := ⟨64 * a.val + d.val, by omega⟩
/-- Where a feature of the keys stands in the memory's columns. -/
def kcol (c : Fin 256) : Fin 512 := ⟨c.val, by omega⟩
/-- Where a feature of the values stands in the memory's columns. -/
def vcol (c : Fin 256) : Fin 512 := ⟨256 + c.val, by omega⟩
/-- Where a feature of the token mixer stands in the concatenated row. -/
def tcol (c : Fin 768) : Fin 1024 := ⟨c.val, by omega⟩
/-- Where a feature of the memory attention stands in the concatenated row. -/
def mcol (c : Fin 256) : Fin 1024 := ⟨768 + c.val, by omega⟩

section
variable (W : Params) (x : Row)

/-! ## Forward -/

def score (a : Fin 4) (m : Fin 256) : ℝ := (∑ d : Fin 64, x.qm (col a d) * W.kv m (kcol (col a d))) * (1 / 8)
def prob (a : Fin 4) (m : Fin 256) : ℝ := softmax (score W x a) m
def mo (c : Fin 256) : ℝ := ∑ m, prob W x (hd c) m * W.kv m (vcol c)
def cat (c : Fin 1024) : ℝ := if h : c.val < 768 then x.tok ⟨c.val, h⟩ else mo W x ⟨c.val - 768, by omega⟩
def sg (c : Fin 1024) : ℝ := (1 + Real.exp (-x.gate c))⁻¹
def sl (c : Fin 1024) : ℝ := x.gate c * sg x c
def y (c : Fin 1024) : ℝ := cat W x c * sl x c
def res (k : Fin 1024) : ℝ := alpha * x.h k + ∑ c, y W x c * W.w c k
def mu : ℝ := (∑ k, res W x k) / 1024
def xc (k : Fin 1024) : ℝ := res W x k - mu W x
def var : ℝ := (∑ k, xc W x k * xc W x k) / 1024
def rstd : ℝ := (√(var W x + eps))⁻¹
def xh (k : Fin 1024) : ℝ := xc W x k * rstd W x
def diff (k : Fin 1024) : ℝ := xh W x k * W.g k + W.b k - x.tgt k
def loss : ℝ := (∑ k, diff W x k * diff W x k) / 1024

/-! ## Gradient -/

def dh (k : Fin 1024) : ℝ := diff W x k * (1 / 1024)
def dxh (k : Fin 1024) : ℝ := dh W x k * W.g k
def dr (k : Fin 1024) : ℝ :=
  rstd W x * (dxh W x k - (∑ j, dxh W x j) / 1024 - xh W x k * ((∑ j, dxh W x j * xh W x j) / 1024))
def dy (c : Fin 1024) : ℝ := ∑ k, dr W x k * W.w c k
def dcat (c : Fin 1024) : ℝ := dy W x c * sl x c
def dgate (c : Fin 1024) : ℝ := dy W x c * cat W x c * (sg x c * (1 + x.gate c * (1 - sg x c)))
def dmo (c : Fin 256) : ℝ := dcat W x (mcol c)
def dp (a : Fin 4) (m : Fin 256) : ℝ := ∑ d : Fin 64, dmo W x (col a d) * W.kv m (vcol (col a d))
def ds (a : Fin 4) (m : Fin 256) : ℝ :=
  prob W x a m * (dp W x a m - ∑ n, dp W x a n * prob W x a n) * (1 / 8)
def dqm (c : Fin 256) : ℝ := ∑ m, ds W x (hd c) m * W.kv m (kcol c)
def dkv (m : Fin 256) (j : Fin 512) : ℝ :=
  if h : j.val < 256 then ds W x (hd ⟨j.val, h⟩) m * x.qm ⟨j.val, h⟩
  else prob W x (hd ⟨j.val - 256, by omega⟩) m * dmo W x ⟨j.val - 256, by omega⟩

/-! ## Facts -/

theorem var_nonneg : 0 ≤ var W x :=
  div_nonneg (Finset.sum_nonneg fun _ _ => mul_self_nonneg _) (by norm_num)

theorem var_eps_pos : 0 < var W x + eps := add_pos_of_nonneg_of_pos (var_nonneg W x) eps_pos

theorem one_add_exp_ne (t : ℝ) : 1 + Real.exp t ≠ 0 := (add_pos one_pos (Real.exp_pos t)).ne'

/-- The centred row sums to zero. -/
theorem sum_xc : ∑ k, xc W x k = 0 := by
  simp only [xc, mu, Finset.sum_sub_distrib, Finset.sum_const, Finset.card_univ, Fintype.card_fin, nsmul_eq_mul]
  push_cast; ring

/-- The square root behind the reciprocal standard deviation. -/
theorem rstd_sq : rstd W x * rstd W x = (var W x + eps)⁻¹ := by
  rw [rstd, ← mul_inv, Real.mul_self_sqrt (var_eps_pos W x).le]

end

/-! ## Sums over one head's lanes of a pair of heads -/

/-- A sum over 128 lanes that keeps the lower 64. -/
theorem sum_lo (f : Fin 128 → ℝ) :
    ∑ l : Fin 128, (if l.val < 64 then f l else 0) = ∑ d : Fin 64, f ⟨d.val, by omega⟩ := by
  rw [show (∑ l : Fin 128, if l.val < 64 then f l else 0) = ∑ l : Fin (64 + 64), if l.val < 64 then f l else 0 from rfl,
    Fin.sum_univ_add]
  have h1 : ∀ i : Fin 64, (if (Fin.castAdd 64 i).val < 64 then f (Fin.castAdd 64 i) else 0) = f ⟨i.val, by omega⟩ :=
    fun i => if_pos i.isLt
  have h2 : ∀ i : Fin 64, (if (Fin.natAdd 64 i).val < 64 then f (Fin.natAdd 64 i) else 0) = 0 :=
    fun i => if_neg (by simp)
  simp only [h1, h2, Finset.sum_const_zero, add_zero]

/-- A sum over 128 lanes that keeps the upper 64. -/
theorem sum_hi (f : Fin 128 → ℝ) :
    ∑ l : Fin 128, (if 64 ≤ l.val then f l else 0) = ∑ d : Fin 64, f ⟨64 + d.val, by omega⟩ := by
  rw [show (∑ l : Fin 128, if 64 ≤ l.val then f l else 0) = ∑ l : Fin (64 + 64), if 64 ≤ l.val then f l else 0 from rfl,
    Fin.sum_univ_add]
  have h1 : ∀ i : Fin 64, (if 64 ≤ (Fin.castAdd 64 i).val then f (Fin.castAdd 64 i) else 0) = 0 :=
    fun i => if_neg (by simp)
  have h2 : ∀ i : Fin 64, (if 64 ≤ (Fin.natAdd 64 i).val then f (Fin.natAdd 64 i) else 0) = f ⟨64 + i.val, by omega⟩ :=
    fun i => if_pos (by simp)
  simp only [h1, h2, Finset.sum_const_zero, zero_add]

end Cert.Model
-- ==== Proof.Heads.lean ====
/-
One head of the memory attention inside a pair of heads, as the kernel computes it on a block of 512 rows: the
probabilities from the masked queries, and the gradient of the scores from the masked cotangent.
-/
module

public import proofs.«01_k».proof.Proof.Model
public import proofs.«01_k».proof.Proof.Gen.KernelIdeal.Value

@[expose] public section

set_option maxRecDepth 16384

noncomputable section

open Idealize.ShloMosaic
open Cert.KernelIdeal Cert.KernelIdeal.Gen

namespace Cert.Heads

open Cert.Core Cert.Model

/-! ## Masks -/

theorem word_slt : ∀ l : Fin 128, IntOp.cmpi .slt (BitVec.ofNat 32 l.val) 64#32 = if l.val < 64 then 1#1 else 0#1 := by
  decide +kernel

theorem word_sge : ∀ l : Fin 128, IntOp.cmpi .sge (BitVec.ofNat 32 l.val) 64#32 = if 64 ≤ l.val then 1#1 else 0#1 := by
  decide +kernel

theorem word_slt_nat {l : ℕ} (h : l < 128) :
    IntOp.cmpi .slt (BitVec.ofNat 32 l) 64#32 = if l < 64 then 1#1 else 0#1 := word_slt ⟨l, h⟩

theorem word_sge_nat {l : ℕ} (h : l < 128) :
    IntOp.cmpi .sge (BitVec.ofNat 32 l) 64#32 = if 64 ≤ l then 1#1 else 0#1 := word_sge ⟨l, h⟩

/-- The two heads of a pair add up lane by lane, each being zero on the other's lanes. -/
theorem sum_pair (l : ℕ) {n : ℕ} (A B : Fin n → ℝ) :
    (∑ r, if l < 64 then A r else 0) + (∑ r, if 64 ≤ l then B r else 0) = ∑ r, if l < 64 then A r else B r := by
  by_cases h : l < 64
  · simp only [if_pos h, if_neg (not_le.mpr h), Finset.sum_const_zero, add_zero]
  · simp only [if_neg h, if_pos (not_lt.mp h), Finset.sum_const_zero, zero_add]

theorem lo_read (r : Fin 512) (l : Fin 128) : k0_pay63 (ix2 r l) = if l.val < 64 then 1#1 else 0#1 := by
  pointwise [k0_pay63]; exact word_slt l

theorem hi_read (r : Fin 512) (l : Fin 128) : k0_pay69 (ix2 r l) = if 64 ≤ l.val then 1#1 else 0#1 := by
  pointwise [k0_pay69]; exact word_sge l

/-- A choice by a decoded mask. -/
theorem select_ite {α : Type} (p : Prop) [Decidable p] (a b : α) :
    Scalar.select (if p then 1#1 else 0#1) a b = if p then a else b := by
  by_cases h : p <;> simp [Scalar.select, h]

/-! ## Probabilities -/

/-- Softmax of one head's scaled scores, the queries of the other head of the pair masked to zero. -/
def headP (mk : IVec S512x128 1) (qp : FVec Ideal S512x128 .bf16) (kp : FVec Ideal S256x128 .bf16) :
    FVec Ideal S512x256 .f32 :=
  let sc := mulf (matmul dot_S512x128_S256x128_S512x256_1_1_0_0_n_n none
    (select mk qp (broadcast S512x128 (Scalar.ofBits .bf16 0x0000#16))) kp (constant S512x256 .f32 0x00000000#32))
    (broadcast S512x256 (Scalar.ofBits .f32 0x3E000000#32))
  let e := exp (subf sc (broadcastTo S512x256 (shapeCast S512x1
    (multiReduction .maximumf [1] S512 sc 0xFF800000#32 reduces_S512x256_S512 (.inl rfl) rfl)
    shapeCasts_S512_S512x1) broadcasts_S512x1_S512x256))
  divf e (broadcastTo S512x256 (shapeCast S512x1
    (multiReduction .add [1] S512 e 0x00000000#32 reduces_S512x256_S512 (.inl rfl) rfl)
    shapeCasts_S512_S512x1) broadcasts_S512x1_S512x256)

theorem headP_read {mk : IVec S512x128 1} {qp : FVec Ideal S512x128 .bf16} {kp : FVec Ideal S256x128 .bf16}
    {P : Fin 128 → Prop} [DecidablePred P] {q : Fin 512 → Fin 128 → ℝ} {k : Fin 256 → Fin 128 → ℝ}
    (hm : ∀ (r : Fin 512) (l : Fin 128), mk (ix2 r l) = if P l then 1#1 else 0#1)
    (hq : ∀ r l, qp (ix2 r l) = ((q r l : ℝ) : EReal)) (hk : ∀ m l, kp (ix2 m l) = ((k m l : ℝ) : EReal))
    (r : Fin 512) (m : Fin 256) :
    headP mk qp kp (ix2 r m) =
      ((softmax (fun n => (∑ l, if P l then q r l * k n l else 0) * (1 / 8)) m : ℝ) : EReal) := by
  pointwise [headP]
  simp only [hm, hq, hk, select_ite, bits_eighth, bits_neg_inf, ← EReal.coe_mul, ← EReal.coe_zero, ite_real, coe_sum]
  obtain ⟨M, hM⟩ := fold_max_real fun n : Fin (255 + 1) => (∑ l, if P l then q r l * k n l else 0) * (1 / 8)
  rw [hM]
  simp only [← EReal.coe_sub, Ideal.exp_coe, coe_sum]
  rw [div_real _ (sum_exp_pos (n := 255) _).ne']
  exact congrArg _ (softmax_shift (fun n => (∑ l, if P l then q r l * k n l else 0) * (1 / 8)) M m)

/-! ## The gradient of the scores -/

/-- The softmax gradient of one head's scaled scores, from the masked cotangent of the head's output. -/
def headDs (p : FVec Ideal S512x256 .f32) (dob : FVec Ideal S512x128 .bf16) (vp : FVec Ideal S256x128 .bf16) :
    FVec Ideal S512x256 .bf16 :=
  let d := matmul dot_S512x128_S256x128_S512x256_1_1_0_0_n_n none dob vp (constant S512x256 .f32 0x00000000#32)
  truncf .bf16 (mulf (mulf p (subf d (broadcastTo S512x256 (shapeCast S512x1
    (multiReduction .add [1] S512 (mulf d p) 0x00000000#32 reduces_S512x256_S512 (.inl rfl) rfl)
    shapeCasts_S512_S512x1) broadcasts_S512x1_S512x256))) (broadcast S512x256 (Scalar.ofBits .f32 0x3E000000#32)))
    bitsLt_bf16_f32

theorem headDs_read {p : FVec Ideal S512x256 .f32} {dob : FVec Ideal S512x128 .bf16} {vp : FVec Ideal S256x128 .bf16}
    {q : Fin 512 → Fin 256 → ℝ} {d : Fin 512 → Fin 128 → ℝ} {v : Fin 256 → Fin 128 → ℝ}
    (hp : ∀ r m, p (ix2 r m) = ((q r m : ℝ) : EReal)) (hd : ∀ r l, dob (ix2 r l) = ((d r l : ℝ) : EReal))
    (hv : ∀ m l, vp (ix2 m l) = ((v m l : ℝ) : EReal)) (r : Fin 512) (m : Fin 256) :
    headDs p dob vp (ix2 r m) = ((q r m * ((∑ l, d r l * v m l) - ∑ n, (∑ l, d r l * v n l) * q r n) * (1 / 8) : ℝ) : EReal) := by
  pointwise [headDs]
  simp only [hp, hd, hv, bits_eighth, ← EReal.coe_mul, coe_sum, ← EReal.coe_sub]

end Cert.Heads
-- ==== Proof.Block.lean ====
/-
One block of 512 rows of the kernel: the arrays its body computes from the nine blocks it reads, and their values
where those blocks hold real numbers.
-/
module

public import proofs.«01_k».proof.Proof.Heads

@[expose] public section

set_option maxRecDepth 16384

noncomputable section

open Idealize.ShloMosaic
open Cert.KernelIdeal Cert.KernelIdeal.Gen

namespace Cert.Block

open Cert.Core Cert.Model Cert.Heads

/-- The nine blocks one point of the grid reads. -/
structure Ins where
  tok : Vec Ideal S512x768 .f32
  gate : Vec Ideal S512x1024 .f32
  qm : Vec Ideal S512x256 .bf16
  kv : Vec Ideal S256x512 .bf16
  w : Vec Ideal S1024x1024 .bf16
  h : Vec Ideal S512x1024 .f32
  g : Vec Ideal S1x1024 .f32
  b : Vec Ideal S1x1024 .f32
  tgt : Vec Ideal S512x1024 .f32

/-- The blocks hold the parameters `W` and the rows `X`. -/
structure Holds (I : Ins) (W : Params) (X : Fin 512 → Row) : Prop where
  tok : ∀ r c, I.tok (ix2 r c) = (((X r).tok c : ℝ) : EReal)
  gate : ∀ r c, I.gate (ix2 r c) = (((X r).gate c : ℝ) : EReal)
  qm : ∀ r c, I.qm (ix2 r c) = (((X r).qm c : ℝ) : EReal)
  kv : ∀ r c, I.kv (ix2 r c) = ((W.kv r c : ℝ) : EReal)
  w : ∀ r c, I.w (ix2 r c) = ((W.w r c : ℝ) : EReal)
  h : ∀ r c, I.h (ix2 r c) = (((X r).h c : ℝ) : EReal)
  g : ∀ r c, I.g (ix2 r c) = ((W.g c : ℝ) : EReal)
  b : ∀ r c, I.b (ix2 r c) = ((W.b c : ℝ) : EReal)
  tgt : ∀ r c, I.tgt (ix2 r c) = (((X r).tgt c : ℝ) : EReal)

/-! ## The body's arrays -/

/-- The lane number. -/
abbrev lane : IVec S512x128 32 := iota .tc S512x128 32 [1] iota_S512x128_d1_w32

section
variable (I : Ins)

abbrev gate' := k0_pay10 I.gate
abbrev qm' := k0_pay11 I.qm
abbrev kv' := k0_pay12 I.kv
abbrev w' := k0_pay13 I.w
abbrev g' := k0_pay14 I.g
abbrev tok' := k0_pay15 I.tok
abbrev h' := k0_pay16 I.h
abbrev b' := k0_pay17 I.b
abbrev q0 := k0_pay18 I.qm
abbrev k0 := k0_pay19 I.kv
abbrev u0 := k0_pay20 I.kv
abbrev e0 := k0_pay21 I.qm I.kv
abbrev p0 := k0_pay22 (e0 I)
abbrev p1 := k0_pay23 lane (q0 I) (k0 I)
abbrev mo0 := k0_pay24 lane (q0 I) (k0 I) (u0 I) (e0 I)
abbrev q1 := k0_pay25 (qm' I)
abbrev k1 := k0_pay26 (kv' I)
abbrev u1 := k0_pay27 (kv' I)
abbrev e2 := k0_pay28 (qm' I) (kv' I) lane
abbrev z2 := k0_pay29 (qm' I) (kv' I) lane
abbrev p2 := k0_pay30 (e2 I) (z2 I)
abbrev p3 := k0_pay31 lane (q1 I) (k1 I)
abbrev cat' := k0_pay32 (tok' I) lane (mo0 I) (q1 I) (k1 I) (u1 I) (e2 I) (z2 I)
abbrev sg' := k0_pay33 (gate' I)
abbrev sl' := k0_pay34 (gate' I)
abbrev y' := k0_pay35 (gate' I) (tok' I) lane (mo0 I) (q1 I) (k1 I) (u1 I) (e2 I) (z2 I)
abbrev xc' := k0_pay36 (gate' I) (w' I) (tok' I) (h' I) lane (mo0 I) (q1 I) (k1 I) (u1 I) (e2 I) (z2 I)
abbrev sq' := k0_pay37 (gate' I) (w' I) (tok' I) (h' I) lane (mo0 I) (q1 I) (k1 I) (u1 I) (e2 I) (z2 I)
abbrev n' : FVec Ideal S512x1 .f32 := k0_pay38
abbrev rstd' := k0_pay39 (sq' I) n'
abbrev xh' := k0_pay40 (xc' I) (sq' I) n'
abbrev diff' := k0_pay41 (g' I) (b' I) (xc' I) (sq' I) n' I.tgt
abbrev dh' := k0_pay43 (g' I) (b' I) (xc' I) (sq' I) n' I.tgt
abbrev dr' := k0_pay48 (g' I) (rstd' I) (xh' I) (dh' I)
abbrev drb' := k0_pay50 (g' I) (rstd' I) (xh' I) (dh' I)
abbrev dy' := k0_pay51 (w' I) (g' I) (rstd' I) (xh' I) (dh' I)
abbrev dcat' := k0_pay53 (w' I) (g' I) (sl' I) (rstd' I) (xh' I) (dh' I)
abbrev dyc' := k0_pay54 (w' I) (g' I) (cat' I) (rstd' I) (xh' I) (dh' I)
abbrev dsl' := k0_pay55 (gate' I) (sg' I)
abbrev dmo' := k0_pay58 (dcat' I)
abbrev do0' := k0_pay64 (dcat' I)
abbrev do1' := k0_pay71 (dcat' I)
abbrev do2' := k0_pay82 (dmo' I) lane
abbrev do3' := k0_pay1 (k0_pay80 (dmo' I)) (k0_pay87 lane)
abbrev c0 : FVec Ideal S512x256 .f32 := constant S512x256 .f32 0x00000000#32
abbrev ds0' := k0_pay66 (kv' I) (p0 I) (dcat' I)
abbrev ds1' := k0_pay73 (p1 I) (k0_pay61 (kv' I)) (do1' I) c0
abbrev ds2' := k0_pay84 (kv' I) (p2 I) (dmo' I) lane
abbrev ds3' := k0_pay2 (p3 I) (k0_pay79 (kv' I)) (k0_pay80 (dmo' I)) (k0_pay87 lane)
abbrev dqm' := k0_pay3 (p3 I) lane
  (k0_pay74 (p1 I) lane (k0_pay60 (kv' I)) (k0_pay61 (kv' I)) (k0_pay67 (kv' I) (p0 I) (dcat' I)) (do1' I) c0)
  (k0_pay78 (kv' I)) (k0_pay79 (kv' I)) (k0_pay80 (dmo' I)) (k0_pay85 (kv' I) (p2 I) (dmo' I) lane) (k0_pay87 lane)
abbrev dkv' (old : Vec Ideal S256x512 .f32) := k0_pay4 (p3 I)
  (k0_pay75 (p1 I) (k0_pay61 (kv' I)) (k0_pay68 (qm' I) (kv' I) (p0 I) (dcat' I)) (k0_pay70 (qm' I)) (do1' I) c0)
  (k0_pay76 (k0_pay65 (p0 I) (dcat' I)) (k0_pay72 (p1 I) (dcat' I)))
  (k0_pay77 (qm' I)) (k0_pay79 (kv' I)) (k0_pay80 (dmo' I)) (k0_pay83 (p2 I) (dmo' I) lane)
  (k0_pay86 (qm' I) (kv' I) (p2 I) (dmo' I) lane) (k0_pay87 lane) (Scalar.ofBits .bf16 0x0000#16) old

end

/-! ## Their values -/

section
variable {I : Ins} {W : Params} {X : Fin 512 → Row} (H : Holds I W X)
include H

theorem gate_read (r : Fin 512) (c : Fin 1024) : gate' I (ix2 r c) = (((X r).gate c : ℝ) : EReal) := by
  pointwise [k0_pay10]; exact H.gate r c
theorem qm_read (r : Fin 512) (c : Fin 256) : qm' I (ix2 r c) = (((X r).qm c : ℝ) : EReal) := by
  pointwise [k0_pay11]; exact H.qm r c
theorem kv_read (r : Fin 256) (c : Fin 512) : kv' I (ix2 r c) = ((W.kv r c : ℝ) : EReal) := by
  pointwise [k0_pay12]; exact H.kv r c
theorem w_read (r : Fin 1024) (c : Fin 1024) : w' I (ix2 r c) = ((W.w r c : ℝ) : EReal) := by
  pointwise [k0_pay13]; exact H.w r c
theorem g_read (r : Fin 1) (c : Fin 1024) : g' I (ix2 r c) = ((W.g c : ℝ) : EReal) := by
  pointwise [k0_pay14]; exact H.g r c
theorem b_read (r : Fin 1) (c : Fin 1024) : b' I (ix2 r c) = ((W.b c : ℝ) : EReal) := by
  pointwise [k0_pay17]; exact H.b r c
theorem tok_read (r : Fin 512) (c : Fin 768) : tok' I (ix2 r c) = (((X r).tok c : ℝ) : EReal) := by
  pointwise [k0_pay15]; exact H.tok r c
theorem h_read (r : Fin 512) (c : Fin 1024) : h' I (ix2 r c) = (((X r).h c : ℝ) : EReal) := by
  pointwise [k0_pay16]; exact H.h r c

/-! ### The two pairs' lanes -/

theorem q0_read (r : Fin 512) (l : Fin 128) : q0 I (ix2 r l) = (((X r).qm ⟨l.val, by omega⟩ : ℝ) : EReal) := by
  pointwise [k0_pay18]; exact qm_read H r _
theorem k0_read (r : Fin 256) (l : Fin 128) : k0 I (ix2 r l) = ((W.kv r ⟨l.val, by omega⟩ : ℝ) : EReal) := by
  pointwise [k0_pay19]; exact kv_read H r _
theorem u0_read (r : Fin 256) (l : Fin 128) : u0 I (ix2 r l) = ((W.kv r ⟨256 + l.val, by omega⟩ : ℝ) : EReal) := by
  pointwise [k0_pay20]; exact kv_read H r _
theorem q1_read (r : Fin 512) (l : Fin 128) : q1 I (ix2 r l) = (((X r).qm ⟨128 + l.val, by omega⟩ : ℝ) : EReal) := by
  pointwise [k0_pay25]; exact qm_read H r _
theorem k1_read (r : Fin 256) (l : Fin 128) : k1 I (ix2 r l) = ((W.kv r ⟨128 + l.val, by omega⟩ : ℝ) : EReal) := by
  pointwise [k0_pay26]; exact kv_read H r _
theorem u1_read (r : Fin 256) (l : Fin 128) : u1 I (ix2 r l) = ((W.kv r ⟨384 + l.val, by omega⟩ : ℝ) : EReal) := by
  pointwise [k0_pay27]; exact kv_read H r _

/-! ### Probabilities of the four heads -/

theorem p0_read (r : Fin 512) (m : Fin 256) : p0 I (ix2 r m) = ((prob W (X r) 0 m : ℝ) : EReal) := by
  refine (congrFun (show p0 I = headP k0_pay63 (q0 I) (k0 I) from rfl) _).trans ?_
  rw [headP_read (P := fun l => l.val < 64) lo_read (q0_read H) (k0_read H) r m]
  simp only [sum_lo, prob]
  rfl
theorem p1_read (r : Fin 512) (m : Fin 256) : p1 I (ix2 r m) = ((prob W (X r) 1 m : ℝ) : EReal) := by
  refine (congrFun (show p1 I = headP k0_pay69 (q0 I) (k0 I) from rfl) _).trans ?_
  rw [headP_read (P := fun l => 64 ≤ l.val) hi_read (q0_read H) (k0_read H) r m]
  simp only [sum_hi, prob]
  rfl
theorem p2_read (r : Fin 512) (m : Fin 256) : p2 I (ix2 r m) = ((prob W (X r) 2 m : ℝ) : EReal) := by
  refine (congrFun (show p2 I = headP k0_pay63 (q1 I) (k1 I) from rfl) _).trans ?_
  rw [headP_read (P := fun l => l.val < 64) lo_read (q1_read H) (k1_read H) r m]
  simp only [sum_lo, prob]
  exact congrArg _ (congrArg (softmax · m) (funext fun n => congrArg (· * (1 / 8 : ℝ)) (Finset.sum_congr rfl fun d _ => by
    congr 2 <;> exact Fin.ext (by simp [col, kcol]))))
theorem p3_read (r : Fin 512) (m : Fin 256) : p3 I (ix2 r m) = ((prob W (X r) 3 m : ℝ) : EReal) := by
  refine (congrFun (show p3 I = headP k0_pay69 (q1 I) (k1 I) from rfl) _).trans ?_
  rw [headP_read (P := fun l => 64 ≤ l.val) hi_read (q1_read H) (k1_read H) r m]
  simp only [sum_hi, prob]
  exact congrArg _ (congrArg (softmax · m) (funext fun n => congrArg (· * (1 / 8 : ℝ)) (Finset.sum_congr rfl fun d _ => by
    congr 2 <;> exact Fin.ext (by simp [col, kcol]; omega))))

/-! ### The memory attention's output and the concatenated row -/

theorem mo0_read (r : Fin 512) (l : Fin 128) : mo0 I (ix2 r l) = ((mo W (X r) ⟨l.val, by omega⟩ : ℝ) : EReal) := by
  pointwise [k0_pay24]
  simp only [p0_read H, p1_read H, u0_read H, ← EReal.coe_mul, coe_sum, word_slt, select_ite, ite_real, mo]
  refine congrArg _ ?_
  by_cases h : l.val < 64
  · rw [if_pos h, show hd ⟨l.val, _⟩ = 0 from Fin.ext (Nat.div_eq_of_lt h)]; rfl
  · rw [if_neg h, show hd ⟨l.val, _⟩ = 1 from Fin.ext (by simp only [hd]; omega)]; rfl

theorem mo1_read (r : Fin 512) (l : Fin 128) :
    Scalar.select (IntOp.cmpi .slt (BitVec.ofNat 32 l.val) 64#32) (∑ m : Fin 256, p2 I (ix2 r m) * u1 I (ix2 m l))
      (∑ m : Fin 256, p3 I (ix2 r m) * u1 I (ix2 m l)) = ((mo W (X r) ⟨128 + l.val, by omega⟩ : ℝ) : EReal) := by
  simp only [p2_read H, p3_read H, u1_read H, ← EReal.coe_mul, coe_sum, word_slt, select_ite, ite_real, mo]
  have hv : vcol ⟨128 + l.val, by omega⟩ = ⟨384 + l.val, by omega⟩ := Fin.ext (by simp only [vcol]; omega)
  refine congrArg _ ?_
  by_cases h : l.val < 64
  · rw [if_pos h, show hd ⟨128 + l.val, _⟩ = 2 from Fin.ext (by simp only [hd]; omega), hv]
  · rw [if_neg h, show hd ⟨128 + l.val, _⟩ = 3 from Fin.ext (by simp only [hd]; omega), hv]

theorem cat_read (r : Fin 512) (c : Fin 1024) : cat' I (ix2 r c) = ((cat W (X r) c : ℝ) : EReal) := by
  pointwise [k0_pay32]
  rw [cat]
  by_cases h : c.val < 768
  · rw [dif_pos h, dif_pos h, tok_read H]
  · rw [dif_neg h, dif_neg h]
    by_cases h1 : c.val - 768 < 128
    · rw [dif_pos h1, mo0_read H]
    · rw [dif_neg h1]
      refine (mo1_read H r ⟨c.val - 768 - 128, by omega⟩).trans (congrArg (fun i => ((mo W (X r) i : ℝ) : EReal)) (Fin.ext ?_))
      show 128 + (c.val - 768 - 128) = c.val - 768
      omega

theorem sg_read (r : Fin 512) (c : Fin 1024) : sg' I (ix2 r c) = ((sg (X r) c : ℝ) : EReal) := by
  pointwise [k0_pay33]
  simp only [gate_read H]
  exact (Ideal.logistic_coe _)
theorem sl_read (r : Fin 512) (c : Fin 1024) : sl' I (ix2 r c) = ((sl (X r) c : ℝ) : EReal) := by
  pointwise [k0_pay34]
  simp only [gate_read H, sg_read H, ← EReal.coe_mul, sl]
theorem y_read (r : Fin 512) (c : Fin 1024) : y' I (ix2 r c) = ((y W (X r) c : ℝ) : EReal) := by
  pointwise [k0_pay35]
  simp only [cat_read H, sl_read H, ← EReal.coe_mul, y]
theorem xc_read (r : Fin 512) (k : Fin 1024) : xc' I (ix2 r k) = ((xc W (X r) k : ℝ) : EReal) := by
  pointwise [k0_pay36]
  simp only [y_read H, w_read H, h_read H, bits_alpha, bits_1024, ← EReal.coe_mul, coe_sum, ← EReal.coe_add,
    div_real _ (show (1024 : ℝ) ≠ 0 by norm_num), ← EReal.coe_sub]
  rfl
theorem sq_read (r : Fin 512) (u : Fin 1) : sq' I (ix2 r u) = ((∑ k, xc W (X r) k * xc W (X r) k : ℝ) : EReal) := by
  pointwise [k0_pay37]
  simp only [xc_read H, ← EReal.coe_mul, coe_sum]
omit H in
theorem n_read (r : Fin 512) (u : Fin 1) : n' (ix2 r u) = ((1024 : ℝ) : EReal) := by
  pointwise [k0_pay38]; exact bits_1024
theorem rstd_read (r : Fin 512) (u : Fin 1) : rstd' I (ix2 r u) = ((rstd W (X r) : ℝ) : EReal) := by
  pointwise [k0_pay39]
  simp only [sq_read H, n_read, bits_eps, div_real _ (show (1024 : ℝ) ≠ 0 by norm_num), ← EReal.coe_add]
  exact rsqrt_real (var_eps_pos W (X r))
theorem xh_read (r : Fin 512) (k : Fin 1024) : xh' I (ix2 r k) = ((xh W (X r) k : ℝ) : EReal) := by
  pointwise [k0_pay40]
  simp only [xc_read H, rstd_read H, ← EReal.coe_mul, xh]
theorem diff_read (r : Fin 512) (k : Fin 1024) : diff' I (ix2 r k) = ((diff W (X r) k : ℝ) : EReal) := by
  pointwise [k0_pay41]
  simp only [xh_read H, g_read H, b_read H, H.tgt, ← EReal.coe_mul, ← EReal.coe_add, ← EReal.coe_sub, diff]

end

end Cert.Block
-- ==== Proof.BlockGrad.lean ====
/-
One block of 512 rows of the kernel, continued: the gradients its body computes, and what it adds to the arrays it
accumulates over the blocks.
-/
module

public import proofs.«01_k».proof.Proof.Block

@[expose] public section

set_option maxRecDepth 16384

noncomputable section

open Idealize.ShloMosaic
open Cert.KernelIdeal Cert.KernelIdeal.Gen

namespace Cert.Block

open Cert.Core Cert.Model Cert.Heads

section
variable {I : Ins} {W : Params} {X : Fin 512 → Row} (H : Holds I W X)
include H

/-! ### Through the layer norm, the projection and the gate -/

theorem dh_read (r : Fin 512) (k : Fin 1024) : dh' I (ix2 r k) = ((dh W (X r) k : ℝ) : EReal) := by
  pointwise [k0_pay43]
  simp only [diff_read H, bits_1024th, ← EReal.coe_mul, dh]
theorem dr_read (r : Fin 512) (k : Fin 1024) : dr' I (ix2 r k) = ((dr W (X r) k : ℝ) : EReal) := by
  pointwise [k0_pay48]
  simp only [dh_read H, g_read H, xh_read H, rstd_read H, bits_1024, ← EReal.coe_mul, coe_sum,
    div_real _ (show (1024 : ℝ) ≠ 0 by norm_num), ← EReal.coe_sub]
  rfl
theorem drb_read (r : Fin 512) (k : Fin 1024) : drb' I (ix2 r k) = ((dr W (X r) k : ℝ) : EReal) := by
  pointwise [k0_pay50]; exact dr_read H r k
theorem dy_read (r : Fin 512) (c : Fin 1024) : dy' I (ix2 r c) = ((dy W (X r) c : ℝ) : EReal) := by
  pointwise [k0_pay51]
  simp only [drb_read H, w_read H, ← EReal.coe_mul, coe_sum, dy]
theorem dcat_read (r : Fin 512) (c : Fin 1024) : dcat' I (ix2 r c) = ((dcat W (X r) c : ℝ) : EReal) := by
  pointwise [k0_pay53]
  simp only [dy_read H, sl_read H, ← EReal.coe_mul, dcat]
theorem dmo_read (r : Fin 512) (c : Fin 256) : dmo' I (ix2 r c) = ((dmo W (X r) c : ℝ) : EReal) := by
  pointwise [k0_pay58]
  exact dcat_read H r _

/-! ### Through the four heads -/

theorem do0_read (r : Fin 512) (l : Fin 128) :
    do0' I (ix2 r l) = ((if l.val < 64 then dmo W (X r) ⟨l.val, by omega⟩ else 0 : ℝ) : EReal) := by
  pointwise [k0_pay64, k0_pay62]
  simp only [lo_read, dmo_read H, select_ite, ← EReal.coe_zero, ite_real]
theorem do1_read (r : Fin 512) (l : Fin 128) :
    do1' I (ix2 r l) = ((if 64 ≤ l.val then dmo W (X r) ⟨l.val, by omega⟩ else 0 : ℝ) : EReal) := by
  pointwise [k0_pay71, k0_pay62]
  simp only [hi_read, dmo_read H, select_ite, ← EReal.coe_zero, ite_real]
theorem do2_read (r : Fin 512) (l : Fin 128) :
    do2' I (ix2 r l) = ((if l.val < 64 then dmo W (X r) ⟨128 + l.val, by omega⟩ else 0 : ℝ) : EReal) := by
  pointwise [k0_pay82, k0_pay81, k0_pay80]
  simp only [word_slt, dmo_read H, select_ite, ← EReal.coe_zero, ite_real]
theorem do3_read (r : Fin 512) (l : Fin 128) :
    do3' I (ix2 r l) = ((if 64 ≤ l.val then dmo W (X r) ⟨128 + l.val, by omega⟩ else 0 : ℝ) : EReal) := by
  pointwise [k0_pay1, k0_pay87, k0_pay80]
  simp only [word_sge, dmo_read H, select_ite, ← EReal.coe_zero, ite_real]

theorem v0_read (r : Fin 256) (l : Fin 128) :
    k0_pay61 (kv' I) (ix2 r l) = ((W.kv r ⟨256 + l.val, by omega⟩ : ℝ) : EReal) := by
  pointwise [k0_pay61]; exact kv_read H r _
theorem v1_read (r : Fin 256) (l : Fin 128) :
    k0_pay79 (kv' I) (ix2 r l) = ((W.kv r ⟨384 + l.val, by omega⟩ : ℝ) : EReal) := by
  pointwise [k0_pay79]; exact kv_read H r _

theorem ds0_read (r : Fin 512) (m : Fin 256) : ds0' I (ix2 r m) = ((ds W (X r) 0 m : ℝ) : EReal) := by
  refine (congrFun (show ds0' I = headDs (p0 I) (do0' I) (k0_pay61 (kv' I)) from rfl) _).trans ?_
  rw [headDs_read (p0_read H) (do0_read H) (v0_read H) r m]
  simp only [ite_mul, zero_mul, sum_lo, ds, dp]
  rfl
theorem ds1_read (r : Fin 512) (m : Fin 256) : ds1' I (ix2 r m) = ((ds W (X r) 1 m : ℝ) : EReal) := by
  refine (congrFun (show ds1' I = headDs (p1 I) (do1' I) (k0_pay61 (kv' I)) from rfl) _).trans ?_
  rw [headDs_read (p1_read H) (do1_read H) (v0_read H) r m]
  simp only [ite_mul, zero_mul, sum_hi, ds, dp]
  have e : ∀ (n : Fin 256) (d : Fin 64), W.kv n (vcol (col 1 d)) = W.kv n ⟨256 + (64 + d.val), by omega⟩ := fun n d => rfl
  have e' : ∀ d : Fin 64, dmo W (X r) (col 1 d) = dmo W (X r) ⟨64 + d.val, by omega⟩ := fun d => rfl
  simp only [e, e']
theorem ds2_read (r : Fin 512) (m : Fin 256) : ds2' I (ix2 r m) = ((ds W (X r) 2 m : ℝ) : EReal) := by
  refine (congrFun (show ds2' I = headDs (p2 I) (do2' I) (k0_pay79 (kv' I)) from rfl) _).trans ?_
  rw [headDs_read (p2_read H) (do2_read H) (v1_read H) r m]
  simp only [ite_mul, zero_mul, sum_lo, ds, dp]
  have e : ∀ (n : Fin 256) (d : Fin 64), W.kv n (vcol (col 2 d)) = W.kv n ⟨384 + d.val, by omega⟩ :=
    fun n d => congrArg (W.kv n) (Fin.ext (by simp only [vcol, col]; norm_num; omega))
  have e' : ∀ d : Fin 64, dmo W (X r) (col 2 d) = dmo W (X r) ⟨128 + d.val, by omega⟩ := fun d => rfl
  simp only [e, e']
theorem ds3_read (r : Fin 512) (m : Fin 256) : ds3' I (ix2 r m) = ((ds W (X r) 3 m : ℝ) : EReal) := by
  refine (congrFun (show ds3' I = headDs (p3 I) (do3' I) (k0_pay79 (kv' I)) from rfl) _).trans ?_
  rw [headDs_read (p3_read H) (do3_read H) (v1_read H) r m]
  simp only [ite_mul, zero_mul, sum_hi, ds, dp]
  have e : ∀ (n : Fin 256) (d : Fin 64), W.kv n (vcol (col 3 d)) = W.kv n ⟨384 + (64 + d.val), by omega⟩ :=
    fun n d => congrArg (W.kv n) (Fin.ext (by simp only [vcol, col]; norm_num; omega))
  have e' : ∀ d : Fin 64, dmo W (X r) (col 3 d) = dmo W (X r) ⟨128 + (64 + d.val), by omega⟩ :=
    fun d => congrArg (dmo W (X r)) (Fin.ext (by simp only [col]; norm_num; omega))
  simp only [e, e']

/-! ### The four tiled results -/

theorem dres_read (r : Fin 512) (k : Fin 1024) :
    k0_pay49 (g' I) (rstd' I) (xh' I) (dh' I) (ix2 r k) = ((alpha * dr W (X r) k : ℝ) : EReal) := by
  pointwise [k0_pay49]
  simp only [dr_read H, bits_alpha, ← EReal.coe_mul]
theorem dtok_read (r : Fin 512) (c : Fin 768) : k0_pay57 (dcat' I) (ix2 r c) = ((dcat W (X r) (tcol c) : ℝ) : EReal) := by
  pointwise [k0_pay57]
  exact dcat_read H r _
theorem dgate_read (r : Fin 512) (c : Fin 1024) : k0_pay56 (dyc' I) (dsl' I) (ix2 r c) = ((dgate W (X r) c : ℝ) : EReal) := by
  pointwise [k0_pay56, k0_pay54, k0_pay55]
  simp only [dy_read H, cat_read H, sg_read H, gate_read H, bits_one, ← EReal.coe_one, ← EReal.coe_mul, ← EReal.coe_add, ← EReal.coe_sub]
  rfl
theorem dqm_read (r : Fin 512) (c : Fin 256) : dqm' I (ix2 r c) = ((dqm W (X r) c : ℝ) : EReal) := by
  pointwise [k0_pay3, k0_pay74, k0_pay67, k0_pay85, k0_pay60, k0_pay78]
  by_cases h : c.val < 128
  · rw [dif_pos h, word_slt_nat h, select_ite]
    simp only [ds0_read H, ds1_read H, kv_read H, ← EReal.coe_mul, coe_sum, ite_real, dqm]
    refine congrArg _ ?_
    by_cases h' : c.val < 64
    · rw [if_pos h', show hd c = 0 from Fin.ext (Nat.div_eq_of_lt h')]; rfl
    · rw [if_neg h', show hd c = 1 from Fin.ext (by simp only [hd]; omega)]; rfl
  · have h2 : c.val - 128 < 128 := by omega
    have hc : (⟨128 + (c.val - 128), by omega⟩ : Fin 512) = kcol c := Fin.ext (by simp only [kcol]; omega)
    rw [dif_neg h, word_slt_nat h2, select_ite]
    simp only [ds2_read H, ds3_read H, kv_read H, ← EReal.coe_mul, coe_sum, ite_real, dqm, hc]
    refine congrArg _ ?_
    by_cases h' : c.val - 128 < 64
    · rw [if_pos h', show hd c = 2 from Fin.ext (by simp only [hd]; omega)]
    · rw [if_neg h', show hd c = 3 from Fin.ext (by simp only [hd]; omega)]

/-! ### What the block adds to the accumulated results -/

theorem loss_read (old : Vec Ideal S1x1 .f32) (i j : Fin 1) :
    k0_pay42 (g' I) (b' I) (xc' I) (sq' I) n' I.tgt old (ix2 i j) =
      old (ix2 i j) + ((1 / 2 * ∑ r, loss W (X r) : ℝ) : EReal) := by
  pointwise [k0_pay42]
  simp only [diff_read H, bits_1024, bits_half, ← EReal.coe_mul, coe_sum, div_real _ (show (1024 : ℝ) ≠ 0 by norm_num)]
  rfl
theorem dg_read (old : Vec Ideal S1x1024 .f32) (i : Fin 1) (k : Fin 1024) :
    k0_pay44 (g' I) (b' I) (xc' I) (sq' I) n' I.tgt old (ix2 i k) =
      old (ix2 i k) + ((∑ r, dh W (X r) k * xh W (X r) k : ℝ) : EReal) := by
  pointwise [k0_pay44]
  simp only [dh_read H, xh_read H, ← EReal.coe_mul, coe_sum]
theorem db_read (old : Vec Ideal S1x1024 .f32) (i : Fin 1) (k : Fin 1024) :
    k0_pay47 (k0_pay45 old) (k0_pay46 (g' I) (b' I) (xc' I) (sq' I) n' I.tgt) (ix2 i k) =
      old (ix2 i k) + ((∑ r, dh W (X r) k : ℝ) : EReal) := by
  pointwise [k0_pay47, k0_pay45, k0_pay46]
  simp only [dh_read H, coe_sum]
theorem dw_read (old : Vec Ideal S1024x1024 .f32) (c k : Fin 1024) :
    k0_pay52 (g' I) (y' I) (rstd' I) (xh' I) (dh' I) old (ix2 c k) =
      old (ix2 c k) + ((∑ r, y W (X r) c * dr W (X r) k : ℝ) : EReal) := by
  pointwise [k0_pay52]
  simp only [y_read H, drb_read H, ← EReal.coe_mul, coe_sum]
theorem dkv_read (old : Vec Ideal S256x512 .f32) (m : Fin 256) (j : Fin 512) :
    dkv' I old (ix2 m j) = old (ix2 m j) + ((∑ r, dkv W (X r) m j : ℝ) : EReal) := by
  pointwise [k0_pay4, k0_pay75, k0_pay68, k0_pay76, k0_pay65, k0_pay72, k0_pay83, k0_pay86, k0_pay70, k0_pay59, k0_pay77]
  refine congrArg (old (ix2 m j) + ·) ?_
  simp only [lo_read, hi_read, select_ite, do0_read H, do1_read H, do2_read H, do3_read H, p0_read H, p1_read H,
    p2_read H, p3_read H, ds0_read H, ds1_read H, ds2_read H, ds3_read H, qm_read H, ← EReal.coe_zero, ← EReal.coe_mul,
    ite_real, coe_sum, ← EReal.coe_add, mul_ite, mul_zero, sum_pair]
  by_cases h : j.val < 128
  · rw [dif_pos h]
    refine congrArg _ (Finset.sum_congr rfl fun r _ => ?_)
    rw [dkv, dif_pos (show j.val < 256 by omega)]
    by_cases h' : j.val < 64
    · rw [if_pos h', show hd ⟨j.val, _⟩ = 0 from Fin.ext (Nat.div_eq_of_lt h')]
    · rw [if_neg h', show hd ⟨j.val, _⟩ = 1 from Fin.ext (by simp only [hd]; omega)]
  rw [dif_neg h]
  by_cases h1 : j.val - 128 < 128
  · rw [dif_pos h1]
    have hm : ∀ x : Fin 512, k0_pay81 lane (ix2 x (⟨j.val - 128, h1⟩ : Fin 128)) = if j.val - 128 < 64 then 1#1 else 0#1 :=
      fun x => by pointwise [k0_pay81]; exact word_slt_nat h1
    have hm' : ∀ x : Fin 512, k0_pay87 lane (ix2 x (⟨j.val - 128, h1⟩ : Fin 128)) = if 64 ≤ j.val - 128 then 1#1 else 0#1 :=
      fun x => by pointwise [k0_pay87]; exact word_sge_nat h1
    have hj : (⟨128 + (j.val - 128), by omega⟩ : Fin 256) = ⟨j.val, by omega⟩ := Fin.ext (by simp only []; omega)
    simp only [hm, hm', select_ite, ite_real, coe_sum, ← EReal.coe_add, sum_pair, hj]
    refine congrArg _ (Finset.sum_congr rfl fun r _ => ?_)
    rw [dkv, dif_pos (show j.val < 256 by omega)]
    by_cases h' : j.val - 128 < 64
    · rw [if_pos h', show hd ⟨j.val, _⟩ = 2 from Fin.ext (by simp only [hd]; omega)]
    · rw [if_neg h', show hd ⟨j.val, _⟩ = 3 from Fin.ext (by simp only [hd]; omega)]
  rw [dif_neg h1]
  by_cases h2 : j.val - 128 - 128 < 128
  · rw [dif_pos h2]
    refine congrArg _ (Finset.sum_congr rfl fun r _ => ?_)
    rw [dkv, dif_neg (show ¬ j.val < 256 by omega)]
    have hj : (⟨j.val - 128 - 128, by omega⟩ : Fin 256) = ⟨j.val - 256, by omega⟩ := Fin.ext (by simp only []; omega)
    rw [hj]
    by_cases h' : j.val - 128 - 128 < 64
    · rw [if_pos h', show hd ⟨j.val - 256, _⟩ = 0 from Fin.ext (by simp only [hd]; omega)]
    · rw [if_neg h', show hd ⟨j.val - 256, _⟩ = 1 from Fin.ext (by simp only [hd]; omega)]
  · rw [dif_neg h2]
    refine congrArg _ (Finset.sum_congr rfl fun r _ => ?_)
    rw [dkv, dif_neg (show ¬ j.val < 256 by omega)]
    have hj : (⟨128 + (j.val - 128 - 128 - 128), by omega⟩ : Fin 256) = ⟨j.val - 256, by omega⟩ := Fin.ext (by simp only []; omega)
    rw [hj]
    by_cases h' : j.val - 128 - 128 - 128 < 64
    · rw [if_pos h', show hd ⟨j.val - 256, _⟩ = 2 from Fin.ext (by simp only [hd]; omega)]
    · rw [if_neg h', show hd ⟨j.val - 256, _⟩ = 3 from Fin.ext (by simp only [hd]; omega)]
end

end Cert.Block
-- ==== Proof.Windows.lean ====
/-
The kernel's nine result arrays after its grid has run, as functions of the real numbers its argument arrays hold:
four written block by block, five accumulated over the blocks and written once at the end.
-/
module

public import proofs.«01_k».proof.Proof.BlockGrad

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen

namespace Cert.Windows

open Cert.Core Cert.Model Cert.Block

variable (m : (ℓ : Loc nD τ sig) → Buf (Elt Ideal) ℓ)

/-- The argument arrays hold the layer's input `D`. -/
structure Reads (c : Dev nD) (D : Input) : Prop where
  tok : ∀ r k, m ((c : Thread nD τ).loc main_arg0) (ix3 (0 : Fin 1) r k) = (((D.row r).tok k : ℝ) : EReal)
  gate : ∀ r k, m ((c : Thread nD τ).loc main_arg1) (ix3 (0 : Fin 1) r k) = (((D.row r).gate k : ℝ) : EReal)
  qm : ∀ r k, m ((c : Thread nD τ).loc main_arg2) (ix3 (0 : Fin 1) r k) = (((D.row r).qm k : ℝ) : EReal)
  kv : ∀ r k, m ((c : Thread nD τ).loc main_arg3) (ix3 (0 : Fin 1) r k) = ((D.par.kv r k : ℝ) : EReal)
  w : ∀ r k, m ((c : Thread nD τ).loc main_arg4) (ix2 r k) = ((D.par.w r k : ℝ) : EReal)
  h : ∀ r k, m ((c : Thread nD τ).loc main_arg5) (ix3 (0 : Fin 1) r k) = (((D.row r).h k : ℝ) : EReal)
  g : ∀ k, m ((c : Thread nD τ).loc main_arg6) (ix1 k) = ((D.par.g k : ℝ) : EReal)
  b : ∀ k, m ((c : Thread nD τ).loc main_arg7) (ix1 k) = ((D.par.b k : ℝ) : EReal)
  tgt : ∀ r k, m ((c : Thread nD τ).loc main_arg8) (ix3 (0 : Fin 1) r k) = (((D.row r).tgt k : ℝ) : EReal)

/-! ## Which block each point reads and writes -/

theorem idx : ∀ t : Fin cfg0.N, win0_0.index t = ![t.val, 0] ∧ win0_1.index t = ![t.val, 0] ∧
    win0_2.index t = ![t.val, 0] ∧ win0_3.index t = ![0, 0] ∧ win0_4.index t = ![0, 0] ∧
    win0_5.index t = ![t.val, 0] ∧ win0_6.index t = ![0, 0] ∧ win0_7.index t = ![0, 0] ∧
    win0_8.index t = ![t.val, 0] ∧ win0_9.index t = ![t.val, 0] ∧ win0_10.index t = ![t.val, 0] ∧
    win0_11.index t = ![t.val, 0] ∧ win0_12.index t = ![t.val, 0] ∧ win0_13.index t = ![0, 0] ∧
    win0_14.index t = ![0, 0] ∧ win0_15.index t = ![0, 0] ∧ win0_16.index t = ![0, 0] ∧ win0_17.index t = ![0, 0] :=
  (by decide +kernel : ∀ t : Fin grid0.N, _)

theorem pt (t : Fin cfg0.N) : t.val < 16 := t.isLt

/-- The row of the arrays that is row `r` of the block at point `t`. -/
def rowOf (t : Fin cfg0.N) (r : Fin 512) : Fin 8192 := ⟨t.val * 512 + r.val, by have := pt t; omega⟩

/-- The nine blocks read at point `t`. -/
abbrev ins (c : Dev nD) (t : Fin cfg0.N) : Ins :=
  ⟨iblk m c (0 : Fin 18) t, iblk m c (1 : Fin 18) t, iblk m c (2 : Fin 18) t, iblk m c (3 : Fin 18) t,
    iblk m c (4 : Fin 18) t, iblk m c (5 : Fin 18) t, iblk m c (6 : Fin 18) t, iblk m c (7 : Fin 18) t,
    iblk m c (8 : Fin 18) t⟩

theorem blk_tok (c : Dev nD) (t : Fin cfg0.N) (r : Fin 512) (k : Fin 768) :
    iblk m c (0 : Fin 18) t (ix2 r k) = m ((c : Thread nD τ).loc main_arg0) (ix3 (0 : Fin 1) (rowOf t r) k) := by
  unfold rowOf; blk_point [iblk, V, idx t]
theorem blk_gate (c : Dev nD) (t : Fin cfg0.N) (r : Fin 512) (k : Fin 1024) :
    iblk m c (1 : Fin 18) t (ix2 r k) = m ((c : Thread nD τ).loc main_arg1) (ix3 (0 : Fin 1) (rowOf t r) k) := by
  unfold rowOf; blk_point [iblk, V, idx t]
theorem blk_qm (c : Dev nD) (t : Fin cfg0.N) (r : Fin 512) (k : Fin 256) :
    iblk m c (2 : Fin 18) t (ix2 r k) = m ((c : Thread nD τ).loc main_arg2) (ix3 (0 : Fin 1) (rowOf t r) k) := by
  unfold rowOf; blk_point [iblk, V, idx t]
theorem blk_h (c : Dev nD) (t : Fin cfg0.N) (r : Fin 512) (k : Fin 1024) :
    iblk m c (5 : Fin 18) t (ix2 r k) = m ((c : Thread nD τ).loc main_arg5) (ix3 (0 : Fin 1) (rowOf t r) k) := by
  unfold rowOf; blk_point [iblk, V, idx t]
theorem blk_tgt (c : Dev nD) (t : Fin cfg0.N) (r : Fin 512) (k : Fin 1024) :
    iblk m c (8 : Fin 18) t (ix2 r k) = m ((c : Thread nD τ).loc main_arg8) (ix3 (0 : Fin 1) (rowOf t r) k) := by
  unfold rowOf; blk_point [iblk, V, idx t]
theorem blk_kv (c : Dev nD) (t : Fin cfg0.N) (r : Fin 256) (k : Fin 512) :
    iblk m c (3 : Fin 18) t (ix2 r k) = m ((c : Thread nD τ).loc main_arg3) (ix3 (0 : Fin 1) r k) := by
  blk_point [iblk, V, idx t]
theorem blk_w (c : Dev nD) (t : Fin cfg0.N) (r : Fin 1024) (k : Fin 1024) :
    iblk m c (4 : Fin 18) t (ix2 r k) = m ((c : Thread nD τ).loc main_arg4) (ix2 r k) := by
  blk_point [iblk, V, idx t]
theorem blk_g (c : Dev nD) (t : Fin cfg0.N) (r : Fin 1) (k : Fin 1024) :
    iblk m c (6 : Fin 18) t (ix2 r k) = m ((c : Thread nD τ).loc main_arg6) (ix1 k) := by
  blk_point [iblk, V, idx t]
theorem blk_b (c : Dev nD) (t : Fin cfg0.N) (r : Fin 1) (k : Fin 1024) :
    iblk m c (7 : Fin 18) t (ix2 r k) = m ((c : Thread nD τ).loc main_arg7) (ix1 k) := by
  blk_point [iblk, V, idx t]

variable {m} {c : Dev nD} {D : Input} (H : Reads m c D)
include H

theorem holds (t : Fin cfg0.N) : Holds (ins m c t) D.par (fun r => D.row (rowOf t r)) where
  tok r k := (blk_tok m c t r k).trans (H.tok _ _)
  gate r k := (blk_gate m c t r k).trans (H.gate _ _)
  qm r k := (blk_qm m c t r k).trans (H.qm _ _)
  kv r k := (blk_kv m c t r k).trans (H.kv _ _)
  w r k := (blk_w m c t r k).trans (H.w _ _)
  h r k := (blk_h m c t r k).trans (H.h _ _)
  g r k := (blk_g m c t r k).trans (H.g _)
  b r k := (blk_b m c t r k).trans (H.b _)
  tgt r k := (blk_tgt m c t r k).trans (H.tgt _ _)

/-! ## The results written block by block -/

theorem dres_out (t : Fin cfg0.N) (r : Fin 512) (k : Fin 1024) :
    (outsAt0 m c t.val t.isLt).1 (ix2 r k) = ((alpha * dr D.par (D.row (rowOf t r)) k : ℝ) : EReal) := by
  have e : (outsAt0 m c t.val t.isLt).1 = k0_pay49 (g' (ins m c t)) (rstd' (ins m c t)) (xh' (ins m c t)) (dh' (ins m c t)) := by
    by_cases h : t.val % 16 = 0
    · rw [outsAt0_A m c t h]; frame_out
    · rw [outsAt0_B m c t h]; frame_out
  rw [e]
  exact dres_read (holds H t) r k

theorem dres_arr : (dats m 0 c).arrAt 9 cfg0.N = fun i : S8192x1024.Idx =>
    ((alpha * dr D.par (D.row (i 0)) (i 1) : ℝ) : EReal) := by
  refine (dats m 0 c).arrAt_eq_of_covers 9 _ (by decide +kernel) fun t hf y => ?_
  blk_simp
  rw [after0_9, show (win0_9.blk t).view.emb y = ix2 (rowOf t (y 0)) (y 1) from by unfold rowOf; blk_ext [idx t]]
  exact (congrArg _ (eq_ix2 y)).trans (dres_out H t (y 0) (y 1))

theorem dtok_out (t : Fin cfg0.N) (r : Fin 512) (k : Fin 768) :
    (outsAt0 m c t.val t.isLt).2.1 (ix2 r k) = ((dcat D.par (D.row (rowOf t r)) (tcol k) : ℝ) : EReal) := by
  have e : (outsAt0 m c t.val t.isLt).2.1 = k0_pay57 (dcat' (ins m c t)) := by
    by_cases h : t.val % 16 = 0
    · rw [outsAt0_A m c t h]; frame_out
    · rw [outsAt0_B m c t h]; frame_out
  rw [e]
  exact dtok_read (holds H t) r k

theorem dtok_arr : (dats m 0 c).arrAt 10 cfg0.N = fun i : S8192x768.Idx =>
    ((dcat D.par (D.row (i 0)) (tcol (i 1)) : ℝ) : EReal) := by
  refine (dats m 0 c).arrAt_eq_of_covers 10 _ (by decide +kernel) fun t hf y => ?_
  blk_simp
  rw [after0_10, show (win0_10.blk t).view.emb y = ix2 (rowOf t (y 0)) (y 1) from by unfold rowOf; blk_ext [idx t]]
  exact (congrArg _ (eq_ix2 y)).trans (dtok_out H t (y 0) (y 1))

theorem dgate_out (t : Fin cfg0.N) (r : Fin 512) (k : Fin 1024) :
    (outsAt0 m c t.val t.isLt).2.2.1 (ix2 r k) = ((dgate D.par (D.row (rowOf t r)) k : ℝ) : EReal) := by
  have e : (outsAt0 m c t.val t.isLt).2.2.1 = k0_pay56 (dyc' (ins m c t)) (dsl' (ins m c t)) := by
    by_cases h : t.val % 16 = 0
    · rw [outsAt0_A m c t h]; frame_out
    · rw [outsAt0_B m c t h]; frame_out
  rw [e]
  exact dgate_read (holds H t) r k

theorem dgate_arr : (dats m 0 c).arrAt 11 cfg0.N = fun i : S8192x1024.Idx =>
    ((dgate D.par (D.row (i 0)) (i 1) : ℝ) : EReal) := by
  refine (dats m 0 c).arrAt_eq_of_covers 11 _ (by decide +kernel) fun t hf y => ?_
  blk_simp
  rw [after0_11, show (win0_11.blk t).view.emb y = ix2 (rowOf t (y 0)) (y 1) from by unfold rowOf; blk_ext [idx t]]
  exact (congrArg _ (eq_ix2 y)).trans (dgate_out H t (y 0) (y 1))

theorem dqm_out (t : Fin cfg0.N) (r : Fin 512) (k : Fin 256) :
    (outsAt0 m c t.val t.isLt).2.2.2.1 (ix2 r k) = ((dqm D.par (D.row (rowOf t r)) k : ℝ) : EReal) := by
  have e : (outsAt0 m c t.val t.isLt).2.2.2.1 = dqm' (ins m c t) := by
    by_cases h : t.val % 16 = 0
    · rw [outsAt0_A m c t h]; frame_out
    · rw [outsAt0_B m c t h]; frame_out
  rw [e]
  exact dqm_read (holds H t) r k

theorem dqm_arr : (dats m 0 c).arrAt 12 cfg0.N = fun i : S8192x256.Idx =>
    ((dqm D.par (D.row (i 0)) (i 1) : ℝ) : EReal) := by
  refine (dats m 0 c).arrAt_eq_of_covers 12 _ (by decide +kernel) fun t hf y => ?_
  blk_simp
  rw [after0_12, show (win0_12.blk t).view.emb y = ix2 (rowOf t (y 0)) (y 1) from by unfold rowOf; blk_ext [idx t]]
  exact (congrArg _ (eq_ix2 y)).trans (dqm_out H t (y 0) (y 1))

/-! ## The results accumulated over the blocks -/

omit H in
theorem sum_rows (F : Fin 8192 → ℝ) :
    ∑ p : Fin cfg0.N, ((∑ r : Fin 512, F (rowOf p r) : ℝ) : EReal) = ((∑ R, F R : ℝ) : EReal) := by
  rw [coe_sum]
  exact congrArg _ (Fin.sum_mul_add_congr (S := 16) fun s k hl => rfl)

theorem dw_first (t : Fin cfg0.N) (h : t.val % 16 = 0) (j : S1024x1024.Idx) :
    (outsAt0 m c t.val t.isLt).2.2.2.2.1 j = 0 + ((∑ r, y D.par (D.row (rowOf t r)) (j 0) * dr D.par (D.row (rowOf t r)) (j 1) : ℝ) : EReal) := by
  have e : (outsAt0 m c t.val t.isLt).2.2.2.2.1 = k0_pay52 (g' (ins m c t)) (y' (ins m c t)) (rstd' (ins m c t)) (xh' (ins m c t)) (dh' (ins m c t)) (k0_pay5 (F := Ideal)) := by
    rw [outsAt0_A m c t h]; frame_out
  rw [e, eq_ix2 j]
  exact (dw_read (holds H t) _ _ _).trans (congrArg (· + _) (by pointwise [k0_pay5]))

theorem dw_next (t : Fin cfg0.N) (h : ¬ t.val % 16 = 0) (j : S1024x1024.Idx) :
    (outsAt0 m c t.val t.isLt).2.2.2.2.1 j =
      (outsAt0 m c (t.val - 1) (Nat.lt_of_le_of_lt (Nat.sub_le _ _) t.isLt)).2.2.2.2.1 j +
        ((∑ r, y D.par (D.row (rowOf t r)) (j 0) * dr D.par (D.row (rowOf t r)) (j 1) : ℝ) : EReal) := by
  have e : (outsAt0 m c t.val t.isLt).2.2.2.2.1 =
      k0_pay52 (g' (ins m c t)) (y' (ins m c t)) (rstd' (ins m c t)) (xh' (ins m c t)) (dh' (ins m c t)) ((outsAt0 m c (t.val - 1) (Nat.lt_of_le_of_lt (Nat.sub_le _ _) t.isLt)).2.2.2.2.1) := by
    rw [outsAt0_B m c t h]; frame_out
  rw [e, eq_ix2 j]
  exact dw_read (holds H t) _ _ _

theorem dw_arr : (dats m 0 c).arrAt 13 cfg0.N = fun i : S1024x1024.Idx => ((∑ R, y D.par (D.row R) (i 0) * dr D.par (D.row R) (i 1) : ℝ) : EReal) := by
  refine (dats m 0 c).arrAt_eq_of_after_last 13 t0_15 (by decide +kernel) _ fun j => ?_
  blk_simp
  rw [after0_13]
  refine (Pipeline.eq_sum_fin_of_reset_step_apply_last (fun n h => (outsAt0 m c n h).2.2.2.2.1) 16 (fun _ => 0) _
    (dw_first H) (dw_next H) (le_of_eq N_0) t0_15 rfl _).trans ?_
  rw [zero_add]
  exact sum_rows (fun R => y D.par (D.row R) (j 0) * dr D.par (D.row R) (j 1))

theorem dkv_first (t : Fin cfg0.N) (h : t.val % 16 = 0) (j : S256x512.Idx) :
    (outsAt0 m c t.val t.isLt).2.2.2.2.2.1 j = 0 + ((∑ r, dkv D.par (D.row (rowOf t r)) (j 0) (j 1) : ℝ) : EReal) := by
  have e : (outsAt0 m c t.val t.isLt).2.2.2.2.2.1 = dkv' (ins m c t) (k0_pay6 (F := Ideal)) := by
    rw [outsAt0_A m c t h]; frame_out
  rw [e, eq_ix2 j]
  exact (dkv_read (holds H t) _ _ _).trans (congrArg (· + _) (by pointwise [k0_pay6]))

theorem dkv_next (t : Fin cfg0.N) (h : ¬ t.val % 16 = 0) (j : S256x512.Idx) :
    (outsAt0 m c t.val t.isLt).2.2.2.2.2.1 j =
      (outsAt0 m c (t.val - 1) (Nat.lt_of_le_of_lt (Nat.sub_le _ _) t.isLt)).2.2.2.2.2.1 j +
        ((∑ r, dkv D.par (D.row (rowOf t r)) (j 0) (j 1) : ℝ) : EReal) := by
  have e : (outsAt0 m c t.val t.isLt).2.2.2.2.2.1 =
      dkv' (ins m c t) ((outsAt0 m c (t.val - 1) (Nat.lt_of_le_of_lt (Nat.sub_le _ _) t.isLt)).2.2.2.2.2.1) := by
    rw [outsAt0_B m c t h]; frame_out
  rw [e, eq_ix2 j]
  exact dkv_read (holds H t) _ _ _

theorem dkv_arr : (dats m 0 c).arrAt 14 cfg0.N = fun i : S256x512.Idx => ((∑ R, dkv D.par (D.row R) (i 0) (i 1) : ℝ) : EReal) := by
  refine (dats m 0 c).arrAt_eq_of_after_last 14 t0_15 (by decide +kernel) _ fun j => ?_
  blk_simp
  rw [after0_14]
  refine (Pipeline.eq_sum_fin_of_reset_step_apply_last (fun n h => (outsAt0 m c n h).2.2.2.2.2.1) 16 (fun _ => 0) _
    (dkv_first H) (dkv_next H) (le_of_eq N_0) t0_15 rfl _).trans ?_
  rw [zero_add]
  exact sum_rows (fun R => dkv D.par (D.row R) (j 0) (j 1))

theorem dg_first (t : Fin cfg0.N) (h : t.val % 16 = 0) (j : S1x1024.Idx) :
    (outsAt0 m c t.val t.isLt).2.2.2.2.2.2.1 j = 0 + ((∑ r, dh D.par (D.row (rowOf t r)) (j 1) * xh D.par (D.row (rowOf t r)) (j 1) : ℝ) : EReal) := by
  have e : (outsAt0 m c t.val t.isLt).2.2.2.2.2.2.1 = k0_pay44 (g' (ins m c t)) (b' (ins m c t)) (xc' (ins m c t)) (sq' (ins m c t)) n' (ins m c t).tgt (k0_pay7 (F := Ideal)) := by
    rw [outsAt0_A m c t h]; frame_out
  rw [e, eq_ix2 j]
  exact (dg_read (holds H t) _ _ _).trans (congrArg (· + _) (by pointwise [k0_pay7]))

theorem dg_next (t : Fin cfg0.N) (h : ¬ t.val % 16 = 0) (j : S1x1024.Idx) :
    (outsAt0 m c t.val t.isLt).2.2.2.2.2.2.1 j =
      (outsAt0 m c (t.val - 1) (Nat.lt_of_le_of_lt (Nat.sub_le _ _) t.isLt)).2.2.2.2.2.2.1 j +
        ((∑ r, dh D.par (D.row (rowOf t r)) (j 1) * xh D.par (D.row (rowOf t r)) (j 1) : ℝ) : EReal) := by
  have e : (outsAt0 m c t.val t.isLt).2.2.2.2.2.2.1 =
      k0_pay44 (g' (ins m c t)) (b' (ins m c t)) (xc' (ins m c t)) (sq' (ins m c t)) n' (ins m c t).tgt ((outsAt0 m c (t.val - 1) (Nat.lt_of_le_of_lt (Nat.sub_le _ _) t.isLt)).2.2.2.2.2.2.1) := by
    rw [outsAt0_B m c t h]; frame_out
  rw [e, eq_ix2 j]
  exact dg_read (holds H t) _ _ _

theorem dg_arr : (dats m 0 c).arrAt 15 cfg0.N = fun i : S1x1024.Idx => ((∑ R, dh D.par (D.row R) (i 1) * xh D.par (D.row R) (i 1) : ℝ) : EReal) := by
  refine (dats m 0 c).arrAt_eq_of_after_last 15 t0_15 (by decide +kernel) _ fun j => ?_
  blk_simp
  rw [after0_15]
  refine (Pipeline.eq_sum_fin_of_reset_step_apply_last (fun n h => (outsAt0 m c n h).2.2.2.2.2.2.1) 16 (fun _ => 0) _
    (dg_first H) (dg_next H) (le_of_eq N_0) t0_15 rfl _).trans ?_
  rw [zero_add]
  exact sum_rows (fun R => dh D.par (D.row R) (j 1) * xh D.par (D.row R) (j 1))

theorem db_first (t : Fin cfg0.N) (h : t.val % 16 = 0) (j : S1x1024.Idx) :
    (outsAt0 m c t.val t.isLt).2.2.2.2.2.2.2.1 j = 0 + ((∑ r, dh D.par (D.row (rowOf t r)) (j 1) : ℝ) : EReal) := by
  have e : (outsAt0 m c t.val t.isLt).2.2.2.2.2.2.2.1 = k0_pay47 (k0_pay45 (k0_pay8 (F := Ideal))) (k0_pay46 (g' (ins m c t)) (b' (ins m c t)) (xc' (ins m c t)) (sq' (ins m c t)) n' (ins m c t).tgt) := by
    rw [outsAt0_A m c t h]; frame_out
  rw [e, eq_ix2 j]
  exact (db_read (holds H t) _ _ _).trans (congrArg (· + _) (by pointwise [k0_pay8]))

theorem db_next (t : Fin cfg0.N) (h : ¬ t.val % 16 = 0) (j : S1x1024.Idx) :
    (outsAt0 m c t.val t.isLt).2.2.2.2.2.2.2.1 j =
      (outsAt0 m c (t.val - 1) (Nat.lt_of_le_of_lt (Nat.sub_le _ _) t.isLt)).2.2.2.2.2.2.2.1 j +
        ((∑ r, dh D.par (D.row (rowOf t r)) (j 1) : ℝ) : EReal) := by
  have e : (outsAt0 m c t.val t.isLt).2.2.2.2.2.2.2.1 =
      k0_pay47 (k0_pay45 ((outsAt0 m c (t.val - 1) (Nat.lt_of_le_of_lt (Nat.sub_le _ _) t.isLt)).2.2.2.2.2.2.2.1)) (k0_pay46 (g' (ins m c t)) (b' (ins m c t)) (xc' (ins m c t)) (sq' (ins m c t)) n' (ins m c t).tgt) := by
    rw [outsAt0_B m c t h]; frame_out
  rw [e, eq_ix2 j]
  exact db_read (holds H t) _ _ _

theorem db_arr : (dats m 0 c).arrAt 16 cfg0.N = fun i : S1x1024.Idx => ((∑ R, dh D.par (D.row R) (i 1) : ℝ) : EReal) := by
  refine (dats m 0 c).arrAt_eq_of_after_last 16 t0_15 (by decide +kernel) _ fun j => ?_
  blk_simp
  rw [after0_16]
  refine (Pipeline.eq_sum_fin_of_reset_step_apply_last (fun n h => (outsAt0 m c n h).2.2.2.2.2.2.2.1) 16 (fun _ => 0) _
    (db_first H) (db_next H) (le_of_eq N_0) t0_15 rfl _).trans ?_
  rw [zero_add]
  exact sum_rows (fun R => dh D.par (D.row R) (j 1))

theorem loss_first (t : Fin cfg0.N) (h : t.val % 16 = 0) (j : S1x1.Idx) :
    (outsAt0 m c t.val t.isLt).2.2.2.2.2.2.2.2 j = 0 + ((1 / 2 * ∑ r, loss D.par (D.row (rowOf t r)) : ℝ) : EReal) := by
  have e : (outsAt0 m c t.val t.isLt).2.2.2.2.2.2.2.2 = k0_pay42 (g' (ins m c t)) (b' (ins m c t)) (xc' (ins m c t)) (sq' (ins m c t)) n' (ins m c t).tgt (k0_pay9 (F := Ideal)) := by
    rw [outsAt0_A m c t h]; frame_out
  rw [e, eq_ix2 j]
  exact (loss_read (holds H t) _ _ _).trans (congrArg (· + _) (by pointwise [k0_pay9]))

theorem loss_next (t : Fin cfg0.N) (h : ¬ t.val % 16 = 0) (j : S1x1.Idx) :
    (outsAt0 m c t.val t.isLt).2.2.2.2.2.2.2.2 j =
      (outsAt0 m c (t.val - 1) (Nat.lt_of_le_of_lt (Nat.sub_le _ _) t.isLt)).2.2.2.2.2.2.2.2 j +
        ((1 / 2 * ∑ r, loss D.par (D.row (rowOf t r)) : ℝ) : EReal) := by
  have e : (outsAt0 m c t.val t.isLt).2.2.2.2.2.2.2.2 =
      k0_pay42 (g' (ins m c t)) (b' (ins m c t)) (xc' (ins m c t)) (sq' (ins m c t)) n' (ins m c t).tgt ((outsAt0 m c (t.val - 1) (Nat.lt_of_le_of_lt (Nat.sub_le _ _) t.isLt)).2.2.2.2.2.2.2.2) := by
    rw [outsAt0_B m c t h]; frame_out
  rw [e, eq_ix2 j]
  exact loss_read (holds H t) _ _ _

theorem loss_arr : (dats m 0 c).arrAt 17 cfg0.N = fun i : S1x1.Idx => ((1 / 2 * ∑ R, loss D.par (D.row R) : ℝ) : EReal) := by
  refine (dats m 0 c).arrAt_eq_of_after_last 17 t0_15 (by decide +kernel) _ fun j => ?_
  blk_simp
  rw [after0_17]
  refine (Pipeline.eq_sum_fin_of_reset_step_apply_last (fun n h => (outsAt0 m c n h).2.2.2.2.2.2.2.2) 16 (fun _ => 0) _
    (loss_first H) (loss_next H) (le_of_eq N_0) t0_15 rfl _).trans ?_
  rw [zero_add]
  simp only [Finset.mul_sum]
  exact sum_rows (fun R => 1 / 2 * loss D.par (D.row R))

end Cert.Windows
-- ==== Proof.RefFwd.lean ====
/-
The reference's forward stages at arguments that hold real numbers: each stage is the row model's quantity.
-/
module

public import proofs.«01_k».proof.Proof.Model
public import proofs.«01_k».proof.Proof.Gen.ReferenceIdeal.Read

@[expose] public section

set_option maxRecDepth 16384

noncomputable section

open Idealize.ShloMosaic Idealize.SL.Sem
open Cert.ReferenceIdeal Cert.ReferenceIdeal.Gen Cert.ReferenceIdeal.Read

namespace Cert.Ref

open Cert.Core Cert.Model

/-- A sum over one element is that element: a reduction whose reduced axes have one element each. -/
theorem reduceAdd_unit {s t : Shape} {axes : List (Fin s.rank)} (h : s.ReducesTo axes t) (x : s.Idx → EReal)
    (init : EReal) (j : t.Idx) (e : s.Idx) (he : ∀ i, h.drop i = j ↔ i = e) :
    Ideal.hostReduceAdd h x init j = init + x e := by
  rw [Ideal.hostReduceAdd, show Finset.univ.filter (fun i => h.drop i = j) = {e} from by ext i; simp [he],
    Finset.sum_singleton]

/-- The reference's argument arrays hold the layer's input `D`. -/
structure Reads (x0 : (⟨S1x8192x768, .f32⟩ : BufTy).Contents (Elt Ideal)) (x1 : (⟨S1x8192x1024, .f32⟩ : BufTy).Contents (Elt Ideal))
    (x2 : (⟨S1x8192x256, .f32⟩ : BufTy).Contents (Elt Ideal)) (x3 : (⟨S1x256x512, .f32⟩ : BufTy).Contents (Elt Ideal))
    (x4 : (⟨S1024x1024, .f32⟩ : BufTy).Contents (Elt Ideal)) (x5 : (⟨S1x8192x1024, .f32⟩ : BufTy).Contents (Elt Ideal))
    (x6 x7 : (⟨S1024, .f32⟩ : BufTy).Contents (Elt Ideal)) (x8 : (⟨S1x8192x1024, .f32⟩ : BufTy).Contents (Elt Ideal))
    (D : Input) : Prop where
  tok : ∀ r k, x0 (ix3 (0 : Fin 1) r k) = (((D.row r).tok k : ℝ) : EReal)
  gate : ∀ r k, x1 (ix3 (0 : Fin 1) r k) = (((D.row r).gate k : ℝ) : EReal)
  qm : ∀ r k, x2 (ix3 (0 : Fin 1) r k) = (((D.row r).qm k : ℝ) : EReal)
  kv : ∀ r k, x3 (ix3 (0 : Fin 1) r k) = ((D.par.kv r k : ℝ) : EReal)
  w : ∀ r k, x4 (ix2 r k) = ((D.par.w r k : ℝ) : EReal)
  h : ∀ r k, x5 (ix3 (0 : Fin 1) r k) = (((D.row r).h k : ℝ) : EReal)
  g : ∀ k, x6 (ix1 k) = ((D.par.g k : ℝ) : EReal)
  b : ∀ k, x7 (ix1 k) = ((D.par.b k : ℝ) : EReal)
  tgt : ∀ r k, x8 (ix3 (0 : Fin 1) r k) = (((D.row r).tgt k : ℝ) : EReal)

theorem ne_1024 : (1024 : ℝ) ≠ 0 := by norm_num
theorem ne_8 : (8 : ℝ) ≠ 0 := by norm_num

/-- A maximum with minus infinity is the other operand. -/
theorem maximumf_bot {s : Shape} (y z : FVec Ideal s .f32) (i : s.Idx) (h : y i = (⊥ : EReal)) : maximumf y z i = z i := by
  show max (y i : EReal) (z i) = z i
  rw [h]
  exact max_eq_right bot_le

theorem bottom_read (i : S1x4x8192.Idx) : val_main_v15 (F := Ideal) i = (⊥ : EReal) := by
  rw [val_main_v15_apply, val_main_cst_2_apply]
  exact bits_neg_inf

/-- The column of a head's feature, as the reference's reshape writes it. -/
theorem col_eq (a : Fin 4) (d : Fin 64) (h : a.val * 64 + d.val < 256) : (⟨a.val * 64 + d.val, h⟩ : Fin 256) = col a d :=
  Fin.ext (by show a.val * 64 + d.val = 64 * a.val + d.val; omega)
theorem kcol_eq (a : Fin 4) (d : Fin 64) (h : a.val * 64 + d.val < 512) : (⟨a.val * 64 + d.val, h⟩ : Fin 512) = kcol (col a d) :=
  Fin.ext (by show a.val * 64 + d.val = 64 * a.val + d.val; omega)
theorem vcol_eq (a : Fin 4) (d : Fin 64) (h : 256 + a.val * 64 + d.val < 512) :
    (⟨256 + a.val * 64 + d.val, h⟩ : Fin 512) = vcol (col a d) :=
  Fin.ext (by show 256 + a.val * 64 + d.val = 256 + (64 * a.val + d.val); omega)
theorem col_hd (c : Fin 256) (h : c.val % 64 < 64) : col (hd c) ⟨c.val % 64, h⟩ = c :=
  Fin.ext (by show 64 * (c.val / 64) + c.val % 64 = c.val; omega)

section
variable {x0 : (⟨S1x8192x768, .f32⟩ : BufTy).Contents (Elt Ideal)} {x1 : (⟨S1x8192x1024, .f32⟩ : BufTy).Contents (Elt Ideal)}
  {x2 : (⟨S1x8192x256, .f32⟩ : BufTy).Contents (Elt Ideal)} {x3 : (⟨S1x256x512, .f32⟩ : BufTy).Contents (Elt Ideal)}
  {x4 : (⟨S1024x1024, .f32⟩ : BufTy).Contents (Elt Ideal)} {x5 : (⟨S1x8192x1024, .f32⟩ : BufTy).Contents (Elt Ideal)}
  {x6 x7 : (⟨S1024, .f32⟩ : BufTy).Contents (Elt Ideal)} {x8 : (⟨S1x8192x1024, .f32⟩ : BufTy).Contents (Elt Ideal)}
  {D : Input}
  (H : Reads x0 x1 x2 x3 x4 x5 x6 x7 x8 D)
include H

/-! ## Memory attention -/

theorem key_read (m : Fin 256) (a : Fin 4) (d : Fin 64) :
    val_main_v3 (F := Ideal) x3 (ix4 (0 : Fin 1) m a d) = ((D.par.kv m (kcol (col a d)) : ℝ) : EReal) := by
  pointwise [val_main_v3, val_main_v2, val_main_v0]
  rw [H.kv, kcol_eq]
theorem value_read (m : Fin 256) (a : Fin 4) (d : Fin 64) :
    val_main_v5 (F := Ideal) x3 (ix4 (0 : Fin 1) m a d) = ((D.par.kv m (vcol (col a d)) : ℝ) : EReal) := by
  pointwise [val_main_v5, val_main_v4, val_main_v0]
  rw [H.kv, vcol_eq]
theorem query_read (r : Fin 8192) (a : Fin 4) (d : Fin 64) :
    val_main_v1 (F := Ideal) x2 (ix4 (0 : Fin 1) r a d) = (((D.row r).qm (col a d) : ℝ) : EReal) := by
  pointwise [val_main_v1]
  rw [H.qm, col_eq]
theorem score_read (a : Fin 4) (r : Fin 8192) (m : Fin 256) :
    val_main_v8 (F := Ideal) x2 x3 (ix4 (0 : Fin 1) a r m) = ((score D.par (D.row r) a m : ℝ) : EReal) := by
  pointwise [val_main_v8, val_main_v7, val_main_v6, val_main_cst]
  simp only [key_read H, query_read H, bits_eight, ← EReal.coe_mul, coe_sum, div_real _ ne_8, score]
  rw [div_eq_mul_one_div]

/-- The row maximum the reference subtracts, as a real. -/
def top (x2 : (⟨S1x8192x256, .f32⟩ : BufTy).Contents (Elt Ideal)) (x3 : (⟨S1x256x512, .f32⟩ : BufTy).Contents (Elt Ideal))
    (a : Fin 4) (r : Fin 8192) : ℝ := (val_main_v16 (F := Ideal) x2 x3 (ix3 (0 : Fin 1) a r) : EReal).toReal

theorem top_read (a : Fin 4) (r : Fin 8192) :
    val_main_v16 (F := Ideal) x2 x3 (ix3 (0 : Fin 1) a r) = ((top x2 x3 a r : ℝ) : EReal) := by
  unfold top
  have h : ∃ M : ℝ, val_main_v16 (F := Ideal) x2 x3 (ix3 (0 : Fin 1) a r) = (M : EReal) := by
    unfold val_main_v16
    rw [maximumf_bot _ _ _ (bottom_read _)]
    pointwise [val_main_v9, val_main_cst_0]
    simp only [score_read H, bits_neg_inf]
    exact fold_max_real fun n : Fin (255 + 1) => score D.par (D.row r) a n
  obtain ⟨M, hM⟩ := h
  rw [hM, EReal.toReal_coe]

/-- The shifted exponentials and their sum. -/
def ex (x2 : (⟨S1x8192x256, .f32⟩ : BufTy).Contents (Elt Ideal)) (x3 : (⟨S1x256x512, .f32⟩ : BufTy).Contents (Elt Ideal))
    (D : Input) (a : Fin 4) (r : Fin 8192) (m : Fin 256) : ℝ := Real.exp (score D.par (D.row r) a m - top x2 x3 a r)
def zs (x2 : (⟨S1x8192x256, .f32⟩ : BufTy).Contents (Elt Ideal)) (x3 : (⟨S1x256x512, .f32⟩ : BufTy).Contents (Elt Ideal))
    (D : Input) (a : Fin 4) (r : Fin 8192) : ℝ := ∑ m, ex x2 x3 D a r m

omit H in
theorem zs_ne (a : Fin 4) (r : Fin 8192) : zs x2 x3 D a r ≠ 0 :=
  (sum_exp_pos (n := 255) fun m => score D.par (D.row r) a m - top x2 x3 a r).ne'
omit H in
theorem prob_eq (a : Fin 4) (r : Fin 8192) (m : Fin 256) :
    ex x2 x3 D a r m / zs x2 x3 D a r = prob D.par (D.row r) a m := softmax_shift _ _ _

theorem ex_read (a : Fin 4) (r : Fin 8192) (m : Fin 256) :
    val_main_v29 (F := Ideal) x2 x3 (ix4 (0 : Fin 1) a r m) = ((ex x2 x3 D a r m : ℝ) : EReal) := by
  pointwise [val_main_v29, val_main_v28, val_main_v27, val_main_v26]
  simp only [score_read H, top_read H, ← EReal.coe_sub, Ideal.exp_coe, ex]
theorem zs_read (a : Fin 4) (r : Fin 8192) :
    val_main_v30 (F := Ideal) x2 x3 (ix3 (0 : Fin 1) a r) = ((zs x2 x3 D a r : ℝ) : EReal) := by
  pointwise [val_main_v30, val_main_cst_8]
  simp only [ex_read H, coe_sum, zs]
theorem prob_read (a : Fin 4) (r : Fin 8192) (m : Fin 256) :
    val_main_v33 (F := Ideal) x2 x3 (ix4 (0 : Fin 1) a r m) = ((prob D.par (D.row r) a m : ℝ) : EReal) := by
  pointwise [val_main_v33, val_main_v32, val_main_v31]
  simp only [ex_read H, zs_read H, div_real _ (zs_ne _ _), prob_eq]
theorem rsq_read (a : Fin 4) (r : Fin 8192) (u : Fin 1) :
    val_main_v36 (F := Ideal) x2 x3 (ix4 (0 : Fin 1) a r u) = ((1 / (zs x2 x3 D a r * zs x2 x3 D a r) : ℝ) : EReal) := by
  pointwise [val_main_v36, val_main_v35, val_main_v34, val_main_v31, val_main_cst_9]
  simp only [zs_read H, ← EReal.coe_mul, ← EReal.coe_one, div_real _ (mul_ne_zero (zs_ne _ _) (zs_ne _ _))]
theorem mo_read (r : Fin 8192) (c : Fin 256) :
    val_main_v39 (F := Ideal) x2 x3 (ix3 (0 : Fin 1) r c) = ((mo D.par (D.row r) c : ℝ) : EReal) := by
  pointwise [val_main_v39, val_main_v38, val_main_v37]
  simp only [value_read H, prob_read H, ← EReal.coe_mul, coe_sum, mo]
  exact congrArg _ (Finset.sum_congr rfl fun m _ => by
    rw [mul_comm, show col ⟨c.val / 64, _⟩ ⟨c.val % 64, _⟩ = c from col_hd c _]; rfl)

/-! ## Gate, projection, layer norm and loss -/

theorem cat_read (r : Fin 8192) (c : Fin 1024) :
    val_main_v40 (F := Ideal) x0 x2 x3 (ix3 (0 : Fin 1) r c) = ((cat D.par (D.row r) c : ℝ) : EReal) := by
  pointwise [val_main_v40]
  rw [cat]
  by_cases h : c.val < 768
  · rw [dif_pos h, dif_pos h, H.tok]
  · rw [dif_neg h, dif_neg h, mo_read H]
theorem sg_read (r : Fin 8192) (c : Fin 1024) :
    val_main_v41_2 (F := Ideal) x1 (ix3 (0 : Fin 1) r c) = ((sg (D.row r) c : ℝ) : EReal) := by
  pointwise [val_main_v41_2, val_main_call0_v4, val_main_call0_v3, val_main_call0_v2, val_main_call0_v1, val_main_call0_v0, val_main_call0_cst, val_main_call0_cst_0]
  simp only [H.gate, ← EReal.coe_neg, Ideal.exp_coe, ← EReal.coe_one, ← EReal.coe_add, div_real _ (one_add_exp_ne _), sg, one_div]
theorem dsg_read (r : Fin 8192) (c : Fin 1024) :
    val_main_v41_1 (F := Ideal) x1 (ix3 (0 : Fin 1) r c) = ((sg (D.row r) c * (1 - sg (D.row r) c) : ℝ) : EReal) := by
  pointwise [val_main_v41_1, val_main_call0_v7, val_main_call0_v6, val_main_call0_cst_1]
  simp only [sg_read H, ← EReal.coe_one, ← EReal.coe_sub, ← EReal.coe_mul]
theorem sl_read (r : Fin 8192) (c : Fin 1024) :
    val_main_v41_0 (F := Ideal) x1 (ix3 (0 : Fin 1) r c) = ((sl (D.row r) c : ℝ) : EReal) := by
  pointwise [val_main_v41_0]
  simp only [sg_read H, H.gate, ← EReal.coe_mul, sl]
theorem y_read (r : Fin 8192) (c : Fin 1024) :
    val_main_v42 (F := Ideal) x0 x1 x2 x3 (ix3 (0 : Fin 1) r c) = ((y D.par (D.row r) c : ℝ) : EReal) := by
  pointwise [val_main_v42]
  simp only [cat_read H, sl_read H, ← EReal.coe_mul, y]
theorem res_read (r : Fin 8192) (k : Fin 1024) :
    val_main_v46 (F := Ideal) x0 x1 x2 x3 x4 x5 (ix3 (0 : Fin 1) r k) = ((res D.par (D.row r) k : ℝ) : EReal) := by
  pointwise [val_main_v46, val_main_v45, val_main_v44, val_main_v43, val_main_cst_10]
  simp only [y_read H, H.w, H.h, bits_alpha, ← EReal.coe_mul, coe_sum, ← EReal.coe_add, res]
theorem mu_read (r : Fin 8192) (u : Fin 1) :
    val_main_v50 (F := Ideal) x0 x1 x2 x3 x4 x5 (ix3 (0 : Fin 1) r u) = ((mu D.par (D.row r) : ℝ) : EReal) := by
  pointwise [val_main_v50, val_main_v49, val_main_v48, val_main_v47, val_main_cst_11, val_main_cst_12]
  simp only [res_read H, bits_1024, coe_sum, div_real _ ne_1024, mu]
theorem xc_read (r : Fin 8192) (k : Fin 1024) :
    val_main_v52 (F := Ideal) x0 x1 x2 x3 x4 x5 (ix3 (0 : Fin 1) r k) = ((xc D.par (D.row r) k : ℝ) : EReal) := by
  pointwise [val_main_v52, val_main_v51]
  simp only [res_read H, mu_read H, ← EReal.coe_sub, xc]
theorem xc2_read (r : Fin 8192) (k : Fin 1024) :
    val_main_v61 (F := Ideal) x0 x1 x2 x3 x4 x5 (ix3 (0 : Fin 1) r k) = ((xc D.par (D.row r) k : ℝ) : EReal) := by
  pointwise [val_main_v61, val_main_v60]
  simp only [res_read H, mu_read H, ← EReal.coe_sub, xc]
theorem var_read (r : Fin 8192) (u : Fin 1) :
    val_main_v63 (F := Ideal) x0 x1 x2 x3 x4 x5 (ix3 (0 : Fin 1) r u) = ((var D.par (D.row r) + eps : ℝ) : EReal) := by
  pointwise [val_main_v63, val_main_v62, val_main_v59, val_main_v58, val_main_v57, val_main_v56, val_main_v53, val_main_cst_14, val_main_cst_15, val_main_cst_16]
  simp only [xc_read H, bits_1024, bits_eps, ← EReal.coe_mul, coe_sum, div_real _ ne_1024, ← EReal.coe_add, var]
theorem rstd_read (r : Fin 8192) (u : Fin 1) :
    val_main_v64 (F := Ideal) x0 x1 x2 x3 x4 x5 (ix3 (0 : Fin 1) r u) = ((rstd D.par (D.row r) : ℝ) : EReal) := by
  pointwise [val_main_v64]
  rw [var_read H]
  exact rsqrt_real (var_eps_pos _ _)
theorem drstd_read (r : Fin 8192) (u : Fin 1) :
    val_main_v67 (F := Ideal) x0 x1 x2 x3 x4 x5 (ix3 (0 : Fin 1) r u) =
      ((-(1 / 2) * (rstd D.par (D.row r) / (var D.par (D.row r) + eps)) : ℝ) : EReal) := by
  pointwise [val_main_v67, val_main_v66, val_main_v65, val_main_cst_17]
  simp only [rstd_read H, var_read H, div_real _ (var_eps_pos _ _).ne', bits_neg_half, ← EReal.coe_mul]
theorem xh_read (r : Fin 8192) (k : Fin 1024) :
    val_main_v69 (F := Ideal) x0 x1 x2 x3 x4 x5 (ix3 (0 : Fin 1) r k) = ((xh D.par (D.row r) k : ℝ) : EReal) := by
  pointwise [val_main_v69, val_main_v68]
  simp only [xc2_read H, rstd_read H, ← EReal.coe_mul, xh]
theorem diff_read (r : Fin 8192) (k : Fin 1024) :
    val_main_v76 (F := Ideal) x0 x1 x2 x3 x4 x5 x6 x7 x8 (ix3 (0 : Fin 1) r k) = ((diff D.par (D.row r) k : ℝ) : EReal) := by
  pointwise [val_main_v76, val_main_v75, val_main_v74, val_main_v73, val_main_v72, val_main_v71, val_main_v70]
  simp only [xh_read H, H.g, H.b, H.tgt, ← EReal.coe_mul, ← EReal.coe_add, ← EReal.coe_sub, diff]
theorem loss_read (i j : Fin 1) :
    val_main_v174 (F := Ideal) x0 x1 x2 x3 x4 x5 x6 x7 x8 (ix2 i j) = ((1 / 2 * ∑ R, loss D.par (D.row R) : ℝ) : EReal) := by
  pointwise [val_main_v174, val_main_v84, val_main_v83, val_main_v82, val_main_v81, val_main_v80, val_main_v77, val_main_cst_19, val_main_cst_20, val_main_cst_21, val_main_cst_22]
  simp only [Fin.sum_univ_one, diff_read H, bits_1024, bits_half, ← EReal.coe_mul, coe_sum, div_real _ ne_1024, loss]
theorem dh_read (r : Fin 8192) (k : Fin 1024) :
    val_main_v90 (F := Ideal) x0 x1 x2 x3 x4 x5 x6 x7 x8 (ix3 (0 : Fin 1) r k) = ((dh D.par (D.row r) k : ℝ) : EReal) := by
  pointwise [val_main_v90, val_main_v89, val_main_v88, val_main_v87, val_main_v86, val_main_v85, val_main_v79, val_main_v78, val_main_cst_18, val_main_cst_23, val_main_cst_24, val_main_cst_25]
  simp only [diff_read H, bits_1024, bits_half, bits_two, ← EReal.coe_one, ← EReal.coe_mul, div_real _ ne_1024, dh]
  exact congrArg _ (by ring)
end

end Cert.Ref
-- ==== Proof.RefBwd.lean ====
/-
The reference's backward stages at arguments that hold real numbers: what the transposed forward lines compute is the row
model's gradient.
-/
module

public import proofs.«01_k».proof.Proof.RefFwd
public import proofs.«01_k».proof.Proof.Gen.ReferenceIdeal.Read

@[expose] public section

set_option maxRecDepth 16384

noncomputable section

open Idealize.ShloMosaic Idealize.SL.Sem
open Cert.ReferenceIdeal Cert.ReferenceIdeal.Gen Cert.ReferenceIdeal.Read

namespace Cert.Ref

open Cert.Core Cert.Model

/-- The head of a head's feature. -/
theorem hd_col (a : Fin 4) (d : Fin 64) : hd (col a d) = a := Fin.ext (by show (64 * a.val + d.val) / 64 = a.val; omega)

/-- The memory gradient in the keys' columns, and in the values' columns, by head and feature. -/
theorem dkv_low (W : Params) (x : Row) (m : Fin 256) (j : Fin 512) (h : j.val < 256) :
    dkv W x m j = ds W x ⟨j.val / 64 % 4, by omega⟩ m * x.qm (col ⟨j.val / 64 % 4, by omega⟩ ⟨j.val % 64, by omega⟩) := by
  have e : (⟨j.val, h⟩ : Fin 256) = col ⟨j.val / 64 % 4, by omega⟩ ⟨j.val % 64, by omega⟩ :=
    Fin.ext (by show j.val = 64 * (j.val / 64 % 4) + j.val % 64; omega)
  unfold dkv
  rw [dif_pos h, e, hd_col]
theorem dkv_high (W : Params) (x : Row) (m : Fin 256) (j : Fin 512) (h : ¬j.val < 256) :
    dkv W x m j = prob W x ⟨j.val / 64 % 4, by omega⟩ m * dmo W x (col ⟨j.val / 64 % 4, by omega⟩ ⟨j.val % 64, by omega⟩) := by
  have e : (⟨j.val - 256, by omega⟩ : Fin 256) = col ⟨j.val / 64 % 4, by omega⟩ ⟨j.val % 64, by omega⟩ :=
    Fin.ext (by show j.val - 256 = 64 * (j.val / 64 % 4) + j.val % 64; omega)
  unfold dkv
  rw [dif_neg h, e, hd_col]

/-! ## Reductions over axes of one element -/

theorem unit3 (i : Fin 1) : i = 0 := Subsingleton.elim _ _

theorem reduce_rows (x : S1x1x1024.Idx → EReal) (init : EReal) (k : Fin 1024) :
    Ideal.hostReduceAdd reducesTo_S1x1x1024_S1024_d0_1 x init (ix1 k) = init + x (ix3 (0 : Fin 1) (0 : Fin 1) k) :=
  reduceAdd_unit _ _ _ _ _ fun i => ⟨fun h => by
    have h2 : i 2 = k := congrFun h 0
    rw [eq_ix3 i, h2, unit3 (i 0), unit3 (i 1)], fun h => by rw [h]; funext b; rw [unit3 b]; rfl⟩

theorem reduce_cols (x : S1x8192x1.Idx → EReal) (init : EReal) (r : Fin 8192) :
    Ideal.hostReduceAdd reducesTo_S1x8192x1_S8192_d0_2 x init (ix1 r) = init + x (ix3 (0 : Fin 1) r (0 : Fin 1)) :=
  reduceAdd_unit _ _ _ _ _ fun i => ⟨fun h => by
    have h2 : i 1 = r := congrFun h 0
    rw [eq_ix3 i, h2, unit3 (i 0), unit3 (i 2)], fun h => by rw [h]; funext b; rw [unit3 b]; rfl⟩

theorem reduce_heads (x : S1x4x8192x1.Idx → EReal) (init : EReal) (a : Fin 4) (r : Fin 8192) :
    Ideal.hostReduceAdd reducesTo_S1x4x8192x1_S4x8192_d0_3 x init (ix2 a r) =
      init + x (ix4 (0 : Fin 1) a r (0 : Fin 1)) :=
  reduceAdd_unit _ _ _ _ _ fun i => ⟨fun h => by
    have h1 : i 1 = a := congrFun h 0
    have h2 : i 2 = r := congrFun h 1
    rw [eq_ix4 i, h1, h2, unit3 (i 0), unit3 (i 3)], fun h => by
      rw [h]; funext b; match b with | ⟨0, _⟩ => rfl | ⟨1, _⟩ => rfl⟩

/-! ## The transposed forward lines are the model's gradient -/

/-- Layer norm: the derivative through the centred row, the variance and the mean. -/
theorem norm_grad (W : Params) (x : Row) (k : Fin 1024) :
    dxh W x k * rstd W x
        + (∑ j, xc W x j * dxh W x j) * (-(1 / 2) * (rstd W x / (var W x + eps))) / 1024 * (2 * xc W x k)
        + ((∑ j, -(dxh W x j * rstd W x))
          + ∑ j, -((∑ j, xc W x j * dxh W x j) * (-(1 / 2) * (rstd W x / (var W x + eps))) / 1024 * (2 * xc W x j))) / 1024
      = dr W x k := by
  have h0 : ∀ S : ℝ, ∑ j, -(S * (2 * xc W x j)) = 0 := fun S => by
    rw [Finset.sum_neg_distrib, ← Finset.mul_sum, ← Finset.mul_sum, sum_xc]; ring
  have h1 : ∑ j, -(dxh W x j * rstd W x) = -((∑ j, dxh W x j) * rstd W x) := by
    rw [Finset.sum_neg_distrib, Finset.sum_mul]
  have h2 : ∑ j, dxh W x j * xh W x j = (∑ j, xc W x j * dxh W x j) * rstd W x := by
    rw [Finset.sum_mul]
    exact Finset.sum_congr rfl fun j _ => by rw [xh]; ring
  rw [h0, h1, dr, h2, div_eq_mul_inv (rstd W x), ← rstd_sq, xh]
  ring

/-- The SiLU gate's derivative. -/
theorem gate_grad (W : Params) (x : Row) (c : Fin 1024) :
    cat W x c * dy W x c * sg x c + x.gate c * (cat W x c * dy W x c) * (sg x c * (1 - sg x c)) = dgate W x c := by
  rw [dgate]; ring

section
variable {x0 : (⟨S1x8192x768, .f32⟩ : BufTy).Contents (Elt Ideal)} {x1 : (⟨S1x8192x1024, .f32⟩ : BufTy).Contents (Elt Ideal)}
  {x2 : (⟨S1x8192x256, .f32⟩ : BufTy).Contents (Elt Ideal)} {x3 : (⟨S1x256x512, .f32⟩ : BufTy).Contents (Elt Ideal)}
  {x4 : (⟨S1024x1024, .f32⟩ : BufTy).Contents (Elt Ideal)} {x5 : (⟨S1x8192x1024, .f32⟩ : BufTy).Contents (Elt Ideal)}
  {x6 x7 : (⟨S1024, .f32⟩ : BufTy).Contents (Elt Ideal)} {x8 : (⟨S1x8192x1024, .f32⟩ : BufTy).Contents (Elt Ideal)}
  {D : Input}
  (H : Reads x0 x1 x2 x3 x4 x5 x6 x7 x8 D)
include H

/-- Softmax: the derivative through the quotient and the exponential. -/
theorem soft_grad (a : Fin 4) (r : Fin 8192) (m : Fin 256) :
    (dp D.par (D.row r) a m / zs x2 x3 D a r
        + -(∑ n, dp D.par (D.row r) a n * (1 / (zs x2 x3 D a r * zs x2 x3 D a r)) * ex x2 x3 D a r n)) * ex x2 x3 D a r m / 8
      = ds D.par (D.row r) a m := by
  have hz := zs_ne (x2 := x2) (x3 := x3) (D := D) a r
  have h : ∑ n, dp D.par (D.row r) a n * (1 / (zs x2 x3 D a r * zs x2 x3 D a r)) * ex x2 x3 D a r n =
      (∑ n, dp D.par (D.row r) a n * prob D.par (D.row r) a n) / zs x2 x3 D a r := by
    rw [Finset.sum_div]
    exact Finset.sum_congr rfl fun n _ => by rw [← prob_eq (x2 := x2) (x3 := x3)]; field_simp
  rw [h, ds, ← prob_eq (x2 := x2) (x3 := x3) a r m]
  field_simp
  ring

/-! ## Layer norm -/

theorem db_read (i : Fin 1) (k : Fin 1024) :
    val_main_v173 (F := Ideal) x0 x1 x2 x3 x4 x5 x6 x7 x8 (ix2 i k) = ((∑ R, dh D.par (D.row R) k : ℝ) : EReal) := by
  pointwise [val_main_v173, val_main_v93]
  rw [reduce_rows]
  pointwise [val_main_v92, val_main_v91, val_main_cst_26, val_main_cst_27]
  simp only [dh_read H, coe_sum]
theorem dg_read (i : Fin 1) (k : Fin 1024) :
    val_main_v172 (F := Ideal) x0 x1 x2 x3 x4 x5 x6 x7 x8 (ix2 i k) = ((∑ R, dh D.par (D.row R) k * xh D.par (D.row R) k : ℝ) : EReal) := by
  pointwise [val_main_v172, val_main_v99]
  rw [reduce_rows]
  pointwise [val_main_v96, val_main_v95, val_main_v94, val_main_cst_28, val_main_cst_29]
  simp only [dh_read H, xh_read H, ← EReal.coe_mul, coe_sum]
  exact congrArg _ (Finset.sum_congr rfl fun _ _ => mul_comm _ _)
theorem dxh_read (r : Fin 8192) (k : Fin 1024) :
    val_main_v98 (F := Ideal) x0 x1 x2 x3 x4 x5 x6 x7 x8 (ix3 (0 : Fin 1) r k) = ((dxh D.par (D.row r) k : ℝ) : EReal) := by
  pointwise [val_main_v98, val_main_v97, val_main_v70]
  simp only [dh_read H, H.g, ← EReal.coe_mul, dxh]
theorem inner_read (r : Fin 8192) (u : Fin 1) :
    val_main_v102 (F := Ideal) x0 x1 x2 x3 x4 x5 x6 x7 x8 (ix3 (0 : Fin 1) r u) = ((∑ j, xc D.par (D.row r) j * dxh D.par (D.row r) j : ℝ) : EReal) := by
  pointwise [val_main_v102, val_main_v101, val_main_v100, val_main_cst_30]
  simp only [xc2_read H, dxh_read H, ← EReal.coe_mul, coe_sum]
theorem straight_read (r : Fin 8192) (k : Fin 1024) :
    val_main_v104 (F := Ideal) x0 x1 x2 x3 x4 x5 x6 x7 x8 (ix3 (0 : Fin 1) r k) = ((dxh D.par (D.row r) k * rstd D.par (D.row r) : ℝ) : EReal) := by
  pointwise [val_main_v104, val_main_v103]
  simp only [dxh_read H, rstd_read H, ← EReal.coe_mul]
theorem spread_read (r : Fin 8192) (k : Fin 1024) :
    val_main_v114 (F := Ideal) x0 x1 x2 x3 x4 x5 x6 x7 x8 (ix3 (0 : Fin 1) r k) =
      (((∑ j, xc D.par (D.row r) j * dxh D.par (D.row r) j) * (-(1 / 2) * (rstd D.par (D.row r) / (var D.par (D.row r) + eps))) / 1024 * (2 * xc D.par (D.row r) k) : ℝ) : EReal) := by
  pointwise [val_main_v114, val_main_v113, val_main_v112, val_main_v111, val_main_v55, val_main_v54, val_main_cst_13]
  rw [reduce_cols]
  pointwise [val_main_v110, val_main_v109, val_main_v105, val_main_cst_32, val_main_cst_33]
  simp only [inner_read H, drstd_read H, xc_read H, bits_two, bits_1024, ← EReal.coe_mul, div_real _ ne_1024]
theorem mean_read (r : Fin 8192) (k : Fin 1024) :
    val_main_v124 (F := Ideal) x0 x1 x2 x3 x4 x5 x6 x7 x8 (ix3 (0 : Fin 1) r k) =
      ((((∑ j, -(dxh D.par (D.row r) j * rstd D.par (D.row r)))
          + ∑ j, -((∑ j, xc D.par (D.row r) j * dxh D.par (D.row r) j) * (-(1 / 2) * (rstd D.par (D.row r) / (var D.par (D.row r) + eps))) / 1024 * (2 * xc D.par (D.row r) j))) / 1024 : ℝ) : EReal) := by
  pointwise [val_main_v124, val_main_v123, val_main_v122]
  rw [reduce_cols]
  pointwise [val_main_v121, val_main_v120, val_main_v119, val_main_v117, val_main_v116, val_main_v115, val_main_v108, val_main_v107, val_main_v106, val_main_cst_31, val_main_cst_34, val_main_cst_35, val_main_cst_36]
  simp only [straight_read H, spread_read H, ← EReal.coe_neg, coe_sum, ← EReal.coe_add, bits_1024, div_real _ ne_1024]
theorem dr_read (r : Fin 8192) (k : Fin 1024) :
    val_main_v125 (F := Ideal) x0 x1 x2 x3 x4 x5 x6 x7 x8 (ix3 (0 : Fin 1) r k) = ((dr D.par (D.row r) k : ℝ) : EReal) := by
  pointwise [val_main_v125, val_main_v118]
  simp only [straight_read H, spread_read H, mean_read H, ← EReal.coe_add, norm_grad]
theorem dres_read (r : Fin 8192) (k : Fin 1024) :
    val_main_v167 (F := Ideal) x0 x1 x2 x3 x4 x5 x6 x7 x8 (ix2 r k) = ((alpha * dr D.par (D.row r) k : ℝ) : EReal) := by
  pointwise [val_main_v167, val_main_v130, val_main_v129, val_main_cst_37]
  simp only [dr_read H, bits_alpha, ← EReal.coe_mul]
theorem dw_read (c k : Fin 1024) :
    val_main_v127 (F := Ideal) x0 x1 x2 x3 x4 x5 x6 x7 x8 (ix2 c k) = ((∑ R, y D.par (D.row R) c * dr D.par (D.row R) k : ℝ) : EReal) := by
  pointwise [val_main_v127, val_main_v126]
  simp only [Fin.sum_univ_one, dr_read H, y_read H, ← EReal.coe_mul, coe_sum]
  exact congrArg _ (Finset.sum_congr rfl fun _ _ => mul_comm _ _)

/-! ## Gate -/

theorem dy_read (r : Fin 8192) (c : Fin 1024) :
    val_main_v128 (F := Ideal) x0 x1 x2 x3 x4 x5 x6 x7 x8 (ix3 (0 : Fin 1) r c) = ((dy D.par (D.row r) c : ℝ) : EReal) := by
  pointwise [val_main_v128]
  simp only [dr_read H, H.w, ← EReal.coe_mul, coe_sum, dy]
theorem dcat_read (r : Fin 8192) (c : Fin 1024) :
    val_main_v132 (F := Ideal) x0 x1 x2 x3 x4 x5 x6 x7 x8 (ix3 (0 : Fin 1) r c) = ((dcat D.par (D.row r) c : ℝ) : EReal) := by
  pointwise [val_main_v132]
  simp only [dy_read H, sl_read H, ← EReal.coe_mul, dcat]
theorem dgate_read (r : Fin 8192) (c : Fin 1024) :
    val_main_v169 (F := Ideal) x0 x1 x2 x3 x4 x5 x6 x7 x8 (ix2 r c) = ((dgate D.par (D.row r) c : ℝ) : EReal) := by
  pointwise [val_main_v169, val_main_v133, val_main_call1_v2, val_main_call1_v1, val_main_call1_v0, val_main_v131]
  simp only [dy_read H, cat_read H, sg_read H, dsg_read H, H.gate, ← EReal.coe_mul, ← EReal.coe_add, gate_grad]
theorem dtok_read (r : Fin 8192) (c : Fin 768) :
    val_main_v168 (F := Ideal) x0 x1 x2 x3 x4 x5 x6 x7 x8 (ix2 r c) = ((dcat D.par (D.row r) (tcol c) : ℝ) : EReal) := by
  pointwise [val_main_v168, val_main_v134]
  rw [dcat_read H]
  rfl

/-! ## Memory attention -/

theorem dmo_read (a : Fin 4) (d : Fin 64) (r : Fin 8192) :
    val_main_v137 (F := Ideal) x0 x1 x2 x3 x4 x5 x6 x7 x8 (ix4 (0 : Fin 1) a d r) = ((dmo D.par (D.row r) (col a d) : ℝ) : EReal) := by
  pointwise [val_main_v137, val_main_v136, val_main_v135]
  rw [dcat_read H, dmo]
  exact congrArg (fun c => ((dcat D.par (D.row r) c : ℝ) : EReal)) (Fin.ext (by show 768 + (a.val * 64 + d.val) = 768 + (64 * a.val + d.val); omega))
theorem dp_read (a : Fin 4) (r : Fin 8192) (m : Fin 256) :
    val_main_v138 (F := Ideal) x0 x1 x2 x3 x4 x5 x6 x7 x8 (ix4 (0 : Fin 1) a r m) = ((dp D.par (D.row r) a m : ℝ) : EReal) := by
  pointwise [val_main_v138]
  simp only [dmo_read H, value_read H, ← EReal.coe_mul, coe_sum, dp]
theorem ds_read (a : Fin 4) (r : Fin 8192) (m : Fin 256) :
    val_main_v155 (F := Ideal) x0 x1 x2 x3 x4 x5 x6 x7 x8 (ix4 (0 : Fin 1) a r m) = ((ds D.par (D.row r) a m : ℝ) : EReal) := by
  pointwise [val_main_v155, val_main_v154, val_main_v153, val_main_v152, val_main_v151, val_main_v150, val_main_v149, val_main_v148, val_main_v147, val_main_v31, val_main_cst_40]
  rw [reduce_heads]
  pointwise [val_main_v146, val_main_v145, val_main_v144, val_main_v143, val_main_v142, val_main_v141, val_main_cst_38, val_main_cst_39]
  simp only [dp_read H, zs_read H, rsq_read H, ex_read H, bits_eight, ← EReal.coe_mul, div_real _ (zs_ne _ _), coe_sum, ← EReal.coe_neg, ← EReal.coe_add, div_real _ ne_8]
  exact congrArg _ (soft_grad H a r m)
theorem dqm_read (r : Fin 8192) (c : Fin 256) :
    val_main_v170 (F := Ideal) x0 x1 x2 x3 x4 x5 x6 x7 x8 (ix2 r c) = ((dqm D.par (D.row r) c : ℝ) : EReal) := by
  pointwise [val_main_v170, val_main_v165, val_main_v159, val_main_v158]
  simp only [ds_read H, key_read H, ← EReal.coe_mul, coe_sum, dqm]
  exact congrArg _ (Finset.sum_congr rfl fun m _ => by
    rw [show col ⟨c.val / 64, _⟩ ⟨c.val % 64, _⟩ = c from col_hd c _]; rfl)
theorem dv_read (m : Fin 256) (a : Fin 4) (d : Fin 64) :
    val_main_v140 (F := Ideal) x0 x1 x2 x3 x4 x5 x6 x7 x8 (ix4 (0 : Fin 1) m a d) =
      ((∑ R, prob D.par (D.row R) a m * dmo D.par (D.row R) (col a d) : ℝ) : EReal) := by
  pointwise [val_main_v140, val_main_v139]
  simp only [dmo_read H, prob_read H, ← EReal.coe_mul, coe_sum]
  exact congrArg _ (Finset.sum_congr rfl fun _ _ => mul_comm _ _)
theorem dk_read (m : Fin 256) (a : Fin 4) (d : Fin 64) :
    val_main_v157 (F := Ideal) x0 x1 x2 x3 x4 x5 x6 x7 x8 (ix4 (0 : Fin 1) m a d) =
      ((∑ R, ds D.par (D.row R) a m * (D.row R).qm (col a d) : ℝ) : EReal) := by
  pointwise [val_main_v157, val_main_v156]
  simp only [ds_read H, query_read H, ← EReal.coe_mul, coe_sum]
theorem dkv_read (m : Fin 256) (j : Fin 512) :
    val_main_v171 (F := Ideal) x0 x1 x2 x3 x4 x5 x6 x7 x8 (ix2 m j) = ((∑ R, dkv D.par (D.row R) m j : ℝ) : EReal) := by
  pointwise [val_main_v171, val_main_v166, val_main_v164, val_main_v163, val_main_v162, val_main_v161, val_main_v160, val_main_cst_41, val_main_cst_42]
  by_cases hj : j.val < 256
  · have e1 : ¬((1 ≤ j.val / 256 ∧ j.val / 256 - 1 < 1) ∧ j.val / 64 % 4 < 4 ∧ j.val % 64 < 64) := by omega
    have e2 : j.val / 256 < 1 ∧ j.val / 64 % 4 < 4 ∧ j.val % 64 < 64 := by omega
    simp only [dif_neg e1, dif_pos e2, dk_read H, dkv_low _ _ m j hj]
    exact zero_add _
  · have e1 : (1 ≤ j.val / 256 ∧ j.val / 256 - 1 < 1) ∧ j.val / 64 % 4 < 4 ∧ j.val % 64 < 64 := by omega
    have e2 : ¬(j.val / 256 < 1 ∧ j.val / 64 % 4 < 4 ∧ j.val % 64 < 64) := by omega
    simp only [dif_pos e1, dif_neg e2, dv_read H, dkv_high _ _ m j hj]
    exact add_zero _
end

end Cert.Ref
-- ==== Proof.AttnRun.lean ====
/-
The attention program's run: every fair execution ends with each result array at its last contents, the arguments as launched.
-/
module

public import proofs.«01_k».proof.Proof.Gen.Kernel2Ideal.Frame

@[expose] public section

set_option maxRecDepth 16384

noncomputable section
namespace Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run from any memory with zero counters. -/
theorem run : θ_run defs (onTc (τ := τ) (main (F := Ideal))) ⟨m, fun _ => 0, ρ⟩ (fun r => ∀ c : Dev nD,
      r.2.mem ((c.tc : Thread nD τ).loc main_v37) = W9 m ρ c (Proc.devRef .tc main_v37)
      ∧ r.2.mem ((c.tc : Thread nD τ).loc main_v40) = W9 m ρ c (Proc.devRef .tc main_v40)
      ∧ r.2.mem ((c.tc : Thread nD τ).loc main_v46) = W9 m ρ c (Proc.devRef .tc main_v46)
      ∧ r.2.mem ((c.tc : Thread nD τ).loc main_v48) = W9 m ρ c (Proc.devRef .tc main_v48)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => fun c =>
      ⟨h c _ (mem_uc main_v37 (by decide)), h c _ (mem_uc main_v40 (by decide)), h c _ (mem_uc main_v46 (by decide)), h c _ (mem_uc main_v48 (by decide))⟩)

end Cert.Attn
-- ==== Proof.AttnCore.lean ====
/-
Causal attention with an online softmax, over extended reals that are reals: the running maximum and the weighted
sums of one query, as they go through one tile of keys after another.
-/
module

public import proofs.«01_k».proof.Proof.Core

@[expose] public section

noncomputable section

open Idealize.ShloMosaic

namespace Cert.Attn

open Cert.Core

/-! ## Masked maxima and exponentials -/

/-- The maximum of reals and bottoms, at least one real, is a real. -/
theorem fold_max_masked {n : ℕ} (P : Fin n → Prop) [DecidablePred P] (f : Fin n → ℝ) (h : ∃ j, P j) :
    ∃ M : ℝ, Finset.univ.fold max (⊥ : EReal) (fun j => if P j then ((f j : ℝ) : EReal) else ⊥) = (M : EReal) := by
  classical
  have h1 : Finset.univ.fold max (⊥ : EReal) (fun j => if P j then ((f j : ℝ) : EReal) else ⊥) ≠ ⊤ := by
    refine ne_of_lt ?_
    rw [Finset.fold_max_lt]
    refine ⟨bot_lt_top, fun j _ => ?_⟩
    split
    · exact EReal.coe_lt_top _
    · exact bot_lt_top
  have h2 : Finset.univ.fold max (⊥ : EReal) (fun j => if P j then ((f j : ℝ) : EReal) else ⊥) ≠ ⊥ := by
    obtain ⟨j, hj⟩ := h
    refine Ne.symm (ne_of_lt ?_)
    rw [Finset.lt_fold_max]
    exact .inr ⟨j, Finset.mem_univ _, by rw [if_pos hj]; exact EReal.bot_lt_coe _⟩
  exact ⟨_, (EReal.coe_toReal h1 h2).symm⟩

/-- Two to the power of a real. -/
def two (x : ℝ) : ℝ := Real.rpow 2 x

theorem pow_pos (x : ℝ) : 0 < two x := Real.rpow_pos_of_pos _root_.two_pos x

theorem two_add (x y : ℝ) : two (x + y) = two x * two y := Real.rpow_add _root_.two_pos x y

theorem two_log (x : ℝ) : two (x * (Real.log 2)⁻¹) = Real.exp x := by
  show (2 : ℝ) ^ (x * (Real.log 2)⁻¹) = _
  rw [Real.rpow_def_of_pos _root_.two_pos]
  congr 1
  have : Real.log 2 ≠ 0 := (Real.log_pos one_lt_two).ne'
  field_simp

theorem exp2_real (x : ℝ) : Ideal.exp2 (x : EReal) = ((two x : ℝ) : EReal) := rfl

theorem exp2_masked (p : Prop) [Decidable p] (x M : ℝ) :
    Ideal.exp2 ((if p then (x : EReal) else ⊥) - (M : EReal)) = ((if p then two (x - M) else 0 : ℝ) : EReal) := by
  by_cases h : p
  · rw [if_pos h, if_pos h, ← EReal.coe_sub, exp2_real]
  · rw [if_neg h, if_neg h, sub_eq_add_neg, EReal.bot_add, Ideal.exp2_bot, EReal.coe_zero]

/-! ## The online softmax of one query -/

/-- What the kernel holds for one query after the first `n` tiles of 1024 keys: a running maximum and, per value row, the
sum over the keys it attends to of the exponential of the score, times the value. -/
def Fwd (w : ℕ → ℝ) (va : ℕ → ℕ → ℝ) (P : ℕ → Prop) [DecidablePred P] (n : ℕ) (m : EReal) (acc : Fin 80 → EReal) : Prop :=
  (n = 0 ∧ m = ⊥ ∧ ∀ d, acc d = 0) ∨
    ∃ M : ℝ, m = (M : EReal) ∧ ∀ d, acc d =
      ((∑ κ ∈ Finset.range (1024 * n), va d.val κ * (if P κ then two (w κ - M) else 0) : ℝ) : EReal)

theorem Fwd.zero (w : ℕ → ℝ) (va : ℕ → ℕ → ℝ) (P : ℕ → Prop) [DecidablePred P] {m : EReal} {acc : Fin 80 → EReal}
    (hm : m = ⊥) (ha : ∀ d, acc d = 0) : Fwd w va P 0 m acc := .inl ⟨rfl, hm, ha⟩

theorem Fwd.step {w : ℕ → ℝ} {va : ℕ → ℕ → ℝ} {P : ℕ → Prop} [DecidablePred P] {n : ℕ} {m : EReal} {acc : Fin 80 → EReal}
    (h : Fwd w va P n m acc) (sc : Fin 1024 → EReal)
    (hsc : ∀ κ, sc κ = if P (1024 * n + κ.val) then ((w (1024 * n + κ.val) : ℝ) : EReal) else ⊥)
    (hP : ∃ κ : Fin 1024, P (1024 * n + κ.val)) (vv : Fin 80 → Fin 1024 → EReal)
    (hv : ∀ d κ, vv d κ = ((va d.val (1024 * n + κ.val) : ℝ) : EReal)) :
    Fwd w va P (n + 1) (max m (Finset.univ.fold max ⊥ sc)) fun d =>
      Ideal.exp2 (m - max m (Finset.univ.fold max ⊥ sc)) * acc d +
        ∑ κ, vv d κ * Ideal.exp2 (sc κ - max m (Finset.univ.fold max ⊥ sc)) := by
  obtain ⟨M₀, hM₀⟩ := fold_max_masked (fun κ : Fin 1024 => P (1024 * n + κ.val)) (fun κ => w (1024 * n + κ.val)) hP
  have hf : Finset.univ.fold max ⊥ sc = (M₀ : EReal) := by rw [← hM₀, funext hsc]
  have new : ∀ M : ℝ, ∀ d, (∑ κ, vv d κ * Ideal.exp2 (sc κ - (M : EReal))) =
      ((∑ κ ∈ Finset.range 1024, va d.val (1024 * n + κ) * (if P (1024 * n + κ) then two (w (1024 * n + κ) - M) else 0) : ℝ) : EReal) := by
    intro M d
    simp only [hsc, hv, exp2_masked, ← EReal.coe_mul, coe_sum]
    rw [Finset.sum_range]
  have split : ∀ f : ℕ → ℝ, ∑ κ ∈ Finset.range (1024 * (n + 1)), f κ =
      (∑ κ ∈ Finset.range (1024 * n), f κ) + ∑ κ ∈ Finset.range 1024, f (1024 * n + κ) := fun f => by
    rw [Nat.mul_succ, Finset.sum_range_add]
  rw [hf]
  rcases h with ⟨rfl, rfl, ha⟩ | ⟨M, rfl, ha⟩
  · refine .inr ⟨M₀, bot_sup_eq _, fun d => ?_⟩
    dsimp only
    rw [show max (⊥ : EReal) (M₀ : EReal) = M₀ from bot_sup_eq _, ha, mul_zero, zero_add, new, split]
    simp
  · refine .inr ⟨max M M₀, max_real _ _, fun d => ?_⟩
    dsimp only
    rw [max_real, ha, new, split, ← EReal.coe_sub, exp2_real, ← EReal.coe_mul, ← EReal.coe_add, Finset.mul_sum]
    refine congrArg _ (congrArg (· + _) (Finset.sum_congr rfl fun κ _ => ?_))
    by_cases hp : P κ
    · rw [if_pos hp, if_pos hp, show w κ - max M M₀ = (M - max M M₀) + (w κ - M) by ring, two_add]; ring
    · rw [if_neg hp, if_neg hp]; ring

/-- The sum of the exponentials of one query's scores, and their average of a value. -/
def attZ (w : ℕ → ℝ) (P : ℕ → Prop) [DecidablePred P] : ℝ := ∑ κ ∈ Finset.range 8192, if P κ then two (w κ) else 0

def attO (w : ℕ → ℝ) (P : ℕ → Prop) [DecidablePred P] (v : ℕ → ℝ) : ℝ :=
  (∑ κ ∈ Finset.range 8192, v κ * if P κ then two (w κ) else 0) / attZ w P

theorem attZ_pos (w : ℕ → ℝ) (P : ℕ → Prop) [DecidablePred P] (h : P 0) : 0 < attZ w P := by
  refine Finset.sum_pos' (fun κ _ => ?_) ⟨0, by simp, by rw [if_pos h]; exact pow_pos _⟩
  split
  · exact (pow_pos _).le
  · exact le_rfl

/-- The rows of values a head's sums run over: its 64 values, and ones below them. -/
def rowsOf (vv : ℕ → ℕ → ℝ) (d κ : ℕ) : ℝ := if d < 64 then vv d κ else 1

theorem log_real {x : ℝ} (h : 0 < x) : Ideal.log (x : EReal) = ((Real.log x : ℝ) : EReal) := by
  show (if x ≤ 0 then (⊥ : EReal) else (Real.log x : EReal)) = _
  rw [if_neg (not_le.mpr h)]

theorem two_sub (x y : ℝ) : two (x - y) = two x / two y := Real.rpow_sub _root_.two_pos x y

theorem Fwd.out {w : ℕ → ℝ} {vv : ℕ → ℕ → ℝ} {P : ℕ → Prop} [DecidablePred P] {n : ℕ} {m : EReal} {acc : Fin 80 → EReal}
    (h : Fwd w (rowsOf vv) P (n + 1) m acc) (hn : n < 8) (hP : ∀ κ, P κ → κ < 1024 * (n + 1)) (h0 : P 0) :
    (∀ d : Fin 64, Ideal.div (acc ⟨d.val, by omega⟩) (acc 64) = ((attO w P (vv d.val) : ℝ) : EReal)) ∧
      m + Ideal.log (acc 64) * (((Real.log 2)⁻¹ : ℝ) : EReal) = ((Real.log (attZ w P) * (Real.log 2)⁻¹ : ℝ) : EReal) := by
  rcases h with ⟨h, -⟩ | ⟨M, rfl, ha⟩
  · exact absurd h (Nat.succ_ne_zero _)
  have whole : ∀ f : ℕ → ℝ, (∑ κ ∈ Finset.range (1024 * (n + 1)), f κ * if P κ then two (w κ - M) else 0) =
      (∑ κ ∈ Finset.range 8192, f κ * if P κ then two (w κ) else 0) / two M := by
    intro f
    have hs : Finset.range (1024 * (n + 1)) ⊆ Finset.range 8192 := Finset.range_subset_range.2 (by omega)
    rw [Finset.sum_subset hs, Finset.sum_div]
    · refine Finset.sum_congr rfl fun κ _ => ?_
      by_cases hp : P κ
      · rw [if_pos hp, if_pos hp, two_sub, mul_div_assoc]
      · rw [if_neg hp, if_neg hp, mul_zero, zero_div]
    · intro κ _ hκ
      rw [if_neg (fun hp => hκ (Finset.mem_range.2 (hP κ hp))), mul_zero]
  have hz := attZ_pos w P h0
  have hM := pow_pos M
  have h64 : acc 64 = ((attZ w P / two M : ℝ) : EReal) := by
    rw [ha, whole]
    simp [rowsOf, attZ]
  constructor
  · intro d
    have hd : acc ⟨d.val, by omega⟩ = (((∑ κ ∈ Finset.range 8192, vv d.val κ * if P κ then two (w κ) else 0) / two M : ℝ) : EReal) := by
      rw [ha, whole]
      simp [rowsOf, d.isLt]
    rw [h64, hd, div_real _ (div_pos hz hM).ne', div_div_div_cancel_right₀ hM.ne']
    rfl
  · rw [h64, log_real (div_pos hz hM), ← EReal.coe_mul, ← EReal.coe_add, Real.log_div hz.ne' hM.ne']
    have h2 : Real.log 2 ≠ 0 := (Real.log_pos one_lt_two).ne'
    have : Real.log (two M) = M * Real.log 2 := Real.log_rpow _root_.two_pos M
    rw [this]
    refine congrArg _ ?_
    field_simp
    ring

end Cert.Attn

end
-- ==== Proof.AttnFwd.lean ====
module

public import proofs.«01_k».proof.Proof.AttnCore
public import proofs.«01_k».proof.Proof.Gen.Kernel2Ideal.Frame

@[expose] public section

set_option maxRecDepth 16384
set_option maxHeartbeats 4000000
noncomputable section
namespace Cert.Attn
open Idealize.ShloMosaic Idealize.ShloMosaic.TcCoe Idealize.ShloMosaic.Tactic
open Cert.Kernel2Ideal Cert.Kernel2Ideal.Gen
open Cert.Core

theorem trips0 : ∀ i : grid0.Coords, (k0_t1_loop i).trips = (i 1).val := by decide +kernel
theorem trips0' : ∀ i : grid0.Coords, (k0_t2_loop i).trips = 0 := by decide +kernel
theorem off1 : ∀ (i : grid0.Coords) (k : Fin (k0_t1_loop i).trips), k0_off1 i k = ![1024 * k.val, 0] := by decide +kernel
theorem off2 : ∀ (i : grid0.Coords) (k : Fin (k0_t1_loop i).trips), k0_off2 i k = ![0, 1024 * k.val] := by decide +kernel
theorem off3 : ∀ (i : grid0.Coords) (k : Fin (k0_t1_loop i).trips), k0_off3 i k = ![1024 * k.val, 128] := by decide +kernel
theorem off4 : ∀ (i : grid0.Coords) (k : Fin (k0_t1_loop i).trips), k0_off4 i k = ![64, 1024 * k.val] := by decide +kernel
theorem off9 : ∀ (i : grid0.Coords), k0_off9 i = ![1024 * (i 1).val, 0] := by decide +kernel
theorem off10 : ∀ (i : grid0.Coords), k0_off10 i = ![0, 1024 * (i 1).val] := by decide +kernel
theorem off11 : ∀ (i : grid0.Coords), k0_off11 i = ![1024 * (i 1).val, 128] := by decide +kernel
theorem off12 : ∀ (i : grid0.Coords), k0_off12 i = ![64, 1024 * (i 1).val] := by decide +kernel

theorem read2 {κ : Kind} {sp : Space} {n0 n1 : ℕ} {e : EltTy} (a : Memref sig κ sp ⟨2, ![n0, n1]⟩ e) (h : a.IsWhole)
    (x : Vec Ideal ⟨2, ![n0, n1]⟩ e) {off : Fin 2 → ℕ} {m0 m1 : ℕ} (inb : ∀ b, off b + (![m0, m1] : Fin 2 → ℕ) b ≤ (![n0, n1] : Fin 2 → ℕ) b)
    (r : Fin m0) (l : Fin m1) (h0 : off 0 + r.val < n0) (h1 : off 1 + l.val < n1) :
    a.view.readAt (Elt Ideal) (Rect.unit (s := ⟨2, ![n0, n1]⟩) off ![m0, m1] inb).toLoadRect (h.unread (Val := Elt Ideal) x) (ix2 r l)
      = x (ix2 ⟨off 0 + r.val, h0⟩ ⟨off 1 + l.val, h1⟩) := by
  have e : a.view.read (Elt Ideal) (h.unread (Val := Elt Ideal) x) = x := h.read_unread _
  show a.view.read (Elt Ideal) (h.unread (Val := Elt Ideal) x) _ = _
  rw [e]
  refine congrArg x (funext fun b => ?_)
  apply Fin.ext
  match b with
  | 0 => show off 0 + 1 * r.val = off 0 + r.val; rw [one_mul]
  | 1 => show off 1 + 1 * l.val = off 1 + l.val; rw [one_mul]

/-! ## One head against one tile of keys -/

theorem pay6_read (kh qh : FVec Ideal S1024x128 .bf16) {k q : ℕ → ℕ → ℝ}
    (hk : ∀ (r : Fin 1024) (l : Fin 128), kh (ix2 r l) = ((k r.val l.val : ℝ) : EReal))
    (hq : ∀ (r : Fin 1024) (l : Fin 128), qh (ix2 r l) = ((q r.val l.val : ℝ) : EReal)) (κ y : Fin 1024) :
    k0_pay6 (F := Ideal) kh qh (ix2 κ y) = ((∑ l : Fin 128, k κ.val l.val * q y.val l.val : ℝ) : EReal) := by
  pointwise [k0_pay6]
  simp only [hk, hq, ← EReal.coe_mul, coe_sum]

theorem max_rows (n m : ℕ) (src : FVec Ideal ⟨2, ![n, m]⟩ .f32) (h : Shape.Reduces ⟨2, ![n, m]⟩ [0] ⟨1, ![m]⟩) (h1) (h2) (y : Fin m) :
    multiReduction (F := Ideal) .maximumf [0] ⟨1, ![m]⟩ src 0xFF800000#32 h h1 h2 (ix1 y) =
      Finset.univ.fold max ⊥ fun κ : Fin n => src (ix2 κ y) := by
  pointwise []
  rw [bits_neg_inf]

theorem row_max (m : FVec Ideal S1x1024 .f32) (src : FVec Ideal S1024 .f32) (y : Fin 1024) :
    maximumf m (shapeCast S1x1024 src shapeCasts_S1024_S1x1024) (ix2 0 y) = max (m (ix2 0 y)) (src (ix1 y)) := by
  pointwise []

theorem pay7_read (m : FVec Ideal S1x1024 .f32) (kh qh : FVec Ideal S1024x128 .bf16) (y : Fin 1024) :
    k0_pay7 m kh qh (ix2 0 y) =
      max (m (ix2 0 y)) (Finset.univ.fold max ⊥ fun κ : Fin 1024 => k0_pay6 (F := Ideal) kh qh (ix2 κ y)) := by
  unfold k0_pay7
  exact (row_max m _ y).trans (congrArg _ (max_rows 1024 1024 _ _ _ _ y))

theorem pay8_read (on : FVec Ideal S16x1024 .bf16) (m : FVec Ideal S1x1024 .f32) (acc : FVec Ideal S80x1024 .f32) (kh qh : FVec Ideal S1024x128 .bf16)
    (v : FVec Ideal S64x1024 .bf16) (d : Fin 80) (y : Fin 1024) :
    k0_pay8 (F := Ideal) on m acc kh qh v (ix2 d y) = Ideal.exp2 (m (ix2 0 y) - k0_pay7 (F := Ideal) m kh qh (ix2 0 y)) * acc (ix2 d y)
      + ∑ κ : Fin 1024, k0_pay12 (F := Ideal) on v (ix2 d κ) * Ideal.exp2 (k0_pay6 (F := Ideal) kh qh (ix2 κ y) - k0_pay7 (F := Ideal) m kh qh (ix2 0 y)) := by
  pointwise [k0_pay8, k0_pay12]
  rfl

theorem pay12_lo (v : FVec Ideal S64x1024 .bf16) (d : Fin 64) (κ : Fin 1024) :
    k0_pay12 (F := Ideal) k0_pay23 v (ix2 ⟨d.val, by omega⟩ κ) = v (ix2 d κ) := by
  pointwise [k0_pay12]

theorem pay12_hi (v : FVec Ideal S64x1024 .bf16) (d : Fin 16) (κ : Fin 1024) :
    k0_pay12 (F := Ideal) k0_pay23 v (ix2 ⟨64 + d.val, by omega⟩ κ) = ((1 : ℝ) : EReal) := by
  pointwise [k0_pay12, k0_pay23]
  exact EReal.coe_one.symm

theorem pay12_read (v : FVec Ideal S64x1024 .bf16) {vv : ℕ → ℕ → ℝ} {n : ℕ}
    (hv : ∀ (d : Fin 64) (κ : Fin 1024), v (ix2 d κ) = ((vv d.val (1024 * n + κ.val) : ℝ) : EReal)) (d : Fin 80) (κ : Fin 1024) :
    k0_pay12 (F := Ideal) k0_pay23 v (ix2 d κ) = ((rowsOf vv d.val (1024 * n + κ.val) : ℝ) : EReal) := by
  unfold rowsOf
  by_cases h : d.val < 64
  · rw [if_pos h, ← hv ⟨d.val, h⟩ κ]
    exact pay12_lo v ⟨d.val, h⟩ κ
  · rw [if_neg h, ← pay12_hi v ⟨d.val - 64, by omega⟩ κ]
    exact congrArg _ (congrArg (fun e => ix2 e κ) (Fin.ext (by show d.val = 64 + (d.val - 64); omega)))

/-- The score of a query against a key, on the lanes of one head of a pair. -/
def headW (k q : ℕ → ℕ → ℝ) (o y κ : ℕ) : ℝ := ∑ l : Fin 128, k κ (o + l.val) * q y (o + l.val)

variable {k q vv : ℕ → ℕ → ℝ} {o n : ℕ} {P : ℕ → Prop} [DecidablePred P]
variable {m : FVec Ideal S1x1024 .f32} {acc : FVec Ideal S80x1024 .f32} {kh qh : FVec Ideal S1024x128 .bf16} {v : FVec Ideal S64x1024 .bf16}

theorem tile_step (y : Fin 1024)
    (h : Fwd (headW k q o y.val) (rowsOf vv) P n (m (ix2 0 y)) fun d => acc (ix2 d y))
    (hk : ∀ (r : Fin 1024) (l : Fin 128), kh (ix2 r l) = ((k (1024 * n + r.val) (o + l.val) : ℝ) : EReal))
    (hq : ∀ (r : Fin 1024) (l : Fin 128), qh (ix2 r l) = ((q r.val (o + l.val) : ℝ) : EReal))
    (hv : ∀ (d : Fin 64) (κ : Fin 1024), v (ix2 d κ) = ((vv d.val (1024 * n + κ.val) : ℝ) : EReal))
    (hP : ∀ κ : Fin 1024, P (1024 * n + κ.val)) :
    Fwd (headW k q o y.val) (rowsOf vv) P (n + 1) (k0_pay7 m kh qh (ix2 0 y)) fun d => k0_pay8 k0_pay23 m acc kh qh v (ix2 d y) := by
  have := h.step (fun κ => k0_pay6 (F := Ideal) kh qh (ix2 κ y)) (fun κ => ?_) ⟨0, hP 0⟩ (fun d κ => k0_pay12 (F := Ideal) k0_pay23 v (ix2 d κ))
    (pay12_read v hv)
  · simp only [pay8_read, pay7_read]
    exact this
  · rw [if_pos (hP κ)]
    exact pay6_read (k := fun r l => k (1024 * n + r) (o + l)) (q := fun r l => q r (o + l)) kh qh hk hq κ y

/-! ## The last tile, masked -/

theorem sle_nat {a b : ℕ} (ha : a < 2 ^ 31) (hb : b < 2 ^ 31) :
    IntOp.cmpi .sle (BitVec.ofNat 32 a) (BitVec.ofNat 32 b) = if a ≤ b then 1#1 else 0#1 := by
  have e : ∀ x : ℕ, x < 2 ^ 31 → (BitVec.ofNat 32 x).toInt = x := fun x hx => by
    rw [BitVec.toInt_ofNat', Int.bmod_def]; omega
  show BitVec.ofBool (BitVec.sle (BitVec.ofNat 32 a) (BitVec.ofNat 32 b)) = _
  rw [BitVec.sle_eq_decide, e a ha, e b hb]
  by_cases h : a ≤ b <;> simp [h]

theorem add_nat (a b : ℕ) : IntOp.addi (BitVec.ofNat 32 a) (BitVec.ofNat 32 b) = BitVec.ofNat 32 (a + b) :=
  (BitVec.ofNat_add a b).symm

theorem word_base : ∀ i : grid0.Coords, kernelRun0_A.sl.v35 i = BitVec.ofNat 32 (1024 * (i 1).val) := by decide +kernel
theorem word_row : ∀ i : grid0.Coords, Scalar.muli (BitVec.ofNat 32 (i 1).val) 1024#32 = BitVec.ofNat 32 (1024 * (i 1).val) := by
  decide +kernel

/-- A choice by a decoded mask. -/
theorem select_ite {α : Type} (p : Prop) [Decidable p] (a b : α) :
    Scalar.select (if p then 1#1 else 0#1) a b = if p then a else b := by
  by_cases h : p <;> simp [Scalar.select, h]

theorem pay30_read (i : grid0.Coords) (kh qh : FVec Ideal S1024x128 .bf16) (κ y : Fin 1024) :
    k0_pay30 (F := Ideal) kernelRun0_A.sl.v18 (k0_pay22 i) (kernelRun0_A.sl.v35 i) kh qh (ix2 κ y) =
      if 1024 * (i 1).val + κ.val ≤ 1024 * (i 1).val + y.val then k0_pay6 (F := Ideal) kh qh (ix2 κ y) else ⊥ := by
  pointwise [k0_pay30, k0_pay6, k0_pay22, kernelRun0_A.sl.v18]
  have h8 : (i 1).val < 8 := (i 1).isLt
  rw [word_base, word_row, add_nat, add_nat, sle_nat (by omega) (by omega), select_ite, bits_neg_inf]

theorem pay31_read (a b : IVec S1024x1024 32) (m : FVec Ideal S1x1024 .f32) (z : BitVec 32) (kh qh : FVec Ideal S1024x128 .bf16) (y : Fin 1024) :
    k0_pay31 a b m z kh qh (ix2 0 y) =
      max (m (ix2 0 y)) (Finset.univ.fold max ⊥ fun κ : Fin 1024 => k0_pay30 (F := Ideal) a b z kh qh (ix2 κ y)) := by
  unfold k0_pay31
  exact (row_max m _ y).trans (congrArg _ (max_rows 1024 1024 _ _ _ _ y))

theorem pay32_read (a b : IVec S1024x1024 32) (on : FVec Ideal S16x1024 .bf16) (m : FVec Ideal S1x1024 .f32) (acc : FVec Ideal S80x1024 .f32)
    (z : BitVec 32) (kh qh : FVec Ideal S1024x128 .bf16) (v : FVec Ideal S64x1024 .bf16) (d : Fin 80) (y : Fin 1024) :
    k0_pay32 (F := Ideal) a b on m acc z kh qh v (ix2 d y) =
      Ideal.exp2 (m (ix2 0 y) - k0_pay31 a b m z kh qh (ix2 0 y)) * acc (ix2 d y)
      + ∑ κ : Fin 1024, k0_pay12 (F := Ideal) on v (ix2 d κ) *
        Ideal.exp2 (k0_pay30 (F := Ideal) a b z kh qh (ix2 κ y) - k0_pay31 a b m z kh qh (ix2 0 y)) := by
  pointwise [k0_pay32, k0_pay12]
  rfl

/-- The last tile of keys a block of queries sees: the key of a query is not past it. -/
theorem last_step (i : grid0.Coords) (y : Fin 1024)
    (h : Fwd (headW k q o y.val) (rowsOf vv) (fun κ => κ ≤ 1024 * (i 1).val + y.val) (i 1).val (m (ix2 0 y)) fun d => acc (ix2 d y))
    (hk : ∀ (r : Fin 1024) (l : Fin 128), kh (ix2 r l) = ((k (1024 * (i 1).val + r.val) (o + l.val) : ℝ) : EReal))
    (hq : ∀ (r : Fin 1024) (l : Fin 128), qh (ix2 r l) = ((q r.val (o + l.val) : ℝ) : EReal))
    (hv : ∀ (d : Fin 64) (κ : Fin 1024), v (ix2 d κ) = ((vv d.val (1024 * (i 1).val + κ.val) : ℝ) : EReal)) :
    Fwd (headW k q o y.val) (rowsOf vv) (fun κ => κ ≤ 1024 * (i 1).val + y.val) ((i 1).val + 1)
      (k0_pay31 kernelRun0_A.sl.v18 (k0_pay22 i) m (kernelRun0_A.sl.v35 i) kh qh (ix2 0 y)) fun d =>
        k0_pay32 kernelRun0_A.sl.v18 (k0_pay22 i) k0_pay23 m acc (kernelRun0_A.sl.v35 i) kh qh v (ix2 d y) := by
  have := h.step (fun κ => k0_pay30 (F := Ideal) kernelRun0_A.sl.v18 (k0_pay22 i) (kernelRun0_A.sl.v35 i) kh qh (ix2 κ y)) (fun κ => ?_)
    ⟨0, by simp⟩ (fun d κ => k0_pay12 (F := Ideal) k0_pay23 v (ix2 d κ)) (pay12_read v hv)
  · simp only [pay32_read, pay31_read]
    exact this
  · refine (pay30_read i kh qh κ y).trans ?_
    rw [pay6_read (k := fun r l => k (1024 * (i 1).val + r) (o + l)) (q := fun r l => q r (o + l)) kh qh hk hq κ y]
    rfl

theorem pay4_read (a : FVec Ideal S16x1024 .bf16) (c d : FVec Ideal S80x1024 .f32) (e : FVec Ideal S1024x1024 .bf16) (f : FVec Ideal S1x1024 .f32)
    (g : FVec Ideal S64x1024 .bf16) (y : Fin 1024) (l : Fin 128) :
    k0_pay4 (F := Ideal) a c d e f g (ix2 y l) = if h : l.val < 64 then Ideal.div (d (ix2 ⟨l.val, by omega⟩ y)) (d (ix2 64 y)) else
      Ideal.div (k0_pay1 (F := Ideal) a c e f g (ix2 ⟨l.val - 64, by omega⟩ y)) (k0_pay1 (F := Ideal) a c e f g (ix2 64 y)) := by
  pointwise [k0_pay4, k0_pay2, k0_pay3]

theorem inv_log_two_read : Named.named (F := Ideal) Cert.Kernel2Ideal.κ "inv_log_two" (φ := .f32) 0x3FB8AA3B#32 = (((Real.log 2)⁻¹ : ℝ) : EReal) :=
  IdealRules.named_const.ideal_named_scalar _ _ _ _ rfl

theorem pay5_read (a : FVec Ideal S16x1024 .bf16) (c d : FVec Ideal S80x1024 .f32) (e : FVec Ideal S1024x1024 .bf16) (f m n : FVec Ideal S1x1024 .f32)
    (g : FVec Ideal S64x1024 .bf16) (y : Fin 1024) (l : Fin 128) :
    k0_pay5 a c m d n e f g (ix2 y l) = if h : l.val < 64 then m (ix2 0 y) + Ideal.log (d (ix2 64 y)) * (((Real.log 2)⁻¹ : ℝ) : EReal) else
      n (ix2 0 y) + Ideal.log (k0_pay1 (F := Ideal) a c e f g (ix2 64 y)) * (((Real.log 2)⁻¹ : ℝ) : EReal) := by
  pointwise [k0_pay5, k0_pay2, k0_pay3]
  rw [inv_log_two_read]

/-! ## The loop over the tiles below the diagonal -/

section Loop

variable (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S128x8192 .bf16) (harg4 : arg4.IsWhole) (arg5 : Memref sig .tc .vmem S1024x128 .f32) (harg5 : arg5.IsWhole) (arg6 : Memref sig .tc .vmem S1024x128 .f32) (harg6 : arg6.IsWhole)
  (x0 : Vec Ideal S1024x256 .bf16) (x1 : Vec Ideal S8192x256 .bf16) (x2 : Vec Ideal S128x8192 .bf16)

/-- The keys, queries and values a trip reads. -/
abbrev keysAt (t : Fin (k0_t1_loop i).trips) : FVec Ideal S1024x128 .bf16 :=
  arg3.view.readAt (Elt Ideal) (Rect.unit (s := S8192x256) (k0_off1 i t) S1024x128.size (k0_off1_inb i t)).toLoadRect (harg3.unread x1)
abbrev keysAt' (t : Fin (k0_t1_loop i).trips) : FVec Ideal S1024x128 .bf16 :=
  arg3.view.readAt (Elt Ideal) (Rect.unit (s := S8192x256) (k0_off3 i t) S1024x128.size (k0_off3_inb i t)).toLoadRect (harg3.unread x1)
abbrev valsAt (t : Fin (k0_t1_loop i).trips) : FVec Ideal S64x1024 .bf16 :=
  arg4.view.readAt (Elt Ideal) (Rect.unit (s := S128x8192) (k0_off2 i t) S64x1024.size (k0_off2_inb i t)).toLoadRect (harg4.unread x2)
abbrev valsAt' (t : Fin (k0_t1_loop i).trips) : FVec Ideal S64x1024 .bf16 :=
  arg4.view.readAt (Elt Ideal) (Rect.unit (s := S128x8192) (k0_off4 i t) S64x1024.size (k0_off4_inb i t)).toLoadRect (harg4.unread x2)
abbrev queries : FVec Ideal S1024x128 .bf16 :=
  arg2.view.readAt (Elt Ideal) (Rect.unit (s := S1024x256) ![0, 0] S1024x128.size inb_S1024x256_S1024x128_0_0).toLoadRect (harg2.unread x0)
abbrev queries' : FVec Ideal S1024x128 .bf16 :=
  arg2.view.readAt (Elt Ideal) (Rect.unit (s := S1024x256) ![0, 128] S1024x128.size inb_S1024x256_S1024x128_0_128).toLoadRect (harg2.unread x0)

theorem trip_eq (t : Fin (k0_t1_loop i).trips) (a : FVec Ideal S1x1024 .f32 × FVec Ideal S80x1024 .f32 × FVec Ideal S1x1024 .f32 × FVec Ideal S80x1024 .f32) :
    tripR_k0_t1 (F := Ideal) Variants.none c none i arg2 harg2 arg3 harg3 arg4 harg4 arg5 harg5 arg6 harg6 (harg2.unread x0) (harg3.unread x1) (harg4.unread x2) t a =
      (k0_pay7 a.1 (keysAt i arg3 harg3 x1 t) (queries arg2 harg2 x0),
       k0_pay8 k0_pay23 a.1 a.2.1 (keysAt i arg3 harg3 x1 t) (queries arg2 harg2 x0) (valsAt i arg4 harg4 x2 t),
       k0_pay7 a.2.2.1 (keysAt' i arg3 harg3 x1 t) (queries' arg2 harg2 x0),
       k0_pay8 k0_pay23 a.2.2.1 a.2.2.2 (keysAt' i arg3 harg3 x1 t) (queries' arg2 harg2 x0) (valsAt' i arg4 harg4 x2 t)) := by
  unfold tripR_k0_t1
  unfold trip_k0_t1
  dsimp only
  rfl

variable {Q K V : ℕ → ℕ → ℝ}
  (hQ : ∀ (r : Fin 1024) (l : Fin 256), x0 (ix2 r l) = ((Q r.val l.val : ℝ) : EReal))
  (hK : ∀ (r : Fin 8192) (l : Fin 256), x1 (ix2 r l) = ((K r.val l.val : ℝ) : EReal))
  (hV : ∀ (d : Fin 128) (r : Fin 8192), x2 (ix2 d r) = ((V d.val r.val : ℝ) : EReal))

include hQ hK hV

/-- The state before trip `n`, both heads. -/
theorem loop_state (n : ℕ) (hn : n ≤ (i 1).val) (y : Fin 1024) :
    let st := st_k0_t1 (F := Ideal) Variants.none c none i arg2 harg2 arg3 harg3 arg4 harg4 arg5 harg5 arg6 harg6 (harg2.unread x0) (harg3.unread x1) (harg4.unread x2)
      (k0_pay24, k0_pay25, k0_pay26, k0_pay27) n
    Fwd (headW K Q 0 y.val) (rowsOf V) (fun κ => κ ≤ 1024 * (i 1).val + y.val) n (st.1 (ix2 0 y)) (fun d => st.2.1 (ix2 d y)) ∧
    Fwd (headW K Q 128 y.val) (rowsOf fun d => V (64 + d)) (fun κ => κ ≤ 1024 * (i 1).val + y.val) n (st.2.2.1 (ix2 0 y)) (fun d => st.2.2.2 (ix2 d y)) := by
  induction n with
  | zero =>
    dsimp only
    rw [st_k0_t1_zero]
    refine ⟨Fwd.zero _ _ _ ?_ fun d => ?_, Fwd.zero _ _ _ ?_ fun d => ?_⟩
    · exact bits_neg_inf
    · exact Ideal.ofBits_zero_f32
    · exact bits_neg_inf
    · exact Ideal.ofBits_zero_f32
  | succ n ih =>
    have ih := ih (by omega)
    have hi : (i 1).val < 8 := (i 1).isLt
    have ht : n < (k0_t1_loop i).trips := by rw [trips0]; omega
    have e := st_k0_t1_succ (F := Ideal) Variants.none c none i arg2 harg2 arg3 harg3 arg4 harg4 arg5 harg5 arg6 harg6 (harg2.unread x0) (harg3.unread x1) (harg4.unread x2)
      (k0_pay24, k0_pay25, k0_pay26, k0_pay27) ⟨n, ht⟩
    dsimp only at e ih ⊢
    rw [e, trip_eq]
    have hP : ∀ κ : Fin 1024, 1024 * n + κ.val ≤ 1024 * (i 1).val + y.val := fun κ => by omega
    have h1 := off1 i ⟨n, ht⟩
    have h2 := off2 i ⟨n, ht⟩
    have h3 := off3 i ⟨n, ht⟩
    have h4 := off4 i ⟨n, ht⟩
    refine ⟨tile_step y ih.1 (fun r l => ?_) (fun r l => ?_) (fun d κ => ?_) hP, tile_step y ih.2 (fun r l => ?_) (fun r l => ?_) (fun d κ => ?_) hP⟩
    · refine (read2 arg3 harg3 x1 _ r l (by rw [h1]; show 1024 * n + r.val < 8192; omega) (by rw [h1]; show 0 + l.val < 256; omega)).trans ((hK _ _).trans ?_)
      simp only [h1]; rfl
    · exact (read2 arg2 harg2 x0 _ r l (by show 0 + r.val < 1024; omega) (by show 0 + l.val < 256; omega)).trans ((hQ _ _).trans (by simp))
    · refine (read2 arg4 harg4 x2 _ d κ (by rw [h2]; show 0 + d.val < 128; omega) (by rw [h2]; show 1024 * n + κ.val < 8192; omega)).trans ((hV _ _).trans ?_)
      simp [h2]
    · refine (read2 arg3 harg3 x1 _ r l (by rw [h3]; show 1024 * n + r.val < 8192; omega) (by rw [h3]; show 128 + l.val < 256; omega)).trans ((hK _ _).trans ?_)
      simp only [h3]; rfl
    · exact (read2 arg2 harg2 x0 _ r l (by show 0 + r.val < 1024; omega) (by show 128 + l.val < 256; omega)).trans ((hQ _ _).trans (by simp))
    · refine (read2 arg4 harg4 x2 _ d κ (by rw [h4]; show 64 + d.val < 128; omega) (by rw [h4]; show 1024 * n + κ.val < 8192; omega)).trans ((hV _ _).trans ?_)
      simp [h4]

/-- The values the last tile reads for the second head. -/
abbrev lastVals' : FVec Ideal S64x1024 .bf16 :=
  arg4.view.readAt (Elt Ideal) (Rect.unit (s := S128x8192) (k0_off12 i) S64x1024.size (k0_off12_inb i)).toLoadRect (harg4.unread x2)

/-- The state at the diagonal, both heads. -/
theorem at_diagonal (y : Fin 1024) :
    Fwd (headW K Q 0 y.val) (rowsOf V) (fun κ => κ ≤ 1024 * (i 1).val + y.val) (i 1).val
      (kernelRun0_A.sl.r (F := Ideal) c i arg2 harg2 arg3 harg3 arg4 harg4 arg5 harg5 arg6 harg6 x0 x1 x2 (ix2 0 y))
      (fun d => kernelRun0_A.sl.r_1 (F := Ideal) c i arg2 harg2 arg3 harg3 arg4 harg4 arg5 harg5 arg6 harg6 x0 x1 x2 (ix2 d y)) ∧
    Fwd (headW K Q 128 y.val) (rowsOf fun d => V (64 + d)) (fun κ => κ ≤ 1024 * (i 1).val + y.val) (i 1).val
      (kernelRun0_A.sl.r_2 (F := Ideal) c i arg2 harg2 arg3 harg3 arg4 harg4 arg5 harg5 arg6 harg6 x0 x1 x2 (ix2 0 y))
      (fun d => kernelRun0_A.sl.r_3 (F := Ideal) c i arg2 harg2 arg3 harg3 arg4 harg4 arg5 harg5 arg6 harg6 x0 x1 x2 (ix2 d y)) := by
  have h := loop_state c i arg2 harg2 arg3 harg3 arg4 harg4 arg5 harg5 arg6 harg6 x0 x1 x2 hQ hK hV (i 1).val le_rfl y
  unfold kernelRun0_A.sl.r kernelRun0_A.sl.r_1 kernelRun0_A.sl.r_2 kernelRun0_A.sl.r_3
  have e1 : Scf.trips (k0_t1_loop i).lb (k0_t1_loop i).ub (k0_t1_loop i).st = (i 1).val := trips0 i
  have e2 : Scf.trips (k0_t2_loop i).lb (k0_t2_loop i).ub (k0_t2_loop i).st = 0 := trips0' i
  rw [e1, e2, st_k0_t2_zero]
  exact h

/-- The state past the diagonal, both heads. -/
theorem past_diagonal (y : Fin 1024) :
    Fwd (headW K Q 0 y.val) (rowsOf V) (fun κ => κ ≤ 1024 * (i 1).val + y.val) ((i 1).val + 1)
      (kernelRun0_A.sl.r_4 (F := Ideal) c i arg2 harg2 arg3 harg3 arg4 harg4 arg5 harg5 arg6 harg6 x0 x1 x2 (ix2 0 y))
      (fun d => kernelRun0_A.sl.r_5 (F := Ideal) c i arg2 harg2 arg3 harg3 arg4 harg4 arg5 harg5 arg6 harg6 x0 x1 x2 (ix2 d y)) ∧
    Fwd (headW K Q 128 y.val) (rowsOf fun d => V (64 + d)) (fun κ => κ ≤ 1024 * (i 1).val + y.val) ((i 1).val + 1)
      (kernelRun0_A.sl.r_6 (F := Ideal) c i arg2 harg2 arg3 harg3 arg4 harg4 arg5 harg5 arg6 harg6 x0 x1 x2 (ix2 0 y))
      (fun d => k0_pay1 (F := Ideal) k0_pay23 (kernelRun0_A.sl.r_3 (F := Ideal) c i arg2 harg2 arg3 harg3 arg4 harg4 arg5 harg5 arg6 harg6 x0 x1 x2)
        (kernelRun0_A.sl.r_7 (F := Ideal) c i arg2 harg2 arg3 harg3 arg4 harg4 arg5 harg5 arg6 harg6 x0 x1 x2)
        (kernelRun0_A.sl.r_8 (F := Ideal) c i arg2 harg2 arg3 harg3 arg4 harg4 arg5 harg5 arg6 harg6 x0 x1 x2) (lastVals' i arg4 harg4 x2) (ix2 d y)) := by
  have ih := at_diagonal c i arg2 harg2 arg3 harg3 arg4 harg4 arg5 harg5 arg6 harg6 x0 x1 x2 hQ hK hV y
  have hi : (i 1).val < 8 := (i 1).isLt
  have h1 := off9 i
  have h2 := off10 i
  have h3 := off11 i
  have h4 := off12 i
  refine ⟨last_step i y ih.1 (fun r l => ?_) (fun r l => ?_) (fun d κ => ?_), last_step i y ih.2 (fun r l => ?_) (fun r l => ?_) (fun d κ => ?_)⟩
  · refine (read2 arg3 harg3 x1 _ r l (by rw [h1]; show 1024 * (i 1).val + r.val < 8192; omega) (by rw [h1]; show 0 + l.val < 256; omega)).trans ((hK _ _).trans ?_)
    simp only [h1]; rfl
  · exact (read2 arg2 harg2 x0 _ r l (by show 0 + r.val < 1024; omega) (by show 0 + l.val < 256; omega)).trans ((hQ _ _).trans (by simp))
  · refine (read2 arg4 harg4 x2 _ d κ (by rw [h2]; show 0 + d.val < 128; omega) (by rw [h2]; show 1024 * (i 1).val + κ.val < 8192; omega)).trans ((hV _ _).trans ?_)
    simp [h2]
  · refine (read2 arg3 harg3 x1 _ r l (by rw [h3]; show 1024 * (i 1).val + r.val < 8192; omega) (by rw [h3]; show 128 + l.val < 256; omega)).trans ((hK _ _).trans ?_)
    simp only [h3]; rfl
  · exact (read2 arg2 harg2 x0 _ r l (by show 0 + r.val < 1024; omega) (by show 128 + l.val < 256; omega)).trans ((hQ _ _).trans (by simp))
  · refine (read2 arg4 harg4 x2 _ d κ (by rw [h4]; show 64 + d.val < 128; omega) (by rw [h4]; show 1024 * (i 1).val + κ.val < 8192; omega)).trans ((hV _ _).trans ?_)
    simp [h4]

/-- What the forward call writes for one query: the average of the values and the base-two logarithm of the sum. -/
theorem out_o (y : Fin 1024) (l : Fin 128) :
    out0_A_3 (F := Ideal) c i arg2 harg2 arg3 harg3 arg4 harg4 arg5 harg5 arg6 harg6 x0 x1 x2 (ix2 y l) =
      ((attO (headW K Q (if l.val < 64 then 0 else 128) y.val) (fun κ => κ ≤ 1024 * (i 1).val + y.val) (V l.val) : ℝ) : EReal) := by
  have e : out0_A_3 (F := Ideal) c i arg2 harg2 arg3 harg3 arg4 harg4 arg5 harg5 arg6 harg6 x0 x1 x2 =
      k0_pay4 k0_pay23 (kernelRun0_A.sl.r_3 c i arg2 harg2 arg3 harg3 arg4 harg4 arg5 harg5 arg6 harg6 x0 x1 x2)
              (kernelRun0_A.sl.r_5 c i arg2 harg2 arg3 harg3 arg4 harg4 arg5 harg5 arg6 harg6 x0 x1 x2)
              (kernelRun0_A.sl.r_7 c i arg2 harg2 arg3 harg3 arg4 harg4 arg5 harg5 arg6 harg6 x0 x1 x2)
              (kernelRun0_A.sl.r_8 c i arg2 harg2 arg3 harg3 arg4 harg4 arg5 harg5 arg6 harg6 x0 x1 x2) (lastVals' i arg4 harg4 x2) := by
    frame_out
  have h := past_diagonal c i arg2 harg2 arg3 harg3 arg4 harg4 arg5 harg5 arg6 harg6 x0 x1 x2 hQ hK hV y
  have hi : (i 1).val < 8 := (i 1).isLt
  have hP : ∀ κ, κ ≤ 1024 * (i 1).val + y.val → κ < 1024 * ((i 1).val + 1) := fun κ _ => by omega
  rw [e, pay4_read]
  by_cases hl : l.val < 64
  · rw [dif_pos hl, if_pos hl]
    exact (h.1.out hi hP (Nat.zero_le _)).1 ⟨l.val, hl⟩
  · rw [dif_neg hl, if_neg hl]
    refine ((h.2.out hi hP (Nat.zero_le _)).1 ⟨l.val - 64, by omega⟩).trans ?_
    rw [show 64 + (l.val - 64) = l.val by omega]

theorem out_lse (y : Fin 1024) (l : Fin 128) :
    out0_A_4 (F := Ideal) c i arg2 harg2 arg3 harg3 arg4 harg4 arg5 harg5 arg6 harg6 x0 x1 x2 (ix2 y l) =
      ((Real.log (attZ (headW K Q (if l.val < 64 then 0 else 128) y.val) (fun κ => κ ≤ 1024 * (i 1).val + y.val)) * (Real.log 2)⁻¹ : ℝ) : EReal) := by
  have e : out0_A_4 (F := Ideal) c i arg2 harg2 arg3 harg3 arg4 harg4 arg5 harg5 arg6 harg6 x0 x1 x2 =
      k0_pay5 k0_pay23 (kernelRun0_A.sl.r_3 c i arg2 harg2 arg3 harg3 arg4 harg4 arg5 harg5 arg6 harg6 x0 x1 x2)
              (kernelRun0_A.sl.r_4 c i arg2 harg2 arg3 harg3 arg4 harg4 arg5 harg5 arg6 harg6 x0 x1 x2)
              (kernelRun0_A.sl.r_5 c i arg2 harg2 arg3 harg3 arg4 harg4 arg5 harg5 arg6 harg6 x0 x1 x2)
              (kernelRun0_A.sl.r_6 c i arg2 harg2 arg3 harg3 arg4 harg4 arg5 harg5 arg6 harg6 x0 x1 x2)
              (kernelRun0_A.sl.r_7 c i arg2 harg2 arg3 harg3 arg4 harg4 arg5 harg5 arg6 harg6 x0 x1 x2)
              (kernelRun0_A.sl.r_8 c i arg2 harg2 arg3 harg3 arg4 harg4 arg5 harg5 arg6 harg6 x0 x1 x2) (lastVals' i arg4 harg4 x2) := by
    frame_out
  have h := past_diagonal c i arg2 harg2 arg3 harg3 arg4 harg4 arg5 harg5 arg6 harg6 x0 x1 x2 hQ hK hV y
  have hi : (i 1).val < 8 := (i 1).isLt
  have hP : ∀ κ, κ ≤ 1024 * (i 1).val + y.val → κ < 1024 * ((i 1).val + 1) := fun κ _ => by omega
  rw [e, pay5_read]
  by_cases hl : l.val < 64
  · rw [dif_pos hl, if_pos hl]
    exact (h.1.out hi hP (Nat.zero_le _)).2
  · rw [dif_neg hl, if_neg hl]
    exact (h.2.out hi hP (Nat.zero_le _)).2

end Loop

end Cert.Attn
-- ==== Proof.AttnBwd.lean ====
module

public import proofs.«01_k».proof.Proof.AttnFwd
public import Idealize.ShloMosaic.Lib.WritesUnit

@[expose] public section

set_option maxRecDepth 16384
set_option maxHeartbeats 4000000
noncomputable section
namespace Cert.Attn
open Idealize.ShloMosaic Idealize.ShloMosaic.TcCoe Idealize.ShloMosaic.Tactic
open Cert.Kernel2Ideal Cert.Kernel2Ideal.Gen
open Cert.Core

/-! ## The model of one block of rows: `b` its first row, `h` the head of the pair -/

def bScore (Q K : ℕ → ℕ → ℝ) (h r κ : ℕ) : ℝ := ∑ l : Fin 128, Q r (128 * h + l.val) * K κ (128 * h + l.val)

/-- A weight, from the stored base-two logarithm of the row. -/
def bP (Q S K : ℕ → ℕ → ℝ) (b h r κ : ℕ) : ℝ := if κ ≤ b + r then two (bScore Q K h r κ - S r h) else 0

/-- The cotangent of a weight: the lanes of the head, of the cotangent against the values. -/
def bDp (D V : ℕ → ℕ → ℝ) (h r κ : ℕ) : ℝ := ∑ l : Fin 128, (if l.val / 64 = h then D r l.val else 0) * V κ l.val

/-- The cotangent of a score. -/
def bDs (Q D S K V : ℕ → ℕ → ℝ) (b h r κ : ℕ) : ℝ := bP Q S K b h r κ * (bDp D V h r κ - S r (2 + h))

/-! ## One head against one tile of keys -/

section Pay
variable {v9 : FVec Ideal S512x128 .f32} {qh kh vh dh : FVec Ideal S512x128 .bf16} {v3 : IVec S512x128 32}
variable {q k v d s : ℕ → ℕ → ℝ}
  (hq : ∀ (r : Fin 512) (l : Fin 128), qh (ix2 r l) = ((q r.val l.val : ℝ) : EReal))
  (hk : ∀ (r : Fin 512) (l : Fin 128), kh (ix2 r l) = ((k r.val l.val : ℝ) : EReal))
  (hv : ∀ (r : Fin 512) (l : Fin 128), vh (ix2 r l) = ((v r.val l.val : ℝ) : EReal))
  (hd : ∀ (r : Fin 512) (l : Fin 128), dh (ix2 r l) = ((d r.val l.val : ℝ) : EReal))
  (hs : ∀ (r : Fin 512) (l : Fin 128), v9 (ix2 r l) = ((s r.val l.val : ℝ) : EReal))
  (hi : ∀ (r : Fin 512) (l : Fin 128), v3 (ix2 r l) = BitVec.ofNat 32 l.val)

include hq hk hs in
theorem pay1_2 (y b : Fin 512) : k1_pay2 (F := Ideal) v9 qh kh (ix2 y b)
    = ((two ((∑ l : Fin 128, q y.val l.val * k b.val l.val) - s y.val 0) : ℝ) : EReal) := by
  pointwise [k1_pay2, k1_pay1]
  simp only [hq, hk, ← EReal.coe_mul, coe_sum]
  rw [hs, ← EReal.coe_sub]
  rfl

include hq hk hs in
theorem pay1_10 (y b : Fin 512) : k1_pay10 (F := Ideal) v9 qh kh (ix2 y b)
    = ((two ((∑ l : Fin 128, q y.val l.val * k b.val l.val) - s y.val 1) : ℝ) : EReal) := by
  pointwise [k1_pay10, k1_pay9]
  simp only [hq, hk, ← EReal.coe_mul, coe_sum]
  rw [hs, ← EReal.coe_sub]
  rfl

theorem slt_nat {a b : ℕ} (ha : a < 2 ^ 31) (hb : b < 2 ^ 31) :
    IntOp.cmpi .slt (BitVec.ofNat 32 a) (BitVec.ofNat 32 b) = if a < b then 1#1 else 0#1 := by
  have e : ∀ x : ℕ, x < 2 ^ 31 → (BitVec.ofNat 32 x).toInt = x := fun x hx => by
    rw [BitVec.toInt_ofNat', Int.bmod_def]; omega
  show BitVec.ofBool (BitVec.slt (BitVec.ofNat 32 a) (BitVec.ofNat 32 b)) = _
  rw [BitVec.slt_eq_decide, e a ha, e b hb]
  by_cases h : a < b <;> simp [h]

theorem sge_nat {a b : ℕ} (ha : a < 2 ^ 31) (hb : b < 2 ^ 31) :
    IntOp.cmpi .sge (BitVec.ofNat 32 a) (BitVec.ofNat 32 b) = if b ≤ a then 1#1 else 0#1 := sle_nat hb ha

include hd hi in
theorem mask_lo (y : Fin 512) (l : Fin 128) :
    Scalar.select (IntOp.cmpi .slt (v3 (ix2 y l)) 64#32) (dh (ix2 y l)) 0 = (((if l.val / 64 = 0 then d y.val l.val else 0) : ℝ) : EReal) := by
  rw [hi, slt_nat (by omega) (by omega), select_ite, hd]
  by_cases h : l.val < 64
  · rw [if_pos h, if_pos (by omega)]
  · rw [if_neg h, if_neg (by omega)]; rfl

include hd hi in
theorem mask_hi (y : Fin 512) (l : Fin 128) :
    Scalar.select (IntOp.cmpi .sge (v3 (ix2 y l)) 64#32) (dh (ix2 y l)) 0 = (((if l.val / 64 = 1 then d y.val l.val else 0) : ℝ) : EReal) := by
  rw [hi, sge_nat (by omega) (by omega), select_ite, hd]
  by_cases h : 64 ≤ l.val
  · rw [if_pos h, if_pos (by omega)]
  · rw [if_neg h, if_neg (by omega)]; rfl

include hq hk hv hd hs hi in
theorem pay1_3 (y b : Fin 512) : k1_pay3 (F := Ideal) v3 dh v9 qh kh vh (ix2 y b)
    = ((two ((∑ l : Fin 128, q y.val l.val * k b.val l.val) - s y.val 0) * (bDp d v 0 y.val b.val - s y.val 2) : ℝ) : EReal) := by
  have e : k1_pay3 (F := Ideal) v3 dh v9 qh kh vh (ix2 y b) = k1_pay2 (F := Ideal) v9 qh kh (ix2 y b) *
      ((∑ l : Fin 128, Scalar.select (IntOp.cmpi .slt (v3 (ix2 y l)) 64#32) (dh (ix2 y l)) 0 * vh (ix2 b l)) - v9 (ix2 y 2)) := by
    pointwise [k1_pay3]
  rw [e, pay1_2 hq hk hs, hs]
  simp only [mask_lo hd hi, hv, ← EReal.coe_mul, coe_sum, ← EReal.coe_sub]
  rfl

include hq hk hv hd hs hi in
theorem pay1_11 (y b : Fin 512) : k1_pay11 (F := Ideal) v3 dh v9 qh kh vh (ix2 y b)
    = ((two ((∑ l : Fin 128, q y.val l.val * k b.val l.val) - s y.val 1) * (bDp d v 1 y.val b.val - s y.val 3) : ℝ) : EReal) := by
  have e : k1_pay11 (F := Ideal) v3 dh v9 qh kh vh (ix2 y b) = k1_pay10 (F := Ideal) v9 qh kh (ix2 y b) *
      ((∑ l : Fin 128, Scalar.select (IntOp.cmpi .sge (v3 (ix2 y l)) 64#32) (dh (ix2 y l)) 0 * vh (ix2 b l)) - v9 (ix2 y 3)) := by
    pointwise [k1_pay11]
  rw [e, pay1_10 hq hk hs, hs]
  simp only [mask_hi hd hi, hv, ← EReal.coe_mul, coe_sum, ← EReal.coe_sub]
  rfl

theorem pay1_4 (t : FVec Ideal S64x512 .f32) (w : FVec Ideal S64x512 .bf16) (d : Fin 64) (b : Fin 512) :
    k1_pay4 (F := Ideal) v9 qh kh t w (ix2 d b) = t (ix2 d b) + ∑ y : Fin 512, w (ix2 d y) * k1_pay2 (F := Ideal) v9 qh kh (ix2 y b) := by
  pointwise [k1_pay4]

theorem pay1_12 (t : FVec Ideal S64x512 .f32) (w : FVec Ideal S64x512 .bf16) (d : Fin 64) (b : Fin 512) :
    k1_pay12 (F := Ideal) v9 qh kh t w (ix2 d b) = t (ix2 d b) + ∑ y : Fin 512, w (ix2 d y) * k1_pay10 (F := Ideal) v9 qh kh (ix2 y b) := by
  pointwise [k1_pay12]

theorem pay1_7 (g : FVec Ideal S512x512 .bf16) (t : FVec Ideal S96x512 .f32) (w : FVec Ideal S96x512 .bf16) (d : Fin 96) (b : Fin 512) :
    k1_pay7 (F := Ideal) g (k1_pay5 t) (k1_pay6 w) (constant S96x512 .f32 0x00000000#32) (ix2 d b) = t (ix2 d b) + ∑ y : Fin 512, w (ix2 d y) * g (ix2 y b) := by
  pointwise [k1_pay7, k1_pay5, k1_pay6]

theorem pay1_32 (g : FVec Ideal S512x512 .bf16) (t : FVec Ideal S96x512 .f32) (w : FVec Ideal S96x512 .bf16) (d : Fin 96) (b : Fin 512) :
    k1_pay32 (F := Ideal) g (k1_pay13 t) w (ix2 d b) = t (ix2 d b) + ∑ y : Fin 512, w (ix2 d y) * g (ix2 y b) := by
  pointwise [k1_pay32, k1_pay13]

theorem pay1_8 (g : FVec Ideal S512x512 .bf16) (t : FVec Ideal S512x128 .f32) (y : Fin 512) (l : Fin 128) :
    k1_pay8 (F := Ideal) t (k1_pay1 kh) g (ix2 y l) = t (ix2 y l) + ∑ b : Fin 512, g (ix2 y b) * kh (ix2 b l) := by
  pointwise [k1_pay8, k1_pay1]

theorem pay1_33 (g : FVec Ideal S512x512 .bf16) (t : FVec Ideal S512x128 .f32) (y : Fin 512) (l : Fin 128) :
    k1_pay33 (F := Ideal) t (k1_pay9 kh) g (ix2 y l) = t (ix2 y l) + ∑ b : Fin 512, g (ix2 y b) * kh (ix2 b l) := by
  pointwise [k1_pay33, k1_pay9]

/-! ## The masked tile -/

theorem iota_lane (r : Fin 512) (l : Fin 128) : iota .tc S512x128 32 [1] iota_S512x128_d1_w32 (ix2 r l) = BitVec.ofNat 32 l.val := by
  pointwise []

theorem iota_row (r l : Fin 512) : iota .tc S512x512 32 [0] iota_S512x512_d0_w32 (ix2 r l) = BitVec.ofNat 32 r.val := by
  pointwise []

theorem iota_col (r l : Fin 512) : iota .tc S512x512 32 [1] iota_S512x512_d1_w32 (ix2 r l) = BitVec.ofNat 32 l.val := by
  pointwise []

theorem pay1_37 (v6 : FVec Ideal S512x128 .bf16) (y : Fin 512) (l : Fin 128) : k1_pay37 (F := Ideal) v6 (ix2 y l) =
    Scalar.select (IntOp.cmpi .slt (BitVec.ofNat 32 l.val) 64#32) (v6 (ix2 y l)) 0 := by
  pointwise [k1_pay37, k1_pay29]

theorem pay1_47 (y : Fin 512) (l : Fin 128) : k1_pay47 (F := Ideal) v3 dh (ix2 y l) =
    Scalar.select (IntOp.cmpi .sge (v3 (ix2 y l)) 64#32) (dh (ix2 y l)) 0 := by
  pointwise [k1_pay47]

theorem pay1_29 (v6 : FVec Ideal S512x128 .bf16) (y : Fin 512) (l : Fin 128) : k1_pay29 (F := Ideal) v6 (ix2 y l) = v6 (ix2 y l) := by
  pointwise [k1_pay29]

theorem pay1_30 (v8 : FVec Ideal S1x512x128 .f32) (y : Fin 512) (l : Fin 128) : k1_pay30 (F := Ideal) v8 (ix2 y l) = v8 (ix3 0 y l) := by
  pointwise [k1_pay30]

include hq hk in
theorem pay1_40 (v8 : FVec Ideal S1x512x128 .f32) (hs8 : ∀ (r : Fin 512) (l : Fin 128), v8 (ix3 0 r l) = ((s r.val l.val : ℝ) : EReal)) (y b : Fin 512) :
    k1_pay40 (F := Ideal) (k1_pay39 v8 qh kh) (ix2 y b)
    = ((if b.val ≤ y.val then two ((∑ l : Fin 128, q y.val l.val * k b.val l.val) - s y.val 0) else 0 : ℝ) : EReal) := by
  have e : k1_pay40 (F := Ideal) (k1_pay39 v8 qh kh) (ix2 y b) = Ideal.exp2 (Scalar.select (IntOp.cmpi .sle (BitVec.ofNat 32 b.val) (BitVec.ofNat 32 y.val))
      (∑ l : Fin 128, qh (ix2 y l) * kh (ix2 b l)) ⊥ - v8 (ix3 0 y 0)) := by
    pointwise [k1_pay40, k1_pay39, k1_pay36, k1_pay30]
    rw [bits_neg_inf]
    rfl
  rw [e, sle_nat (by omega) (by omega), select_ite, hs8]
  simp only [hq, hk, ← EReal.coe_mul, coe_sum]
  exact exp2_masked _ _ _

include hq hk hs in
theorem pay1_49 (v4 v5 : IVec S512x512 32) (h4 : ∀ y b : Fin 512, v4 (ix2 y b) = BitVec.ofNat 32 y.val)
    (h5 : ∀ y b : Fin 512, v5 (ix2 y b) = BitVec.ofNat 32 b.val) (y b : Fin 512) :
    k1_pay49 (F := Ideal) v4 v5 (k1_pay45 qh) (k1_pay46 kh) (k1_pay48 v9) (ix2 y b)
    = ((if b.val ≤ y.val then two ((∑ l : Fin 128, q y.val l.val * k b.val l.val) - s y.val 1) else 0 : ℝ) : EReal) := by
  have e : k1_pay49 (F := Ideal) v4 v5 (k1_pay45 qh) (k1_pay46 kh) (k1_pay48 v9) (ix2 y b) = Ideal.exp2 (Scalar.select (IntOp.cmpi .sle (v5 (ix2 y b)) (v4 (ix2 y b)))
      (∑ l : Fin 128, qh (ix2 y l) * kh (ix2 b l)) ⊥ - v9 (ix2 y 1)) := by
    pointwise [k1_pay49, k1_pay45, k1_pay46, k1_pay48]
    rw [bits_neg_inf]
    rfl
  rw [e, h4, h5, sle_nat (by omega) (by omega), select_ite, hs]
  simp only [hq, hk, ← EReal.coe_mul, coe_sum]
  exact exp2_masked _ _ _

include hq hk hv hd in
theorem pay1_41 (v8 : FVec Ideal S1x512x128 .f32) (hs8 : ∀ (r : Fin 512) (l : Fin 128), v8 (ix3 0 r l) = ((s r.val l.val : ℝ) : EReal)) (y b : Fin 512) :
    k1_pay41 (F := Ideal) (k1_pay37 dh) (k1_pay38 v8) (k1_pay39 v8 qh kh) vh (ix2 y b)
    = (((if b.val ≤ y.val then two ((∑ l : Fin 128, q y.val l.val * k b.val l.val) - s y.val 0) else 0) * (bDp d v 0 y.val b.val - s y.val 2) : ℝ) : EReal) := by
  have e : k1_pay41 (F := Ideal) (k1_pay37 dh) (k1_pay38 v8) (k1_pay39 v8 qh kh) vh (ix2 y b) = k1_pay40 (F := Ideal) (k1_pay39 v8 qh kh) (ix2 y b) *
      ((∑ l : Fin 128, k1_pay37 dh (ix2 y l) * vh (ix2 b l)) - v8 (ix3 0 y 2)) := by
    pointwise [k1_pay41, k1_pay38, k1_pay30]
  rw [e, pay1_40 hq hk v8 hs8, hs8]
  have m := fun y l => (pay1_37 dh y l).trans ((congrArg (fun z => Scalar.select (IntOp.cmpi .slt z 64#32) (dh (ix2 y l)) 0) (iota_lane y l).symm).trans (mask_lo hd iota_lane y l))
  simp only [m, hv, ← EReal.coe_mul, coe_sum, ← EReal.coe_sub]
  rfl

include hq hk hv hd hs hi in
theorem pay1_50 (v4 v5 : IVec S512x512 32) (h4 : ∀ y b : Fin 512, v4 (ix2 y b) = BitVec.ofNat 32 y.val)
    (h5 : ∀ y b : Fin 512, v5 (ix2 y b) = BitVec.ofNat 32 b.val) (y b : Fin 512) :
    k1_pay50 (F := Ideal) v4 v5 v9 (k1_pay45 qh) (k1_pay46 kh) (k1_pay47 v3 dh) (k1_pay48 v9) vh (ix2 y b)
    = (((if b.val ≤ y.val then two ((∑ l : Fin 128, q y.val l.val * k b.val l.val) - s y.val 1) else 0) * (bDp d v 1 y.val b.val - s y.val 3) : ℝ) : EReal) := by
  have e : k1_pay50 (F := Ideal) v4 v5 v9 (k1_pay45 qh) (k1_pay46 kh) (k1_pay47 v3 dh) (k1_pay48 v9) vh (ix2 y b) =
      k1_pay49 (F := Ideal) v4 v5 (k1_pay45 qh) (k1_pay46 kh) (k1_pay48 v9) (ix2 y b) *
      ((∑ l : Fin 128, k1_pay47 v3 dh (ix2 y l) * vh (ix2 b l)) - v9 (ix2 y 3)) := by
    pointwise [k1_pay50]
  rw [e, pay1_49 hq hk hs v4 v5 h4 h5, hs]
  simp only [pay1_47, mask_hi hd hi, hv, ← EReal.coe_mul, coe_sum, ← EReal.coe_sub]
  rfl

theorem pay1_42 (p : FVec Ideal S512x512 .f32) (t : FVec Ideal S64x512 .f32) (w : FVec Ideal S64x512 .bf16) (d : Fin 64) (b : Fin 512) :
    k1_pay42 (F := Ideal) p t w (ix2 d b) = t (ix2 d b) + ∑ y : Fin 512, w (ix2 d y) * k1_pay40 (F := Ideal) p (ix2 y b) := by
  pointwise [k1_pay42]

theorem pay1_51 (v4 v5 : IVec S512x512 32) (a b' : FVec Ideal S512x128 .bf16) (z : FVec Ideal S512x1 .f32) (t : FVec Ideal S64x512 .f32) (w : FVec Ideal S64x512 .bf16) (d : Fin 64) (b : Fin 512) :
    k1_pay51 (F := Ideal) v4 v5 a b' z t w (ix2 d b) = t (ix2 d b) + ∑ y : Fin 512, w (ix2 d y) * k1_pay49 (F := Ideal) v4 v5 a b' z (ix2 y b) := by
  pointwise [k1_pay51]

theorem pay1_43 (a : FVec Ideal S512x128 .bf16) (z : FVec Ideal S512x1 .f32) (p : FVec Ideal S512x512 .f32) (t : FVec Ideal S96x512 .f32) (w : FVec Ideal S96x512 .bf16) (d : Fin 96) (b : Fin 512) :
    k1_pay43 (F := Ideal) a z p vh t w (ix2 d b) = t (ix2 d b) + ∑ y : Fin 512, w (ix2 d y) * k1_pay41 (F := Ideal) a z p vh (ix2 y b) := by
  pointwise [k1_pay43]

theorem pay1_52 (v4 v5 : IVec S512x512 32) (a b' e : FVec Ideal S512x128 .bf16) (z : FVec Ideal S512x1 .f32) (t : FVec Ideal S96x512 .f32) (w : FVec Ideal S96x512 .bf16) (d : Fin 96) (b : Fin 512) :
    k1_pay52 (F := Ideal) v4 v5 v9 a b' e z vh t w (ix2 d b) = t (ix2 d b) + ∑ y : Fin 512, w (ix2 d y) * k1_pay50 (F := Ideal) v4 v5 v9 a b' e z vh (ix2 y b) := by
  pointwise [k1_pay52]

theorem scale_read : Named.named (F := Ideal) Cert.Kernel2Ideal.κ "scale" (φ := .f32) 0x3DD105EC#32 = (((Real.sqrt 96)⁻¹ : ℝ) : EReal) :=
  IdealRules.named_const.ideal_named_scalar _ _ _ _ rfl

theorem pay1_44 (a kk : FVec Ideal S512x128 .bf16) (z : FVec Ideal S512x1 .f32) (p : FVec Ideal S512x512 .f32) (t : FVec Ideal S512x128 .f32) (y : Fin 512) (l : Fin 128) :
    k1_pay44 (F := Ideal) t (k1_pay36 kk) a z p vh (ix2 y l) = t (ix2 y l) + ∑ b : Fin 512, k1_pay41 (F := Ideal) a z p vh (ix2 y b) * kk (ix2 b l) := by
  pointwise [k1_pay44, k1_pay36]

theorem pay1_53 (v4 v5 : IVec S512x512 32) (a kk e : FVec Ideal S512x128 .bf16) (z : FVec Ideal S512x1 .f32) (t u : FVec Ideal S512x128 .f32) (y : Fin 512) (l : Fin 256) :
    k1_pay53 (F := Ideal) v4 v5 v9 t u a (k1_pay46 kk) e z vh (ix2 y l) = (if h : l.val < 128 then u (ix2 y ⟨l.val, h⟩) else
      t (ix2 y ⟨l.val - 128, by omega⟩) + ∑ b : Fin 512, k1_pay50 (F := Ideal) v4 v5 v9 a (k1_pay46 kk) e z vh (ix2 y b) * kk (ix2 b ⟨l.val - 128, by omega⟩))
        * (((Real.sqrt 96)⁻¹ : ℝ) : EReal) := by
  pointwise [k1_pay53, k1_pay46]
  rw [scale_read]

end Pay

/-! ## The loop over the tiles below the diagonal -/

theorem trips1 : ∀ i : grid1.Coords, (k1_t1_loop i).trips = (i 1).val := by decide +kernel
theorem trips1' : ∀ i : grid1.Coords, (k1_t2_loop i).trips = 0 := by decide +kernel
theorem boff1 : ∀ (i : grid1.Coords) (k : Fin (k1_t1_loop i).trips), k1_off1 i k = ![512 * k.val, 0] := by decide +kernel
theorem boff2 : ∀ (i : grid1.Coords) (k : Fin (k1_t1_loop i).trips), k1_off2 i k = ![512 * k.val, 0] := by decide +kernel
theorem boff3 : ∀ (i : grid1.Coords) (k : Fin (k1_t1_loop i).trips), k1_off3 i k = ![0, 512 * k.val] := by decide +kernel
theorem boff4 : ∀ (i : grid1.Coords) (k : Fin (k1_t1_loop i).trips), k1_off4 i k = ![0, 512 * k.val] := by decide +kernel
theorem boff5 : ∀ (i : grid1.Coords) (k : Fin (k1_t1_loop i).trips), k1_off5 i k = ![512 * k.val, 128] := by decide +kernel
theorem boff6 : ∀ (i : grid1.Coords) (k : Fin (k1_t1_loop i).trips), k1_off6 i k = ![64, 512 * k.val] := by decide +kernel
theorem boff7 : ∀ (i : grid1.Coords) (k : Fin (k1_t1_loop i).trips), k1_off7 i k = ![128, 512 * k.val] := by decide +kernel
theorem boff15 : ∀ i : grid1.Coords, k1_off15 i = ![512 * (i 1).val, 0] := by decide +kernel
theorem boff16 : ∀ i : grid1.Coords, k1_off16 i = ![512 * (i 1).val, 0] := by decide +kernel
theorem boff17 : ∀ i : grid1.Coords, k1_off17 i = ![0, 512 * (i 1).val] := by decide +kernel
theorem boff18 : ∀ i : grid1.Coords, k1_off18 i = ![0, 512 * (i 1).val] := by decide +kernel
theorem boff19 : ∀ i : grid1.Coords, k1_off19 i = ![512 * (i 1).val, 128] := by decide +kernel
theorem boff20 : ∀ i : grid1.Coords, k1_off20 i = ![64, 512 * (i 1).val] := by decide +kernel
theorem boff21 : ∀ i : grid1.Coords, k1_off21 i = ![128, 512 * (i 1).val] := by decide +kernel

theorem read2f {κ : Kind} {sp : Space} {n0 n1 : ℕ} {e : EltTy} (a : Memref sig κ sp ⟨2, ![n0, n1]⟩ e) (f : BufTy.Contents (Elt Ideal) a.view.ty)
    {off : Fin 2 → ℕ} {m0 m1 : ℕ} (inb : ∀ b, off b + (![m0, m1] : Fin 2 → ℕ) b ≤ (![n0, n1] : Fin 2 → ℕ) b)
    (r : Fin m0) (l : Fin m1) (h0 : off 0 + r.val < n0) (h1 : off 1 + l.val < n1) :
    a.view.readAt (Elt Ideal) (Rect.unit (s := ⟨2, ![n0, n1]⟩) off ![m0, m1] inb).toLoadRect f (ix2 r l)
      = a.view.read (Elt Ideal) f (ix2 ⟨off 0 + r.val, h0⟩ ⟨off 1 + l.val, h1⟩) := by
  show a.view.read (Elt Ideal) f _ = _
  refine congrArg _ (funext fun b => ?_)
  apply Fin.ext
  match b with
  | 0 => show off 0 + 1 * r.val = off 0 + r.val; rw [one_mul]
  | 1 => show off 1 + 1 * l.val = off 1 + l.val; rw [one_mul]

theorem load2 {κ : Kind} {sp : Space} {n0 n1 : ℕ} {e : EltTy} (a : Memref sig κ sp ⟨2, ![n0, n1]⟩ e) (f : BufTy.Contents (Elt Ideal) a.view.ty)
    (B : ℕ → ℕ → Elt Ideal e) (hB : ∀ (r : Fin n0) (l : Fin n1), a.view.read (Elt Ideal) f (ix2 r l) = B r.val l.val)
    {off : Fin 2 → ℕ} {o0 o1 m0 m1 : ℕ} (inb : ∀ b, off b + (![m0, m1] : Fin 2 → ℕ) b ≤ (![n0, n1] : Fin 2 → ℕ) b) (ho : off = ![o0, o1])
    (r : Fin m0) (l : Fin m1) (h0 : o0 + r.val < n0) (h1 : o1 + l.val < n1) :
    a.view.readAt (Elt Ideal) (Rect.unit (s := ⟨2, ![n0, n1]⟩) off ![m0, m1] inb).toLoadRect f (ix2 r l) = B (o0 + r.val) (o1 + l.val) := by
  subst ho
  exact (read2f a f inb r l h0 h1).trans (hB _ _)

/-- A write of one block, read back: inside the block its value, outside what was there. -/
theorem write2 {κ : Kind} {sp : Space} {n0 n1 : ℕ} {e : EltTy} (a : Memref sig κ sp ⟨2, ![n0, n1]⟩ e) (f : BufTy.Contents (Elt Ideal) a.view.ty)
    {off : Fin 2 → ℕ} {o0 o1 m0 m1 : ℕ} (inb : ∀ b, off b + (![m0, m1] : Fin 2 → ℕ) b ≤ (![n0, n1] : Fin 2 → ℕ) b)
    (w : Vec Ideal ⟨2, ![m0, m1]⟩ e) (L : List (View.Piece (Elt Ideal) ⟨2, ![n0, n1]⟩ e)) (ho : off = ![o0, o1]) (r : Fin n0) (l : Fin n1) :
    a.view.read (Elt Ideal) (a.view.writes (Elt Ideal) f (⟨Rect.unit (s := ⟨2, ![n0, n1]⟩) off ![m0, m1] inb, w⟩ :: L)) (ix2 r l) =
      if h : (o0 ≤ r.val ∧ r.val < o0 + m0) ∧ (o1 ≤ l.val ∧ l.val < o1 + m1) then w (ix2 ⟨r.val - o0, by omega⟩ ⟨l.val - o1, by omega⟩)
      else a.view.read (Elt Ideal) (a.view.writes (Elt Ideal) f L) (ix2 r l) := by
  by_cases h : (o0 ≤ r.val ∧ r.val < o0 + m0) ∧ (o1 ≤ l.val ∧ l.val < o1 + m1)
  · rw [dif_pos h]
    refine View.read_writes_cons_unit_of_mem (off' := ![o0, o1]) _ _ inb w L (ix2 r l) (ix2 ⟨r.val - o0, by omega⟩ ⟨l.val - o1, by omega⟩) ho fun b => ?_
    match b with
    | 0 => show r.val = o0 + (r.val - o0); omega
    | 1 => show l.val = o1 + (l.val - o1); omega
  · rw [dif_neg h]
    by_cases h0 : o0 ≤ r.val ∧ r.val < o0 + m0
    · refine View.read_writes_cons_unit_of_not_mem (off' := ![o0, o1]) _ _ inb w L (ix2 r l) ho 1 ?_
      show l.val < o1 ∨ o1 + m1 ≤ l.val; omega
    · refine View.read_writes_cons_unit_of_not_mem (off' := ![o0, o1]) _ _ inb w L (ix2 r l) ho 0 ?_
      show r.val < o0 ∨ o0 + m0 ≤ r.val; omega

/-- Two blocks, each added to: rows of two heads of `g` rows, the first `m0` of each. -/
theorem acc_step {κ : Kind} {sp : Space} {n0 m0 g n : ℕ} (a : Memref sig κ sp ⟨2, ![n0, 8192]⟩ .f32) (f : BufTy.Contents (Elt Ideal) a.view.ty)
    {off off' : Fin 2 → ℕ} (inb : ∀ b, off b + (![m0, 512] : Fin 2 → ℕ) b ≤ (![n0, 8192] : Fin 2 → ℕ) b)
    (inb' : ∀ b, off' b + (![m0, 512] : Fin 2 → ℕ) b ≤ (![n0, 8192] : Fin 2 → ℕ) b)
    (w w' : Vec Ideal ⟨2, ![m0, 512]⟩ .f32) (L : List (View.Piece (Elt Ideal) ⟨2, ![n0, 8192]⟩ .f32)) (ho : off = ![g, 512 * n]) (ho' : off' = ![0, 512 * n])
    (hn : n0 = 2 * g) (hm : m0 ≤ g) (B C : ℕ → ℕ → ℝ)
    (hB : ∀ (r : Fin n0) (l : Fin 8192), a.view.read (Elt Ideal) (a.view.writes (Elt Ideal) f L) (ix2 r l) = ((B r.val l.val : ℝ) : EReal))
    (hw : ∀ (d : Fin m0) (b : Fin 512), w (ix2 d b) = ((B (g + d.val) (512 * n + b.val) + C (g + d.val) (512 * n + b.val) : ℝ) : EReal))
    (hw' : ∀ (d : Fin m0) (b : Fin 512), w' (ix2 d b) = ((B d.val (512 * n + b.val) + C d.val (512 * n + b.val) : ℝ) : EReal))
    (hC : ∀ r κ, m0 ≤ r % g → C r κ = 0) (r : Fin n0) (l : Fin 8192) :
    a.view.read (Elt Ideal) (a.view.writes (Elt Ideal) f (⟨Rect.unit (s := ⟨2, ![n0, 8192]⟩) off ![m0, 512] inb, w⟩ ::
      ⟨Rect.unit (s := ⟨2, ![n0, 8192]⟩) off' ![m0, 512] inb', w'⟩ :: L)) (ix2 r l) =
      ((B r.val l.val + (if 512 * n ≤ l.val ∧ l.val < 512 * (n + 1) then C r.val l.val else 0) : ℝ) : EReal) := by
  rw [write2 a f inb w _ ho, write2 a f inb' w' L ho']
  have hr := r.isLt
  by_cases hl : 512 * n ≤ l.val ∧ l.val < 512 * (n + 1)
  · rw [if_pos hl]
    have el : 512 * n + (l.val - 512 * n) = l.val := by omega
    by_cases h1 : g ≤ r.val ∧ r.val < g + m0
    · rw [dif_pos ⟨h1, by omega⟩, hw]
      have er : g + (r.val - g) = r.val := by omega
      simp only [el, er]
    · rw [dif_neg fun h => h1 h.1]
      by_cases h2 : r.val < m0
      · rw [dif_pos ⟨by omega, by omega⟩, hw']
        simp only [el, Nat.sub_zero]
      · rw [dif_neg fun h => h2 (by omega), hB, hC, add_zero]
        by_cases h3 : r.val < g
        · rw [Nat.mod_eq_of_lt h3]; omega
        · have e : r.val % g = r.val - g := by rw [Nat.mod_eq_sub_mod (by omega), Nat.mod_eq_of_lt (by omega)]
          rw [e]; omega
  · rw [if_neg hl, add_zero, dif_neg fun h => hl (by omega), dif_neg fun h => hl (by omega), hB]

/-- What a block of rows adds to the gradients of the values and of the keys. -/
def cV (Q S K DT : ℕ → ℕ → ℝ) (b d κ : ℕ) : ℝ := ∑ r : Fin 512, DT d r.val * bP Q S K b (d / 64) r.val κ
def cK (Q D S K V QT : ℕ → ℕ → ℝ) (b d κ : ℕ) : ℝ := if d % 128 < 96 then ∑ r : Fin 512, QT d r.val * bDs Q D S K V b (d / 128) r.val κ else 0

/-- The state before trip `n`: the gradient of the queries of the block, and what the two accumulators hold. -/
def BState (i : grid1.Coords) (arg10 : Memref sig .tc .vmem S256x8192 .f32) (arg11 : Memref sig .tc .vmem S128x8192 .f32) (Q QT D DT S K V B10 B11 : ℕ → ℕ → ℝ)
    (G10 : BufTy.Contents (Elt Ideal) arg10.view.ty) (G11 : BufTy.Contents (Elt Ideal) arg11.view.ty) (n : ℕ)
    (st : (FVec Ideal S512x128 .f32 × FVec Ideal S512x128 .f32) × List (View.Piece (Elt Ideal) S256x8192 .f32) × List (View.Piece (Elt Ideal) S128x8192 .f32)) : Prop :=
    (∀ (y : Fin 512) (l : Fin 128), st.1.1 (ix2 y l) = ((∑ κ ∈ Finset.range (512 * n), bDs Q D S K V (512 * (i 1).val) 0 y.val κ * K κ (128 * 0 + l.val) : ℝ) : EReal)) ∧
    (∀ (y : Fin 512) (l : Fin 128), st.1.2 (ix2 y l) = ((∑ κ ∈ Finset.range (512 * n), bDs Q D S K V (512 * (i 1).val) 1 y.val κ * K κ (128 * 1 + l.val) : ℝ) : EReal)) ∧
    (∀ (r : Fin 256) (l : Fin 8192), arg10.view.read (Elt Ideal) (arg10.view.writes (Elt Ideal) G10 st.2.1) (ix2 r l) =
      ((B10 r.val l.val + (if l.val < 512 * n then cK Q D S K V QT (512 * (i 1).val) r.val l.val else 0) : ℝ) : EReal)) ∧
    (∀ (r : Fin 128) (l : Fin 8192), arg11.view.read (Elt Ideal) (arg11.view.writes (Elt Ideal) G11 st.2.2) (ix2 r l) =
      ((B11 r.val l.val + (if l.val < 512 * n then cV Q S K DT (512 * (i 1).val) r.val l.val else 0) : ℝ) : EReal))

section Loop

variable (c : Dev nD) (i : grid1.Coords) (arg2 : Memref sig .tc .vmem S512x256 .bf16) (harg2 : arg2.IsWhole) (arg3 : Memref sig .tc .vmem S256x512 .bf16) (harg3 : arg3.IsWhole) (arg4 : Memref sig .tc .vmem S512x128 .bf16) (harg4 : arg4.IsWhole) (arg5 : Memref sig .tc .vmem S128x512 .bf16) (harg5 : arg5.IsWhole) (arg6 : Memref sig .tc .vmem S1x512x128 .f32) (harg6 : arg6.IsWhole) (arg7 : Memref sig .tc .vmem S8192x256 .bf16) (harg7 : arg7.IsWhole) (arg8 : Memref sig .tc .vmem S8192x128 .bf16) (harg8 : arg8.IsWhole) (arg9 : Memref sig .tc .vmem S512x256 .f32) (harg9 : arg9.IsWhole) (arg10 : Memref sig .tc .vmem S256x8192 .f32) (harg10 : arg10.IsWhole) (arg11 : Memref sig .tc .vmem S128x8192 .f32) (harg11 : arg11.IsWhole)
  (x0 : Vec Ideal S512x256 .bf16) (x1 : Vec Ideal S256x512 .bf16) (x3 : Vec Ideal S128x512 .bf16) (x5 : Vec Ideal S8192x256 .bf16) (x6 : Vec Ideal S8192x128 .bf16)
  (v3 : IVec S512x128 32) (v6 : Vec Ideal S512x128 .bf16) (v8 : Vec Ideal S1x512x128 .f32)

abbrev bq : FVec Ideal S512x128 .bf16 := arg2.view.readAt (Elt Ideal) (Rect.unit (s := S512x256) ![0, 0] S512x128.size inb_S512x256_S512x128_0_0).toLoadRect (harg2.unread x0)
abbrev bq' : FVec Ideal S512x128 .bf16 := arg2.view.readAt (Elt Ideal) (Rect.unit (s := S512x256) ![0, 128] S512x128.size inb_S512x256_S512x128_0_128).toLoadRect (harg2.unread x0)
abbrev bqt : FVec Ideal S96x512 .bf16 := arg3.view.readAt (Elt Ideal) (Rect.unit (s := S256x512) ![0, 0] S96x512.size inb_S256x512_S96x512_0_0).toLoadRect (harg3.unread x1)
abbrev bqt' : FVec Ideal S96x512 .bf16 := arg3.view.readAt (Elt Ideal) (Rect.unit (s := S256x512) ![128, 0] S96x512.size inb_S256x512_S96x512_128_0).toLoadRect (harg3.unread x1)
abbrev bdt : FVec Ideal S64x512 .bf16 := arg5.view.readAt (Elt Ideal) (Rect.unit (s := S128x512) ![0, 0] S64x512.size inb_S128x512_S64x512_0_0).toLoadRect (harg5.unread x3)
abbrev bdt' : FVec Ideal S64x512 .bf16 := arg5.view.readAt (Elt Ideal) (Rect.unit (s := S128x512) ![64, 0] S64x512.size inb_S128x512_S64x512_64_0).toLoadRect (harg5.unread x3)
section Trip
variable (t : Fin (k1_t1_loop i).trips)
abbrev bk : FVec Ideal S512x128 .bf16 := arg7.view.readAt (Elt Ideal) (Rect.unit (s := S8192x256) (k1_off1 i t) S512x128.size (k1_off1_inb i t)).toLoadRect (harg7.unread x5)
abbrev bk' : FVec Ideal S512x128 .bf16 := arg7.view.readAt (Elt Ideal) (Rect.unit (s := S8192x256) (k1_off5 i t) S512x128.size (k1_off5_inb i t)).toLoadRect (harg7.unread x5)
abbrev bv : FVec Ideal S512x128 .bf16 := arg8.view.readAt (Elt Ideal) (Rect.unit (s := S8192x128) (k1_off2 i t) S512x128.size (k1_off2_inb i t)).toLoadRect (harg8.unread x6)

/-- The cotangents of the scores of a trip, head by head. -/
abbrev bds : FVec Ideal S512x512 .bf16 := k1_pay3 v3 (k1_pay29 v6) (k1_pay30 v8) (bq arg2 harg2 x0) (bk i arg7 harg7 x5 t) (bv i arg8 harg8 x6 t)
abbrev bds' : FVec Ideal S512x512 .bf16 := k1_pay11 v3 (k1_pay29 v6) (k1_pay30 v8) (bq' arg2 harg2 x0) (bk' i arg7 harg7 x5 t) (bv i arg8 harg8 x6 t)

theorem btrip_eq (a : FVec Ideal S512x128 .f32 × FVec Ideal S512x128 .f32) (f10 : BufTy.Contents (Elt Ideal) arg10.view.ty) (f11 : BufTy.Contents (Elt Ideal) arg11.view.ty) :
    tripR_k1_t1 (F := Ideal) Variants.none c none i arg2 harg2 arg3 harg3 arg4 harg4 arg5 harg5 arg6 harg6 arg7 harg7 arg8 harg8 arg9 harg9 arg10 harg10 arg11 harg11 v3 v6 v8
      (harg2.unread x0) (harg3.unread x1) (harg5.unread x3) (harg7.unread x5) (harg8.unread x6) t a f10 f11 =
    (k1_pay8 a.1 (k1_pay1 (bk i arg7 harg7 x5 t)) (bds i arg2 harg2 arg7 harg7 arg8 harg8 x0 x5 x6 v3 v6 v8 t),
     k1_pay33 a.2 (k1_pay9 (bk' i arg7 harg7 x5 t)) (bds' i arg2 harg2 arg7 harg7 arg8 harg8 x0 x5 x6 v3 v6 v8 t)) := by
  unfold tripR_k1_t1
  unfold trip_k1_t1
  dsimp only
  rfl

theorem btrip_eqL (a : FVec Ideal S512x128 .f32 × FVec Ideal S512x128 .f32) (f10 : BufTy.Contents (Elt Ideal) arg10.view.ty) (f11 : BufTy.Contents (Elt Ideal) arg11.view.ty) :
    tripL_k1_t1 (F := Ideal) Variants.none c none i arg2 harg2 arg3 harg3 arg4 harg4 arg5 harg5 arg6 harg6 arg7 harg7 arg8 harg8 arg9 harg9 arg10 harg10 arg11 harg11 v3 v6 v8
      (harg2.unread x0) (harg3.unread x1) (harg5.unread x3) (harg7.unread x5) (harg8.unread x6) t a f10 f11 =
    ([⟨Rect.unit (s := S256x8192) (k1_off7 i t) S96x512.size (k1_off7_inb i t), k1_pay32 (bds' i arg2 harg2 arg7 harg7 arg8 harg8 x0 x5 x6 v3 v6 v8 t)
        (k1_pay13 (arg10.view.readAt (Elt Ideal) (Rect.unit (s := S256x8192) (k1_off7 i t) S96x512.size (k1_off7_inb i t)).toLoadRect f10)) (bqt' arg3 harg3 x1)⟩,
      ⟨Rect.unit (s := S256x8192) (k1_off4 i t) S96x512.size (k1_off4_inb i t), k1_pay7 (bds i arg2 harg2 arg7 harg7 arg8 harg8 x0 x5 x6 v3 v6 v8 t)
        (k1_pay5 (arg10.view.readAt (Elt Ideal) (Rect.unit (s := S256x8192) (k1_off4 i t) S96x512.size (k1_off4_inb i t)).toLoadRect f10)) (k1_pay6 (bqt arg3 harg3 x1))
        (constant S96x512 .f32 0x00000000#32)⟩],
     [⟨Rect.unit (s := S128x8192) (k1_off6 i t) S64x512.size (k1_off6_inb i t), k1_pay12 (k1_pay30 v8) (bq' arg2 harg2 x0) (bk' i arg7 harg7 x5 t)
        (arg11.view.readAt (Elt Ideal) (Rect.unit (s := S128x8192) (k1_off6 i t) S64x512.size (k1_off6_inb i t)).toLoadRect f11) (bdt' arg5 harg5 x3)⟩,
      ⟨Rect.unit (s := S128x8192) (k1_off3 i t) S64x512.size (k1_off3_inb i t), k1_pay4 (k1_pay30 v8) (bq arg2 harg2 x0) (bk i arg7 harg7 x5 t)
        (arg11.view.readAt (Elt Ideal) (Rect.unit (s := S128x8192) (k1_off3 i t) S64x512.size (k1_off3_inb i t)).toLoadRect f11) (bdt arg5 harg5 x3)⟩]) := by
  unfold tripL_k1_t1
  unfold trip_k1_t1
  dsimp only
  rfl

variable {Q QT D DT S K V : ℕ → ℕ → ℝ}
  (hQ : ∀ (r : Fin 512) (l : Fin 256), x0 (ix2 r l) = ((Q r.val l.val : ℝ) : EReal))
  (hQT : ∀ (l : Fin 256) (r : Fin 512), x1 (ix2 l r) = ((QT l.val r.val : ℝ) : EReal))
  (hDT : ∀ (l : Fin 128) (r : Fin 512), x3 (ix2 l r) = ((DT l.val r.val : ℝ) : EReal))
  (hK : ∀ (r : Fin 8192) (l : Fin 256), x5 (ix2 r l) = ((K r.val l.val : ℝ) : EReal))
  (hV : ∀ (r : Fin 8192) (l : Fin 128), x6 (ix2 r l) = ((V r.val l.val : ℝ) : EReal))
  (hD : ∀ (r : Fin 512) (l : Fin 128), v6 (ix2 r l) = ((D r.val l.val : ℝ) : EReal))
  (hS : ∀ (r : Fin 512) (l : Fin 128), v8 (ix3 0 r l) = ((S r.val l.val : ℝ) : EReal))
  (hi : ∀ (r : Fin 512) (l : Fin 128), v3 (ix2 r l) = BitVec.ofNat 32 l.val)

include hQ in
theorem bq_read (r : Fin 512) (l : Fin 128) : bq arg2 harg2 x0 (ix2 r l) = ((Q r.val (128 * 0 + l.val) : ℝ) : EReal) :=
  (read2 arg2 harg2 x0 _ r l (by show 0 + r.val < 512; omega) (by show 0 + l.val < 256; omega)).trans ((hQ _ _).trans (by simp))
include hQ in
theorem bq'_read (r : Fin 512) (l : Fin 128) : bq' arg2 harg2 x0 (ix2 r l) = ((Q r.val (128 * 1 + l.val) : ℝ) : EReal) :=
  (read2 arg2 harg2 x0 _ r l (by show 0 + r.val < 512; omega) (by show 128 + l.val < 256; omega)).trans ((hQ _ _).trans (by simp))
include hQT in
theorem bqt_read (d : Fin 96) (r : Fin 512) : bqt arg3 harg3 x1 (ix2 d r) = ((QT d.val r.val : ℝ) : EReal) :=
  (read2 arg3 harg3 x1 _ d r (by show 0 + d.val < 256; omega) (by show 0 + r.val < 512; omega)).trans ((hQT _ _).trans (by simp))
include hQT in
theorem bqt'_read (d : Fin 96) (r : Fin 512) : bqt' arg3 harg3 x1 (ix2 d r) = ((QT (128 + d.val) r.val : ℝ) : EReal) :=
  (read2 arg3 harg3 x1 _ d r (by show 128 + d.val < 256; omega) (by show 0 + r.val < 512; omega)).trans ((hQT _ _).trans (by simp))
include hDT in
theorem bdt_read (d : Fin 64) (r : Fin 512) : bdt arg5 harg5 x3 (ix2 d r) = ((DT d.val r.val : ℝ) : EReal) :=
  (read2 arg5 harg5 x3 _ d r (by show 0 + d.val < 128; omega) (by show 0 + r.val < 512; omega)).trans ((hDT _ _).trans (by simp))
include hDT in
theorem bdt'_read (d : Fin 64) (r : Fin 512) : bdt' arg5 harg5 x3 (ix2 d r) = ((DT (64 + d.val) r.val : ℝ) : EReal) :=
  (read2 arg5 harg5 x3 _ d r (by show 64 + d.val < 128; omega) (by show 0 + r.val < 512; omega)).trans ((hDT _ _).trans (by simp))

include hK in
theorem keys_read {off : Fin 2 → ℕ} {n h : ℕ} (inb : ∀ b, off b + S512x128.size b ≤ S8192x256.size b) (ho : off = ![512 * n, 128 * h]) (hn : n < 16) (hh : h < 2)
    (r : Fin 512) (l : Fin 128) : arg7.view.readAt (Elt Ideal) (Rect.unit (s := S8192x256) off S512x128.size inb).toLoadRect (harg7.unread x5) (ix2 r l)
      = ((K (512 * n + r.val) (128 * h + l.val) : ℝ) : EReal) := by
  subst ho
  exact (read2 arg7 harg7 x5 _ r l (by show 512 * n + r.val < 8192; omega) (by show 128 * h + l.val < 256; omega)).trans (hK _ _)
include hV in
theorem vals_read {off : Fin 2 → ℕ} {n : ℕ} (inb : ∀ b, off b + S512x128.size b ≤ S8192x128.size b) (ho : off = ![512 * n, 0]) (hn : n < 16)
    (r : Fin 512) (l : Fin 128) : arg8.view.readAt (Elt Ideal) (Rect.unit (s := S8192x128) off S512x128.size inb).toLoadRect (harg8.unread x6) (ix2 r l)
      = ((V (512 * n + r.val) l.val : ℝ) : EReal) := by
  subst ho
  exact (read2 arg8 harg8 x6 _ r l (by show 512 * n + r.val < 8192; omega) (by show 0 + l.val < 128; omega)).trans ((hV _ _).trans (by simp))

include hQ hK hV hD hS hi in
theorem bds_read (y b : Fin 512) : bds i arg2 harg2 arg7 harg7 arg8 harg8 x0 x5 x6 v3 v6 v8 t (ix2 y b) =
    ((bDs Q D S K V (512 * (i 1).val) 0 y.val (512 * t.val + b.val) : ℝ) : EReal) := by
  have h16 : (i 1).val < 16 := (i 1).isLt
  have ht : t.val < (i 1).val := lt_of_lt_of_eq t.isLt (trips1 i)
  refine (pay1_3 (q := fun r l => Q r (128 * 0 + l)) (k := fun b l => K (512 * t.val + b) (128 * 0 + l)) (v := fun b l => V (512 * t.val + b) l) (d := D) (s := S) (bq_read arg2 harg2 x0 hQ) (keys_read arg7 harg7 x5 hK (h := 0) (k1_off1_inb i t) (boff1 i t) (by omega) (by omega)) (vals_read arg8 harg8 x6 hV (k1_off2_inb i t) (boff2 i t) (by omega))
    (fun r l => (pay1_29 v6 r l).trans (hD r l)) (fun r l => (pay1_30 v8 r l).trans (hS r l)) hi y b).trans ?_
  unfold bDs bP
  rw [if_pos (by omega)]
  rfl

include hQ hK hV hD hS hi in
theorem bds'_read (y b : Fin 512) : bds' i arg2 harg2 arg7 harg7 arg8 harg8 x0 x5 x6 v3 v6 v8 t (ix2 y b) =
    ((bDs Q D S K V (512 * (i 1).val) 1 y.val (512 * t.val + b.val) : ℝ) : EReal) := by
  have h16 : (i 1).val < 16 := (i 1).isLt
  have ht : t.val < (i 1).val := lt_of_lt_of_eq t.isLt (trips1 i)
  refine (pay1_11 (q := fun r l => Q r (128 * 1 + l)) (k := fun b l => K (512 * t.val + b) (128 * 1 + l)) (v := fun b l => V (512 * t.val + b) l) (d := D) (s := S) (bq'_read arg2 harg2 x0 hQ) (keys_read arg7 harg7 x5 hK (h := 1) (k1_off5_inb i t) (boff5 i t) (by omega) (by omega)) (vals_read arg8 harg8 x6 hV (k1_off2_inb i t) (boff2 i t) (by omega))
    (fun r l => (pay1_29 v6 r l).trans (hD r l)) (fun r l => (pay1_30 v8 r l).trans (hS r l)) hi y b).trans ?_
  unfold bDs bP
  rw [if_pos (by omega)]
  rfl

include hQ hK hS in
theorem bp_read (y b : Fin 512) : k1_pay2 (F := Ideal) (k1_pay30 v8) (bq arg2 harg2 x0) (bk i arg7 harg7 x5 t) (ix2 y b) =
    ((bP Q S K (512 * (i 1).val) 0 y.val (512 * t.val + b.val) : ℝ) : EReal) := by
  have h16 : (i 1).val < 16 := (i 1).isLt
  have ht : t.val < (i 1).val := lt_of_lt_of_eq t.isLt (trips1 i)
  refine (pay1_2 (q := fun r l => Q r (128 * 0 + l)) (k := fun b l => K (512 * t.val + b) (128 * 0 + l)) (s := S) (bq_read arg2 harg2 x0 hQ) (keys_read arg7 harg7 x5 hK (h := 0) (k1_off1_inb i t) (boff1 i t) (by omega) (by omega))
    (fun r l => (pay1_30 v8 r l).trans (hS r l)) y b).trans ?_
  unfold bP
  rw [if_pos (by omega)]
  rfl

include hQ hK hS in
theorem bp'_read (y b : Fin 512) : k1_pay10 (F := Ideal) (k1_pay30 v8) (bq' arg2 harg2 x0) (bk' i arg7 harg7 x5 t) (ix2 y b) =
    ((bP Q S K (512 * (i 1).val) 1 y.val (512 * t.val + b.val) : ℝ) : EReal) := by
  have h16 : (i 1).val < 16 := (i 1).isLt
  have ht : t.val < (i 1).val := lt_of_lt_of_eq t.isLt (trips1 i)
  refine (pay1_10 (q := fun r l => Q r (128 * 1 + l)) (k := fun b l => K (512 * t.val + b) (128 * 1 + l)) (s := S) (bq'_read arg2 harg2 x0 hQ) (keys_read arg7 harg7 x5 hK (h := 1) (k1_off5_inb i t) (boff5 i t) (by omega) (by omega))
    (fun r l => (pay1_30 v8 r l).trans (hS r l)) y b).trans ?_
  unfold bP
  rw [if_pos (by omega)]
  rfl
end Trip

variable {Q QT D DT S K V : ℕ → ℕ → ℝ}
  (hQ : ∀ (r : Fin 512) (l : Fin 256), x0 (ix2 r l) = ((Q r.val l.val : ℝ) : EReal))
  (hQT : ∀ (l : Fin 256) (r : Fin 512), x1 (ix2 l r) = ((QT l.val r.val : ℝ) : EReal))
  (hDT : ∀ (l : Fin 128) (r : Fin 512), x3 (ix2 l r) = ((DT l.val r.val : ℝ) : EReal))
  (hK : ∀ (r : Fin 8192) (l : Fin 256), x5 (ix2 r l) = ((K r.val l.val : ℝ) : EReal))
  (hV : ∀ (r : Fin 8192) (l : Fin 128), x6 (ix2 r l) = ((V r.val l.val : ℝ) : EReal))
  (hD : ∀ (r : Fin 512) (l : Fin 128), v6 (ix2 r l) = ((D r.val l.val : ℝ) : EReal))
  (hS : ∀ (r : Fin 512) (l : Fin 128), v8 (ix3 0 r l) = ((S r.val l.val : ℝ) : EReal))
  (hi : ∀ (r : Fin 512) (l : Fin 128), v3 (ix2 r l) = BitVec.ofNat 32 l.val)
  (G10 : BufTy.Contents (Elt Ideal) arg10.view.ty) (G11 : BufTy.Contents (Elt Ideal) arg11.view.ty) {B10 B11 : ℕ → ℕ → ℝ}
  (hG10 : ∀ (r : Fin 256) (l : Fin 8192), arg10.view.read (Elt Ideal) G10 (ix2 r l) = ((B10 r.val l.val : ℝ) : EReal))
  (hG11 : ∀ (r : Fin 128) (l : Fin 8192), arg11.view.read (Elt Ideal) G11 (ix2 r l) = ((B11 r.val l.val : ℝ) : EReal))

theorem range_step (n : ℕ) (f : ℕ → ℝ) : ∑ κ ∈ Finset.range (512 * (n + 1)), f κ = ∑ κ ∈ Finset.range (512 * n), f κ + ∑ b : Fin 512, f (512 * n + b.val) := by
  rw [Nat.mul_succ, Finset.sum_range_add, Finset.sum_range (fun x => f (512 * n + x))]

theorem until_step (n l : ℕ) (B C : ℝ) : (B + if l < 512 * n then C else 0) + (if 512 * n ≤ l ∧ l < 512 * (n + 1) then C else 0) = B + if l < 512 * (n + 1) then C else 0 := by
  by_cases h : l < 512 * n
  · rw [if_pos h, if_neg (by omega), if_pos (by omega), add_zero]
  · by_cases h' : l < 512 * (n + 1)
    · rw [if_neg h, if_pos (by omega), if_pos h', add_zero]
    · rw [if_neg h, if_neg (by omega), if_neg h', add_zero]

include hQ hQT hDT hK hV hD hS hi hG10 hG11

theorem bloop_state (n : ℕ) (hn : n ≤ (i 1).val) :
    BState i arg10 arg11 Q QT D DT S K V B10 B11 G10 G11 n (st_k1_t1 (F := Ideal) Variants.none c none i arg2 harg2 arg3 harg3 arg4 harg4 arg5 harg5 arg6 harg6 arg7 harg7 arg8 harg8 arg9 harg9 arg10 harg10 arg11 harg11 v3 v6 v8
      (harg2.unread x0) (harg3.unread x1) (harg5.unread x3) (harg7.unread x5) (harg8.unread x6) G10 G11 (k1_pay31, k1_pay31) n) := by
  induction n with
  | zero =>
    refine ⟨fun y l => ?_, fun y l => ?_, fun r l => ?_, fun r l => ?_⟩
    · exact Ideal.ofBits_zero_f32.trans (by simp)
    · exact Ideal.ofBits_zero_f32.trans (by simp)
    · exact (hG10 r l).trans (by simp)
    · exact (hG11 r l).trans (by simp)
  | succ n ih =>
    have ih := ih (by omega)
    have h16 : (i 1).val < 16 := (i 1).isLt
    have ht : n < (k1_t1_loop i).trips := by rw [trips1]; omega
    have e := st_k1_t1_succ (F := Ideal) Variants.none c none i arg2 harg2 arg3 harg3 arg4 harg4 arg5 harg5 arg6 harg6 arg7 harg7 arg8 harg8 arg9 harg9 arg10 harg10 arg11 harg11 v3 v6 v8
      (harg2.unread x0) (harg3.unread x1) (harg5.unread x3) (harg7.unread x5) (harg8.unread x6) G10 G11 (k1_pay31, k1_pay31) ⟨n, ht⟩
    rw [e, btrip_eq, btrip_eqL]
    obtain ⟨i1, i2, i3, i4⟩ := ih
    have ds := bds_read i arg2 harg2 arg7 harg7 arg8 harg8 x0 x5 x6 v3 v6 v8 ⟨n, ht⟩ hQ hK hV hD hS hi
    have ds' := bds'_read i arg2 harg2 arg7 harg7 arg8 harg8 x0 x5 x6 v3 v6 v8 ⟨n, ht⟩ hQ hK hV hD hS hi
    have kr := keys_read arg7 harg7 x5 hK (h := 0) (k1_off1_inb i ⟨n, ht⟩) (boff1 i ⟨n, ht⟩) (by show n < 16; omega) (by omega)
    have kr' := keys_read arg7 harg7 x5 hK (h := 1) (k1_off5_inb i ⟨n, ht⟩) (boff5 i ⟨n, ht⟩) (by show n < 16; omega) (by omega)
    refine ⟨fun y l => ?_, fun y l => ?_, fun r l => ?_, fun r l => ?_⟩
    · rw [range_step]
      refine (pay1_8 _ _ y l).trans ?_
      rw [i1]
      simp only [ds, kr, ← EReal.coe_mul, coe_sum, ← EReal.coe_add]
    · rw [range_step]
      refine (pay1_33 _ _ y l).trans ?_
      rw [i2]
      simp only [ds', kr', ← EReal.coe_mul, coe_sum, ← EReal.coe_add]
    · rw [← until_step]
      refine acc_step (g := 128) (n := n) arg10 G10 (k1_off7_inb i ⟨n, ht⟩) (k1_off4_inb i ⟨n, ht⟩) _ _ _ (boff7 i ⟨n, ht⟩) (boff4 i ⟨n, ht⟩) rfl (by omega)
        (fun r l => B10 r l + if l < 512 * n then cK Q D S K V QT (512 * (i 1).val) r l else 0) (cK Q D S K V QT (512 * (i 1).val)) i3 (fun d b => ?_) (fun d b => ?_) (fun r κ h => if_neg (by omega)) r l
      · refine (pay1_32 _ _ _ d b).trans ?_
        have rd := load2 arg10 _ (fun r l => ((B10 r l + (if l < 512 * n then cK Q D S K V QT (512 * (i 1).val) r l else 0) : ℝ) : EReal)) i3 (k1_off7_inb i ⟨n, ht⟩) (boff7 i ⟨n, ht⟩) d b
          (by omega) (by show 512 * n + b.val < 8192; omega)
        have ce : cK Q D S K V QT (512 * (i 1).val) (128 + d.val) (512 * n + b.val) = ∑ r : Fin 512, QT (128 + d.val) r.val * bDs Q D S K V (512 * (i 1).val) 1 r.val (512 * n + b.val) := by
          rw [cK, if_pos (by omega), show (128 + d.val) / 128 = 1 by omega]
        simp only [Nat.zero_add] at rd ce
        rw [rd, ce]
        simp only [bqt'_read arg3 harg3 x1 hQT, ds', ← EReal.coe_mul, coe_sum, ← EReal.coe_add]
      · refine (pay1_7 _ _ _ d b).trans ?_
        have rd := load2 arg10 _ (fun r l => ((B10 r l + (if l < 512 * n then cK Q D S K V QT (512 * (i 1).val) r l else 0) : ℝ) : EReal)) i3 (k1_off4_inb i ⟨n, ht⟩) (boff4 i ⟨n, ht⟩) d b
          (by omega) (by show 512 * n + b.val < 8192; omega)
        have ce : cK Q D S K V QT (512 * (i 1).val) (0 + d.val) (512 * n + b.val) = ∑ r : Fin 512, QT (0 + d.val) r.val * bDs Q D S K V (512 * (i 1).val) 0 r.val (512 * n + b.val) := by
          rw [cK, if_pos (by omega), show (0 + d.val) / 128 = 0 by omega]
        simp only [Nat.zero_add] at rd ce
        rw [rd, ce]
        simp only [bqt_read arg3 harg3 x1 hQT, ds, ← EReal.coe_mul, coe_sum, ← EReal.coe_add]
    · rw [← until_step]
      refine acc_step (g := 64) (n := n) arg11 G11 (k1_off6_inb i ⟨n, ht⟩) (k1_off3_inb i ⟨n, ht⟩) _ _ _ (boff6 i ⟨n, ht⟩) (boff3 i ⟨n, ht⟩) rfl (by omega)
        (fun r l => B11 r l + if l < 512 * n then cV Q S K DT (512 * (i 1).val) r l else 0) (cV Q S K DT (512 * (i 1).val)) i4 (fun d b => ?_) (fun d b => ?_) (fun r κ h => absurd h (by omega)) r l
      · refine (pay1_12 _ _ d b).trans ?_
        have rd := load2 arg11 _ (fun r l => ((B11 r l + (if l < 512 * n then cV Q S K DT (512 * (i 1).val) r l else 0) : ℝ) : EReal)) i4 (k1_off6_inb i ⟨n, ht⟩) (boff6 i ⟨n, ht⟩) d b
          (by omega) (by show 512 * n + b.val < 8192; omega)
        have ce : cV Q S K DT (512 * (i 1).val) (64 + d.val) (512 * n + b.val) = ∑ r : Fin 512, DT (64 + d.val) r.val * bP Q S K (512 * (i 1).val) 1 r.val (512 * n + b.val) := by
          rw [cV, show (64 + d.val) / 64 = 1 by omega]
        simp only [Nat.zero_add] at rd ce
        rw [rd, ce]
        simp only [bdt'_read arg5 harg5 x3 hDT, bp'_read i arg2 harg2 arg7 harg7 x0 x5 v8 ⟨n, ht⟩ hQ hK hS, ← EReal.coe_mul, coe_sum, ← EReal.coe_add]
      · refine (pay1_4 _ _ d b).trans ?_
        have rd := load2 arg11 _ (fun r l => ((B11 r l + (if l < 512 * n then cV Q S K DT (512 * (i 1).val) r l else 0) : ℝ) : EReal)) i4 (k1_off3_inb i ⟨n, ht⟩) (boff3 i ⟨n, ht⟩) d b
          (by omega) (by show 512 * n + b.val < 8192; omega)
        have ce : cV Q S K DT (512 * (i 1).val) (0 + d.val) (512 * n + b.val) = ∑ r : Fin 512, DT (0 + d.val) r.val * bP Q S K (512 * (i 1).val) 0 r.val (512 * n + b.val) := by
          rw [cV, show (0 + d.val) / 64 = 0 by omega]
        simp only [Nat.zero_add] at rd ce
        rw [rd, ce]
        simp only [bdt_read arg5 harg5 x3 hDT, bp_read i arg2 harg2 arg7 harg7 x0 x5 v8 ⟨n, ht⟩ hQ hK hS, ← EReal.coe_mul, coe_sum, ← EReal.coe_add]

end Loop
end Cert.Attn
-- ==== Proof.AttnDiag.lean ====
module

public import proofs.«01_k».proof.Proof.AttnBwd

@[expose] public section

set_option maxRecDepth 16384
set_option maxHeartbeats 4000000
noncomputable section
namespace Cert.Attn
open Idealize.ShloMosaic Idealize.ShloMosaic.TcCoe Idealize.ShloMosaic.Tactic
open Cert.Kernel2Ideal Cert.Kernel2Ideal.Gen
open Cert.Core

theorem piece_step {κ : Kind} {sp : Space} {n0 m0 o n : ℕ} (a : Memref sig κ sp ⟨2, ![n0, 8192]⟩ .f32) (f : BufTy.Contents (Elt Ideal) a.view.ty)
    {off : Fin 2 → ℕ} (inb : ∀ b, off b + (![m0, 512] : Fin 2 → ℕ) b ≤ (![n0, 8192] : Fin 2 → ℕ) b)
    (w : Vec Ideal ⟨2, ![m0, 512]⟩ .f32) (L : List (View.Piece (Elt Ideal) ⟨2, ![n0, 8192]⟩ .f32)) (ho : off = ![o, 512 * n]) (B C : ℕ → ℕ → ℝ)
    (hB : ∀ (r : Fin n0) (l : Fin 8192), a.view.read (Elt Ideal) (a.view.writes (Elt Ideal) f L) (ix2 r l) = ((B r.val l.val : ℝ) : EReal))
    (hw : ∀ (d : Fin m0) (b : Fin 512), w (ix2 d b) = ((B (o + d.val) (512 * n + b.val) + C (o + d.val) (512 * n + b.val) : ℝ) : EReal)) (r : Fin n0) (l : Fin 8192) :
    a.view.read (Elt Ideal) (a.view.writes (Elt Ideal) f (⟨Rect.unit (s := ⟨2, ![n0, 8192]⟩) off ![m0, 512] inb, w⟩ :: L)) (ix2 r l) =
      ((B r.val l.val + (if (o ≤ r.val ∧ r.val < o + m0) ∧ 512 * n ≤ l.val ∧ l.val < 512 * n + 512 then C r.val l.val else 0) : ℝ) : EReal) := by
  rw [write2 a f inb w _ ho]
  by_cases h : (o ≤ r.val ∧ r.val < o + m0) ∧ 512 * n ≤ l.val ∧ l.val < 512 * n + 512
  · rw [dif_pos h, if_pos h, hw]
    have el : 512 * n + (l.val - 512 * n) = l.val := by omega
    have er : o + (r.val - o) = r.val := by omega
    simp only [el, er]
  · rw [dif_neg h, if_neg h, add_zero, hB]

theorem two_heads {m0 g n0 n r l : ℕ} (hn : n0 = 2 * g) (hm : m0 ≤ g) (hr : r < n0) (C : ℝ) (hC : m0 ≤ r % g → C = 0) (B : ℝ) :
    (B + if (0 ≤ r ∧ r < 0 + m0) ∧ 512 * n ≤ l ∧ l < 512 * n + 512 then C else 0) + (if (g ≤ r ∧ r < g + m0) ∧ 512 * n ≤ l ∧ l < 512 * n + 512 then C else 0)
      = B + if 512 * n ≤ l ∧ l < 512 * (n + 1) then C else 0 := by
  by_cases hl : 512 * n ≤ l ∧ l < 512 * (n + 1)
  · rw [if_pos hl]
    by_cases h1 : r < m0
    · rw [if_pos (by omega), if_neg (by omega), add_zero]
    · by_cases h2 : g ≤ r ∧ r < g + m0
      · rw [if_neg (by omega), if_pos (by omega), add_zero]
      · rw [if_neg (by omega), if_neg (by omega), hC]
        · simp
        · by_cases h3 : r < g
          · rw [Nat.mod_eq_of_lt h3]; omega
          · have e : r % g = r - g := by rw [Nat.mod_eq_sub_mod (by omega), Nat.mod_eq_of_lt (by omega)]
            rw [e]; omega
  · rw [if_neg hl, if_neg (by omega), if_neg (by omega), add_zero]

section Diagonal
variable (c : Dev nD) (i : grid1.Coords) (arg2 : Memref sig .tc .vmem S512x256 .bf16) (harg2 : arg2.IsWhole) (arg3 : Memref sig .tc .vmem S256x512 .bf16) (harg3 : arg3.IsWhole) (arg4 : Memref sig .tc .vmem S512x128 .bf16) (harg4 : arg4.IsWhole) (arg5 : Memref sig .tc .vmem S128x512 .bf16) (harg5 : arg5.IsWhole) (arg6 : Memref sig .tc .vmem S1x512x128 .f32) (harg6 : arg6.IsWhole) (arg7 : Memref sig .tc .vmem S8192x256 .bf16) (harg7 : arg7.IsWhole) (arg8 : Memref sig .tc .vmem S8192x128 .bf16) (harg8 : arg8.IsWhole) (arg9 : Memref sig .tc .vmem S512x256 .f32) (harg9 : arg9.IsWhole) (arg10 : Memref sig .tc .vmem S256x8192 .f32) (harg10 : arg10.IsWhole) (arg11 : Memref sig .tc .vmem S128x8192 .f32) (harg11 : arg11.IsWhole)
  (x0 : Vec Ideal S512x256 .bf16) (x1 : Vec Ideal S256x512 .bf16) (x3 : Vec Ideal S128x512 .bf16) (x5 : Vec Ideal S8192x256 .bf16) (x6 : Vec Ideal S8192x128 .bf16)
  (v6 : FVec Ideal S512x128 .bf16) (v8 : FVec Ideal S1x512x128 .f32)

abbrev dk : FVec Ideal S512x128 .bf16 := arg7.view.readAt (Elt Ideal) (Rect.unit (s := S8192x256) (k1_off15 i) S512x128.size (k1_off15_inb i)).toLoadRect (harg7.unread x5)
abbrev dk' : FVec Ideal S512x128 .bf16 := arg7.view.readAt (Elt Ideal) (Rect.unit (s := S8192x256) (k1_off19 i) S512x128.size (k1_off19_inb i)).toLoadRect (harg7.unread x5)
abbrev dv : FVec Ideal S512x128 .bf16 := arg8.view.readAt (Elt Ideal) (Rect.unit (s := S8192x128) (k1_off16 i) S512x128.size (k1_off16_inb i)).toLoadRect (harg8.unread x6)
abbrev lane : IVec S512x128 32 := iota .tc S512x128 32 [1] iota_S512x128_d1_w32
abbrev rowI : IVec S512x512 32 := iota .tc S512x512 32 [0] iota_S512x512_d0_w32
abbrev colI : IVec S512x512 32 := iota .tc S512x512 32 [1] iota_S512x512_d1_w32
abbrev dsc : FVec Ideal S512x512 .f32 := k1_pay39 v8 (bq arg2 harg2 x0) (dk i arg7 harg7 x5)
abbrev dds : FVec Ideal S512x512 .bf16 := k1_pay41 (k1_pay37 v6) (k1_pay38 v8) (dsc i arg2 harg2 arg7 harg7 x0 x5 v8) (dv i arg8 harg8 x6)
abbrev dds' : FVec Ideal S512x512 .bf16 := k1_pay50 rowI colI (k1_pay30 v8) (k1_pay45 (bq' arg2 harg2 x0)) (k1_pay46 (dk' i arg7 harg7 x5)) (k1_pay47 lane (k1_pay29 v6))
  (k1_pay48 (k1_pay30 v8)) (dv i arg8 harg8 x6)

variable {Q QT D DT S K V : ℕ → ℕ → ℝ}
  (hQ : ∀ (r : Fin 512) (l : Fin 256), x0 (ix2 r l) = ((Q r.val l.val : ℝ) : EReal))
  (hQT : ∀ (l : Fin 256) (r : Fin 512), x1 (ix2 l r) = ((QT l.val r.val : ℝ) : EReal))
  (hDT : ∀ (l : Fin 128) (r : Fin 512), x3 (ix2 l r) = ((DT l.val r.val : ℝ) : EReal))
  (hK : ∀ (r : Fin 8192) (l : Fin 256), x5 (ix2 r l) = ((K r.val l.val : ℝ) : EReal))
  (hV : ∀ (r : Fin 8192) (l : Fin 128), x6 (ix2 r l) = ((V r.val l.val : ℝ) : EReal))
  (hD : ∀ (r : Fin 512) (l : Fin 128), v6 (ix2 r l) = ((D r.val l.val : ℝ) : EReal))
  (hS : ∀ (r : Fin 512) (l : Fin 128), v8 (ix3 0 r l) = ((S r.val l.val : ℝ) : EReal))

theorem block_lt (i : grid1.Coords) : (i 1).val < 16 := (i 1).isLt

include hQ hK hS in
theorem dp_read (y b : Fin 512) : k1_pay40 (F := Ideal) (dsc i arg2 harg2 arg7 harg7 x0 x5 v8) (ix2 y b) =
    ((bP Q S K (512 * (i 1).val) 0 y.val (512 * (i 1).val + b.val) : ℝ) : EReal) := by
  refine (pay1_40 (q := fun r l => Q r (128 * 0 + l)) (k := fun b l => K (512 * (i 1).val + b) (128 * 0 + l)) (s := S) (bq_read arg2 harg2 x0 hQ)
    (keys_read arg7 harg7 x5 hK (h := 0) (k1_off15_inb i) (boff15 i) (block_lt i) (by omega)) v8 hS y b).trans ?_
  unfold bP
  simp only [Nat.add_le_add_iff_left]
  rfl

include hQ hK hS in
theorem dp'_read (y b : Fin 512) : k1_pay49 (F := Ideal) rowI colI (k1_pay45 (bq' arg2 harg2 x0)) (k1_pay46 (dk' i arg7 harg7 x5)) (k1_pay48 (k1_pay30 v8)) (ix2 y b) =
    ((bP Q S K (512 * (i 1).val) 1 y.val (512 * (i 1).val + b.val) : ℝ) : EReal) := by
  refine (pay1_49 (q := fun r l => Q r (128 * 1 + l)) (k := fun b l => K (512 * (i 1).val + b) (128 * 1 + l)) (s := S) (bq'_read arg2 harg2 x0 hQ)
    (keys_read arg7 harg7 x5 hK (h := 1) (k1_off19_inb i) (boff19 i) (block_lt i) (by omega)) (fun r l => (pay1_30 v8 r l).trans (hS r l)) _ _ iota_row iota_col y b).trans ?_
  unfold bP
  simp only [Nat.add_le_add_iff_left]
  rfl

include hQ hK hV hD hS in
theorem dds_read (y b : Fin 512) : dds i arg2 harg2 arg7 harg7 arg8 harg8 x0 x5 x6 v6 v8 (ix2 y b) =
    ((bDs Q D S K V (512 * (i 1).val) 0 y.val (512 * (i 1).val + b.val) : ℝ) : EReal) := by
  refine (pay1_41 (q := fun r l => Q r (128 * 0 + l)) (k := fun b l => K (512 * (i 1).val + b) (128 * 0 + l)) (v := fun b l => V (512 * (i 1).val + b) l) (d := D) (s := S)
    (bq_read arg2 harg2 x0 hQ) (keys_read arg7 harg7 x5 hK (h := 0) (k1_off15_inb i) (boff15 i) (block_lt i) (by omega))
    (vals_read arg8 harg8 x6 hV (k1_off16_inb i) (boff16 i) (block_lt i)) hD v8 hS y b).trans ?_
  unfold bDs bP
  simp only [Nat.add_le_add_iff_left]
  rfl

include hQ hK hV hD hS in
theorem dds'_read (y b : Fin 512) : dds' i arg2 harg2 arg7 harg7 arg8 harg8 x0 x5 x6 v6 v8 (ix2 y b) =
    ((bDs Q D S K V (512 * (i 1).val) 1 y.val (512 * (i 1).val + b.val) : ℝ) : EReal) := by
  refine (pay1_50 (q := fun r l => Q r (128 * 1 + l)) (k := fun b l => K (512 * (i 1).val + b) (128 * 1 + l)) (v := fun b l => V (512 * (i 1).val + b) l) (d := D) (s := S)
    (bq'_read arg2 harg2 x0 hQ) (keys_read arg7 harg7 x5 hK (h := 1) (k1_off19_inb i) (boff19 i) (block_lt i) (by omega))
    (vals_read arg8 harg8 x6 hV (k1_off16_inb i) (boff16 i) (block_lt i)) (fun r l => (pay1_29 v6 r l).trans (hD r l)) (fun r l => (pay1_30 v8 r l).trans (hS r l)) iota_lane
    _ _ iota_row iota_col y b).trans ?_
  unfold bDs bP
  simp only [Nat.add_le_add_iff_left]
  rfl

variable (A10 : BufTy.Contents (Elt Ideal) arg10.view.ty) (A11 : BufTy.Contents (Elt Ideal) arg11.view.ty) {B10 B11 : ℕ → ℕ → ℝ}
  (h10 : ∀ (r : Fin 256) (l : Fin 8192), arg10.view.read (Elt Ideal) A10 (ix2 r l) = ((B10 r.val l.val : ℝ) : EReal))
  (h11 : ∀ (r : Fin 128) (l : Fin 8192), arg11.view.read (Elt Ideal) A11 (ix2 r l) = ((B11 r.val l.val : ℝ) : EReal))

abbrev pa10 : View.Piece (Elt Ideal) S256x8192 .f32 := ⟨Rect.unit (s := S256x8192) (k1_off18 i) S96x512.size (k1_off18_inb i),
  k1_pay43 (k1_pay37 v6) (k1_pay38 v8) (dsc i arg2 harg2 arg7 harg7 x0 x5 v8) (dv i arg8 harg8 x6)
    (arg10.view.readAt (Elt Ideal) (Rect.unit (s := S256x8192) (k1_off18 i) S96x512.size (k1_off18_inb i)).toLoadRect A10) (bqt arg3 harg3 x1)⟩
abbrev pb10 (A : BufTy.Contents (Elt Ideal) arg10.view.ty) : View.Piece (Elt Ideal) S256x8192 .f32 := ⟨Rect.unit (s := S256x8192) (k1_off21 i) S96x512.size (k1_off21_inb i),
  k1_pay52 rowI colI (k1_pay30 v8) (k1_pay45 (bq' arg2 harg2 x0)) (k1_pay46 (dk' i arg7 harg7 x5)) (k1_pay47 lane (k1_pay29 v6)) (k1_pay48 (k1_pay30 v8)) (dv i arg8 harg8 x6)
    (arg10.view.readAt (Elt Ideal) (Rect.unit (s := S256x8192) (k1_off21 i) S96x512.size (k1_off21_inb i)).toLoadRect A) (bqt' arg3 harg3 x1)⟩
abbrev pa11 : View.Piece (Elt Ideal) S128x8192 .f32 := ⟨Rect.unit (s := S128x8192) (k1_off17 i) S64x512.size (k1_off17_inb i),
  k1_pay42 (dsc i arg2 harg2 arg7 harg7 x0 x5 v8)
    (arg11.view.readAt (Elt Ideal) (Rect.unit (s := S128x8192) (k1_off17 i) S64x512.size (k1_off17_inb i)).toLoadRect A11) (bdt arg5 harg5 x3)⟩
abbrev pb11 (A : BufTy.Contents (Elt Ideal) arg11.view.ty) : View.Piece (Elt Ideal) S128x8192 .f32 := ⟨Rect.unit (s := S128x8192) (k1_off20 i) S64x512.size (k1_off20_inb i),
  k1_pay51 rowI colI (k1_pay45 (bq' arg2 harg2 x0)) (k1_pay46 (dk' i arg7 harg7 x5)) (k1_pay48 (k1_pay30 v8))
    (arg11.view.readAt (Elt Ideal) (Rect.unit (s := S128x8192) (k1_off20 i) S64x512.size (k1_off20_inb i)).toLoadRect A) (bdt' arg5 harg5 x3)⟩

include hQ hQT hK hV hD hS h10 in
theorem diag10 (r : Fin 256) (l : Fin 8192) :
    arg10.view.read (Elt Ideal) (arg10.view.writes (Elt Ideal) A10
      [pb10 i arg2 harg2 arg3 harg3 arg7 harg7 arg8 harg8 arg10 x0 x1 x5 x6 v6 v8 (arg10.view.writes (Elt Ideal) A10 [pa10 i arg2 harg2 arg3 harg3 arg7 harg7 arg8 harg8 arg10 x0 x1 x5 x6 v6 v8 A10]),
       pa10 i arg2 harg2 arg3 harg3 arg7 harg7 arg8 harg8 arg10 x0 x1 x5 x6 v6 v8 A10]) (ix2 r l) =
      ((B10 r.val l.val + (if 512 * (i 1).val ≤ l.val ∧ l.val < 512 * ((i 1).val + 1) then cK Q D S K V QT (512 * (i 1).val) r.val l.val else 0) : ℝ) : EReal) := by
  have h16 := block_lt i
  have ds := dds_read i arg2 harg2 arg7 harg7 arg8 harg8 x0 x5 x6 v6 v8 hQ hK hV hD hS
  have ds' := dds'_read i arg2 harg2 arg7 harg7 arg8 harg8 x0 x5 x6 v6 v8 hQ hK hV hD hS
  have sa := piece_step arg10 A10 (k1_off18_inb i) (pa10 i arg2 harg2 arg3 harg3 arg7 harg7 arg8 harg8 arg10 x0 x1 x5 x6 v6 v8 A10).2 [] (boff18 i) B10 (cK Q D S K V QT (512 * (i 1).val)) h10
    (fun d b => ?_)
  · have sb := piece_step arg10 A10 (k1_off21_inb i) (pb10 i arg2 harg2 arg3 harg3 arg7 harg7 arg8 harg8 arg10 x0 x1 x5 x6 v6 v8
        (arg10.view.writes (Elt Ideal) A10 [pa10 i arg2 harg2 arg3 harg3 arg7 harg7 arg8 harg8 arg10 x0 x1 x5 x6 v6 v8 A10])).2 _ (boff21 i)
      (fun r l => B10 r l + (if (0 ≤ r ∧ r < 0 + 96) ∧ 512 * (i 1).val ≤ l ∧ l < 512 * (i 1).val + 512 then cK Q D S K V QT (512 * (i 1).val) r l else 0)) (cK Q D S K V QT (512 * (i 1).val)) sa
      (fun d b => ?_) r l
    · refine sb.trans ?_
      exact congrArg Real.toEReal (two_heads (m0 := 96) (g := 128) rfl (by omega) r.isLt _ (fun h => if_neg (by omega)) _)
    · refine (pay1_52 _ _ _ _ _ _ _ _ d b).trans ?_
      have rd := load2 arg10 _ (fun r l => ((B10 r l + (if (0 ≤ r ∧ r < 0 + 96) ∧ 512 * (i 1).val ≤ l ∧ l < 512 * (i 1).val + 512 then cK Q D S K V QT (512 * (i 1).val) r l else 0) : ℝ) : EReal))
        sa (k1_off21_inb i) (boff21 i) d b (by omega) (by omega)
      have ce : cK Q D S K V QT (512 * (i 1).val) (128 + d.val) (512 * (i 1).val + b.val) =
          ∑ r : Fin 512, QT (128 + d.val) r.val * bDs Q D S K V (512 * (i 1).val) 1 r.val (512 * (i 1).val + b.val) := by
        rw [cK, if_pos (by omega), show (128 + d.val) / 128 = 1 by omega]
      rw [rd, ce]
      simp only [bqt'_read arg3 harg3 x1 hQT, ds', ← EReal.coe_mul, coe_sum, ← EReal.coe_add]
  · refine (pay1_43 _ _ _ _ _ d b).trans ?_
    have rd := load2 arg10 A10 (fun r l => ((B10 r l : ℝ) : EReal)) h10 (k1_off18_inb i) (boff18 i) d b (by omega) (by omega)
    have ce : cK Q D S K V QT (512 * (i 1).val) (0 + d.val) (512 * (i 1).val + b.val) =
        ∑ r : Fin 512, QT (0 + d.val) r.val * bDs Q D S K V (512 * (i 1).val) 0 r.val (512 * (i 1).val + b.val) := by
      rw [cK, if_pos (by omega), show (0 + d.val) / 128 = 0 by omega]
    rw [rd, ce]
    simp only [bqt_read arg3 harg3 x1 hQT, ds, Nat.zero_add, ← EReal.coe_mul, coe_sum, ← EReal.coe_add]

include hQ hDT hK hS h11 in
theorem diag11 (r : Fin 128) (l : Fin 8192) :
    arg11.view.read (Elt Ideal) (arg11.view.writes (Elt Ideal) A11
      [pb11 i arg2 harg2 arg5 harg5 arg7 harg7 arg11 x0 x3 x5 v8 (arg11.view.writes (Elt Ideal) A11 [pa11 i arg2 harg2 arg5 harg5 arg7 harg7 arg11 x0 x3 x5 v8 A11]),
       pa11 i arg2 harg2 arg5 harg5 arg7 harg7 arg11 x0 x3 x5 v8 A11]) (ix2 r l) =
      ((B11 r.val l.val + (if 512 * (i 1).val ≤ l.val ∧ l.val < 512 * ((i 1).val + 1) then cV Q S K DT (512 * (i 1).val) r.val l.val else 0) : ℝ) : EReal) := by
  have h16 := block_lt i
  have ds := dp_read i arg2 harg2 arg7 harg7 x0 x5 v8 hQ hK hS
  have ds' := dp'_read i arg2 harg2 arg7 harg7 x0 x5 v8 hQ hK hS
  have sa := piece_step arg11 A11 (k1_off17_inb i) (pa11 i arg2 harg2 arg5 harg5 arg7 harg7 arg11 x0 x3 x5 v8 A11).2 [] (boff17 i) B11 (cV Q S K DT (512 * (i 1).val)) h11
    (fun d b => ?_)
  · have sb := piece_step arg11 A11 (k1_off20_inb i) (pb11 i arg2 harg2 arg5 harg5 arg7 harg7 arg11 x0 x3 x5 v8
        (arg11.view.writes (Elt Ideal) A11 [pa11 i arg2 harg2 arg5 harg5 arg7 harg7 arg11 x0 x3 x5 v8 A11])).2 _ (boff20 i)
      (fun r l => B11 r l + (if (0 ≤ r ∧ r < 0 + 64) ∧ 512 * (i 1).val ≤ l ∧ l < 512 * (i 1).val + 512 then cV Q S K DT (512 * (i 1).val) r l else 0)) (cV Q S K DT (512 * (i 1).val)) sa
      (fun d b => ?_) r l
    · refine sb.trans ?_
      exact congrArg Real.toEReal (two_heads (m0 := 64) (g := 64) rfl (by omega) r.isLt _ (fun h => absurd h (by omega)) _)
    · refine (pay1_51 _ _ _ _ _ _ _ d b).trans ?_
      have rd := load2 arg11 _ (fun r l => ((B11 r l + (if (0 ≤ r ∧ r < 0 + 64) ∧ 512 * (i 1).val ≤ l ∧ l < 512 * (i 1).val + 512 then cV Q S K DT (512 * (i 1).val) r l else 0) : ℝ) : EReal))
        sa (k1_off20_inb i) (boff20 i) d b (by omega) (by omega)
      have ce : cV Q S K DT (512 * (i 1).val) (64 + d.val) (512 * (i 1).val + b.val) =
          ∑ r : Fin 512, DT (64 + d.val) r.val * bP Q S K (512 * (i 1).val) 1 r.val (512 * (i 1).val + b.val) := by
        rw [cV, show (64 + d.val) / 64 = 1 by omega]
      rw [rd, ce]
      simp only [bdt'_read arg5 harg5 x3 hDT, ds', ← EReal.coe_mul, coe_sum, ← EReal.coe_add]
  · refine (pay1_42 _ _ _ d b).trans ?_
    have rd := load2 arg11 A11 (fun r l => ((B11 r l : ℝ) : EReal)) h11 (k1_off17_inb i) (boff17 i) d b (by omega) (by omega)
    have ce : cV Q S K DT (512 * (i 1).val) (0 + d.val) (512 * (i 1).val + b.val) =
        ∑ r : Fin 512, DT (0 + d.val) r.val * bP Q S K (512 * (i 1).val) 0 r.val (512 * (i 1).val + b.val) := by
      rw [cV, show (0 + d.val) / 64 = 0 by omega]
    rw [rd, ce]
    simp only [bdt_read arg5 harg5 x3 hDT, ds, Nat.zero_add, ← EReal.coe_mul, coe_sum, ← EReal.coe_add]

include hQ hK hV hD hS in
theorem diagQ (a a' : FVec Ideal S512x128 .f32)
    (ha : ∀ (y : Fin 512) (l : Fin 128), a (ix2 y l) = ((∑ κ ∈ Finset.range (512 * (i 1).val), bDs Q D S K V (512 * (i 1).val) 0 y.val κ * K κ (128 * 0 + l.val) : ℝ) : EReal))
    (ha' : ∀ (y : Fin 512) (l : Fin 128), a' (ix2 y l) = ((∑ κ ∈ Finset.range (512 * (i 1).val), bDs Q D S K V (512 * (i 1).val) 1 y.val κ * K κ (128 * 1 + l.val) : ℝ) : EReal))
    (y : Fin 512) (l : Fin 256) :
    k1_pay53 rowI colI (k1_pay30 v8) a' (k1_pay44 a (k1_pay36 (dk i arg7 harg7 x5)) (k1_pay37 v6) (k1_pay38 v8) (dsc i arg2 harg2 arg7 harg7 x0 x5 v8) (dv i arg8 harg8 x6))
      (k1_pay45 (bq' arg2 harg2 x0)) (k1_pay46 (dk' i arg7 harg7 x5)) (k1_pay47 lane (k1_pay29 v6)) (k1_pay48 (k1_pay30 v8)) (dv i arg8 harg8 x6) (ix2 y l) =
      (((∑ κ ∈ Finset.range (512 * ((i 1).val + 1)), bDs Q D S K V (512 * (i 1).val) (l.val / 128) y.val κ * K κ l.val) * (Real.sqrt 96)⁻¹ : ℝ) : EReal) := by
  have h16 := block_lt i
  have ds := dds_read i arg2 harg2 arg7 harg7 arg8 harg8 x0 x5 x6 v6 v8 hQ hK hV hD hS
  have ds' := dds'_read i arg2 harg2 arg7 harg7 arg8 harg8 x0 x5 x6 v6 v8 hQ hK hV hD hS
  have kr := keys_read arg7 harg7 x5 hK (h := 0) (k1_off15_inb i) (boff15 i) h16 (by omega)
  have kr' := keys_read arg7 harg7 x5 hK (h := 1) (k1_off19_inb i) (boff19 i) h16 (by omega)
  refine (pay1_53 _ _ _ _ _ _ _ _ y l).trans ?_
  rw [range_step]
  by_cases hl : l.val < 128
  · rw [dif_pos hl, show l.val / 128 = 0 by omega]
    refine (congrArg (fun z => z * (((Real.sqrt 96)⁻¹ : ℝ) : EReal)) (pay1_44 _ _ _ _ _ y ⟨l.val, hl⟩)).trans ?_
    simp only [ha, ds, kr, ← EReal.coe_mul, coe_sum, ← EReal.coe_add]
    simp only [Nat.mul_zero, Nat.zero_add]
  · rw [dif_neg hl, show l.val / 128 = 1 by omega]
    simp only [ha', ds', kr', ← EReal.coe_mul, coe_sum, ← EReal.coe_add]
    rw [show 128 * 1 + (l.val - 128) = l.val by omega]

end Diagonal
end Cert.Attn
-- ==== Proof.AttnPoint.lean ====
module

public import proofs.«01_k».proof.Proof.AttnDiag

@[expose] public section

set_option maxRecDepth 16384
set_option maxHeartbeats 4000000
noncomputable section
namespace Cert.Attn
open Idealize.ShloMosaic Idealize.ShloMosaic.TcCoe Idealize.ShloMosaic.Tactic
open Cert.Kernel2Ideal Cert.Kernel2Ideal.Gen
open Cert.Core

theorem writes_two {κ : Kind} {sp : Space} {s : Shape} {e : EltTy} (v : View sig κ sp s e) (f : BufTy.Contents (Elt Ideal) v.ty) (a b : View.Piece (Elt Ideal) s e)
    (L : List (View.Piece (Elt Ideal) s e)) : v.writes (Elt Ideal) f (a :: b :: L) = v.writes (Elt Ideal) (v.writes (Elt Ideal) f L) [a, b] := rfl

theorem writes_one {κ : Kind} {sp : Space} {s : Shape} {e : EltTy} (v : View sig κ sp s e) (f : BufTy.Contents (Elt Ideal) v.ty) (a : View.Piece (Elt Ideal) s e)
    (L : List (View.Piece (Elt Ideal) s e)) : v.writes (Elt Ideal) f (a :: L) = v.writes (Elt Ideal) (v.writes (Elt Ideal) f L) [a] := rfl

theorem writes_two_append {κ : Kind} {sp : Space} {s : Shape} {e : EltTy} (v : View sig κ sp s e) (f : BufTy.Contents (Elt Ideal) v.ty) (a b : View.Piece (Elt Ideal) s e)
    (L L' : List (View.Piece (Elt Ideal) s e)) : v.writes (Elt Ideal) f (a :: b :: (L ++ L')) = v.writes (Elt Ideal) (v.writes (Elt Ideal) (v.writes (Elt Ideal) f L') L) [a, b] := by
  rw [writes_two, View.writes_append]

theorem writes_one_append {κ : Kind} {sp : Space} {s : Shape} {e : EltTy} (v : View sig κ sp s e) (f : BufTy.Contents (Elt Ideal) v.ty) (a : View.Piece (Elt Ideal) s e)
    (L L' : List (View.Piece (Elt Ideal) s e)) : v.writes (Elt Ideal) f (a :: (L ++ L')) = v.writes (Elt Ideal) (v.writes (Elt Ideal) (v.writes (Elt Ideal) f L') L) [a] := by
  rw [writes_one, View.writes_append]

theorem unit3 {κ : Kind} {sp : Space} {n1 n2 : ℕ} {e : EltTy} (a : Memref sig κ sp ⟨3, ![1, n1, n2]⟩ e) (h : a.IsWhole) (x : Vec Ideal ⟨3, ![1, n1, n2]⟩ e)
    {off : Fin 3 → ℕ} (ho : off = ![0, 0, 0]) (inb : ∀ b, off b + (![1, n1, n2] : Fin 3 → ℕ) b ≤ (![1, n1, n2] : Fin 3 → ℕ) b) (r : Fin n1) (l : Fin n2) :
    a.view.readAt (Elt Ideal) (Rect.unit (s := ⟨3, ![1, n1, n2]⟩) off ![1, n1, n2] inb).toLoadRect (h.unread (Val := Elt Ideal) x) (ix3 0 r l) = x (ix3 0 r l) := by
  subst ho
  have e : a.view.read (Elt Ideal) (h.unread (Val := Elt Ideal) x) = x := h.read_unread _
  show a.view.read (Elt Ideal) (h.unread (Val := Elt Ideal) x) _ = _
  rw [e]
  refine congrArg x (funext fun b => ?_)
  apply Fin.ext
  match b with
  | 0 => rfl
  | 1 => show 0 + 1 * r.val = r.val; omega
  | 2 => show 0 + 1 * l.val = l.val; omega

theorem unit2 {κ : Kind} {sp : Space} {n1 n2 : ℕ} {e : EltTy} (a : Memref sig κ sp ⟨2, ![n1, n2]⟩ e) (h : a.IsWhole) (x : Vec Ideal ⟨2, ![n1, n2]⟩ e)
    {off : Fin 2 → ℕ} (ho : off = ![0, 0]) (inb : ∀ b, off b + (![n1, n2] : Fin 2 → ℕ) b ≤ (![n1, n2] : Fin 2 → ℕ) b) (r : Fin n1) (l : Fin n2) :
    a.view.readAt (Elt Ideal) (Rect.unit (s := ⟨2, ![n1, n2]⟩) off ![n1, n2] inb).toLoadRect (h.unread (Val := Elt Ideal) x) (ix2 r l) = x (ix2 r l) := by
  subst ho
  have e : a.view.read (Elt Ideal) (h.unread (Val := Elt Ideal) x) = x := h.read_unread _
  show a.view.read (Elt Ideal) (h.unread (Val := Elt Ideal) x) _ = _
  rw [e]
  refine congrArg x (funext fun b => ?_)
  apply Fin.ext
  match b with
  | 0 => show 0 + 1 * r.val = r.val; omega
  | 1 => show 0 + 1 * l.val = l.val; omega

theorem whole2 {κ : Kind} {sp : Space} {n0 n1 : ℕ} {e : EltTy} (a : Memref sig κ sp ⟨2, ![n0, n1]⟩ e) (f : BufTy.Contents (Elt Ideal) a.view.ty)
    {off : Fin 2 → ℕ} (ho : off = ![0, 0]) (inb : ∀ b, off b + (![n0, n1] : Fin 2 → ℕ) b ≤ (![n0, n1] : Fin 2 → ℕ) b) (w : Vec Ideal ⟨2, ![n0, n1]⟩ e) (r : Fin n0) (l : Fin n1) :
    a.view.read (Elt Ideal) (a.view.writes (Elt Ideal) f [⟨Rect.unit (s := ⟨2, ![n0, n1]⟩) off ![n0, n1] inb, w⟩]) (ix2 r l) = w (ix2 r l) := by
  rw [write2 a f inb w [] ho, dif_pos ⟨⟨Nat.zero_le _, by omega⟩, Nat.zero_le _, by omega⟩]
  rfl

section Point
variable (c : Dev nD) (i : grid1.Coords) (arg2 : Memref sig .tc .vmem S512x256 .bf16) (harg2 : arg2.IsWhole) (arg3 : Memref sig .tc .vmem S256x512 .bf16) (harg3 : arg3.IsWhole) (arg4 : Memref sig .tc .vmem S512x128 .bf16) (harg4 : arg4.IsWhole) (arg5 : Memref sig .tc .vmem S128x512 .bf16) (harg5 : arg5.IsWhole) (arg6 : Memref sig .tc .vmem S1x512x128 .f32) (harg6 : arg6.IsWhole) (arg7 : Memref sig .tc .vmem S8192x256 .bf16) (harg7 : arg7.IsWhole) (arg8 : Memref sig .tc .vmem S8192x128 .bf16) (harg8 : arg8.IsWhole) (arg9 : Memref sig .tc .vmem S512x256 .f32) (harg9 : arg9.IsWhole) (arg10 : Memref sig .tc .vmem S256x8192 .f32) (harg10 : arg10.IsWhole) (arg11 : Memref sig .tc .vmem S128x8192 .f32) (harg11 : arg11.IsWhole)
  (x0 : Vec Ideal S512x256 .bf16) (x1 : Vec Ideal S256x512 .bf16) (x2 : Vec Ideal S512x128 .bf16) (x3 : Vec Ideal S128x512 .bf16) (x4 : Vec Ideal S1x512x128 .f32)
  (x5 : Vec Ideal S8192x256 .bf16) (x6 : Vec Ideal S8192x128 .bf16)

abbrev w6 : FVec Ideal S512x128 .bf16 := arg4.view.readAt (Elt Ideal) (Rect.unit (s := S512x128) ![0, 0] S512x128.size inb_S512x128_S512x128_0_0).toLoadRect (harg4.unread x2)
abbrev w8 : FVec Ideal S1x512x128 .f32 := arg6.view.readAt (Elt Ideal) (Rect.unit (s := S1x512x128) ![0, 0, 0] S1x512x128.size inb_S1x512x128_S1x512x128_0_0_0).toLoadRect (harg6.unread x4)
/-- The block's loop, all its trips done. -/
abbrev lst (G10 : BufTy.Contents (Elt Ideal) arg10.view.ty) (G11 : BufTy.Contents (Elt Ideal) arg11.view.ty) :=
  st_k1_t1 (F := Ideal) Variants.none c none i arg2 harg2 arg3 harg3 arg4 harg4 arg5 harg5 arg6 harg6 arg7 harg7 arg8 harg8 arg9 harg9 arg10 harg10 arg11 harg11 lane (w6 arg4 harg4 x2) (w8 arg6 harg6 x4) (harg2.unread x0) (harg3.unread x1) (harg5.unread x3) (harg7.unread x5)
    (harg8.unread x6) G10 G11 (k1_pay31, k1_pay31) (i 1).val

variable {Q QT D DT S K V : ℕ → ℕ → ℝ}
  (hQ : ∀ (r : Fin 512) (l : Fin 256), x0 (ix2 r l) = ((Q r.val l.val : ℝ) : EReal))
  (hQT : ∀ (l : Fin 256) (r : Fin 512), x1 (ix2 l r) = ((QT l.val r.val : ℝ) : EReal))
  (hD : ∀ (r : Fin 512) (l : Fin 128), x2 (ix2 r l) = ((D r.val l.val : ℝ) : EReal))
  (hDT : ∀ (l : Fin 128) (r : Fin 512), x3 (ix2 l r) = ((DT l.val r.val : ℝ) : EReal))
  (hS : ∀ (r : Fin 512) (l : Fin 128), x4 (ix3 0 r l) = ((S r.val l.val : ℝ) : EReal))
  (hK : ∀ (r : Fin 8192) (l : Fin 256), x5 (ix2 r l) = ((K r.val l.val : ℝ) : EReal))
  (hV : ∀ (r : Fin 8192) (l : Fin 128), x6 (ix2 r l) = ((V r.val l.val : ℝ) : EReal))
  (G10 : BufTy.Contents (Elt Ideal) arg10.view.ty) (G11 : BufTy.Contents (Elt Ideal) arg11.view.ty) {B10 B11 : ℕ → ℕ → ℝ}
  (hG10 : ∀ (r : Fin 256) (l : Fin 8192), arg10.view.read (Elt Ideal) G10 (ix2 r l) = ((B10 r.val l.val : ℝ) : EReal))
  (hG11 : ∀ (r : Fin 128) (l : Fin 8192), arg11.view.read (Elt Ideal) G11 (ix2 r l) = ((B11 r.val l.val : ℝ) : EReal))

include hQ hQT hD hDT hS hK hV hG10 hG11 in
theorem lst_state : BState i arg10 arg11 Q QT D DT S K V B10 B11 G10 G11 (i 1).val (lst c i arg2 harg2 arg3 harg3 arg4 harg4 arg5 harg5 arg6 harg6 arg7 harg7 arg8 harg8 arg9 harg9 arg10 harg10 arg11 harg11 x0 x1 x2 x3 x4 x5 x6 G10 G11) :=
  bloop_state c i arg2 harg2 arg3 harg3 arg4 harg4 arg5 harg5 arg6 harg6 arg7 harg7 arg8 harg8 arg9 harg9 arg10 harg10 arg11 harg11 x0 x1 x3 x5 x6 lane (w6 arg4 harg4 x2) (w8 arg6 harg6 x4) hQ hQT hDT hK hV
    (fun r l => (unit2 arg4 harg4 x2 rfl inb_S512x128_S512x128_0_0 r l).trans (hD r l))
    (fun r l => (unit3 arg6 harg6 x4 rfl inb_S1x512x128_S1x512x128_0_0_0 r l).trans (hS r l)) iota_lane G10 G11 hG10 hG11 _ le_rfl

include hQ hQT hD hDT hS hK hV hG10 hG11 in
theorem point10 (r : Fin 256) (l : Fin 8192) :
    arg10.view.read (Elt Ideal) (arg10.view.writes (Elt Ideal) (arg10.view.writes (Elt Ideal) G10 (lst c i arg2 harg2 arg3 harg3 arg4 harg4 arg5 harg5 arg6 harg6 arg7 harg7 arg8 harg8 arg9 harg9 arg10 harg10 arg11 harg11 x0 x1 x2 x3 x4 x5 x6 G10 G11).2.1)
      [pb10 i arg2 harg2 arg3 harg3 arg7 harg7 arg8 harg8 arg10 x0 x1 x5 x6 (w6 arg4 harg4 x2) (w8 arg6 harg6 x4)
        (arg10.view.writes (Elt Ideal) (arg10.view.writes (Elt Ideal) G10 (lst c i arg2 harg2 arg3 harg3 arg4 harg4 arg5 harg5 arg6 harg6 arg7 harg7 arg8 harg8 arg9 harg9 arg10 harg10 arg11 harg11 x0 x1 x2 x3 x4 x5 x6 G10 G11).2.1)
          [pa10 i arg2 harg2 arg3 harg3 arg7 harg7 arg8 harg8 arg10 x0 x1 x5 x6 (w6 arg4 harg4 x2) (w8 arg6 harg6 x4) (arg10.view.writes (Elt Ideal) G10 (lst c i arg2 harg2 arg3 harg3 arg4 harg4 arg5 harg5 arg6 harg6 arg7 harg7 arg8 harg8 arg9 harg9 arg10 harg10 arg11 harg11 x0 x1 x2 x3 x4 x5 x6 G10 G11).2.1)]),
       pa10 i arg2 harg2 arg3 harg3 arg7 harg7 arg8 harg8 arg10 x0 x1 x5 x6 (w6 arg4 harg4 x2) (w8 arg6 harg6 x4) (arg10.view.writes (Elt Ideal) G10 (lst c i arg2 harg2 arg3 harg3 arg4 harg4 arg5 harg5 arg6 harg6 arg7 harg7 arg8 harg8 arg9 harg9 arg10 harg10 arg11 harg11 x0 x1 x2 x3 x4 x5 x6 G10 G11).2.1)]) (ix2 r l) =
      ((B10 r.val l.val + (if l.val < 512 * ((i 1).val + 1) then cK Q D S K V QT (512 * (i 1).val) r.val l.val else 0) : ℝ) : EReal) := by
  obtain ⟨i1, i2, i3, i4⟩ := lst_state c i arg2 harg2 arg3 harg3 arg4 harg4 arg5 harg5 arg6 harg6 arg7 harg7 arg8 harg8 arg9 harg9 arg10 harg10 arg11 harg11 x0 x1 x2 x3 x4 x5 x6 hQ hQT hD hDT hS hK hV G10 G11 hG10 hG11
  rw [← until_step]
  exact diag10 i arg2 harg2 arg3 harg3 arg7 harg7 arg8 harg8 arg10 x0 x1 x5 x6 (w6 arg4 harg4 x2) (w8 arg6 harg6 x4) hQ hQT hK hV
    (fun r l => (unit2 arg4 harg4 x2 rfl inb_S512x128_S512x128_0_0 r l).trans (hD r l))
    (fun r l => (unit3 arg6 harg6 x4 rfl inb_S1x512x128_S1x512x128_0_0_0 r l).trans (hS r l)) _
    (B10 := fun r l => B10 r l + if l < 512 * (i 1).val then cK Q D S K V QT (512 * (i 1).val) r l else 0) i3 r l

include hQ hQT hD hDT hS hK hV hG10 hG11 in
theorem point11 (r : Fin 128) (l : Fin 8192) :
    arg11.view.read (Elt Ideal) (arg11.view.writes (Elt Ideal) (arg11.view.writes (Elt Ideal) G11 (lst c i arg2 harg2 arg3 harg3 arg4 harg4 arg5 harg5 arg6 harg6 arg7 harg7 arg8 harg8 arg9 harg9 arg10 harg10 arg11 harg11 x0 x1 x2 x3 x4 x5 x6 G10 G11).2.2)
      [pb11 i arg2 harg2 arg5 harg5 arg7 harg7 arg11 x0 x3 x5 (w8 arg6 harg6 x4)
        (arg11.view.writes (Elt Ideal) (arg11.view.writes (Elt Ideal) G11 (lst c i arg2 harg2 arg3 harg3 arg4 harg4 arg5 harg5 arg6 harg6 arg7 harg7 arg8 harg8 arg9 harg9 arg10 harg10 arg11 harg11 x0 x1 x2 x3 x4 x5 x6 G10 G11).2.2)
          [pa11 i arg2 harg2 arg5 harg5 arg7 harg7 arg11 x0 x3 x5 (w8 arg6 harg6 x4) (arg11.view.writes (Elt Ideal) G11 (lst c i arg2 harg2 arg3 harg3 arg4 harg4 arg5 harg5 arg6 harg6 arg7 harg7 arg8 harg8 arg9 harg9 arg10 harg10 arg11 harg11 x0 x1 x2 x3 x4 x5 x6 G10 G11).2.2)]),
       pa11 i arg2 harg2 arg5 harg5 arg7 harg7 arg11 x0 x3 x5 (w8 arg6 harg6 x4) (arg11.view.writes (Elt Ideal) G11 (lst c i arg2 harg2 arg3 harg3 arg4 harg4 arg5 harg5 arg6 harg6 arg7 harg7 arg8 harg8 arg9 harg9 arg10 harg10 arg11 harg11 x0 x1 x2 x3 x4 x5 x6 G10 G11).2.2)]) (ix2 r l) =
      ((B11 r.val l.val + (if l.val < 512 * ((i 1).val + 1) then cV Q S K DT (512 * (i 1).val) r.val l.val else 0) : ℝ) : EReal) := by
  obtain ⟨i1, i2, i3, i4⟩ := lst_state c i arg2 harg2 arg3 harg3 arg4 harg4 arg5 harg5 arg6 harg6 arg7 harg7 arg8 harg8 arg9 harg9 arg10 harg10 arg11 harg11 x0 x1 x2 x3 x4 x5 x6 hQ hQT hD hDT hS hK hV G10 G11 hG10 hG11
  rw [← until_step]
  exact diag11 i arg2 harg2 arg5 harg5 arg7 harg7 arg11 x0 x3 x5 (w8 arg6 harg6 x4) hQ hDT hK
    (fun r l => (unit3 arg6 harg6 x4 rfl inb_S1x512x128_S1x512x128_0_0_0 r l).trans (hS r l)) _
    (B11 := fun r l => B11 r l + if l < 512 * (i 1).val then cV Q S K DT (512 * (i 1).val) r l else 0) i4 r l

include hQ hQT hD hDT hS hK hV hG10 hG11 in
theorem point7 (y : Fin 512) (l : Fin 256) :
    k1_pay53 rowI colI (k1_pay30 (w8 arg6 harg6 x4)) (lst c i arg2 harg2 arg3 harg3 arg4 harg4 arg5 harg5 arg6 harg6 arg7 harg7 arg8 harg8 arg9 harg9 arg10 harg10 arg11 harg11 x0 x1 x2 x3 x4 x5 x6 G10 G11).1.2
      (k1_pay44 (lst c i arg2 harg2 arg3 harg3 arg4 harg4 arg5 harg5 arg6 harg6 arg7 harg7 arg8 harg8 arg9 harg9 arg10 harg10 arg11 harg11 x0 x1 x2 x3 x4 x5 x6 G10 G11).1.1 (k1_pay36 (dk i arg7 harg7 x5)) (k1_pay37 (w6 arg4 harg4 x2)) (k1_pay38 (w8 arg6 harg6 x4))
        (dsc i arg2 harg2 arg7 harg7 x0 x5 (w8 arg6 harg6 x4)) (dv i arg8 harg8 x6))
      (k1_pay45 (bq' arg2 harg2 x0)) (k1_pay46 (dk' i arg7 harg7 x5)) (k1_pay47 lane (k1_pay29 (w6 arg4 harg4 x2))) (k1_pay48 (k1_pay30 (w8 arg6 harg6 x4))) (dv i arg8 harg8 x6) (ix2 y l) =
      (((∑ κ ∈ Finset.range (512 * ((i 1).val + 1)), bDs Q D S K V (512 * (i 1).val) (l.val / 128) y.val κ * K κ l.val) * (Real.sqrt 96)⁻¹ : ℝ) : EReal) := by
  obtain ⟨i1, i2, i3, i4⟩ := lst_state c i arg2 harg2 arg3 harg3 arg4 harg4 arg5 harg5 arg6 harg6 arg7 harg7 arg8 harg8 arg9 harg9 arg10 harg10 arg11 harg11 x0 x1 x2 x3 x4 x5 x6 hQ hQT hD hDT hS hK hV G10 G11 hG10 hG11
  exact diagQ i arg2 harg2 arg7 harg7 arg8 harg8 x0 x5 x6 (w6 arg4 harg4 x2) (w8 arg6 harg6 x4) hQ hK hV
    (fun r l => (unit2 arg4 harg4 x2 rfl inb_S512x128_S512x128_0_0 r l).trans (hD r l))
    (fun r l => (unit3 arg6 harg6 x4 rfl inb_S1x512x128_S1x512x128_0_0_0 r l).trans (hS r l)) _ _ i1 i2 y l

variable (hc0 : ¬cond1_0 i) (xo8 : Vec Ideal S256x8192 .f32) (xo9 : Vec Ideal S128x8192 .f32)
  (h8 : ∀ (r : Fin 256) (l : Fin 8192), xo8 (ix2 r l) = ((B10 r.val l.val : ℝ) : EReal))
  (h9 : ∀ (r : Fin 128) (l : Fin 8192), xo9 (ix2 r l) = ((B11 r.val l.val : ℝ) : EReal))

include hQ hQT hD hDT hS hK hV h8 h9 in
theorem outB_8 (r : Fin 256) (l : Fin 8192) : out1_B_8 c i arg2 harg2 arg3 harg3 arg4 harg4 arg5 harg5 arg6 harg6 arg7 harg7 arg8 harg8 arg9 harg9 arg10 harg10 arg11 harg11 hc0 x0 x1 x2 x3 x4 x5 x6 xo8 xo9 (ix2 r l) =
    ((B10 r.val l.val + (if l.val < 512 * ((i 1).val + 1) then cK Q D S K V QT (512 * (i 1).val) r.val l.val else 0) : ℝ) : EReal) := by
  have e1 : Scf.trips (k1_t1_loop i).lb (k1_t1_loop i).ub (k1_t1_loop i).st = (i 1).val := trips1 i
  have e2 : Scf.trips (k1_t2_loop i).lb (k1_t2_loop i).ub (k1_t2_loop i).st = 0 := trips1' i
  have r10 : arg10.view.read (Elt Ideal) (harg10.unread (Val := Elt Ideal) xo8) = xo8 := harg10.read_unread _
  have r11 : arg11.view.read (Elt Ideal) (harg11.unread (Val := Elt Ideal) xo9) = xo9 := harg11.read_unread _
  have p := point10 c i arg2 harg2 arg3 harg3 arg4 harg4 arg5 harg5 arg6 harg6 arg7 harg7 arg8 harg8 arg9 harg9 arg10 harg10 arg11 harg11 x0 x1 x2 x3 x4 x5 x6 hQ hQT hD hDT hS hK hV (harg10.unread xo8) (harg11.unread xo9) (fun r l => (congrFun r10 _).trans (h8 r l)) (fun r l => (congrFun r11 _).trans (h9 r l)) r l
  refine Eq.trans ?_ p
  unfold out1_B_8 kernelRun1_B
  dsimp only
  unfold kernelRun1_B.sl.H8_1 kernelRun1_B.sl.v57
  rw [e1, e2]
  simp only [st_k1_t2.eq_1, List.nil_append]
  rw [writes_two]
  unfold kernelRun1_B.sl.r_11 kernelRun1_B.sl.r_12 kernelRun1_B.sl.r_10 kernelRun1_B.sl.r_9 kernelRun1_B.sl.r_7 kernelRun1_B.sl.r_6 kernelRun1_B.sl.r_5 kernelRun1_B.sl.r_1 kernelRun1_B.sl.v3 kernelRun1_B.sl.v4 kernelRun1_B.sl.v5
  rfl

include hQ hQT hD hDT hS hK hV h8 h9 in
theorem outB_9 (r : Fin 128) (l : Fin 8192) : out1_B_9 c i arg2 harg2 arg3 harg3 arg4 harg4 arg5 harg5 arg6 harg6 arg7 harg7 arg8 harg8 arg9 harg9 arg10 harg10 arg11 harg11 hc0 x0 x1 x2 x3 x4 x5 x6 xo8 xo9 (ix2 r l) =
    ((B11 r.val l.val + (if l.val < 512 * ((i 1).val + 1) then cV Q S K DT (512 * (i 1).val) r.val l.val else 0) : ℝ) : EReal) := by
  have e1 : Scf.trips (k1_t1_loop i).lb (k1_t1_loop i).ub (k1_t1_loop i).st = (i 1).val := trips1 i
  have e2 : Scf.trips (k1_t2_loop i).lb (k1_t2_loop i).ub (k1_t2_loop i).st = 0 := trips1' i
  have r10 : arg10.view.read (Elt Ideal) (harg10.unread (Val := Elt Ideal) xo8) = xo8 := harg10.read_unread _
  have r11 : arg11.view.read (Elt Ideal) (harg11.unread (Val := Elt Ideal) xo9) = xo9 := harg11.read_unread _
  have p := point11 c i arg2 harg2 arg3 harg3 arg4 harg4 arg5 harg5 arg6 harg6 arg7 harg7 arg8 harg8 arg9 harg9 arg10 harg10 arg11 harg11 x0 x1 x2 x3 x4 x5 x6 hQ hQT hD hDT hS hK hV (harg10.unread xo8) (harg11.unread xo9) (fun r l => (congrFun r10 _).trans (h8 r l)) (fun r l => (congrFun r11 _).trans (h9 r l)) r l
  refine Eq.trans ?_ p
  unfold out1_B_9 kernelRun1_B
  dsimp only
  unfold kernelRun1_B.sl.H9_1 kernelRun1_B.sl.v47
  rw [e1, e2]
  simp only [st_k1_t2.eq_1, List.nil_append]
  rw [writes_two]
  unfold kernelRun1_B.sl.r_12 kernelRun1_B.sl.r_10 kernelRun1_B.sl.r_9 kernelRun1_B.sl.r_7 kernelRun1_B.sl.r_1 kernelRun1_B.sl.v3 kernelRun1_B.sl.v4 kernelRun1_B.sl.v5
  rfl

include hQ hQT hD hDT hS hK hV h8 h9 in
theorem outB_7 (y : Fin 512) (l : Fin 256) : out1_B_7 c i arg2 harg2 arg3 harg3 arg4 harg4 arg5 harg5 arg6 harg6 arg7 harg7 arg8 harg8 arg9 harg9 arg10 harg10 arg11 harg11 hc0 x0 x1 x2 x3 x4 x5 x6 xo8 xo9 (ix2 y l) =
    (((∑ κ ∈ Finset.range (512 * ((i 1).val + 1)), bDs Q D S K V (512 * (i 1).val) (l.val / 128) y.val κ * K κ l.val) * (Real.sqrt 96)⁻¹ : ℝ) : EReal) := by
  have e1 : Scf.trips (k1_t1_loop i).lb (k1_t1_loop i).ub (k1_t1_loop i).st = (i 1).val := trips1 i
  have e2 : Scf.trips (k1_t2_loop i).lb (k1_t2_loop i).ub (k1_t2_loop i).st = 0 := trips1' i
  have r10 : arg10.view.read (Elt Ideal) (harg10.unread (Val := Elt Ideal) xo8) = xo8 := harg10.read_unread _
  have r11 : arg11.view.read (Elt Ideal) (harg11.unread (Val := Elt Ideal) xo9) = xo9 := harg11.read_unread _
  have p := point7 c i arg2 harg2 arg3 harg3 arg4 harg4 arg5 harg5 arg6 harg6 arg7 harg7 arg8 harg8 arg9 harg9 arg10 harg10 arg11 harg11 x0 x1 x2 x3 x4 x5 x6 hQ hQT hD hDT hS hK hV (harg10.unread xo8) (harg11.unread xo9) (fun r l => (congrFun r10 _).trans (h8 r l)) (fun r l => (congrFun r11 _).trans (h9 r l)) y l
  refine Eq.trans ?_ p
  unfold out1_B_7 kernelRun1_B
  dsimp only
  refine (whole2 (Memref.whole cc1_stg7_0) _ rfl inb_S512x256_S512x256_0_0 _ y l).trans ?_
  unfold kernelRun1_B.sl.r_13 kernelRun1_B.sl.r_8 kernelRun1_B.sl.r_2 kernelRun1_B.sl.r_3
  rw [e1, e2]
  simp only [st_k1_t2.eq_1]
  unfold kernelRun1_B.sl.r_11 kernelRun1_B.sl.r_12 kernelRun1_B.sl.r_10 kernelRun1_B.sl.r_9 kernelRun1_B.sl.r_7 kernelRun1_B.sl.r_6 kernelRun1_B.sl.r_5 kernelRun1_B.sl.r_4 kernelRun1_B.sl.r_1 kernelRun1_B.sl.v3 kernelRun1_B.sl.v4 kernelRun1_B.sl.v5
  rfl

/-- The key-side accumulators as the first block finds them: cleared. -/
abbrev z10 : BufTy.Contents (Elt Ideal) arg10.view.ty := arg10.view.writes (Elt Ideal) arg10.view.junk (kernelRun1_A.sl.H8_1 (F := Ideal))
abbrev z11 : BufTy.Contents (Elt Ideal) arg11.view.ty := arg11.view.writes (Elt Ideal) arg11.view.junk (kernelRun1_A.sl.H9_1 (F := Ideal))

theorem z10_read (r : Fin 256) (l : Fin 8192) : arg10.view.read (Elt Ideal) (z10 arg10) (ix2 r l) = ((0 : ℝ) : EReal) :=
  (whole2 arg10 _ rfl inb_S256x8192_S256x8192_0_0 _ r l).trans Ideal.ofBits_zero_f32

theorem z11_read (r : Fin 128) (l : Fin 8192) : arg11.view.read (Elt Ideal) (z11 arg11) (ix2 r l) = ((0 : ℝ) : EReal) :=
  (whole2 arg11 _ rfl inb_S128x8192_S128x8192_0_0 _ r l).trans Ideal.ofBits_zero_f32

include hQ hQT hD hDT hS hK hV in
theorem outA_8 (hc0 : cond1_0 i) (r : Fin 256) (l : Fin 8192) : out1_A_8 c i arg2 harg2 arg3 harg3 arg4 harg4 arg5 harg5 arg6 harg6 arg7 harg7 arg8 harg8 arg9 harg9 arg10 harg10 arg11 harg11 hc0 x0 x1 x2 x3 x4 x5 x6 (ix2 r l) =
    ((0 + (if l.val < 512 * ((i 1).val + 1) then cK Q D S K V QT (512 * (i 1).val) r.val l.val else 0) : ℝ) : EReal) := by
  have e1 : Scf.trips (k1_t1_loop i).lb (k1_t1_loop i).ub (k1_t1_loop i).st = (i 1).val := trips1 i
  have e2 : Scf.trips (k1_t2_loop i).lb (k1_t2_loop i).ub (k1_t2_loop i).st = 0 := trips1' i
  have p := point10 c i arg2 harg2 arg3 harg3 arg4 harg4 arg5 harg5 arg6 harg6 arg7 harg7 arg8 harg8 arg9 harg9 arg10 harg10 arg11 harg11 x0 x1 x2 x3 x4 x5 x6 hQ hQT hD hDT hS hK hV (z10 arg10) (z11 arg11) (B10 := fun _ _ => 0) (B11 := fun _ _ => 0) (z10_read arg10) (z11_read arg11) r l
  unfold out1_A_8
  refine (congrFun (View.read_writes_of_cover VO1_8 VO1_8.junk arg10.view arg10.view.junk _ (cover1_A_8 c i arg2 harg2 arg3 harg3 arg4 harg4 arg5 harg5 arg6 harg6 arg7 harg7 arg8 harg8 arg9 harg9 arg10 harg10 arg11 harg11 hc0 x0 x1 x2 x3 x4 x5 x6)) _).trans ?_
  refine Eq.trans ?_ p
  unfold kernelRun1_A
  dsimp only
  unfold kernelRun1_A.sl.H8_1_1 kernelRun1_A.sl.v57
  rw [e1, e2]
  simp only [st_k1_t2.eq_1, List.nil_append]
  simp only [writes_two_append, writes_one_append, View.writes_append]
  unfold kernelRun1_A.sl.r_11 kernelRun1_A.sl.r_12 kernelRun1_A.sl.r_10 kernelRun1_A.sl.r_9 kernelRun1_A.sl.r_7 kernelRun1_A.sl.r_6 kernelRun1_A.sl.r_5 kernelRun1_A.sl.r_1 kernelRun1_A.sl.v3 kernelRun1_A.sl.v4 kernelRun1_A.sl.v5
  rfl

include hQ hQT hD hDT hS hK hV in
theorem outA_9 (hc0 : cond1_0 i) (r : Fin 128) (l : Fin 8192) : out1_A_9 c i arg2 harg2 arg3 harg3 arg4 harg4 arg5 harg5 arg6 harg6 arg7 harg7 arg8 harg8 arg9 harg9 arg10 harg10 arg11 harg11 hc0 x0 x1 x2 x3 x4 x5 x6 (ix2 r l) =
    ((0 + (if l.val < 512 * ((i 1).val + 1) then cV Q S K DT (512 * (i 1).val) r.val l.val else 0) : ℝ) : EReal) := by
  have e1 : Scf.trips (k1_t1_loop i).lb (k1_t1_loop i).ub (k1_t1_loop i).st = (i 1).val := trips1 i
  have e2 : Scf.trips (k1_t2_loop i).lb (k1_t2_loop i).ub (k1_t2_loop i).st = 0 := trips1' i
  have p := point11 c i arg2 harg2 arg3 harg3 arg4 harg4 arg5 harg5 arg6 harg6 arg7 harg7 arg8 harg8 arg9 harg9 arg10 harg10 arg11 harg11 x0 x1 x2 x3 x4 x5 x6 hQ hQT hD hDT hS hK hV (z10 arg10) (z11 arg11) (B10 := fun _ _ => 0) (B11 := fun _ _ => 0) (z10_read arg10) (z11_read arg11) r l
  unfold out1_A_9
  refine (congrFun (View.read_writes_of_cover VO1_9 VO1_9.junk arg11.view arg11.view.junk _ (cover1_A_9 c i arg2 harg2 arg3 harg3 arg4 harg4 arg5 harg5 arg6 harg6 arg7 harg7 arg8 harg8 arg9 harg9 arg10 harg10 arg11 harg11 hc0 x0 x1 x2 x3 x4 x5 x6)) _).trans ?_
  refine Eq.trans ?_ p
  unfold kernelRun1_A
  dsimp only
  unfold kernelRun1_A.sl.H9_1_1 kernelRun1_A.sl.v47
  rw [e1, e2]
  simp only [st_k1_t2.eq_1, List.nil_append]
  simp only [writes_two_append, writes_one_append, View.writes_append]
  unfold kernelRun1_A.sl.r_12 kernelRun1_A.sl.r_10 kernelRun1_A.sl.r_9 kernelRun1_A.sl.r_7 kernelRun1_A.sl.r_1 kernelRun1_A.sl.v3 kernelRun1_A.sl.v4 kernelRun1_A.sl.v5
  rfl

include hQ hQT hD hDT hS hK hV in
theorem outA_7 (hc0 : cond1_0 i) (y : Fin 512) (l : Fin 256) : out1_A_7 c i arg2 harg2 arg3 harg3 arg4 harg4 arg5 harg5 arg6 harg6 arg7 harg7 arg8 harg8 arg9 harg9 arg10 harg10 arg11 harg11 hc0 x0 x1 x2 x3 x4 x5 x6 (ix2 y l) =
    (((∑ κ ∈ Finset.range (512 * ((i 1).val + 1)), bDs Q D S K V (512 * (i 1).val) (l.val / 128) y.val κ * K κ l.val) * (Real.sqrt 96)⁻¹ : ℝ) : EReal) := by
  have e1 : Scf.trips (k1_t1_loop i).lb (k1_t1_loop i).ub (k1_t1_loop i).st = (i 1).val := trips1 i
  have e2 : Scf.trips (k1_t2_loop i).lb (k1_t2_loop i).ub (k1_t2_loop i).st = 0 := trips1' i
  have p := point7 c i arg2 harg2 arg3 harg3 arg4 harg4 arg5 harg5 arg6 harg6 arg7 harg7 arg8 harg8 arg9 harg9 arg10 harg10 arg11 harg11 x0 x1 x2 x3 x4 x5 x6 hQ hQT hD hDT hS hK hV (z10 arg10) (z11 arg11) (B10 := fun _ _ => 0) (B11 := fun _ _ => 0) (z10_read arg10) (z11_read arg11) y l
  refine Eq.trans ?_ p
  unfold out1_A_7 kernelRun1_A
  dsimp only
  refine (whole2 (Memref.whole cc1_stg7_0) _ rfl inb_S512x256_S512x256_0_0 _ y l).trans ?_
  unfold kernelRun1_A.sl.r_13 kernelRun1_A.sl.r_8 kernelRun1_A.sl.r_2 kernelRun1_A.sl.r_3
  rw [e1, e2]
  simp only [st_k1_t2.eq_1]
  unfold kernelRun1_A.sl.r_11 kernelRun1_A.sl.r_12 kernelRun1_A.sl.r_10 kernelRun1_A.sl.r_9 kernelRun1_A.sl.r_7 kernelRun1_A.sl.r_6 kernelRun1_A.sl.r_5 kernelRun1_A.sl.r_4 kernelRun1_A.sl.r_1 kernelRun1_A.sl.v3 kernelRun1_A.sl.v4 kernelRun1_A.sl.v5
  rfl
end Point
end Cert.Attn
-- ==== Proof.AttnWin.lean ====
/-
The two attention calls' result arrays after their grids have run, as functions of the real numbers their operand arrays hold.
-/
module

public import proofs.«01_k».proof.Proof.AttnPoint

@[expose] public section

set_option maxRecDepth 16384
set_option maxHeartbeats 1000000

noncomputable section
namespace Cert.Attn
open Idealize.ShloMosaic Idealize.ShloMosaic.TcCoe Idealize.ShloMosaic.Tactic
open Idealize.ShloMosaic.Pipeline (Dat)
open Cert.Kernel2Ideal Cert.Kernel2Ideal.Gen
open Cert.Core

variable (V : (c : Dev nD) → (b : Ref sig .tc) → Buf (Elt Ideal) ((c : Thread nD τ).loc b)) (c : Dev nD)

/-! ## The forward call -/

theorem idx0 : ∀ t : Fin cfg0.N, win0_0.index t = ![t.val % 8, t.val / 8] ∧ win0_1.index t = ![0, t.val / 8] ∧ win0_2.index t = ![t.val / 8, 0] ∧
    win0_3.index t = ![t.val % 8, t.val / 8] ∧ win0_4.index t = ![t.val % 8, t.val / 8] :=
  (by decide +kernel : ∀ t : Fin grid0.N, _)

theorem pt0 (t : Fin cfg0.N) : t.val < 48 := t.isLt

/-- Row `r` of the block at point `t`, in the arrays; and its lane `l` in an array with `n` lanes to a pair of heads. -/
def row0 (t : Fin cfg0.N) (r : Fin 1024) : Fin 8192 := ⟨t.val % 8 * 1024 + r.val, by have := pt0 t; omega⟩
def ln0 (n : ℕ) (t : Fin cfg0.N) (l : Fin n) : Fin (6 * n) := ⟨t.val / 8 * n + l.val, by
  have := pt0 t
  have h : t.val / 8 + 1 ≤ 6 := by omega
  have := Nat.mul_le_mul_right n h
  have := l.isLt
  rw [Nat.add_mul, Nat.one_mul] at *
  omega⟩

theorem blk0_0 (t : Fin cfg0.N) (r : Fin 1024) (l : Fin 256) : iblk0 V c 0 t (ix2 r l) = V c main_v8 (ix2 (row0 t r) (ln0 256 t l)) := by
  unfold row0 ln0; blk_point [iblk0, idx0 t]
theorem blk0_1 (t : Fin cfg0.N) (r : Fin 8192) (l : Fin 256) : iblk0 V c 1 t (ix2 r l) = V c main_v14 (ix2 r (ln0 256 t l)) := by
  unfold ln0; blk_point [iblk0, idx0 t]
theorem blk0_2 (t : Fin cfg0.N) (l : Fin 128) (r : Fin 8192) : iblk0 V c 2 t (ix2 l r) = V c main_v19 (ix2 (ln0 128 t l) r) := by
  unfold ln0; blk_point [iblk0, idx0 t]

/-! ## The backward call -/

theorem idx1 : ∀ t : Fin cfg1.N, win1_0.index t = ![t.val % 16, t.val / 16] ∧ win1_1.index t = ![t.val / 16, t.val % 16] ∧ win1_2.index t = ![t.val % 16, t.val / 16] ∧
    win1_3.index t = ![t.val / 16, t.val % 16] ∧ win1_4.index t = ![t.val / 16, t.val % 16, 0] ∧ win1_5.index t = ![0, t.val / 16] ∧ win1_6.index t = ![0, t.val / 16] ∧
    win1_7.index t = ![t.val % 16, t.val / 16] ∧ win1_8.index t = ![t.val / 16, 0] ∧ win1_9.index t = ![t.val / 16, 0] :=
  (by decide +kernel : ∀ t : Fin grid1.N, _)

theorem pt1 (t : Fin cfg1.N) : t.val < 96 := t.isLt

def row1 (t : Fin cfg1.N) (r : Fin 512) : Fin 8192 := ⟨t.val % 16 * 512 + r.val, by have := pt1 t; omega⟩
def ln1 (n : ℕ) (t : Fin cfg1.N) (l : Fin n) : Fin (6 * n) := ⟨t.val / 16 * n + l.val, by
  have := pt1 t
  have h : t.val / 16 + 1 ≤ 6 := by omega
  have := Nat.mul_le_mul_right n h
  have := l.isLt
  rw [Nat.add_mul, Nat.one_mul] at *
  omega⟩

theorem blk1_0 (t : Fin cfg1.N) (r : Fin 512) (l : Fin 256) : iblk1 V c 0 t (ix2 r l) = V c main_v8 (ix2 (row1 t r) (ln1 256 t l)) := by
  unfold row1 ln1; blk_point [iblk1, idx1 t]
theorem blk1_1 (t : Fin cfg1.N) (l : Fin 256) (r : Fin 512) : iblk1 V c 1 t (ix2 l r) = V c main_v10 (ix2 (ln1 256 t l) (row1 t r)) := by
  unfold row1 ln1; blk_point [iblk1, idx1 t]
theorem blk1_2 (t : Fin cfg1.N) (r : Fin 512) (l : Fin 128) : iblk1 V c 2 t (ix2 r l) = V c main_v32 (ix2 (row1 t r) (ln1 128 t l)) := by
  unfold row1 ln1; blk_point [iblk1, idx1 t]
theorem blk1_3 (t : Fin cfg1.N) (l : Fin 128) (r : Fin 512) : iblk1 V c 3 t (ix2 l r) = V c main_v35 (ix2 (ln1 128 t l) (row1 t r)) := by
  unfold row1 ln1; blk_point [iblk1, idx1 t]
theorem blk1_4 (t : Fin cfg1.N) (r : Fin 512) (l : Fin 128) : iblk1 V c 4 t (ix3 0 r l) = V c main_v30 (ix3 (⟨t.val / 16, by have := pt1 t; omega⟩ : Fin 6) (row1 t r) l) := by
  unfold row1; blk_point [iblk1, idx1 t]
theorem blk1_5 (t : Fin cfg1.N) (r : Fin 8192) (l : Fin 256) : iblk1 V c 5 t (ix2 r l) = V c main_v14 (ix2 r (ln1 256 t l)) := by
  unfold ln1; blk_point [iblk1, idx1 t]
theorem blk1_6 (t : Fin cfg1.N) (r : Fin 8192) (l : Fin 128) : iblk1 V c 6 t (ix2 r l) = V c main_v17 (ix2 r (ln1 128 t l)) := by
  unfold ln1; blk_point [iblk1, idx1 t]

/-! ## What the calls write -/

/-- The score of key `κ` for query `R`: head pair `P`, the head at lane `o` of the pair. -/
def sc (Q K : ℕ → ℕ → ℝ) (P o R κ : ℕ) : ℝ := ∑ l : Fin 128, K κ (P * 256 + (o + l.val)) * Q R (P * 256 + (o + l.val))

def tokM (Q K W : ℕ → ℕ → ℝ) (R j : ℕ) : ℝ := attO (sc Q K (j / 128) (if j % 128 < 64 then 0 else 128) R) (fun κ => κ ≤ R) (fun κ => W κ j)
def lseM (Q K : ℕ → ℕ → ℝ) (R j : ℕ) : ℝ := Real.log (attZ (sc Q K (j / 128) (if j % 128 < 64 then 0 else 128) R) (fun κ => κ ≤ R)) * (Real.log 2)⁻¹

theorem coord0 (t : Fin cfg0.N) : (grid0.coords t 1).val = t.val % 8 := by
  have e1 : (grid0.coords t 1).val = t.val / 1 % 8 := Pipeline.Grid.coords_val t 1 (by decide) rfl
  rw [e1, Nat.div_one]

theorem coord1 (t : Fin cfg1.N) : (grid1.coords t 1).val = t.val % 16 := by
  have e1 : (grid1.coords t 1).val = t.val / 1 % 16 := Pipeline.Grid.coords_val t 1 (by decide) rfl
  rw [e1, Nat.div_one]

section Forward
variable {V c} {Q K W : ℕ → ℕ → ℝ}
  (hQ : ∀ (r : Fin 8192) (l : Fin 1536), V c main_v8 (ix2 r l) = ((Q r.val l.val : ℝ) : EReal))
  (hK : ∀ (r : Fin 8192) (l : Fin 1536), V c main_v14 (ix2 r l) = ((K r.val l.val : ℝ) : EReal))
  (hW : ∀ (l : Fin 768) (r : Fin 8192), V c main_v19 (ix2 l r) = ((W r.val l.val : ℝ) : EReal))
include hQ hK hW

theorem tok_out (t : Fin cfg0.N) (y : Fin 1024) (l : Fin 128) : (outsAt0 V c t).1 (ix2 y l) = ((tokM Q K W (row0 t y).val (ln0 128 t l).val : ℝ) : EReal) := by
  have hq : ∀ (r : Fin 1024) (l : Fin 256), iblk0 V c 0 t (ix2 r l) = ((Q (t.val % 8 * 1024 + r.val) (t.val / 8 * 256 + l.val) : ℝ) : EReal) := fun r l => (blk0_0 V c t r l).trans (hQ _ _)
  have hk : ∀ (r : Fin 8192) (l : Fin 256), iblk0 V c 1 t (ix2 r l) = ((K r.val (t.val / 8 * 256 + l.val) : ℝ) : EReal) := fun r l => (blk0_1 V c t r l).trans (hK _ _)
  have hw : ∀ (l : Fin 128) (r : Fin 8192), iblk0 V c 2 t (ix2 l r) = ((W r.val (t.val / 8 * 128 + l.val) : ℝ) : EReal) := fun l r => (blk0_2 V c t l r).trans (hW _ _)
  unfold outsAt0
  refine (out_o c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t)
    (Q := fun r l => Q (t.val % 8 * 1024 + r) (t.val / 8 * 256 + l)) (K := fun r l => K r (t.val / 8 * 256 + l)) (V := fun l r => W r (t.val / 8 * 128 + l))
    hq hk hw y l).trans ?_
  have e1 : (ln0 128 t l).val / 128 = t.val / 8 := by show (t.val / 8 * 128 + l.val) / 128 = _; omega
  have e2 : (ln0 128 t l).val % 128 = l.val := by show (t.val / 8 * 128 + l.val) % 128 = _; omega
  rw [tokM, e1, e2, coord0, Nat.mul_comm 1024]
  rfl

theorem lse_out (t : Fin cfg0.N) (y : Fin 1024) (l : Fin 128) : (outsAt0 V c t).2 (ix2 y l) = ((lseM Q K (row0 t y).val (ln0 128 t l).val : ℝ) : EReal) := by
  have hq : ∀ (r : Fin 1024) (l : Fin 256), iblk0 V c 0 t (ix2 r l) = ((Q (t.val % 8 * 1024 + r.val) (t.val / 8 * 256 + l.val) : ℝ) : EReal) := fun r l => (blk0_0 V c t r l).trans (hQ _ _)
  have hk : ∀ (r : Fin 8192) (l : Fin 256), iblk0 V c 1 t (ix2 r l) = ((K r.val (t.val / 8 * 256 + l.val) : ℝ) : EReal) := fun r l => (blk0_1 V c t r l).trans (hK _ _)
  have hw : ∀ (l : Fin 128) (r : Fin 8192), iblk0 V c 2 t (ix2 l r) = ((W r.val (t.val / 8 * 128 + l.val) : ℝ) : EReal) := fun l r => (blk0_2 V c t l r).trans (hW _ _)
  unfold outsAt0
  refine (out_lse c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t)
    (Q := fun r l => Q (t.val % 8 * 1024 + r) (t.val / 8 * 256 + l)) (K := fun r l => K r (t.val / 8 * 256 + l)) (V := fun l r => W r (t.val / 8 * 128 + l))
    hq hk hw y l).trans ?_
  have e1 : (ln0 128 t l).val / 128 = t.val / 8 := by show (t.val / 8 * 128 + l.val) / 128 = _; omega
  have e2 : (ln0 128 t l).val % 128 = l.val := by show (t.val / 8 * 128 + l.val) % 128 = _; omega
  rw [lseM, e1, e2, coord0, Nat.mul_comm 1024]
  rfl

theorem tok_arr : (dat0 V c).arrAt 3 cfg0.N = fun i : S8192x768.Idx => ((tokM Q K W (i 0).val (i 1).val : ℝ) : EReal) := by
  refine (dat0 V c).arrAt_eq_of_covers 3 _ (by decide +kernel) fun t hf y => ?_
  blk_simp
  rw [after0_3, (idx0 t).2.2.2.1]
  exact (congrArg _ (eq_ix2 y)).trans (tok_out hQ hK hW t (y 0) (y 1))

theorem lse_arr : (dat0 V c).arrAt 4 cfg0.N = fun i : S8192x768.Idx => ((lseM Q K (i 0).val (i 1).val : ℝ) : EReal) := by
  refine (dat0 V c).arrAt_eq_of_covers 4 _ (by decide +kernel) fun t hf y => ?_
  blk_simp
  rw [after0_4, (idx0 t).2.2.2.2]
  exact (congrArg _ (eq_ix2 y)).trans (lse_out hQ hK hW t (y 0) (y 1))
end Forward

section Backward
/-- The operands of one point: block `i` of the queries, head pair `P`. -/
abbrev oQ (Q : ℕ → ℕ → ℝ) (P i r l : ℕ) : ℝ := Q (i * 512 + r) (P * 256 + l)
abbrev oD (D : ℕ → ℕ → ℝ) (P i r l : ℕ) : ℝ := D (i * 512 + r) (P * 128 + l)
abbrev oS (S : ℕ → ℕ → ℕ → ℝ) (P i r l : ℕ) : ℝ := S P (i * 512 + r) l
abbrev oK (K : ℕ → ℕ → ℝ) (P κ l : ℕ) : ℝ := K κ (P * 256 + l)
abbrev oV (W : ℕ → ℕ → ℝ) (P κ l : ℕ) : ℝ := W κ (P * 128 + l)

variable (Q D : ℕ → ℕ → ℝ) (S : ℕ → ℕ → ℕ → ℝ) (K W : ℕ → ℕ → ℝ)
abbrev gK (P i d κ : ℕ) : ℝ := cK (oQ Q P i) (oD D P i) (oS S P i) (oK K P) (oV W P) (fun l r => oQ Q P i r l) (512 * i) d κ
abbrev gV (P i d κ : ℕ) : ℝ := cV (oQ Q P i) (oS S P i) (oK K P) (fun l r => oD D P i r l) (512 * i) d κ
abbrev gQ (P i r l : ℕ) : ℝ := (∑ κ ∈ Finset.range (512 * (i + 1)), bDs (oQ Q P i) (oD D P i) (oS S P i) (oK K P) (oV W P) (512 * i) (l / 128) r κ * oK K P κ l) * (Real.sqrt 96)⁻¹

variable {V c Q D S K W}
  (hQ : ∀ (r : Fin 8192) (l : Fin 1536), V c main_v8 (ix2 r l) = ((Q r.val l.val : ℝ) : EReal))
  (hQT : ∀ (l : Fin 1536) (r : Fin 8192), V c main_v10 (ix2 l r) = ((Q r.val l.val : ℝ) : EReal))
  (hD : ∀ (r : Fin 8192) (l : Fin 768), V c main_v32 (ix2 r l) = ((D r.val l.val : ℝ) : EReal))
  (hDT : ∀ (l : Fin 768) (r : Fin 8192), V c main_v35 (ix2 l r) = ((D r.val l.val : ℝ) : EReal))
  (hS : ∀ (P : Fin 6) (r : Fin 8192) (l : Fin 128), V c main_v30 (ix3 P r l) = ((S P.val r.val l.val : ℝ) : EReal))
  (hK : ∀ (r : Fin 8192) (l : Fin 1536), V c main_v14 (ix2 r l) = ((K r.val l.val : ℝ) : EReal))
  (hW : ∀ (r : Fin 8192) (l : Fin 768), V c main_v17 (ix2 r l) = ((W r.val l.val : ℝ) : EReal))

section
variable (V c)
/-- The key-side accumulators after point `n`: the blocks of the head pair run so far. -/
def Acc (Q D : ℕ → ℕ → ℝ) (S : ℕ → ℕ → ℕ → ℝ) (K W : ℕ → ℕ → ℝ) (n : ℕ) (h : n < cfg1.N) : Prop :=
  (∀ (r : Fin 256) (l : Fin 8192), (outsAt1 V c n h).2.1 (ix2 r l) =
    ((∑ i ∈ Finset.range (n % 16 + 1), (if l.val < 512 * (i + 1) then gK Q D S K W (n / 16) i r.val l.val else 0) : ℝ) : EReal)) ∧
  (∀ (r : Fin 128) (l : Fin 8192), (outsAt1 V c n h).2.2 (ix2 r l) =
    ((∑ i ∈ Finset.range (n % 16 + 1), (if l.val < 512 * (i + 1) then gV Q D S K (n / 16) i r.val l.val else 0) : ℝ) : EReal))
end

include hQ hQT hD hDT hS hK hW

theorem acc_all (n : ℕ) (h : n < cfg1.N) : Acc V c Q D S K W n h := by
  induction n using Nat.strong_induction_on with
  | _ n ih =>
    have hn : n < 96 := h
    have hq : ∀ (r : Fin 512) (l : Fin 256), iblk1 V c 0 ⟨n, h⟩ (ix2 r l) = ((oQ Q (n / 16) (n % 16) r.val l.val : ℝ) : EReal) := fun r l => (blk1_0 V c ⟨n, h⟩ r l).trans (hQ _ _)
    have hqt : ∀ (l : Fin 256) (r : Fin 512), iblk1 V c 1 ⟨n, h⟩ (ix2 l r) = ((oQ Q (n / 16) (n % 16) r.val l.val : ℝ) : EReal) := fun l r => (blk1_1 V c ⟨n, h⟩ l r).trans (hQT _ _)
    have hd : ∀ (r : Fin 512) (l : Fin 128), iblk1 V c 2 ⟨n, h⟩ (ix2 r l) = ((oD D (n / 16) (n % 16) r.val l.val : ℝ) : EReal) := fun r l => (blk1_2 V c ⟨n, h⟩ r l).trans (hD _ _)
    have hdt : ∀ (l : Fin 128) (r : Fin 512), iblk1 V c 3 ⟨n, h⟩ (ix2 l r) = ((oD D (n / 16) (n % 16) r.val l.val : ℝ) : EReal) := fun l r => (blk1_3 V c ⟨n, h⟩ l r).trans (hDT _ _)
    have hs : ∀ (r : Fin 512) (l : Fin 128), iblk1 V c 4 ⟨n, h⟩ (ix3 0 r l) = ((oS S (n / 16) (n % 16) r.val l.val : ℝ) : EReal) := fun r l => (blk1_4 V c ⟨n, h⟩ r l).trans (hS _ _ _)
    have hk : ∀ (r : Fin 8192) (l : Fin 256), iblk1 V c 5 ⟨n, h⟩ (ix2 r l) = ((oK K (n / 16) r.val l.val : ℝ) : EReal) := fun r l => (blk1_5 V c ⟨n, h⟩ r l).trans (hK _ _)
    have hv : ∀ (r : Fin 8192) (l : Fin 128), iblk1 V c 6 ⟨n, h⟩ (ix2 r l) = ((oV W (n / 16) r.val l.val : ℝ) : EReal) := fun r l => (blk1_6 V c ⟨n, h⟩ r l).trans (hW _ _)
    have ec := coord1 ⟨n, h⟩
    by_cases h0 : n % 16 = 0
    · have e := outsAt1_A V c ⟨n, h⟩ h0
      refine ⟨fun r l => ?_, fun r l => ?_⟩
      · refine (congrFun (congrArg (fun x => x.2.1) e) _).trans ?_
        dsimp only
        refine (outA_8 c _ _ _ _ _ _ _ _ _ _ _ _ _ _ _ _ _ _ _ _ _ _ _ _ _ _ _ _
          (Q := oQ Q (n / 16) (n % 16)) (QT := fun l r => oQ Q (n / 16) (n % 16) r l) (D := oD D (n / 16) (n % 16)) (DT := fun l r => oD D (n / 16) (n % 16) r l)
          (S := oS S (n / 16) (n % 16)) (K := oK K (n / 16)) (V := oV W (n / 16)) hq hqt hd hdt hs hk hv _ r l).trans ?_
        rw [ec, h0, Finset.sum_range_one, zero_add]
      · refine (congrFun (congrArg (fun x => x.2.2) e) _).trans ?_
        dsimp only
        refine (outA_9 c _ _ _ _ _ _ _ _ _ _ _ _ _ _ _ _ _ _ _ _ _ _ _ _ _ _ _ _
          (Q := oQ Q (n / 16) (n % 16)) (QT := fun l r => oQ Q (n / 16) (n % 16) r l) (D := oD D (n / 16) (n % 16)) (DT := fun l r => oD D (n / 16) (n % 16) r l)
          (S := oS S (n / 16) (n % 16)) (K := oK K (n / 16)) (V := oV W (n / 16)) hq hqt hd hdt hs hk hv _ r l).trans ?_
        rw [ec, h0, Finset.sum_range_one, zero_add]
    · have e := outsAt1_B V c ⟨n, h⟩ h0
      obtain ⟨p8, p9⟩ := ih (n - 1) (by omega) (by omega)
      have d1 : (n - 1) / 16 = n / 16 := by omega
      have d2 : (n - 1) % 16 + 1 = n % 16 := by omega
      rw [d1, d2] at p8 p9
      refine ⟨fun r l => ?_, fun r l => ?_⟩
      · refine (congrFun (congrArg (fun x => x.2.1) e) _).trans ?_
        dsimp only
        refine (outB_8 c _ _ _ _ _ _ _ _ _ _ _ _ _ _ _ _ _ _ _ _ _ _ _ _ _ _ _ _
          (Q := oQ Q (n / 16) (n % 16)) (QT := fun l r => oQ Q (n / 16) (n % 16) r l) (D := oD D (n / 16) (n % 16)) (DT := fun l r => oD D (n / 16) (n % 16) r l)
          (S := oS S (n / 16) (n % 16)) (K := oK K (n / 16)) (V := oV W (n / 16)) hq hqt hd hdt hs hk hv
          (B10 := fun r l => ∑ i ∈ Finset.range (n % 16), (if l < 512 * (i + 1) then gK Q D S K W (n / 16) i r l else 0))
          (B11 := fun r l => ∑ i ∈ Finset.range (n % 16), (if l < 512 * (i + 1) then gV Q D S K (n / 16) i r l else 0)) _ _ _ p8 p9 r l).trans ?_
        rw [ec, Finset.sum_range_succ]
      · refine (congrFun (congrArg (fun x => x.2.2) e) _).trans ?_
        dsimp only
        refine (outB_9 c _ _ _ _ _ _ _ _ _ _ _ _ _ _ _ _ _ _ _ _ _ _ _ _ _ _ _ _
          (Q := oQ Q (n / 16) (n % 16)) (QT := fun l r => oQ Q (n / 16) (n % 16) r l) (D := oD D (n / 16) (n % 16)) (DT := fun l r => oD D (n / 16) (n % 16) r l)
          (S := oS S (n / 16) (n % 16)) (K := oK K (n / 16)) (V := oV W (n / 16)) hq hqt hd hdt hs hk hv
          (B10 := fun r l => ∑ i ∈ Finset.range (n % 16), (if l < 512 * (i + 1) then gK Q D S K W (n / 16) i r l else 0))
          (B11 := fun r l => ∑ i ∈ Finset.range (n % 16), (if l < 512 * (i + 1) then gV Q D S K (n / 16) i r l else 0)) _ _ _ p8 p9 r l).trans ?_
        rw [ec, Finset.sum_range_succ]
end Backward
end Cert.Attn
-- ==== Proof.AttnArr.lean ====
/-
The three gradients the backward attention call writes, as arrays.
-/
module

public import proofs.«01_k».proof.Proof.AttnWin

@[expose] public section

set_option maxRecDepth 16384
set_option maxHeartbeats 1000000

noncomputable section
namespace Cert.Attn
open Idealize.ShloMosaic Idealize.ShloMosaic.TcCoe Idealize.ShloMosaic.Tactic
open Idealize.ShloMosaic.Pipeline (Dat)
open Cert.Kernel2Ideal Cert.Kernel2Ideal.Gen
open Cert.Core

section Backward
variable {V : (c : Dev nD) → (b : Ref sig .tc) → Buf (Elt Ideal) ((c : Thread nD τ).loc b)} {c : Dev nD} {Q D : ℕ → ℕ → ℝ} {S : ℕ → ℕ → ℕ → ℝ} {K W : ℕ → ℕ → ℝ}
  (hQ : ∀ (r : Fin 8192) (l : Fin 1536), V c main_v8 (ix2 r l) = ((Q r.val l.val : ℝ) : EReal))
  (hQT : ∀ (l : Fin 1536) (r : Fin 8192), V c main_v10 (ix2 l r) = ((Q r.val l.val : ℝ) : EReal))
  (hD : ∀ (r : Fin 8192) (l : Fin 768), V c main_v32 (ix2 r l) = ((D r.val l.val : ℝ) : EReal))
  (hDT : ∀ (l : Fin 768) (r : Fin 8192), V c main_v35 (ix2 l r) = ((D r.val l.val : ℝ) : EReal))
  (hS : ∀ (P : Fin 6) (r : Fin 8192) (l : Fin 128), V c main_v30 (ix3 P r l) = ((S P.val r.val l.val : ℝ) : EReal))
  (hK : ∀ (r : Fin 8192) (l : Fin 1536), V c main_v14 (ix2 r l) = ((K r.val l.val : ℝ) : EReal))
  (hW : ∀ (r : Fin 8192) (l : Fin 768), V c main_v17 (ix2 r l) = ((W r.val l.val : ℝ) : EReal))

include hQ hQT hD hDT hS hK hW

theorem dq_out (t : Fin cfg1.N) (y : Fin 512) (l : Fin 256) : (outsAt1 V c t.val t.isLt).1 (ix2 y l) = ((gQ Q D S K W (t.val / 16) (t.val % 16) y.val l.val : ℝ) : EReal) := by
  have hq : ∀ (r : Fin 512) (l : Fin 256), iblk1 V c 0 t (ix2 r l) = ((oQ Q (t.val / 16) (t.val % 16) r.val l.val : ℝ) : EReal) := fun r l => (blk1_0 V c t r l).trans (hQ _ _)
  have hqt : ∀ (l : Fin 256) (r : Fin 512), iblk1 V c 1 t (ix2 l r) = ((oQ Q (t.val / 16) (t.val % 16) r.val l.val : ℝ) : EReal) := fun l r => (blk1_1 V c t l r).trans (hQT _ _)
  have hd : ∀ (r : Fin 512) (l : Fin 128), iblk1 V c 2 t (ix2 r l) = ((oD D (t.val / 16) (t.val % 16) r.val l.val : ℝ) : EReal) := fun r l => (blk1_2 V c t r l).trans (hD _ _)
  have hdt : ∀ (l : Fin 128) (r : Fin 512), iblk1 V c 3 t (ix2 l r) = ((oD D (t.val / 16) (t.val % 16) r.val l.val : ℝ) : EReal) := fun l r => (blk1_3 V c t l r).trans (hDT _ _)
  have hs : ∀ (r : Fin 512) (l : Fin 128), iblk1 V c 4 t (ix3 0 r l) = ((oS S (t.val / 16) (t.val % 16) r.val l.val : ℝ) : EReal) := fun r l => (blk1_4 V c t r l).trans (hS _ _ _)
  have hk : ∀ (r : Fin 8192) (l : Fin 256), iblk1 V c 5 t (ix2 r l) = ((oK K (t.val / 16) r.val l.val : ℝ) : EReal) := fun r l => (blk1_5 V c t r l).trans (hK _ _)
  have hv : ∀ (r : Fin 8192) (l : Fin 128), iblk1 V c 6 t (ix2 r l) = ((oV W (t.val / 16) r.val l.val : ℝ) : EReal) := fun r l => (blk1_6 V c t r l).trans (hW _ _)
  have ec := coord1 t
  by_cases h0 : t.val % 16 = 0
  · refine (congrFun (congrArg (fun x => x.1) (outsAt1_A V c t h0)) _).trans ?_
    dsimp only
    refine (outA_7 c _ _ _ _ _ _ _ _ _ _ _ _ _ _ _ _ _ _ _ _ _ _ _ _ _ _ _ _
        (Q := oQ Q (t.val / 16) (t.val % 16)) (QT := fun l r => oQ Q (t.val / 16) (t.val % 16) r l) (D := oD D (t.val / 16) (t.val % 16)) (DT := fun l r => oD D (t.val / 16) (t.val % 16) r l)
        (S := oS S (t.val / 16) (t.val % 16)) (K := oK K (t.val / 16)) (V := oV W (t.val / 16)) hq hqt hd hdt hs hk hv _ y l).trans ?_
    rw [ec]
  · refine (congrFun (congrArg (fun x => x.1) (outsAt1_B V c t h0)) _).trans ?_
    dsimp only
    obtain ⟨p8, p9⟩ := acc_all hQ hQT hD hDT hS hK hW (t.val - 1) (Nat.lt_of_le_of_lt (Nat.sub_le _ _) t.isLt)
    refine (outB_7 c _ _ _ _ _ _ _ _ _ _ _ _ _ _ _ _ _ _ _ _ _ _ _ _ _ _ _ _
        (Q := oQ Q (t.val / 16) (t.val % 16)) (QT := fun l r => oQ Q (t.val / 16) (t.val % 16) r l) (D := oD D (t.val / 16) (t.val % 16)) (DT := fun l r => oD D (t.val / 16) (t.val % 16) r l)
        (S := oS S (t.val / 16) (t.val % 16)) (K := oK K (t.val / 16)) (V := oV W (t.val / 16)) hq hqt hd hdt hs hk hv
        (B10 := fun r l => ∑ i ∈ Finset.range ((t.val - 1) % 16 + 1), (if l < 512 * (i + 1) then gK Q D S K W ((t.val - 1) / 16) i r l else 0))
        (B11 := fun r l => ∑ i ∈ Finset.range ((t.val - 1) % 16 + 1), (if l < 512 * (i + 1) then gV Q D S K ((t.val - 1) / 16) i r l else 0)) _ _ _ p8 p9 y l).trans ?_
    rw [ec]

theorem dq_arr : (dat1 V c).arrAt 7 cfg1.N = fun i : S8192x1536.Idx => ((gQ Q D S K W ((i 1).val / 256) ((i 0).val / 512) ((i 0).val % 512) ((i 1).val % 256) : ℝ) : EReal) := by
  refine (dat1 V c).arrAt_eq_of_covers 7 _ (by decide +kernel) fun t hf y => ?_
  blk_simp
  rw [after1_7, (idx1 t).2.2.2.2.2.2.2.1]
  refine (congrArg _ (eq_ix2 y)).trans ((dq_out hQ hQT hD hDT hS hK hW t (y 0) (y 1)).trans ?_)
  have y0 : (y 0).val < 512 := (y 0).isLt
  have y1 : (y 1).val < 256 := (y 1).isLt
  have e1 : (t.val % 16 * 512 + (y 0).val) / 512 = t.val % 16 := by omega
  have e2 : (t.val % 16 * 512 + (y 0).val) % 512 = (y 0).val := by omega
  have e3 : (t.val / 16 * 256 + (y 1).val) / 256 = t.val / 16 := by omega
  have e4 : (t.val / 16 * 256 + (y 1).val) % 256 = (y 1).val := by omega
  show _ = ((gQ Q D S K W ((t.val / 16 * 256 + (y 1).val) / 256) ((t.val % 16 * 512 + (y 0).val) / 512) ((t.val % 16 * 512 + (y 0).val) % 512) ((t.val / 16 * 256 + (y 1).val) % 256) : ℝ) : EReal)
  rw [e1, e2, e3, e4]

theorem dk_arr : (dat1 V c).arrAt 8 cfg1.N = fun i : S1536x8192.Idx =>
    ((∑ j ∈ Finset.range 16, (if (i 1).val < 512 * (j + 1) then gK Q D S K W ((i 0).val / 256) j ((i 0).val % 256) (i 1).val else 0) : ℝ) : EReal) := by
  refine (dat1 V c).arrAt_eq_of_covers 8 _ (by decide +kernel) fun t hf y => ?_
  blk_simp
  rw [after1_8, (idx1 t).2.2.2.2.2.2.2.2.1]
  have ht : t.val % 16 = 15 := (flush1_8 t).mp hf
  have y0 : (y 0).val < 256 := (y 0).isLt
  refine (congrArg _ (eq_ix2 y)).trans (((acc_all hQ hQT hD hDT hS hK hW t.val t.isLt).1 (y 0) (y 1)).trans ?_)
  have e3 : (t.val / 16 * 256 + (y 0).val) / 256 = t.val / 16 := by omega
  have e4 : (t.val / 16 * 256 + (y 0).val) % 256 = (y 0).val := by omega
  show _ = ((∑ j ∈ Finset.range 16, (if 0 * 8192 + (y 1).val < 512 * (j + 1) then gK Q D S K W ((t.val / 16 * 256 + (y 0).val) / 256) j ((t.val / 16 * 256 + (y 0).val) % 256) (0 * 8192 + (y 1).val) else 0) : ℝ) : EReal)
  rw [e3, e4, Nat.zero_mul, Nat.zero_add, ht]

theorem dv_arr : (dat1 V c).arrAt 9 cfg1.N = fun i : S768x8192.Idx =>
    ((∑ j ∈ Finset.range 16, (if (i 1).val < 512 * (j + 1) then gV Q D S K ((i 0).val / 128) j ((i 0).val % 128) (i 1).val else 0) : ℝ) : EReal) := by
  refine (dat1 V c).arrAt_eq_of_covers 9 _ (by decide +kernel) fun t hf y => ?_
  blk_simp
  rw [after1_9, (idx1 t).2.2.2.2.2.2.2.2.2]
  have ht : t.val % 16 = 15 := (flush1_9 t).mp hf
  have y0 : (y 0).val < 128 := (y 0).isLt
  refine (congrArg _ (eq_ix2 y)).trans (((acc_all hQ hQT hD hDT hS hK hW t.val t.isLt).2 (y 0) (y 1)).trans ?_)
  have e3 : (t.val / 16 * 128 + (y 0).val) / 128 = t.val / 16 := by omega
  have e4 : (t.val / 16 * 128 + (y 0).val) % 128 = (y 0).val := by omega
  show _ = ((∑ j ∈ Finset.range 16, (if 0 * 8192 + (y 1).val < 512 * (j + 1) then gV Q D S K ((t.val / 16 * 128 + (y 0).val) / 128) j ((t.val / 16 * 128 + (y 0).val) % 128) (0 * 8192 + (y 1).val) else 0) : ℝ) : EReal)
  rw [e3, e4, Nat.zero_mul, Nat.zero_add, ht]
end Backward
end Cert.Attn
-- ==== Proof.AttnHost.lean ====
/-
The host operations around the two attention calls, read at an index over the real numbers the argument arrays hold.
-/
module

public import proofs.«01_k».proof.Proof.AttnArr
public import Idealize.ShloMosaic.Lib.StableHlo.ReadAt

@[expose] public section

set_option maxRecDepth 16384
set_option maxHeartbeats 1000000

noncomputable section
namespace Cert.Attn
open Idealize.ShloMosaic Idealize.ShloMosaic.TcCoe Idealize.ShloMosaic.Tactic
open Idealize.ShloMosaic.Pipeline (Dat)
open Cert.Kernel2Ideal Cert.Kernel2Ideal.Gen
open Cert.Core

theorem bits_96 : Ideal.ofBits .f32 0x42C00000#32 = ((96 : ℝ) : EReal) := by
  simp [Ideal.ofBits, Ideal.ieee, -EReal.coe_mul]; norm_num

theorem sqrt_real {x : ℝ} (h : 0 ≤ x) : Ideal.sqrt (x : EReal) = ((√x : ℝ) : EReal) := by
  show (if x < 0 then (⊥ : EReal) else ((√x : ℝ) : EReal)) = _
  rw [if_neg (not_lt.mpr h)]

theorem log_two_ne : Real.log 2 ≠ 0 := (Real.log_pos one_lt_two).ne'

theorem sqrt_96_ne : √(96 : ℝ) ≠ 0 := (Real.sqrt_pos.mpr (by norm_num)).ne'

theorem sitofp_zero : (FloatOps.sitofp .f32 (0#32) : Ideal .f32) = ((0 : ℝ) : EReal) := by
  show (((0#32 : BitVec 32).toInt : ℝ) : EReal) = _
  simp

section Ops
variable (V : Valuation τ sig (Elt Ideal))

theorem log2_at (i) : StableHlo.after (hostOps0 (F := Ideal)) V (Proc.devRef .tc main_v0) i = ((Real.log 2 : ℝ) : EReal) := by
  after_reads_at
  rw [bits_two, log_real (by norm_num)]

theorem flat_q (r : Fin 8192) (h : Fin 12) (l : Fin 96) :
    StableHlo.after (hostOps0 (F := Ideal)) V (Proc.devRef .tc main_v1) (ix3 r h l) = (V (Proc.devRef .tc main_arg0) (ix4 0 r h l) : EReal) := by
  after_reads_at

theorem zero_q : StableHlo.after (hostOps0 (F := Ideal)) V (Proc.devRef .tc main_c) = constantI S_ 32 0#32 := by
  after_reads_simp

variable {V}
theorem pad_q {a : ℕ → ℕ → ℕ → ℝ} (hx : ∀ (r : Fin 8192) (h : Fin 12) (l : Fin 96), V (Proc.devRef .tc main_v1) (ix3 r h l) = ((a r.val h.val l.val : ℝ) : EReal))
    (hz : V (Proc.devRef .tc main_c) = constantI S_ 32 0#32) (r : Fin 8192) (h : Fin 12) (l : Fin 128) :
    StableHlo.after (hostOps0_1 (F := Ideal)) V (Proc.devRef .tc main_v2) (ix3 r h l) = ((if l.val < 96 then a r.val h.val l.val else 0 : ℝ) : EReal) := by
  after_reads_at
  split
  · exact hx r h _
  · rw [hz]; pointwise; exact sitofp_zero
theorem pad_k {a : ℕ → ℕ → ℕ → ℝ} (hx : ∀ (r : Fin 8192) (h : Fin 12) (l : Fin 96), V (Proc.devRef .tc main_v11) (ix3 r h l) = ((a r.val h.val l.val : ℝ) : EReal))
    (hz : V (Proc.devRef .tc main_c_1) = constantI S_ 32 0#32) (r : Fin 8192) (h : Fin 12) (l : Fin 128) :
    StableHlo.after (hostOps0_3 (F := Ideal)) V (Proc.devRef .tc main_v12) (ix3 r h l) = ((if l.val < 96 then a r.val h.val l.val else 0 : ℝ) : EReal) := by
  after_reads_at
  split
  · exact hx r h _
  · rw [hz]; pointwise; exact sitofp_zero

/-- The queries as the calls take them: padded to 128 lanes a head and scaled. -/
def qm (a : ℕ → ℕ → ℕ → ℝ) (r l : ℕ) : ℝ := (if l % 128 < 96 then a r (l / 128) (l % 128) else 0) / (√96 * Real.log 2)
/-- The keys as the calls take them: padded to 128 lanes a head. -/
def km (a : ℕ → ℕ → ℕ → ℝ) (r l : ℕ) : ℝ := if l % 128 < 96 then a r (l / 128) (l % 128) else 0
/-- The values as the calls take them. -/
def vm (a : ℕ → ℕ → ℕ → ℝ) (r l : ℕ) : ℝ := a r (l / 64) (l % 64)

theorem scale_q {a : ℕ → ℕ → ℕ → ℝ} (hx : ∀ (r : Fin 8192) (h : Fin 12) (l : Fin 128), V (Proc.devRef .tc main_v2) (ix3 r h l) = ((if l.val < 96 then a r.val h.val l.val else 0 : ℝ) : EReal))
    (hl : ∀ i, V (Proc.devRef .tc main_v0) i = ((Real.log 2 : ℝ) : EReal)) (r : Fin 8192) (l : Fin 1536) :
    StableHlo.after (hostOps0_2 (F := Ideal)) V (Proc.devRef .tc main_v8) (ix2 r l) = ((qm a r.val l.val : ℝ) : EReal) := by
  after_reads_at
  rw [hx, hl, bits_96, sqrt_real (by norm_num), ← EReal.coe_mul, div_real _ (mul_ne_zero sqrt_96_ne log_two_ne)]
  rfl
theorem scale_qt {a : ℕ → ℕ → ℕ → ℝ} (hx : ∀ (r : Fin 8192) (h : Fin 12) (l : Fin 128), V (Proc.devRef .tc main_v2) (ix3 r h l) = ((if l.val < 96 then a r.val h.val l.val else 0 : ℝ) : EReal))
    (hl : ∀ i, V (Proc.devRef .tc main_v0) i = ((Real.log 2 : ℝ) : EReal)) (l : Fin 1536) (r : Fin 8192) :
    StableHlo.after (hostOps0_2 (F := Ideal)) V (Proc.devRef .tc main_v10) (ix2 l r) = ((qm a r.val l.val : ℝ) : EReal) := by
  after_reads_at
  rw [hx, hl, bits_96, sqrt_real (by norm_num), ← EReal.coe_mul, div_real _ (mul_ne_zero sqrt_96_ne log_two_ne)]
  rfl
theorem flat_k (V : Valuation τ sig (Elt Ideal)) (r : Fin 8192) (h : Fin 12) (l : Fin 96) :
    StableHlo.after (hostOps0_2 (F := Ideal)) V (Proc.devRef .tc main_v11) (ix3 r h l) = (V (Proc.devRef .tc main_arg1) (ix4 0 r h l) : EReal) := by
  after_reads_at
theorem zero_k (V : Valuation τ sig (Elt Ideal)) : StableHlo.after (hostOps0_2 (F := Ideal)) V (Proc.devRef .tc main_c_1) = constantI S_ 32 0#32 := by
  after_reads_simp
theorem lay_k {a : ℕ → ℕ → ℕ → ℝ} (hx : ∀ (r : Fin 8192) (h : Fin 12) (l : Fin 128), V (Proc.devRef .tc main_v12) (ix3 r h l) = ((if l.val < 96 then a r.val h.val l.val else 0 : ℝ) : EReal))
    (r : Fin 8192) (l : Fin 1536) :
    StableHlo.after (hostOps0_4 (F := Ideal)) V (Proc.devRef .tc main_v14) (ix2 r l) = ((km a r.val l.val : ℝ) : EReal) := by
  after_reads_at
  exact hx _ _ _
theorem lay_v {a : ℕ → ℕ → ℕ → ℝ} (hx : ∀ (r : Fin 8192) (h : Fin 12) (l : Fin 64), V (Proc.devRef .tc main_arg2) (ix4 0 r h l) = ((a r.val h.val l.val : ℝ) : EReal))
    (r : Fin 8192) (l : Fin 768) :
    StableHlo.after (hostOps0_4 (F := Ideal)) V (Proc.devRef .tc main_v17) (ix2 r l) = ((vm a r.val l.val : ℝ) : EReal) := by
  after_reads_at
  exact hx _ _ _
theorem lay_vt {a : ℕ → ℕ → ℕ → ℝ} (hx : ∀ (r : Fin 8192) (h : Fin 12) (l : Fin 64), V (Proc.devRef .tc main_arg2) (ix4 0 r h l) = ((a r.val h.val l.val : ℝ) : EReal))
    (l : Fin 768) (r : Fin 8192) :
    StableHlo.after (hostOps0_4 (F := Ideal)) V (Proc.devRef .tc main_v19) (ix2 l r) = ((vm a r.val l.val : ℝ) : EReal) := by
  after_reads_at
  exact hx _ _ _

/-! Between the calls -/

theorem lay_do {g : ℕ → ℕ → ℝ} (hx : ∀ (r : Fin 8192) (l : Fin 768), V (Proc.devRef .tc main_arg3) (ix3 0 r l) = ((g r.val l.val : ℝ) : EReal))
    (r : Fin 8192) (l : Fin 768) :
    StableHlo.after (hostOps1 (F := Ideal)) V (Proc.devRef .tc main_v32) (ix2 r l) = ((g r.val l.val : ℝ) : EReal) := by
  after_reads_at
  exact hx _ _
theorem lay_dot {g : ℕ → ℕ → ℝ} (hx : ∀ (r : Fin 8192) (l : Fin 768), V (Proc.devRef .tc main_arg3) (ix3 0 r l) = ((g r.val l.val : ℝ) : EReal))
    (l : Fin 768) (r : Fin 8192) :
    StableHlo.after (hostOps1 (F := Ideal)) V (Proc.devRef .tc main_v35) (ix2 l r) = ((g r.val l.val : ℝ) : EReal) := by
  after_reads_at
  exact hx _ _

/-- The statistics of one query row of a head pair: each head's log of the softmax sum, then each head's product of the token with its cotangent. -/
def sm (g t e : ℕ → ℕ → ℝ) (P r l : ℕ) : ℝ :=
  if l < 2 then e r (P * 128 + l * 64) else if l < 4 then ∑ d : Fin 64, g r (P * 128 + (l - 2) * 64 + d) * t r (P * 128 + (l - 2) * 64 + d) else 0

theorem sm_0 {g t e : ℕ → ℕ → ℝ} {P r l : ℕ} (h : l < 2) : sm g t e P r l = e r (P * 128 + l * 64) := if_pos h
theorem sm_1 {g t e : ℕ → ℕ → ℝ} {P r l : ℕ} (h : ¬ l < 2) (h' : l - 2 < 2) :
    sm g t e P r l = ∑ d : Fin 64, g r (P * 128 + (l - 2) * 64 + d) * t r (P * 128 + (l - 2) * 64 + d) :=
  (if_neg h).trans (if_pos (by omega))
theorem sm_2 {g t e : ℕ → ℕ → ℝ} {P r l : ℕ} (h : ¬ l < 2) (h' : ¬ l - 2 < 2) : sm g t e P r l = 0 :=
  (if_neg h).trans (if_neg (by omega))

theorem sum_two {x y : Fin 64 → EReal} {a b : Fin 64 → ℝ} (hx : ∀ d, x d = ((a d : ℝ) : EReal)) (hy : ∀ d, y d = ((b d : ℝ) : EReal)) :
    ∑ d, x d * y d = ((∑ d, a d * b d : ℝ) : EReal) := by
  simp only [hx, hy, ← EReal.coe_mul, coe_sum]

theorem lay_stats {g t e : ℕ → ℕ → ℝ} (hx : ∀ (r : Fin 8192) (l : Fin 768), V (Proc.devRef .tc main_arg3) (ix3 0 r l) = ((g r.val l.val : ℝ) : EReal))
    (ht : ∀ (r : Fin 8192) (l : Fin 768), V (Proc.devRef .tc main_v20_0) (ix2 r l) = ((t r.val l.val : ℝ) : EReal))
    (he : ∀ (r : Fin 8192) (l : Fin 768), V (Proc.devRef .tc main_v20_1) (ix2 r l) = ((e r.val l.val : ℝ) : EReal))
    (P : Fin 6) (r : Fin 8192) (l : Fin 128) :
    StableHlo.after (hostOps1 (F := Ideal)) V (Proc.devRef .tc main_v30) (ix3 P r l) = ((sm g t e P.val r.val l.val : ℝ) : EReal) := by
  after_reads_at
  split
  · after_reads_at
    exact (he _ _).trans (congrArg Real.toEReal (sm_0 ‹_›).symm)
  split
  · after_reads_at
    exact (sum_two (fun d => hx r _) (fun d => ht r _)).trans (congrArg Real.toEReal (sm_1 ‹_› ‹_›).symm)
  · after_reads_at
    exact EReal.coe_zero.symm.trans (congrArg Real.toEReal (sm_2 ‹_› ‹_›).symm)

/-! After the calls -/
theorem out_tok {t : ℕ → ℕ → ℝ} (ht : ∀ (r : Fin 8192) (l : Fin 768), V (Proc.devRef .tc main_v20_0) (ix2 r l) = ((t r.val l.val : ℝ) : EReal))
    (r : Fin 8192) (l : Fin 768) :
    StableHlo.after (hostOps2 (F := Ideal)) V (Proc.devRef .tc main_v37) (ix3 0 r l) = ((t r.val l.val : ℝ) : EReal) := by
  after_reads_at
  exact ht _ _
theorem out_dq {t : ℕ → ℕ → ℝ} (ht : ∀ (r : Fin 8192) (l : Fin 1536), V (Proc.devRef .tc main_v36_0) (ix2 r l) = ((t r.val l.val : ℝ) : EReal))
    (r : Fin 8192) (h : Fin 12) (l : Fin 96) :
    StableHlo.after (hostOps2 (F := Ideal)) V (Proc.devRef .tc main_v40) (ix4 0 r h l) = ((t r.val (h.val * 128 + l.val) : ℝ) : EReal) := by
  after_reads_at
  exact ht _ _
theorem out_dk {t : ℕ → ℕ → ℝ} (ht : ∀ (l : Fin 1536) (r : Fin 8192), V (Proc.devRef .tc main_v36_1) (ix2 l r) = ((t l.val r.val : ℝ) : EReal))
    (hl : ∀ i, V (Proc.devRef .tc main_v0) i = ((Real.log 2 : ℝ) : EReal)) (r : Fin 8192) (h : Fin 12) (l : Fin 96) :
    StableHlo.after (hostOps2 (F := Ideal)) V (Proc.devRef .tc main_v46) (ix4 0 r h l) = ((t (h.val * 128 + l.val) r.val * Real.log 2 : ℝ) : EReal) := by
  after_reads_at
  rw [ht, hl, ← EReal.coe_mul]
theorem out_dv {t : ℕ → ℕ → ℝ} (ht : ∀ (l : Fin 768) (r : Fin 8192), V (Proc.devRef .tc main_v36_2) (ix2 l r) = ((t l.val r.val : ℝ) : EReal))
    (r : Fin 8192) (h : Fin 12) (l : Fin 64) :
    StableHlo.after (hostOps2 (F := Ideal)) V (Proc.devRef .tc main_v48) (ix4 0 r h l) = ((t (h.val * 64 + l.val) r.val : ℝ) : EReal) := by
  after_reads_at
  exact ht _ _
end Ops

section Launch
variable {m : (ℓ : Loc nD τ sig) → Buf (Elt Ideal) ℓ} {ρ : Dev nD → PrngReg} {c : Dev nD} {q k v : ℕ → ℕ → ℕ → ℝ} {g : ℕ → ℕ → ℝ}

/-- The four argument arrays hold real numbers. -/
structure Holds (m : (ℓ : Loc nD τ sig) → Buf (Elt Ideal) ℓ) (c : Dev nD) (q k v : ℕ → ℕ → ℕ → ℝ) (g : ℕ → ℕ → ℝ) : Prop where
  q : ∀ (r : Fin 8192) (h : Fin 12) (l : Fin 96), m ((c.tc : Thread nD τ).loc main_arg0) (ix4 0 r h l) = ((q r.val h.val l.val : ℝ) : EReal)
  k : ∀ (r : Fin 8192) (h : Fin 12) (l : Fin 96), m ((c.tc : Thread nD τ).loc main_arg1) (ix4 0 r h l) = ((k r.val h.val l.val : ℝ) : EReal)
  v : ∀ (r : Fin 8192) (h : Fin 12) (l : Fin 64), m ((c.tc : Thread nD τ).loc main_arg2) (ix4 0 r h l) = ((v r.val h.val l.val : ℝ) : EReal)
  g : ∀ (r : Fin 8192) (l : Fin 768), m ((c.tc : Thread nD τ).loc main_arg3) (ix3 0 r l) = ((g r.val l.val : ℝ) : EReal)

theorem mem_args (a : Ref sig .tc) (h : a = main_arg0 ∨ a = main_arg1 ∨ a = main_arg2 ∨ a = main_arg3) : a ∈ argRefs := by
  rcases h with rfl | rfl | rfl | rfl <;> decide

variable (H : Holds m c q k v g)
include H

theorem v2_at (r : Fin 8192) (h : Fin 12) (l : Fin 128) :
    W2 m ρ c (Proc.devRef .tc main_v2) (ix3 r h l) = ((if l.val < 96 then q r.val h.val l.val else 0 : ℝ) : EReal) :=
  pad_q (V := W1 m ρ c) (fun r h l => (flat_q (W0 m ρ c) r h l).trans ((congrFun (W0_args m ρ c main_arg0 (mem_args _ (by simp))) _).trans (H.q r h l)))
    (zero_q (W0 m ρ c)) r h l

omit H in
theorem v0_at (i) : W2 m ρ c (Proc.devRef .tc main_v0) i = ((Real.log 2 : ℝ) : EReal) :=
  (congrFun (W2_of m ρ c main_v0 (by decide)) i).trans (log2_at (W0 m ρ c) i)

theorem v12_at (r : Fin 8192) (h : Fin 12) (l : Fin 128) :
    W4 m ρ c (Proc.devRef .tc main_v12) (ix3 r h l) = ((if l.val < 96 then k r.val h.val l.val else 0 : ℝ) : EReal) :=
  pad_k (V := W3 m ρ c) (fun r h l => (flat_k (W2 m ρ c) r h l).trans ((congrFun (W2_args m ρ c main_arg1 (mem_args _ (by simp))) _).trans (H.k r h l)))
    (zero_k (W2 m ρ c)) r h l

theorem v8_at (r : Fin 8192) (l : Fin 1536) : V5 m ρ c main_v8 (ix2 r l) = ((qm q r.val l.val : ℝ) : EReal) :=
  (congrFun (W5_of m ρ c main_v8 (by decide)) _).trans ((congrFun (W4_of m ρ c main_v8 (by decide)) _).trans
    (scale_q (V := W2 m ρ c) (v2_at H) v0_at r l))

theorem v10_at (l : Fin 1536) (r : Fin 8192) : V5 m ρ c main_v10 (ix2 l r) = ((qm q r.val l.val : ℝ) : EReal) :=
  (congrFun (W5_of m ρ c main_v10 (by decide)) _).trans ((congrFun (W4_of m ρ c main_v10 (by decide)) _).trans
    (scale_qt (V := W2 m ρ c) (v2_at H) v0_at l r))

theorem v14_at (r : Fin 8192) (l : Fin 1536) : V5 m ρ c main_v14 (ix2 r l) = ((km k r.val l.val : ℝ) : EReal) :=
  lay_k (V := W4 m ρ c) (v12_at H) r l

theorem v17_at (r : Fin 8192) (l : Fin 768) : V5 m ρ c main_v17 (ix2 r l) = ((vm v r.val l.val : ℝ) : EReal) :=
  lay_v (V := W4 m ρ c) (fun r h l => (congrFun (W4_args m ρ c main_arg2 (mem_args _ (by simp))) _).trans (H.v r h l)) r l

theorem v19_at (l : Fin 768) (r : Fin 8192) : V5 m ρ c main_v19 (ix2 l r) = ((vm v r.val l.val : ℝ) : EReal) :=
  lay_vt (V := W4 m ρ c) (fun r h l => (congrFun (W4_args m ρ c main_arg2 (mem_args _ (by simp))) _).trans (H.v r h l)) l r

/-! The forward call's results -/

/-- The tokens. -/
abbrev tM (q k v : ℕ → ℕ → ℕ → ℝ) : ℕ → ℕ → ℝ := tokM (qm q) (km k) (vm v)
/-- The logs of the softmax sums. -/
abbrev eM (q k : ℕ → ℕ → ℕ → ℝ) : ℕ → ℕ → ℝ := lseM (qm q) (km k)

theorem tok_at (r : Fin 8192) (l : Fin 768) : W6 m ρ c (Proc.devRef .tc main_v20_0) (ix2 r l) = ((tM q k v r.val l.val : ℝ) : EReal) :=
  (congrFun (W6_arr m ρ c 3) _).trans (congrFun (tok_arr (V := V5 m ρ) (v8_at H) (v14_at H) (v19_at H)) (ix2 r l))

theorem lse_at (r : Fin 8192) (l : Fin 768) : W6 m ρ c (Proc.devRef .tc main_v20_1) (ix2 r l) = ((eM q k r.val l.val : ℝ) : EReal) :=
  (congrFun (W6_arr m ρ c 4) _).trans (congrFun (lse_arr (V := V5 m ρ) (v8_at H) (v14_at H) (v19_at H)) (ix2 r l))

/-! What the backward call is entered with -/

omit H in
theorem keep7 (r : Ref sig .tc) (h7 : r ∉ hostOps1_W) (h6 : ∀ w : Fin cfg0.W, Pipeline.arrRef spec0 w = r → (cfg0.win w).isOut = false) :
    V7 m ρ c r = V5 m ρ c r := (W7_of m ρ c r h7).trans (W6_of m ρ c r h6)

theorem v8_at' (r : Fin 8192) (l : Fin 1536) : V7 m ρ c main_v8 (ix2 r l) = ((qm q r.val l.val : ℝ) : EReal) :=
  (congrFun (keep7 main_v8 (by decide) (by decide)) _).trans (v8_at H r l)
theorem v10_at' (l : Fin 1536) (r : Fin 8192) : V7 m ρ c main_v10 (ix2 l r) = ((qm q r.val l.val : ℝ) : EReal) :=
  (congrFun (keep7 main_v10 (by decide) (by decide)) _).trans (v10_at H l r)
theorem v14_at' (r : Fin 8192) (l : Fin 1536) : V7 m ρ c main_v14 (ix2 r l) = ((km k r.val l.val : ℝ) : EReal) :=
  (congrFun (keep7 main_v14 (by decide) (by decide)) _).trans (v14_at H r l)
theorem v17_at' (r : Fin 8192) (l : Fin 768) : V7 m ρ c main_v17 (ix2 r l) = ((vm v r.val l.val : ℝ) : EReal) :=
  (congrFun (keep7 main_v17 (by decide) (by decide)) _).trans (v17_at H r l)

theorem g_at (r : Fin 8192) (l : Fin 768) : W6 m ρ c (Proc.devRef .tc main_arg3) (ix3 0 r l) = ((g r.val l.val : ℝ) : EReal) :=
  (congrFun (W6_args m ρ c main_arg3 (mem_args _ (by simp))) _).trans (H.g r l)

theorem v32_at (r : Fin 8192) (l : Fin 768) : V7 m ρ c main_v32 (ix2 r l) = ((g r.val l.val : ℝ) : EReal) :=
  lay_do (V := W6 m ρ c) (g_at H) r l
theorem v35_at (l : Fin 768) (r : Fin 8192) : V7 m ρ c main_v35 (ix2 l r) = ((g r.val l.val : ℝ) : EReal) :=
  lay_dot (V := W6 m ρ c) (g_at H) l r

/-- The statistics. -/
abbrev sM (q k v : ℕ → ℕ → ℕ → ℝ) (g : ℕ → ℕ → ℝ) : ℕ → ℕ → ℕ → ℝ := sm g (tM q k v) (eM q k)

theorem v30_at (P : Fin 6) (r : Fin 8192) (l : Fin 128) : V7 m ρ c main_v30 (ix3 P r l) = ((sM q k v g P.val r.val l.val : ℝ) : EReal) :=
  lay_stats (V := W6 m ρ c) (g_at H) (tok_at H) (lse_at H) P r l

/-! The results -/

/-- The query gradient, laid out as the call writes it. -/
def dqM (q k v : ℕ → ℕ → ℕ → ℝ) (g : ℕ → ℕ → ℝ) (r l : ℕ) : ℝ :=
  gQ (qm q) g (sM q k v g) (km k) (vm v) (l / 256) (r / 512) (r % 512) (l % 256)
/-- The key gradient, laid out as the call writes it. -/
def dkM (q k v : ℕ → ℕ → ℕ → ℝ) (g : ℕ → ℕ → ℝ) (l κ : ℕ) : ℝ :=
  ∑ j ∈ Finset.range 16, if κ < 512 * (j + 1) then gK (qm q) g (sM q k v g) (km k) (vm v) (l / 256) j (l % 256) κ else 0
/-- The value gradient, laid out as the call writes it. -/
def dvM (q k v : ℕ → ℕ → ℕ → ℝ) (g : ℕ → ℕ → ℝ) (l κ : ℕ) : ℝ :=
  ∑ j ∈ Finset.range 16, if κ < 512 * (j + 1) then gV (qm q) g (sM q k v g) (km k) (l / 128) j (l % 128) κ else 0

theorem dq_at (r : Fin 8192) (l : Fin 1536) : W8 m ρ c (Proc.devRef .tc main_v36_0) (ix2 r l) = ((dqM q k v g r.val l.val : ℝ) : EReal) :=
  (congrFun (W8_arr m ρ c 7) _).trans (congrFun (dq_arr (V := V7 m ρ) (v8_at' H) (v10_at' H) (v32_at H) (v35_at H) (v30_at H) (v14_at' H) (v17_at' H)) (ix2 r l))
theorem dk_at (l : Fin 1536) (κ : Fin 8192) : W8 m ρ c (Proc.devRef .tc main_v36_1) (ix2 l κ) = ((dkM q k v g l.val κ.val : ℝ) : EReal) :=
  (congrFun (W8_arr m ρ c 8) _).trans (congrFun (dk_arr (V := V7 m ρ) (v8_at' H) (v10_at' H) (v32_at H) (v35_at H) (v30_at H) (v14_at' H) (v17_at' H)) (ix2 l κ))
theorem dv_at (l : Fin 768) (κ : Fin 8192) : W8 m ρ c (Proc.devRef .tc main_v36_2) (ix2 l κ) = ((dvM q k v g l.val κ.val : ℝ) : EReal) :=
  (congrFun (W8_arr m ρ c 9) _).trans (congrFun (dv_arr (V := V7 m ρ) (v8_at' H) (v10_at' H) (v32_at H) (v35_at H) (v30_at H) (v14_at' H) (v17_at' H)) (ix2 l κ))

omit H in
theorem keep8 (r : Ref sig .tc) (h7 : ∀ w : Fin cfg1.W, Pipeline.arrRef spec1 w = r → (cfg1.win w).isOut = false) (h1 : r ∉ hostOps1_W) :
    W8 m ρ c (Proc.devRef .tc r) = W6 m ρ c (Proc.devRef .tc r) := (W8_of m ρ c r h7).trans (W7_of m ρ c r h1)

theorem res0 (r : Fin 8192) (l : Fin 768) : W9 m ρ c (Proc.devRef .tc main_v37) (ix3 0 r l) = ((tM q k v r.val l.val : ℝ) : EReal) :=
  out_tok (V := W8 m ρ c) (fun r l => (congrFun (keep8 main_v20_0 (by decide) (by decide)) _).trans (tok_at H r l)) r l
theorem res1 (r : Fin 8192) (h : Fin 12) (l : Fin 96) :
    W9 m ρ c (Proc.devRef .tc main_v40) (ix4 0 r h l) = ((dqM q k v g r.val (h.val * 128 + l.val) : ℝ) : EReal) :=
  out_dq (V := W8 m ρ c) (dq_at H) r h l
theorem res2 (r : Fin 8192) (h : Fin 12) (l : Fin 96) :
    W9 m ρ c (Proc.devRef .tc main_v46) (ix4 0 r h l) = ((dkM q k v g (h.val * 128 + l.val) r.val * Real.log 2 : ℝ) : EReal) :=
  out_dk (V := W8 m ρ c) (dk_at H) (fun i => (congrFun ((keep8 main_v0 (by decide) (by decide)).trans ((W6_of m ρ c main_v0 (by decide)).trans
    ((W5_of m ρ c main_v0 (by decide)).trans ((W4_of m ρ c main_v0 (by decide)).trans (W3_of m ρ c main_v0 (by decide)))))) i).trans (v0_at i)) r h l
theorem res3 (r : Fin 8192) (h : Fin 12) (l : Fin 64) :
    W9 m ρ c (Proc.devRef .tc main_v48) (ix4 0 r h l) = ((dvM q k v g (h.val * 64 + l.val) r.val : ℝ) : EReal) :=
  out_dv (V := W8 m ρ c) (dv_at H) r h l
end Launch
end Cert.Attn
-- ==== Proof.AttnRef.lean ====
/-
The attention reference's stages at arguments that hold real numbers.
-/
module

public import proofs.«01_k».proof.Proof.AttnHost
public import proofs.«01_k».proof.Proof.RefFwd
public import proofs.«01_k».proof.Proof.Gen.Reference2Ideal.Read

@[expose] public section

set_option maxRecDepth 16384
set_option maxHeartbeats 1000000

noncomputable section

open Idealize.ShloMosaic Idealize.SL.Sem
open Cert.Reference2Ideal Cert.Reference2Ideal.Gen Cert.Reference2Ideal.Read

namespace Cert.AttnRef

open Cert.Core Cert.Attn

/-- The arguments hold real numbers. -/
structure Reads (x0 x1 : (⟨S1x8192x12x96, .f32⟩ : BufTy).Contents (Elt Ideal)) (x2 : (⟨S1x8192x12x64, .f32⟩ : BufTy).Contents (Elt Ideal))
    (x3 : (⟨S1x8192x768, .f32⟩ : BufTy).Contents (Elt Ideal)) (q k v : ℕ → ℕ → ℕ → ℝ) (g : ℕ → ℕ → ℝ) : Prop where
  q : ∀ (r : Fin 8192) (h : Fin 12) (l : Fin 96), x0 (ix4 (0 : Fin 1) r h l) = ((q r.val h.val l.val : ℝ) : EReal)
  k : ∀ (r : Fin 8192) (h : Fin 12) (l : Fin 96), x1 (ix4 (0 : Fin 1) r h l) = ((k r.val h.val l.val : ℝ) : EReal)
  v : ∀ (r : Fin 8192) (h : Fin 12) (l : Fin 64), x2 (ix4 (0 : Fin 1) r h l) = ((v r.val h.val l.val : ℝ) : EReal)
  g : ∀ (r : Fin 8192) (l : Fin 768), x3 (ix3 (0 : Fin 1) r l) = ((g r.val l.val : ℝ) : EReal)

section
variable {x0 x1 : (⟨S1x8192x12x96, .f32⟩ : BufTy).Contents (Elt Ideal)} {x2 : (⟨S1x8192x12x64, .f32⟩ : BufTy).Contents (Elt Ideal)}
    {x3 : (⟨S1x8192x768, .f32⟩ : BufTy).Contents (Elt Ideal)} {q k v : ℕ → ℕ → ℕ → ℝ} {g : ℕ → ℕ → ℝ}
  (H : Reads x0 x1 x2 x3 q k v g)

theorem mask_read (h : Fin 12) (r κ : Fin 8192) :
    val_main_v11_1 (F := Ideal) (ix4 (0 : Fin 1) h r κ) = if κ.val ≤ r.val then 1#1 else 0#1 := by
  pointwise [val_main_v11_1, val_main_v10, val_main_v9, val_main_v8, val_main_v7, val_main_v6, val_main_v5, val_main_v4]
  exact sle_nat (by omega) (by omega)

theorem bottom_read (i : S1x12x8192.Idx) : val_main_v18 (F := Ideal) i = (⊥ : EReal) := by
  rw [val_main_v18_apply, val_main_cst_3_apply]
  exact bits_neg_inf

include H

/-- The score. -/
def s (q k : ℕ → ℕ → ℕ → ℝ) (h r κ : ℕ) : ℝ := (∑ l : Fin 96, q r h l * k κ h l) / √96

theorem score_read (h : Fin 12) (r κ : Fin 8192) :
    val_main_v3 (F := Ideal) x0 x1 (ix4 (0 : Fin 1) h r κ) = ((s q k h.val r.val κ.val : ℝ) : EReal) := by
  pointwise [val_main_v3, val_main_v2, val_main_v1, val_main_v0, val_main_cst]
  simp only [H.q, H.k, bits_96, sqrt_real (show (0 : ℝ) ≤ 96 by norm_num), ← EReal.coe_mul, coe_sum, div_real _ sqrt_96_ne, s]

theorem masked_read (h : Fin 12) (r κ : Fin 8192) :
    val_main_v11_0 (F := Ideal) x0 x1 (ix4 (0 : Fin 1) h r κ) = if κ.val ≤ r.val then ((s q k h.val r.val κ.val : ℝ) : EReal) else ⊥ := by
  unfold val_main_v11_0
  show Scalar.select (val_main_v11_1 (ix4 0 h r κ)) (val_main_v3 x0 x1 (ix4 0 h r κ)) (Ideal.ofBits .f32 0xFF800000#32) = _
  rw [mask_read, select_ite, score_read H, bits_neg_inf]

/-- The row maximum the reference subtracts, as a real. -/
def top (x0 x1 : (⟨S1x8192x12x96, .f32⟩ : BufTy).Contents (Elt Ideal)) (h : Fin 12) (r : Fin 8192) : ℝ :=
  (val_main_v19 (F := Ideal) x0 x1 (ix3 (0 : Fin 1) h r) : EReal).toReal

theorem top_read (h : Fin 12) (r : Fin 8192) : val_main_v19 (F := Ideal) x0 x1 (ix3 (0 : Fin 1) h r) = ((top x0 x1 h r : ℝ) : EReal) := by
  unfold top
  have h : ∃ M : ℝ, val_main_v19 (F := Ideal) x0 x1 (ix3 (0 : Fin 1) h r) = (M : EReal) := by
    unfold val_main_v19
    rw [Cert.Ref.maximumf_bot _ _ _ (bottom_read _)]
    pointwise [val_main_v12, val_main_cst_1]
    simp only [masked_read H, bits_neg_inf]
    exact fold_max_masked (fun κ : Fin 8192 => κ.val ≤ r.val) _ ⟨r, le_rfl⟩
  obtain ⟨M, hM⟩ := h
  rw [hM, EReal.toReal_coe]

omit H in
theorem exp_masked (p : Prop) [Decidable p] (x M : ℝ) :
    Ideal.exp ((if p then (x : EReal) else ⊥) - (M : EReal)) = ((if p then Real.exp (x - M) else 0 : ℝ) : EReal) := by
  by_cases h : p
  · rw [if_pos h, if_pos h, ← EReal.coe_sub, Ideal.exp_coe]
  · rw [if_neg h, if_neg h, sub_eq_add_neg, EReal.bot_add, Ideal.exp_bot, EReal.coe_zero]

/-- The shifted exponentials, zero past the diagonal, and their sum. -/
def ex (q k : ℕ → ℕ → ℕ → ℝ) (M : ℝ) (h r κ : ℕ) : ℝ := if κ ≤ r then Real.exp (s q k h r κ - M) else 0
def zs (q k : ℕ → ℕ → ℕ → ℝ) (M : ℝ) (h r : ℕ) : ℝ := ∑ κ : Fin 8192, ex q k M h r κ

omit H in
theorem zs_pos (M : ℝ) (h : ℕ) (r : Fin 8192) : 0 < zs q k M h r := by
  refine Finset.sum_pos' (fun κ _ => ?_) ⟨r, Finset.mem_univ _, by unfold ex; rw [if_pos le_rfl]; exact Real.exp_pos _⟩
  unfold ex
  split
  · exact (Real.exp_pos _).le
  · exact le_rfl
omit H in
theorem zs_ne (M : ℝ) (h : ℕ) (r : Fin 8192) : zs q k M h r ≠ 0 := (zs_pos M h r).ne'

theorem ex_read (h : Fin 12) (r κ : Fin 8192) :
    val_main_v32 (F := Ideal) x0 x1 (ix4 (0 : Fin 1) h r κ) = ((ex q k (top x0 x1 h r) h.val r.val κ.val : ℝ) : EReal) := by
  pointwise [val_main_v32, val_main_v31, val_main_v30, val_main_v29]
  rw [masked_read H, top_read H, exp_masked]
  rfl
theorem zs_read (h : Fin 12) (r : Fin 8192) :
    val_main_v33 (F := Ideal) x0 x1 (ix3 (0 : Fin 1) h r) = ((zs q k (top x0 x1 h r) h.val r.val : ℝ) : EReal) := by
  pointwise [val_main_v33, val_main_cst_9]
  simp only [ex_read H, coe_sum, zs]

/-- The attention weight of key `κ` in query `r`. -/
def pr (q k : ℕ → ℕ → ℕ → ℝ) (h r κ : ℕ) : ℝ := ex q k 0 h r κ / zs q k 0 h r

omit H in
theorem ex_shift (M : ℝ) (h r κ : ℕ) : ex q k M h r κ = ex q k 0 h r κ * Real.exp (-M) := by
  unfold ex
  split
  · rw [← Real.exp_add, sub_zero, sub_eq_add_neg]
  · rw [zero_mul]
omit H in
theorem zs_shift (M : ℝ) (h r : ℕ) : zs q k M h r = zs q k 0 h r * Real.exp (-M) := by
  unfold zs
  rw [Finset.sum_mul]
  exact Finset.sum_congr rfl fun κ _ => ex_shift M h r κ
omit H in
theorem pr_eq (M : ℝ) (h r κ : ℕ) : ex q k M h r κ / zs q k M h r = pr q k h r κ := by
  rw [ex_shift, zs_shift, mul_div_mul_right _ _ (Real.exp_pos _).ne', pr]

theorem pr_read (h : Fin 12) (r κ : Fin 8192) :
    val_main_v36 (F := Ideal) x0 x1 (ix4 (0 : Fin 1) h r κ) = ((pr q k h.val r.val κ.val : ℝ) : EReal) := by
  pointwise [val_main_v36, val_main_v35, val_main_v34]
  simp only [ex_read H, zs_read H, div_real _ (zs_ne _ _ _), pr_eq]
theorem rsq_read (h : Fin 12) (r : Fin 8192) (u : Fin 1) :
    val_main_v39 (F := Ideal) x0 x1 (ix4 (0 : Fin 1) h r u) =
      ((1 / (zs q k (top x0 x1 h r) h.val r.val * zs q k (top x0 x1 h r) h.val r.val) : ℝ) : EReal) := by
  pointwise [val_main_v39, val_main_v38, val_main_v37, val_main_v34, val_main_cst_10]
  simp only [zs_read H, ← EReal.coe_mul, ← EReal.coe_one, div_real _ (mul_ne_zero (zs_ne _ _ _) (zs_ne _ _ _))]

/-- The token. -/
def tok (q k v : ℕ → ℕ → ℕ → ℝ) (h r d : ℕ) : ℝ := ∑ κ : Fin 8192, v κ h d * pr q k h r κ

theorem tok_read (r : Fin 8192) (j : Fin 768) :
    val_main_v42 (F := Ideal) x0 x1 x2 (ix3 (0 : Fin 1) r j) = ((tok q k v (j.val / 64) r.val (j.val % 64) : ℝ) : EReal) := by
  pointwise [val_main_v42, val_main_v41, val_main_v40]
  simp only [H.v, pr_read H, ← EReal.coe_mul, coe_sum, tok]

/-! The gradient -/

omit H in
theorem unit3 (i : Fin 1) : i = 0 := Subsingleton.elim _ _
omit H in
theorem reduce_heads (x : S1x12x8192x1.Idx → EReal) (init : EReal) (a : Fin 12) (r : Fin 8192) :
    Ideal.hostReduceAdd reducesTo_S1x12x8192x1_S12x8192_d0_3 x init (ix2 a r) = init + x (ix4 (0 : Fin 1) a r (0 : Fin 1)) :=
  Cert.Ref.reduceAdd_unit _ _ _ _ _ fun i => ⟨fun h => by
    have h1 : i 1 = a := congrFun h 0
    have h2 : i 2 = r := congrFun h 1
    rw [eq_ix4 i, h1, h2, unit3 (i 0), unit3 (i 3)], fun h => by
      rw [h]; funext b; match b with | ⟨0, _⟩ => rfl | ⟨1, _⟩ => rfl⟩

theorem g_read (h : Fin 12) (d : Fin 64) (r : Fin 8192) :
    val_main_v44 (F := Ideal) x3 (ix4 (0 : Fin 1) h d r) = ((g r.val (h.val * 64 + d.val) : ℝ) : EReal) := by
  pointwise [val_main_v44, val_main_v43]
  rw [H.g]

/-- The weight's cotangent. -/
def dp (v : ℕ → ℕ → ℕ → ℝ) (g : ℕ → ℕ → ℝ) (h r κ : ℕ) : ℝ := ∑ d : Fin 64, g r (h * 64 + d) * v κ h d

theorem dp_read (h : Fin 12) (r κ : Fin 8192) :
    val_main_v45 (F := Ideal) x2 x3 (ix4 (0 : Fin 1) h r κ) = ((dp v g h.val r.val κ.val : ℝ) : EReal) := by
  pointwise [val_main_v45]
  simp only [g_read H, H.v, ← EReal.coe_mul, coe_sum, dp]

/-- The value gradient. -/
theorem dv_read (κ : Fin 8192) (h : Fin 12) (d : Fin 64) :
    val_main_v47 (F := Ideal) x0 x1 x3 (ix4 (0 : Fin 1) κ h d) =
      ((∑ r : Fin 8192, g r.val (h.val * 64 + d.val) * pr q k h.val r.val κ.val : ℝ) : EReal) := by
  pointwise [val_main_v47, val_main_v46]
  simp only [g_read H, pr_read H, ← EReal.coe_mul, coe_sum]

theorem neg_read (h : Fin 12) (r : Fin 8192) (u : Fin 1) :
    val_main_v53 (F := Ideal) x0 x1 x2 x3 (ix4 (0 : Fin 1) h r u) =
      ((-∑ κ : Fin 8192, dp v g h.val r.val κ.val * (1 / (zs q k (top x0 x1 h r) h.val r.val * zs q k (top x0 x1 h r) h.val r.val)) *
        ex q k (top x0 x1 h r) h.val r.val κ.val : ℝ) : EReal) := by
  pointwise [val_main_v53, val_main_v52, val_main_v51, val_main_v50, val_main_v49, val_main_v48, val_main_cst_11]
  simp only [dp_read H, rsq_read H, ex_read H, ← EReal.coe_mul, coe_sum, ← EReal.coe_neg]

/-- The score's cotangent over its scale. -/
def ds (q k v : ℕ → ℕ → ℕ → ℝ) (g : ℕ → ℕ → ℝ) (h r κ : ℕ) : ℝ :=
  pr q k h r κ * (dp v g h r κ - ∑ κ' : Fin 8192, dp v g h r κ' * pr q k h r κ') / √96

theorem sum_read (h : Fin 12) (r κ : Fin 8192) :
    val_main_v58 (F := Ideal) x0 x1 x2 x3 (ix4 (0 : Fin 1) h r κ) =
      ((-∑ κ : Fin 8192, dp v g h.val r.val κ.val * (1 / (zs q k (top x0 x1 h r) h.val r.val * zs q k (top x0 x1 h r) h.val r.val)) *
        ex q k (top x0 x1 h r) h.val r.val κ.val : ℝ) : EReal) := by
  pointwise [val_main_v58, val_main_v57]
  show Ideal.hostReduceAdd reducesTo_S1x12x8192x1_S12x8192_d0_3 (val_main_v53 x0 x1 x2 x3) (Ideal.ofBits .f32 0x00000000#32) (ix2 h r) = _
  rw [reduce_heads, neg_read H, Ideal.ofBits_zero_f32, zero_add]

omit H in
theorem ds_eq (M : ℝ) (h : ℕ) (r : Fin 8192) (κ : ℕ) :
    (if κ ≤ r.val then (dp v g h r κ / zs q k M h r + -∑ κ : Fin 8192, dp v g h r κ * (1 / (zs q k M h r * zs q k M h r)) * ex q k M h r κ) *
      ex q k M h r κ else 0) / √96 = ds q k v g h r κ := by
  have e : ∑ κ : Fin 8192, dp v g h r κ * (1 / (zs q k M h r * zs q k M h r)) * ex q k M h r κ =
      (∑ κ : Fin 8192, dp v g h r κ * pr q k h r κ) / zs q k M h r := by
    rw [Finset.sum_div]
    refine Finset.sum_congr rfl fun κ _ => ?_
    rw [← pr_eq M]
    have := zs_ne (q := q) (k := k) M h r
    field_simp
  rw [e, ds]
  split
  · rw [← pr_eq M h r κ]
    have := zs_ne (q := q) (k := k) M h r
    field_simp
    ring
  · rw [pr, ex, if_neg ‹_›]
    simp

theorem ds_read (h : Fin 12) (r κ : Fin 8192) :
    val_main_v63 (F := Ideal) x0 x1 x2 x3 (ix4 (0 : Fin 1) h r κ) = ((ds q k v g h.val r.val κ.val : ℝ) : EReal) := by
  rw [← ds_eq (top x0 x1 h r) h.val r κ.val]
  pointwise [val_main_v63, val_main_v62, val_main_v1, val_main_cst, val_main_v61, val_main_v60, val_main_v59, val_main_v55, val_main_v54, val_main_v34, val_main_call1_v0, val_main_call1_cst]
  simp only [mask_read, select_ite, ← EReal.coe_zero, bits_96, sqrt_real (show (0 : ℝ) ≤ 96 by norm_num), dp_read H, zs_read H, ex_read H, sum_read H,
    ← EReal.coe_mul, ← EReal.coe_add, div_real _ (zs_ne _ _ _), ite_real, div_real _ sqrt_96_ne]

theorem dk_read (κ : Fin 8192) (h : Fin 12) (l : Fin 96) :
    val_main_v65 (F := Ideal) x0 x1 x2 x3 (ix4 (0 : Fin 1) κ h l) =
      ((∑ r : Fin 8192, ds q k v g h.val r.val κ.val * q r.val h.val l.val : ℝ) : EReal) := by
  pointwise [val_main_v65, val_main_v64]
  simp only [ds_read H, H.q, ← EReal.coe_mul, coe_sum]
theorem dq_read (r : Fin 8192) (h : Fin 12) (l : Fin 96) :
    val_main_v67 (F := Ideal) x0 x1 x2 x3 (ix4 (0 : Fin 1) r h l) =
      ((∑ κ : Fin 8192, ds q k v g h.val r.val κ.val * k κ.val h.val l.val : ℝ) : EReal) := by
  pointwise [val_main_v67, val_main_v66]
  simp only [ds_read H, H.k, ← EReal.coe_mul, coe_sum]

end
end Cert.AttnRef
-- ==== Proof.AttnEq.lean ====
/-
The attention program's results are the reference's.
-/
module

public import proofs.«01_k».proof.Proof.AttnRef

@[expose] public section

set_option maxRecDepth 16384
set_option maxHeartbeats 1000000

noncomputable section
namespace Cert.AttnRef
open Idealize.ShloMosaic
open Cert.Core Cert.Attn

variable {q k v : ℕ → ℕ → ℕ → ℝ} {g : ℕ → ℕ → ℝ}

/-! ## Sums -/

theorem sum_lanes (f : ℕ → ℝ) : ∑ l : Fin 128, (if l.val < 96 then f l.val else 0) = ∑ l : Fin 96, f l.val := by
  rw [Fin.sum_univ_eq_sum_range (fun l => if l < 96 then f l else 0) 128, Fin.sum_univ_eq_sum_range f 96,
    show 128 = 96 + 32 from rfl, Finset.sum_range_add]
  rw [Finset.sum_congr rfl fun l (hl : l ∈ Finset.range 96) => if_pos (Finset.mem_range.mp hl),
    Finset.sum_eq_zero fun l (_ : l ∈ Finset.range 32) => if_neg (by omega), add_zero]

theorem sum_half (f : ℕ → ℝ) {h : ℕ} (hh : h < 2) : ∑ l : Fin 128, (if l.val / 64 = h then f l.val else 0) = ∑ d : Fin 64, f (h * 64 + d.val) := by
  rw [Fin.sum_univ_eq_sum_range (fun l => if l / 64 = h then f l else 0) 128, Fin.sum_univ_eq_sum_range (fun d => f (h * 64 + d)) 64,
    show 128 = 64 + 64 from rfl, Finset.sum_range_add]
  obtain rfl | rfl : h = 0 ∨ h = 1 := by omega
  · rw [Finset.sum_congr rfl fun l (hl : l ∈ Finset.range 64) => if_pos (by have := Finset.mem_range.mp hl; omega),
      Finset.sum_eq_zero fun l (_ : l ∈ Finset.range 64) => if_neg (by omega), add_zero]
    simp
  · rw [Finset.sum_eq_zero fun l (hl : l ∈ Finset.range 64) => if_neg (by have := Finset.mem_range.mp hl; omega), zero_add]
    exact Finset.sum_congr rfl fun l hl => by
      have := Finset.mem_range.mp hl
      rw [if_pos (by omega), show 64 + l = 1 * 64 + l by omega]

theorem sum_blocks (f : ℕ → ℝ) : ∑ j ∈ Finset.range 16, ∑ r : Fin 512, f (j * 512 + r.val) = ∑ R : Fin 8192, f R.val := by
  have e : ∀ n : ℕ, ∑ j ∈ Finset.range n, ∑ r : Fin 512, f (j * 512 + r.val) = ∑ R ∈ Finset.range (n * 512), f R := by
    intro n
    induction n with
    | zero => simp
    | succ n ih =>
      rw [Finset.sum_range_succ, ih, show (n + 1) * 512 = n * 512 + 512 by omega, Finset.sum_range_add,
        Fin.sum_univ_eq_sum_range (fun r => f (n * 512 + r)) 512]
  rw [e 16, Fin.sum_univ_eq_sum_range f 8192]

theorem sum_causal (f : ℕ → ℝ) {n : ℕ} (hn : n ≤ 8192) (h0 : ∀ κ, n ≤ κ → f κ = 0) : ∑ κ ∈ Finset.range n, f κ = ∑ κ : Fin 8192, f κ.val := by
  rw [Fin.sum_univ_eq_sum_range f 8192, show 8192 = n + (8192 - n) by omega, Finset.sum_range_add,
    Finset.sum_eq_zero fun κ _ => h0 (n + κ) (by omega), add_zero]

/-! ## The softmax -/

theorem score_eq (h r κ : ℕ) : ∑ l : Fin 128, km k κ (128 * h + l.val) * qm q r (128 * h + l.val) = s q k h r κ * (Real.log 2)⁻¹ := by
  have e : ∀ l : Fin 128, km k κ (128 * h + l.val) * qm q r (128 * h + l.val) =
      if l.val < 96 then (fun l => q r h l * k κ h l / √96 * (Real.log 2)⁻¹) l.val else 0 := fun l => by
    unfold km qm
    rw [show (128 * h + l.val) % 128 = l.val by omega, show (128 * h + l.val) / 128 = h by omega]
    split
    · have := log_two_ne; have := sqrt_96_ne
      field_simp
    · simp
  rw [Finset.sum_congr rfl fun l _ => e l, sum_lanes fun l => q r h l * k κ h l / √96 * (Real.log 2)⁻¹, s, Finset.sum_div, Finset.sum_mul]

theorem two_score (h r κ : ℕ) : two (s q k h r κ * (Real.log 2)⁻¹) = Real.exp (s q k h r κ - 0) := by
  rw [two_log, sub_zero]

theorem z_eq (h r : ℕ) (w : ℕ → ℝ) (hw : ∀ κ, w κ = s q k h r κ * (Real.log 2)⁻¹) : attZ w (fun κ => κ ≤ r) = zs q k 0 h r := by
  unfold attZ zs
  rw [Fin.sum_univ_eq_sum_range (fun κ => ex q k 0 h r κ) 8192]
  exact Finset.sum_congr rfl fun κ _ => by rw [hw, two_score, ex]

theorem o_eq (h r d : ℕ) (w : ℕ → ℝ) (hw : ∀ κ, w κ = s q k h r κ * (Real.log 2)⁻¹) :
    attO w (fun κ => κ ≤ r) (fun κ => v κ h d) = tok q k v h r d := by
  unfold attO tok
  rw [z_eq h r w hw, Fin.sum_univ_eq_sum_range (fun κ => v κ h d * pr q k h r κ) 8192, Finset.sum_div]
  exact Finset.sum_congr rfl fun κ _ => by rw [hw, two_score, pr, ex, mul_div_assoc]

theorem tM_eq (r j : ℕ) : tM q k v r j = tok q k v (j / 64) r (j % 64) := by
  unfold tM tokM
  refine o_eq (j / 64) r (j % 64) _ fun κ => ?_
  rw [← score_eq]
  unfold sc
  refine Finset.sum_congr rfl fun l _ => ?_
  rw [show j / 128 * 256 + ((if j % 128 < 64 then 0 else 128) + l.val) = 128 * (j / 64) + l.val by split <;> omega]

theorem eM_eq (r P h : ℕ) (hh : h < 2) : eM q k r (P * 128 + h * 64) = Real.log (zs q k 0 (2 * P + h) r) * (Real.log 2)⁻¹ := by
  unfold eM lseM
  rw [z_eq (2 * P + h) r _ fun κ => ?_]
  rw [← score_eq]
  unfold sc
  refine Finset.sum_congr rfl fun l _ => ?_
  rw [show (P * 128 + h * 64) / 128 * 256 + ((if (P * 128 + h * 64) % 128 < 64 then 0 else 128) + l.val) = 128 * (2 * P + h) + l.val by split <;> omega]

/-! ## One block of queries -/

theorem bP_eq (P i h : ℕ) (hh : h < 2) (r : ℕ) (hr : i * 512 + r < 8192) (κ : ℕ) :
    bP (oQ (qm q) P i) (oS (sM q k v g) P i) (oK (km k) P) (512 * i) h r κ = pr q k (2 * P + h) (i * 512 + r) κ := by
  have e : bScore (oQ (qm q) P i) (oK (km k) P) h r κ = s q k (2 * P + h) (i * 512 + r) κ * (Real.log 2)⁻¹ := by
    rw [← score_eq]
    unfold bScore oQ oK
    refine Finset.sum_congr rfl fun l _ => ?_
    rw [show P * 256 + (128 * h + l.val) = 128 * (2 * P + h) + l.val by omega, mul_comm]
  have e2 : oS (sM q k v g) P i r h = Real.log (zs q k 0 (2 * P + h) (i * 512 + r)) * (Real.log 2)⁻¹ := by
    unfold oS sM
    rw [sm_0 hh, eM_eq _ _ _ hh]
  have hz := zs_pos (q := q) (k := k) 0 (2 * P + h) ⟨i * 512 + r, hr⟩
  unfold bP pr ex
  rw [e, e2, ← sub_mul, two_log, Real.exp_sub, Real.exp_log hz, sub_zero]
  by_cases hk : κ ≤ i * 512 + r
  · rw [if_pos hk, if_pos (by omega)]
  · rw [if_neg hk, if_neg (by omega), zero_div]

theorem dp_eq (P i h : ℕ) (hh : h < 2) (r κ : ℕ) : bDp (oD g P i) (oV (vm v) P) h r κ = dp v g (2 * P + h) (i * 512 + r) κ := by
  unfold bDp dp
  have e : ∀ l : Fin 128, (if l.val / 64 = h then oD g P i r l.val else 0) * oV (vm v) P κ l.val =
      if l.val / 64 = h then (fun l => oD g P i r l * oV (vm v) P κ l) l.val else 0 := fun l => by
    split
    · rfl
    · exact zero_mul _
  rw [Finset.sum_congr rfl fun l _ => e l, sum_half (fun l => oD g P i r l * oV (vm v) P κ l) hh]
  refine Finset.sum_congr rfl fun d _ => ?_
  unfold oD oV vm
  rw [show P * 128 + (h * 64 + d.val) = (2 * P + h) * 64 + d.val by omega, show ((2 * P + h) * 64 + d.val) / 64 = 2 * P + h by omega,
    show ((2 * P + h) * 64 + d.val) % 64 = d.val by omega]

theorem delta_eq (P i h : ℕ) (hh : h < 2) (r : ℕ) :
    oS (sM q k v g) P i r (2 + h) = ∑ κ : Fin 8192, dp v g (2 * P + h) (i * 512 + r) κ * pr q k (2 * P + h) (i * 512 + r) κ := by
  unfold oS sM
  rw [sm_1 (by omega) (by omega)]
  unfold dp
  simp only [Finset.sum_mul]
  rw [Finset.sum_comm]
  refine Finset.sum_congr rfl fun d _ => ?_
  rw [tM_eq, show 2 + h - 2 = h by omega, show P * 128 + h * 64 + d.val = (2 * P + h) * 64 + d.val by omega, show ((2 * P + h) * 64 + d.val) / 64 = 2 * P + h by omega,
    show ((2 * P + h) * 64 + d.val) % 64 = d.val by omega, tok, Finset.mul_sum]
  exact Finset.sum_congr rfl fun κ _ => (mul_assoc _ _ _).symm

theorem bDs_eq (P i h : ℕ) (hh : h < 2) (r : ℕ) (hr : i * 512 + r < 8192) (κ : ℕ) :
    bDs (oQ (qm q) P i) (oD g P i) (oS (sM q k v g) P i) (oK (km k) P) (oV (vm v) P) (512 * i) h r κ =
      ds q k v g (2 * P + h) (i * 512 + r) κ * √96 := by
  unfold bDs ds
  rw [bP_eq P i h hh r hr, dp_eq _ _ _ hh, delta_eq _ _ _ hh, div_mul_cancel₀ _ sqrt_96_ne]

theorem pr_zero {h r κ : ℕ} (hk : r < κ) : pr q k h r κ = 0 := by
  rw [pr, ex, if_neg (by omega), zero_div]
theorem ds_zero {h r κ : ℕ} (hk : r < κ) : ds q k v g h r κ = 0 := by
  rw [ds, pr_zero hk, zero_mul, zero_div]

/-! ## The gradients -/

theorem dqM_eq (r : Fin 8192) (h : Fin 12) (l : Fin 96) :
    dqM q k v g r.val (h.val * 128 + l.val) = ∑ κ : Fin 8192, ds q k v g h.val r.val κ.val * k κ.val h.val l.val := by
  unfold dqM gQ
  have hR : r.val / 512 * 512 + r.val % 512 = r.val := by omega
  have hH : 2 * ((h.val * 128 + l.val) / 256) + (h.val * 128 + l.val) % 256 / 128 = h.val := by omega
  have e : ∀ κ, bDs (oQ (qm q) ((h.val * 128 + l.val) / 256) (r.val / 512)) (oD g ((h.val * 128 + l.val) / 256) (r.val / 512))
      (oS (sM q k v g) ((h.val * 128 + l.val) / 256) (r.val / 512)) (oK (km k) ((h.val * 128 + l.val) / 256)) (oV (vm v) ((h.val * 128 + l.val) / 256))
      (512 * (r.val / 512)) ((h.val * 128 + l.val) % 256 / 128) (r.val % 512) κ * oK (km k) ((h.val * 128 + l.val) / 256) κ ((h.val * 128 + l.val) % 256) =
      ds q k v g h.val r.val κ * √96 * k κ h.val l.val := fun κ => by
    rw [bDs_eq _ _ _ (by omega) _ (by omega), hR, hH]
    unfold oK km
    rw [show (h.val * 128 + l.val) / 256 * 256 + (h.val * 128 + l.val) % 256 = 128 * h.val + l.val by omega,
      show (128 * h.val + l.val) % 128 = l.val by omega, show (128 * h.val + l.val) / 128 = h.val by omega, if_pos l.isLt]
  rw [Finset.sum_congr rfl fun κ _ => e κ, sum_causal _ (by omega) (fun κ hκ => by rw [ds_zero (by omega), zero_mul, zero_mul]), Finset.sum_mul]
  refine Finset.sum_congr rfl fun κ _ => ?_
  have := sqrt_96_ne
  field_simp

theorem dkM_eq (κ : Fin 8192) (h : Fin 12) (l : Fin 96) :
    dkM q k v g (h.val * 128 + l.val) κ.val * Real.log 2 = ∑ r : Fin 8192, ds q k v g h.val r.val κ.val * q r.val h.val l.val := by
  unfold dkM
  rw [← sum_blocks fun r => ds q k v g h.val r κ.val * q r h.val l.val, Finset.sum_mul]
  refine Finset.sum_congr rfl fun j hj => ?_
  have hj' := Finset.mem_range.mp hj
  have hH : 2 * ((h.val * 128 + l.val) / 256) + (h.val * 128 + l.val) % 256 / 128 = h.val := by omega
  by_cases hk : κ.val < 512 * (j + 1)
  · rw [if_pos hk]
    unfold gK cK
    rw [if_pos (by omega), Finset.sum_mul]
    refine Finset.sum_congr rfl fun r _ => ?_
    rw [bDs_eq _ _ _ (by omega) _ (by omega), hH]
    unfold oQ qm
    beta_reduce
    rw [show (h.val * 128 + l.val) / 256 * 256 + (h.val * 128 + l.val) % 256 = 128 * h.val + l.val by omega,
      show (128 * h.val + l.val) % 128 = l.val by omega, show (128 * h.val + l.val) / 128 = h.val by omega, if_pos l.isLt]
    have := sqrt_96_ne; have := log_two_ne
    field_simp
  · rw [if_neg hk, zero_mul]
    exact (Finset.sum_eq_zero fun r _ => by rw [ds_zero (by omega), zero_mul]).symm

theorem dvM_eq (κ : Fin 8192) (h : Fin 12) (d : Fin 64) :
    dvM q k v g (h.val * 64 + d.val) κ.val = ∑ r : Fin 8192, g r.val (h.val * 64 + d.val) * pr q k h.val r.val κ.val := by
  unfold dvM
  rw [← sum_blocks fun r => g r (h.val * 64 + d.val) * pr q k h.val r κ.val]
  refine Finset.sum_congr rfl fun j hj => ?_
  have hj' := Finset.mem_range.mp hj
  have hH : 2 * ((h.val * 64 + d.val) / 128) + (h.val * 64 + d.val) % 128 / 64 = h.val := by omega
  by_cases hk : κ.val < 512 * (j + 1)
  · rw [if_pos hk]
    unfold gV cV
    refine Finset.sum_congr rfl fun r _ => ?_
    rw [bP_eq _ _ _ (by omega) _ (by omega), hH]
    unfold oD
    beta_reduce
    rw [show (h.val * 64 + d.val) / 128 * 128 + (h.val * 64 + d.val) % 128 = h.val * 64 + d.val by omega]
  · rw [if_neg hk]
    exact (Finset.sum_eq_zero fun r _ => by rw [pr_zero (by omega), mul_zero]).symm

end Cert.AttnRef
-- ==== Proof.AttnAll.lean ====
/-
The attention pair: the frames of its programs, and the equality of their results.
-/
module

public import proofs.«01_k».proof.Defs
public import proofs.«01_k».proof.Proof.Finite
public import proofs.«01_k».proof.Proof.AttnRun
public import proofs.«01_k».proof.Proof.AttnEq
public import proofs.«01_k».proof.Proof.Gen.Kernel2
public import proofs.«01_k».proof.Proof.Gen.Kernel2.Frame

@[expose] public section

set_option maxRecDepth 16384

noncomputable section
namespace Cert.AttnAll
open Idealize.ShloMosaic Idealize.SL.Sem

theorem pre_facts : Cert.Pre_finite2.Facts := by constructor <;> decide

instance : Cert.Kernel2.Facts := Cert.Kernel2.Gen.facts
instance : Cert.Kernel2Ideal.Facts := Cert.Kernel2Ideal.Gen.facts
instance : Cert.Reference2Ideal.Facts := Cert.Reference2Ideal.Gen.facts
instance : Cert.Pre_finite2.Facts := pre_facts

/-- The precondition says that every element of every argument is a real. -/
theorem reals {x0 x1 x2 x3} (h : Cert.Pre_finite2.fn (F := Ideal) x0 x1 x2 x3 = fun _ => 1#1) :
    (∀ i, x0 i = (((x0 i : EReal).toReal : ℝ) : EReal)) ∧ (∀ i, x1 i = (((x1 i : EReal).toReal : ℝ) : EReal))
      ∧ (∀ i, x2 i = (((x2 i : EReal).toReal : ℝ) : EReal)) ∧ (∀ i, x3 i = (((x3 i : EReal).toReal : ℝ) : EReal)) := by
  have h0 := congrFun h ValueIdx.ix0
  unfold Cert.Pre_finite2.fn Cert.Pre_finite2.fn_part1 at h0
  obtain ⟨h0, h3⟩ := IntOp.andi_eq_one.1 h0
  obtain ⟨h0, h2⟩ := IntOp.andi_eq_one.1 h0
  obtain ⟨h0, h1⟩ := IntOp.andi_eq_one.1 h0
  exact ⟨Cert.Finite.all_real _ _ _ _ _ h0, Cert.Finite.all_real _ _ _ _ _ h1, Cert.Finite.all_real _ _ _ _ _ h2, Cert.Finite.all_real _ _ _ _ _ h3⟩

/-- A real array read at numbers: zero outside the array. -/
def read4 {a b d : ℕ} (x : (⟨4, ![1, a, b, d]⟩ : Shape).Idx → EReal) (r h l : ℕ) : ℝ :=
  if hr : r < a then if hh : h < b then if hl : l < d then (x (ix4 (0 : Fin 1) ⟨r, hr⟩ ⟨h, hh⟩ ⟨l, hl⟩)).toReal else 0 else 0 else 0
def read3 {a b : ℕ} (x : (⟨3, ![1, a, b]⟩ : Shape).Idx → EReal) (r l : ℕ) : ℝ :=
  if hr : r < a then if hl : l < b then (x (ix3 (0 : Fin 1) ⟨r, hr⟩ ⟨l, hl⟩)).toReal else 0 else 0

theorem read4_eq {a b d : ℕ} (x : (⟨4, ![1, a, b, d]⟩ : Shape).Idx → EReal) (hx : ∀ i, x i = ((x i).toReal : EReal)) (r : Fin a) (h : Fin b) (l : Fin d) :
    x (ix4 (0 : Fin 1) r h l) = ((read4 x r.val h.val l.val : ℝ) : EReal) := by
  rw [read4, dif_pos r.isLt, dif_pos h.isLt, dif_pos l.isLt]
  exact hx _
theorem read3_eq {a b : ℕ} (x : (⟨3, ![1, a, b]⟩ : Shape).Idx → EReal) (hx : ∀ i, x i = ((x i).toReal : EReal)) (r : Fin a) (l : Fin b) :
    x (ix3 (0 : Fin 1) r l) = ((read3 x r.val l.val : ℝ) : EReal) := by
  rw [read3, dif_pos r.isLt, dif_pos l.isLt]
  exact hx _

/-- Two arrays with one leading row are equal when they agree at every further coordinate. -/
theorem ext3 {a b : ℕ} {f g : (⟨3, ![1, a, b]⟩ : Shape).Idx → EReal} (h : ∀ i j, f (ix3 (0 : Fin 1) i j) = g (ix3 (0 : Fin 1) i j)) : f = g :=
  funext fun i => by
    rw [eq_ix3 i, show i 0 = (0 : Fin 1) from Subsingleton.elim (α := Fin 1) _ _]
    exact h _ _
theorem ext4 {a b d : ℕ} {f g : (⟨4, ![1, a, b, d]⟩ : Shape).Idx → EReal}
    (h : ∀ i j l, f (ix4 (0 : Fin 1) i j l) = g (ix4 (0 : Fin 1) i j l)) : f = g :=
  funext fun i => by
    rw [eq_ix4 i, show i 0 = (0 : Fin 1) from Subsingleton.elim (α := Fin 1) _ _]
    exact h _ _ _

theorem algebraic : algebraic_Kernel2Ideal_Reference2Ideal_pre_finite2 := by
  intro m g m' g' hpre hagree
  refine ⟨fun c => Cert.Kernel2Ideal.Gen.W9 m g c (Proc.devRef .tc Cert.Kernel2Ideal.main_v37),
    fun c => Cert.Kernel2Ideal.Gen.W9 m g c (Proc.devRef .tc Cert.Kernel2Ideal.main_v40),
    fun c => Cert.Kernel2Ideal.Gen.W9 m g c (Proc.devRef .tc Cert.Kernel2Ideal.main_v46),
    fun c => Cert.Kernel2Ideal.Gen.W9 m g c (Proc.devRef .tc Cert.Kernel2Ideal.main_v48), ?_, ?_⟩
  · refine θ_run_mono (θ_run_and (Cert.Attn.run m g) (Cert.Kernel2Ideal.Gen.frame m g)) fun r h c => ?_
    exact ⟨(h.1 c).1, (h.1 c).2.1, (h.1 c).2.2.1, (h.1 c).2.2.2, h.2.1 c⟩
  · refine (θ_run _ _ _).mono (fun r h c => ?_) (Cert.Reference2Ideal.Value.run m' g')
    obtain ⟨a0, a1, a2, a3⟩ := hagree c
    obtain ⟨f0, f1, f2, f3⟩ := reals (hpre c)
    obtain ⟨q, k, v, d, H⟩ : ∃ q k v d, Cert.Attn.Holds m c q k v d := ⟨_, _, _, _, read4_eq _ f0, read4_eq _ f1, read4_eq _ f2, read3_eq _ f3⟩
    have R : Cert.AttnRef.Reads (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) q k v d := ⟨H.q, H.k, H.v, H.g⟩
    rw [← a0, ← a1, ← a2, ← a3] at R
    obtain ⟨h0, h1, h2, h3, hargs⟩ := h c
    refine ⟨(h0.trans (Cert.Reference2Ideal.Read.val_main_v42_eq m' c)).trans ?_,
      (h1.trans (Cert.Reference2Ideal.Read.val_main_v67_eq m' c)).trans ?_,
      (h2.trans (Cert.Reference2Ideal.Read.val_main_v65_eq m' c)).trans ?_,
      (h3.trans (Cert.Reference2Ideal.Read.val_main_v47_eq m' c)).trans ?_, hargs⟩
    · exact ext3 fun r j => (Cert.AttnRef.tok_read R r j).trans (((Cert.Attn.res0 (ρ := g) H r j).trans (congrArg _ (Cert.AttnRef.tM_eq r.val j.val))).symm)
    · exact ext4 fun r h l => (Cert.AttnRef.dq_read R r h l).trans (((Cert.Attn.res1 (ρ := g) H r h l).trans (congrArg _ (Cert.AttnRef.dqM_eq r h l))).symm)
    · exact ext4 fun r h l => (Cert.AttnRef.dk_read R r h l).trans (((Cert.Attn.res2 (ρ := g) H r h l).trans (congrArg _ (Cert.AttnRef.dkM_eq r h l))).symm)
    · exact ext4 fun r h l => (Cert.AttnRef.dv_read R r h l).trans (((Cert.Attn.res3 (ρ := g) H r h l).trans (congrArg _ (Cert.AttnRef.dvM_eq r h l))).symm)

theorem frame_reference : quiescent_Reference2Ideal := fun m g _ =>
  (θ_run Cert.Reference2Ideal.defs _ _).mono
    (fun r h => And.intro (fun c => (h c).2.2.2.2) (sem_eq_zero_of_no_sems (by decide) r.2))
    (Cert.Reference2Ideal.Value.run (F := Ideal) m g)

theorem preserves : preserves_Kernel2_Kernel2Ideal :=
  ⟨IdealRules.named_const.statement Cert.Kernel2Ideal.κ "inv_log_two" .f32 0x3FB8AA3B#32 (((Real.log 2)⁻¹ : ℝ) : EReal) rfl,
    IdealRules.named_const.statement Cert.Kernel2Ideal.κ "scale" .f32 0x3DD105EC#32 (((Real.sqrt 96)⁻¹ : ℝ) : EReal) rfl⟩

end Cert.AttnAll
-- ==== Proof.MlaStep.lean ====
/-
One point of the projections' gradient kernel's grid: the arrays its body computes from the blocks it reads, and the
results it leaves.
-/
module

public import proofs.«01_k».proof.Proof.Core
public import proofs.«01_k».proof.Proof.Gen.Kernel3Ideal.Skeleton

@[expose] public section

set_option maxRecDepth 16384

noncomputable section

open Idealize.ShloMosaic
open Cert.Kernel3Ideal Cert.Kernel3Ideal.Gen

namespace Cert.MlaBlock

variable {F : FTy → Type} [FloatOps F] [Named F]

/-- The blocks one point of the grid reads, the queries' gradient by head. -/
structure Ins (F : FTy → Type) where
  x : Vec F S512x1024 .f32
  cq : Vec F S512x384 .f32
  ckv : Vec F S512x256 .f32
  dq : Fin 12 → Vec F S512x128 .f32
  dkt : Vec F S1536x512 .f32
  dvt : Vec F S768x512 .f32
  dgate : Vec F S512x1024 .f32
  dqm : Vec F S512x256 .f32
  dres : Vec F S512x1024 .f32
  win : Vec F S1024x2048 .bf16
  gq : Vec F S1x384 .f32
  gkv : Vec F S1x256 .f32
  wuq : Vec F S384x1536 .bf16
  wk : Vec F S256x1536 .bf16
  wv : Vec F S256x768 .bf16
  c : Vec F S512x128 .f32
  sa : Vec F S512x128 .f32
  sb : Vec F S512x128 .f32

/-! ## The body's arrays -/

/-- The lane number. -/
abbrev lane : IVec S512x128 32 := iota .tc S512x128 32 [1] iota_S512x128_d1_w32
/-- A product's zero accumulator. -/
abbrev zq : FVec F S512x384 .f32 := constant S512x384 .f32 0x00000000#32

section
variable (I : Ins F)

abbrev c' := k0_pay9 I.c
abbrev sa' := k0_pay10 I.sa
abbrev sb' := k0_pay11 I.sb
abbrev gq' := k0_pay12 I.gq
abbrev gkv' := k0_pay13 I.gkv
abbrev rq' := k0_pay15 I.cq
abbrev xhq' := k0_pay16 I.cq
abbrev nq' := k0_pay17 I.gq I.cq
abbrev ckv' := k0_pay18 I.ckv
abbrev ms' := k0_pay19 I.ckv
abbrev rk' := k0_pay21 (ms' I) (k0_pay20 (F := F))
abbrev xhk' := k0_pay22 (ckv' I) (ms' I) (k0_pay20 (F := F))
abbrev nkv' := k0_pay23 (gkv' I) (ckv' I) (ms' I) (k0_pay20 (F := F))
abbrev dkp' := k0_pay24 I.dkt
abbrev q0' := k0_pay25 (c' I) (sa' I) (sb' I) (I.dq 0)
abbrev q1' := k0_pay26 (c' I) (sa' I) (sb' I) (I.dq 1)
abbrev q2' := k0_pay31 (k0_pay29 (c' I) (sa' I) (I.dq 2)) (k0_pay30 (sb' I) (I.dq 2))
abbrev q3' := k0_pay32 (c' I) (sa' I) (sb' I) (I.dq 3)
abbrev q4' := k0_pay33 (c' I) (sa' I) (sb' I) (I.dq 4)
abbrev q5' := k0_pay34 (c' I) (sa' I) (sb' I) (I.dq 5)
abbrev q6' := k0_pay39 (sb' I) (k0_pay36 (I.dq 6)) (k0_pay37 (c' I) (I.dq 6)) (k0_pay38 (sa' I) (I.dq 6))
abbrev q7' := k0_pay40 (c' I) (sa' I) (sb' I) (I.dq 7)
abbrev q8' := k0_pay41 (c' I) (sa' I) (sb' I) (I.dq 8)
abbrev q9' := k0_pay42 (c' I) (sa' I) (sb' I) (I.dq 9)
abbrev dqf' := k0_pay45 (c' I) (sa' I) (sb' I) (q0' I) (q1' I) (q2' I) (q3' I) (q4' I) (q5' I) (q6' I) (q7' I) (q8' I)
  (q9' I) (k0_pay44 (I.dq 10)) (I.dq 11)
abbrev s1' := k0_pay27 I.dkt
abbrev s2' := k0_pay35 (dkp' I) (s1' I)
abbrev s3' := k0_pay43 (dkp' I) (s2' I)
abbrev dkr' := k0_pay46 (c' I) (sa' I) (sb' I) lane (dkp' I) (s3' I)
abbrev dvb' := k0_pay47 I.dvt
abbrev dkb' := k0_pay48 (dkp' I)
abbrev wuq' := k0_pay49 I.wuq
abbrev dnq' := k0_pay50 (dqf' I) (wuq' I) zq
abbrev dcq' := k0_pay53 (gq' I) (rq' I) (xhq' I) (dqf' I) (wuq' I) zq
abbrev dnkv' := k0_pay54 (dvb' I) (dkb' I) I.wk I.wv
abbrev dz' := k0_pay61 (gkv' I) (rk' I) (xhk' I) (dkr' I) (dcq' I) (dnkv' I) I.dgate I.dqm
abbrev dxw' := k0_pay62 (gkv' I) (rk' I) (xhk' I) (dkr' I) (dcq' I) (dnkv' I) I.dgate I.dqm I.win

end

/-- The results: the row block's gradient, and the gradients accumulated over the points. -/
structure Acc (F : FTy → Type) where
  dx : Vec F S512x1024 .f32
  dwin : Vec F S1024x2048 .f32
  dwuq : Vec F S384x1536 .f32
  dwk : Vec F S256x1536 .f32
  dwv : Vec F S256x768 .f32
  dgq : Vec F S1x384 .f32
  dgkv : Vec F S1x256 .f32

/-- What the first point starts from. -/
def Acc.zero : Acc F :=
  ⟨constant S512x1024 .f32 0x00000000#32, k0_pay3, k0_pay4, k0_pay5, k0_pay6, k0_pay7, k0_pay8⟩

/-- One point, from the blocks it reads and the results so far. -/
def step (I : Ins F) (o : Acc F) : Acc F where
  dx := k0_pay1 (dxw' I) I.dres
  dwin := k0_pay2 (dz' I) o.dwin I.x
  dwuq := k0_pay51 (nq' I) (dqf' I) o.dwuq
  dwk := k0_pay58 (k0_pay56 o.dwk) (k0_pay57 (nkv' I) (dkb' I))
  dwv := k0_pay59 (dvb' I) (k0_pay55 (nkv' I)) o.dwv
  dgq := k0_pay52 (xhq' I) (dqf' I) (wuq' I) zq o.dgq
  dgkv := k0_pay60 (xhk' I) (dnkv' I) o.dgkv

/-- `128` lanes of the queries' gradient. -/
def lanes (x : Vec F S512x1536 .f32) (o : ℕ) (h : o + 128 ≤ 1536) : Vec F S512x128 .f32 :=
  fun y => x (ix2 (y 0) ⟨o + (y 1).val, lt_of_lt_of_le (Nat.add_lt_add_left (show (y 1).val < 128 from (y 1).isLt) o) h⟩)

end Cert.MlaBlock

end
-- ==== Proof.MlaRun.lean ====
/-
The projections' gradient kernel's run: at every point of the grid its body leaves one `step` of the results so far.
-/
module

public import proofs.«01_k».proof.Proof.MlaStep
public import proofs.«01_k».proof.Proof.Gen.Kernel3Ideal.Frame.Runs
public import Idealize.ShloMosaic.Lib.Claim
public import Idealize.ShloMosaic.Lib.WritesUnit

@[expose] public section

set_option maxRecDepth 16384

noncomputable section

namespace Cert.MlaRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen Cert.MlaBlock

variable {F : FTy → Type} [FloatOps F] [Named F]

local notation "𝕄" => MT nD τ sig Unit (Elt F) ℕ (UR sig nD τ) ℕ

/-! ## Reads of whole buffers -/

section
variable {κ : Kind} {sp : Space} {d : Fin 2 → ℕ} {e : EltTy} (a : Memref sig κ sp ⟨2, d⟩ e)

theorem rect_zero (inb : ∀ b, (![0, 0] : Fin 2 → ℕ) b + d b ≤ d b) (y : (⟨2, d⟩ : Shape).Idx) (b : Fin 2) :
    (![0, 0] : Fin 2 → ℕ) b + (y b).val = (y b).val := by
  match b with
  | 0 => exact Nat.zero_add _
  | 1 => exact Nat.zero_add _

theorem same (h : a.IsWhole) (x : Vec F ⟨2, d⟩ e) (inb : ∀ b, (![0, 0] : Fin 2 → ℕ) b + d b ≤ d b) :
    a.view.readAt (Elt F) (Rect.unit (s := ⟨2, d⟩) ![0, 0] d inb).toLoadRect (h.unread x) = x := by
  have e : a.view.read (Elt F) (h.unread (Val := Elt F) x) = x := h.read_unread _
  funext y
  show a.view.read (Elt F) (h.unread (Val := Elt F) x) _ = _
  rw [e]
  refine congrArg x (funext fun b => Fin.ext ?_)
  match b with
  | 0 => show 0 + 1 * (y 0).val = (y 0).val; omega
  | 1 => show 0 + 1 * (y 1).val = (y 1).val; omega

theorem last (f : BufTy.Contents (Elt F) a.view.ty) (inb : ∀ b, (![0, 0] : Fin 2 → ℕ) b + d b ≤ d b) (v : Vec F ⟨2, d⟩ e)
    (L : List (View.Piece (Elt F) ⟨2, d⟩ e)) :
    a.view.read (Elt F) (a.view.writes (Elt F) f (⟨Rect.unit (s := ⟨2, d⟩) ![0, 0] d inb, v⟩ :: L)) = v := by
  funext y
  exact View.read_writes_cons_unit_of_mem _ _ inb v L y y rfl fun b => (rect_zero inb y b).symm

theorem again (f : BufTy.Contents (Elt F) a.view.ty) (inb inb' : ∀ b, (![0, 0] : Fin 2 → ℕ) b + d b ≤ d b)
    (v : Vec F ⟨2, d⟩ e) (L : List (View.Piece (Elt F) ⟨2, d⟩ e)) :
    a.view.readAt (Elt F) (Rect.unit (s := ⟨2, d⟩) ![0, 0] d inb).toLoadRect
      (a.view.writes (Elt F) f (⟨Rect.unit (s := ⟨2, d⟩) ![0, 0] d inb', v⟩ :: L)) = v := by
  funext y
  show a.view.read (Elt F) _ _ = _
  rw [last a f inb' v L]
  refine congrArg v (funext fun b => Fin.ext ?_)
  match b with
  | 0 => show 0 + 1 * (y 0).val = (y 0).val; omega
  | 1 => show 0 + 1 * (y 1).val = (y 1).val; omega

theorem cover (inb inb' : ∀ b, (![0, 0] : Fin 2 → ℕ) b + d b ≤ d b) (v : Vec F ⟨2, d⟩ e) :
    a.view.readCov (Val := Elt F) [⟨Rect.unit (s := ⟨2, d⟩) ![0, 0] d inb', v⟩]
      (Rect.unit (s := ⟨2, d⟩) ![0, 0] d inb).toLoadRect = v :=
  again a _ inb inb' v []

end

theorem slice {κ : Kind} {sp : Space} (a : Memref sig κ sp S512x1536 .f32) (h : a.IsWhole) (x : Vec F S512x1536 .f32) (o : ℕ)
    (ho : o + 128 ≤ 1536) (inb : ∀ b, (![0, o] : Fin 2 → ℕ) b + S512x128.size b ≤ S512x1536.size b) :
    a.view.readAt (Elt F) (Rect.unit (s := S512x1536) ![0, o] S512x128.size inb).toLoadRect (h.unread x) = lanes x o ho := by
  have e : a.view.read (Elt F) (h.unread (Val := Elt F) x) = x := h.read_unread _
  funext y
  show a.view.read (Elt F) (h.unread (Val := Elt F) x) _ = _
  rw [e]
  refine congrArg x (funext fun b => Fin.ext ?_)
  match b with
  | 0 => show 0 + 1 * (y 0).val = (y 0).val; omega
  | 1 => show o + 1 * (y 1).val = o + (y 1).val; omega

/-! ## The body -/

/-- The staging buffers one point's body is called with. -/
structure Bufs where
  a0 : Memref sig .tc .vmem S512x1024 .f32
  h0 : a0.IsWhole
  a1 : Memref sig .tc .vmem S512x384 .f32
  h1 : a1.IsWhole
  a2 : Memref sig .tc .vmem S512x256 .f32
  h2 : a2.IsWhole
  a3 : Memref sig .tc .vmem S512x1536 .f32
  h3 : a3.IsWhole
  a4 : Memref sig .tc .vmem S1536x512 .f32
  h4 : a4.IsWhole
  a5 : Memref sig .tc .vmem S768x512 .f32
  h5 : a5.IsWhole
  a6 : Memref sig .tc .vmem S512x1024 .f32
  h6 : a6.IsWhole
  a7 : Memref sig .tc .vmem S512x256 .f32
  h7 : a7.IsWhole
  a8 : Memref sig .tc .vmem S512x1024 .f32
  h8 : a8.IsWhole
  a9 : Memref sig .tc .vmem S1024x2048 .bf16
  h9 : a9.IsWhole
  a10 : Memref sig .tc .vmem S1x384 .f32
  h10 : a10.IsWhole
  a11 : Memref sig .tc .vmem S1x256 .f32
  h11 : a11.IsWhole
  a12 : Memref sig .tc .vmem S384x1536 .bf16
  h12 : a12.IsWhole
  a13 : Memref sig .tc .vmem S256x1536 .bf16
  h13 : a13.IsWhole
  a14 : Memref sig .tc .vmem S256x768 .bf16
  h14 : a14.IsWhole
  a15 : Memref sig .tc .vmem S512x128 .f32
  h15 : a15.IsWhole
  a16 : Memref sig .tc .vmem S512x128 .f32
  h16 : a16.IsWhole
  a17 : Memref sig .tc .vmem S512x128 .f32
  h17 : a17.IsWhole
  a18 : Memref sig .tc .vmem S512x1024 .f32
  h18 : a18.IsWhole
  a19 : Memref sig .tc .vmem S1024x2048 .f32
  h19 : a19.IsWhole
  a20 : Memref sig .tc .vmem S384x1536 .f32
  h20 : a20.IsWhole
  a21 : Memref sig .tc .vmem S256x1536 .f32
  h21 : a21.IsWhole
  a22 : Memref sig .tc .vmem S256x768 .f32
  h22 : a22.IsWhole
  a23 : Memref sig .tc .vmem S1x384 .f32
  h23 : a23.IsWhole
  a24 : Memref sig .tc .vmem S1x256 .f32
  h24 : a24.IsWhole

/-- The blocks the inputs' buffers hold, the queries' gradient whole. -/
structure Blks (F : FTy → Type) where
  x : Vec F S512x1024 .f32
  cq : Vec F S512x384 .f32
  ckv : Vec F S512x256 .f32
  dq : Vec F S512x1536 .f32
  dkt : Vec F S1536x512 .f32
  dvt : Vec F S768x512 .f32
  dgate : Vec F S512x1024 .f32
  dqm : Vec F S512x256 .f32
  dres : Vec F S512x1024 .f32
  win : Vec F S1024x2048 .bf16
  gq : Vec F S1x384 .f32
  gkv : Vec F S1x256 .f32
  wuq : Vec F S384x1536 .bf16
  wk : Vec F S256x1536 .bf16
  wv : Vec F S256x768 .bf16
  c : Vec F S512x128 .f32
  sa : Vec F S512x128 .f32
  sb : Vec F S512x128 .f32

/-- The same, that gradient by head. -/
def Blks.ins (I : Blks F) : Ins F :=
  { I with dq := fun h => lanes I.dq (128 * h.val) (by omega) }

variable (c : Dev nD) (B : Bufs)

/-- The inputs' buffers hold `I`. -/
def held (I : Blks F) : sProp 𝕄 :=
  iprop(owns (c : Thread nD τ) B.a0 fullShare I.x
    ∗ owns (c : Thread nD τ) B.a1 fullShare I.cq
    ∗ owns (c : Thread nD τ) B.a2 fullShare I.ckv
    ∗ owns (c : Thread nD τ) B.a3 fullShare I.dq
    ∗ owns (c : Thread nD τ) B.a4 fullShare I.dkt
    ∗ owns (c : Thread nD τ) B.a5 fullShare I.dvt
    ∗ owns (c : Thread nD τ) B.a6 fullShare I.dgate
    ∗ owns (c : Thread nD τ) B.a7 fullShare I.dqm
    ∗ owns (c : Thread nD τ) B.a8 fullShare I.dres
    ∗ owns (c : Thread nD τ) B.a9 fullShare I.win
    ∗ owns (c : Thread nD τ) B.a10 fullShare I.gq
    ∗ owns (c : Thread nD τ) B.a11 fullShare I.gkv
    ∗ owns (c : Thread nD τ) B.a12 fullShare I.wuq
    ∗ owns (c : Thread nD τ) B.a13 fullShare I.wk
    ∗ owns (c : Thread nD τ) B.a14 fullShare I.wv
    ∗ owns (c : Thread nD τ) B.a15 fullShare I.c
    ∗ owns (c : Thread nD τ) B.a16 fullShare I.sa
    ∗ owns (c : Thread nD τ) B.a17 fullShare I.sb)
/-- The results' buffers hold `o`. -/
def left (o : Acc F) : sProp 𝕄 :=
  iprop(owns (c : Thread nD τ) B.a18 fullShare o.dx
    ∗ owns (c : Thread nD τ) B.a19 fullShare o.dwin
    ∗ owns (c : Thread nD τ) B.a20 fullShare o.dwuq
    ∗ owns (c : Thread nD τ) B.a21 fullShare o.dwk
    ∗ owns (c : Thread nD τ) B.a22 fullShare o.dwv
    ∗ owns (c : Thread nD τ) B.a23 fullShare o.dgq
    ∗ owns (c : Thread nD τ) B.a24 fullShare o.dgkv)

/-- The body on those buffers. -/
abbrev call (i : grid0.Coords) : Prog (TpuEff nD τ sig (Elt F) Λ₀ .tc) PUnit :=
  cc0_mla_proj_bwd i B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24

set_option maxHeartbeats 4000000 in
theorem body_next (i : grid0.Coords) (hc : ¬ cond0_0 i) (I : Blks F) (o : Acc F) (K : PUnit → sProp 𝕄) :
    iprop((held c B I ∗ left c B o) ∗ ((held c B I ∗ left c B (step I.ins (o))) -∗ K ⟨⟩))
      ⊢ wp frame (wpE (defs₀ (F := F)) Variants.none c none) Set.univ (call B i) K := by
  unfold call
  simp only [cc0_mla_proj_bwd_eq_skeleton]; unfold cc0_mla_proj_bwd_skel
  simp only [k0_part1_eq_skeleton, k0_part2_eq_skeleton, k0_part3_eq_skeleton, k0_part4_eq_skeleton, k0_part5_eq_skeleton,
    k0_part6_eq_skeleton, k0_part7_eq_skeleton]
  unfold held left owns
  iintro ⟨⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩⟩, Hk⟩
  obtain rfl := B.h0.eq_unread hf0
  obtain rfl := B.h1.eq_unread hf1
  obtain rfl := B.h2.eq_unread hf2
  obtain rfl := B.h3.eq_unread hf3
  obtain rfl := B.h4.eq_unread hf4
  obtain rfl := B.h5.eq_unread hf5
  obtain rfl := B.h6.eq_unread hf6
  obtain rfl := B.h7.eq_unread hf7
  obtain rfl := B.h8.eq_unread hf8
  obtain rfl := B.h9.eq_unread hf9
  obtain rfl := B.h10.eq_unread hf10
  obtain rfl := B.h11.eq_unread hf11
  obtain rfl := B.h12.eq_unread hf12
  obtain rfl := B.h13.eq_unread hf13
  obtain rfl := B.h14.eq_unread hf14
  obtain rfl := B.h15.eq_unread hf15
  obtain rfl := B.h16.eq_unread hf16
  obtain rfl := B.h17.eq_unread hf17
  obtain rfl := B.h18.eq_unread hf18
  obtain rfl := B.h19.eq_unread hf19
  obtain rfl := B.h20.eq_unread hf20
  obtain rfl := B.h21.eq_unread hf21
  obtain rfl := B.h22.eq_unread hf22
  obtain rfl := B.h23.eq_unread hf23
  obtain rfl := B.h24.eq_unread hf24
  sl_exec (disch := first | sl_exact hc)
  sl_step
  iapply Hk
  isplitl [H0 H1 H2 H3 H4 H5 H6 H7 H8 H9 H10 H11 H12 H13 H14 H15 H16 H17]
  · isplitl [H0]
    · iexists _; isplitr; · ipureintro; exact B.h0.read_unread _
      iexact H0
    isplitl [H1]
    · iexists _; isplitr; · ipureintro; exact B.h1.read_unread _
      iexact H1
    isplitl [H2]
    · iexists _; isplitr; · ipureintro; exact B.h2.read_unread _
      iexact H2
    isplitl [H3]
    · iexists _; isplitr; · ipureintro; exact B.h3.read_unread _
      iexact H3
    isplitl [H4]
    · iexists _; isplitr; · ipureintro; exact B.h4.read_unread _
      iexact H4
    isplitl [H5]
    · iexists _; isplitr; · ipureintro; exact B.h5.read_unread _
      iexact H5
    isplitl [H6]
    · iexists _; isplitr; · ipureintro; exact B.h6.read_unread _
      iexact H6
    isplitl [H7]
    · iexists _; isplitr; · ipureintro; exact B.h7.read_unread _
      iexact H7
    isplitl [H8]
    · iexists _; isplitr; · ipureintro; exact B.h8.read_unread _
      iexact H8
    isplitl [H9]
    · iexists _; isplitr; · ipureintro; exact B.h9.read_unread _
      iexact H9
    isplitl [H10]
    · iexists _; isplitr; · ipureintro; exact B.h10.read_unread _
      iexact H10
    isplitl [H11]
    · iexists _; isplitr; · ipureintro; exact B.h11.read_unread _
      iexact H11
    isplitl [H12]
    · iexists _; isplitr; · ipureintro; exact B.h12.read_unread _
      iexact H12
    isplitl [H13]
    · iexists _; isplitr; · ipureintro; exact B.h13.read_unread _
      iexact H13
    isplitl [H14]
    · iexists _; isplitr; · ipureintro; exact B.h14.read_unread _
      iexact H14
    isplitl [H15]
    · iexists _; isplitr; · ipureintro; exact B.h15.read_unread _
      iexact H15
    isplitl [H16]
    · iexists _; isplitr; · ipureintro; exact B.h16.read_unread _
      iexact H16
    iexists _; isplitr; · ipureintro; exact B.h17.read_unread _
    iexact H17
  isplitl [H18]
  · iexists _; isplitr; swap; · iexact H18
    ipureintro; sl_unfold_run_names; simp only [last, again, cover, same, slice _ _ _ 0 (by decide), slice _ _ _ 128 (by decide), slice _ _ _ 256 (by decide), slice _ _ _ 384 (by decide), slice _ _ _ 512 (by decide), slice _ _ _ 640 (by decide), slice _ _ _ 768 (by decide), slice _ _ _ 896 (by decide), slice _ _ _ 1024 (by decide), slice _ _ _ 1152 (by decide), slice _ _ _ 1280 (by decide), slice _ _ _ 1408 (by decide)]; rfl
  isplitl [H19]
  · iexists _; isplitr; swap; · iexact H19
    ipureintro; sl_unfold_run_names; simp only [last, again, cover, same, slice _ _ _ 0 (by decide), slice _ _ _ 128 (by decide), slice _ _ _ 256 (by decide), slice _ _ _ 384 (by decide), slice _ _ _ 512 (by decide), slice _ _ _ 640 (by decide), slice _ _ _ 768 (by decide), slice _ _ _ 896 (by decide), slice _ _ _ 1024 (by decide), slice _ _ _ 1152 (by decide), slice _ _ _ 1280 (by decide), slice _ _ _ 1408 (by decide)]; rfl
  isplitl [H20]
  · iexists _; isplitr; swap; · iexact H20
    ipureintro; sl_unfold_run_names; simp only [last, again, cover, same, slice _ _ _ 0 (by decide), slice _ _ _ 128 (by decide), slice _ _ _ 256 (by decide), slice _ _ _ 384 (by decide), slice _ _ _ 512 (by decide), slice _ _ _ 640 (by decide), slice _ _ _ 768 (by decide), slice _ _ _ 896 (by decide), slice _ _ _ 1024 (by decide), slice _ _ _ 1152 (by decide), slice _ _ _ 1280 (by decide), slice _ _ _ 1408 (by decide)]; rfl
  isplitl [H21]
  · iexists _; isplitr; swap; · iexact H21
    ipureintro; sl_unfold_run_names; simp only [last, again, cover, same, slice _ _ _ 0 (by decide), slice _ _ _ 128 (by decide), slice _ _ _ 256 (by decide), slice _ _ _ 384 (by decide), slice _ _ _ 512 (by decide), slice _ _ _ 640 (by decide), slice _ _ _ 768 (by decide), slice _ _ _ 896 (by decide), slice _ _ _ 1024 (by decide), slice _ _ _ 1152 (by decide), slice _ _ _ 1280 (by decide), slice _ _ _ 1408 (by decide)]; rfl
  isplitl [H22]
  · iexists _; isplitr; swap; · iexact H22
    ipureintro; sl_unfold_run_names; simp only [last, again, cover, same, slice _ _ _ 0 (by decide), slice _ _ _ 128 (by decide), slice _ _ _ 256 (by decide), slice _ _ _ 384 (by decide), slice _ _ _ 512 (by decide), slice _ _ _ 640 (by decide), slice _ _ _ 768 (by decide), slice _ _ _ 896 (by decide), slice _ _ _ 1024 (by decide), slice _ _ _ 1152 (by decide), slice _ _ _ 1280 (by decide), slice _ _ _ 1408 (by decide)]; rfl
  isplitl [H23]
  · iexists _; isplitr; swap; · iexact H23
    ipureintro; sl_unfold_run_names; simp only [last, again, cover, same, slice _ _ _ 0 (by decide), slice _ _ _ 128 (by decide), slice _ _ _ 256 (by decide), slice _ _ _ 384 (by decide), slice _ _ _ 512 (by decide), slice _ _ _ 640 (by decide), slice _ _ _ 768 (by decide), slice _ _ _ 896 (by decide), slice _ _ _ 1024 (by decide), slice _ _ _ 1152 (by decide), slice _ _ _ 1280 (by decide), slice _ _ _ 1408 (by decide)]; rfl
  iexists _; isplitr; swap; · iexact H24
  ipureintro; sl_unfold_run_names; simp only [last, again, cover, same, slice _ _ _ 0 (by decide), slice _ _ _ 128 (by decide), slice _ _ _ 256 (by decide), slice _ _ _ 384 (by decide), slice _ _ _ 512 (by decide), slice _ _ _ 640 (by decide), slice _ _ _ 768 (by decide), slice _ _ _ 896 (by decide), slice _ _ _ 1024 (by decide), slice _ _ _ 1152 (by decide), slice _ _ _ 1280 (by decide), slice _ _ _ 1408 (by decide)]; rfl

set_option maxHeartbeats 4000000 in
theorem body_first (i : grid0.Coords) (hc : cond0_0 i) (I : Blks F) (o : Acc F) (K : PUnit → sProp 𝕄) :
    iprop((held c B I ∗ left c B o) ∗ ((held c B I ∗ left c B (step I.ins (Acc.zero))) -∗ K ⟨⟩))
      ⊢ wp frame (wpE (defs₀ (F := F)) Variants.none c none) Set.univ (call B i) K := by
  unfold call
  simp only [cc0_mla_proj_bwd_eq_skeleton]; unfold cc0_mla_proj_bwd_skel
  simp only [k0_part1_eq_skeleton, k0_part2_eq_skeleton, k0_part3_eq_skeleton, k0_part4_eq_skeleton, k0_part5_eq_skeleton,
    k0_part6_eq_skeleton, k0_part7_eq_skeleton]
  unfold held left owns
  iintro ⟨⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩⟩, Hk⟩
  obtain rfl := B.h0.eq_unread hf0
  obtain rfl := B.h1.eq_unread hf1
  obtain rfl := B.h2.eq_unread hf2
  obtain rfl := B.h3.eq_unread hf3
  obtain rfl := B.h4.eq_unread hf4
  obtain rfl := B.h5.eq_unread hf5
  obtain rfl := B.h6.eq_unread hf6
  obtain rfl := B.h7.eq_unread hf7
  obtain rfl := B.h8.eq_unread hf8
  obtain rfl := B.h9.eq_unread hf9
  obtain rfl := B.h10.eq_unread hf10
  obtain rfl := B.h11.eq_unread hf11
  obtain rfl := B.h12.eq_unread hf12
  obtain rfl := B.h13.eq_unread hf13
  obtain rfl := B.h14.eq_unread hf14
  obtain rfl := B.h15.eq_unread hf15
  obtain rfl := B.h16.eq_unread hf16
  obtain rfl := B.h17.eq_unread hf17
  obtain rfl := B.h18.eq_unread hf18
  obtain rfl := B.h19.eq_unread hf19
  obtain rfl := B.h20.eq_unread hf20
  obtain rfl := B.h21.eq_unread hf21
  obtain rfl := B.h22.eq_unread hf22
  obtain rfl := B.h23.eq_unread hf23
  obtain rfl := B.h24.eq_unread hf24
  sl_exec (disch := first | sl_exact hc)
  sl_step
  iapply Hk
  isplitl [H0 H1 H2 H3 H4 H5 H6 H7 H8 H9 H10 H11 H12 H13 H14 H15 H16 H17]
  · isplitl [H0]
    · iexists _; isplitr; · ipureintro; exact B.h0.read_unread _
      iexact H0
    isplitl [H1]
    · iexists _; isplitr; · ipureintro; exact B.h1.read_unread _
      iexact H1
    isplitl [H2]
    · iexists _; isplitr; · ipureintro; exact B.h2.read_unread _
      iexact H2
    isplitl [H3]
    · iexists _; isplitr; · ipureintro; exact B.h3.read_unread _
      iexact H3
    isplitl [H4]
    · iexists _; isplitr; · ipureintro; exact B.h4.read_unread _
      iexact H4
    isplitl [H5]
    · iexists _; isplitr; · ipureintro; exact B.h5.read_unread _
      iexact H5
    isplitl [H6]
    · iexists _; isplitr; · ipureintro; exact B.h6.read_unread _
      iexact H6
    isplitl [H7]
    · iexists _; isplitr; · ipureintro; exact B.h7.read_unread _
      iexact H7
    isplitl [H8]
    · iexists _; isplitr; · ipureintro; exact B.h8.read_unread _
      iexact H8
    isplitl [H9]
    · iexists _; isplitr; · ipureintro; exact B.h9.read_unread _
      iexact H9
    isplitl [H10]
    · iexists _; isplitr; · ipureintro; exact B.h10.read_unread _
      iexact H10
    isplitl [H11]
    · iexists _; isplitr; · ipureintro; exact B.h11.read_unread _
      iexact H11
    isplitl [H12]
    · iexists _; isplitr; · ipureintro; exact B.h12.read_unread _
      iexact H12
    isplitl [H13]
    · iexists _; isplitr; · ipureintro; exact B.h13.read_unread _
      iexact H13
    isplitl [H14]
    · iexists _; isplitr; · ipureintro; exact B.h14.read_unread _
      iexact H14
    isplitl [H15]
    · iexists _; isplitr; · ipureintro; exact B.h15.read_unread _
      iexact H15
    isplitl [H16]
    · iexists _; isplitr; · ipureintro; exact B.h16.read_unread _
      iexact H16
    iexists _; isplitr; · ipureintro; exact B.h17.read_unread _
    iexact H17
  isplitl [H18]
  · iexists _; isplitr; swap; · iexact H18
    ipureintro; sl_unfold_run_names; simp only [last, again, cover, same, slice _ _ _ 0 (by decide), slice _ _ _ 128 (by decide), slice _ _ _ 256 (by decide), slice _ _ _ 384 (by decide), slice _ _ _ 512 (by decide), slice _ _ _ 640 (by decide), slice _ _ _ 768 (by decide), slice _ _ _ 896 (by decide), slice _ _ _ 1024 (by decide), slice _ _ _ 1152 (by decide), slice _ _ _ 1280 (by decide), slice _ _ _ 1408 (by decide)]; rfl
  isplitl [H19]
  · iexists _; isplitr; swap; · iexact H19
    ipureintro; sl_unfold_run_names; simp only [last, again, cover, same, slice _ _ _ 0 (by decide), slice _ _ _ 128 (by decide), slice _ _ _ 256 (by decide), slice _ _ _ 384 (by decide), slice _ _ _ 512 (by decide), slice _ _ _ 640 (by decide), slice _ _ _ 768 (by decide), slice _ _ _ 896 (by decide), slice _ _ _ 1024 (by decide), slice _ _ _ 1152 (by decide), slice _ _ _ 1280 (by decide), slice _ _ _ 1408 (by decide)]; rfl
  isplitl [H20]
  · iexists _; isplitr; swap; · iexact H20
    ipureintro; sl_unfold_run_names; simp only [last, again, cover, same, slice _ _ _ 0 (by decide), slice _ _ _ 128 (by decide), slice _ _ _ 256 (by decide), slice _ _ _ 384 (by decide), slice _ _ _ 512 (by decide), slice _ _ _ 640 (by decide), slice _ _ _ 768 (by decide), slice _ _ _ 896 (by decide), slice _ _ _ 1024 (by decide), slice _ _ _ 1152 (by decide), slice _ _ _ 1280 (by decide), slice _ _ _ 1408 (by decide)]; rfl
  isplitl [H21]
  · iexists _; isplitr; swap; · iexact H21
    ipureintro; sl_unfold_run_names; simp only [last, again, cover, same, slice _ _ _ 0 (by decide), slice _ _ _ 128 (by decide), slice _ _ _ 256 (by decide), slice _ _ _ 384 (by decide), slice _ _ _ 512 (by decide), slice _ _ _ 640 (by decide), slice _ _ _ 768 (by decide), slice _ _ _ 896 (by decide), slice _ _ _ 1024 (by decide), slice _ _ _ 1152 (by decide), slice _ _ _ 1280 (by decide), slice _ _ _ 1408 (by decide)]; rfl
  isplitl [H22]
  · iexists _; isplitr; swap; · iexact H22
    ipureintro; sl_unfold_run_names; simp only [last, again, cover, same, slice _ _ _ 0 (by decide), slice _ _ _ 128 (by decide), slice _ _ _ 256 (by decide), slice _ _ _ 384 (by decide), slice _ _ _ 512 (by decide), slice _ _ _ 640 (by decide), slice _ _ _ 768 (by decide), slice _ _ _ 896 (by decide), slice _ _ _ 1024 (by decide), slice _ _ _ 1152 (by decide), slice _ _ _ 1280 (by decide), slice _ _ _ 1408 (by decide)]; rfl
  isplitl [H23]
  · iexists _; isplitr; swap; · iexact H23
    ipureintro; sl_unfold_run_names; simp only [last, again, cover, same, slice _ _ _ 0 (by decide), slice _ _ _ 128 (by decide), slice _ _ _ 256 (by decide), slice _ _ _ 384 (by decide), slice _ _ _ 512 (by decide), slice _ _ _ 640 (by decide), slice _ _ _ 768 (by decide), slice _ _ _ 896 (by decide), slice _ _ _ 1024 (by decide), slice _ _ _ 1152 (by decide), slice _ _ _ 1280 (by decide), slice _ _ _ 1408 (by decide)]; rfl
  iexists _; isplitr; swap; · iexact H24
  ipureintro; sl_unfold_run_names; simp only [last, again, cover, same, slice _ _ _ 0 (by decide), slice _ _ _ 128 (by decide), slice _ _ _ 256 (by decide), slice _ _ _ 384 (by decide), slice _ _ _ 512 (by decide), slice _ _ _ 640 (by decide), slice _ _ _ 768 (by decide), slice _ _ _ 896 (by decide), slice _ _ _ 1024 (by decide), slice _ _ _ 1152 (by decide), slice _ _ _ 1280 (by decide), slice _ _ _ 1408 (by decide)]; rfl

/-! ## The grid -/

variable (m : (ℓ : Loc nD τ sig) → Buf (Elt F) ℓ) (ρ : Dev nD → PrngReg)

/-- Point `t`'s staging buffers. -/
def bufs (t : Fin cfg0.N) : Bufs :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, ms0_15 t, hs0_15 t, ms0_16 t, hs0_16 t, ms0_17 t, hs0_17 t, ms0_18 t, hs0_18 t, ms0_19 t, hs0_19 t, ms0_20 t, hs0_20 t, ms0_21 t, hs0_21 t, ms0_22 t, hs0_22 t, ms0_23 t, hs0_23 t, ms0_24 t, hs0_24 t⟩

/-- The blocks point `t` reads. -/
def blks (c : Dev nD) (t : Fin cfg0.N) : Blks F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t⟩

/-- The results after the points up to `n`. -/
def outs (c : Dev nD) : (n : ℕ) → n < cfg0.N → MlaBlock.Acc F
  | 0, h => step (blks m c ⟨0, h⟩).ins Acc.zero
  | n + 1, h => step (blks m c ⟨n + 1, h⟩).ins (outs c n (Nat.lt_of_succ_lt h))

theorem outs_first (t : Fin cfg0.N) (h : t.val % 16 = 0) :
    outs m c t.val t.isLt = step (blks m c t).ins Acc.zero := by
  have hN : t.val < 16 := lt_of_lt_of_eq t.isLt (show cfg0.N = 16 from N_0)
  obtain ⟨n, hn⟩ := t
  obtain rfl : n = 0 := by dsimp only at h hN; omega
  rfl

theorem outs_next (t : Fin cfg0.N) (h : ¬ t.val % 16 = 0) :
    outs m c t.val t.isLt
      = step (blks m c t).ins (outs m c (t.val - 1) (Nat.lt_of_le_of_lt (Nat.sub_le _ _) t.isLt)) := by
  obtain ⟨n, hn⟩ := t
  cases n with
  | zero => exact absurd rfl h
  | succ n => rfl

/-- The region's data: the arrays as it meets them, and what each point's body leaves. -/
def dats (_ : Fin 1) (c : Dev nD) : Dat τ (Elt F) Unit ℕ (UR sig nD τ) ℕ cfg0 c where
  A w := V m c (Pipeline.arrRef spec0 w)
  after w t := match w with
    | ⟨18, _⟩ => (outs m c t.val t.isLt).dx
    | ⟨19, _⟩ => (outs m c t.val t.isLt).dwin
    | ⟨20, _⟩ => (outs m c t.val t.isLt).dwuq
    | ⟨21, _⟩ => (outs m c t.val t.isLt).dwk
    | ⟨22, _⟩ => (outs m c t.val t.isLt).dwv
    | ⟨23, _⟩ => (outs m c t.val t.isLt).dgq
    | ⟨24, _⟩ => (outs m c t.val t.isLt).dgkv
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨_ + 25, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem before_19 (t : Fin cfg0.N) (h0 : ¬ t.val % 16 = 0) (d) :
    (dats m 0 c).before 19 t d = (outs m c (t.val - 1) (Nat.lt_of_le_of_lt (Nat.sub_le _ _) t.isLt)).dwin := by
  have hN : t.val < 16 := lt_of_lt_of_eq t.isLt (show cfg0.N = 16 from N_0)
  rw [Dat.before_out_kept _ 19 rfl t (by omega)
    (Bool.eq_false_iff.mpr fun h => by have := (flush0_19 _).mp h; dsimp only at this; omega) (fun _ => rfl) (fun _ _ => rfl)]
  dsimp only [dats]
theorem before_20 (t : Fin cfg0.N) (h0 : ¬ t.val % 16 = 0) (d) :
    (dats m 0 c).before 20 t d = (outs m c (t.val - 1) (Nat.lt_of_le_of_lt (Nat.sub_le _ _) t.isLt)).dwuq := by
  have hN : t.val < 16 := lt_of_lt_of_eq t.isLt (show cfg0.N = 16 from N_0)
  rw [Dat.before_out_kept _ 20 rfl t (by omega)
    (Bool.eq_false_iff.mpr fun h => by have := (flush0_20 _).mp h; dsimp only at this; omega) (fun _ => rfl) (fun _ _ => rfl)]
  dsimp only [dats]
theorem before_21 (t : Fin cfg0.N) (h0 : ¬ t.val % 16 = 0) (d) :
    (dats m 0 c).before 21 t d = (outs m c (t.val - 1) (Nat.lt_of_le_of_lt (Nat.sub_le _ _) t.isLt)).dwk := by
  have hN : t.val < 16 := lt_of_lt_of_eq t.isLt (show cfg0.N = 16 from N_0)
  rw [Dat.before_out_kept _ 21 rfl t (by omega)
    (Bool.eq_false_iff.mpr fun h => by have := (flush0_21 _).mp h; dsimp only at this; omega) (fun _ => rfl) (fun _ _ => rfl)]
  dsimp only [dats]
theorem before_22 (t : Fin cfg0.N) (h0 : ¬ t.val % 16 = 0) (d) :
    (dats m 0 c).before 22 t d = (outs m c (t.val - 1) (Nat.lt_of_le_of_lt (Nat.sub_le _ _) t.isLt)).dwv := by
  have hN : t.val < 16 := lt_of_lt_of_eq t.isLt (show cfg0.N = 16 from N_0)
  rw [Dat.before_out_kept _ 22 rfl t (by omega)
    (Bool.eq_false_iff.mpr fun h => by have := (flush0_22 _).mp h; dsimp only at this; omega) (fun _ => rfl) (fun _ _ => rfl)]
  dsimp only [dats]
theorem before_23 (t : Fin cfg0.N) (h0 : ¬ t.val % 16 = 0) (d) :
    (dats m 0 c).before 23 t d = (outs m c (t.val - 1) (Nat.lt_of_le_of_lt (Nat.sub_le _ _) t.isLt)).dgq := by
  have hN : t.val < 16 := lt_of_lt_of_eq t.isLt (show cfg0.N = 16 from N_0)
  rw [Dat.before_out_kept _ 23 rfl t (by omega)
    (Bool.eq_false_iff.mpr fun h => by have := (flush0_23 _).mp h; dsimp only at this; omega) (fun _ => rfl) (fun _ _ => rfl)]
  dsimp only [dats]
theorem before_24 (t : Fin cfg0.N) (h0 : ¬ t.val % 16 = 0) (d) :
    (dats m 0 c).before 24 t d = (outs m c (t.val - 1) (Nat.lt_of_le_of_lt (Nat.sub_le _ _) t.isLt)).dgkv := by
  have hN : t.val < 16 := lt_of_lt_of_eq t.isLt (show cfg0.N = 16 from N_0)
  rw [Dat.before_out_kept _ 24 rfl t (by omega)
    (Bool.eq_false_iff.mpr fun h => by have := (flush0_24 _).mp h; dsimp only at this; omega) (fun _ => rfl) (fun _ _ => rfl)]
  dsimp only [dats]

/-- What the body is called with at point `t`. -/
def pre (t : Fin cfg0.N) : sProp 𝕄 :=
  iprop(Pipeline.ΦA spec0 c ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))
/-- What it returns. -/
def post (t : Fin cfg0.N) : sProp 𝕄 :=
  iprop(Pipeline.ΦA spec0 c ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t)
    ∗ owns (c : Thread nD τ) (ms0_12 t) fullShare (iblk m c 12 t)
    ∗ owns (c : Thread nD τ) (ms0_13 t) fullShare (iblk m c 13 t)
    ∗ owns (c : Thread nD τ) (ms0_14 t) fullShare (iblk m c 14 t)
    ∗ owns (c : Thread nD τ) (ms0_15 t) fullShare (iblk m c 15 t)
    ∗ owns (c : Thread nD τ) (ms0_16 t) fullShare (iblk m c 16 t)
    ∗ owns (c : Thread nD τ) (ms0_17 t) fullShare (iblk m c 17 t)
    ∗ owns (c : Thread nD τ) (ms0_18 t) fullShare (outs m c t.val t.isLt).dx
    ∗ owns (c : Thread nD τ) (ms0_19 t) fullShare (outs m c t.val t.isLt).dwin
    ∗ owns (c : Thread nD τ) (ms0_20 t) fullShare (outs m c t.val t.isLt).dwuq
    ∗ owns (c : Thread nD τ) (ms0_21 t) fullShare (outs m c t.val t.isLt).dwk
    ∗ owns (c : Thread nD τ) (ms0_22 t) fullShare (outs m c t.val t.isLt).dwv
    ∗ owns (c : Thread nD τ) (ms0_23 t) fullShare (outs m c t.val t.isLt).dgq
    ∗ owns (c : Thread nD τ) (ms0_24 t) fullShare (outs m c t.val t.isLt).dgkv)

set_option maxHeartbeats 4000000 in
theorem sound (t : Fin cfg0.N) :
    pre c m t ⊢ wp frame (wpE (defs₀ (F := F)) Variants.none c none) Set.univ (bodyAt0 t) (fun _ => post c m t) := by
  rw [show (bodyAt0 t : Prog (TpuEff nD τ sig (Elt F) Λ₀ .tc) PUnit) = call (bufs t) (grid0.coords t) from rfl]
  unfold pre post
  simp only [before0_0_of m (dats m 0 c) (A_eq m c 0) (fun _ => by dsimp only [dats]),
    before0_1_of m (dats m 0 c) (A_eq m c 1) (fun _ => by dsimp only [dats]),
    before0_2_of m (dats m 0 c) (A_eq m c 2) (fun _ => by dsimp only [dats]),
    before0_3_of m (dats m 0 c) (A_eq m c 3) (fun _ => by dsimp only [dats]),
    before0_4_of m (dats m 0 c) (A_eq m c 4) (fun _ => by dsimp only [dats]),
    before0_5_of m (dats m 0 c) (A_eq m c 5) (fun _ => by dsimp only [dats]),
    before0_6_of m (dats m 0 c) (A_eq m c 6) (fun _ => by dsimp only [dats]),
    before0_7_of m (dats m 0 c) (A_eq m c 7) (fun _ => by dsimp only [dats]),
    before0_8_of m (dats m 0 c) (A_eq m c 8) (fun _ => by dsimp only [dats]),
    before0_9_of m (dats m 0 c) (A_eq m c 9) (fun _ => by dsimp only [dats]),
    before0_10_of m (dats m 0 c) (A_eq m c 10) (fun _ => by dsimp only [dats]),
    before0_11_of m (dats m 0 c) (A_eq m c 11) (fun _ => by dsimp only [dats]),
    before0_12_of m (dats m 0 c) (A_eq m c 12) (fun _ => by dsimp only [dats]),
    before0_13_of m (dats m 0 c) (A_eq m c 13) (fun _ => by dsimp only [dats]),
    before0_14_of m (dats m 0 c) (A_eq m c 14) (fun _ => by dsimp only [dats]),
    before0_15_of m (dats m 0 c) (A_eq m c 15) (fun _ => by dsimp only [dats]),
    before0_16_of m (dats m 0 c) (A_eq m c 16) (fun _ => by dsimp only [dats]),
    before0_17_of m (dats m 0 c) (A_eq m c 17) (fun _ => by dsimp only [dats])]
  by_cases h0 : t.val % 16 = 0
  · rw [outs_first c m t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
    iapply (body_first c (bufs t) (grid0.coords t) ((hcond0_0 t).mpr h0) (blks m c t)
      ⟨(dats m 0 c).before 18 t d18, (dats m 0 c).before 19 t d19, (dats m 0 c).before 20 t d20, (dats m 0 c).before 21 t d21, (dats m 0 c).before 22 t d22, (dats m 0 c).before 23 t d23, (dats m 0 c).before 24 t d24⟩)
    isplitl [H0 H1 H2 H3 H4 H5 H6 H7 H8 H9 H10 H11 H12 H13 H14 H15 H16 H17 H18 H19 H20 H21 H22 H23 H24]
    · unfold held left bufs blks
      isplitl [H0 H1 H2 H3 H4 H5 H6 H7 H8 H9 H10 H11 H12 H13 H14 H15 H16 H17]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        iexact H17
      isplitl [H18]; · iexact H18
      isplitl [H19]; · iexact H19
      isplitl [H20]; · iexact H20
      isplitl [H21]; · iexact H21
      isplitl [H22]; · iexact H22
      isplitl [H23]; · iexact H23
      iexact H24
    unfold held left bufs blks
    iintro ⟨⟨H0, H1, H2, H3, H4, H5, H6, H7, H8, H9, H10, H11, H12, H13, H14, H15, H16, H17⟩, H18, H19, H20, H21, H22, H23, H24⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24
  · rw [outs_next c m t h0]
    simp only [before_19 c m t h0, before_20 c m t h0, before_21 c m t h0, before_22 c m t h0, before_23 c m t h0, before_24 c m t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
    iapply (body_next c (bufs t) (grid0.coords t) (fun h => h0 ((hcond0_0 t).mp h)) (blks m c t)
      ⟨(dats m 0 c).before 18 t d18, (outs m c (t.val - 1) (Nat.lt_of_le_of_lt (Nat.sub_le _ _) t.isLt)).dwin, (outs m c (t.val - 1) (Nat.lt_of_le_of_lt (Nat.sub_le _ _) t.isLt)).dwuq, (outs m c (t.val - 1) (Nat.lt_of_le_of_lt (Nat.sub_le _ _) t.isLt)).dwk, (outs m c (t.val - 1) (Nat.lt_of_le_of_lt (Nat.sub_le _ _) t.isLt)).dwv, (outs m c (t.val - 1) (Nat.lt_of_le_of_lt (Nat.sub_le _ _) t.isLt)).dgq, (outs m c (t.val - 1) (Nat.lt_of_le_of_lt (Nat.sub_le _ _) t.isLt)).dgkv⟩)
    isplitl [H0 H1 H2 H3 H4 H5 H6 H7 H8 H9 H10 H11 H12 H13 H14 H15 H16 H17 H18 H19 H20 H21 H22 H23 H24]
    · unfold held left bufs blks
      isplitl [H0 H1 H2 H3 H4 H5 H6 H7 H8 H9 H10 H11 H12 H13 H14 H15 H16 H17]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        iexact H17
      isplitl [H18]; · iexact H18
      isplitl [H19]; · iexact H19
      isplitl [H20]; · iexact H20
      isplitl [H21]; · iexact H21
      isplitl [H22]; · iexact H22
      isplitl [H23]; · iexact H23
      iexact H24
    unfold held left bufs blks
    iintro ⟨⟨H0, H1, H2, H3, H4, H5, H6, H7, H8, H9, H10, H11, H12, H13, H14, H15, H16, H17⟩, H18, H19, H20, H21, H22, H23, H24⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24

theorem body_row (t : Fin cfg0.N) :
    defs₀ (F := F) .tc cfg0.body (cfg0.bodyArgs t (cfg0.slots t)) = bodyAt0 t := by
  unfold defs₀; rw [Defs.onTc_tc]

set_option maxHeartbeats 2000000 in
theorem obligation (c : Dev nD) : BodyObligation (dats (F := F) m 0 c) (defs₀ (F := F)) Variants.none () Set.univ := fun t => by
  rw [bigSep_W0, bigSep_W0, body_row]
  exact triple_restated (sound c m t) rfl .rfl fun _ => .rfl

/-! ## The run -/

set_option backward.isDefEq.respectTransparency.types false in
set_option maxHeartbeats 2000000 in
/-- Every fair execution ends with the arrays at what the points left, all counters at zero. -/
theorem run_all : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_all m ρ)

/-- The arguments end as they were, and every counter is zero. -/
theorem frame_kernel : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) (run m ρ)) ((θ_run defs _ _).mono (fun _ h => h.2) (run_all m ρ))

end Cert.MlaRun

end
-- ==== Proof.MlaFrame.lean ====
/-
The compiled projections' gradient program: the same text as the idealized one at `Bits`, so the run proved of that one
is its run.
-/
module

public import proofs.«01_k».proof.Proof.MlaRun
public import proofs.«01_k».proof.Proof.Gen.Kernel3
public import Idealize.ShloMosaic.Lib.Tactic
public import proofs.«01_k».proof.Defs

@[expose] public section

set_option maxRecDepth 16384

noncomputable section

namespace Cert.MlaFrame

open Idealize.ShloMosaic Idealize.ShloMosaic.TcCoe Idealize.SL.Sem

/-- At `Bits` a named constant is its bits. -/
abbrev plain : Named Bits := ⟨fun _ _ {φ} bits => FloatOps.ofBits φ bits⟩

theorem frame_kernel : Cert.quiescent_Kernel3 := fun m g _ => by
  refine Eq.mp ?_ (@Cert.MlaRun.frame_kernel Bits _ plain m g)
  sl_kernel_rfl

end Cert.MlaFrame

end
-- ==== Proof.MlaModel.lean ====
/-
What the projections' gradient kernel computes of one row of its arguments, as real functions.
-/
module

public import proofs.«01_k».proof.Proof.Core
public import Mathlib.Analysis.SpecialFunctions.Log.Basic

@[expose] public section

noncomputable section

namespace Cert.Mla

open Cert.Core Idealize.ShloMosaic

theorem bits_384 : Ideal.ofBits .f32 0x43C00000#32 = ((384 : ℝ) : EReal) := by
  simp [Ideal.ofBits, Ideal.ieee, -EReal.coe_mul]; norm_num
theorem bits_256 : Ideal.ofBits .f32 0x43800000#32 = ((256 : ℝ) : EReal) := by
  simp [Ideal.ofBits, Ideal.ieee, -EReal.coe_mul]; norm_num

/-- One row of the kernel's row-tiled arguments; `dq` by head and lane. -/
structure Row where
  x : Fin 1024 → ℝ
  cq : Fin 384 → ℝ
  ckv : Fin 256 → ℝ
  dq : Fin 12 → Fin 128 → ℝ
  dkt : Fin 1536 → ℝ
  dvt : Fin 768 → ℝ
  dgate : Fin 1024 → ℝ
  dqm : Fin 256 → ℝ
  dres : Fin 1024 → ℝ
  c : Fin 128 → ℝ
  sa : Fin 128 → ℝ
  sb : Fin 128 → ℝ

/-- The arguments every row shares. -/
structure Par where
  win : Fin 1024 → Fin 2048 → ℝ
  gq : Fin 384 → ℝ
  gkv : Fin 256 → ℝ
  wuq : Fin 384 → Fin 1536 → ℝ
  wk : Fin 256 → Fin 1536 → ℝ
  wv : Fin 256 → Fin 768 → ℝ

/-- The lane that a rotation by `s` lanes brings to lane `l`. -/
def rot (s : ℕ) (l : Fin 128) : Fin 128 := ⟨(l.val + 128 - s) % 128, Nat.mod_lt _ (by norm_num)⟩
/-- Head and lane of a column of the heads side by side, and the column. -/
def hd (j : Fin 1536) : Fin 12 := ⟨j.val / 128, by omega⟩
def ln (j : Fin 1536) : Fin 128 := ⟨j.val % 128, Nat.mod_lt _ (by norm_num)⟩
def hl (h : Fin 12) (l : Fin 128) : Fin 1536 := ⟨128 * h.val + l.val, by omega⟩

/-- The root mean square's reciprocal. -/
def rinv {n : ℕ} (c : Fin n → ℝ) : ℝ := (√((∑ k, c k * c k) / n + eps))⁻¹
/-- The gradient of the root mean square norm in its argument, from the gradient `d` of its result before the gain. -/
def dnorm {n : ℕ} (c d : Fin n → ℝ) (k : Fin n) : ℝ :=
  rinv c * (d k - c k * rinv c * ((∑ i, d i * (c i * rinv c)) / n))

theorem mean_pos {n : ℕ} (c : Fin n → ℝ) : 0 < (∑ k, c k * c k) / n + eps :=
  add_pos_of_nonneg_of_pos (div_nonneg (Finset.sum_nonneg fun _ _ => mul_self_nonneg _) (Nat.cast_nonneg _)) eps_pos

variable (W : Par) (R : Row)

def xhq (k : Fin 384) : ℝ := R.cq k * rinv R.cq
def xhk (k : Fin 256) : ℝ := R.ckv k * rinv R.ckv
def nq (k : Fin 384) : ℝ := xhq R k * W.gq k
def nkv (k : Fin 256) : ℝ := xhk R k * W.gkv k
def dkp (j : Fin 1536) : ℝ := R.dkt j * Real.log 2
/-- The rotary map's transpose on one head. -/
def rope (d : Fin 128 → ℝ) (l : Fin 128) : ℝ :=
  d l * R.c l + d (rot 16 l) * R.sa (rot 16 l) + d (rot 112 l) * R.sb (rot 112 l)
def dqf (j : Fin 1536) : ℝ := rope R (R.dq (hd j)) (ln j)
def dkr (l : Fin 128) : ℝ := if 64 ≤ l.val ∧ l.val < 96 then rope R (fun l => ∑ h, dkp R (hl h l)) l else 0
def dnq (k : Fin 384) : ℝ := ∑ j, dqf R j * W.wuq k j
def dcq (k : Fin 384) : ℝ := dnorm R.cq (fun k => dnq W R k * W.gq k) k
def dnkv (k : Fin 256) : ℝ := ∑ j, dkp R j * W.wk k j + ∑ j, R.dvt j * W.wv k j
def dckv (k : Fin 256) : ℝ := dnorm R.ckv (fun k => dnkv W R k * W.gkv k) k
def dz (j : Fin 2048) : ℝ :=
  if h : j.val < 1024 then R.dgate ⟨j.val, h⟩
  else if h : j.val < 1280 then R.dqm ⟨j.val - 1024, by omega⟩
  else if h : j.val < 1664 then dcq W R ⟨j.val - 1280, by omega⟩
  else if h : j.val < 1920 then dckv W R ⟨j.val - 1664, by omega⟩
  else dkr R ⟨j.val - 1920, by omega⟩
def dx (k : Fin 1024) : ℝ := ∑ j, dz W R j * W.win k j + R.dres k

end Cert.Mla

end
-- ==== Proof.MlaBlock.lean ====
/-
One block of 512 rows of the projections' gradient kernel: the arrays its body computes from the blocks it reads,
and their values where those blocks hold real numbers.
-/
module

public import proofs.«01_k».proof.Proof.MlaModel
public import proofs.«01_k».proof.Proof.MlaStep

@[expose] public section

set_option maxRecDepth 16384

noncomputable section

open Idealize.ShloMosaic
open Cert.Kernel3Ideal Cert.Kernel3Ideal.Gen

namespace Cert.MlaBlock

open Cert.Core Cert.Mla

/-- The blocks hold the parameters `W` and the rows `X`. -/
structure Holds (I : Ins Ideal) (W : Par) (X : Fin 512 → Row) : Prop where
  x : ∀ r k, I.x (ix2 r k) = (((X r).x k : ℝ) : EReal)
  cq : ∀ r k, I.cq (ix2 r k) = (((X r).cq k : ℝ) : EReal)
  ckv : ∀ r k, I.ckv (ix2 r k) = (((X r).ckv k : ℝ) : EReal)
  dq : ∀ h r k, I.dq h (ix2 r k) = (((X r).dq h k : ℝ) : EReal)
  dkt : ∀ k r, I.dkt (ix2 k r) = (((X r).dkt k : ℝ) : EReal)
  dvt : ∀ k r, I.dvt (ix2 k r) = (((X r).dvt k : ℝ) : EReal)
  dgate : ∀ r k, I.dgate (ix2 r k) = (((X r).dgate k : ℝ) : EReal)
  dqm : ∀ r k, I.dqm (ix2 r k) = (((X r).dqm k : ℝ) : EReal)
  dres : ∀ r k, I.dres (ix2 r k) = (((X r).dres k : ℝ) : EReal)
  win : ∀ r k, I.win (ix2 r k) = ((W.win r k : ℝ) : EReal)
  gq : ∀ r k, I.gq (ix2 r k) = ((W.gq k : ℝ) : EReal)
  gkv : ∀ r k, I.gkv (ix2 r k) = ((W.gkv k : ℝ) : EReal)
  wuq : ∀ r k, I.wuq (ix2 r k) = ((W.wuq r k : ℝ) : EReal)
  wk : ∀ r k, I.wk (ix2 r k) = ((W.wk r k : ℝ) : EReal)
  wv : ∀ r k, I.wv (ix2 r k) = ((W.wv r k : ℝ) : EReal)
  c : ∀ r k, I.c (ix2 r k) = (((X r).c k : ℝ) : EReal)
  sa : ∀ r k, I.sa (ix2 r k) = (((X r).sa k : ℝ) : EReal)
  sb : ∀ r k, I.sb (ix2 r k) = (((X r).sb k : ℝ) : EReal)

/-! ## Their values -/

theorem named_log2 : (Named.named κ "log_two" 0x3F317218#32 : Ideal .f32) = ((Real.log 2 : ℝ) : EReal) := rfl

section
variable {I : Ins Ideal} {W : Par} {X : Fin 512 → Row} (H : Holds I W X)
include H

theorem c_read (r : Fin 512) (l : Fin 128) : c' I (ix2 r l) = (((X r).c l : ℝ) : EReal) := by
  pointwise [k0_pay9]; exact H.c r l
theorem sa_read (r : Fin 512) (l : Fin 128) : sa' I (ix2 r l) = (((X r).sa l : ℝ) : EReal) := by
  pointwise [k0_pay10]; exact H.sa r l
theorem sb_read (r : Fin 512) (l : Fin 128) : sb' I (ix2 r l) = (((X r).sb l : ℝ) : EReal) := by
  pointwise [k0_pay11]; exact H.sb r l
theorem gq_read (r : Fin 1) (l : Fin 384) : gq' I (ix2 r l) = ((W.gq l : ℝ) : EReal) := by
  pointwise [k0_pay12]; exact H.gq r l
theorem gkv_read (r : Fin 1) (l : Fin 256) : gkv' I (ix2 r l) = ((W.gkv l : ℝ) : EReal) := by
  pointwise [k0_pay13]; exact H.gkv r l
theorem rq_read (r : Fin 512) (i : Fin 1) : rq' I (ix2 r i) = ((rinv (X r).cq : ℝ) : EReal) := by
  pointwise [k0_pay15, k0_pay14]
  have h := mean_pos (X r).cq
  norm_num at h
  simp only [H.cq, bits_384, bits_eps, ← EReal.coe_mul, coe_sum, div_real _ (show (384 : ℝ) ≠ 0 by norm_num),
    ← EReal.coe_add, rsqrt_real h]
  norm_num [rinv]
theorem xhq_read (r : Fin 512) (k : Fin 384) : xhq' I (ix2 r k) = ((xhq (X r) k : ℝ) : EReal) := by
  pointwise [k0_pay16, k0_pay14]
  simp only [rq_read H, H.cq, ← EReal.coe_mul, xhq]
theorem nq_read (r : Fin 512) (k : Fin 384) : nq' I (ix2 r k) = ((nq W (X r) k : ℝ) : EReal) := by
  pointwise [k0_pay17]
  simp only [xhq_read H, gq_read H, ← EReal.coe_mul, nq]
theorem rk_read (r : Fin 512) (i : Fin 1) : rk' I (ix2 r i) = ((rinv (X r).ckv : ℝ) : EReal) := by
  pointwise [k0_pay21, k0_pay20, k0_pay19, k0_pay18]
  have h := mean_pos (X r).ckv
  norm_num at h
  simp only [H.ckv, bits_256, bits_eps, ← EReal.coe_mul, coe_sum, div_real _ (show (256 : ℝ) ≠ 0 by norm_num),
    ← EReal.coe_add, rsqrt_real h]
  norm_num [rinv]
theorem xhk_read (r : Fin 512) (k : Fin 256) : xhk' I (ix2 r k) = ((xhk (X r) k : ℝ) : EReal) := by
  pointwise [k0_pay22, k0_pay18]
  simp only [rk_read H, H.ckv, ← EReal.coe_mul, xhk]
theorem nkv_read (r : Fin 512) (k : Fin 256) : nkv' I (ix2 r k) = ((nkv W (X r) k : ℝ) : EReal) := by
  pointwise [k0_pay23]
  simp only [xhk_read H, gkv_read H, ← EReal.coe_mul, nkv]
theorem dkp_read (r : Fin 512) (j : Fin 1536) : dkp' I (ix2 r j) = ((dkp (X r) j : ℝ) : EReal) := by
  pointwise [k0_pay24]
  simp only [H.dkt, named_log2, ← EReal.coe_mul, dkp]

/-- One head's gradient, turned back. -/
theorem head_read (h : Fin 12) (r : Fin 512) (l : Fin 128) :
    k0_pay25 (c' I) (sa' I) (sb' I) (I.dq h) (ix2 r l) = ((rope (X r) ((X r).dq h) l : ℝ) : EReal) := by
  pointwise [k0_pay25]
  simp only [c_read H, sa_read H, sb_read H, H.dq, ← EReal.coe_mul, ← EReal.coe_add]; rfl

omit H in
/-- The heads side by side. -/
theorem dqf_heads : dqf' I = concatenate S512x1536 1
    (List.ofFn fun h : Fin 12 => (⟨S512x128, k0_pay25 (c' I) (sa' I) (sb' I) (I.dq h)⟩ : (s : Shape) × (s.Idx → Ideal .bf16)))
    (show Shape.Concatenates (List.replicate 12 S512x128) S512x1536 1 by decide) := rfl
theorem dqf_read (r : Fin 512) (j : Fin 1536) : dqf' I (ix2 r j) = ((dqf (X r) j : ℝ) : EReal) := by
  rw [dqf_heads]
  refine (concatenate_ofFn_apply (t := S512x1536) (s₁ := S512x128) 1 (fun h => k0_pay25 (c' I) (sa' I) (sb' I) (I.dq h)) _
    rfl 128 rfl (ix2 r j) (hd j) rfl (ix2 r (ln j)) rfl fun b hb => ?_).trans (head_read H _ _ _)
  match b with
  | 0 => rfl
  | 1 => exact absurd rfl hb
theorem s3_read (r : Fin 512) (l : Fin 128) :
    s3' I (ix2 r l) + dkp' I (ix2 r ⟨1280 + l.val, by omega⟩) + dkp' I (ix2 r ⟨1408 + l.val, by omega⟩) =
      ((∑ h, dkp (X r) (hl h l) : ℝ) : EReal) := by
  pointwise [k0_pay43, k0_pay35, k0_pay27]
  simp only [dkp_read H, ← EReal.coe_add]
  refine congrArg _ ?_
  have e0 : (⟨l.val, by omega⟩ : Fin 1536) = hl 0 l := Fin.ext (show l.val = 128 * 0 + l.val by omega)
  simp only [Fin.sum_univ_castSucc, Finset.univ_eq_empty, Finset.sum_empty, zero_add]
  rw [e0]; rfl
omit H in
theorem word_mid : ∀ l : Fin 128, IntOp.andi (IntOp.cmpi .sge (BitVec.ofNat 32 l.val) 64#32)
    (IntOp.cmpi .slt (BitVec.ofNat 32 l.val) 96#32) = if 64 ≤ l.val ∧ l.val < 96 then 1#1 else 0#1 := by
  decide +kernel
omit H in
theorem select_mid (l : Fin 128) {α : Type} (a b : α) : Scalar.select (IntOp.andi (IntOp.cmpi .sge (BitVec.ofNat 32 l.val) 64#32)
    (IntOp.cmpi .slt (BitVec.ofNat 32 l.val) 96#32)) a b = if 64 ≤ l.val ∧ l.val < 96 then a else b := by
  rw [word_mid l]
  by_cases h : 64 ≤ l.val ∧ l.val < 96 <;> simp [Scalar.select, h]
theorem dkr_read (r : Fin 512) (l : Fin 128) : dkr' I (ix2 r l) = ((dkr (X r) l : ℝ) : EReal) := by
  pointwise [k0_pay46]
  rw [select_mid l]
  simp only [s3_read H, c_read H, sa_read H, sb_read H, bits_zero, ← EReal.coe_mul, ← EReal.coe_add, dkr]
  split
  · rfl
  · exact EReal.coe_zero.symm
theorem dvb_read (r : Fin 512) (j : Fin 768) : dvb' I (ix2 r j) = (((X r).dvt j : ℝ) : EReal) := by
  pointwise [k0_pay47]; exact H.dvt j r
theorem dkb_read (r : Fin 512) (j : Fin 1536) : dkb' I (ix2 r j) = ((dkp (X r) j : ℝ) : EReal) := by
  pointwise [k0_pay48]; exact dkp_read H r j
theorem wuq_read (r : Fin 384) (j : Fin 1536) : wuq' I (ix2 r j) = ((W.wuq r j : ℝ) : EReal) := by
  pointwise [k0_pay49]; exact H.wuq r j
theorem dnq_read (r : Fin 512) (k : Fin 384) : dnq' I (ix2 r k) = ((dnq W (X r) k : ℝ) : EReal) := by
  pointwise [k0_pay50]
  simp only [dqf_read H, wuq_read H, ← EReal.coe_mul, coe_sum, dnq]
theorem dcq_read (r : Fin 512) (k : Fin 384) : dcq' I (ix2 r k) = ((dcq W (X r) k : ℝ) : EReal) := by
  pointwise [k0_pay53]
  simp only [dnq_read H, gq_read H, xhq_read H, rq_read H, bits_384, ← EReal.coe_mul, coe_sum,
    div_real _ (show (384 : ℝ) ≠ 0 by norm_num), ← EReal.coe_sub, xhq, dcq, dnorm]
  norm_num
theorem dnkv_read (r : Fin 512) (k : Fin 256) : dnkv' I (ix2 r k) = ((dnkv W (X r) k : ℝ) : EReal) := by
  pointwise [k0_pay54]
  simp only [dkb_read H, dvb_read H, H.wk, H.wv, ← EReal.coe_mul, coe_sum, ← EReal.coe_add, dnkv]
theorem dz_read (r : Fin 512) (j : Fin 2048) : dz' I (ix2 r j) = ((dz W (X r) j : ℝ) : EReal) := by
  pointwise [k0_pay61]
  unfold dz
  by_cases h1 : j.val < 1024
  · rw [dif_pos h1, dif_pos h1]; exact H.dgate _ _
  rw [dif_neg h1, dif_neg h1]
  simp only [Nat.sub_sub, Nat.reduceAdd]
  by_cases h2 : j.val < 1280
  · rw [dif_pos (by omega), dif_pos h2]; exact H.dqm _ _
  rw [dif_neg (by omega), dif_neg h2]
  by_cases h3 : j.val < 1664
  · rw [dif_pos (by omega), dif_pos h3]; exact dcq_read H _ _
  rw [dif_neg (by omega), dif_neg h3]
  by_cases h4 : j.val < 1920
  · rw [dif_pos (by omega), dif_pos h4]
    simp only [dnkv_read H, gkv_read H, xhk_read H, rk_read H, bits_256, ← EReal.coe_mul, coe_sum,
      div_real _ (show (256 : ℝ) ≠ 0 by norm_num), ← EReal.coe_sub, xhk, dckv, dnorm]
    norm_num
  rw [dif_neg (by omega), dif_neg h4]; exact dkr_read H _ _
theorem dx_read (r : Fin 512) (k : Fin 1024) : k0_pay1 (dxw' I) I.dres (ix2 r k) = ((dx W (X r) k : ℝ) : EReal) := by
  pointwise [k0_pay1, k0_pay62]
  simp only [dz_read H, H.win, H.dres, ← EReal.coe_mul, coe_sum, ← EReal.coe_add, dx]

/-! ### What the block adds to the accumulated results -/

theorem dwin_read (old : Vec Ideal S1024x2048 .f32) (k : Fin 1024) (j : Fin 2048) :
    k0_pay2 (dz' I) old I.x (ix2 k j) = old (ix2 k j) + ((∑ r, (X r).x k * dz W (X r) j : ℝ) : EReal) := by
  pointwise [k0_pay2]
  simp only [dz_read H, H.x, ← EReal.coe_mul, coe_sum]
theorem dwuq_read (old : Vec Ideal S384x1536 .f32) (k : Fin 384) (j : Fin 1536) :
    k0_pay51 (nq' I) (dqf' I) old (ix2 k j) = old (ix2 k j) + ((∑ r, nq W (X r) k * dqf (X r) j : ℝ) : EReal) := by
  pointwise [k0_pay51]
  simp only [nq_read H, dqf_read H, ← EReal.coe_mul, coe_sum]
theorem dgq_read (old : Vec Ideal S1x384 .f32) (i : Fin 1) (k : Fin 384) :
    k0_pay52 (xhq' I) (dqf' I) (wuq' I) zq old (ix2 i k) =
      old (ix2 i k) + ((∑ r, dnq W (X r) k * xhq (X r) k : ℝ) : EReal) := by
  pointwise [k0_pay52]
  simp only [dnq_read H, xhq_read H, ← EReal.coe_mul, coe_sum]
theorem dwk_read (old : Vec Ideal S256x1536 .f32) (k : Fin 256) (j : Fin 1536) :
    k0_pay58 (k0_pay56 old) (k0_pay57 (nkv' I) (dkb' I)) (ix2 k j) =
      old (ix2 k j) + ((∑ r, nkv W (X r) k * dkp (X r) j : ℝ) : EReal) := by
  pointwise [k0_pay58, k0_pay56, k0_pay57, k0_pay55]
  simp only [nkv_read H, dkb_read H, ← EReal.coe_mul, coe_sum]
theorem dwv_read (old : Vec Ideal S256x768 .f32) (k : Fin 256) (j : Fin 768) :
    k0_pay59 (dvb' I) (k0_pay55 (nkv' I)) old (ix2 k j) =
      old (ix2 k j) + ((∑ r, nkv W (X r) k * (X r).dvt j : ℝ) : EReal) := by
  pointwise [k0_pay59, k0_pay55]
  simp only [nkv_read H, dvb_read H, ← EReal.coe_mul, coe_sum]
theorem dgkv_read (old : Vec Ideal S1x256 .f32) (i : Fin 1) (k : Fin 256) :
    k0_pay60 (xhk' I) (dnkv' I) old (ix2 i k) =
      old (ix2 i k) + ((∑ r, dnkv W (X r) k * xhk (X r) k : ℝ) : EReal) := by
  pointwise [k0_pay60]
  simp only [dnkv_read H, xhk_read H, ← EReal.coe_mul, coe_sum]

end

end Cert.MlaBlock

end
-- ==== Proof.MlaArr.lean ====
/-
The region's seven result arrays after its grid has run, as functions of the real numbers its argument arrays hold:
one written block by block, six accumulated over the blocks and written once at the end.
-/
module

public import proofs.«01_k».proof.Proof.MlaRun
public import proofs.«01_k».proof.Proof.MlaBlock

@[expose] public section

set_option maxRecDepth 16384
set_option maxHeartbeats 1000000

noncomputable section

open Idealize.ShloMosaic Idealize.ShloMosaic.TcCoe Idealize.SL.Sem
open Idealize.ShloMosaic.Pipeline (Dat)
open Cert.Kernel3Ideal Cert.Kernel3Ideal.Gen

namespace Cert.MlaArr

open Cert.Core Cert.Mla Cert.MlaBlock Cert.MlaRun

variable (m : (ℓ : Loc nD τ sig) → Buf (Elt Ideal) ℓ)

/-- The region's argument arrays hold `W` and the rows `R`. -/
structure Reads (e : Dev nD) (W : Par) (R : Fin 8192 → Row) : Prop where
  x : ∀ (r : Fin 8192) (k : Fin 1024), V m e main_v31 (ix2 r k) = (((R r).x k : ℝ) : EReal)
  cq : ∀ (r : Fin 8192) (k : Fin 384), V m e main_v34 (ix2 r k) = (((R r).cq k : ℝ) : EReal)
  ckv : ∀ (r : Fin 8192) (k : Fin 256), V m e main_v35 (ix2 r k) = (((R r).ckv k : ℝ) : EReal)
  dgate : ∀ (r : Fin 8192) (k : Fin 1024), V m e main_v76 (ix2 r k) = (((R r).dgate k : ℝ) : EReal)
  dqm : ∀ (r : Fin 8192) (k : Fin 256), V m e main_v77 (ix2 r k) = (((R r).dqm k : ℝ) : EReal)
  dres : ∀ (r : Fin 8192) (k : Fin 1024), V m e main_v78 (ix2 r k) = (((R r).dres k : ℝ) : EReal)
  c : ∀ (r : Fin 8192) (k : Fin 128), V m e main_v49 (ix2 r k) = (((R r).c k : ℝ) : EReal)
  sa : ∀ (r : Fin 8192) (k : Fin 128), V m e main_v56 (ix2 r k) = (((R r).sa k : ℝ) : EReal)
  sb : ∀ (r : Fin 8192) (k : Fin 128), V m e main_v62 (ix2 r k) = (((R r).sb k : ℝ) : EReal)
  dq : ∀ (r : Fin 8192) (k : Fin 1536), V m e main_v75 (ix2 r k) = (((R r).dq (hd k) (ln k) : ℝ) : EReal)
  dkt : ∀ (k : Fin 1536) (r : Fin 8192), V m e main_v69 (ix2 k r) = (((R r).dkt k : ℝ) : EReal)
  dvt : ∀ (k : Fin 768) (r : Fin 8192), V m e main_v72 (ix2 k r) = (((R r).dvt k : ℝ) : EReal)
  win : ∀ (r : Fin 1024) (k : Fin 2048), V m e main_v6 (ix2 r k) = ((W.win r k : ℝ) : EReal)
  wuq : ∀ (r : Fin 384) (k : Fin 1536), V m e main_v12 (ix2 r k) = ((W.wuq r k : ℝ) : EReal)
  wk : ∀ (r : Fin 256) (k : Fin 1536), V m e main_v17 (ix2 r k) = ((W.wk r k : ℝ) : EReal)
  wv : ∀ (r : Fin 256) (k : Fin 768), V m e main_v20 (ix2 r k) = ((W.wv r k : ℝ) : EReal)
  gq : ∀ (r : Fin 1) (k : Fin 384), V m e main_v7 (ix2 r k) = ((W.gq k : ℝ) : EReal)
  gkv : ∀ (r : Fin 1) (k : Fin 256), V m e main_v8 (ix2 r k) = ((W.gkv k : ℝ) : EReal)

/-! ## Which block each point reads and writes -/

theorem idx : ∀ t : Fin cfg0.N, win0_0.index t = ![t.val, 0] ∧
    win0_1.index t = ![t.val, 0] ∧
    win0_2.index t = ![t.val, 0] ∧
    win0_3.index t = ![t.val, 0] ∧
    win0_4.index t = ![0, t.val] ∧
    win0_5.index t = ![0, t.val] ∧
    win0_6.index t = ![t.val, 0] ∧
    win0_7.index t = ![t.val, 0] ∧
    win0_8.index t = ![t.val, 0] ∧
    win0_9.index t = ![0, 0] ∧
    win0_10.index t = ![0, 0] ∧
    win0_11.index t = ![0, 0] ∧
    win0_12.index t = ![0, 0] ∧
    win0_13.index t = ![0, 0] ∧
    win0_14.index t = ![0, 0] ∧
    win0_15.index t = ![t.val, 0] ∧
    win0_16.index t = ![t.val, 0] ∧
    win0_17.index t = ![t.val, 0] ∧
    win0_18.index t = ![t.val, 0] ∧
    win0_19.index t = ![0, 0] ∧
    win0_20.index t = ![0, 0] ∧
    win0_21.index t = ![0, 0] ∧
    win0_22.index t = ![0, 0] ∧
    win0_23.index t = ![0, 0] ∧
    win0_24.index t = ![0, 0] :=
  (by decide +kernel : ∀ t : Fin grid0.N, _)

theorem pt (t : Fin cfg0.N) : t.val < 16 := t.isLt

/-- The row of the arrays that is row `r` of the block at point `t`. -/
def rowOf (t : Fin cfg0.N) (r : Fin 512) : Fin 8192 := ⟨t.val * 512 + r.val, by have := pt t; omega⟩

theorem blk_x (c : Dev nD) (t : Fin cfg0.N) (r : Fin 512) (k : Fin 1024) :
    iblk m c (0 : Fin 25) t (ix2 r k) = V m c main_v31 (ix2 (rowOf t r) k) := by
  unfold rowOf; blk_point [iblk, idx t]
theorem blk_cq (c : Dev nD) (t : Fin cfg0.N) (r : Fin 512) (k : Fin 384) :
    iblk m c (1 : Fin 25) t (ix2 r k) = V m c main_v34 (ix2 (rowOf t r) k) := by
  unfold rowOf; blk_point [iblk, idx t]
theorem blk_ckv (c : Dev nD) (t : Fin cfg0.N) (r : Fin 512) (k : Fin 256) :
    iblk m c (2 : Fin 25) t (ix2 r k) = V m c main_v35 (ix2 (rowOf t r) k) := by
  unfold rowOf; blk_point [iblk, idx t]
theorem blk_dgate (c : Dev nD) (t : Fin cfg0.N) (r : Fin 512) (k : Fin 1024) :
    iblk m c (6 : Fin 25) t (ix2 r k) = V m c main_v76 (ix2 (rowOf t r) k) := by
  unfold rowOf; blk_point [iblk, idx t]
theorem blk_dqm (c : Dev nD) (t : Fin cfg0.N) (r : Fin 512) (k : Fin 256) :
    iblk m c (7 : Fin 25) t (ix2 r k) = V m c main_v77 (ix2 (rowOf t r) k) := by
  unfold rowOf; blk_point [iblk, idx t]
theorem blk_dres (c : Dev nD) (t : Fin cfg0.N) (r : Fin 512) (k : Fin 1024) :
    iblk m c (8 : Fin 25) t (ix2 r k) = V m c main_v78 (ix2 (rowOf t r) k) := by
  unfold rowOf; blk_point [iblk, idx t]
theorem blk_c (c : Dev nD) (t : Fin cfg0.N) (r : Fin 512) (k : Fin 128) :
    iblk m c (15 : Fin 25) t (ix2 r k) = V m c main_v49 (ix2 (rowOf t r) k) := by
  unfold rowOf; blk_point [iblk, idx t]
theorem blk_sa (c : Dev nD) (t : Fin cfg0.N) (r : Fin 512) (k : Fin 128) :
    iblk m c (16 : Fin 25) t (ix2 r k) = V m c main_v56 (ix2 (rowOf t r) k) := by
  unfold rowOf; blk_point [iblk, idx t]
theorem blk_sb (c : Dev nD) (t : Fin cfg0.N) (r : Fin 512) (k : Fin 128) :
    iblk m c (17 : Fin 25) t (ix2 r k) = V m c main_v62 (ix2 (rowOf t r) k) := by
  unfold rowOf; blk_point [iblk, idx t]
theorem blk_dq (c : Dev nD) (t : Fin cfg0.N) (r : Fin 512) (k : Fin 1536) :
    iblk m c (3 : Fin 25) t (ix2 r k) = V m c main_v75 (ix2 (rowOf t r) k) := by
  unfold rowOf; blk_point [iblk, idx t]
theorem blk_dkt (c : Dev nD) (t : Fin cfg0.N) (k : Fin 1536) (r : Fin 512) :
    iblk m c (4 : Fin 25) t (ix2 k r) = V m c main_v69 (ix2 k (rowOf t r)) := by
  unfold rowOf; blk_point [iblk, idx t]
theorem blk_dvt (c : Dev nD) (t : Fin cfg0.N) (k : Fin 768) (r : Fin 512) :
    iblk m c (5 : Fin 25) t (ix2 k r) = V m c main_v72 (ix2 k (rowOf t r)) := by
  unfold rowOf; blk_point [iblk, idx t]
theorem blk_win (c : Dev nD) (t : Fin cfg0.N) (r : Fin 1024) (k : Fin 2048) :
    iblk m c (9 : Fin 25) t (ix2 r k) = V m c main_v6 (ix2 r k) := by
  blk_point [iblk, idx t]
theorem blk_wuq (c : Dev nD) (t : Fin cfg0.N) (r : Fin 384) (k : Fin 1536) :
    iblk m c (12 : Fin 25) t (ix2 r k) = V m c main_v12 (ix2 r k) := by
  blk_point [iblk, idx t]
theorem blk_wk (c : Dev nD) (t : Fin cfg0.N) (r : Fin 256) (k : Fin 1536) :
    iblk m c (13 : Fin 25) t (ix2 r k) = V m c main_v17 (ix2 r k) := by
  blk_point [iblk, idx t]
theorem blk_wv (c : Dev nD) (t : Fin cfg0.N) (r : Fin 256) (k : Fin 768) :
    iblk m c (14 : Fin 25) t (ix2 r k) = V m c main_v20 (ix2 r k) := by
  blk_point [iblk, idx t]
theorem blk_gq (c : Dev nD) (t : Fin cfg0.N) (r : Fin 1) (k : Fin 384) :
    iblk m c (10 : Fin 25) t (ix2 r k) = V m c main_v7 (ix2 r k) := by
  blk_point [iblk, idx t]
theorem blk_gkv (c : Dev nD) (t : Fin cfg0.N) (r : Fin 1) (k : Fin 256) :
    iblk m c (11 : Fin 25) t (ix2 r k) = V m c main_v8 (ix2 r k) := by
  blk_point [iblk, idx t]

variable {m} {c : Dev nD} {W : Par} {R : Fin 8192 → Row} (H : Reads m c W R)
include H

theorem h_x (t : Fin cfg0.N) (r : Fin 512) (k : Fin 1024) : (blks m c t).ins.x (ix2 r k) = (((R (rowOf t r)).x k : ℝ) : EReal) :=
  (blk_x m c t r k).trans (H.x _ _)
theorem h_cq (t : Fin cfg0.N) (r : Fin 512) (k : Fin 384) : (blks m c t).ins.cq (ix2 r k) = (((R (rowOf t r)).cq k : ℝ) : EReal) :=
  (blk_cq m c t r k).trans (H.cq _ _)
theorem h_ckv (t : Fin cfg0.N) (r : Fin 512) (k : Fin 256) : (blks m c t).ins.ckv (ix2 r k) = (((R (rowOf t r)).ckv k : ℝ) : EReal) :=
  (blk_ckv m c t r k).trans (H.ckv _ _)
theorem h_dgate (t : Fin cfg0.N) (r : Fin 512) (k : Fin 1024) : (blks m c t).ins.dgate (ix2 r k) = (((R (rowOf t r)).dgate k : ℝ) : EReal) :=
  (blk_dgate m c t r k).trans (H.dgate _ _)
theorem h_dqm (t : Fin cfg0.N) (r : Fin 512) (k : Fin 256) : (blks m c t).ins.dqm (ix2 r k) = (((R (rowOf t r)).dqm k : ℝ) : EReal) :=
  (blk_dqm m c t r k).trans (H.dqm _ _)
theorem h_dres (t : Fin cfg0.N) (r : Fin 512) (k : Fin 1024) : (blks m c t).ins.dres (ix2 r k) = (((R (rowOf t r)).dres k : ℝ) : EReal) :=
  (blk_dres m c t r k).trans (H.dres _ _)
theorem h_c (t : Fin cfg0.N) (r : Fin 512) (k : Fin 128) : (blks m c t).ins.c (ix2 r k) = (((R (rowOf t r)).c k : ℝ) : EReal) :=
  (blk_c m c t r k).trans (H.c _ _)
theorem h_sa (t : Fin cfg0.N) (r : Fin 512) (k : Fin 128) : (blks m c t).ins.sa (ix2 r k) = (((R (rowOf t r)).sa k : ℝ) : EReal) :=
  (blk_sa m c t r k).trans (H.sa _ _)
theorem h_sb (t : Fin cfg0.N) (r : Fin 512) (k : Fin 128) : (blks m c t).ins.sb (ix2 r k) = (((R (rowOf t r)).sb k : ℝ) : EReal) :=
  (blk_sb m c t r k).trans (H.sb _ _)
theorem h_gq (t : Fin cfg0.N) (r : Fin 1) (k : Fin 384) : (blks m c t).ins.gq (ix2 r k) = ((W.gq k : ℝ) : EReal) :=
  (blk_gq m c t r k).trans (H.gq _ _)
theorem h_gkv (t : Fin cfg0.N) (r : Fin 1) (k : Fin 256) : (blks m c t).ins.gkv (ix2 r k) = ((W.gkv k : ℝ) : EReal) :=
  (blk_gkv m c t r k).trans (H.gkv _ _)
theorem h_win (t : Fin cfg0.N) (r : Fin 1024) (k : Fin 2048) : (blks m c t).ins.win (ix2 r k) = ((W.win r k : ℝ) : EReal) :=
  (blk_win m c t r k).trans (H.win _ _)
theorem h_wuq (t : Fin cfg0.N) (r : Fin 384) (k : Fin 1536) : (blks m c t).ins.wuq (ix2 r k) = ((W.wuq r k : ℝ) : EReal) :=
  (blk_wuq m c t r k).trans (H.wuq _ _)
theorem h_wk (t : Fin cfg0.N) (r : Fin 256) (k : Fin 1536) : (blks m c t).ins.wk (ix2 r k) = ((W.wk r k : ℝ) : EReal) :=
  (blk_wk m c t r k).trans (H.wk _ _)
theorem h_wv (t : Fin cfg0.N) (r : Fin 256) (k : Fin 768) : (blks m c t).ins.wv (ix2 r k) = ((W.wv r k : ℝ) : EReal) :=
  (blk_wv m c t r k).trans (H.wv _ _)
theorem h_dkt (t : Fin cfg0.N) (k : Fin 1536) (r : Fin 512) : (blks m c t).ins.dkt (ix2 k r) = (((R (rowOf t r)).dkt k : ℝ) : EReal) :=
  (blk_dkt m c t k r).trans (H.dkt _ _)
theorem h_dvt (t : Fin cfg0.N) (k : Fin 768) (r : Fin 512) : (blks m c t).ins.dvt (ix2 k r) = (((R (rowOf t r)).dvt k : ℝ) : EReal) :=
  (blk_dvt m c t k r).trans (H.dvt _ _)
theorem h_dq (t : Fin cfg0.N) (h : Fin 12) (r : Fin 512) (k : Fin 128) : (blks m c t).ins.dq h (ix2 r k) = (((R (rowOf t r)).dq h k : ℝ) : EReal) := by
  have e1 : hd ⟨128 * h.val + k.val, by omega⟩ = h := Fin.ext (show (128 * h.val + k.val) / 128 = h.val by omega)
  have e2 : ln ⟨128 * h.val + k.val, by omega⟩ = k := Fin.ext (show (128 * h.val + k.val) % 128 = k.val by omega)
  exact (blk_dq m c t r _).trans ((H.dq _ _).trans (congrArg₂ (fun a b => (((R (rowOf t r)).dq a b : ℝ) : EReal)) e1 e2))

theorem holds (t : Fin cfg0.N) : Holds (blks m c t).ins W (fun r => R (rowOf t r)) :=
  ⟨h_x H t, h_cq H t, h_ckv H t, h_dq H t, h_dkt H t, h_dvt H t, h_dgate H t, h_dqm H t, h_dres H t, h_win H t, h_gq H t, h_gkv H t,
    h_wuq H t, h_wk H t, h_wv H t, h_c H t, h_sa H t, h_sb H t⟩

/-! ## The result written block by block -/

theorem dx_out (t : Fin cfg0.N) (r : Fin 512) (k : Fin 1024) :
    (outs m c t.val t.isLt).dx (ix2 r k) = ((dx W (R (rowOf t r)) k : ℝ) : EReal) := by
  have e : (outs m c t.val t.isLt).dx = k0_pay1 (dxw' (blks m c t).ins) (blks m c t).ins.dres := by
    by_cases h : t.val % 16 = 0
    · rw [outs_first c m t h]; rfl
    · rw [outs_next c m t h]; rfl
  rw [e]
  exact dx_read (holds H t) r k

theorem dx_arr : (dats m 0 c).arrAt 18 cfg0.N = fun i : S8192x1024.Idx => ((dx W (R (i 0)) (i 1) : ℝ) : EReal) := by
  refine (dats m 0 c).arrAt_eq_of_covers 18 _ (by decide +kernel) fun t hf y => ?_
  blk_simp
  rw [show (win0_18.blk t).view.emb y = ix2 (rowOf t (y 0)) (y 1) from by unfold rowOf; blk_ext [idx t]]
  exact (congrArg _ (eq_ix2 y)).trans (dx_out H t (y 0) (y 1))

/-! ## The results accumulated over the blocks -/

omit H in
theorem sum_rows (F : Fin 8192 → ℝ) :
    ∑ p : Fin cfg0.N, ((∑ r : Fin 512, F (rowOf p r) : ℝ) : EReal) = ((∑ R, F R : ℝ) : EReal) := by
  rw [coe_sum]
  exact congrArg _ (Fin.sum_mul_add_congr (S := 16) fun s k hl => rfl)

omit H in
theorem zero_dwin (j : S1024x2048.Idx) : (Acc.zero (F := Ideal)).dwin j = 0 := by
  rw [eq_ix2 j]; unfold Acc.zero; pointwise [k0_pay3, k0_pay4, k0_pay5, k0_pay6, k0_pay7, k0_pay8]
omit H in
theorem zero_dwuq (j : S384x1536.Idx) : (Acc.zero (F := Ideal)).dwuq j = 0 := by
  rw [eq_ix2 j]; unfold Acc.zero; pointwise [k0_pay3, k0_pay4, k0_pay5, k0_pay6, k0_pay7, k0_pay8]
omit H in
theorem zero_dwk (j : S256x1536.Idx) : (Acc.zero (F := Ideal)).dwk j = 0 := by
  rw [eq_ix2 j]; unfold Acc.zero; pointwise [k0_pay3, k0_pay4, k0_pay5, k0_pay6, k0_pay7, k0_pay8]
omit H in
theorem zero_dwv (j : S256x768.Idx) : (Acc.zero (F := Ideal)).dwv j = 0 := by
  rw [eq_ix2 j]; unfold Acc.zero; pointwise [k0_pay3, k0_pay4, k0_pay5, k0_pay6, k0_pay7, k0_pay8]
omit H in
theorem zero_dgq (j : S1x384.Idx) : (Acc.zero (F := Ideal)).dgq j = 0 := by
  rw [eq_ix2 j]; unfold Acc.zero; pointwise [k0_pay3, k0_pay4, k0_pay5, k0_pay6, k0_pay7, k0_pay8]
omit H in
theorem zero_dgkv (j : S1x256.Idx) : (Acc.zero (F := Ideal)).dgkv j = 0 := by
  rw [eq_ix2 j]; unfold Acc.zero; pointwise [k0_pay3, k0_pay4, k0_pay5, k0_pay6, k0_pay7, k0_pay8]

theorem dwin_step (t : Fin cfg0.N) (o : Acc Ideal) (j : S1024x2048.Idx) :
    (step (blks m c t).ins o).dwin j = o.dwin j + ((∑ r, (R (rowOf t r)).x (j 0) * dz W (R (rowOf t r)) (j 1) : ℝ) : EReal) := by
  rw [eq_ix2 j]
  exact dwin_read (holds H t) _ _ _

theorem dwin_arr : (dats m 0 c).arrAt 19 cfg0.N = fun i : S1024x2048.Idx => ((∑ s, (R s).x (i 0) * dz W (R s) (i 1) : ℝ) : EReal) := by
  refine (dats m 0 c).arrAt_eq_of_after_last 19 t0_15 (by decide +kernel) _ fun j => ?_
  blk_simp
  refine (Pipeline.eq_sum_fin_of_reset_step_apply_last (fun n h => (outs m c n h).dwin) 16 (fun _ => 0) _
    (fun t h j => (congrFun (congrArg Acc.dwin (outs_first c m t h)) j).trans ((dwin_step H t _ j).trans (congrArg (· + _) (zero_dwin j))))
    (fun t h j => (congrFun (congrArg Acc.dwin (outs_next c m t h)) j).trans (dwin_step H t _ j)) (le_of_eq N_0) t0_15 rfl _).trans ?_
  rw [zero_add]
  exact sum_rows (fun s => (R s).x (j 0) * dz W (R s) (j 1))

theorem dwuq_step (t : Fin cfg0.N) (o : Acc Ideal) (j : S384x1536.Idx) :
    (step (blks m c t).ins o).dwuq j = o.dwuq j + ((∑ r, nq W (R (rowOf t r)) (j 0) * dqf (R (rowOf t r)) (j 1) : ℝ) : EReal) := by
  rw [eq_ix2 j]
  exact dwuq_read (holds H t) _ _ _

theorem dwuq_arr : (dats m 0 c).arrAt 20 cfg0.N = fun i : S384x1536.Idx => ((∑ s, nq W (R s) (i 0) * dqf (R s) (i 1) : ℝ) : EReal) := by
  refine (dats m 0 c).arrAt_eq_of_after_last 20 t0_15 (by decide +kernel) _ fun j => ?_
  blk_simp
  refine (Pipeline.eq_sum_fin_of_reset_step_apply_last (fun n h => (outs m c n h).dwuq) 16 (fun _ => 0) _
    (fun t h j => (congrFun (congrArg Acc.dwuq (outs_first c m t h)) j).trans ((dwuq_step H t _ j).trans (congrArg (· + _) (zero_dwuq j))))
    (fun t h j => (congrFun (congrArg Acc.dwuq (outs_next c m t h)) j).trans (dwuq_step H t _ j)) (le_of_eq N_0) t0_15 rfl _).trans ?_
  rw [zero_add]
  exact sum_rows (fun s => nq W (R s) (j 0) * dqf (R s) (j 1))

theorem dwk_step (t : Fin cfg0.N) (o : Acc Ideal) (j : S256x1536.Idx) :
    (step (blks m c t).ins o).dwk j = o.dwk j + ((∑ r, nkv W (R (rowOf t r)) (j 0) * dkp (R (rowOf t r)) (j 1) : ℝ) : EReal) := by
  rw [eq_ix2 j]
  exact dwk_read (holds H t) _ _ _

theorem dwk_arr : (dats m 0 c).arrAt 21 cfg0.N = fun i : S256x1536.Idx => ((∑ s, nkv W (R s) (i 0) * dkp (R s) (i 1) : ℝ) : EReal) := by
  refine (dats m 0 c).arrAt_eq_of_after_last 21 t0_15 (by decide +kernel) _ fun j => ?_
  blk_simp
  refine (Pipeline.eq_sum_fin_of_reset_step_apply_last (fun n h => (outs m c n h).dwk) 16 (fun _ => 0) _
    (fun t h j => (congrFun (congrArg Acc.dwk (outs_first c m t h)) j).trans ((dwk_step H t _ j).trans (congrArg (· + _) (zero_dwk j))))
    (fun t h j => (congrFun (congrArg Acc.dwk (outs_next c m t h)) j).trans (dwk_step H t _ j)) (le_of_eq N_0) t0_15 rfl _).trans ?_
  rw [zero_add]
  exact sum_rows (fun s => nkv W (R s) (j 0) * dkp (R s) (j 1))

theorem dwv_step (t : Fin cfg0.N) (o : Acc Ideal) (j : S256x768.Idx) :
    (step (blks m c t).ins o).dwv j = o.dwv j + ((∑ r, nkv W (R (rowOf t r)) (j 0) * (R (rowOf t r)).dvt (j 1) : ℝ) : EReal) := by
  rw [eq_ix2 j]
  exact dwv_read (holds H t) _ _ _

theorem dwv_arr : (dats m 0 c).arrAt 22 cfg0.N = fun i : S256x768.Idx => ((∑ s, nkv W (R s) (i 0) * (R s).dvt (i 1) : ℝ) : EReal) := by
  refine (dats m 0 c).arrAt_eq_of_after_last 22 t0_15 (by decide +kernel) _ fun j => ?_
  blk_simp
  refine (Pipeline.eq_sum_fin_of_reset_step_apply_last (fun n h => (outs m c n h).dwv) 16 (fun _ => 0) _
    (fun t h j => (congrFun (congrArg Acc.dwv (outs_first c m t h)) j).trans ((dwv_step H t _ j).trans (congrArg (· + _) (zero_dwv j))))
    (fun t h j => (congrFun (congrArg Acc.dwv (outs_next c m t h)) j).trans (dwv_step H t _ j)) (le_of_eq N_0) t0_15 rfl _).trans ?_
  rw [zero_add]
  exact sum_rows (fun s => nkv W (R s) (j 0) * (R s).dvt (j 1))

theorem dgq_step (t : Fin cfg0.N) (o : Acc Ideal) (j : S1x384.Idx) :
    (step (blks m c t).ins o).dgq j = o.dgq j + ((∑ r, dnq W (R (rowOf t r)) (j 1) * xhq (R (rowOf t r)) (j 1) : ℝ) : EReal) := by
  rw [eq_ix2 j]
  exact dgq_read (holds H t) _ _ _

theorem dgq_arr : (dats m 0 c).arrAt 23 cfg0.N = fun i : S1x384.Idx => ((∑ s, dnq W (R s) (i 1) * xhq (R s) (i 1) : ℝ) : EReal) := by
  refine (dats m 0 c).arrAt_eq_of_after_last 23 t0_15 (by decide +kernel) _ fun j => ?_
  blk_simp
  refine (Pipeline.eq_sum_fin_of_reset_step_apply_last (fun n h => (outs m c n h).dgq) 16 (fun _ => 0) _
    (fun t h j => (congrFun (congrArg Acc.dgq (outs_first c m t h)) j).trans ((dgq_step H t _ j).trans (congrArg (· + _) (zero_dgq j))))
    (fun t h j => (congrFun (congrArg Acc.dgq (outs_next c m t h)) j).trans (dgq_step H t _ j)) (le_of_eq N_0) t0_15 rfl _).trans ?_
  rw [zero_add]
  exact sum_rows (fun s => dnq W (R s) (j 1) * xhq (R s) (j 1))

theorem dgkv_step (t : Fin cfg0.N) (o : Acc Ideal) (j : S1x256.Idx) :
    (step (blks m c t).ins o).dgkv j = o.dgkv j + ((∑ r, dnkv W (R (rowOf t r)) (j 1) * xhk (R (rowOf t r)) (j 1) : ℝ) : EReal) := by
  rw [eq_ix2 j]
  exact dgkv_read (holds H t) _ _ _

theorem dgkv_arr : (dats m 0 c).arrAt 24 cfg0.N = fun i : S1x256.Idx => ((∑ s, dnkv W (R s) (i 1) * xhk (R s) (i 1) : ℝ) : EReal) := by
  refine (dats m 0 c).arrAt_eq_of_after_last 24 t0_15 (by decide +kernel) _ fun j => ?_
  blk_simp
  refine (Pipeline.eq_sum_fin_of_reset_step_apply_last (fun n h => (outs m c n h).dgkv) 16 (fun _ => 0) _
    (fun t h j => (congrFun (congrArg Acc.dgkv (outs_first c m t h)) j).trans ((dgkv_step H t _ j).trans (congrArg (· + _) (zero_dgkv j))))
    (fun t h j => (congrFun (congrArg Acc.dgkv (outs_next c m t h)) j).trans (dgkv_step H t _ j)) (le_of_eq N_0) t0_15 rfl _).trans ?_
  rw [zero_add]
  exact sum_rows (fun s => dnkv W (R s) (j 1) * xhk (R s) (j 1))

end Cert.MlaArr
end
-- ==== Proof.MlaSpec.lean ====
/-
The projections' gradients as real functions of the reference's arguments, and the kernel's rows and parameters in
terms of them.
-/
module

public import proofs.«01_k».proof.Proof.MlaModel
public import proofs.«01_k».proof.Proof.AttnEq

@[expose] public section

set_option maxRecDepth 16384

noncomputable section
namespace Cert.MlaSpec
open Cert.Core Cert.Mla Idealize.ShloMosaic

/-- The arguments, read at numbers. -/
structure Args where
  x : ℕ → ℕ → ℝ
  p : ℕ → ℝ
  w : ℕ → ℕ → ℝ
  gq : ℕ → ℝ
  uq : ℕ → ℕ → ℝ
  gkv : ℕ → ℝ
  ukv : ℕ → ℕ → ℝ
  dq : ℕ → ℕ → ℕ → ℝ
  dk : ℕ → ℕ → ℕ → ℝ
  dv : ℕ → ℕ → ℕ → ℝ
  dgate : ℕ → ℕ → ℝ
  dqm : ℕ → ℕ → ℝ
  dres : ℕ → ℕ → ℝ

variable (A : Args) (s : ℕ)

/-! ## The gradients -/

/-- The projections of a row. -/
def z (j : ℕ) : ℝ := ∑ k : Fin 1024, A.x s k.val * A.w k.val j
/-- The rotary angle. -/
def freq (i : ℕ) : ℝ := (10000 : ℝ) ^ (-(i : ℝ) / 16)
def ang (i : ℕ) : ℝ := A.p s * freq i
/-- The rotation's transpose. -/
def turn (d : ℕ → ℝ) (i : ℕ) : ℝ :=
  if i < 16 then d (16 + i) * Real.sin (ang A s i) + d i * Real.cos (ang A s i)
  else d i * Real.cos (ang A s (i - 16)) - d (i - 16) * Real.sin (ang A s (i - 16))
def cq (k : ℕ) : ℝ := z A s k
def ckv (k : ℕ) : ℝ := z A s (384 + k)
def rinvN (n : ℕ) (c : ℕ → ℝ) : ℝ := rinv fun k : Fin n => c k.val
def dnormN (n : ℕ) (c d : ℕ → ℝ) (k : ℕ) : ℝ :=
  rinvN n c * (d k - c k * rinvN n c * ((∑ i : Fin n, d i.val * (c i.val * rinvN n c)) / n))
def xhq (k : ℕ) : ℝ := cq A s k * rinvN 384 (cq A s)
def xhk (k : ℕ) : ℝ := ckv A s k * rinvN 256 (ckv A s)
def dqc (j : ℕ) : ℝ :=
  if j % 96 < 64 then A.dq s (j / 96) (j % 96) else turn A s (fun i => A.dq s (j / 96) (64 + i)) (j % 96 - 64)
def dkv (j : ℕ) : ℝ := if j % 128 < 64 then A.dk s (j / 128) (j % 128) else A.dv s (j / 128) (j % 128 - 64)
def dkr (i : ℕ) : ℝ := turn A s (fun i => ∑ h : Fin 12, A.dk s h.val (64 + i)) i
def dnq (k : ℕ) : ℝ := ∑ j : Fin 1152, dqc A s j.val * A.uq k j.val
def dnkv (k : ℕ) : ℝ := ∑ j : Fin 1536, dkv A s j.val * A.ukv k j.val
def dcq (k : ℕ) : ℝ := dnormN 384 (cq A s) (fun k => dnq A s k * A.gq k) k
def dckv (k : ℕ) : ℝ := dnormN 256 (ckv A s) (fun k => dnkv A s k * A.gkv k) k
def dz (j : ℕ) : ℝ :=
  if j < 384 then dcq A s j else if j < 640 then dckv A s (j - 384) else if j < 672 then dkr A s (j - 640)
  else if j < 1696 then A.dgate s (j - 672) else A.dqm s (j - 1696)
def dx (k : ℕ) : ℝ := ∑ j : Fin 1952, dz A s j.val * A.w k j.val + A.dres s k
def dw (k j : ℕ) : ℝ := ∑ s : Fin 8192, A.x s.val k * dz A s.val j
def dgq (k : ℕ) : ℝ := ∑ s : Fin 8192, dnq A s.val k * xhq A s.val k
def dgkv (k : ℕ) : ℝ := ∑ s : Fin 8192, dnkv A s.val k * xhk A s.val k
def duq (k j : ℕ) : ℝ := ∑ s : Fin 8192, xhq A s.val k * A.gq k * dqc A s.val j
def dukv (k j : ℕ) : ℝ := ∑ s : Fin 8192, xhk A s.val k * A.gkv k * dkv A s.val j

/-! ## The kernel's arguments -/

def winM (k j : ℕ) : ℝ :=
  if j < 1280 then A.w k (672 + j) else if j < 1920 then A.w k (j - 1280) else if j < 1984 then 0
  else if j < 2016 then A.w k (640 + (j - 1984)) else 0
def wuqM (k j : ℕ) : ℝ := if j % 128 < 96 then A.uq k (j / 128 * 96 + j % 128) else 0
def wkM (k j : ℕ) : ℝ := if j % 128 < 64 then A.ukv k (j / 128 * 128 + j % 128) else 0
def wvM (k j : ℕ) : ℝ := A.ukv k (j / 64 * 128 + (64 + j % 64))
def lane (l : ℕ) : ℝ := A.p s * (if l < 64 then 0 else if l < 80 then freq (l - 64) else if l < 96 then freq (l - 80) else 0)
def dkM (j : ℕ) : ℝ := if j % 128 < 96 then A.dk s (j / 128) (j % 128) else 0

def par : Par where
  win k j := winM A k.val j.val
  gq k := A.gq k.val
  gkv k := A.gkv k.val
  wuq k j := wuqM A k.val j.val
  wk k j := wkM A k.val j.val
  wv k j := wvM A k.val j.val

def row : Row where
  x k := A.x s k.val
  cq k := cq A s k.val
  ckv k := ckv A s k.val
  dq h l := if l.val < 96 then A.dq s h.val l.val else 0
  dkt j := dkM A s j.val / Real.log 2
  dvt j := A.dv s (j.val / 64) (j.val % 64)
  dgate k := A.dgate s k.val
  dqm k := A.dqm s k.val
  dres k := A.dres s k.val
  c l := if l.val < 64 then 1 else if l.val < 96 then Real.cos (lane A s l.val) else 0
  sa l := if 64 ≤ l.val ∧ l.val < 80 then -Real.sin (lane A s l.val) else 0
  sb l := if 80 ≤ l.val ∧ l.val < 96 then Real.sin (lane A s l.val) else 0

/-! ## Their agreement -/

theorem log_two_ne : Real.log 2 ≠ 0 := (Real.log_pos one_lt_two).ne'

theorem dkp_eq (j : Fin 1536) : Mla.dkp (row A s) j = dkM A s j.val := div_mul_cancel₀ _ log_two_ne

theorem lane_lo (l : ℕ) (h : 64 ≤ l ∧ l < 80) : lane A s l = ang A s (l - 64) := by
  unfold lane ang
  rw [if_neg (by omega), if_pos h.2]
theorem lane_hi (l : ℕ) (h : 80 ≤ l ∧ l < 96) : lane A s l = ang A s (l - 80) := by
  unfold lane ang
  rw [if_neg (by omega), if_neg (by omega), if_pos h.2]

/-- The rotary map's transpose on a head's lanes. -/
theorem rope_eq (f : ℕ → ℝ) (d : Fin 128 → ℝ) (hd : ∀ l : Fin 128, l.val < 96 → d l = f l.val) (l : Fin 128) (hl : l.val < 96) :
    Mla.rope (row A s) d l = if l.val < 64 then f l.val else turn A s (fun i => f (64 + i)) (l.val - 64) := by
  have e16 : (Mla.rot 16 l).val = (l.val + 112) % 128 := by simp only [Mla.rot]; omega
  have e112 : (Mla.rot 112 l).val = (l.val + 16) % 128 := by simp only [Mla.rot]; omega
  have sa0 : ¬ (80 ≤ l.val ∧ l.val < 96) → (row A s).sa (Mla.rot 16 l) = 0 := fun h => if_neg (by omega)
  have sb0 : ¬ (64 ≤ l.val ∧ l.val < 80) → (row A s).sb (Mla.rot 112 l) = 0 := fun h => if_neg (by omega)
  have sa1 : 80 ≤ l.val ∧ l.val < 96 → (row A s).sa (Mla.rot 16 l) = -Real.sin (ang A s (l.val - 80)) := fun h => by
    refine (if_pos (by omega)).trans ?_
    rw [lane_lo _ _ _ (by omega), e16, show (l.val + 112) % 128 - 64 = l.val - 80 by omega]
  have sb1 : 64 ≤ l.val ∧ l.val < 80 → (row A s).sb (Mla.rot 112 l) = Real.sin (ang A s (l.val - 64)) := fun h => by
    refine (if_pos (by omega)).trans ?_
    rw [lane_hi _ _ _ (by omega), e112, show (l.val + 16) % 128 - 80 = l.val - 64 by omega]
  unfold Mla.rope
  by_cases h64 : l.val < 64
  · rw [if_pos h64, sa0 (by omega), sb0 (by omega), show (row A s).c l = 1 from if_pos h64, hd l hl]; ring
  · rw [if_neg h64, show (row A s).c l = Real.cos (lane A s l.val) from (if_neg h64).trans (if_pos hl)]
    unfold turn
    by_cases h80 : l.val < 80
    · rw [sa0 (by omega), sb1 (by omega), lane_lo _ _ _ (by omega), hd l hl, hd _ (by omega : (Mla.rot 112 l).val < 96), e112,
        if_pos (by omega : l.val - 64 < 16)]
      dsimp only
      rw [show (l.val + 16) % 128 = 64 + (16 + (l.val - 64)) by omega, show 64 + (l.val - 64) = l.val by omega]
      ring
    · rw [sa1 (by omega), sb0 (by omega), lane_hi _ _ _ (by omega), hd l hl, hd _ (by omega : (Mla.rot 16 l).val < 96), e16,
        if_neg (by omega : ¬ l.val - 64 < 16)]
      dsimp only
      rw [show (l.val + 112) % 128 = 64 + (l.val - 64 - 16) by omega, show 64 + (l.val - 64) = l.val by omega,
        show l.val - 64 - 16 = l.val - 80 by omega]
      ring

theorem dqf_eq (j : Fin 1536) (h : j.val % 128 < 96) : Mla.dqf (row A s) j = dqc A s (j.val / 128 * 96 + j.val % 128) := by
  unfold Mla.dqf
  rw [rope_eq A s (fun l => A.dq s (j.val / 128) l) ((row A s).dq (Mla.hd j)) (fun l hl => if_pos hl) (Mla.ln j) h]
  unfold dqc
  rw [show (j.val / 128 * 96 + j.val % 128) % 96 = j.val % 128 by omega,
    show (j.val / 128 * 96 + j.val % 128) / 96 = j.val / 128 by omega]
  rfl

theorem dkr_eq (l : Fin 128) (h : 64 ≤ l.val ∧ l.val < 96) : Mla.dkr (row A s) l = dkr A s (l.val - 64) := by
  unfold Mla.dkr
  rw [if_pos h, rope_eq A s (fun l => ∑ h : Fin 12, A.dk s h.val l) _ (fun l hl => ?_) l h.2, if_neg (by omega)]
  · rfl
  · refine Finset.sum_congr rfl fun h _ => ?_
    rw [dkp_eq]
    unfold dkM Mla.hl
    dsimp only
    rw [show (128 * h.val + l.val) % 128 = l.val by omega, show (128 * h.val + l.val) / 128 = h.val by omega, if_pos hl]

/-- A sum over the heads' padded lanes is the sum over their lanes. -/
theorem sum_heads (f : Fin 1536 → ℝ) (g : ℕ → ℝ) (h1 : ∀ j : Fin 1536, j.val % 128 < 96 → f j = g (j.val / 128 * 96 + j.val % 128))
    (h0 : ∀ j : Fin 1536, ¬ j.val % 128 < 96 → f j = 0) : ∑ j, f j = ∑ j : Fin 1152, g j.val := by
  have e1 : ∑ h : Fin 12, ∑ l : Fin 128, (if l.val < 96 then g (h.val * 96 + l.val) else 0) = ∑ j, f j :=
    Fin.sum_mul_add_congr (S := 12) fun h l hl => by
      by_cases c : l.val < 96
      · rw [if_pos c, h1 _ (by dsimp only; omega)]
        dsimp only
        rw [show (h.val * 128 + l.val) / 128 = h.val by omega, show (h.val * 128 + l.val) % 128 = l.val by omega]
      · rw [if_neg c, h0 _ (by dsimp only; omega)]
  have e2 : ∑ h : Fin 12, ∑ l : Fin 96, g (h.val * 96 + l.val) = ∑ j : Fin 1152, g j.val :=
    Fin.sum_mul_add_congr (S := 12) fun h l hl => rfl
  rw [← e1, ← e2]
  exact Finset.sum_congr rfl fun h _ => Cert.AttnRef.sum_lanes (fun l => g (h.val * 96 + l))

theorem dnq_eq (k : Fin 384) : Mla.dnq (par A) (row A s) k = dnq A s k.val :=
  sum_heads _ (fun j => dqc A s j * A.uq k.val j) (fun j h => by rw [dqf_eq A s j h]; exact congrArg _ (if_pos h))
    (fun j h => by rw [show (par A).wuq k j = 0 from if_neg h, mul_zero])

theorem sum_pair (f : Fin 1536 → ℝ) (g : Fin 768 → ℝ) (F : ℕ → ℝ)
    (h1 : ∀ j : Fin 1536, j.val % 128 < 64 → f j = F j.val) (h0 : ∀ j : Fin 1536, ¬ j.val % 128 < 64 → f j = 0)
    (h2 : ∀ j : Fin 768, g j = F (j.val / 64 * 128 + (64 + j.val % 64))) : ∑ j, f j + ∑ j, g j = ∑ j : Fin 1536, F j.val := by
  have e1 : ∑ h : Fin 12, ∑ l : Fin 128, (if l.val < 64 then F (h.val * 128 + l.val) else 0) = ∑ j, f j :=
    Fin.sum_mul_add_congr (S := 12) fun h l hl => by
      by_cases c : l.val < 64
      · rw [if_pos c, h1 _ (by dsimp only; omega)]
      · rw [if_neg c, h0 _ (by dsimp only; omega)]
  have e2 : ∑ h : Fin 12, ∑ l : Fin 64, F (h.val * 128 + (64 + l.val)) = ∑ j, g j :=
    Fin.sum_mul_add_congr (S := 12) fun h l hl => by
      rw [h2]
      dsimp only
      rw [show (h.val * 64 + l.val) / 64 = h.val by omega, show (h.val * 64 + l.val) % 64 = l.val by omega]
  have e3 : ∑ h : Fin 12, ∑ l : Fin 128, F (h.val * 128 + l.val) = ∑ j : Fin 1536, F j.val :=
    Fin.sum_mul_add_congr (S := 12) fun h l hl => rfl
  rw [← e1, ← e2, ← e3, ← Finset.sum_add_distrib]
  refine Finset.sum_congr rfl fun h _ => ?_
  have a := Fin.sum_univ_add (a := 64) (b := 64) (fun l : Fin 128 => F (h.val * 128 + l.val))
  have b := Fin.sum_univ_add (a := 64) (b := 64) (fun l : Fin 128 => if l.val < 64 then F (h.val * 128 + l.val) else 0)
  rw [a, b]
  simp [Nat.add_comm 64]

theorem dnkv_eq (k : Fin 256) : Mla.dnkv (par A) (row A s) k = dnkv A s k.val := by
  refine sum_pair _ _ (fun j => dkv A s j * A.ukv k.val j) (fun j h => ?_) (fun j h => ?_) (fun j => ?_)
  · rw [dkp_eq, show (par A).wk k j = A.ukv k.val (j.val / 128 * 128 + j.val % 128) from if_pos h]
    unfold dkM dkv
    rw [if_pos (by omega), if_pos h, show j.val / 128 * 128 + j.val % 128 = j.val by omega]
  · rw [show (par A).wk k j = 0 from if_neg h, mul_zero]
  · show A.dv s (j.val / 64) (j.val % 64) * A.ukv k.val (j.val / 64 * 128 + (64 + j.val % 64)) = _
    unfold dkv
    rw [show (j.val / 64 * 128 + (64 + j.val % 64)) % 128 = 64 + j.val % 64 by omega,
      show (j.val / 64 * 128 + (64 + j.val % 64)) / 128 = j.val / 64 by omega, if_neg (by omega),
      show 64 + j.val % 64 - 64 = j.val % 64 by omega]

theorem dcq_eq (k : Fin 384) : Mla.dcq (par A) (row A s) k = dcq A s k.val := by
  unfold Mla.dcq
  simp only [dnq_eq]
  rfl
theorem dckv_eq (k : Fin 256) : Mla.dckv (par A) (row A s) k = dckv A s k.val := by
  unfold Mla.dckv
  simp only [dnkv_eq]
  rfl

/-- The gradient of the reordered projections, at the columns that stand for one of `w`'s. -/
theorem dz_eq (j : Fin 2048) (i : ℕ) (h : (j.val < 1280 ∧ i = 672 + j.val) ∨ (1280 ≤ j.val ∧ j.val < 1920 ∧ i = j.val - 1280)
      ∨ (1984 ≤ j.val ∧ j.val < 2016 ∧ i = 640 + (j.val - 1984))) :
    Mla.dz (par A) (row A s) j = dz A s i := by
  unfold Mla.dz dz
  obtain ⟨h, rfl⟩ | ⟨h, h', rfl⟩ | ⟨h, h', rfl⟩ := h
  · by_cases c : j.val < 1024
    · rw [dif_pos c, if_neg (by omega), if_neg (by omega), if_neg (by omega), if_pos (by omega)]
      exact congrArg (A.dgate s) (show j.val = 672 + j.val - 672 by omega)
    · rw [dif_neg c, dif_pos h, if_neg (by omega), if_neg (by omega), if_neg (by omega), if_neg (by omega)]
      exact congrArg (A.dqm s) (show j.val - 1024 = 672 + j.val - 1696 by omega)
  · rw [dif_neg (by omega), dif_neg (by omega)]
    by_cases c : j.val < 1664
    · rw [dif_pos c, if_pos (by omega), dcq_eq]
    · rw [dif_neg c, dif_pos h', if_neg (by omega), if_pos (by omega), dckv_eq]
      exact congrArg (dckv A s) (show j.val - 1664 = j.val - 1280 - 384 by omega)
  · rw [dif_neg (by omega), dif_neg (by omega), dif_neg (by omega), dif_neg (by omega), if_neg (by omega), if_neg (by omega), if_pos (by omega),
      dkr_eq _ _ _ (by dsimp only; omega)]
    exact congrArg (dkr A s) (show j.val - 1920 - 64 = 640 + (j.val - 1984) - 640 by omega)

theorem dx_eq (k : Fin 1024) : Mla.dx (par A) (row A s) k = dx A s k.val := by
  unfold Mla.dx dx
  refine congrArg (· + _) ?_
  have a := Fin.sum_univ_add (a := 1280) (b := 768) (fun j : Fin 2048 => Mla.dz (par A) (row A s) j * (par A).win k j)
  have b := Fin.sum_univ_add (a := 640) (b := 128) (fun j : Fin 768 => Mla.dz (par A) (row A s) (Fin.natAdd 1280 j) * (par A).win k (Fin.natAdd 1280 j))
  have c := Fin.sum_univ_add (a := 64) (b := 64) (fun j : Fin 128 => Mla.dz (par A) (row A s) (Fin.natAdd 1280 (Fin.natAdd 640 j)) * (par A).win k (Fin.natAdd 1280 (Fin.natAdd 640 j)))
  have d := Fin.sum_univ_add (a := 32) (b := 32) (fun j : Fin 64 => Mla.dz (par A) (row A s) (Fin.natAdd 1280 (Fin.natAdd 640 (Fin.natAdd 64 j))) * (par A).win k (Fin.natAdd 1280 (Fin.natAdd 640 (Fin.natAdd 64 j))))
  have e := Fin.sum_univ_add (a := 640) (b := 1312) (fun j : Fin 1952 => dz A s j.val * A.w k.val j.val)
  have f := Fin.sum_univ_add (a := 32) (b := 1280) (fun j : Fin 1312 => dz A s (640 + j.val) * A.w k.val (640 + j.val))
  refine a.trans (Eq.trans ?_ e.symm)
  refine Eq.trans (congrArg (_ + ·) (b.trans (congrArg (_ + ·) (c.trans (congrArg (_ + ·) d))))) ?_
  refine Eq.trans ?_ (congrArg (_ + ·) f.symm)
  have z1 : ∀ i : Fin 64, Mla.dz (par A) (row A s) (Fin.natAdd 1280 (Fin.natAdd 640 (Fin.castAdd 64 i))) * (par A).win k (Fin.natAdd 1280 (Fin.natAdd 640 (Fin.castAdd 64 i))) = 0 := fun i => by
    rw [show (par A).win k (Fin.natAdd 1280 (Fin.natAdd 640 (Fin.castAdd 64 i))) = 0 from ?_, mul_zero]
    show winM A k.val (1280 + (640 + i.val)) = 0
    unfold winM
    rw [if_neg (by omega), if_neg (by omega), if_pos (by omega)]
  have z2 : ∀ i : Fin 32, Mla.dz (par A) (row A s) (Fin.natAdd 1280 (Fin.natAdd 640 (Fin.natAdd 64 (Fin.natAdd 32 i)))) * (par A).win k (Fin.natAdd 1280 (Fin.natAdd 640 (Fin.natAdd 64 (Fin.natAdd 32 i)))) = 0 := fun i => by
    rw [show (par A).win k (Fin.natAdd 1280 (Fin.natAdd 640 (Fin.natAdd 64 (Fin.natAdd 32 i)))) = 0 from ?_, mul_zero]
    show winM A k.val (1280 + (640 + (64 + (32 + i.val)))) = 0
    unfold winM
    rw [if_neg (by omega), if_neg (by omega), if_neg (by omega), if_neg (by omega)]
  rw [Finset.sum_eq_zero fun i _ => z1 i, Finset.sum_eq_zero fun i _ => z2 i, zero_add, add_zero]
  have p1 : ∀ i : Fin 1280, Mla.dz (par A) (row A s) (Fin.castAdd 768 i) * (par A).win k (Fin.castAdd 768 i) = dz A s (640 + (32 + i.val)) * A.w k.val (640 + (32 + i.val)) := fun i => by
    rw [dz_eq A s _ (672 + i.val) (Or.inl ⟨i.isLt, rfl⟩), show 640 + (32 + i.val) = 672 + i.val by omega]
    exact congrArg _ (if_pos i.isLt)
  have p2 : ∀ i : Fin 640, Mla.dz (par A) (row A s) (Fin.natAdd 1280 (Fin.castAdd 128 i)) * (par A).win k (Fin.natAdd 1280 (Fin.castAdd 128 i)) = dz A s i.val * A.w k.val i.val := fun i => by
    rw [dz_eq A s _ i.val (Or.inr (Or.inl ⟨Nat.le_add_right _ _, by show 1280 + i.val < 1920; omega, by show i.val = 1280 + i.val - 1280; omega⟩))]
    refine congrArg _ (show winM A k.val (1280 + i.val) = _ from ?_)
    unfold winM
    rw [if_neg (by omega), if_pos (by omega), show 1280 + i.val - 1280 = i.val by omega]
  have p3 : ∀ i : Fin 32, Mla.dz (par A) (row A s) (Fin.natAdd 1280 (Fin.natAdd 640 (Fin.natAdd 64 (Fin.castAdd 32 i)))) * (par A).win k (Fin.natAdd 1280 (Fin.natAdd 640 (Fin.natAdd 64 (Fin.castAdd 32 i)))) = dz A s (640 + i.val) * A.w k.val (640 + i.val) := fun i => by
    rw [dz_eq A s _ (640 + i.val) (Or.inr (Or.inr ⟨by show 1984 ≤ 1280 + (640 + (64 + i.val)); omega, by show 1280 + (640 + (64 + i.val)) < 2016; omega, by show 640 + i.val = 640 + (1280 + (640 + (64 + i.val)) - 1984); omega⟩))]
    refine congrArg _ (show winM A k.val (1280 + (640 + (64 + i.val))) = _ from ?_)
    unfold winM
    rw [if_neg (by omega), if_neg (by omega), if_neg (by omega), if_pos (by omega), show 640 + (1280 + (640 + (64 + i.val)) - 1984) = 640 + i.val by omega]
  rw [Finset.sum_congr rfl fun i _ => p1 i, Finset.sum_congr rfl fun i _ => p2 i, Finset.sum_congr rfl fun i _ => p3 i]
  simp only [Fin.val_castAdd, Fin.val_natAdd]
  ring

end Cert.MlaSpec
end
-- ==== Proof.MlaHost.lean ====
/-
The host operations around the region, read at an index over the real numbers the argument arrays hold.
-/
module

public import proofs.«01_k».proof.Proof.MlaRun
public import proofs.«01_k».proof.Proof.MlaSpec
public import proofs.«01_k».proof.Proof.AttnBwd
public import Idealize.ShloMosaic.Lib.StableHlo.ReadAt

@[expose] public section

set_option maxRecDepth 16384
set_option maxHeartbeats 1000000

noncomputable section
namespace Cert.MlaHost
open Idealize.ShloMosaic Idealize.ShloMosaic.TcCoe Idealize.ShloMosaic.Tactic
open Idealize.ShloMosaic.Pipeline (Dat)
open Cert.Kernel3Ideal Cert.Kernel3Ideal.Gen
open Cert.Core Cert.MlaSpec
variable (V : Valuation τ sig (Elt Ideal))

/-- Every host operation before the region. -/
abbrev pre : List (HloOp τ sig (Elt Ideal)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

theorem sitofp_zero : (FloatOps.sitofp .f32 (0#32) : Ideal .f32) = ((0 : ℝ) : EReal) := by
  show (((0#32 : BitVec 32).toInt : ℝ) : EReal) = _
  simp

theorem bits_10000 : Ideal.ofBits .f32 0x461C4000#32 = ((10000 : ℝ) : EReal) := by
  simp [Ideal.ofBits, Ideal.ieee, -EReal.coe_mul]; norm_num
theorem bits_16 : Ideal.ofBits .f32 0x41800000#32 = ((16 : ℝ) : EReal) := by
  simp [Ideal.ofBits, Ideal.ieee, -EReal.coe_mul]; norm_num

section
variable {V} {A : MlaSpec.Args}
theorem winM_a {k j : ℕ} (h : j < 1280) : winM A k j = A.w k (672 + j) := if_pos h

theorem winM_b {k j : ℕ} (h : ¬ j < 1280) (h' : j < 1920) : winM A k j = A.w k (j - 1280) := (if_neg h).trans (if_pos h')

theorem winM_c {k j : ℕ} (h : ¬ j < 1920) (h' : j < 1984) : winM A k j = 0 :=
  (if_neg (by omega)).trans ((if_neg h).trans (if_pos h'))

theorem winM_d {k j : ℕ} (h : ¬ j < 1984) (h' : j < 2016) : winM A k j = A.w k (640 + (j - 1984)) :=
  (if_neg (by omega)).trans ((if_neg (by omega)).trans ((if_neg h).trans (if_pos h')))

theorem winM_e {k j : ℕ} (h : ¬ j < 2016) : winM A k j = 0 :=
  (if_neg (by omega)).trans ((if_neg (by omega)).trans ((if_neg (by omega)).trans (if_neg h)))

theorem freq_at (i : Fin 16) : StableHlo.upto pre V 38 (Proc.devRef .tc main_v26) (ix1 i) = ((freq i.val : ℝ) : EReal) := by
  after_reads_at
  have e : (FloatOps.sitofp FTy.f32 (BitVec.ofNat 32 i.val) : Ideal .f32) = ((i.val : ℝ) : EReal) := by
    show (((BitVec.ofNat 32 i.val).toInt : ℝ) : EReal) = _
    have : (BitVec.ofNat 32 i.val).toInt = (i.val : ℤ) := by rw [BitVec.toInt_ofNat', Int.bmod_def]; omega
    rw [this, Int.cast_natCast]
  rw [e, bits_10000, bits_16, ← EReal.coe_neg, div_real _ (by norm_num : (16 : ℝ) ≠ 0)]
  rfl

end

/-- The argument arrays hold `A`. -/
structure Args (A : MlaSpec.Args) : Prop where
  x : ∀ (r : Fin 8192) (k : Fin 1024), V (Proc.devRef .tc main_arg0) (ix3 0 r k) = ((A.x r.val k.val : ℝ) : EReal)
  p : ∀ r : Fin 8192, (FloatOps.sitofp .f32 (V (Proc.devRef .tc main_arg1) (ix2 0 r) : BitVec 32) : Ideal .f32) = ((A.p r.val : ℝ) : EReal)
  w : ∀ (k : Fin 1024) (j : Fin 1952), V (Proc.devRef .tc main_arg2) (ix2 k j) = ((A.w k.val j.val : ℝ) : EReal)
  gq : ∀ k : Fin 384, V (Proc.devRef .tc main_arg3) (ix1 k) = ((A.gq k.val : ℝ) : EReal)
  uq : ∀ (k : Fin 384) (j : Fin 1152), V (Proc.devRef .tc main_arg4) (ix2 k j) = ((A.uq k.val j.val : ℝ) : EReal)
  gkv : ∀ k : Fin 256, V (Proc.devRef .tc main_arg5) (ix1 k) = ((A.gkv k.val : ℝ) : EReal)
  ukv : ∀ (k : Fin 256) (j : Fin 1536), V (Proc.devRef .tc main_arg6) (ix2 k j) = ((A.ukv k.val j.val : ℝ) : EReal)
  dq : ∀ (r : Fin 8192) (h : Fin 12) (l : Fin 96), V (Proc.devRef .tc main_arg7) (ix4 0 r h l) = ((A.dq r.val h.val l.val : ℝ) : EReal)
  dk : ∀ (r : Fin 8192) (h : Fin 12) (l : Fin 96), V (Proc.devRef .tc main_arg8) (ix4 0 r h l) = ((A.dk r.val h.val l.val : ℝ) : EReal)
  dv : ∀ (r : Fin 8192) (h : Fin 12) (l : Fin 64), V (Proc.devRef .tc main_arg9) (ix4 0 r h l) = ((A.dv r.val h.val l.val : ℝ) : EReal)
  dgate : ∀ (r : Fin 8192) (k : Fin 1024), V (Proc.devRef .tc main_arg10) (ix3 0 r k) = ((A.dgate r.val k.val : ℝ) : EReal)
  dqm : ∀ (r : Fin 8192) (k : Fin 256), V (Proc.devRef .tc main_arg11) (ix3 0 r k) = ((A.dqm r.val k.val : ℝ) : EReal)
  dres : ∀ (r : Fin 8192) (k : Fin 1024), V (Proc.devRef .tc main_arg12) (ix3 0 r k) = ((A.dres r.val k.val : ℝ) : EReal)

variable {V} {A : MlaSpec.Args} (H : Args V A)
include H

theorem x_at (r : Fin 8192) (k : Fin 1024) : StableHlo.after pre V (Proc.devRef .tc main_v31) (ix2 r k) = ((A.x r.val k.val : ℝ) : EReal) := by
  after_reads_at
  exact H.x _ _

theorem dgate_at (r : Fin 8192) (k : Fin 1024) : StableHlo.after pre V (Proc.devRef .tc main_v76) (ix2 r k) = ((A.dgate r.val k.val : ℝ) : EReal) := by
  after_reads_at
  exact H.dgate _ _

theorem dqm_at (r : Fin 8192) (k : Fin 256) : StableHlo.after pre V (Proc.devRef .tc main_v77) (ix2 r k) = ((A.dqm r.val k.val : ℝ) : EReal) := by
  after_reads_at
  exact H.dqm _ _

theorem dres_at (r : Fin 8192) (k : Fin 1024) : StableHlo.after pre V (Proc.devRef .tc main_v78) (ix2 r k) = ((A.dres r.val k.val : ℝ) : EReal) := by
  after_reads_at
  exact H.dres _ _

theorem gq_at (i : Fin 1) (k : Fin 384) : StableHlo.after pre V (Proc.devRef .tc main_v7) (ix2 i k) = ((A.gq k.val : ℝ) : EReal) := by
  after_reads_at
  exact H.gq _

theorem gkv_at (i : Fin 1) (k : Fin 256) : StableHlo.after pre V (Proc.devRef .tc main_v8) (ix2 i k) = ((A.gkv k.val : ℝ) : EReal) := by
  after_reads_at
  exact H.gkv _

theorem win_at (k : Fin 1024) (j : Fin 2048) : StableHlo.after pre V (Proc.devRef .tc main_v6) (ix2 k j) = ((winM A k.val j.val : ℝ) : EReal) := by
  after_reads_at
  split
  · after_reads_at; exact (H.w _ _).trans (congrArg Real.toEReal (winM_a ‹_›).symm)
  split
  · after_reads_at; exact (H.w _ _).trans (congrArg Real.toEReal (winM_b ‹_› (by omega)).symm)
  split
  · after_reads_at; exact EReal.coe_zero.symm.trans (congrArg Real.toEReal (winM_c (j := j.val) (by omega) (by omega)).symm)
  split
  · after_reads_at
    refine (H.w _ _).trans (congrArg Real.toEReal (Eq.trans ?_ (winM_d (j := j.val) (by omega) (by omega)).symm))
    exact congrArg (A.w k.val) (by dsimp only; omega)
  · after_reads_at; exact EReal.coe_zero.symm.trans (congrArg Real.toEReal (winM_e (j := j.val) (by omega)).symm)

theorem wuq_at (k : Fin 384) (j : Fin 1536) : StableHlo.after pre V (Proc.devRef .tc main_v12) (ix2 k j) = ((wuqM A k.val j.val : ℝ) : EReal) := by
  after_reads_at
  by_cases c : j.val % 128 < 96
  · exact (dif_pos ⟨by omega, c⟩).trans ((H.uq _ _).trans (congrArg Real.toEReal (if_pos c).symm))
  · exact (dif_neg fun h => c h.2).trans (sitofp_zero.trans (congrArg Real.toEReal (if_neg c).symm))

theorem wk_at (k : Fin 256) (j : Fin 1536) : StableHlo.after pre V (Proc.devRef .tc main_v17) (ix2 k j) = ((wkM A k.val j.val : ℝ) : EReal) := by
  after_reads_at
  by_cases c : j.val % 128 < 64
  · exact (dif_pos ⟨by omega, c⟩).trans ((H.ukv _ _).trans (congrArg Real.toEReal (if_pos c).symm))
  · exact (dif_neg fun h => c h.2).trans (sitofp_zero.trans (congrArg Real.toEReal (if_neg c).symm))

theorem wv_at (k : Fin 256) (j : Fin 768) : StableHlo.after pre V (Proc.devRef .tc main_v20) (ix2 k j) = ((wvM A k.val j.val : ℝ) : EReal) := by
  after_reads_at
  exact H.ukv _ _

theorem cq_at (r : Fin 8192) (k : Fin 384) : StableHlo.after pre V (Proc.devRef .tc main_v34) (ix2 r k) = ((cq A r.val k.val : ℝ) : EReal) := by
  after_reads_at
  refine Eq.trans (Finset.sum_congr rfl fun x _ => ?_) (coe_sum Finset.univ (fun x : Fin 1024 => A.x r.val x.val * A.w x.val k.val))
  rw [H.x, dif_pos (by omega : k.val < 640), EReal.coe_mul]
  after_reads_at
  rw [H.w]

theorem ckv_at (r : Fin 8192) (k : Fin 256) : StableHlo.after pre V (Proc.devRef .tc main_v35) (ix2 r k) = ((ckv A r.val k.val : ℝ) : EReal) := by
  after_reads_at
  refine Eq.trans (Finset.sum_congr rfl fun x _ => ?_) (coe_sum Finset.univ (fun x : Fin 1024 => A.x r.val x.val * A.w x.val (384 + k.val)))
  rw [H.x, dif_neg (by omega : ¬ 1664 + k.val < 1280), dif_pos (by omega : 1664 + k.val - 1280 < 640), EReal.coe_mul]
  after_reads_at
  rw [H.w]
  exact congrArg (fun j => ((A.x r.val x.val : ℝ) : EReal) * ((A.w x.val j : ℝ) : EReal)) (by dsimp only; omega)

theorem dkt_at (j : Fin 1536) (r : Fin 8192) : StableHlo.after pre V (Proc.devRef .tc main_v69) (ix2 j r) = ((dkM A r.val j.val / Real.log 2 : ℝ) : EReal) := by
  after_reads_at
  rw [bits_two, Cert.Attn.log_real (by norm_num), ← div_real _ log_two_ne]
  refine congrArg (Ideal.div · _) ?_
  unfold dkM
  split
  · rw [if_pos (by omega)]; exact H.dk _ _ _
  · rw [if_neg (by omega)]; exact sitofp_zero

theorem dvt_at (j : Fin 768) (r : Fin 8192) : StableHlo.after pre V (Proc.devRef .tc main_v72) (ix2 j r) = ((A.dv r.val (j.val / 64) (j.val % 64) : ℝ) : EReal) := by
  after_reads_at
  exact H.dv _ _ _

theorem dq_at (r : Fin 8192) (j : Fin 1536) : StableHlo.after pre V (Proc.devRef .tc main_v75) (ix2 r j) = ((if j.val % 128 < 96 then A.dq r.val (j.val / 128) (j.val % 128) else 0 : ℝ) : EReal) := by
  after_reads_at
  split
  · rw [if_pos (by omega)]; exact H.dq _ _ _
  · rw [if_neg (by omega)]; exact sitofp_zero

theorem lane_expr (r : Fin 8192) (l : Fin 128) :
    (FloatOps.sitofp FTy.f32 (V (Proc.devRef .tc main_arg1) (ix2 0 r) : BitVec 32) : Ideal .f32) *
      (if h : l.val < 64 then StableHlo.upto pre V 38 (Proc.devRef .tc main_v27) (ix1 ⟨l.val, h⟩)
      else
        if h : l.val - 64 < 16 then StableHlo.upto pre V 38 (Proc.devRef .tc main_v26) (ix1 ⟨l.val - 64, h⟩)
        else
          if h : l.val - 64 - 16 < 16 then StableHlo.upto pre V 38 (Proc.devRef .tc main_v26) (ix1 ⟨l.val - 64 - 16, h⟩)
          else StableHlo.upto pre V 38 (Proc.devRef .tc main_v28) (ix1 ⟨l.val - 64 - 16 - 16, by omega⟩)) =
    ((lane A r.val l.val : ℝ) : EReal) := by
  refine (congrArg (_ * ·) ?_).trans ((congrArg (· * _) (H.p r)).trans (EReal.coe_mul _ _).symm)
  by_cases h1 : l.val < 64
  · refine (dif_pos h1).trans (Eq.trans ?_ (congrArg Real.toEReal (if_pos h1).symm))
    after_reads_at; exact EReal.coe_zero.symm
  by_cases h2 : l.val - 64 < 16
  · exact (dif_neg h1).trans ((dif_pos h2).trans ((freq_at _).trans
      (congrArg Real.toEReal ((if_neg h1).trans (if_pos (by omega : l.val < 80))).symm)))
  have h3 : ¬ l.val < 80 := by omega
  by_cases h4 : l.val - 64 - 16 < 16
  · exact (dif_neg h1).trans ((dif_neg h2).trans ((dif_pos h4).trans ((freq_at _).trans
      (congrArg Real.toEReal ((if_neg h1).trans ((if_neg h3).trans (if_pos (by omega : l.val < 96)))).symm))))
  · refine (dif_neg h1).trans ((dif_neg h2).trans ((dif_neg h4).trans (Eq.trans ?_
      (congrArg Real.toEReal ((if_neg h1).trans ((if_neg h3).trans (if_neg (by omega : ¬ l.val < 96)))).symm))))
    after_reads_at; exact EReal.coe_zero.symm

theorem c_at (r : Fin 8192) (l : Fin 128) : StableHlo.after pre V (Proc.devRef .tc main_v49) (ix2 r l) = (((row A r.val).c l : ℝ) : EReal) := by
  after_reads_at
  rw [lane_expr H, Cert.Attn.slt_nat (a := l.val) (b := 64) (by omega) (by omega), Cert.Attn.slt_nat (a := l.val) (b := 96) (by omega) (by omega)]
  show _ = ((if l.val < 64 then 1 else if l.val < 96 then Real.cos (lane A r.val l.val) else 0 : ℝ) : EReal)
  by_cases h1 : l.val < 64
  · rw [if_pos h1, if_pos h1]; exact bits_one
  rw [if_neg h1, if_neg h1]
  by_cases h2 : l.val < 96
  · rw [if_pos h2, if_pos h2]; rfl
  · rw [if_neg h2, if_neg h2]; exact bits_zero

theorem sa_at (r : Fin 8192) (l : Fin 128) : StableHlo.after pre V (Proc.devRef .tc main_v56) (ix2 r l) = (((row A r.val).sa l : ℝ) : EReal) := by
  after_reads_at
  rw [lane_expr H, Cert.Attn.sge_nat (a := l.val) (b := 64) (by omega) (by omega), Cert.Attn.slt_nat (a := l.val) (b := 80) (by omega) (by omega)]
  show _ = ((if 64 ≤ l.val ∧ l.val < 80 then -Real.sin (lane A r.val l.val) else 0 : ℝ) : EReal)
  by_cases h1 : 64 ≤ l.val
  · by_cases h2 : l.val < 80
    · rw [if_pos h1, if_pos h2, if_pos ⟨h1, h2⟩]; exact (EReal.coe_neg _).symm
    · rw [if_pos h1, if_neg h2, if_neg (show ¬ (_ ∧ _) from fun h => h2 h.2)]; exact bits_zero
  · by_cases h2 : l.val < 80
    · rw [if_neg h1, if_pos h2, if_neg (show ¬ (_ ∧ _) from fun h => h1 h.1)]; exact bits_zero
    · rw [if_neg h1, if_neg h2, if_neg (show ¬ (_ ∧ _) from fun h => h1 h.1)]; exact bits_zero

theorem sb_at (r : Fin 8192) (l : Fin 128) : StableHlo.after pre V (Proc.devRef .tc main_v62) (ix2 r l) = (((row A r.val).sb l : ℝ) : EReal) := by
  after_reads_at
  rw [lane_expr H, Cert.Attn.sge_nat (a := l.val) (b := 80) (by omega) (by omega), Cert.Attn.slt_nat (a := l.val) (b := 96) (by omega) (by omega)]
  show _ = ((if 80 ≤ l.val ∧ l.val < 96 then Real.sin (lane A r.val l.val) else 0 : ℝ) : EReal)
  by_cases h1 : 80 ≤ l.val
  · by_cases h2 : l.val < 96
    · rw [if_pos h1, if_pos h2, if_pos ⟨h1, h2⟩]; rfl
    · rw [if_pos h1, if_neg h2, if_neg (show ¬ (_ ∧ _) from fun h => h2 h.2)]; exact bits_zero
  · by_cases h2 : l.val < 96
    · rw [if_neg h1, if_pos h2, if_neg (show ¬ (_ ∧ _) from fun h => h1 h.1)]; exact bits_zero
    · rw [if_neg h1, if_neg h2, if_neg (show ¬ (_ ∧ _) from fun h => h1 h.1)]; exact bits_zero

end Cert.MlaHost
end
-- ==== Proof.MlaRes.lean ====
/-
The kernel's six results over the real numbers its argument arrays hold.
-/
module

public import proofs.«01_k».proof.Proof.MlaArr
public import proofs.«01_k».proof.Proof.MlaHost

@[expose] public section

set_option maxRecDepth 16384
set_option maxHeartbeats 1000000

noncomputable section
namespace Cert.MlaRes
open Idealize.ShloMosaic Idealize.ShloMosaic.TcCoe Idealize.ShloMosaic.Tactic
open Idealize.ShloMosaic.Pipeline (Dat)
open Cert.Kernel3Ideal Cert.Kernel3Ideal.Gen
open Cert.Core Cert.MlaSpec Cert.MlaRun

variable {m : (ℓ : Loc nD τ sig) → Buf (Elt Ideal) ℓ} {c : Dev nD} {A : MlaSpec.Args}

/-- The argument arrays of `m` on one device hold `A`. -/
abbrev Holds (m : (ℓ : Loc nD τ sig) → Buf (Elt Ideal) ℓ) (c : Dev nD) (A : MlaSpec.Args) : Prop :=
  Cert.MlaHost.Args (fun b => m (c, b)) A

theorem reads (H : Holds m c A) : Cert.MlaArr.Reads m c (par A) (fun s => row A s.val) :=
  ⟨Cert.MlaHost.x_at H, Cert.MlaHost.cq_at H, Cert.MlaHost.ckv_at H, Cert.MlaHost.dgate_at H, Cert.MlaHost.dqm_at H, Cert.MlaHost.dres_at H,
    Cert.MlaHost.c_at H, Cert.MlaHost.sa_at H, Cert.MlaHost.sb_at H, Cert.MlaHost.dq_at H, Cert.MlaHost.dkt_at H, Cert.MlaHost.dvt_at H,
    Cert.MlaHost.win_at H, Cert.MlaHost.wuq_at H, Cert.MlaHost.wk_at H, Cert.MlaHost.wv_at H, Cert.MlaHost.gq_at H, Cert.MlaHost.gkv_at H⟩

/-- The valuation the operations after the region start from. -/
abbrev U (m : (ℓ : Loc nD τ sig) → Buf (Elt Ideal) ℓ) (c : Dev nD) : Valuation τ sig (Elt Ideal) :=
  Pipeline.withArrays spec0 c (V0 m c) fun w => (dats m 0 c).arrAt w cfg0.N

theorem u_arr (w : Fin 25) : U m c (Proc.devRef .tc (Pipeline.arrRef spec0 w)) = (dats m 0 c).arrAt w cfg0.N :=
  Pipeline.withArrays_arr spec0 launch0.win.arr_inj c (V0 m c) _ w

theorem dx_res (H : Holds m c A) (r : Fin 8192) (k : Fin 1024) : (dats m 0 c).arrAt 18 cfg0.N (ix2 r k) = ((dx A r.val k.val : ℝ) : EReal) :=
  (congrFun (Cert.MlaArr.dx_arr (reads H)) (ix2 r k)).trans (congrArg Real.toEReal (dx_eq A r.val k))

theorem u1 (H : Holds m c A) (k : Fin 1024) (j : Fin 2048) (i : ℕ)
    (h : (j.val < 1280 ∧ i = 672 + j.val) ∨ (1280 ≤ j.val ∧ j.val < 1920 ∧ i = j.val - 1280) ∨ (1984 ≤ j.val ∧ j.val < 2016 ∧ i = 640 + (j.val - 1984))) :
    U m c (Proc.devRef .tc main_v79_1) (ix2 k j) = ((dw A k.val i : ℝ) : EReal) :=
  (congrFun ((u_arr 19).trans (Cert.MlaArr.dwin_arr (reads H))) (ix2 k j)).trans
    (congrArg Real.toEReal (Finset.sum_congr rfl fun s _ => congrArg (A.x s.val k.val * ·) (dz_eq A s.val j i h)))

theorem u2 (H : Holds m c A) (k : Fin 384) (j : Fin 1536) (h : j.val % 128 < 96) :
    U m c (Proc.devRef .tc main_v79_2) (ix2 k j) = ((duq A k.val (j.val / 128 * 96 + j.val % 128) : ℝ) : EReal) :=
  (congrFun ((u_arr 20).trans (Cert.MlaArr.dwuq_arr (reads H))) (ix2 k j)).trans
    (congrArg Real.toEReal (Finset.sum_congr rfl fun s _ => congrArg (xhq A s.val k.val * A.gq k.val * ·) (dqf_eq A s.val j h)))

theorem u3 (H : Holds m c A) (k : Fin 256) (j : Fin 1536) (h : j.val % 128 < 64) :
    U m c (Proc.devRef .tc main_v79_3) (ix2 k j) = ((dukv A k.val j.val : ℝ) : EReal) :=
  (congrFun ((u_arr 21).trans (Cert.MlaArr.dwk_arr (reads H))) (ix2 k j)).trans
    (congrArg Real.toEReal (Finset.sum_congr rfl fun s _ => congrArg (xhk A s.val k.val * A.gkv k.val * ·)
      ((dkp_eq A s.val j).trans ((if_pos (by omega : j.val % 128 < 96)).trans (if_pos h).symm))))

theorem u4 (H : Holds m c A) (k : Fin 256) (j : Fin 768) :
    U m c (Proc.devRef .tc main_v79_4) (ix2 k j) = ((dukv A k.val (j.val / 64 * 128 + (64 + j.val % 64)) : ℝ) : EReal) := by
  refine (congrFun ((u_arr 22).trans (Cert.MlaArr.dwv_arr (reads H))) (ix2 k j)).trans
    (congrArg Real.toEReal (Finset.sum_congr rfl fun s _ => congrArg (xhk A s.val k.val * A.gkv k.val * ·) ?_))
  show A.dv s.val (j.val / 64) (j.val % 64) = dkv A s.val _
  unfold dkv
  rw [if_neg (by omega), show (j.val / 64 * 128 + (64 + j.val % 64)) / 128 = j.val / 64 by omega,
    show (j.val / 64 * 128 + (64 + j.val % 64)) % 128 - 64 = j.val % 64 by omega]

theorem u5 (H : Holds m c A) (k : Fin 384) :
    U m c (Proc.devRef .tc main_v79_5) (ix2 (0 : Fin 1) k) = ((dgq A k.val : ℝ) : EReal) :=
  (congrFun ((u_arr 23).trans (Cert.MlaArr.dgq_arr (reads H))) (ix2 (0 : Fin 1) k)).trans
    (congrArg Real.toEReal (Finset.sum_congr rfl fun s _ => congrArg (· * xhq A s.val k.val) (dnq_eq A s.val k)))

theorem u6 (H : Holds m c A) (k : Fin 256) :
    U m c (Proc.devRef .tc main_v79_6) (ix2 (0 : Fin 1) k) = ((dgkv A k.val : ℝ) : EReal) :=
  (congrFun ((u_arr 24).trans (Cert.MlaArr.dgkv_arr (reads H))) (ix2 (0 : Fin 1) k)).trans
    (congrArg Real.toEReal (Finset.sum_congr rfl fun s _ => congrArg (· * xhk A s.val k.val) (dnkv_eq A s.val k)))

variable (V : Valuation τ sig (Elt Ideal))

theorem w_at (k : Fin 1024) (j : Fin 1952) (f : ℕ → ℝ) (h : ∀ (j : Fin 2048) (i : ℕ),
      ((j.val < 1280 ∧ i = 672 + j.val) ∨ (1280 ≤ j.val ∧ j.val < 1920 ∧ i = j.val - 1280) ∨ (1984 ≤ j.val ∧ j.val < 2016 ∧ i = 640 + (j.val - 1984)))
      → V (Proc.devRef .tc main_v79_1) (ix2 k j) = ((f i : ℝ) : EReal)) :
    StableHlo.after hostOps1 V (Proc.devRef .tc main_v83) (ix2 k j) = ((f j.val : ℝ) : EReal) := by
  after_reads_at
  split
  · after_reads_at; exact h _ _ (by simp only []; omega)
  split
  · after_reads_at; exact h _ _ (by simp only []; omega)
  · after_reads_at; exact h _ _ (by simp only []; omega)

theorem uq_at (k : Fin 384) (j : Fin 1152) (f : ℕ → ℝ) (h : ∀ j : Fin 1536, j.val % 128 < 96 →
      V (Proc.devRef .tc main_v79_2) (ix2 k j) = ((f (j.val / 128 * 96 + j.val % 128) : ℝ) : EReal)) :
    StableHlo.after hostOps1 V (Proc.devRef .tc main_v86) (ix2 k j) = ((f j.val : ℝ) : EReal) := by
  after_reads_at
  refine (h _ (by simp only []; omega)).trans (congrArg (fun n => ((f n : ℝ) : EReal)) (by simp only []; omega))

theorem ukv_at (k : Fin 256) (j : Fin 1536) (f : ℕ → ℝ)
    (h : ∀ j : Fin 1536, j.val % 128 < 64 → V (Proc.devRef .tc main_v79_3) (ix2 k j) = ((f j.val : ℝ) : EReal))
    (h' : ∀ j : Fin 768, V (Proc.devRef .tc main_v79_4) (ix2 k j) = ((f (j.val / 64 * 128 + (64 + j.val % 64)) : ℝ) : EReal)) :
    StableHlo.after hostOps1 V (Proc.devRef .tc main_v91) (ix2 k j) = ((f j.val : ℝ) : EReal) := by
  after_reads_at
  split
  · after_reads_at
    refine (h _ ?_).trans (congrArg (fun n => ((f n : ℝ) : EReal)) ?_) <;> simp only [] <;> omega
  · after_reads_at
    refine (h' _).trans (congrArg (fun n => ((f n : ℝ) : EReal)) ?_)
    simp only []
    omega

theorem gq_at (k : Fin 384) : StableHlo.after hostOps1 V (Proc.devRef .tc main_v92) (ix1 k) = V (Proc.devRef .tc main_v79_5) (ix2 (0 : Fin 1) k) := by
  after_reads_at
theorem gkv_at (k : Fin 256) : StableHlo.after hostOps1 V (Proc.devRef .tc main_v93) (ix1 k) = V (Proc.devRef .tc main_v79_6) (ix2 (0 : Fin 1) k) := by
  after_reads_at

end Cert.MlaRes
-- ==== Proof.MlaRef.lean ====
/-
The stages of the third reference at arguments that hold real numbers.
-/
module

public import proofs.«01_k».proof.Proof.MlaSpec
public import proofs.«01_k».proof.Proof.MlaHost
public import proofs.«01_k».proof.Proof.RefFwd
public import proofs.«01_k».proof.Proof.Gen.Reference3Ideal.Read

@[expose] public section

set_option maxRecDepth 16384
set_option maxHeartbeats 1000000

noncomputable section

open Idealize.ShloMosaic Idealize.SL.Sem
open Cert.Reference3Ideal Cert.Reference3Ideal.Gen Cert.Reference3Ideal.Read

namespace Cert.MlaRef

open Cert.Core Cert.MlaSpec

/-- The arguments hold real numbers. -/
structure Reads (x0 : (⟨S1x8192x1024, .f32⟩ : BufTy).Contents (Elt Ideal)) (x1 : (⟨S1x8192, .i32⟩ : BufTy).Contents (Elt Ideal))
    (x2 : (⟨S1024x1952, .f32⟩ : BufTy).Contents (Elt Ideal)) (x3 : (⟨S384, .f32⟩ : BufTy).Contents (Elt Ideal))
    (x4 : (⟨S384x1152, .f32⟩ : BufTy).Contents (Elt Ideal)) (x5 : (⟨S256, .f32⟩ : BufTy).Contents (Elt Ideal))
    (x6 : (⟨S256x1536, .f32⟩ : BufTy).Contents (Elt Ideal)) (x7 x8 : (⟨S1x8192x12x96, .f32⟩ : BufTy).Contents (Elt Ideal))
    (x9 : (⟨S1x8192x12x64, .f32⟩ : BufTy).Contents (Elt Ideal)) (x10 : (⟨S1x8192x1024, .f32⟩ : BufTy).Contents (Elt Ideal))
    (x11 : (⟨S1x8192x256, .f32⟩ : BufTy).Contents (Elt Ideal)) (x12 : (⟨S1x8192x1024, .f32⟩ : BufTy).Contents (Elt Ideal))
    (A : MlaSpec.Args) : Prop where
  x : ∀ (r : Fin 8192) (k : Fin 1024), x0 (ix3 (0 : Fin 1) r k) = ((A.x r.val k.val : ℝ) : EReal)
  p : ∀ r : Fin 8192, (FloatOps.sitofp .f32 (x1 (ix2 (0 : Fin 1) r) : BitVec 32) : Ideal .f32) = ((A.p r.val : ℝ) : EReal)
  w : ∀ (k : Fin 1024) (j : Fin 1952), x2 (ix2 k j) = ((A.w k.val j.val : ℝ) : EReal)
  gq : ∀ k : Fin 384, x3 (ix1 k) = ((A.gq k.val : ℝ) : EReal)
  uq : ∀ (k : Fin 384) (j : Fin 1152), x4 (ix2 k j) = ((A.uq k.val j.val : ℝ) : EReal)
  gkv : ∀ k : Fin 256, x5 (ix1 k) = ((A.gkv k.val : ℝ) : EReal)
  ukv : ∀ (k : Fin 256) (j : Fin 1536), x6 (ix2 k j) = ((A.ukv k.val j.val : ℝ) : EReal)
  dq : ∀ (r : Fin 8192) (h : Fin 12) (l : Fin 96), x7 (ix4 (0 : Fin 1) r h l) = ((A.dq r.val h.val l.val : ℝ) : EReal)
  dk : ∀ (r : Fin 8192) (h : Fin 12) (l : Fin 96), x8 (ix4 (0 : Fin 1) r h l) = ((A.dk r.val h.val l.val : ℝ) : EReal)
  dv : ∀ (r : Fin 8192) (h : Fin 12) (l : Fin 64), x9 (ix4 (0 : Fin 1) r h l) = ((A.dv r.val h.val l.val : ℝ) : EReal)
  dgate : ∀ (r : Fin 8192) (k : Fin 1024), x10 (ix3 (0 : Fin 1) r k) = ((A.dgate r.val k.val : ℝ) : EReal)
  dqm : ∀ (r : Fin 8192) (k : Fin 256), x11 (ix3 (0 : Fin 1) r k) = ((A.dqm r.val k.val : ℝ) : EReal)
  dres : ∀ (r : Fin 8192) (k : Fin 1024), x12 (ix3 (0 : Fin 1) r k) = ((A.dres r.val k.val : ℝ) : EReal)

/-- The mean square a row's root is taken of. -/
def vs (n : ℕ) (c : ℕ → ℝ) : ℝ := (∑ i : Fin n, c i.val * c i.val) / n + eps
theorem vs_pos (n : ℕ) (c : ℕ → ℝ) : 0 < vs n c := Cert.Mla.mean_pos fun k : Fin n => c k.val

/-- The norm's gradient as the reference's lines form it. -/
theorem norm_grad (n : ℕ) (c d : ℕ → ℝ) (k : ℕ) :
    d k * rinvN n c + c k * ((∑ i : Fin n, c i.val * d i.val) * (-(1 / 2) * (rinvN n c / vs n c)) / n)
      + ((∑ i : Fin n, c i.val * d i.val) * (-(1 / 2) * (rinvN n c / vs n c)) / n) * c k = dnormN n c d k := by
  have h2 : rinvN n c * rinvN n c = (vs n c)⁻¹ := by
    show (√(vs n c))⁻¹ * (√(vs n c))⁻¹ = _
    rw [← mul_inv, Real.mul_self_sqrt (vs_pos n c).le]
  have h1 : ∑ i : Fin n, d i.val * (c i.val * rinvN n c) = (∑ i : Fin n, c i.val * d i.val) * rinvN n c := by
    rw [Finset.sum_mul]
    exact Finset.sum_congr rfl fun i _ => by ring
  unfold dnormN
  rw [h1, div_eq_mul_inv (rinvN n c), ← h2]
  ring

theorem unit (i : Fin 1) : i = 0 := Subsingleton.elim _ _

theorem reduce_rows {a : ℕ} (h : (⟨3, ![1, 1, a]⟩ : Shape).ReducesTo [0, 1] ⟨1, ![a]⟩) (x : (⟨3, ![1, 1, a]⟩ : Shape).Idx → EReal) (init : EReal) (k : Fin a)
    (e : ∀ i : (⟨3, ![1, 1, a]⟩ : Shape).Idx, h.drop i = ix1 (i 2)) :
    Ideal.hostReduceAdd h x init (ix1 k) = init + x (ix3 (0 : Fin 1) (0 : Fin 1) k) :=
  Cert.Ref.reduceAdd_unit _ _ _ _ _ fun i => ⟨fun h => by
    have h2 : i 2 = k := congrFun ((e i).symm.trans h) 0
    rw [eq_ix3 i, h2, unit (i 0), unit (i 1)], fun h => by rw [h, e]; rfl⟩

theorem reduce_cols (h : S1x8192x1.ReducesTo [0, 2] S8192) (x : S1x8192x1.Idx → EReal) (init : EReal) (r : Fin 8192)
    (e : ∀ i : S1x8192x1.Idx, h.drop i = ix1 (i 1)) :
    Ideal.hostReduceAdd h x init (ix1 r) = init + x (ix3 (0 : Fin 1) r (0 : Fin 1)) :=
  Cert.Ref.reduceAdd_unit _ _ _ _ _ fun i => ⟨fun h => by
    have h2 : i 1 = r := congrFun ((e i).symm.trans h) 0
    rw [eq_ix3 i, h2, unit (i 0), unit (i 2)], fun h => by rw [h, e]; rfl⟩

theorem reduce_heads {a : ℕ} (h : (⟨4, ![1, 8192, a, 32]⟩ : Shape).ReducesTo [0, 2] S8192x32) (x : (⟨4, ![1, 8192, a, 32]⟩ : Shape).Idx → EReal)
    (init : EReal) (r : Fin 8192) (k : Fin 32) (e : ∀ i : (⟨4, ![1, 8192, a, 32]⟩ : Shape).Idx, h.drop i = ix2 (i 1) (i 3)) :
    Ideal.hostReduceAdd h x init (ix2 r k) = init + ∑ b : Fin a, x (ix4 (0 : Fin 1) r b k) := by
  rw [Ideal.hostReduceAdd]
  refine congrArg (init + ·) (Finset.sum_bij (fun (b : Fin a) _ => ix4 (0 : Fin 1) r b k) (fun b _ => ?_) (fun b _ b' _ q => by have := congrFun q (2 : Fin 4); exact this) (fun i q => ?_) fun b _ => rfl).symm
  · exact Finset.mem_filter.mpr ⟨Finset.mem_univ _, (e _).trans rfl⟩
  · have q := (e i).symm.trans (Finset.mem_filter.mp q).2
    have h1 : i 1 = r := congrFun q 0
    have h3 : i 3 = k := congrFun q 1
    refine ⟨i 2, Finset.mem_univ _, ?_⟩
    conv_rhs => rw [eq_ix4 i, h1, h3, unit (i 0)]

section
variable {x0 : (⟨S1x8192x1024, .f32⟩ : BufTy).Contents (Elt Ideal)} {x1 : (⟨S1x8192, .i32⟩ : BufTy).Contents (Elt Ideal)}
    {x2 : (⟨S1024x1952, .f32⟩ : BufTy).Contents (Elt Ideal)} {x3 : (⟨S384, .f32⟩ : BufTy).Contents (Elt Ideal)}
    {x4 : (⟨S384x1152, .f32⟩ : BufTy).Contents (Elt Ideal)} {x5 : (⟨S256, .f32⟩ : BufTy).Contents (Elt Ideal)}
    {x6 : (⟨S256x1536, .f32⟩ : BufTy).Contents (Elt Ideal)} {x7 x8 : (⟨S1x8192x12x96, .f32⟩ : BufTy).Contents (Elt Ideal)}
    {x9 : (⟨S1x8192x12x64, .f32⟩ : BufTy).Contents (Elt Ideal)} {x10 : (⟨S1x8192x1024, .f32⟩ : BufTy).Contents (Elt Ideal)}
    {x11 : (⟨S1x8192x256, .f32⟩ : BufTy).Contents (Elt Ideal)} {x12 : (⟨S1x8192x1024, .f32⟩ : BufTy).Contents (Elt Ideal)}
    {A : MlaSpec.Args} (H : Reads x0 x1 x2 x3 x4 x5 x6 x7 x8 x9 x10 x11 x12 A)
include H

/-! ## The projections and the norms -/

theorem z_read (r : Fin 8192) (j : Fin 1952) : val_main_v0 (F := Ideal) x0 x2 (ix3 (0 : Fin 1) r j) = ((z A r.val j.val : ℝ) : EReal) := by
  pointwise [val_main_v0]
  simp only [H.x, H.w, ← EReal.coe_mul, coe_sum, z]
theorem cq_read (r : Fin 8192) (k : Fin 384) : val_main_v1 (F := Ideal) x0 x2 (ix3 (0 : Fin 1) r k) = ((cq A r.val k.val : ℝ) : EReal) := by
  pointwise [val_main_v1]
  exact z_read H _ _
theorem ckv_read (r : Fin 8192) (k : Fin 256) : val_main_v2 (F := Ideal) x0 x2 (ix3 (0 : Fin 1) r k) = ((ckv A r.val k.val : ℝ) : EReal) := by
  pointwise [val_main_v2]
  exact z_read H _ _
theorem vq_read (r : Fin 8192) (u : Fin 1) : val_main_v12 (F := Ideal) x0 x2 (ix3 (0 : Fin 1) r u) = ((vs 384 (cq A r.val) : ℝ) : EReal) := by
  pointwise [val_main_v12, val_main_v11, val_main_v10, val_main_v9, val_main_v8, val_main_v7, val_main_v6, val_main_cst, val_main_cst_0, val_main_cst_1]
  simp only [cq_read H, Cert.Mla.bits_384, bits_eps, ← EReal.coe_mul, coe_sum, div_real _ (by norm_num : (384 : ℝ) ≠ 0), ← EReal.coe_add]
  rfl
theorem vkv_read (r : Fin 8192) (u : Fin 1) : val_main_v62 (F := Ideal) x0 x2 (ix3 (0 : Fin 1) r u) = ((vs 256 (ckv A r.val) : ℝ) : EReal) := by
  pointwise [val_main_v62, val_main_v61, val_main_v60, val_main_v59, val_main_v58, val_main_v57, val_main_v56, val_main_cst_5, val_main_cst_6, val_main_cst_7]
  simp only [ckv_read H, Cert.Mla.bits_256, bits_eps, ← EReal.coe_mul, coe_sum, div_real _ (by norm_num : (256 : ℝ) ≠ 0), ← EReal.coe_add]
  rfl
theorem rq_read (r : Fin 8192) (u : Fin 1) : val_main_v13 (F := Ideal) x0 x2 (ix3 (0 : Fin 1) r u) = ((rinvN 384 (cq A r.val) : ℝ) : EReal) := by
  pointwise [val_main_v13]
  rw [vq_read H]
  exact rsqrt_real (vs_pos _ _)
theorem rkv_read (r : Fin 8192) (u : Fin 1) : val_main_v63 (F := Ideal) x0 x2 (ix3 (0 : Fin 1) r u) = ((rinvN 256 (ckv A r.val) : ℝ) : EReal) := by
  pointwise [val_main_v63]
  rw [vkv_read H]
  exact rsqrt_real (vs_pos _ _)
theorem hq_read (r : Fin 8192) (u : Fin 1) : val_main_v16 (F := Ideal) x0 x2 (ix3 (0 : Fin 1) r u) =
    ((-(1 / 2) * (rinvN 384 (cq A r.val) / vs 384 (cq A r.val)) : ℝ) : EReal) := by
  pointwise [val_main_v16, val_main_v15, val_main_v14, val_main_cst_2]
  simp only [rq_read H, vq_read H, bits_neg_half, div_real _ (vs_pos _ _).ne', ← EReal.coe_mul]
theorem hkv_read (r : Fin 8192) (u : Fin 1) : val_main_v66 (F := Ideal) x0 x2 (ix3 (0 : Fin 1) r u) =
    ((-(1 / 2) * (rinvN 256 (ckv A r.val) / vs 256 (ckv A r.val)) : ℝ) : EReal) := by
  pointwise [val_main_v66, val_main_v65, val_main_v64, val_main_cst_8]
  simp only [rkv_read H, vkv_read H, bits_neg_half, div_real _ (vs_pos _ _).ne', ← EReal.coe_mul]
theorem xhq_read (r : Fin 8192) (k : Fin 384) : val_main_v18 (F := Ideal) x0 x2 (ix3 (0 : Fin 1) r k) = ((xhq A r.val k.val : ℝ) : EReal) := by
  pointwise [val_main_v18, val_main_v17]
  rw [cq_read H, rq_read H, ← EReal.coe_mul]
  rfl
theorem xhk_read (r : Fin 8192) (k : Fin 256) : val_main_v68 (F := Ideal) x0 x2 (ix3 (0 : Fin 1) r k) = ((xhk A r.val k.val : ℝ) : EReal) := by
  pointwise [val_main_v68, val_main_v67]
  rw [ckv_read H, rkv_read H, ← EReal.coe_mul]
  rfl
theorem nq_read (r : Fin 8192) (k : Fin 384) : val_main_v21 (F := Ideal) x0 x2 x3 (ix3 (0 : Fin 1) r k) = ((xhq A r.val k.val * A.gq k.val : ℝ) : EReal) := by
  pointwise [val_main_v21, val_main_v20, val_main_v19]
  rw [xhq_read H, H.gq, ← EReal.coe_mul]
theorem nkv_read (r : Fin 8192) (k : Fin 256) : val_main_v71 (F := Ideal) x0 x2 x5 (ix3 (0 : Fin 1) r k) = ((xhk A r.val k.val * A.gkv k.val : ℝ) : EReal) := by
  pointwise [val_main_v71, val_main_v70, val_main_v69]
  rw [xhk_read H, H.gkv, ← EReal.coe_mul]

/-! ## The rotary angles -/

omit H in
theorem freq_word (i : Fin 16) : Ideal.pow (Ideal.ofBits .f32 0x461C4000#32 : Ideal .f32)
    (Ideal.div (-(FloatOps.sitofp FTy.f32 (BitVec.ofNat 32 i.val) : Ideal .f32)) (Ideal.ofBits .f32 0x41800000#32)) = ((freq i.val : ℝ) : EReal) := by
  have e : (FloatOps.sitofp FTy.f32 (BitVec.ofNat 32 i.val) : Ideal .f32) = ((i.val : ℝ) : EReal) := by
    show (((BitVec.ofNat 32 i.val).toInt : ℝ) : EReal) = _
    have : (BitVec.ofNat 32 i.val).toInt = (i.val : ℤ) := by rw [BitVec.toInt_ofNat', Int.bmod_def]; omega
    rw [this, Int.cast_natCast]
  rw [e, Cert.MlaHost.bits_10000, Cert.MlaHost.bits_16, ← EReal.coe_neg, div_real _ (by norm_num : (16 : ℝ) ≠ 0)]
  rfl
omit H in
theorem freq_read (i : Fin 16) : val_main_v31 (F := Ideal) (ix1 i) = ((freq i.val : ℝ) : EReal) := by
  pointwise [val_main_v31, val_main_v30, val_main_v29, val_main_v28, val_main_v27, val_main_v26, val_main_cst_3, val_main_cst_4]
  exact freq_word i
omit H in
theorem freqk_read (i : Fin 16) : val_main_v82 (F := Ideal) (ix1 i) = ((freq i.val : ℝ) : EReal) := by
  pointwise [val_main_v82, val_main_v81, val_main_v80, val_main_v79, val_main_v78, val_main_v77, val_main_cst_9, val_main_cst_10]
  exact freq_word i
theorem ang_read (r : Fin 8192) (i : Fin 16) : val_main_v37 (F := Ideal) x1 (ix3 (0 : Fin 1) r i) = ((ang A r.val i.val : ℝ) : EReal) := by
  pointwise [val_main_v37, val_main_v36, val_main_v35, val_main_v34, val_main_v33, val_main_v32]
  rw [H.p, freq_read, ← EReal.coe_mul]
  rfl
theorem angk_read (r : Fin 8192) (i : Fin 16) : val_main_v88 (F := Ideal) x1 (ix3 (0 : Fin 1) r i) = ((ang A r.val i.val : ℝ) : EReal) := by
  pointwise [val_main_v88, val_main_v87, val_main_v86, val_main_v85, val_main_v84, val_main_v83]
  rw [H.p, freqk_read, ← EReal.coe_mul]
  rfl
theorem cos_read (r : Fin 8192) (i : Fin 16) : val_main_v39 (F := Ideal) x1 (ix4 (0 : Fin 1) r (0 : Fin 1) i) = ((Real.cos (ang A r.val i.val) : ℝ) : EReal) := by
  pointwise [val_main_v39, val_main_v38]
  rw [ang_read H]
  rfl
theorem sin_read (r : Fin 8192) (i : Fin 16) : val_main_v41 (F := Ideal) x1 (ix4 (0 : Fin 1) r (0 : Fin 1) i) = ((Real.sin (ang A r.val i.val) : ℝ) : EReal) := by
  pointwise [val_main_v41, val_main_v40]
  rw [ang_read H]
  rfl
theorem cosk_read (r : Fin 8192) (u : Fin 1) (i : Fin 16) : val_main_v90 (F := Ideal) x1 (ix4 (0 : Fin 1) r u i) = ((Real.cos (ang A r.val i.val) : ℝ) : EReal) := by
  pointwise [val_main_v90, val_main_v89]
  rw [angk_read H]
  rfl
theorem sink_read (r : Fin 8192) (u : Fin 1) (i : Fin 16) : val_main_v92 (F := Ideal) x1 (ix4 (0 : Fin 1) r u i) = ((Real.sin (ang A r.val i.val) : ℝ) : EReal) := by
  pointwise [val_main_v92, val_main_v91]
  rw [angk_read H]
  rfl

/-! ## The queries' side -/

theorem hi_read (r : Fin 8192) (h : Fin 12) (i : Fin 16) : val_main_v161 (F := Ideal) x1 x7 (ix4 (0 : Fin 1) r h i) =
    ((A.dq r.val h.val (64 + (16 + i.val)) * Real.cos (ang A r.val i.val) - A.dq r.val h.val (64 + i.val) * Real.sin (ang A r.val i.val) : ℝ) : EReal) := by
  pointwise [val_main_v161, val_main_v160, val_main_v159, val_main_v158, val_main_v155, val_main_v154, val_main_v153, val_main_v152, val_main_v151]
  simp only [H.dq, cos_read H, sin_read H, ← EReal.coe_mul, ← EReal.coe_neg, ← EReal.coe_add]
  exact congrArg Real.toEReal (by ring_nf)
theorem lo_read (r : Fin 8192) (h : Fin 12) (i : Fin 16) : val_main_v164 (F := Ideal) x1 x7 (ix4 (0 : Fin 1) r h i) =
    ((A.dq r.val h.val (64 + (16 + i.val)) * Real.sin (ang A r.val i.val) + A.dq r.val h.val (64 + i.val) * Real.cos (ang A r.val i.val) : ℝ) : EReal) := by
  pointwise [val_main_v164, val_main_v163, val_main_v162, val_main_v157, val_main_v156, val_main_v153, val_main_v152, val_main_v151]
  simp only [H.dq, cos_read H, sin_read H, ← EReal.coe_mul, ← EReal.coe_neg, ← EReal.coe_add]
theorem turn_read (r : Fin 8192) (h : Fin 12) (i : Fin 32) : val_main_v167 (F := Ideal) x1 x7 (ix4 (0 : Fin 1) r h i) =
    ((turn A r.val (fun i => A.dq r.val h.val (64 + i)) i.val : ℝ) : EReal) := by
  pointwise [val_main_v167, val_main_v166, val_main_v165, val_main_cst_22, val_main_cst_23]
  by_cases c : i.val < 16
  · refine (congrArg₂ (· + ·) (dif_neg (by omega)) ((dif_pos c).trans (lo_read H r h ⟨i.val, c⟩))).trans ((zero_add _).trans ?_)
    exact congrArg Real.toEReal (if_pos c).symm
  · refine (congrArg₂ (· + ·) ((dif_pos ⟨by omega, by omega⟩).trans (hi_read H r h ⟨i.val - 16, by omega⟩)) (dif_neg c)).trans ((add_zero _).trans ?_)
    refine congrArg Real.toEReal (Eq.trans ?_ (if_neg c).symm)
    show A.dq r.val h.val (64 + (16 + (i.val - 16))) * _ - _ = A.dq r.val h.val (64 + i.val) * _ - _
    rw [show 16 + (i.val - 16) = i.val by omega]
theorem dqc_read (r : Fin 8192) (j : Fin 1152) : val_main_v171 (F := Ideal) x1 x7 (ix3 (0 : Fin 1) r j) = ((dqc A r.val j.val : ℝ) : EReal) := by
  pointwise [val_main_v171, val_main_v170, val_main_v169, val_main_v168, val_main_v150, val_main_cst_24, val_main_cst_25]
  by_cases c : j.val % 96 < 64
  · refine (congrArg₂ (· + ·) (dif_neg (by omega)) ((dif_pos ⟨by omega, c⟩).trans (H.dq r ⟨j.val / 96, by omega⟩ ⟨j.val % 96, by omega⟩))).trans ((zero_add _).trans ?_)
    exact congrArg Real.toEReal (if_pos c).symm
  · refine (congrArg₂ (· + ·) ((dif_pos ⟨by omega, by omega, by omega⟩).trans (turn_read H r ⟨j.val / 96, by omega⟩ ⟨j.val % 96 - 64, by omega⟩))
      (dif_neg (by omega))).trans ((add_zero _).trans ?_)
    exact congrArg Real.toEReal (if_neg c).symm
theorem duq_read (k : Fin 384) (j : Fin 1152) : val_main_v173 (F := Ideal) x0 x1 x2 x3 x7 (ix2 k j) = ((duq A k.val j.val : ℝ) : EReal) := by
  pointwise [val_main_v173, val_main_v172]
  simp only [Fin.sum_univ_one, dqc_read H, nq_read H, ← EReal.coe_mul, coe_sum, duq]
  exact congrArg Real.toEReal (Finset.sum_congr rfl fun s _ => mul_comm _ _)
theorem dnq_read (r : Fin 8192) (k : Fin 384) : val_main_v174 (F := Ideal) x1 x4 x7 (ix3 (0 : Fin 1) r k) = ((dnq A r.val k.val : ℝ) : EReal) := by
  pointwise [val_main_v174]
  simp only [dqc_read H, H.uq, ← EReal.coe_mul, coe_sum, dnq]
theorem dgq_read (k : Fin 384) : val_main_v180 (F := Ideal) x0 x1 x2 x4 x7 (ix1 k) = ((dgq A k.val : ℝ) : EReal) := by
  pointwise [val_main_v180]
  rw [reduce_rows _ _ _ _ fun i => by funext b; match b with | ⟨0, _⟩ => rfl]
  pointwise [val_main_v177, val_main_v176, val_main_v175, val_main_cst_26, val_main_cst_27]
  simp only [xhq_read H, dnq_read H, ← EReal.coe_mul, coe_sum]
  exact congrArg Real.toEReal (Finset.sum_congr rfl fun s _ => mul_comm _ _)
theorem dhq_read (r : Fin 8192) (k : Fin 384) : val_main_v179 (F := Ideal) x1 x3 x4 x7 (ix3 (0 : Fin 1) r k) = ((dnq A r.val k.val * A.gq k.val : ℝ) : EReal) := by
  pointwise [val_main_v179, val_main_v178, val_main_v19]
  simp only [dnq_read H, H.gq, ← EReal.coe_mul]
theorem sq_read (r : Fin 8192) (u : Fin 1) : val_main_v188 (F := Ideal) x0 x1 x2 x3 x4 x7 (ix3 (0 : Fin 1) r u) =
    (((∑ i : Fin 384, cq A r.val i.val * (dnq A r.val i.val * A.gq i.val)) * (-(1 / 2) * (rinvN 384 (cq A r.val) / vs 384 (cq A r.val))) / 384 : ℝ) : EReal) := by
  pointwise [val_main_v188, val_main_v187, val_main_v186, val_main_v183, val_main_v182, val_main_v181, val_main_cst_28, val_main_cst_29]
  simp only [dhq_read H, cq_read H, hq_read H, Cert.Mla.bits_384, ← EReal.coe_mul, coe_sum, div_real _ (by norm_num : (384 : ℝ) ≠ 0)]
theorem dcq_read (r : Fin 8192) (k : Fin 384) : val_main_v195 (F := Ideal) x0 x1 x2 x3 x4 x7 (ix3 (0 : Fin 1) r k) = ((dcq A r.val k.val : ℝ) : EReal) := by
  have e : val_main_v189 (F := Ideal) x0 x1 x2 x3 x4 x7 (ix1 r) = (((∑ i : Fin 384, cq A r.val i.val * (dnq A r.val i.val * A.gq i.val)) * (-(1 / 2) * (rinvN 384 (cq A r.val) / vs 384 (cq A r.val))) / 384 : ℝ) : EReal) := by
    unfold val_main_v189
    refine (reduce_cols _ _ _ _ fun i => by funext b; match b with | ⟨0, _⟩ => rfl).trans ?_
    pointwise [val_main_cst_30]
    exact sq_read H r 0
  pointwise [val_main_v195, val_main_v194, val_main_v193, val_main_v192, val_main_v191, val_main_v190, val_main_v185, val_main_v184]
  rw [e]
  simp only [dhq_read H, cq_read H, rq_read H, ← EReal.coe_mul, ← EReal.coe_add]
  exact congrArg Real.toEReal (norm_grad 384 (cq A r.val) (fun k => dnq A r.val k * A.gq k) k.val)

/-! ## The keys' and values' side -/

theorem heads_read (r : Fin 8192) (i : Fin 32) : val_main_v106 (F := Ideal) x8 (ix2 r i) = ((∑ h : Fin 12, A.dk r.val h.val (64 + i.val) : ℝ) : EReal) := by
  pointwise [val_main_v106, val_main_v105, val_main_cst_11]
  refine (reduce_heads _ _ _ _ _ fun i => by funext b; match b with | ⟨0, _⟩ => rfl | ⟨1, _⟩ => rfl).trans ((zero_add _).trans ?_)
  pointwise
  simp only [H.dk, coe_sum]
theorem hik_read (r : Fin 8192) (u : Fin 1) (i : Fin 16) : val_main_v114 (F := Ideal) x1 x8 (ix4 (0 : Fin 1) r u i) =
    (((∑ h : Fin 12, A.dk r.val h.val (64 + (16 + i.val))) * Real.cos (ang A r.val i.val) - (∑ h : Fin 12, A.dk r.val h.val (64 + i.val)) * Real.sin (ang A r.val i.val) : ℝ) : EReal) := by
  pointwise [val_main_v114, val_main_v113, val_main_v112, val_main_v110, val_main_v109, val_main_v108, val_main_v107]
  simp only [heads_read H, cosk_read H, sink_read H, ← EReal.coe_mul, ← EReal.coe_neg, ← EReal.coe_add]
  exact congrArg Real.toEReal (by ring_nf)
theorem lok_read (r : Fin 8192) (u : Fin 1) (i : Fin 16) : val_main_v116 (F := Ideal) x1 x8 (ix4 (0 : Fin 1) r u i) =
    (((∑ h : Fin 12, A.dk r.val h.val (64 + (16 + i.val))) * Real.sin (ang A r.val i.val) + (∑ h : Fin 12, A.dk r.val h.val (64 + i.val)) * Real.cos (ang A r.val i.val) : ℝ) : EReal) := by
  pointwise [val_main_v116, val_main_v115, val_main_v111, val_main_v109, val_main_v108, val_main_v107]
  simp only [heads_read H, cosk_read H, sink_read H, ← EReal.coe_mul, ← EReal.coe_neg, ← EReal.coe_add]
theorem turnk_read (r : Fin 8192) (i : Fin 32) : val_main_v119 (F := Ideal) x1 x8 (ix4 (0 : Fin 1) r (0 : Fin 1) i) = ((dkr A r.val i.val : ℝ) : EReal) := by
  pointwise [val_main_v119, val_main_v118, val_main_v117, val_main_cst_12, val_main_cst_13]
  by_cases c : i.val < 16
  · refine (congrArg₂ (· + ·) (dif_neg (by omega)) ((dif_pos c).trans (lok_read H r 0 ⟨i.val, c⟩))).trans ((zero_add _).trans ?_)
    exact congrArg Real.toEReal (if_pos c).symm
  · refine (congrArg₂ (· + ·) ((dif_pos ⟨by omega, by omega⟩).trans (hik_read H r 0 ⟨i.val - 16, by omega⟩)) (dif_neg c)).trans ((add_zero _).trans ?_)
    refine congrArg Real.toEReal (Eq.trans ?_ (if_neg c).symm)
    show (∑ h : Fin 12, A.dk r.val h.val (64 + (16 + (i.val - 16)))) * _ - _ = (∑ h : Fin 12, A.dk r.val h.val (64 + i.val)) * _ - _
    rw [show 16 + (i.val - 16) = i.val by omega]
theorem dkr_read (r : Fin 8192) (i : Fin 32) : val_main_v121 (F := Ideal) x1 x8 (ix3 (0 : Fin 1) r i) = ((dkr A r.val i.val : ℝ) : EReal) := by
  pointwise [val_main_v121, val_main_v120]
  refine (reduce_heads _ _ _ _ _ fun i => by funext b; match b with | ⟨0, _⟩ => rfl | ⟨1, _⟩ => rfl).trans ?_
  pointwise [val_main_cst_14]
  rw [Fin.sum_univ_one]
  exact turnk_read H r i
theorem dkv_read (r : Fin 8192) (j : Fin 1536) : val_main_v125 (F := Ideal) x8 x9 (ix3 (0 : Fin 1) r j) = ((dkv A r.val j.val : ℝ) : EReal) := by
  pointwise [val_main_v125, val_main_v124, val_main_v123, val_main_v122, val_main_v104, val_main_cst_15, val_main_cst_16]
  by_cases c : j.val % 128 < 64
  · refine (congrArg₂ (· + ·) (dif_neg (by omega)) ((dif_pos ⟨by omega, c⟩).trans (H.dk r ⟨j.val / 128, by omega⟩ ⟨j.val % 128, by omega⟩))).trans ((zero_add _).trans ?_)
    exact congrArg Real.toEReal (if_pos c).symm
  · refine (congrArg₂ (· + ·) ((dif_pos ⟨by omega, by omega, by omega⟩).trans (H.dv r ⟨j.val / 128, by omega⟩ ⟨j.val % 128 - 64, by omega⟩))
      (dif_neg (by omega))).trans ((add_zero _).trans ?_)
    exact congrArg Real.toEReal (if_neg c).symm
theorem dukv_read (k : Fin 256) (j : Fin 1536) : val_main_v127 (F := Ideal) x0 x2 x5 x8 x9 (ix2 k j) = ((dukv A k.val j.val : ℝ) : EReal) := by
  pointwise [val_main_v127, val_main_v126]
  simp only [Fin.sum_univ_one, dkv_read H, nkv_read H, ← EReal.coe_mul, coe_sum, dukv]
  exact congrArg Real.toEReal (Finset.sum_congr rfl fun s _ => mul_comm _ _)
theorem dnkv_read (r : Fin 8192) (k : Fin 256) : val_main_v128 (F := Ideal) x6 x8 x9 (ix3 (0 : Fin 1) r k) = ((dnkv A r.val k.val : ℝ) : EReal) := by
  pointwise [val_main_v128]
  simp only [dkv_read H, H.ukv, ← EReal.coe_mul, coe_sum, dnkv]
theorem dgkv_read (k : Fin 256) : val_main_v134 (F := Ideal) x0 x2 x6 x8 x9 (ix1 k) = ((dgkv A k.val : ℝ) : EReal) := by
  pointwise [val_main_v134]
  rw [reduce_rows _ _ _ _ fun i => by funext b; match b with | ⟨0, _⟩ => rfl]
  pointwise [val_main_v131, val_main_v130, val_main_v129, val_main_cst_17, val_main_cst_18]
  simp only [xhk_read H, dnkv_read H, ← EReal.coe_mul, coe_sum]
  exact congrArg Real.toEReal (Finset.sum_congr rfl fun s _ => mul_comm _ _)
theorem dhkv_read (r : Fin 8192) (k : Fin 256) : val_main_v133 (F := Ideal) x5 x6 x8 x9 (ix3 (0 : Fin 1) r k) = ((dnkv A r.val k.val * A.gkv k.val : ℝ) : EReal) := by
  pointwise [val_main_v133, val_main_v132, val_main_v69]
  simp only [dnkv_read H, H.gkv, ← EReal.coe_mul]
theorem skv_read (r : Fin 8192) (u : Fin 1) : val_main_v142 (F := Ideal) x0 x2 x5 x6 x8 x9 (ix3 (0 : Fin 1) r u) =
    (((∑ i : Fin 256, ckv A r.val i.val * (dnkv A r.val i.val * A.gkv i.val)) * (-(1 / 2) * (rinvN 256 (ckv A r.val) / vs 256 (ckv A r.val))) / 256 : ℝ) : EReal) := by
  pointwise [val_main_v142, val_main_v141, val_main_v140, val_main_v137, val_main_v136, val_main_v135, val_main_cst_19, val_main_cst_20]
  simp only [dhkv_read H, ckv_read H, hkv_read H, Cert.Mla.bits_256, ← EReal.coe_mul, coe_sum, div_real _ (by norm_num : (256 : ℝ) ≠ 0)]
theorem dckv_read (r : Fin 8192) (k : Fin 256) : val_main_v149 (F := Ideal) x0 x2 x5 x6 x8 x9 (ix3 (0 : Fin 1) r k) = ((dckv A r.val k.val : ℝ) : EReal) := by
  have e : val_main_v143 (F := Ideal) x0 x2 x5 x6 x8 x9 (ix1 r) = (((∑ i : Fin 256, ckv A r.val i.val * (dnkv A r.val i.val * A.gkv i.val)) * (-(1 / 2) * (rinvN 256 (ckv A r.val) / vs 256 (ckv A r.val))) / 256 : ℝ) : EReal) := by
    unfold val_main_v143
    refine (reduce_cols _ _ _ _ fun i => by funext b; match b with | ⟨0, _⟩ => rfl).trans ?_
    pointwise [val_main_cst_21]
    exact skv_read H r 0
  pointwise [val_main_v149, val_main_v148, val_main_v147, val_main_v146, val_main_v145, val_main_v144, val_main_v139, val_main_v138]
  rw [e]
  simp only [dhkv_read H, ckv_read H, rkv_read H, ← EReal.coe_mul, ← EReal.coe_add]
  exact congrArg Real.toEReal (norm_grad 256 (ckv A r.val) (fun k => dnkv A r.val k * A.gkv k) k.val)

/-! ## The input projection -/

theorem dz_read (r : Fin 8192) (j : Fin 1952) : val_main_v196 (F := Ideal) x0 x1 x2 x3 x4 x5 x6 x7 x8 x9 x10 x11 (ix3 (0 : Fin 1) r j) = ((dz A r.val j.val : ℝ) : EReal) := by
  pointwise [val_main_v196]
  unfold dz
  by_cases c1 : j.val < 384
  · exact (dif_pos c1).trans ((dcq_read H r ⟨j.val, c1⟩).trans (congrArg Real.toEReal (if_pos c1).symm))
  refine (dif_neg c1).trans (Eq.trans ?_ (congrArg Real.toEReal (if_neg c1).symm))
  by_cases c2 : j.val < 640
  · exact (dif_pos (by omega)).trans ((dckv_read H r ⟨j.val - 384, by omega⟩).trans (congrArg Real.toEReal (if_pos c2).symm))
  refine (dif_neg (by omega)).trans (Eq.trans ?_ (congrArg Real.toEReal (if_neg c2).symm))
  by_cases c3 : j.val < 672
  · exact (dif_pos (by omega)).trans ((dkr_read H r ⟨j.val - 384 - 256, by omega⟩).trans (congrArg Real.toEReal ((congrArg (dkr A r.val) (by show j.val - 384 - 256 = j.val - 640; omega)).trans (if_pos c3).symm)))
  refine (dif_neg (by omega)).trans (Eq.trans ?_ (congrArg Real.toEReal (if_neg c3).symm))
  by_cases c4 : j.val < 1696
  · exact (dif_pos (by omega)).trans ((H.dgate r ⟨j.val - 384 - 256 - 32, by omega⟩).trans (congrArg Real.toEReal ((congrArg (A.dgate r.val) (by show j.val - 384 - 256 - 32 = j.val - 672; omega)).trans (if_pos c4).symm)))
  refine (dif_neg (by omega)).trans (Eq.trans ?_ (congrArg Real.toEReal (if_neg c4).symm))
  exact (H.dqm r ⟨j.val - 384 - 256 - 32 - 1024, by omega⟩).trans (congrArg Real.toEReal (congrArg (A.dqm r.val) (by show j.val - 384 - 256 - 32 - 1024 = j.val - 1696; omega)))
theorem dw_read (k : Fin 1024) (j : Fin 1952) : val_main_v198 (F := Ideal) x0 x1 x2 x3 x4 x5 x6 x7 x8 x9 x10 x11 (ix2 k j) = ((dw A k.val j.val : ℝ) : EReal) := by
  pointwise [val_main_v198, val_main_v197]
  simp only [Fin.sum_univ_one, dz_read H, H.x, ← EReal.coe_mul, coe_sum, dw]
  exact congrArg Real.toEReal (Finset.sum_congr rfl fun s _ => mul_comm _ _)
theorem dx_read (r : Fin 8192) (k : Fin 1024) : val_main_v201 (F := Ideal) x0 x1 x2 x3 x4 x5 x6 x7 x8 x9 x10 x11 x12 (ix2 r k) = ((dx A r.val k.val : ℝ) : EReal) := by
  pointwise [val_main_v201, val_main_v200, val_main_v199]
  simp only [dz_read H, H.w, H.dres, ← EReal.coe_mul, coe_sum, ← EReal.coe_add, dx]
  exact congrArg Real.toEReal (add_comm _ _)

end
end Cert.MlaRef
-- ==== Proof.MlaAll.lean ====
/-
The latent projections' pair: the frames of its programs, and the equality of their results.
-/
module

public import proofs.«01_k».proof.Defs
public import proofs.«01_k».proof.Proof.AttnAll
public import proofs.«01_k».proof.Proof.MlaFrame
public import proofs.«01_k».proof.Proof.MlaRes
public import proofs.«01_k».proof.Proof.MlaRef
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read

@[expose] public section

set_option maxRecDepth 16384
set_option maxHeartbeats 1000000

noncomputable section
namespace Cert.MlaAll
open Idealize.ShloMosaic Idealize.SL.Sem
open Cert.AttnAll (read4 read4_eq read3 read3_eq)

theorem pre_facts : Cert.Pre_finite3.Facts := by constructor <;> decide

instance : Cert.Kernel3.Facts := Cert.Kernel3.Gen.facts
instance : Cert.Kernel3Ideal.Facts := Cert.Kernel3Ideal.Gen.facts
instance : Cert.Reference3Ideal.Facts := Cert.Reference3Ideal.Gen.facts
instance : Cert.Pre_finite3.Facts := pre_facts

/-- The precondition says that every element of every floating-point argument is a real. -/
theorem reals {x0 x1 x2 x3 x4 x5 x6 x7 x8 x9 x10 x11 x12} (h : Cert.Pre_finite3.fn (F := Ideal) x0 x1 x2 x3 x4 x5 x6 x7 x8 x9 x10 x11 x12 = fun _ => 1#1) :
    (∀ i, x0 i = (((x0 i : EReal).toReal : ℝ) : EReal))
      ∧ (∀ i, x2 i = (((x2 i : EReal).toReal : ℝ) : EReal))
      ∧ (∀ i, x3 i = (((x3 i : EReal).toReal : ℝ) : EReal))
      ∧ (∀ i, x4 i = (((x4 i : EReal).toReal : ℝ) : EReal))
      ∧ (∀ i, x5 i = (((x5 i : EReal).toReal : ℝ) : EReal))
      ∧ (∀ i, x6 i = (((x6 i : EReal).toReal : ℝ) : EReal))
      ∧ (∀ i, x7 i = (((x7 i : EReal).toReal : ℝ) : EReal))
      ∧ (∀ i, x8 i = (((x8 i : EReal).toReal : ℝ) : EReal))
      ∧ (∀ i, x9 i = (((x9 i : EReal).toReal : ℝ) : EReal))
      ∧ (∀ i, x10 i = (((x10 i : EReal).toReal : ℝ) : EReal))
      ∧ (∀ i, x11 i = (((x11 i : EReal).toReal : ℝ) : EReal))
      ∧ (∀ i, x12 i = (((x12 i : EReal).toReal : ℝ) : EReal)) := by
  have h0 := congrFun h ValueIdx.ix0
  unfold Cert.Pre_finite3.fn Cert.Pre_finite3.fn_part1 Cert.Pre_finite3.fn_part2 Cert.Pre_finite3.fn_part3 at h0
  obtain ⟨h0, h12⟩ := IntOp.andi_eq_one.1 h0
  obtain ⟨h0, h11⟩ := IntOp.andi_eq_one.1 h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  exact ⟨Cert.Finite.all_real _ _ _ _ _ h0,
    Cert.Finite.all_real _ _ _ _ _ h2,
    Cert.Finite.all_real _ _ _ _ _ h3,
    Cert.Finite.all_real _ _ _ _ _ h4,
    Cert.Finite.all_real _ _ _ _ _ h5,
    Cert.Finite.all_real _ _ _ _ _ h6,
    Cert.Finite.all_real _ _ _ _ _ h7,
    Cert.Finite.all_real _ _ _ _ _ h8,
    Cert.Finite.all_real _ _ _ _ _ h9,
    Cert.Finite.all_real _ _ _ _ _ h10,
    Cert.Finite.all_real _ _ _ _ _ h11,
    Cert.Finite.all_real _ _ _ _ _ h12⟩

def read2 {a b : ℕ} (x : (⟨2, ![a, b]⟩ : Shape).Idx → EReal) (r l : ℕ) : ℝ :=
  if hr : r < a then if hl : l < b then (x (ix2 ⟨r, hr⟩ ⟨l, hl⟩)).toReal else 0 else 0
def read1 {a : ℕ} (x : (⟨1, ![a]⟩ : Shape).Idx → EReal) (r : ℕ) : ℝ :=
  if hr : r < a then (x (ix1 ⟨r, hr⟩)).toReal else 0
/-- The positions as real numbers. -/
def readPos {a : ℕ} (x : (⟨2, ![1, a]⟩ : Shape).Idx → BitVec 32) (r : ℕ) : ℝ :=
  if hr : r < a then ((x (ix2 (0 : Fin 1) ⟨r, hr⟩)).toInt : ℝ) else 0

theorem read2_eq {a b : ℕ} (x : (⟨2, ![a, b]⟩ : Shape).Idx → EReal) (hx : ∀ i, x i = ((x i).toReal : EReal)) (r : Fin a) (l : Fin b) :
    x (ix2 r l) = ((read2 x r.val l.val : ℝ) : EReal) := by
  rw [read2, dif_pos r.isLt, dif_pos l.isLt]
  exact hx _
theorem read1_eq {a : ℕ} (x : (⟨1, ![a]⟩ : Shape).Idx → EReal) (hx : ∀ i, x i = ((x i).toReal : EReal)) (r : Fin a) :
    x (ix1 r) = ((read1 x r.val : ℝ) : EReal) := by
  rw [read1, dif_pos r.isLt]
  exact hx _
theorem readPos_eq {a : ℕ} (x : (⟨2, ![1, a]⟩ : Shape).Idx → BitVec 32) (r : Fin a) :
    (FloatOps.sitofp .f32 (x (ix2 (0 : Fin 1) r)) : Ideal .f32) = ((readPos x r.val : ℝ) : EReal) := by
  rw [readPos, dif_pos r.isLt]
  rfl

/-- Two arrays are equal when they agree at every coordinate. -/
theorem ext2 {a b : ℕ} {f g : (⟨2, ![a, b]⟩ : Shape).Idx → EReal} (h : ∀ i j, f (ix2 i j) = g (ix2 i j)) : f = g :=
  funext fun i => by rw [eq_ix2 i]; exact h _ _
theorem ext1 {a : ℕ} {f g : (⟨1, ![a]⟩ : Shape).Idx → EReal} (h : ∀ i, f (ix1 i) = g (ix1 i)) : f = g :=
  funext fun i => by rw [eq_ix1 i]; exact h _

theorem algebraic : algebraic_Kernel3Ideal_Reference3Ideal_pre_finite3 := by
  intro m g m' g' hpre hagree
  refine ⟨fun c => (Cert.MlaRun.dats m 0 c).arrAt 18 Cert.Kernel3Ideal.cfg0.N,
    fun c => StableHlo.after Cert.Kernel3Ideal.Gen.hostOps1 (Cert.MlaRes.U m c) (Proc.devRef .tc Cert.Kernel3Ideal.main_v83),
    fun c => StableHlo.after Cert.Kernel3Ideal.Gen.hostOps1 (Cert.MlaRes.U m c) (Proc.devRef .tc Cert.Kernel3Ideal.main_v92),
    fun c => StableHlo.after Cert.Kernel3Ideal.Gen.hostOps1 (Cert.MlaRes.U m c) (Proc.devRef .tc Cert.Kernel3Ideal.main_v86),
    fun c => StableHlo.after Cert.Kernel3Ideal.Gen.hostOps1 (Cert.MlaRes.U m c) (Proc.devRef .tc Cert.Kernel3Ideal.main_v93),
    fun c => StableHlo.after Cert.Kernel3Ideal.Gen.hostOps1 (Cert.MlaRes.U m c) (Proc.devRef .tc Cert.Kernel3Ideal.main_v91),
    ?_, ?_⟩
  · refine θ_run_mono (θ_run_and (Cert.MlaRun.run m g) (Cert.MlaRun.frame_kernel m g)) fun r h c => ?_
    exact ⟨(h.1 c).1 18,
      ((h.1 c).2 Cert.Kernel3Ideal.main_v83 (Pipeline.mem_restRefs_of Cert.Kernel3Ideal.main_v83 (by decide) (by decide))),
      ((h.1 c).2 Cert.Kernel3Ideal.main_v92 (Pipeline.mem_restRefs_of Cert.Kernel3Ideal.main_v92 (by decide) (by decide))),
      ((h.1 c).2 Cert.Kernel3Ideal.main_v86 (Pipeline.mem_restRefs_of Cert.Kernel3Ideal.main_v86 (by decide) (by decide))),
      ((h.1 c).2 Cert.Kernel3Ideal.main_v93 (Pipeline.mem_restRefs_of Cert.Kernel3Ideal.main_v93 (by decide) (by decide))),
      ((h.1 c).2 Cert.Kernel3Ideal.main_v91 (Pipeline.mem_restRefs_of Cert.Kernel3Ideal.main_v91 (by decide) (by decide))),
      h.2.1 c⟩
  · refine (θ_run _ _ _).mono (fun r h c => ?_) (Cert.Reference3Ideal.Value.run m' g')
    obtain ⟨a0, a1, a2, a3, a4, a5, a6, a7, a8, a9, a10, a11, a12⟩ := hagree c
    obtain ⟨f0, f2, f3, f4, f5, f6, f7, f8, f9, f10, f11, f12⟩ := reals (hpre c)
    obtain ⟨A, H⟩ : ∃ A, Cert.MlaRes.Holds m c A :=
      ⟨⟨read3 _, readPos _, read2 _, read1 _, read2 _, read1 _, read2 _, read4 _, read4 _, read4 _, read3 _, read3 _, read3 _⟩,
        ⟨read3_eq _ f0, readPos_eq _, read2_eq _ f2, read1_eq _ f3, read2_eq _ f4, read1_eq _ f5, read2_eq _ f6, read4_eq _ f7, read4_eq _ f8, read4_eq _ f9,
          read3_eq _ f10, read3_eq _ f11, read3_eq _ f12⟩⟩
    have R : Cert.MlaRef.Reads (m ((c.tc : Thread Cert.Kernel3Ideal.nD Cert.Kernel3Ideal.τ).loc Cert.Kernel3Ideal.main_arg0))
        (m ((c.tc : Thread Cert.Kernel3Ideal.nD Cert.Kernel3Ideal.τ).loc Cert.Kernel3Ideal.main_arg1))
        (m ((c.tc : Thread Cert.Kernel3Ideal.nD Cert.Kernel3Ideal.τ).loc Cert.Kernel3Ideal.main_arg2))
        (m ((c.tc : Thread Cert.Kernel3Ideal.nD Cert.Kernel3Ideal.τ).loc Cert.Kernel3Ideal.main_arg3))
        (m ((c.tc : Thread Cert.Kernel3Ideal.nD Cert.Kernel3Ideal.τ).loc Cert.Kernel3Ideal.main_arg4))
        (m ((c.tc : Thread Cert.Kernel3Ideal.nD Cert.Kernel3Ideal.τ).loc Cert.Kernel3Ideal.main_arg5))
        (m ((c.tc : Thread Cert.Kernel3Ideal.nD Cert.Kernel3Ideal.τ).loc Cert.Kernel3Ideal.main_arg6))
        (m ((c.tc : Thread Cert.Kernel3Ideal.nD Cert.Kernel3Ideal.τ).loc Cert.Kernel3Ideal.main_arg7))
        (m ((c.tc : Thread Cert.Kernel3Ideal.nD Cert.Kernel3Ideal.τ).loc Cert.Kernel3Ideal.main_arg8))
        (m ((c.tc : Thread Cert.Kernel3Ideal.nD Cert.Kernel3Ideal.τ).loc Cert.Kernel3Ideal.main_arg9))
        (m ((c.tc : Thread Cert.Kernel3Ideal.nD Cert.Kernel3Ideal.τ).loc Cert.Kernel3Ideal.main_arg10))
        (m ((c.tc : Thread Cert.Kernel3Ideal.nD Cert.Kernel3Ideal.τ).loc Cert.Kernel3Ideal.main_arg11))
        (m ((c.tc : Thread Cert.Kernel3Ideal.nD Cert.Kernel3Ideal.τ).loc Cert.Kernel3Ideal.main_arg12)) A :=
      ⟨H.x, H.p, H.w, H.gq, H.uq, H.gkv, H.ukv, H.dq, H.dk, H.dv, H.dgate, H.dqm, H.dres⟩
    rw [← a0, ← a1, ← a2, ← a3, ← a4, ← a5, ← a6, ← a7, ← a8, ← a9, ← a10, ← a11, ← a12] at R
    obtain ⟨h0, h1, h2, h3, h4, h5, hargs⟩ := h c
    refine ⟨(h0.trans (Cert.Reference3Ideal.Read.val_main_v201_eq (StableHlo.launchContents m' c))).trans ?_,
      (h1.trans (Cert.Reference3Ideal.Read.val_main_v198_eq (StableHlo.launchContents m' c))).trans ?_,
      (h2.trans (Cert.Reference3Ideal.Read.val_main_v180_eq (StableHlo.launchContents m' c))).trans ?_,
      (h3.trans (Cert.Reference3Ideal.Read.val_main_v173_eq (StableHlo.launchContents m' c))).trans ?_,
      (h4.trans (Cert.Reference3Ideal.Read.val_main_v134_eq (StableHlo.launchContents m' c))).trans ?_,
      (h5.trans (Cert.Reference3Ideal.Read.val_main_v127_eq (StableHlo.launchContents m' c))).trans ?_,
      hargs⟩
    · exact ext2 fun r k => (Cert.MlaRef.dx_read R r k).trans (Cert.MlaRes.dx_res H r k).symm
    · exact ext2 fun k j => (Cert.MlaRef.dw_read R k j).trans (Cert.MlaRes.w_at _ k j (Cert.MlaSpec.dw A k.val) fun j i e => Cert.MlaRes.u1 H k j i e).symm
    · exact ext1 fun k => (Cert.MlaRef.dgq_read R k).trans ((Cert.MlaRes.gq_at _ k).trans (Cert.MlaRes.u5 H k)).symm
    · exact ext2 fun k j => (Cert.MlaRef.duq_read R k j).trans (Cert.MlaRes.uq_at _ k j (Cert.MlaSpec.duq A k.val) fun j e => Cert.MlaRes.u2 H k j e).symm
    · exact ext1 fun k => (Cert.MlaRef.dgkv_read R k).trans ((Cert.MlaRes.gkv_at _ k).trans (Cert.MlaRes.u6 H k)).symm
    · exact ext2 fun k j => (Cert.MlaRef.dukv_read R k j).trans
        (Cert.MlaRes.ukv_at _ k j (Cert.MlaSpec.dukv A k.val) (fun j e => Cert.MlaRes.u3 H k j e) fun j => Cert.MlaRes.u4 H k j).symm

theorem frame_kernel : quiescent_Kernel3 := Cert.MlaFrame.frame_kernel

theorem frame_reference : quiescent_Reference3Ideal := fun m g _ =>
  (θ_run Cert.Reference3Ideal.defs _ _).mono
    (fun r h => And.intro (fun c => (h c).2.2.2.2.2.2) (sem_eq_zero_of_no_sems (by decide) r.2))
    (Cert.Reference3Ideal.Value.run (F := Ideal) m g)

theorem preserves : preserves_Kernel3_Kernel3Ideal :=
  IdealRules.named_const.statement Cert.Kernel3Ideal.κ "log_two" .f32 0x3F317218#32 ((Real.log 2 : ℝ) : EReal) rfl

end Cert.MlaAll
-- ==== Proof.MixStep.lean ====
/-
One point of the first layer's gradient kernel's grid: the arrays its body computes from the blocks it reads, by the
numbers the printed body gives them, and the results it leaves.
-/
module

public import proofs.«01_k».proof.Proof.Core
public import proofs.«01_k».proof.Proof.Gen.Kernel4Ideal.Skeleton

@[expose] public section

set_option maxRecDepth 16384

noncomputable section

open Idealize.ShloMosaic
open Cert.Kernel4Ideal Cert.Kernel4Ideal.Gen

namespace Cert.Mix

variable {F : FTy → Type} [FloatOps F] [Named F]

/-- The blocks one point of the grid reads. -/
structure Ins (F : FTy → Type) where
  tok : Vec F S512x768 .f32
  gate : Vec F S512x1024 .f32
  qm : Vec F S512x256 .bf16
  kv : Vec F S256x512 .bf16
  w : Vec F S1024x1024 .bf16
  h : Vec F S512x1024 .f32
  g : Vec F S1x1024 .f32
  b : Vec F S1x1024 .f32
  up : Vec F S512x1024 .f32
  lse : Vec F S512x768 .f32

/-- One column of the log-sums. -/
def column (x : Vec F S512x768 .f32) (o : ℕ) (h : o + 1 ≤ 768) : Vec F S512x1 .f32 :=
  fun y => x (ix2 (y 0) ⟨o + (y 1).val, lt_of_lt_of_le (Nat.add_lt_add_left (show (y 1).val < 1 from (y 1).isLt) o) h⟩)

/-- Six blocks of rows under one another. -/
def rows (p : Fin 6 → Vec F S128x512 .bf16) : Vec F S768x512 .bf16 := fun y =>
  p ⟨(y 0).val / 128, by have : (y 0).val < 768 := (y 0).isLt; omega⟩ (ix2 ⟨(y 0).val % 128, Nat.mod_lt _ (by decide)⟩ (y 1))

/-- Six planes. -/
def planes (p : Fin 6 → Vec F S1x512x128 .f32) : Vec F S6x512x128 .f32 := fun y =>
  p (y 0) (ix3 (0 : Fin 1) (y 1) (y 2))

/-- The lane number. -/
abbrev lane : IVec S512x128 32 := iota .tc S512x128 32 [1] iota_S512x128_d1_w32

section
variable (I : Ins F)

abbrev v4 := k0_pay6 I.gate
abbrev v6 := k0_pay7 I.qm
abbrev v8 := k0_pay8 I.kv
abbrev v10 := k0_pay9 I.w
abbrev v12 := k0_pay10 I.g
abbrev v14 := k0_pay11 I.tok
abbrev v16 := k0_pay12 I.h
abbrev v18 := k0_pay13 I.qm
abbrev v19 := k0_pay14 I.kv
abbrev v20 := k0_pay15 I.kv
abbrev v32 := k0_pay16 I.qm I.kv
abbrev v35 := k0_pay17 I.qm I.kv
abbrev v36 := k0_pay18 (v32 I) (v35 I)
abbrev v54 := k0_pay19 lane (v18 I) (v19 I)
abbrev v59 := k0_pay20 lane (v18 I) (v19 I) (v20 I) (v32 I) (v35 I)
abbrev v60 := k0_pay21 (v6 I)
abbrev v61 := k0_pay22 (v8 I)
abbrev v62 := k0_pay23 (v8 I)
abbrev v78 := k0_pay24 (v6 I) (v8 I) lane
abbrev v79 := k0_pay25 (v6 I) (v8 I) lane
abbrev v96 := k0_pay26 lane (v60 I) (v61 I)
abbrev v103 := k0_pay27 (v14 I) lane (v59 I) (v60 I) (v61 I) (v62 I) (v79 I) (constant S512x128 .f32 0x00000000#32)
abbrev v104 := k0_pay28 (v4 I)
abbrev v105 := k0_pay29 (v4 I)
abbrev v106 := k0_pay30 (v4 I) (v14 I) lane (v59 I) (v60 I) (v61 I) (v62 I) (v79 I) (constant S512x128 .f32 0x00000000#32)
abbrev v117 := k0_pay31 (v4 I) (v10 I) (v14 I) (v16 I) lane (v59 I) (v60 I) (v61 I) (v62 I) (v79 I) (constant S512x128 .f32 0x00000000#32)
abbrev v124 := k0_pay32 (v4 I) (v10 I) (v14 I) (v16 I) lane (v59 I) (v60 I) (v61 I) (v62 I) (v79 I) (constant S512x128 .f32 0x00000000#32)
abbrev v160 := k0_pay38 (v12 I) (v117 I) (v124 I) I.up
abbrev v162 := k0_pay39 (v12 I) (v117 I) (v124 I) I.up
abbrev v172 := k0_pay43 (v10 I) (v105 I) (v160 I)
abbrev v184 := k0_pay45 (v10 I) (v105 I) (v160 I)
abbrev v188 := k0_pay47 (v10 I) (v105 I) (v160 I) I.tok
abbrev v193 := k0_pay49 (v10 I) (v105 I) (v160 I) I.tok
abbrev v199 := k0_pay50 (v10 I) (v105 I) (v160 I) I.tok
abbrev v238 := k0_pay53 (v188 I)
abbrev v239 (_ : Ins F) := k0_pay54
abbrev v281 := k0_pay56 (v184 I)
abbrev v320 := k0_pay57 lane (v188 I) (column I.lse 256 (by decide)) (column I.lse 320 (by decide))
abbrev v342 := k0_pay60 (column I.lse 384 (by decide))
abbrev v346 (_ : Ins F) := k0_pay61 lane
abbrev v348 (_ : Ins F) := k0_pay62 lane
abbrev v359 := k0_pay63 lane (v188 I)
abbrev v361 := k0_pay64 (column I.lse 448 (by decide))
abbrev v379 := k0_pay68 lane (v188 I)
abbrev v387 := k0_pay69 (column I.lse 512 (by decide))
abbrev v389 := k0_pay70 (column I.lse 576 (by decide))
abbrev v391 (_ : Ins F) := k0_pay71 lane
abbrev v393 (_ : Ins F) := k0_pay72 lane
abbrev v395 (_ : Ins F) := k0_pay73 lane
abbrev v397 (_ : Ins F) := k0_pay74 lane
abbrev v399 := k0_pay75 lane (v188 I)
abbrev v424 := k0_pay79 lane (v188 I)
abbrev v430 := k0_pay80 lane (v188 I)
abbrev v432 := k0_pay81 (column I.lse 640 (by decide))
abbrev v434 := k0_pay82 (column I.lse 704 (by decide))
abbrev v436 (_ : Ins F) := k0_pay83 lane
abbrev v438 (_ : Ins F) := k0_pay84 lane
abbrev v439 (_ : Ins F) := k0_pay85
abbrev v459 := k0_pay87 (v172 I)
abbrev v461 := k0_pay88 (v6 I)
abbrev v462 := k0_pay89 (v8 I)
abbrev v463 := k0_pay90 (v8 I)
abbrev v464 := k0_pay91 (v172 I)
abbrev v468 := k0_pay93 (v6 I)
abbrev v473 := k0_pay95 (v36 I) (v172 I)
abbrev v483 := k0_pay96 (v8 I) (v36 I) (v172 I)
abbrev v484 := k0_pay97 (v8 I) (v36 I) (v172 I)
abbrev v509 := k0_pay101 (v54 I) lane (v462 I) (v463 I) (v464 I) (v484 I)
abbrev v510 := k0_pay102 (v54 I) lane (v461 I) (v463 I) (v464 I) (v468 I) (v483 I) (constant S256x128 .f32 0x00000000#32)
abbrev v511 := k0_pay103 (v54 I) lane (v464 I) (v473 I)
abbrev v512 := k0_pay104 (v6 I)
abbrev v513 := k0_pay105 (v8 I)
abbrev v514 := k0_pay106 (v8 I)
abbrev v515 := k0_pay107 (v459 I)
abbrev v519 := k0_pay109 (v6 I) lane
abbrev v524 := k0_pay111 (v78 I) (v459 I) lane
abbrev v525 := k0_pay112 (v8 I) (v459 I) lane
abbrev v528 := k0_pay113 (v8 I) (v78 I) (v459 I) lane

/-- The transposed cotangent's six blocks of rows. -/
abbrev dobts : Fin 6 → Vec F S128x512 .bf16 :=
  ![k0_pay48 (v10 I) (v105 I) (v160 I), k0_pay52 (v184 I), (v281 I), k0_pay59 (v184 I), k0_pay66 (v184 I), k0_pay77 (v184 I)]
/-- The six planes of row sums. -/
abbrev sums : Fin 6 → Vec F S1x512x128 .f32 :=
  ![k0_pay51 lane (v193 I) (v199 I) (column I.lse 0 (by decide)) (column I.lse 64 (by decide)),
    k0_pay55 lane (v238 I) (v239 I) (column I.lse 128 (by decide)) (column I.lse 192 (by decide)),
    k0_pay58 (v320 I),
    k0_pay65 (v342 I) (v346 I) (v348 I) (v359 I) (v361 I),
    k0_pay76 (v379 I) (v387 I) (v389 I) (v391 I) (v393 I) (v395 I) (v397 I) (Scalar.ofBits .f32 0x00000000#32) (v399 I),
    k0_pay86 lane (v424 I) (v430 I) (v432 I) (v434 I) (v436 I) (v438 I) (v439 I)]

end

/-- The results: the row block's own, and those accumulated over the points. -/
structure Acc (F : FTy → Type) where
  dres : Vec F S512x1024 .f32
  dob : Vec F S512x768 .bf16
  dobt : Vec F S768x512 .bf16
  stats : Vec F S6x512x128 .f32
  dgate : Vec F S512x1024 .f32
  dqm : Vec F S512x256 .f32
  dw : Vec F S1024x1024 .f32
  dkv : Vec F S256x512 .f32
  dg : Vec F S1x1024 .f32
  db : Vec F S1x1024 .f32
  loss : Vec F S1x1 .f32

/-- What the first point starts from. -/
def Acc.zero : Acc F :=
  ⟨constant S512x1024 .f32 0x00000000#32, constant S512x768 .bf16 0x0000#16, constant S768x512 .bf16 0x0000#16,
    constant S6x512x128 .f32 0x00000000#32, constant S512x1024 .f32 0x00000000#32, constant S512x256 .f32 0x00000000#32,
    k0_pay1, k0_pay2, k0_pay3, k0_pay4, k0_pay5⟩

/-- One point, from the blocks it reads and the results so far. -/
def step (I : Ins F) (o : Acc F) : Acc F where
  dres := (v162 I)
  dob := k0_pay46 (v10 I) (v105 I) (v160 I)
  dobt := rows (dobts I)
  stats := planes (sums I)
  dgate := k0_pay44 (v4 I) (v10 I) (v103 I) (v104 I) (v160 I)
  dqm := k0_pay118 (v78 I) (v96 I) lane (v509 I) (v513 I) (v514 I) (v515 I) (v525 I) (v528 I)
  dw := k0_pay42 (v106 I) (v160 I) o.dw
  dkv := k0_pay119 (v78 I) (v96 I) lane (v510 I) (v511 I) (v512 I) (v514 I) (v515 I) (v519 I) (v524 I) (v525 I)
    (v528 I) o.dkv
  dg := k0_pay36 (v117 I) (v124 I) I.up o.dg
  db := k0_pay37 I.up o.db
  loss := o.loss

end Cert.Mix

end
-- ==== Proof.MixBody.lean ====
/-
The first layer's gradient kernel's body: it leaves one `step` of the results so far.
-/
module

public import proofs.«01_k».proof.Proof.MixStep
public import proofs.«01_k».proof.Proof.Gen.Kernel4Ideal.Frame
public import Idealize.ShloMosaic.Lib.Pipeline.TableIdle
public import Idealize.ShloMosaic.Lib.Claim
public import Idealize.ShloMosaic.Lib.WritesUnit

@[expose] public section

set_option maxRecDepth 16384

noncomputable section

namespace Cert.MixRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen Cert.Mix

variable {F : FTy → Type} [FloatOps F] [Named F]

local notation "𝕄" => MT nD τ sig Unit (Elt F) ℕ (UR sig nD τ) ℕ

/-! ## Reads of whole buffers -/

section
variable {κ : Kind} {sp : Space} {d : Fin 2 → ℕ} {e : EltTy} (a : Memref sig κ sp ⟨2, d⟩ e)

theorem rect_zero (inb : ∀ b, (![0, 0] : Fin 2 → ℕ) b + d b ≤ d b) (y : (⟨2, d⟩ : Shape).Idx) (b : Fin 2) :
    (![0, 0] : Fin 2 → ℕ) b + (y b).val = (y b).val := by
  match b with
  | 0 => exact Nat.zero_add _
  | 1 => exact Nat.zero_add _

theorem same (h : a.IsWhole) (x : Vec F ⟨2, d⟩ e) (inb : ∀ b, (![0, 0] : Fin 2 → ℕ) b + d b ≤ d b) :
    a.view.readAt (Elt F) (Rect.unit (s := ⟨2, d⟩) ![0, 0] d inb).toLoadRect (h.unread x) = x := by
  have e : a.view.read (Elt F) (h.unread (Val := Elt F) x) = x := h.read_unread _
  funext y
  show a.view.read (Elt F) (h.unread (Val := Elt F) x) _ = _
  rw [e]
  refine congrArg x (funext fun b => Fin.ext ?_)
  match b with
  | 0 => show 0 + 1 * (y 0).val = (y 0).val; omega
  | 1 => show 0 + 1 * (y 1).val = (y 1).val; omega

theorem last (f : BufTy.Contents (Elt F) a.view.ty) (inb : ∀ b, (![0, 0] : Fin 2 → ℕ) b + d b ≤ d b) (v : Vec F ⟨2, d⟩ e)
    (L : List (View.Piece (Elt F) ⟨2, d⟩ e)) :
    a.view.read (Elt F) (a.view.writes (Elt F) f (⟨Rect.unit (s := ⟨2, d⟩) ![0, 0] d inb, v⟩ :: L)) = v := by
  funext y
  exact View.read_writes_cons_unit_of_mem _ _ inb v L y y rfl fun b => (rect_zero inb y b).symm

theorem again (f : BufTy.Contents (Elt F) a.view.ty) (inb inb' : ∀ b, (![0, 0] : Fin 2 → ℕ) b + d b ≤ d b)
    (v : Vec F ⟨2, d⟩ e) (L : List (View.Piece (Elt F) ⟨2, d⟩ e)) :
    a.view.readAt (Elt F) (Rect.unit (s := ⟨2, d⟩) ![0, 0] d inb).toLoadRect
      (a.view.writes (Elt F) f (⟨Rect.unit (s := ⟨2, d⟩) ![0, 0] d inb', v⟩ :: L)) = v := by
  funext y
  show a.view.read (Elt F) _ _ = _
  rw [last a f inb' v L]
  refine congrArg v (funext fun b => Fin.ext ?_)
  match b with
  | 0 => show 0 + 1 * (y 0).val = (y 0).val; omega
  | 1 => show 0 + 1 * (y 1).val = (y 1).val; omega

theorem cover (inb inb' : ∀ b, (![0, 0] : Fin 2 → ℕ) b + d b ≤ d b) (v : Vec F ⟨2, d⟩ e) :
    a.view.readCov (Val := Elt F) [⟨Rect.unit (s := ⟨2, d⟩) ![0, 0] d inb', v⟩]
      (Rect.unit (s := ⟨2, d⟩) ![0, 0] d inb).toLoadRect = v :=
  again a _ inb inb' v []

end

theorem columns {κ : Kind} {sp : Space} (a : Memref sig κ sp S512x768 .f32) (h : a.IsWhole) (x : Vec F S512x768 .f32) (o : ℕ)
    (ho : o + 1 ≤ 768) (inb : ∀ b, (![0, o] : Fin 2 → ℕ) b + S512x1.size b ≤ S512x768.size b) :
    a.view.readAt (Elt F) (Rect.unit (s := S512x768) ![0, o] S512x1.size inb).toLoadRect (h.unread x) = column x o ho := by
  have e : a.view.read (Elt F) (h.unread (Val := Elt F) x) = x := h.read_unread _
  funext y
  show a.view.read (Elt F) (h.unread (Val := Elt F) x) _ = _
  rw [e]
  refine congrArg x (funext fun b => Fin.ext ?_)
  match b with
  | 0 => show 0 + 1 * (y 0).val = (y 0).val; omega
  | 1 => show o + 1 * (y 1).val = o + (y 1).val; omega

theorem rows_last {κ : Kind} {sp : Space} (a : Memref sig κ sp S768x512 .bf16) (f : BufTy.Contents (Elt F) a.view.ty)
    (p : Fin 6 → Vec F S128x512 .bf16)
    (i0 : ∀ b, (![0, 0] : Fin 2 → ℕ) b + S128x512.size b ≤ S768x512.size b)
    (i1 : ∀ b, (![128, 0] : Fin 2 → ℕ) b + S128x512.size b ≤ S768x512.size b)
    (i2 : ∀ b, (![256, 0] : Fin 2 → ℕ) b + S128x512.size b ≤ S768x512.size b)
    (i3 : ∀ b, (![384, 0] : Fin 2 → ℕ) b + S128x512.size b ≤ S768x512.size b)
    (i4 : ∀ b, (![512, 0] : Fin 2 → ℕ) b + S128x512.size b ≤ S768x512.size b)
    (i5 : ∀ b, (![640, 0] : Fin 2 → ℕ) b + S128x512.size b ≤ S768x512.size b)
    (L : List (View.Piece (Elt F) S768x512 .bf16)) :
    a.view.read (Elt F) (a.view.writes (Elt F) f (⟨Rect.unit (s := S768x512) ![640, 0] S128x512.size i5, p 5⟩ ::
      ⟨Rect.unit (s := S768x512) ![512, 0] S128x512.size i4, p 4⟩ ::
      ⟨Rect.unit (s := S768x512) ![384, 0] S128x512.size i3, p 3⟩ ::
      ⟨Rect.unit (s := S768x512) ![256, 0] S128x512.size i2, p 2⟩ ::
      ⟨Rect.unit (s := S768x512) ![128, 0] S128x512.size i1, p 1⟩ ::
      ⟨Rect.unit (s := S768x512) ![0, 0] S128x512.size i0, p 0⟩ :: L)) = rows p := by
  funext y
  have hy : (y 0).val < 768 := (y 0).isLt
  have hq : (y 0).val / 128 = 0 ∨ (y 0).val / 128 = 1 ∨ (y 0).val / 128 = 2 ∨ (y 0).val / 128 = 3 ∨ (y 0).val / 128 = 4 ∨ (y 0).val / 128 = 5 := by omega
  rcases hq with h | h | h | h | h | h
  · refine Eq.trans ?_ (congrArg (fun q => p q (ix2 ⟨(y 0).val % 128, Nat.mod_lt _ (by decide)⟩ (y 1))) (Fin.ext h.symm : (0 : Fin 6) = ⟨(y 0).val / 128, by omega⟩))
    exact (View.read_writes_cons_unit_of_not_mem _ _ i5 _ _ y rfl 0 (Or.inl (by show (y 0).val < 640; omega))).trans <|
      (View.read_writes_cons_unit_of_not_mem _ _ i4 _ _ y rfl 0 (Or.inl (by show (y 0).val < 512; omega))).trans <|
      (View.read_writes_cons_unit_of_not_mem _ _ i3 _ _ y rfl 0 (Or.inl (by show (y 0).val < 384; omega))).trans <|
      (View.read_writes_cons_unit_of_not_mem _ _ i2 _ _ y rfl 0 (Or.inl (by show (y 0).val < 256; omega))).trans <|
      (View.read_writes_cons_unit_of_not_mem _ _ i1 _ _ y rfl 0 (Or.inl (by show (y 0).val < 128; omega))).trans <|
      View.read_writes_cons_unit_of_mem _ _ i0 _ _ y _ rfl fun b => match b with
        | 0 => by show (y 0).val = 0 + (y 0).val % 128; omega
        | 1 => by show (y 1).val = 0 + (y 1).val; omega
  · refine Eq.trans ?_ (congrArg (fun q => p q (ix2 ⟨(y 0).val % 128, Nat.mod_lt _ (by decide)⟩ (y 1))) (Fin.ext h.symm : (1 : Fin 6) = ⟨(y 0).val / 128, by omega⟩))
    exact (View.read_writes_cons_unit_of_not_mem _ _ i5 _ _ y rfl 0 (Or.inl (by show (y 0).val < 640; omega))).trans <|
      (View.read_writes_cons_unit_of_not_mem _ _ i4 _ _ y rfl 0 (Or.inl (by show (y 0).val < 512; omega))).trans <|
      (View.read_writes_cons_unit_of_not_mem _ _ i3 _ _ y rfl 0 (Or.inl (by show (y 0).val < 384; omega))).trans <|
      (View.read_writes_cons_unit_of_not_mem _ _ i2 _ _ y rfl 0 (Or.inl (by show (y 0).val < 256; omega))).trans <|
      View.read_writes_cons_unit_of_mem _ _ i1 _ _ y _ rfl fun b => match b with
        | 0 => by show (y 0).val = 128 + (y 0).val % 128; omega
        | 1 => by show (y 1).val = 0 + (y 1).val; omega
  · refine Eq.trans ?_ (congrArg (fun q => p q (ix2 ⟨(y 0).val % 128, Nat.mod_lt _ (by decide)⟩ (y 1))) (Fin.ext h.symm : (2 : Fin 6) = ⟨(y 0).val / 128, by omega⟩))
    exact (View.read_writes_cons_unit_of_not_mem _ _ i5 _ _ y rfl 0 (Or.inl (by show (y 0).val < 640; omega))).trans <|
      (View.read_writes_cons_unit_of_not_mem _ _ i4 _ _ y rfl 0 (Or.inl (by show (y 0).val < 512; omega))).trans <|
      (View.read_writes_cons_unit_of_not_mem _ _ i3 _ _ y rfl 0 (Or.inl (by show (y 0).val < 384; omega))).trans <|
      View.read_writes_cons_unit_of_mem _ _ i2 _ _ y _ rfl fun b => match b with
        | 0 => by show (y 0).val = 256 + (y 0).val % 128; omega
        | 1 => by show (y 1).val = 0 + (y 1).val; omega
  · refine Eq.trans ?_ (congrArg (fun q => p q (ix2 ⟨(y 0).val % 128, Nat.mod_lt _ (by decide)⟩ (y 1))) (Fin.ext h.symm : (3 : Fin 6) = ⟨(y 0).val / 128, by omega⟩))
    exact (View.read_writes_cons_unit_of_not_mem _ _ i5 _ _ y rfl 0 (Or.inl (by show (y 0).val < 640; omega))).trans <|
      (View.read_writes_cons_unit_of_not_mem _ _ i4 _ _ y rfl 0 (Or.inl (by show (y 0).val < 512; omega))).trans <|
      View.read_writes_cons_unit_of_mem _ _ i3 _ _ y _ rfl fun b => match b with
        | 0 => by show (y 0).val = 384 + (y 0).val % 128; omega
        | 1 => by show (y 1).val = 0 + (y 1).val; omega
  · refine Eq.trans ?_ (congrArg (fun q => p q (ix2 ⟨(y 0).val % 128, Nat.mod_lt _ (by decide)⟩ (y 1))) (Fin.ext h.symm : (4 : Fin 6) = ⟨(y 0).val / 128, by omega⟩))
    exact (View.read_writes_cons_unit_of_not_mem _ _ i5 _ _ y rfl 0 (Or.inl (by show (y 0).val < 640; omega))).trans <|
      View.read_writes_cons_unit_of_mem _ _ i4 _ _ y _ rfl fun b => match b with
        | 0 => by show (y 0).val = 512 + (y 0).val % 128; omega
        | 1 => by show (y 1).val = 0 + (y 1).val; omega
  · refine Eq.trans ?_ (congrArg (fun q => p q (ix2 ⟨(y 0).val % 128, Nat.mod_lt _ (by decide)⟩ (y 1))) (Fin.ext h.symm : (5 : Fin 6) = ⟨(y 0).val / 128, by omega⟩))
    exact View.read_writes_cons_unit_of_mem _ _ i5 _ _ y _ rfl fun b => match b with
        | 0 => by show (y 0).val = 640 + (y 0).val % 128; omega
        | 1 => by show (y 1).val = 0 + (y 1).val; omega

theorem planes_last {κ : Kind} {sp : Space} (a : Memref sig κ sp S6x512x128 .f32) (f : BufTy.Contents (Elt F) a.view.ty)
    (p : Fin 6 → Vec F S1x512x128 .f32)
    (i0 : ∀ b, (![0, 0, 0] : Fin 3 → ℕ) b + S1x512x128.size b ≤ S6x512x128.size b)
    (i1 : ∀ b, (![1, 0, 0] : Fin 3 → ℕ) b + S1x512x128.size b ≤ S6x512x128.size b)
    (i2 : ∀ b, (![2, 0, 0] : Fin 3 → ℕ) b + S1x512x128.size b ≤ S6x512x128.size b)
    (i3 : ∀ b, (![3, 0, 0] : Fin 3 → ℕ) b + S1x512x128.size b ≤ S6x512x128.size b)
    (i4 : ∀ b, (![4, 0, 0] : Fin 3 → ℕ) b + S1x512x128.size b ≤ S6x512x128.size b)
    (i5 : ∀ b, (![5, 0, 0] : Fin 3 → ℕ) b + S1x512x128.size b ≤ S6x512x128.size b)
    (L : List (View.Piece (Elt F) S6x512x128 .f32)) :
    a.view.read (Elt F) (a.view.writes (Elt F) f (⟨Rect.unit (s := S6x512x128) ![5, 0, 0] S1x512x128.size i5, p 5⟩ ::
      ⟨Rect.unit (s := S6x512x128) ![4, 0, 0] S1x512x128.size i4, p 4⟩ ::
      ⟨Rect.unit (s := S6x512x128) ![3, 0, 0] S1x512x128.size i3, p 3⟩ ::
      ⟨Rect.unit (s := S6x512x128) ![2, 0, 0] S1x512x128.size i2, p 2⟩ ::
      ⟨Rect.unit (s := S6x512x128) ![1, 0, 0] S1x512x128.size i1, p 1⟩ ::
      ⟨Rect.unit (s := S6x512x128) ![0, 0, 0] S1x512x128.size i0, p 0⟩ :: L)) = planes p := by
  funext y
  have hy : (y 0).val < 6 := (y 0).isLt
  have hq : (y 0).val = 0 ∨ (y 0).val = 1 ∨ (y 0).val = 2 ∨ (y 0).val = 3 ∨ (y 0).val = 4 ∨ (y 0).val = 5 := by omega
  rcases hq with h | h | h | h | h | h
  · refine Eq.trans ?_ (congrArg (fun q => p q (ix3 (0 : Fin 1) (y 1) (y 2))) (Fin.ext h.symm : (0 : Fin 6) = y 0))
    exact (View.read_writes_cons_unit_of_not_mem _ _ i5 _ _ y rfl 0 (Or.inl (by show (y 0).val < 5; omega))).trans <|
      (View.read_writes_cons_unit_of_not_mem _ _ i4 _ _ y rfl 0 (Or.inl (by show (y 0).val < 4; omega))).trans <|
      (View.read_writes_cons_unit_of_not_mem _ _ i3 _ _ y rfl 0 (Or.inl (by show (y 0).val < 3; omega))).trans <|
      (View.read_writes_cons_unit_of_not_mem _ _ i2 _ _ y rfl 0 (Or.inl (by show (y 0).val < 2; omega))).trans <|
      (View.read_writes_cons_unit_of_not_mem _ _ i1 _ _ y rfl 0 (Or.inl (by show (y 0).val < 1; omega))).trans <|
      View.read_writes_cons_unit_of_mem _ _ i0 _ _ y _ rfl fun b => match b with
        | 0 => by show (y 0).val = 0 + 0; omega
        | 1 => by show (y 1).val = 0 + (y 1).val; omega
        | 2 => by show (y 2).val = 0 + (y 2).val; omega
  · refine Eq.trans ?_ (congrArg (fun q => p q (ix3 (0 : Fin 1) (y 1) (y 2))) (Fin.ext h.symm : (1 : Fin 6) = y 0))
    exact (View.read_writes_cons_unit_of_not_mem _ _ i5 _ _ y rfl 0 (Or.inl (by show (y 0).val < 5; omega))).trans <|
      (View.read_writes_cons_unit_of_not_mem _ _ i4 _ _ y rfl 0 (Or.inl (by show (y 0).val < 4; omega))).trans <|
      (View.read_writes_cons_unit_of_not_mem _ _ i3 _ _ y rfl 0 (Or.inl (by show (y 0).val < 3; omega))).trans <|
      (View.read_writes_cons_unit_of_not_mem _ _ i2 _ _ y rfl 0 (Or.inl (by show (y 0).val < 2; omega))).trans <|
      View.read_writes_cons_unit_of_mem _ _ i1 _ _ y _ rfl fun b => match b with
        | 0 => by show (y 0).val = 1 + 0; omega
        | 1 => by show (y 1).val = 0 + (y 1).val; omega
        | 2 => by show (y 2).val = 0 + (y 2).val; omega
  · refine Eq.trans ?_ (congrArg (fun q => p q (ix3 (0 : Fin 1) (y 1) (y 2))) (Fin.ext h.symm : (2 : Fin 6) = y 0))
    exact (View.read_writes_cons_unit_of_not_mem _ _ i5 _ _ y rfl 0 (Or.inl (by show (y 0).val < 5; omega))).trans <|
      (View.read_writes_cons_unit_of_not_mem _ _ i4 _ _ y rfl 0 (Or.inl (by show (y 0).val < 4; omega))).trans <|
      (View.read_writes_cons_unit_of_not_mem _ _ i3 _ _ y rfl 0 (Or.inl (by show (y 0).val < 3; omega))).trans <|
      View.read_writes_cons_unit_of_mem _ _ i2 _ _ y _ rfl fun b => match b with
        | 0 => by show (y 0).val = 2 + 0; omega
        | 1 => by show (y 1).val = 0 + (y 1).val; omega
        | 2 => by show (y 2).val = 0 + (y 2).val; omega
  · refine Eq.trans ?_ (congrArg (fun q => p q (ix3 (0 : Fin 1) (y 1) (y 2))) (Fin.ext h.symm : (3 : Fin 6) = y 0))
    exact (View.read_writes_cons_unit_of_not_mem _ _ i5 _ _ y rfl 0 (Or.inl (by show (y 0).val < 5; omega))).trans <|
      (View.read_writes_cons_unit_of_not_mem _ _ i4 _ _ y rfl 0 (Or.inl (by show (y 0).val < 4; omega))).trans <|
      View.read_writes_cons_unit_of_mem _ _ i3 _ _ y _ rfl fun b => match b with
        | 0 => by show (y 0).val = 3 + 0; omega
        | 1 => by show (y 1).val = 0 + (y 1).val; omega
        | 2 => by show (y 2).val = 0 + (y 2).val; omega
  · refine Eq.trans ?_ (congrArg (fun q => p q (ix3 (0 : Fin 1) (y 1) (y 2))) (Fin.ext h.symm : (4 : Fin 6) = y 0))
    exact (View.read_writes_cons_unit_of_not_mem _ _ i5 _ _ y rfl 0 (Or.inl (by show (y 0).val < 5; omega))).trans <|
      View.read_writes_cons_unit_of_mem _ _ i4 _ _ y _ rfl fun b => match b with
        | 0 => by show (y 0).val = 4 + 0; omega
        | 1 => by show (y 1).val = 0 + (y 1).val; omega
        | 2 => by show (y 2).val = 0 + (y 2).val; omega
  · refine Eq.trans ?_ (congrArg (fun q => p q (ix3 (0 : Fin 1) (y 1) (y 2))) (Fin.ext h.symm : (5 : Fin 6) = y 0))
    exact View.read_writes_cons_unit_of_mem _ _ i5 _ _ y _ rfl fun b => match b with
        | 0 => by show (y 0).val = 5 + 0; omega
        | 1 => by show (y 1).val = 0 + (y 1).val; omega
        | 2 => by show (y 2).val = 0 + (y 2).val; omega

/-! ## The body -/

/-- The staging buffers one point's body is called with. -/
structure Bufs where
  a0 : Memref sig .tc .vmem S512x768 .f32
  h0 : a0.IsWhole
  a1 : Memref sig .tc .vmem S512x1024 .f32
  h1 : a1.IsWhole
  a2 : Memref sig .tc .vmem S512x256 .bf16
  h2 : a2.IsWhole
  a3 : Memref sig .tc .vmem S256x512 .bf16
  h3 : a3.IsWhole
  a4 : Memref sig .tc .vmem S1024x1024 .bf16
  h4 : a4.IsWhole
  a5 : Memref sig .tc .vmem S512x1024 .f32
  h5 : a5.IsWhole
  a6 : Memref sig .tc .vmem S1x1024 .f32
  h6 : a6.IsWhole
  a7 : Memref sig .tc .vmem S1x1024 .f32
  h7 : a7.IsWhole
  a8 : Memref sig .tc .vmem S512x1024 .f32
  h8 : a8.IsWhole
  a9 : Memref sig .tc .vmem S512x768 .f32
  h9 : a9.IsWhole
  a10 : Memref sig .tc .vmem S512x1024 .f32
  h10 : a10.IsWhole
  a11 : Memref sig .tc .vmem S512x768 .bf16
  h11 : a11.IsWhole
  a12 : Memref sig .tc .vmem S768x512 .bf16
  h12 : a12.IsWhole
  a13 : Memref sig .tc .vmem S6x512x128 .f32
  h13 : a13.IsWhole
  a14 : Memref sig .tc .vmem S512x1024 .f32
  h14 : a14.IsWhole
  a15 : Memref sig .tc .vmem S512x256 .f32
  h15 : a15.IsWhole
  a16 : Memref sig .tc .vmem S1024x1024 .f32
  h16 : a16.IsWhole
  a17 : Memref sig .tc .vmem S256x512 .f32
  h17 : a17.IsWhole
  a18 : Memref sig .tc .vmem S1x1024 .f32
  h18 : a18.IsWhole
  a19 : Memref sig .tc .vmem S1x1024 .f32
  h19 : a19.IsWhole
  a20 : Memref sig .tc .vmem S1x1 .f32
  h20 : a20.IsWhole

variable (c : Dev nD) (B : Bufs)

/-- The condition of the body's branch, from the grid coordinates. -/
abbrev cond0_0 (i : grid0.Coords) : Prop := (Scalar.cmpi .ne (Scalar.extui (Scalar.cmpi .eq (BitVec.ofNat 32 (i 0).val) 0#32)) 0#32) = 1#1

/-- The inputs' buffers hold `I`. -/
def held (I : Ins F) : sProp 𝕄 :=
  iprop(owns (c : Thread nD τ) B.a0 fullShare I.tok
    ∗ owns (c : Thread nD τ) B.a1 fullShare I.gate
    ∗ owns (c : Thread nD τ) B.a2 fullShare I.qm
    ∗ owns (c : Thread nD τ) B.a3 fullShare I.kv
    ∗ owns (c : Thread nD τ) B.a4 fullShare I.w
    ∗ owns (c : Thread nD τ) B.a5 fullShare I.h
    ∗ owns (c : Thread nD τ) B.a6 fullShare I.g
    ∗ owns (c : Thread nD τ) B.a7 fullShare I.b
    ∗ owns (c : Thread nD τ) B.a8 fullShare I.up
    ∗ owns (c : Thread nD τ) B.a9 fullShare I.lse)
/-- The results' buffers hold `o`. -/
def left (o : Acc F) : sProp 𝕄 :=
  iprop(owns (c : Thread nD τ) B.a10 fullShare o.dres
    ∗ owns (c : Thread nD τ) B.a11 fullShare o.dob
    ∗ owns (c : Thread nD τ) B.a12 fullShare o.dobt
    ∗ owns (c : Thread nD τ) B.a13 fullShare o.stats
    ∗ owns (c : Thread nD τ) B.a14 fullShare o.dgate
    ∗ owns (c : Thread nD τ) B.a15 fullShare o.dqm
    ∗ owns (c : Thread nD τ) B.a16 fullShare o.dw
    ∗ owns (c : Thread nD τ) B.a17 fullShare o.dkv
    ∗ owns (c : Thread nD τ) B.a18 fullShare o.dg
    ∗ owns (c : Thread nD τ) B.a19 fullShare o.db
    ∗ owns (c : Thread nD τ) B.a20 fullShare o.loss)

/-- The body on those buffers. -/
abbrev call (i : grid0.Coords) : Prog (TpuEff nD τ sig (Elt F) Λ₀ .tc) PUnit :=
  cc0_mix_bwd i B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20

set_option maxHeartbeats 4000000 in
theorem body_next (i : grid0.Coords) (hc : ¬ cond0_0 i) (I : Ins F) (o : Acc F) (K : PUnit → sProp 𝕄) :
    iprop((held c B I ∗ left c B o) ∗ ((held c B I ∗ left c B (step I (o))) -∗ K ⟨⟩))
      ⊢ wp frame (wpE (defs₀ (F := F)) Variants.none c none) Set.univ (call B i) K := by
  unfold call
  simp only [cc0_mix_bwd_eq_skeleton]; unfold cc0_mix_bwd_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton]
  unfold held left owns
  iintro ⟨⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩⟩, Hk⟩
  obtain rfl := B.h0.eq_unread hf0
  obtain rfl := B.h1.eq_unread hf1
  obtain rfl := B.h2.eq_unread hf2
  obtain rfl := B.h3.eq_unread hf3
  obtain rfl := B.h4.eq_unread hf4
  obtain rfl := B.h5.eq_unread hf5
  obtain rfl := B.h6.eq_unread hf6
  obtain rfl := B.h7.eq_unread hf7
  obtain rfl := B.h8.eq_unread hf8
  obtain rfl := B.h9.eq_unread hf9
  obtain rfl := B.h10.eq_unread hf10
  obtain rfl := B.h11.eq_unread hf11
  obtain rfl := B.h12.eq_unread hf12
  obtain rfl := B.h13.eq_unread hf13
  obtain rfl := B.h14.eq_unread hf14
  obtain rfl := B.h15.eq_unread hf15
  obtain rfl := B.h16.eq_unread hf16
  obtain rfl := B.h17.eq_unread hf17
  obtain rfl := B.h18.eq_unread hf18
  obtain rfl := B.h19.eq_unread hf19
  obtain rfl := B.h20.eq_unread hf20
  sl_exec (disch := first | sl_exact hc)
  sl_step
  iapply Hk
  isplitl [H0 H1 H2 H3 H4 H5 H6 H7 H8 H9]
  · isplitl [H0]
    · iexists _; isplitr; · ipureintro; exact B.h0.read_unread _
      iexact H0
    isplitl [H1]
    · iexists _; isplitr; · ipureintro; exact B.h1.read_unread _
      iexact H1
    isplitl [H2]
    · iexists _; isplitr; · ipureintro; exact B.h2.read_unread _
      iexact H2
    isplitl [H3]
    · iexists _; isplitr; · ipureintro; exact B.h3.read_unread _
      iexact H3
    isplitl [H4]
    · iexists _; isplitr; · ipureintro; exact B.h4.read_unread _
      iexact H4
    isplitl [H5]
    · iexists _; isplitr; · ipureintro; exact B.h5.read_unread _
      iexact H5
    isplitl [H6]
    · iexists _; isplitr; · ipureintro; exact B.h6.read_unread _
      iexact H6
    isplitl [H7]
    · iexists _; isplitr; · ipureintro; exact B.h7.read_unread _
      iexact H7
    isplitl [H8]
    · iexists _; isplitr; · ipureintro; exact B.h8.read_unread _
      iexact H8
    iexists _; isplitr; · ipureintro; exact B.h9.read_unread _
    iexact H9
  isplitl [H10]
  · iexists _; isplitr; swap; · iexact H10
    ipureintro; sl_unfold_run_names; simp only [last, again, cover, same, columns _ _ _ 0 (by decide), columns _ _ _ 64 (by decide), columns _ _ _ 128 (by decide), columns _ _ _ 192 (by decide), columns _ _ _ 256 (by decide), columns _ _ _ 320 (by decide), columns _ _ _ 384 (by decide), columns _ _ _ 448 (by decide), columns _ _ _ 512 (by decide), columns _ _ _ 576 (by decide), columns _ _ _ 640 (by decide), columns _ _ _ 704 (by decide)]; rfl
  isplitl [H11]
  · iexists _; isplitr; swap; · iexact H11
    ipureintro; sl_unfold_run_names; simp only [last, again, cover, same, columns _ _ _ 0 (by decide), columns _ _ _ 64 (by decide), columns _ _ _ 128 (by decide), columns _ _ _ 192 (by decide), columns _ _ _ 256 (by decide), columns _ _ _ 320 (by decide), columns _ _ _ 384 (by decide), columns _ _ _ 448 (by decide), columns _ _ _ 512 (by decide), columns _ _ _ 576 (by decide), columns _ _ _ 640 (by decide), columns _ _ _ 704 (by decide)]; rfl
  isplitl [H12]
  · iexists _; isplitr; swap; · iexact H12
    ipureintro; sl_unfold_run_names; simp only [last, again, cover, same, columns _ _ _ 0 (by decide), columns _ _ _ 64 (by decide), columns _ _ _ 128 (by decide), columns _ _ _ 192 (by decide), columns _ _ _ 256 (by decide), columns _ _ _ 320 (by decide), columns _ _ _ 384 (by decide), columns _ _ _ 448 (by decide), columns _ _ _ 512 (by decide), columns _ _ _ 576 (by decide), columns _ _ _ 640 (by decide), columns _ _ _ 704 (by decide)]
    exact rows_last _ _ (dobts I) _ _ _ _ _ _ _
  isplitl [H13]
  · iexists _; isplitr; swap; · iexact H13
    ipureintro; sl_unfold_run_names; simp only [last, again, cover, same, columns _ _ _ 0 (by decide), columns _ _ _ 64 (by decide), columns _ _ _ 128 (by decide), columns _ _ _ 192 (by decide), columns _ _ _ 256 (by decide), columns _ _ _ 320 (by decide), columns _ _ _ 384 (by decide), columns _ _ _ 448 (by decide), columns _ _ _ 512 (by decide), columns _ _ _ 576 (by decide), columns _ _ _ 640 (by decide), columns _ _ _ 704 (by decide)]
    exact planes_last _ _ (sums I) _ _ _ _ _ _ _
  isplitl [H14]
  · iexists _; isplitr; swap; · iexact H14
    ipureintro; sl_unfold_run_names; simp only [last, again, cover, same, columns _ _ _ 0 (by decide), columns _ _ _ 64 (by decide), columns _ _ _ 128 (by decide), columns _ _ _ 192 (by decide), columns _ _ _ 256 (by decide), columns _ _ _ 320 (by decide), columns _ _ _ 384 (by decide), columns _ _ _ 448 (by decide), columns _ _ _ 512 (by decide), columns _ _ _ 576 (by decide), columns _ _ _ 640 (by decide), columns _ _ _ 704 (by decide)]; rfl
  isplitl [H15]
  · iexists _; isplitr; swap; · iexact H15
    ipureintro; sl_unfold_run_names; simp only [last, again, cover, same, columns _ _ _ 0 (by decide), columns _ _ _ 64 (by decide), columns _ _ _ 128 (by decide), columns _ _ _ 192 (by decide), columns _ _ _ 256 (by decide), columns _ _ _ 320 (by decide), columns _ _ _ 384 (by decide), columns _ _ _ 448 (by decide), columns _ _ _ 512 (by decide), columns _ _ _ 576 (by decide), columns _ _ _ 640 (by decide), columns _ _ _ 704 (by decide)]; rfl
  isplitl [H16]
  · iexists _; isplitr; swap; · iexact H16
    ipureintro; sl_unfold_run_names; simp only [last, again, cover, same, columns _ _ _ 0 (by decide), columns _ _ _ 64 (by decide), columns _ _ _ 128 (by decide), columns _ _ _ 192 (by decide), columns _ _ _ 256 (by decide), columns _ _ _ 320 (by decide), columns _ _ _ 384 (by decide), columns _ _ _ 448 (by decide), columns _ _ _ 512 (by decide), columns _ _ _ 576 (by decide), columns _ _ _ 640 (by decide), columns _ _ _ 704 (by decide)]; rfl
  isplitl [H17]
  · iexists _; isplitr; swap; · iexact H17
    ipureintro; sl_unfold_run_names; simp only [last, again, cover, same, columns _ _ _ 0 (by decide), columns _ _ _ 64 (by decide), columns _ _ _ 128 (by decide), columns _ _ _ 192 (by decide), columns _ _ _ 256 (by decide), columns _ _ _ 320 (by decide), columns _ _ _ 384 (by decide), columns _ _ _ 448 (by decide), columns _ _ _ 512 (by decide), columns _ _ _ 576 (by decide), columns _ _ _ 640 (by decide), columns _ _ _ 704 (by decide)]; rfl
  isplitl [H18]
  · iexists _; isplitr; swap; · iexact H18
    ipureintro; sl_unfold_run_names; simp only [last, again, cover, same, columns _ _ _ 0 (by decide), columns _ _ _ 64 (by decide), columns _ _ _ 128 (by decide), columns _ _ _ 192 (by decide), columns _ _ _ 256 (by decide), columns _ _ _ 320 (by decide), columns _ _ _ 384 (by decide), columns _ _ _ 448 (by decide), columns _ _ _ 512 (by decide), columns _ _ _ 576 (by decide), columns _ _ _ 640 (by decide), columns _ _ _ 704 (by decide)]; rfl
  isplitl [H19]
  · iexists _; isplitr; swap; · iexact H19
    ipureintro; sl_unfold_run_names; simp only [last, again, cover, same, columns _ _ _ 0 (by decide), columns _ _ _ 64 (by decide), columns _ _ _ 128 (by decide), columns _ _ _ 192 (by decide), columns _ _ _ 256 (by decide), columns _ _ _ 320 (by decide), columns _ _ _ 384 (by decide), columns _ _ _ 448 (by decide), columns _ _ _ 512 (by decide), columns _ _ _ 576 (by decide), columns _ _ _ 640 (by decide), columns _ _ _ 704 (by decide)]; rfl
  iexists _; isplitr; swap; · iexact H20
  ipureintro; exact B.h20.read_unread _

set_option maxHeartbeats 4000000 in
theorem body_first (i : grid0.Coords) (hc : cond0_0 i) (I : Ins F) (o : Acc F) (K : PUnit → sProp 𝕄) :
    iprop((held c B I ∗ left c B o) ∗ ((held c B I ∗ left c B (step I (Acc.zero))) -∗ K ⟨⟩))
      ⊢ wp frame (wpE (defs₀ (F := F)) Variants.none c none) Set.univ (call B i) K := by
  unfold call
  simp only [cc0_mix_bwd_eq_skeleton]; unfold cc0_mix_bwd_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton]
  unfold held left owns
  iintro ⟨⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩⟩, Hk⟩
  obtain rfl := B.h0.eq_unread hf0
  obtain rfl := B.h1.eq_unread hf1
  obtain rfl := B.h2.eq_unread hf2
  obtain rfl := B.h3.eq_unread hf3
  obtain rfl := B.h4.eq_unread hf4
  obtain rfl := B.h5.eq_unread hf5
  obtain rfl := B.h6.eq_unread hf6
  obtain rfl := B.h7.eq_unread hf7
  obtain rfl := B.h8.eq_unread hf8
  obtain rfl := B.h9.eq_unread hf9
  obtain rfl := B.h10.eq_unread hf10
  obtain rfl := B.h11.eq_unread hf11
  obtain rfl := B.h12.eq_unread hf12
  obtain rfl := B.h13.eq_unread hf13
  obtain rfl := B.h14.eq_unread hf14
  obtain rfl := B.h15.eq_unread hf15
  obtain rfl := B.h16.eq_unread hf16
  obtain rfl := B.h17.eq_unread hf17
  obtain rfl := B.h18.eq_unread hf18
  obtain rfl := B.h19.eq_unread hf19
  obtain rfl := B.h20.eq_unread hf20
  sl_exec (disch := first | sl_exact hc)
  sl_step
  iapply Hk
  isplitl [H0 H1 H2 H3 H4 H5 H6 H7 H8 H9]
  · isplitl [H0]
    · iexists _; isplitr; · ipureintro; exact B.h0.read_unread _
      iexact H0
    isplitl [H1]
    · iexists _; isplitr; · ipureintro; exact B.h1.read_unread _
      iexact H1
    isplitl [H2]
    · iexists _; isplitr; · ipureintro; exact B.h2.read_unread _
      iexact H2
    isplitl [H3]
    · iexists _; isplitr; · ipureintro; exact B.h3.read_unread _
      iexact H3
    isplitl [H4]
    · iexists _; isplitr; · ipureintro; exact B.h4.read_unread _
      iexact H4
    isplitl [H5]
    · iexists _; isplitr; · ipureintro; exact B.h5.read_unread _
      iexact H5
    isplitl [H6]
    · iexists _; isplitr; · ipureintro; exact B.h6.read_unread _
      iexact H6
    isplitl [H7]
    · iexists _; isplitr; · ipureintro; exact B.h7.read_unread _
      iexact H7
    isplitl [H8]
    · iexists _; isplitr; · ipureintro; exact B.h8.read_unread _
      iexact H8
    iexists _; isplitr; · ipureintro; exact B.h9.read_unread _
    iexact H9
  isplitl [H10]
  · iexists _; isplitr; swap; · iexact H10
    ipureintro; sl_unfold_run_names; simp only [last, again, cover, same, columns _ _ _ 0 (by decide), columns _ _ _ 64 (by decide), columns _ _ _ 128 (by decide), columns _ _ _ 192 (by decide), columns _ _ _ 256 (by decide), columns _ _ _ 320 (by decide), columns _ _ _ 384 (by decide), columns _ _ _ 448 (by decide), columns _ _ _ 512 (by decide), columns _ _ _ 576 (by decide), columns _ _ _ 640 (by decide), columns _ _ _ 704 (by decide)]; rfl
  isplitl [H11]
  · iexists _; isplitr; swap; · iexact H11
    ipureintro; sl_unfold_run_names; simp only [last, again, cover, same, columns _ _ _ 0 (by decide), columns _ _ _ 64 (by decide), columns _ _ _ 128 (by decide), columns _ _ _ 192 (by decide), columns _ _ _ 256 (by decide), columns _ _ _ 320 (by decide), columns _ _ _ 384 (by decide), columns _ _ _ 448 (by decide), columns _ _ _ 512 (by decide), columns _ _ _ 576 (by decide), columns _ _ _ 640 (by decide), columns _ _ _ 704 (by decide)]; rfl
  isplitl [H12]
  · iexists _; isplitr; swap; · iexact H12
    ipureintro; sl_unfold_run_names; simp only [last, again, cover, same, columns _ _ _ 0 (by decide), columns _ _ _ 64 (by decide), columns _ _ _ 128 (by decide), columns _ _ _ 192 (by decide), columns _ _ _ 256 (by decide), columns _ _ _ 320 (by decide), columns _ _ _ 384 (by decide), columns _ _ _ 448 (by decide), columns _ _ _ 512 (by decide), columns _ _ _ 576 (by decide), columns _ _ _ 640 (by decide), columns _ _ _ 704 (by decide)]
    exact rows_last _ _ (dobts I) _ _ _ _ _ _ _
  isplitl [H13]
  · iexists _; isplitr; swap; · iexact H13
    ipureintro; sl_unfold_run_names; simp only [last, again, cover, same, columns _ _ _ 0 (by decide), columns _ _ _ 64 (by decide), columns _ _ _ 128 (by decide), columns _ _ _ 192 (by decide), columns _ _ _ 256 (by decide), columns _ _ _ 320 (by decide), columns _ _ _ 384 (by decide), columns _ _ _ 448 (by decide), columns _ _ _ 512 (by decide), columns _ _ _ 576 (by decide), columns _ _ _ 640 (by decide), columns _ _ _ 704 (by decide)]
    exact planes_last _ _ (sums I) _ _ _ _ _ _ _
  isplitl [H14]
  · iexists _; isplitr; swap; · iexact H14
    ipureintro; sl_unfold_run_names; simp only [last, again, cover, same, columns _ _ _ 0 (by decide), columns _ _ _ 64 (by decide), columns _ _ _ 128 (by decide), columns _ _ _ 192 (by decide), columns _ _ _ 256 (by decide), columns _ _ _ 320 (by decide), columns _ _ _ 384 (by decide), columns _ _ _ 448 (by decide), columns _ _ _ 512 (by decide), columns _ _ _ 576 (by decide), columns _ _ _ 640 (by decide), columns _ _ _ 704 (by decide)]; rfl
  isplitl [H15]
  · iexists _; isplitr; swap; · iexact H15
    ipureintro; sl_unfold_run_names; simp only [last, again, cover, same, columns _ _ _ 0 (by decide), columns _ _ _ 64 (by decide), columns _ _ _ 128 (by decide), columns _ _ _ 192 (by decide), columns _ _ _ 256 (by decide), columns _ _ _ 320 (by decide), columns _ _ _ 384 (by decide), columns _ _ _ 448 (by decide), columns _ _ _ 512 (by decide), columns _ _ _ 576 (by decide), columns _ _ _ 640 (by decide), columns _ _ _ 704 (by decide)]; rfl
  isplitl [H16]
  · iexists _; isplitr; swap; · iexact H16
    ipureintro; sl_unfold_run_names; simp only [last, again, cover, same, columns _ _ _ 0 (by decide), columns _ _ _ 64 (by decide), columns _ _ _ 128 (by decide), columns _ _ _ 192 (by decide), columns _ _ _ 256 (by decide), columns _ _ _ 320 (by decide), columns _ _ _ 384 (by decide), columns _ _ _ 448 (by decide), columns _ _ _ 512 (by decide), columns _ _ _ 576 (by decide), columns _ _ _ 640 (by decide), columns _ _ _ 704 (by decide)]; rfl
  isplitl [H17]
  · iexists _; isplitr; swap; · iexact H17
    ipureintro; sl_unfold_run_names; simp only [last, again, cover, same, columns _ _ _ 0 (by decide), columns _ _ _ 64 (by decide), columns _ _ _ 128 (by decide), columns _ _ _ 192 (by decide), columns _ _ _ 256 (by decide), columns _ _ _ 320 (by decide), columns _ _ _ 384 (by decide), columns _ _ _ 448 (by decide), columns _ _ _ 512 (by decide), columns _ _ _ 576 (by decide), columns _ _ _ 640 (by decide), columns _ _ _ 704 (by decide)]; rfl
  isplitl [H18]
  · iexists _; isplitr; swap; · iexact H18
    ipureintro; sl_unfold_run_names; simp only [last, again, cover, same, columns _ _ _ 0 (by decide), columns _ _ _ 64 (by decide), columns _ _ _ 128 (by decide), columns _ _ _ 192 (by decide), columns _ _ _ 256 (by decide), columns _ _ _ 320 (by decide), columns _ _ _ 384 (by decide), columns _ _ _ 448 (by decide), columns _ _ _ 512 (by decide), columns _ _ _ 576 (by decide), columns _ _ _ 640 (by decide), columns _ _ _ 704 (by decide)]; rfl
  isplitl [H19]
  · iexists _; isplitr; swap; · iexact H19
    ipureintro; sl_unfold_run_names; simp only [last, again, cover, same, columns _ _ _ 0 (by decide), columns _ _ _ 64 (by decide), columns _ _ _ 128 (by decide), columns _ _ _ 192 (by decide), columns _ _ _ 256 (by decide), columns _ _ _ 320 (by decide), columns _ _ _ 384 (by decide), columns _ _ _ 448 (by decide), columns _ _ _ 512 (by decide), columns _ _ _ 576 (by decide), columns _ _ _ 640 (by decide), columns _ _ _ 704 (by decide)]; rfl
  iexists _; isplitr; swap; · iexact H20
  ipureintro; sl_unfold_run_names; simp only [last, again, cover, same, columns _ _ _ 0 (by decide), columns _ _ _ 64 (by decide), columns _ _ _ 128 (by decide), columns _ _ _ 192 (by decide), columns _ _ _ 256 (by decide), columns _ _ _ 320 (by decide), columns _ _ _ 384 (by decide), columns _ _ _ 448 (by decide), columns _ _ _ 512 (by decide), columns _ _ _ 576 (by decide), columns _ _ _ 640 (by decide), columns _ _ _ 704 (by decide)]; rfl

end Cert.MixRun

end
-- ==== Proof.MixRun.lean ====
/-
The first layer's gradient kernel's run: at every point of the grid its body leaves one `step` of the results so far.
-/
module

public import proofs.«01_k».proof.Proof.MixBody
public import proofs.«01_k».proof.Proof.Gen.Kernel4Ideal.Frame
public import Idealize.ShloMosaic.Lib.Pipeline.TableIdle
public import Idealize.ShloMosaic.Lib.Claim
public import Idealize.ShloMosaic.Lib.WritesUnit

@[expose] public section

set_option maxRecDepth 16384

noncomputable section

namespace Cert.MixRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen Cert.Mix

variable {F : FTy → Type} [FloatOps F] [Named F]

local notation "𝕄" => MT nD τ sig Unit (Elt F) ℕ (UR sig nD τ) ℕ

variable (c : Dev nD) (B : Bufs)

/-! ## The grid -/

/-- It holds at the first point only. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

abbrev ms0_0 (t : Fin cfg0.N) : Memref sig .tc .vmem S512x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x768 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x768 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S768x512 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S6x512x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S512x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S512x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1024x1024 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256x512 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x1024 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x1024 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x1 .f32 := win0_20.stage (cfg0.slots t 20)
abbrev hs0_20 (t : Fin cfg0.N) : (ms0_20 t).IsWhole := hstage0_20 ((cfg0.slots t 20).cast nbuf0_20)

variable (m : (ℓ : Loc nD τ sig) → Buf (Elt F) ℓ) (ρ : Dev nD → PrngReg)

/-- Point `t`'s staging buffers. -/
def bufs (t : Fin cfg0.N) : Bufs :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, ms0_15 t, hs0_15 t, ms0_16 t, hs0_16 t, ms0_17 t, hs0_17 t, ms0_18 t, hs0_18 t, ms0_19 t, hs0_19 t, ms0_20 t, hs0_20 t⟩

/-- The blocks point `t` reads. -/
def blks (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t⟩

/-- The results after the points up to `n`. -/
def outs (c : Dev nD) : (n : ℕ) → n < cfg0.N → Mix.Acc F
  | 0, h => step (blks m c ⟨0, h⟩) Acc.zero
  | n + 1, h => step (blks m c ⟨n + 1, h⟩) (outs c n (Nat.lt_of_succ_lt h))

theorem outs_first (t : Fin cfg0.N) (h : t.val % 16 = 0) :
    outs m c t.val t.isLt = step (blks m c t) Acc.zero := by
  have hN : t.val < 16 := lt_of_lt_of_eq t.isLt (show cfg0.N = 16 from N_0)
  obtain ⟨n, hn⟩ := t
  obtain rfl : n = 0 := by dsimp only at h hN; omega
  rfl

theorem outs_next (t : Fin cfg0.N) (h : ¬ t.val % 16 = 0) :
    outs m c t.val t.isLt
      = step (blks m c t) (outs m c (t.val - 1) (Nat.lt_of_le_of_lt (Nat.sub_le _ _) t.isLt)) := by
  obtain ⟨n, hn⟩ := t
  cases n with
  | zero => exact absurd rfl h
  | succ n => rfl

/-- The region's data: the arrays as it meets them, and what each point's body leaves. -/
def dats (_ : Fin 1) (c : Dev nD) : Dat τ (Elt F) Unit ℕ (UR sig nD τ) ℕ cfg0 c where
  A w := V m c (Pipeline.arrRef spec0 w)
  after w t := match w with
    | ⟨10, _⟩ => (outs m c t.val t.isLt).dres
    | ⟨11, _⟩ => (outs m c t.val t.isLt).dob
    | ⟨12, _⟩ => (outs m c t.val t.isLt).dobt
    | ⟨13, _⟩ => (outs m c t.val t.isLt).stats
    | ⟨14, _⟩ => (outs m c t.val t.isLt).dgate
    | ⟨15, _⟩ => (outs m c t.val t.isLt).dqm
    | ⟨16, _⟩ => (outs m c t.val t.isLt).dw
    | ⟨17, _⟩ => (outs m c t.val t.isLt).dkv
    | ⟨18, _⟩ => (outs m c t.val t.isLt).dg
    | ⟨19, _⟩ => (outs m c t.val t.isLt).db
    | ⟨20, _⟩ => (outs m c t.val t.isLt).loss
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨_ + 21, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem before_16 (t : Fin cfg0.N) (h0 : ¬ t.val % 16 = 0) (d) :
    (dats m 0 c).before 16 t d = (outs m c (t.val - 1) (Nat.lt_of_le_of_lt (Nat.sub_le _ _) t.isLt)).dw := by
  have hN : t.val < 16 := lt_of_lt_of_eq t.isLt (show cfg0.N = 16 from N_0)
  rw [Dat.before_out_kept _ 16 rfl t (by omega)
    (Bool.eq_false_iff.mpr fun h => by have := (flush0_16 _).mp h; dsimp only at this; omega) (fun _ => rfl) (fun _ _ => rfl)]
  dsimp only [dats]
theorem before_17 (t : Fin cfg0.N) (h0 : ¬ t.val % 16 = 0) (d) :
    (dats m 0 c).before 17 t d = (outs m c (t.val - 1) (Nat.lt_of_le_of_lt (Nat.sub_le _ _) t.isLt)).dkv := by
  have hN : t.val < 16 := lt_of_lt_of_eq t.isLt (show cfg0.N = 16 from N_0)
  rw [Dat.before_out_kept _ 17 rfl t (by omega)
    (Bool.eq_false_iff.mpr fun h => by have := (flush0_17 _).mp h; dsimp only at this; omega) (fun _ => rfl) (fun _ _ => rfl)]
  dsimp only [dats]
theorem before_18 (t : Fin cfg0.N) (h0 : ¬ t.val % 16 = 0) (d) :
    (dats m 0 c).before 18 t d = (outs m c (t.val - 1) (Nat.lt_of_le_of_lt (Nat.sub_le _ _) t.isLt)).dg := by
  have hN : t.val < 16 := lt_of_lt_of_eq t.isLt (show cfg0.N = 16 from N_0)
  rw [Dat.before_out_kept _ 18 rfl t (by omega)
    (Bool.eq_false_iff.mpr fun h => by have := (flush0_18 _).mp h; dsimp only at this; omega) (fun _ => rfl) (fun _ _ => rfl)]
  dsimp only [dats]
theorem before_19 (t : Fin cfg0.N) (h0 : ¬ t.val % 16 = 0) (d) :
    (dats m 0 c).before 19 t d = (outs m c (t.val - 1) (Nat.lt_of_le_of_lt (Nat.sub_le _ _) t.isLt)).db := by
  have hN : t.val < 16 := lt_of_lt_of_eq t.isLt (show cfg0.N = 16 from N_0)
  rw [Dat.before_out_kept _ 19 rfl t (by omega)
    (Bool.eq_false_iff.mpr fun h => by have := (flush0_19 _).mp h; dsimp only at this; omega) (fun _ => rfl) (fun _ _ => rfl)]
  dsimp only [dats]

theorem outs_loss : ∀ (n : ℕ) (h : n < cfg0.N), (outs m c n h).loss = (Acc.zero (F := F)).loss
  | 0, _ => rfl
  | n + 1, h => outs_loss n (Nat.lt_of_succ_lt h)

/-- The error's block is stored at the first point, and idle at the others. -/
theorem idle_20 (t : Fin cfg0.N) : cfg0.idle 20 (cfg0.grid.coords t) = false ↔ t.val % 16 = 0 := by
  rw [← hcond0_0 t]
  show (!(k0_cond1 (grid0.coords t) == 1#1)) = false ↔ k0_cond1 (grid0.coords t) = 1#1
  simp

theorem fresh_20 : ∀ n : ℕ, n < 15 → cfg0.fresh 20 (n + 1) = false
  | 0, _ => by
    have h0 : (0 : ℕ) < cfg0.N := by rw [show cfg0.N = 16 from N_0]; omega
    rw [Pipeline.Cfg.fresh_succ cfg0 20 0 h0, (idle_20 ⟨0, h0⟩).mpr rfl, Bool.false_and, Bool.or_false]
    exact Bool.eq_false_iff.mpr fun h => by have := (flush0_20 _).mp h; dsimp only at this; omega
  | n + 1, hn => by
    have h0 : n + 1 < cfg0.N := by rw [show cfg0.N = 16 from N_0]; omega
    rw [Pipeline.Cfg.fresh_succ cfg0 20 (n + 1) h0, fresh_20 n (by omega), Bool.and_false, Bool.or_false]
    exact Bool.eq_false_iff.mpr fun h => by have := (flush0_20 _).mp h; dsimp only at this; omega

theorem before_20 (t : Fin cfg0.N) (h0 : ¬ t.val % 16 = 0) (d) :
    (dats m 0 c).before 20 t d = (outs m c (t.val - 1) (Nat.lt_of_le_of_lt (Nat.sub_le _ _) t.isLt)).loss := by
  have hN : t.val < 16 := lt_of_lt_of_eq t.isLt (show cfg0.N = 16 from N_0)
  have hf : cfg0.fresh 20 t.val = false := by
    have h := fresh_20 (t.val - 1) (by omega)
    rwa [show t.val - 1 + 1 = t.val by omega] at h
  rw [Dat.before_out_traj (dats m 0 c) 20 rfl (fun _ _ => rfl) (fun t ht _ _ => by
    dsimp only [dats]; exact (outs_loss c m _ _).trans (outs_loss c m _ _).symm) t.val t rfl d, hf, if_neg Bool.false_ne_true]
  dsimp only [dats]

/-- What the body is called with at point `t`. -/
def pre (t : Fin cfg0.N) : sProp 𝕄 :=
  iprop(Pipeline.ΦA spec0 c ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))
/-- What it returns. -/
def post (t : Fin cfg0.N) : sProp 𝕄 :=
  iprop(Pipeline.ΦA spec0 c ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (outs m c t.val t.isLt).dres
    ∗ owns (c : Thread nD τ) (ms0_11 t) fullShare (outs m c t.val t.isLt).dob
    ∗ owns (c : Thread nD τ) (ms0_12 t) fullShare (outs m c t.val t.isLt).dobt
    ∗ owns (c : Thread nD τ) (ms0_13 t) fullShare (outs m c t.val t.isLt).stats
    ∗ owns (c : Thread nD τ) (ms0_14 t) fullShare (outs m c t.val t.isLt).dgate
    ∗ owns (c : Thread nD τ) (ms0_15 t) fullShare (outs m c t.val t.isLt).dqm
    ∗ owns (c : Thread nD τ) (ms0_16 t) fullShare (outs m c t.val t.isLt).dw
    ∗ owns (c : Thread nD τ) (ms0_17 t) fullShare (outs m c t.val t.isLt).dkv
    ∗ owns (c : Thread nD τ) (ms0_18 t) fullShare (outs m c t.val t.isLt).dg
    ∗ owns (c : Thread nD τ) (ms0_19 t) fullShare (outs m c t.val t.isLt).db
    ∗ owns (c : Thread nD τ) (ms0_20 t) fullShare (outs m c t.val t.isLt).loss)

set_option maxHeartbeats 4000000 in
theorem sound (t : Fin cfg0.N) :
    pre c m t ⊢ wp frame (wpE (defs₀ (F := F)) Variants.none c none) Set.univ (bodyAt0 t) (fun _ => post c m t) := by
  rw [show (bodyAt0 t : Prog (TpuEff nD τ sig (Elt F) Λ₀ .tc) PUnit) = call (bufs t) (grid0.coords t) from rfl]
  unfold pre post
  simp only [before0_0_of m (dats m 0 c) (A_eq m c 0) (fun _ => by dsimp only [dats]),
    before0_1_of m (dats m 0 c) (A_eq m c 1) (fun _ => by dsimp only [dats]),
    before0_2_of m (dats m 0 c) (A_eq m c 2) (fun _ => by dsimp only [dats]),
    before0_3_of m (dats m 0 c) (A_eq m c 3) (fun _ => by dsimp only [dats]),
    before0_4_of m (dats m 0 c) (A_eq m c 4) (fun _ => by dsimp only [dats]),
    before0_5_of m (dats m 0 c) (A_eq m c 5) (fun _ => by dsimp only [dats]),
    before0_6_of m (dats m 0 c) (A_eq m c 6) (fun _ => by dsimp only [dats]),
    before0_7_of m (dats m 0 c) (A_eq m c 7) (fun _ => by dsimp only [dats]),
    before0_8_of m (dats m 0 c) (A_eq m c 8) (fun _ => by dsimp only [dats]),
    before0_9_of m (dats m 0 c) (A_eq m c 9) (fun _ => by dsimp only [dats])]
  by_cases h0 : t.val % 16 = 0
  · rw [outs_first c m t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply (body_first c (bufs t) (grid0.coords t) ((hcond0_0 t).mpr h0) (blks m c t)
      ⟨(dats m 0 c).before 10 t d10, (dats m 0 c).before 11 t d11, (dats m 0 c).before 12 t d12, (dats m 0 c).before 13 t d13, (dats m 0 c).before 14 t d14, (dats m 0 c).before 15 t d15, (dats m 0 c).before 16 t d16, (dats m 0 c).before 17 t d17, (dats m 0 c).before 18 t d18, (dats m 0 c).before 19 t d19, (dats m 0 c).before 20 t d20⟩)
    isplitl [H0 H1 H2 H3 H4 H5 H6 H7 H8 H9 H10 H11 H12 H13 H14 H15 H16 H17 H18 H19 H20]
    · unfold held left bufs blks
      isplitl [H0 H1 H2 H3 H4 H5 H6 H7 H8 H9]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      iexact H20
    unfold held left bufs blks
    iintro ⟨⟨H0, H1, H2, H3, H4, H5, H6, H7, H8, H9⟩, H10, H11, H12, H13, H14, H15, H16, H17, H18, H19, H20⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  · rw [outs_next c m t h0]
    simp only [before_16 c m t h0, before_17 c m t h0, before_18 c m t h0, before_19 c m t h0, before_20 c m t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply (body_next c (bufs t) (grid0.coords t) (fun h => h0 ((hcond0_0 t).mp h)) (blks m c t)
      ⟨(dats m 0 c).before 10 t d10, (dats m 0 c).before 11 t d11, (dats m 0 c).before 12 t d12, (dats m 0 c).before 13 t d13, (dats m 0 c).before 14 t d14, (dats m 0 c).before 15 t d15, (outs m c (t.val - 1) (Nat.lt_of_le_of_lt (Nat.sub_le _ _) t.isLt)).dw, (outs m c (t.val - 1) (Nat.lt_of_le_of_lt (Nat.sub_le _ _) t.isLt)).dkv, (outs m c (t.val - 1) (Nat.lt_of_le_of_lt (Nat.sub_le _ _) t.isLt)).dg, (outs m c (t.val - 1) (Nat.lt_of_le_of_lt (Nat.sub_le _ _) t.isLt)).db, (outs m c (t.val - 1) (Nat.lt_of_le_of_lt (Nat.sub_le _ _) t.isLt)).loss⟩)
    isplitl [H0 H1 H2 H3 H4 H5 H6 H7 H8 H9 H10 H11 H12 H13 H14 H15 H16 H17 H18 H19 H20]
    · unfold held left bufs blks
      isplitl [H0 H1 H2 H3 H4 H5 H6 H7 H8 H9]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      iexact H20
    unfold held left bufs blks
    iintro ⟨⟨H0, H1, H2, H3, H4, H5, H6, H7, H8, H9⟩, H10, H11, H12, H13, H14, H15, H16, H17, H18, H19, H20⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

theorem body_row (t : Fin cfg0.N) :
    defs₀ (F := F) .tc cfg0.body (cfg0.bodyArgs t (cfg0.slots t)) = bodyAt0 t := by
  unfold defs₀; rw [Defs.onTc_tc]

set_option maxHeartbeats 2000000 in
theorem obligation (c : Dev nD) : BodyObligation (dats (F := F) m 0 c) (defs₀ (F := F)) Variants.none () Set.univ := fun t => by
  rw [bigSep_W0, bigSep_W0, body_row]
  refine triple_restated (sound c m t) rfl .rfl fun _ => ?_
  unfold post
  refine sep_mono .rfl (sep_mono .rfl (sep_mono .rfl (sep_mono .rfl (sep_mono .rfl (sep_mono .rfl (sep_mono .rfl (sep_mono .rfl (
    sep_mono .rfl (sep_mono .rfl (sep_mono .rfl (sep_mono .rfl (sep_mono .rfl (sep_mono .rfl (sep_mono .rfl (sep_mono .rfl (
    sep_mono .rfl (sep_mono .rfl (sep_mono .rfl (sep_mono .rfl (sep_mono .rfl (sep_mono .rfl (?_))))))))))))))))))))))
  split
  · rename_i hi
    exact absurd hi Bool.false_ne_true
  · split
    · rename_i hi
      have h0 : ¬ t.val % 16 = 0 := fun h => Bool.false_ne_true (((idle_20 t).mpr h).symm.trans hi)
      split
      · iintro H
        iexists (outs m c t.val t.isLt).loss
        rw [before_20 c m t h0, outs_loss c m (t.val - 1), ← outs_loss c m t.val t.isLt]
        iexact H
      · exact .rfl
    · exact .rfl

/-! ## The run -/

set_option backward.isDefEq.respectTransparency.types false in
set_option maxHeartbeats 2000000 in
/-- Every fair execution ends with the arrays at what the points left, all counters at zero. -/
theorem run_all : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_all m ρ)

/-- The arguments end as they were, and every counter is zero. -/
theorem frame_kernel : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run m ρ)) ((θ_run defs _ _).mono (fun _ h => h.2) (run_all m ρ))

end Cert.MixRun

end
-- ==== Proof.MixFrame.lean ====
/-
The compiled first layer's gradient program: the same text as the idealized one at `Bits`, with no constant replaced.
-/
module

public import proofs.«01_k».proof.Proof.MixRun
public import proofs.«01_k».proof.Proof.Gen.Kernel4
public import Idealize.ShloMosaic.Lib.Tactic
public import proofs.«01_k».proof.Defs

@[expose] public section

set_option maxRecDepth 16384

noncomputable section
namespace Cert.MixFrame
open Idealize.ShloMosaic Idealize.ShloMosaic.TcCoe Idealize.SL.Sem

/-- At `Bits` a named constant is its bits. -/
abbrev plain : Named Bits := ⟨fun _ _ {φ} bits => FloatOps.ofBits φ bits⟩

theorem frame_kernel : Cert.quiescent_Kernel4 := fun m g _ => by
  refine Eq.mp ?_ (@Cert.MixRun.frame_kernel Bits _ plain m g)
  sl_kernel_rfl

end Cert.MixFrame
end
-- ==== Proof.MixBlock.lean ====
/-
One block of 512 rows of the first layer's gradient kernel: the values of the arrays its body computes where the
blocks it reads hold real numbers. The row's target is chosen so that the model's cotangent `dh` is the layer's.
-/
module

public import proofs.«01_k».proof.Proof.Heads
public import proofs.«01_k».proof.Proof.MixStep
public import proofs.«01_k».proof.Proof.Gen.Kernel4Ideal.Frame

@[expose] public section

set_option maxRecDepth 16384

noncomputable section

open Idealize.ShloMosaic
open Cert.Kernel4Ideal Cert.Kernel4Ideal.Gen

namespace Cert.Mix

open Cert.Core Cert.Model Cert.Heads

/-- The blocks hold the parameters `W` and the rows `X`, and the cotangent is theirs. -/
structure Holds (I : Ins Ideal) (W : Params) (X : Fin 512 → Row) : Prop where
  tok : ∀ r c, I.tok (ix2 r c) = (((X r).tok c : ℝ) : EReal)
  gate : ∀ r c, I.gate (ix2 r c) = (((X r).gate c : ℝ) : EReal)
  qm : ∀ r c, I.qm (ix2 r c) = (((X r).qm c : ℝ) : EReal)
  kv : ∀ r c, I.kv (ix2 r c) = ((W.kv r c : ℝ) : EReal)
  w : ∀ r c, I.w (ix2 r c) = ((W.w r c : ℝ) : EReal)
  h : ∀ r c, I.h (ix2 r c) = (((X r).h c : ℝ) : EReal)
  g : ∀ r c, I.g (ix2 r c) = ((W.g c : ℝ) : EReal)
  b : ∀ r c, I.b (ix2 r c) = ((W.b c : ℝ) : EReal)
  up : ∀ r c, I.up (ix2 r c) = ((dh W (X r) c : ℝ) : EReal)

/-- The feature `d` of token head `a`. -/
def feat (a : Fin 12) (d : Fin 64) : Fin 768 := ⟨64 * a.val + d.val, by omega⟩
/-- The sum of a token head's output times its cotangent. -/
def delta (W : Params) (x : Row) (a : Fin 12) : ℝ := ∑ d, dcat W x (tcol (feat a d)) * x.tok (feat a d)

theorem lo_mask (r : Fin 512) (l : Fin 128) : k0_pay92 (ix2 r l) = if l.val < 64 then 1#1 else 0#1 := by
  pointwise [k0_pay92]; exact word_slt l
theorem hi_mask (r : Fin 512) (l : Fin 128) : k0_pay98 lane (ix2 r l) = if 64 ≤ l.val then 1#1 else 0#1 := by
  pointwise [k0_pay98]; exact word_sge l
theorem lo_mask' (r : Fin 512) (l : Fin 128) : k0_pay108 lane (ix2 r l) = if l.val < 64 then 1#1 else 0#1 := by
  pointwise [k0_pay108]; exact word_slt l
theorem hi_mask' (r : Fin 512) (l : Fin 128) : k0_pay115 lane (ix2 r l) = if 64 ≤ l.val then 1#1 else 0#1 := by
  pointwise [k0_pay115]; exact word_sge l

/-! ## A pair of heads' sums -/

/-- One plane: the pair's log-sums on lanes 0 and 1, its two sums over 64 lanes on 2 and 3. -/
def piece (s : FVec Ideal S512x128 .f32) (a b : FVec Ideal S512x1 .f32) : FVec Ideal S1x512x128 .f32 :=
  let lo := shapeCast S512x1 (multiReduction .add [1] S512
    (select (cmpi .slt lane (broadcast S512x128 64#32)) s (broadcast S512x128 (Scalar.ofBits .f32 0x00000000#32)))
    0x00000000#32 reduces_S512x128_S512 (.inl rfl) rfl) shapeCasts_S512_S512x1
  let hi := shapeCast S512x1 (multiReduction .add [1] S512
    (select (cmpi .sge lane (broadcast S512x128 64#32)) s (broadcast S512x128 (Scalar.ofBits .f32 0x00000000#32)))
    0x00000000#32 reduces_S512x128_S512 (.inl rfl) rfl) shapeCasts_S512_S512x1
  let on (v : FVec Ideal S512x1 .f32) : FVec Ideal S512x128 .f32 :=
    broadcastTo S512x128 (shapeCast S512x1 v shapeCasts_S512x1_S512x1) broadcasts_S512x1_S512x128
  shapeCast S1x512x128
    (select (cmpi .eq lane (broadcast S512x128 0#32)) (on (shapeCast S512x1 a shapeCasts_S512x1_S512x1))
      (select (cmpi .eq lane (broadcast S512x128 1#32)) (on (shapeCast S512x1 b shapeCasts_S512x1_S512x1))
        (select (cmpi .eq lane (broadcast S512x128 2#32)) (on lo)
          (select (cmpi .eq lane (broadcast S512x128 3#32)) (on hi)
            (broadcast S512x128 (Scalar.ofBits .f32 0x00000000#32)))))) shapeCasts_S512x128_S1x512x128

section
variable {s : FVec Ideal S512x128 .f32} {f : Fin 512 → Fin 128 → ℝ} (hs : ∀ r l, s (ix2 r l) = ((f r l : ℝ) : EReal))
  (a b : FVec Ideal S512x1 .f32)
include hs

theorem piece_lo (r : Fin 512) :
    piece s a b (ix3 0 r 2) = ((∑ d : Fin 64, f r ⟨d.val, by omega⟩ : ℝ) : EReal) := by
  pointwise [piece]
  simp only [word_slt, select_ite, hs, ← EReal.coe_zero, ite_real, coe_sum, sum_lo]
  simp [IntOp.cmpi, Scalar.select]
theorem piece_hi (r : Fin 512) :
    piece s a b (ix3 0 r 3) = ((∑ d : Fin 64, f r ⟨64 + d.val, by omega⟩ : ℝ) : EReal) := by
  pointwise [piece]
  simp only [word_sge, select_ite, hs, ← EReal.coe_zero, ite_real, coe_sum, sum_hi]
  simp [IntOp.cmpi, Scalar.select]
end

section
variable {I : Ins Ideal} {W : Params} {X : Fin 512 → Row} (H : Holds I W X)
include H

theorem gate_read (r : Fin 512) (c : Fin 1024) : v4 I (ix2 r c) = (((X r).gate c : ℝ) : EReal) := by
  pointwise [k0_pay6]; exact H.gate r c
theorem qm_read (r : Fin 512) (c : Fin 256) : v6 I (ix2 r c) = (((X r).qm c : ℝ) : EReal) := by
  pointwise [k0_pay7]; exact H.qm r c
theorem kv_read (r : Fin 256) (c : Fin 512) : v8 I (ix2 r c) = ((W.kv r c : ℝ) : EReal) := by
  pointwise [k0_pay8]; exact H.kv r c
theorem w_read (r : Fin 1024) (c : Fin 1024) : v10 I (ix2 r c) = ((W.w r c : ℝ) : EReal) := by
  pointwise [k0_pay9]; exact H.w r c
theorem g_read (r : Fin 1) (c : Fin 1024) : v12 I (ix2 r c) = ((W.g c : ℝ) : EReal) := by
  pointwise [k0_pay10]; exact H.g r c
theorem tok_read (r : Fin 512) (c : Fin 768) : v14 I (ix2 r c) = (((X r).tok c : ℝ) : EReal) := by
  pointwise [k0_pay11]; exact H.tok r c
theorem h_read (r : Fin 512) (c : Fin 1024) : v16 I (ix2 r c) = (((X r).h c : ℝ) : EReal) := by
  pointwise [k0_pay12]; exact H.h r c
theorem up_read (r : Fin 512) (c : Fin 1024) : k0_pay35 I.up (ix2 r c) = ((dh W (X r) c : ℝ) : EReal) := by
  pointwise [k0_pay35]; exact H.up r c

/-! ### The two pairs' lanes -/

theorem q0_read (r : Fin 512) (l : Fin 128) : v18 I (ix2 r l) = (((X r).qm ⟨l.val, by omega⟩ : ℝ) : EReal) := by
  pointwise [k0_pay13]; exact qm_read H r _
theorem k0_read (r : Fin 256) (l : Fin 128) : v19 I (ix2 r l) = ((W.kv r ⟨l.val, by omega⟩ : ℝ) : EReal) := by
  pointwise [k0_pay14]; exact kv_read H r _
theorem u0_read (r : Fin 256) (l : Fin 128) : v20 I (ix2 r l) = ((W.kv r ⟨256 + l.val, by omega⟩ : ℝ) : EReal) := by
  pointwise [k0_pay15]; exact kv_read H r _
theorem q1_read (r : Fin 512) (l : Fin 128) : v60 I (ix2 r l) = (((X r).qm ⟨128 + l.val, by omega⟩ : ℝ) : EReal) := by
  pointwise [k0_pay21]; exact qm_read H r _
theorem k1_read (r : Fin 256) (l : Fin 128) : v61 I (ix2 r l) = ((W.kv r ⟨128 + l.val, by omega⟩ : ℝ) : EReal) := by
  pointwise [k0_pay22]; exact kv_read H r _
theorem u1_read (r : Fin 256) (l : Fin 128) : v62 I (ix2 r l) = ((W.kv r ⟨384 + l.val, by omega⟩ : ℝ) : EReal) := by
  pointwise [k0_pay23]; exact kv_read H r _

/-! ### Probabilities of the four heads -/

theorem p0_read (r : Fin 512) (m : Fin 256) : v36 I (ix2 r m) = ((prob W (X r) 0 m : ℝ) : EReal) := by
  refine (congrFun (show v36 I = headP k0_pay92 (v18 I) (v19 I) from rfl) _).trans ?_
  rw [headP_read (P := fun l => l.val < 64) lo_mask (q0_read H) (k0_read H) r m]
  simp only [sum_lo, prob]
  rfl
theorem p1_read (r : Fin 512) (m : Fin 256) : v54 I (ix2 r m) = ((prob W (X r) 1 m : ℝ) : EReal) := by
  refine (congrFun (show v54 I = headP (k0_pay98 lane) (v18 I) (v19 I) from rfl) _).trans ?_
  rw [headP_read (P := fun l => 64 ≤ l.val) hi_mask (q0_read H) (k0_read H) r m]
  simp only [sum_hi, prob]
  rfl
theorem p2_read (r : Fin 512) (m : Fin 256) : v78 I (ix2 r m) = ((prob W (X r) 2 m : ℝ) : EReal) := by
  refine (congrFun (show v78 I = headP k0_pay92 (v60 I) (v61 I) from rfl) _).trans ?_
  rw [headP_read (P := fun l => l.val < 64) lo_mask (q1_read H) (k1_read H) r m]
  simp only [sum_lo, prob]
  exact congrArg _ (congrArg (softmax · m) (funext fun n => congrArg (· * (1 / 8 : ℝ)) (Finset.sum_congr rfl fun d _ => by
    congr 2 <;> exact Fin.ext (by simp [col, kcol]))))
theorem p3_read (r : Fin 512) (m : Fin 256) : v96 I (ix2 r m) = ((prob W (X r) 3 m : ℝ) : EReal) := by
  refine (congrFun (show v96 I = headP (k0_pay98 lane) (v60 I) (v61 I) from rfl) _).trans ?_
  rw [headP_read (P := fun l => 64 ≤ l.val) hi_mask (q1_read H) (k1_read H) r m]
  simp only [sum_hi, prob]
  exact congrArg _ (congrArg (softmax · m) (funext fun n => congrArg (· * (1 / 8 : ℝ)) (Finset.sum_congr rfl fun d _ => by
    congr 2 <;> exact Fin.ext (by simp [col, kcol]; omega))))

/-! ### The memory attention's output and the concatenated row -/

theorem mo0_read (r : Fin 512) (l : Fin 128) : v59 I (ix2 r l) = ((mo W (X r) ⟨l.val, by omega⟩ : ℝ) : EReal) := by
  pointwise [k0_pay20]
  simp only [p0_read H, p1_read H, u0_read H, ← EReal.coe_mul, coe_sum, word_slt, select_ite, ite_real, mo]
  refine congrArg _ ?_
  by_cases h : l.val < 64
  · rw [if_pos h, show hd ⟨l.val, _⟩ = 0 from Fin.ext (Nat.div_eq_of_lt h)]; rfl
  · rw [if_neg h, show hd ⟨l.val, _⟩ = 1 from Fin.ext (by simp only [hd]; omega)]; rfl

theorem mo1_read (r : Fin 512) (l : Fin 128) :
    Scalar.select (IntOp.cmpi .slt (BitVec.ofNat 32 l.val) 64#32) (∑ m : Fin 256, v78 I (ix2 r m) * v62 I (ix2 m l))
      (∑ m : Fin 256, v96 I (ix2 r m) * v62 I (ix2 m l)) = ((mo W (X r) ⟨128 + l.val, by omega⟩ : ℝ) : EReal) := by
  simp only [p2_read H, p3_read H, u1_read H, ← EReal.coe_mul, coe_sum, word_slt, select_ite, ite_real, mo]
  have hv : vcol ⟨128 + l.val, by omega⟩ = ⟨384 + l.val, by omega⟩ := Fin.ext (by simp only [vcol]; omega)
  refine congrArg _ ?_
  by_cases h : l.val < 64
  · rw [if_pos h, show hd ⟨128 + l.val, _⟩ = 2 from Fin.ext (by simp only [hd]; omega), hv]
  · rw [if_neg h, show hd ⟨128 + l.val, _⟩ = 3 from Fin.ext (by simp only [hd]; omega), hv]

theorem cat_read (r : Fin 512) (c : Fin 1024) : v103 I (ix2 r c) = ((cat W (X r) c : ℝ) : EReal) := by
  pointwise [k0_pay27, k0_pay25]
  rw [cat]
  by_cases h : c.val < 768
  · rw [dif_pos h, dif_pos h, tok_read H]
  · rw [dif_neg h, dif_neg h]
    by_cases h1 : c.val - 768 < 128
    · rw [dif_pos h1, mo0_read H]
    · rw [dif_neg h1]
      refine (mo1_read H r ⟨c.val - 768 - 128, by omega⟩).trans (congrArg (fun i => ((mo W (X r) i : ℝ) : EReal)) (Fin.ext ?_))
      show 128 + (c.val - 768 - 128) = c.val - 768
      omega

theorem sg_read (r : Fin 512) (c : Fin 1024) : v104 I (ix2 r c) = ((sg (X r) c : ℝ) : EReal) := by
  pointwise [k0_pay28]
  simp only [gate_read H]
  exact (Ideal.logistic_coe _)
theorem sl_read (r : Fin 512) (c : Fin 1024) : v105 I (ix2 r c) = ((sl (X r) c : ℝ) : EReal) := by
  pointwise [k0_pay29]
  simp only [gate_read H, sg_read H, ← EReal.coe_mul, sl]
theorem y_read (r : Fin 512) (c : Fin 1024) : v106 I (ix2 r c) = ((y W (X r) c : ℝ) : EReal) := by
  pointwise [k0_pay30]
  simp only [cat_read H, sl_read H, ← EReal.coe_mul, y]
theorem xc_read (r : Fin 512) (k : Fin 1024) : v117 I (ix2 r k) = ((xc W (X r) k : ℝ) : EReal) := by
  pointwise [k0_pay31]
  simp only [y_read H, w_read H, h_read H, bits_alpha, bits_1024, ← EReal.coe_mul, coe_sum, ← EReal.coe_add,
    div_real _ (show (1024 : ℝ) ≠ 0 by norm_num), ← EReal.coe_sub]
  rfl
theorem var_read (r : Fin 512) (u : Fin 1) : v124 I (ix2 r u) = ((var W (X r) + eps : ℝ) : EReal) := by
  pointwise [k0_pay32]
  simp only [xc_read H, bits_eps, bits_1024, ← EReal.coe_mul, coe_sum, div_real _ (show (1024 : ℝ) ≠ 0 by norm_num),
    ← EReal.coe_add]
  rfl
theorem rstd_read (r : Fin 512) (u : Fin 1) : k0_pay33 (v124 I) (ix2 r u) = ((rstd W (X r) : ℝ) : EReal) := by
  pointwise [k0_pay33]
  simp only [var_read H]
  exact rsqrt_real (var_eps_pos W (X r))
theorem xh_read (r : Fin 512) (k : Fin 1024) : k0_pay34 (v117 I) (v124 I) (ix2 r k) = ((xh W (X r) k : ℝ) : EReal) := by
  pointwise [k0_pay34]
  simp only [xc_read H, rstd_read H, ← EReal.coe_mul, xh]

/-! ### Through the layer norm, the projection and the gate -/

theorem dr_read (r : Fin 512) (k : Fin 1024) : v160 I (ix2 r k) = ((dr W (X r) k : ℝ) : EReal) := by
  pointwise [k0_pay38]
  simp only [up_read H, g_read H, xh_read H, rstd_read H, bits_1024, ← EReal.coe_mul, coe_sum,
    div_real _ (show (1024 : ℝ) ≠ 0 by norm_num), ← EReal.coe_sub]
  rfl
theorem drb_read (r : Fin 512) (k : Fin 1024) : k0_pay40 (v160 I) (ix2 r k) = ((dr W (X r) k : ℝ) : EReal) := by
  pointwise [k0_pay40]; exact dr_read H r k
theorem dy_read (r : Fin 512) (c : Fin 1024) : k0_pay41 (v10 I) (v160 I) (ix2 r c) = ((dy W (X r) c : ℝ) : EReal) := by
  pointwise [k0_pay41]
  simp only [drb_read H, w_read H, ← EReal.coe_mul, coe_sum, dy]
theorem dcat_read (r : Fin 512) (c : Fin 1024) : v172 I (ix2 r c) = ((dcat W (X r) c : ℝ) : EReal) := by
  pointwise [k0_pay43]
  simp only [dy_read H, sl_read H, ← EReal.coe_mul, dcat]
theorem dtok_read (r : Fin 512) (c : Fin 768) : v184 I (ix2 r c) = ((dcat W (X r) (tcol c) : ℝ) : EReal) := by
  pointwise [k0_pay45]
  exact dcat_read H r _
theorem dob_read (r : Fin 512) (c : Fin 768) :
    k0_pay46 (v10 I) (v105 I) (v160 I) (ix2 r c) = ((dcat W (X r) (tcol c) : ℝ) : EReal) := by
  pointwise [k0_pay46]
  exact dtok_read H r c
theorem prod_read (r : Fin 512) (c : Fin 768) :
    v188 I (ix2 r c) = ((dcat W (X r) (tcol c) * (X r).tok c : ℝ) : EReal) := by
  pointwise [k0_pay47]
  simp only [dtok_read H, H.tok, ← EReal.coe_mul]
theorem dmo_read (r : Fin 512) (c : Fin 256) : v459 I (ix2 r c) = ((dmo W (X r) c : ℝ) : EReal) := by
  pointwise [k0_pay87]
  exact dcat_read H r _

/-! ### The transposed cotangent and the heads' sums -/

theorem dobts_read : ∀ (p : Fin 6) (l : Fin 128) (r : Fin 512),
    dobts I p (ix2 l r) = ((dcat W (X r) (tcol ⟨128 * p.val + l.val, by omega⟩) : ℝ) : EReal)
  | 0, l, r => by
    show k0_pay48 (v10 I) (v105 I) (v160 I) (ix2 l r) = _
    pointwise [k0_pay48]; exact dtok_read H r _
  | 1, l, r => by
    show k0_pay52 (v184 I) (ix2 l r) = _
    pointwise [k0_pay52]; exact dtok_read H r _
  | 2, l, r => by
    show k0_pay56 (v184 I) (ix2 l r) = _
    pointwise [k0_pay56]; exact dtok_read H r _
  | 3, l, r => by
    show k0_pay59 (v184 I) (ix2 l r) = _
    pointwise [k0_pay59]; exact dtok_read H r _
  | 4, l, r => by
    show k0_pay66 (v184 I) (ix2 l r) = _
    pointwise [k0_pay66]; exact dtok_read H r _
  | 5, l, r => by
    show k0_pay77 (v184 I) (ix2 l r) = _
    pointwise [k0_pay77]; exact dtok_read H r _

theorem dobt_read (c : Fin 768) (r : Fin 512) : rows (dobts I) (ix2 c r) = ((dcat W (X r) (tcol c) : ℝ) : EReal) := by
  refine (dobts_read H ⟨c.val / 128, by omega⟩ ⟨c.val % 128, by omega⟩ r).trans ?_
  exact congrArg (fun i => ((dcat W (X r) (tcol i) : ℝ) : EReal)) (Fin.ext (by simp only []; omega))

theorem slice_read (p : Fin 6) (h : S512x768.Slices ![0, 128 * p.val] S512x128) (r : Fin 512) (l : Fin 128) :
    extractStridedSlice S512x128 ![0, 128 * p.val] (v188 I) h (ix2 r l)
      = ((dcat W (X r) (tcol ⟨128 * p.val + l.val, by omega⟩) * (X r).tok ⟨128 * p.val + l.val, by omega⟩ : ℝ) : EReal) := by
  pointwise []
  exact prod_read H r _
end

end Cert.Mix

end
-- ==== Proof.MixGrad.lean ====
/-
One block of 512 rows of the first layer's gradient kernel, continued: the heads' sums, the gradients through the
memory attention, and what the block adds to the results accumulated over the blocks.
-/
module

public import proofs.«01_k».proof.Proof.MixBlock

@[expose] public section

set_option maxRecDepth 16384

noncomputable section

open Idealize.ShloMosaic
open Cert.Kernel4Ideal Cert.Kernel4Ideal.Gen

namespace Cert.Mix

open Cert.Core Cert.Model Cert.Heads

section
variable {I : Ins Ideal} {W : Params} {X : Fin 512 → Row} (H : Holds I W X)
include H

/-! ### The heads' sums -/

theorem sums_lo : ∀ (p : Fin 6) (r : Fin 512),
    sums I p (ix3 0 r 2) = ((delta W (X r) ⟨2 * p.val, by omega⟩ : ℝ) : EReal) := by
  have key : ∀ (p : Fin 6) (h : S512x768.Slices ![0, 128 * p.val] S512x128) (a b : FVec Ideal S512x1 .f32)
      (e : sums I p = piece (extractStridedSlice S512x128 ![0, 128 * p.val] (v188 I) h) a b) (r : Fin 512),
      sums I p (ix3 0 r 2) = ((delta W (X r) ⟨2 * p.val, by omega⟩ : ℝ) : EReal) := fun p h a b e r => by
    refine (congrFun e _).trans ((piece_lo (slice_read H p h) a b r).trans ?_)
    refine congrArg _ (Finset.sum_congr rfl fun d _ => ?_)
    rw [show (⟨128 * p.val + d.val, by omega⟩ : Fin 768) = feat ⟨2 * p.val, by omega⟩ d from
      Fin.ext (by simp only [feat]; omega)]
  intro p
  match p with
  | 0 => exact key 0 slices_S512x768_o0_0_S512x128 _ _ rfl
  | 1 => exact key 1 slices_S512x768_o0_128_S512x128 _ _ rfl
  | 2 => exact key 2 slices_S512x768_o0_256_S512x128 _ _ rfl
  | 3 => exact key 3 slices_S512x768_o0_384_S512x128 _ _ rfl
  | 4 => exact key 4 slices_S512x768_o0_512_S512x128 _ _ rfl
  | 5 => exact key 5 slices_S512x768_o0_640_S512x128 _ _ rfl
theorem sums_hi : ∀ (p : Fin 6) (r : Fin 512),
    sums I p (ix3 0 r 3) = ((delta W (X r) ⟨2 * p.val + 1, by omega⟩ : ℝ) : EReal) := by
  have key : ∀ (p : Fin 6) (h : S512x768.Slices ![0, 128 * p.val] S512x128) (a b : FVec Ideal S512x1 .f32)
      (e : sums I p = piece (extractStridedSlice S512x128 ![0, 128 * p.val] (v188 I) h) a b) (r : Fin 512),
      sums I p (ix3 0 r 3) = ((delta W (X r) ⟨2 * p.val + 1, by omega⟩ : ℝ) : EReal) := fun p h a b e r => by
    refine (congrFun e _).trans ((piece_hi (slice_read H p h) a b r).trans ?_)
    refine congrArg _ (Finset.sum_congr rfl fun d _ => ?_)
    rw [show (⟨128 * p.val + (64 + d.val), by omega⟩ : Fin 768) = feat ⟨2 * p.val + 1, by omega⟩ d from
      Fin.ext (by simp only [feat]; omega)]
  intro p
  match p with
  | 0 => exact key 0 slices_S512x768_o0_0_S512x128 _ _ rfl
  | 1 => exact key 1 slices_S512x768_o0_128_S512x128 _ _ rfl
  | 2 => exact key 2 slices_S512x768_o0_256_S512x128 _ _ rfl
  | 3 => exact key 3 slices_S512x768_o0_384_S512x128 _ _ rfl
  | 4 => exact key 4 slices_S512x768_o0_512_S512x128 _ _ rfl
  | 5 => exact key 5 slices_S512x768_o0_640_S512x128 _ _ rfl

/-! ### Through the four heads -/

theorem do0_read (r : Fin 512) (l : Fin 128) :
    k0_pay94 (v172 I) (ix2 r l) = ((if l.val < 64 then dmo W (X r) ⟨l.val, by omega⟩ else 0 : ℝ) : EReal) := by
  pointwise [k0_pay94, k0_pay91]
  simp only [lo_mask, dmo_read H, select_ite, ← EReal.coe_zero, ite_real]
theorem do1_read (r : Fin 512) (l : Fin 128) :
    k0_pay99 lane (v464 I) (ix2 r l) = ((if 64 ≤ l.val then dmo W (X r) ⟨l.val, by omega⟩ else 0 : ℝ) : EReal) := by
  pointwise [k0_pay99, k0_pay91]
  simp only [hi_mask, dmo_read H, select_ite, ← EReal.coe_zero, ite_real]
theorem do2_read (r : Fin 512) (l : Fin 128) :
    k0_pay110 (v459 I) lane (ix2 r l) = ((if l.val < 64 then dmo W (X r) ⟨128 + l.val, by omega⟩ else 0 : ℝ) : EReal) := by
  pointwise [k0_pay110, k0_pay107]
  simp only [lo_mask', dmo_read H, select_ite, ← EReal.coe_zero, ite_real]
theorem do3_read (r : Fin 512) (l : Fin 128) :
    k0_pay116 lane (v515 I) (ix2 r l) = ((if 64 ≤ l.val then dmo W (X r) ⟨128 + l.val, by omega⟩ else 0 : ℝ) : EReal) := by
  pointwise [k0_pay116, k0_pay107]
  simp only [hi_mask', dmo_read H, select_ite, ← EReal.coe_zero, ite_real]

theorem vv0_read (r : Fin 256) (l : Fin 128) : v463 I (ix2 r l) = ((W.kv r ⟨256 + l.val, by omega⟩ : ℝ) : EReal) := by
  pointwise [k0_pay90]; exact kv_read H r _
theorem vv1_read (r : Fin 256) (l : Fin 128) : v514 I (ix2 r l) = ((W.kv r ⟨384 + l.val, by omega⟩ : ℝ) : EReal) := by
  pointwise [k0_pay106]; exact kv_read H r _

theorem ds0_read (r : Fin 512) (m : Fin 256) : v483 I (ix2 r m) = ((ds W (X r) 0 m : ℝ) : EReal) := by
  refine (congrFun (show v483 I = headDs (v36 I) (k0_pay94 (v172 I)) (v463 I) from rfl) _).trans ?_
  rw [headDs_read (p0_read H) (do0_read H) (vv0_read H) r m]
  simp only [ite_mul, zero_mul, sum_lo, ds, dp]
  rfl
theorem ds1_read (r : Fin 512) (m : Fin 256) :
    k0_pay100 (v54 I) lane (v463 I) (v464 I) (ix2 r m) = ((ds W (X r) 1 m : ℝ) : EReal) := by
  refine (congrFun (show k0_pay100 (v54 I) lane (v463 I) (v464 I) = headDs (v54 I) (k0_pay99 lane (v464 I)) (v463 I) from rfl) _).trans ?_
  rw [headDs_read (p1_read H) (do1_read H) (vv0_read H) r m]
  simp only [ite_mul, zero_mul, sum_hi, ds, dp]
  have e : ∀ (n : Fin 256) (d : Fin 64), W.kv n (vcol (col 1 d)) = W.kv n ⟨256 + (64 + d.val), by omega⟩ := fun n d => rfl
  have e' : ∀ d : Fin 64, dmo W (X r) (col 1 d) = dmo W (X r) ⟨64 + d.val, by omega⟩ := fun d => rfl
  simp only [e, e']
theorem ds2_read (r : Fin 512) (m : Fin 256) :
    k0_pay114 (v78 I) (v525 I) (v528 I) (ix2 r m) = ((ds W (X r) 2 m : ℝ) : EReal) := by
  refine (congrFun (show k0_pay114 (v78 I) (v525 I) (v528 I) = headDs (v78 I) (k0_pay110 (v459 I) lane) (v514 I) from rfl) _).trans ?_
  rw [headDs_read (p2_read H) (do2_read H) (vv1_read H) r m]
  simp only [ite_mul, zero_mul, sum_lo, ds, dp]
  have e : ∀ (n : Fin 256) (d : Fin 64), W.kv n (vcol (col 2 d)) = W.kv n ⟨384 + d.val, by omega⟩ :=
    fun n d => congrArg (W.kv n) (Fin.ext (by simp only [vcol, col]; norm_num; omega))
  have e' : ∀ d : Fin 64, dmo W (X r) (col 2 d) = dmo W (X r) ⟨128 + d.val, by omega⟩ := fun d => rfl
  simp only [e, e']
theorem ds3_read (r : Fin 512) (m : Fin 256) :
    k0_pay117 (v96 I) lane (v514 I) (v515 I) (ix2 r m) = ((ds W (X r) 3 m : ℝ) : EReal) := by
  refine (congrFun (show k0_pay117 (v96 I) lane (v514 I) (v515 I) = headDs (v96 I) (k0_pay116 lane (v515 I)) (v514 I) from rfl) _).trans ?_
  rw [headDs_read (p3_read H) (do3_read H) (vv1_read H) r m]
  simp only [ite_mul, zero_mul, sum_hi, ds, dp]
  have e : ∀ (n : Fin 256) (d : Fin 64), W.kv n (vcol (col 3 d)) = W.kv n ⟨384 + (64 + d.val), by omega⟩ :=
    fun n d => congrArg (W.kv n) (Fin.ext (by simp only [vcol, col]; norm_num; omega))
  have e' : ∀ d : Fin 64, dmo W (X r) (col 3 d) = dmo W (X r) ⟨128 + (64 + d.val), by omega⟩ :=
    fun d => congrArg (dmo W (X r)) (Fin.ext (by simp only [col]; norm_num; omega))
  simp only [e, e']

/-! ### The tiled results -/

theorem dres_read (r : Fin 512) (k : Fin 1024) : v162 I (ix2 r k) = ((alpha * dr W (X r) k : ℝ) : EReal) := by
  pointwise [k0_pay39]
  simp only [dr_read H, bits_alpha, ← EReal.coe_mul]
theorem dgate_read (r : Fin 512) (c : Fin 1024) :
    k0_pay44 (v4 I) (v10 I) (v103 I) (v104 I) (v160 I) (ix2 r c) = ((dgate W (X r) c : ℝ) : EReal) := by
  pointwise [k0_pay44]
  simp only [dy_read H, cat_read H, sg_read H, gate_read H, bits_one, ← EReal.coe_one, ← EReal.coe_mul, ← EReal.coe_add, ← EReal.coe_sub]
  rfl
theorem dqm_read (r : Fin 512) (c : Fin 256) :
    k0_pay118 (v78 I) (v96 I) lane (v509 I) (v513 I) (v514 I) (v515 I) (v525 I) (v528 I) (ix2 r c)
      = ((dqm W (X r) c : ℝ) : EReal) := by
  pointwise [k0_pay118, k0_pay101, k0_pay97, k0_pay89, k0_pay105]
  by_cases h : c.val < 128
  · rw [dif_pos h, word_slt_nat h, select_ite]
    simp only [ds0_read H, ds1_read H, kv_read H, ← EReal.coe_mul, coe_sum, ite_real, dqm]
    refine congrArg _ ?_
    by_cases h' : c.val < 64
    · rw [if_pos h', show hd c = 0 from Fin.ext (Nat.div_eq_of_lt h')]; rfl
    · rw [if_neg h', show hd c = 1 from Fin.ext (by simp only [hd]; omega)]; rfl
  · have h2 : c.val - 128 < 128 := by omega
    have hc : (⟨128 + (c.val - 128), by omega⟩ : Fin 512) = kcol c := Fin.ext (by simp only [kcol]; omega)
    rw [dif_neg h, word_slt_nat h2, select_ite]
    simp only [ds2_read H, ds3_read H, kv_read H, ← EReal.coe_mul, coe_sum, ite_real, dqm, hc]
    refine congrArg _ ?_
    by_cases h' : c.val - 128 < 64
    · rw [if_pos h', show hd c = 2 from Fin.ext (by simp only [hd]; omega)]
    · rw [if_neg h', show hd c = 3 from Fin.ext (by simp only [hd]; omega)]

/-! ### What the block adds to the accumulated results -/

theorem dg_read (old : Vec Ideal S1x1024 .f32) (i : Fin 1) (k : Fin 1024) :
    k0_pay36 (v117 I) (v124 I) I.up old (ix2 i k) =
      old (ix2 i k) + ((∑ r, dh W (X r) k * xh W (X r) k : ℝ) : EReal) := by
  pointwise [k0_pay36]
  simp only [up_read H, xh_read H, ← EReal.coe_mul, coe_sum]
theorem db_read (old : Vec Ideal S1x1024 .f32) (i : Fin 1) (k : Fin 1024) :
    k0_pay37 I.up old (ix2 i k) = old (ix2 i k) + ((∑ r, dh W (X r) k : ℝ) : EReal) := by
  pointwise [k0_pay37]
  simp only [up_read H, coe_sum]
theorem dw_read (old : Vec Ideal S1024x1024 .f32) (c k : Fin 1024) :
    k0_pay42 (v106 I) (v160 I) old (ix2 c k) =
      old (ix2 c k) + ((∑ r, y W (X r) c * dr W (X r) k : ℝ) : EReal) := by
  pointwise [k0_pay42]
  simp only [y_read H, drb_read H, ← EReal.coe_mul, coe_sum]
theorem dkv_read (old : Vec Ideal S256x512 .f32) (m : Fin 256) (j : Fin 512) :
    k0_pay119 (v78 I) (v96 I) lane (v510 I) (v511 I) (v512 I) (v514 I) (v515 I) (v519 I) (v524 I) (v525 I) (v528 I) old (ix2 m j)
      = old (ix2 m j) + ((∑ r, dkv W (X r) m j : ℝ) : EReal) := by
  pointwise [k0_pay119, k0_pay102, k0_pay103, k0_pay95, k0_pay93, k0_pay88, k0_pay109, k0_pay104, k0_pay111]
  refine congrArg (old (ix2 m j) + ·) ?_
  simp only [lo_mask, hi_mask, select_ite, do0_read H, do1_read H, do2_read H, do3_read H, p0_read H, p1_read H,
    p2_read H, p3_read H, ds0_read H, ds1_read H, ds2_read H, ds3_read H, qm_read H, ← EReal.coe_zero, ← EReal.coe_mul,
    ite_real, coe_sum, ← EReal.coe_add, mul_ite, mul_zero, sum_pair]
  by_cases h : j.val < 128
  · rw [dif_pos h]
    refine congrArg _ (Finset.sum_congr rfl fun r _ => ?_)
    rw [dkv, dif_pos (show j.val < 256 by omega)]
    by_cases h' : j.val < 64
    · rw [if_pos h', show hd ⟨j.val, _⟩ = 0 from Fin.ext (Nat.div_eq_of_lt h')]
    · rw [if_neg h', show hd ⟨j.val, _⟩ = 1 from Fin.ext (by simp only [hd]; omega)]
  rw [dif_neg h]
  by_cases h1 : j.val - 128 < 128
  · rw [dif_pos h1]
    have hm : ∀ x : Fin 512, k0_pay108 lane (ix2 x (⟨j.val - 128, h1⟩ : Fin 128)) = if j.val - 128 < 64 then 1#1 else 0#1 :=
      fun x => lo_mask' x _
    have hm' : ∀ x : Fin 512, k0_pay115 lane (ix2 x (⟨j.val - 128, h1⟩ : Fin 128)) = if 64 ≤ j.val - 128 then 1#1 else 0#1 :=
      fun x => hi_mask' x _
    have hj : (⟨128 + (j.val - 128), by omega⟩ : Fin 256) = ⟨j.val, by omega⟩ := Fin.ext (by simp only []; omega)
    simp only [hm, hm', select_ite, ite_real, coe_sum, ← EReal.coe_add, sum_pair, hj]
    refine congrArg _ (Finset.sum_congr rfl fun r _ => ?_)
    rw [dkv, dif_pos (show j.val < 256 by omega)]
    by_cases h' : j.val - 128 < 64
    · rw [if_pos h', show hd ⟨j.val, _⟩ = 2 from Fin.ext (by simp only [hd]; omega)]
    · rw [if_neg h', show hd ⟨j.val, _⟩ = 3 from Fin.ext (by simp only [hd]; omega)]
  rw [dif_neg h1]
  by_cases h2 : j.val - 128 - 128 < 128
  · rw [dif_pos h2]
    refine congrArg _ (Finset.sum_congr rfl fun r _ => ?_)
    rw [dkv, dif_neg (show ¬ j.val < 256 by omega)]
    have hj : (⟨j.val - 128 - 128, by omega⟩ : Fin 256) = ⟨j.val - 256, by omega⟩ := Fin.ext (by simp only []; omega)
    rw [hj]
    by_cases h' : j.val - 128 - 128 < 64
    · rw [if_pos h', show hd ⟨j.val - 256, _⟩ = 0 from Fin.ext (by simp only [hd]; omega)]
    · rw [if_neg h', show hd ⟨j.val - 256, _⟩ = 1 from Fin.ext (by simp only [hd]; omega)]
  · rw [dif_neg h2]
    refine congrArg _ (Finset.sum_congr rfl fun r _ => ?_)
    rw [dkv, dif_neg (show ¬ j.val < 256 by omega)]
    have hj : (⟨128 + (j.val - 128 - 128 - 128), by omega⟩ : Fin 256) = ⟨j.val - 256, by omega⟩ := Fin.ext (by simp only []; omega)
    rw [hj]
    by_cases h' : j.val - 128 - 128 - 128 < 64
    · rw [if_pos h', show hd ⟨j.val - 256, _⟩ = 2 from Fin.ext (by simp only [hd]; omega)]
    · rw [if_neg h', show hd ⟨j.val - 256, _⟩ = 3 from Fin.ext (by simp only [hd]; omega)]
end

end Cert.Mix

end
-- ==== Proof.MixArr.lean ====
/-
The first layer's gradient kernel's results after its grid has run, as functions of the real numbers its argument
arrays hold: six written block by block, four accumulated over the blocks and written once at the end.
-/
module

public import proofs.«01_k».proof.Proof.MixRun
public import proofs.«01_k».proof.Proof.MixGrad
public import Idealize.ShloMosaic.Lib.StableHlo.ReadAt

@[expose] public section

set_option maxRecDepth 16384
set_option maxHeartbeats 1000000

noncomputable section

open Idealize.ShloMosaic Idealize.ShloMosaic.TcCoe Idealize.ShloMosaic.Tactic Idealize.SL.Sem
open Idealize.ShloMosaic.Pipeline (Dat)
open Cert.Kernel4Ideal Cert.Kernel4Ideal.Gen

namespace Cert.MixArr

open Cert.Core Cert.Model Cert.Mix Cert.MixRun

variable (m : (ℓ : Loc nD τ sig) → Buf (Elt Ideal) ℓ)

/-- The argument arrays hold the layer's input `D`, and the cotangent is the model's. -/
structure Reads (c : Dev nD) (D : Input) : Prop where
  tok : ∀ r k, m ((c : Thread nD τ).loc main_arg0) (ix3 (0 : Fin 1) r k) = (((D.row r).tok k : ℝ) : EReal)
  gate : ∀ r k, m ((c : Thread nD τ).loc main_arg1) (ix3 (0 : Fin 1) r k) = (((D.row r).gate k : ℝ) : EReal)
  qm : ∀ r k, m ((c : Thread nD τ).loc main_arg2) (ix3 (0 : Fin 1) r k) = (((D.row r).qm k : ℝ) : EReal)
  kv : ∀ r k, m ((c : Thread nD τ).loc main_arg3) (ix3 (0 : Fin 1) r k) = ((D.par.kv r k : ℝ) : EReal)
  w : ∀ r k, m ((c : Thread nD τ).loc main_arg4) (ix2 r k) = ((D.par.w r k : ℝ) : EReal)
  h : ∀ r k, m ((c : Thread nD τ).loc main_arg5) (ix3 (0 : Fin 1) r k) = (((D.row r).h k : ℝ) : EReal)
  g : ∀ k, m ((c : Thread nD τ).loc main_arg6) (ix1 k) = ((D.par.g k : ℝ) : EReal)
  b : ∀ k, m ((c : Thread nD τ).loc main_arg7) (ix1 k) = ((D.par.b k : ℝ) : EReal)
  up : ∀ r k, m ((c : Thread nD τ).loc main_arg8) (ix3 (0 : Fin 1) r k) = ((dh D.par (D.row r) k : ℝ) : EReal)

/-! ## Which block each point reads and writes -/

theorem idx : ∀ t : Fin cfg0.N, win0_0.index t = ![t.val, 0] ∧
    win0_1.index t = ![t.val, 0] ∧
    win0_2.index t = ![t.val, 0] ∧
    win0_3.index t = ![0, 0] ∧
    win0_4.index t = ![0, 0] ∧
    win0_5.index t = ![t.val, 0] ∧
    win0_6.index t = ![0, 0] ∧
    win0_7.index t = ![0, 0] ∧
    win0_8.index t = ![t.val, 0] ∧
    win0_9.index t = ![t.val, 0] ∧
    win0_10.index t = ![t.val, 0] ∧
    win0_11.index t = ![t.val, 0] ∧
    win0_12.index t = ![0, t.val] ∧
    win0_13.index t = ![0, t.val, 0] ∧
    win0_14.index t = ![t.val, 0] ∧
    win0_15.index t = ![t.val, 0] ∧
    win0_16.index t = ![0, 0] ∧
    win0_17.index t = ![0, 0] ∧
    win0_18.index t = ![0, 0] ∧
    win0_19.index t = ![0, 0] :=
  (by decide +kernel : ∀ t : Fin grid0.N, _)

theorem pt (t : Fin cfg0.N) : t.val < 16 := t.isLt

/-- The row of the arrays that is row `r` of the block at point `t`. -/
def rowOf (t : Fin cfg0.N) (r : Fin 512) : Fin 8192 := ⟨t.val * 512 + r.val, by have := pt t; omega⟩
/-- The point whose block holds a row, and the row's place in it. -/
def ptOf (R : Fin 8192) : Fin cfg0.N := ⟨R.val / 512, (Nat.div_lt_of_lt_mul (by omega) : R.val / 512 < 16)⟩
def inOf (R : Fin 8192) : Fin 512 := ⟨R.val % 512, by omega⟩

theorem ptOf_rowOf (t : Fin cfg0.N) (r : Fin 512) : ptOf (rowOf t r) = t :=
  Fin.ext (show (t.val * 512 + r.val) / 512 = t.val by omega)
theorem inOf_rowOf (t : Fin cfg0.N) (r : Fin 512) : inOf (rowOf t r) = r :=
  Fin.ext (show (t.val * 512 + r.val) % 512 = r.val by omega)
theorem rowOf_ptOf (R : Fin 8192) : rowOf (ptOf R) (inOf R) = R :=
  Fin.ext (show R.val / 512 * 512 + R.val % 512 = R.val by omega)

section
variable (V : Valuation τ sig (Elt Ideal))
/-- What the host operations before the region leave in an array. -/
abbrev pre := StableHlo.after (List.flatten [hostOps0]) V

theorem host_tok (r : Fin 8192) (k : Fin 768) : pre V (Proc.devRef .tc main_v0) (ix2 r k) = V (Proc.devRef .tc main_arg0) (ix3 (0 : Fin 1) r k) := by
  after_reads_at
theorem host_gate (r : Fin 8192) (k : Fin 1024) : pre V (Proc.devRef .tc main_v1) (ix2 r k) = V (Proc.devRef .tc main_arg1) (ix3 (0 : Fin 1) r k) := by
  after_reads_at
theorem host_qm (r : Fin 8192) (k : Fin 256) : pre V (Proc.devRef .tc main_v3) (ix2 r k) = V (Proc.devRef .tc main_arg2) (ix3 (0 : Fin 1) r k) := by
  after_reads_at
theorem host_kv (r : Fin 256) (k : Fin 512) : pre V (Proc.devRef .tc main_v5) (ix2 r k) = V (Proc.devRef .tc main_arg3) (ix3 (0 : Fin 1) r k) := by
  after_reads_at
theorem host_w (r : Fin 1024) (k : Fin 1024) : pre V (Proc.devRef .tc main_v6) (ix2 r k) = V (Proc.devRef .tc main_arg4) (ix2 r k) := by
  after_reads_at
theorem host_h (r : Fin 8192) (k : Fin 1024) : pre V (Proc.devRef .tc main_v7) (ix2 r k) = V (Proc.devRef .tc main_arg5) (ix3 (0 : Fin 1) r k) := by
  after_reads_at
theorem host_g (r : Fin 1) (k : Fin 1024) : pre V (Proc.devRef .tc main_v8) (ix2 r k) = V (Proc.devRef .tc main_arg6) (ix1 k) := by
  after_reads_at
theorem host_b (r : Fin 1) (k : Fin 1024) : pre V (Proc.devRef .tc main_v9) (ix2 r k) = V (Proc.devRef .tc main_arg7) (ix1 k) := by
  after_reads_at
theorem host_up (r : Fin 8192) (k : Fin 1024) : pre V (Proc.devRef .tc main_v10) (ix2 r k) = V (Proc.devRef .tc main_arg8) (ix3 (0 : Fin 1) r k) := by
  after_reads_at

theorem dob_at (r : Fin 8192) (k : Fin 768) :
    StableHlo.after hostOps1 V (Proc.devRef .tc main_v13) (ix2 r k) = V (Proc.devRef .tc main_v12_1) (ix2 r k) := by
  after_reads_at
theorem dobt_at (k : Fin 768) (r : Fin 8192) :
    StableHlo.after hostOps1 V (Proc.devRef .tc main_v14) (ix2 k r) = V (Proc.devRef .tc main_v12_2) (ix2 k r) := by
  after_reads_at
theorem stats_at (p : Fin 6) (r : Fin 8192) (s : Fin 2) :
    StableHlo.after hostOps1 V (Proc.devRef .tc main_v15) (ix3 p r s) = V (Proc.devRef .tc main_v12_3) (ix3 p r ⟨2 + s.val, by omega⟩) := by
  after_reads_at
end

variable {m} {c : Dev nD} {D : Input} (H : Reads m c D)
include H

theorem h_tok (t : Fin cfg0.N) (r : Fin 512) (k : Fin 768) : (blks m c t).tok (ix2 r k) = (((D.row (rowOf t r)).tok k : ℝ) : EReal) :=
  (show iblk m c (0 : Fin 21) t (ix2 r k) = V m c main_v0 (ix2 (rowOf t r) k) by unfold rowOf; blk_point [iblk, idx t]).trans ((host_tok _ _ _).trans (H.tok _ _))
theorem h_gate (t : Fin cfg0.N) (r : Fin 512) (k : Fin 1024) : (blks m c t).gate (ix2 r k) = (((D.row (rowOf t r)).gate k : ℝ) : EReal) :=
  (show iblk m c (1 : Fin 21) t (ix2 r k) = V m c main_v1 (ix2 (rowOf t r) k) by unfold rowOf; blk_point [iblk, idx t]).trans ((host_gate _ _ _).trans (H.gate _ _))
theorem h_qm (t : Fin cfg0.N) (r : Fin 512) (k : Fin 256) : (blks m c t).qm (ix2 r k) = (((D.row (rowOf t r)).qm k : ℝ) : EReal) :=
  (show iblk m c (2 : Fin 21) t (ix2 r k) = V m c main_v3 (ix2 (rowOf t r) k) by unfold rowOf; blk_point [iblk, idx t]).trans ((host_qm _ _ _).trans (H.qm _ _))
theorem h_kv (t : Fin cfg0.N) (r : Fin 256) (k : Fin 512) : (blks m c t).kv (ix2 r k) = ((D.par.kv r k : ℝ) : EReal) :=
  (show iblk m c (3 : Fin 21) t (ix2 r k) = V m c main_v5 (ix2 r k) by blk_point [iblk, idx t]).trans ((host_kv _ _ _).trans (H.kv _ _))
theorem h_w (t : Fin cfg0.N) (r : Fin 1024) (k : Fin 1024) : (blks m c t).w (ix2 r k) = ((D.par.w r k : ℝ) : EReal) :=
  (show iblk m c (4 : Fin 21) t (ix2 r k) = V m c main_v6 (ix2 r k) by blk_point [iblk, idx t]).trans ((host_w _ _ _).trans (H.w _ _))
theorem h_h (t : Fin cfg0.N) (r : Fin 512) (k : Fin 1024) : (blks m c t).h (ix2 r k) = (((D.row (rowOf t r)).h k : ℝ) : EReal) :=
  (show iblk m c (5 : Fin 21) t (ix2 r k) = V m c main_v7 (ix2 (rowOf t r) k) by unfold rowOf; blk_point [iblk, idx t]).trans ((host_h _ _ _).trans (H.h _ _))
theorem h_g (t : Fin cfg0.N) (r : Fin 1) (k : Fin 1024) : (blks m c t).g (ix2 r k) = ((D.par.g k : ℝ) : EReal) :=
  (show iblk m c (6 : Fin 21) t (ix2 r k) = V m c main_v8 (ix2 r k) by blk_point [iblk, idx t]).trans ((host_g _ _ _).trans (H.g _))
theorem h_b (t : Fin cfg0.N) (r : Fin 1) (k : Fin 1024) : (blks m c t).b (ix2 r k) = ((D.par.b k : ℝ) : EReal) :=
  (show iblk m c (7 : Fin 21) t (ix2 r k) = V m c main_v9 (ix2 r k) by blk_point [iblk, idx t]).trans ((host_b _ _ _).trans (H.b _))
theorem h_up (t : Fin cfg0.N) (r : Fin 512) (k : Fin 1024) : (blks m c t).up (ix2 r k) = ((dh D.par (D.row (rowOf t r)) k : ℝ) : EReal) :=
  (show iblk m c (8 : Fin 21) t (ix2 r k) = V m c main_v10 (ix2 (rowOf t r) k) by unfold rowOf; blk_point [iblk, idx t]).trans ((host_up _ _ _).trans (H.up _ _))

theorem holds (t : Fin cfg0.N) : Holds (blks m c t) D.par (fun r => D.row (rowOf t r)) :=
  ⟨h_tok H t, h_gate H t, h_qm H t, h_kv H t, h_w H t, h_h H t, h_g H t, h_b H t, h_up H t⟩

/-! ## The results written block by block -/

omit H in
theorem out_step (t : Fin cfg0.N) : ∃ o, outs m c t.val t.isLt = step (blks m c t) o := by
  by_cases h : t.val % 16 = 0
  · exact ⟨_, outs_first c m t h⟩
  · exact ⟨_, outs_next c m t h⟩

theorem dres_arr : (dats m 0 c).arrAt 10 cfg0.N = fun i : S8192x1024.Idx => ((alpha * dr D.par (D.row (i 0)) (i 1) : ℝ) : EReal) := by
  refine (dats m 0 c).arrAt_eq_of_covers 10 _ (by decide +kernel) fun t hf y => ?_
  blk_simp
  rw [show (win0_10.blk t).view.emb y = ix2 (rowOf t (y 0)) (y 1) from by unfold rowOf; blk_ext [idx t]]
  obtain ⟨o, e⟩ := out_step (m := m) (c := c) t
  exact (congrArg _ (eq_ix2 y)).trans ((congrFun (congrArg Acc.dres e) _).trans (dres_read (holds H t) (y 0) (y 1)))

theorem dob_arr : (dats m 0 c).arrAt 11 cfg0.N = fun i : S8192x768.Idx => ((dcat D.par (D.row (i 0)) (tcol (i 1)) : ℝ) : EReal) := by
  refine (dats m 0 c).arrAt_eq_of_covers 11 _ (by decide +kernel) fun t hf y => ?_
  blk_simp
  rw [show (win0_11.blk t).view.emb y = ix2 (rowOf t (y 0)) (y 1) from by unfold rowOf; blk_ext [idx t]]
  obtain ⟨o, e⟩ := out_step (m := m) (c := c) t
  exact (congrArg _ (eq_ix2 y)).trans ((congrFun (congrArg Acc.dob e) _).trans (dob_read (holds H t) (y 0) (y 1)))

theorem dgate_arr : (dats m 0 c).arrAt 14 cfg0.N = fun i : S8192x1024.Idx => ((dgate D.par (D.row (i 0)) (i 1) : ℝ) : EReal) := by
  refine (dats m 0 c).arrAt_eq_of_covers 14 _ (by decide +kernel) fun t hf y => ?_
  blk_simp
  rw [show (win0_14.blk t).view.emb y = ix2 (rowOf t (y 0)) (y 1) from by unfold rowOf; blk_ext [idx t]]
  obtain ⟨o, e⟩ := out_step (m := m) (c := c) t
  exact (congrArg _ (eq_ix2 y)).trans ((congrFun (congrArg Acc.dgate e) _).trans (dgate_read (holds H t) (y 0) (y 1)))

theorem dqm_arr : (dats m 0 c).arrAt 15 cfg0.N = fun i : S8192x256.Idx => ((dqm D.par (D.row (i 0)) (i 1) : ℝ) : EReal) := by
  refine (dats m 0 c).arrAt_eq_of_covers 15 _ (by decide +kernel) fun t hf y => ?_
  blk_simp
  rw [show (win0_15.blk t).view.emb y = ix2 (rowOf t (y 0)) (y 1) from by unfold rowOf; blk_ext [idx t]]
  obtain ⟨o, e⟩ := out_step (m := m) (c := c) t
  exact (congrArg _ (eq_ix2 y)).trans ((congrFun (congrArg Acc.dqm e) _).trans (dqm_read (holds H t) (y 0) (y 1)))

theorem dobt_arr : (dats m 0 c).arrAt 12 cfg0.N = fun i : S768x8192.Idx => ((dcat D.par (D.row (i 1)) (tcol (i 0)) : ℝ) : EReal) := by
  refine (dats m 0 c).arrAt_eq_of_covers 12 _ (by decide +kernel) fun t hf y => ?_
  blk_simp
  rw [show (win0_12.blk t).view.emb y = ix2 (y 0) (rowOf t (y 1)) from by unfold rowOf; blk_ext [idx t]]
  obtain ⟨o, e⟩ := out_step (m := m) (c := c) t
  exact (congrArg _ (eq_ix2 y)).trans ((congrFun (congrArg Acc.dobt e) _).trans (dobt_read (holds H t) (y 0) (y 1)))

omit H in
theorem plane_row (t : Fin cfg0.N) (p : Fin 6) (r : Fin 512) (l : Fin 128) :
    sums (blks m c (ptOf (rowOf t r))) p (ix3 (0 : Fin 1) (inOf (rowOf t r)) l) = sums (blks m c t) p (ix3 (0 : Fin 1) r l) := by
  rw [ptOf_rowOf, inOf_rowOf]

omit H in
theorem stats_arr : (dats m 0 c).arrAt 13 cfg0.N = fun i : S6x8192x128.Idx => sums (blks m c (ptOf (i 1))) (i 0) (ix3 (0 : Fin 1) (inOf (i 1)) (i 2)) := by
  refine (dats m 0 c).arrAt_eq_of_covers 13 _ (by decide +kernel) fun t hf y => ?_
  blk_simp
  rw [show (win0_13.blk t).view.emb y = ix3 (y 0) (rowOf t (y 1)) (y 2) from by unfold rowOf; blk_ext [idx t]]
  obtain ⟨o, e⟩ := out_step (m := m) (c := c) t
  refine (congrFun (congrArg Acc.stats e) y).trans ?_
  exact (plane_row t (y 0) (y 1) (y 2)).symm

/-- The two lanes that hold the heads' sums. -/
theorem stats_val (p : Fin 6) (R : Fin 8192) (s : Fin 2) :
    sums (blks m c (ptOf R)) p (ix3 (0 : Fin 1) (inOf R) ⟨2 + s.val, by omega⟩) = ((delta D.par (D.row R) ⟨2 * p.val + s.val, by omega⟩ : ℝ) : EReal) := by
  have e := rowOf_ptOf R
  match s with
  | 0 => exact (sums_lo (holds H (ptOf R)) p (inOf R)).trans (by simp only [e]; rfl)
  | 1 => exact (sums_hi (holds H (ptOf R)) p (inOf R)).trans (by simp only [e]; rfl)

/-! ## The results accumulated over the blocks -/

omit H in
theorem sum_rows (F : Fin 8192 → ℝ) :
    ∑ p : Fin cfg0.N, ((∑ r : Fin 512, F (rowOf p r) : ℝ) : EReal) = ((∑ R, F R : ℝ) : EReal) := by
  rw [coe_sum]
  exact congrArg _ (Fin.sum_mul_add_congr (S := 16) fun s k hl => rfl)

theorem dw_step (t : Fin cfg0.N) (o : Acc Ideal) (j : S1024x1024.Idx) :
    (step (blks m c t) o).dw j = o.dw j + ((∑ r, y D.par (D.row (rowOf t r)) (j 0) * dr D.par (D.row (rowOf t r)) (j 1) : ℝ) : EReal) := by
  rw [eq_ix2 j]
  exact dw_read (holds H t) _ _ _
theorem dw_arr : (dats m 0 c).arrAt 16 cfg0.N = fun i : S1024x1024.Idx => ((∑ R, y D.par (D.row R) (i 0) * dr D.par (D.row R) (i 1) : ℝ) : EReal) := by
  refine (dats m 0 c).arrAt_eq_of_after_last 16 t0_15 (by decide +kernel) _ fun j => ?_
  blk_simp
  refine (Pipeline.eq_sum_fin_of_reset_step_apply_last (fun n h => (outs m c n h).dw) 16 (fun _ => 0) _
    (fun t h j => (congrFun (congrArg Acc.dw (outs_first c m t h)) j).trans ((dw_step H t _ j).trans
      (congrArg (· + _) (show (Acc.zero (F := Ideal)).dw j = 0 by rw [eq_ix2 j]; unfold Acc.zero; pointwise [k0_pay1]))))
    (fun t h j => (congrFun (congrArg Acc.dw (outs_next c m t h)) j).trans (dw_step H t _ j)) (le_of_eq N_0) t0_15 rfl _).trans ?_
  rw [zero_add]
  exact sum_rows (fun R => y D.par (D.row R) (j 0) * dr D.par (D.row R) (j 1))

theorem dkv_step (t : Fin cfg0.N) (o : Acc Ideal) (j : S256x512.Idx) :
    (step (blks m c t) o).dkv j = o.dkv j + ((∑ r, dkv D.par (D.row (rowOf t r)) (j 0) (j 1) : ℝ) : EReal) := by
  rw [eq_ix2 j]
  exact dkv_read (holds H t) _ _ _
theorem dkv_arr : (dats m 0 c).arrAt 17 cfg0.N = fun i : S256x512.Idx => ((∑ R, dkv D.par (D.row R) (i 0) (i 1) : ℝ) : EReal) := by
  refine (dats m 0 c).arrAt_eq_of_after_last 17 t0_15 (by decide +kernel) _ fun j => ?_
  blk_simp
  refine (Pipeline.eq_sum_fin_of_reset_step_apply_last (fun n h => (outs m c n h).dkv) 16 (fun _ => 0) _
    (fun t h j => (congrFun (congrArg Acc.dkv (outs_first c m t h)) j).trans ((dkv_step H t _ j).trans
      (congrArg (· + _) (show (Acc.zero (F := Ideal)).dkv j = 0 by rw [eq_ix2 j]; unfold Acc.zero; pointwise [k0_pay2]))))
    (fun t h j => (congrFun (congrArg Acc.dkv (outs_next c m t h)) j).trans (dkv_step H t _ j)) (le_of_eq N_0) t0_15 rfl _).trans ?_
  rw [zero_add]
  exact sum_rows (fun R => dkv D.par (D.row R) (j 0) (j 1))

theorem dg_step (t : Fin cfg0.N) (o : Acc Ideal) (j : S1x1024.Idx) :
    (step (blks m c t) o).dg j = o.dg j + ((∑ r, dh D.par (D.row (rowOf t r)) (j 1) * xh D.par (D.row (rowOf t r)) (j 1) : ℝ) : EReal) := by
  rw [eq_ix2 j]
  exact dg_read (holds H t) _ _ _
theorem dg_arr : (dats m 0 c).arrAt 18 cfg0.N = fun i : S1x1024.Idx => ((∑ R, dh D.par (D.row R) (i 1) * xh D.par (D.row R) (i 1) : ℝ) : EReal) := by
  refine (dats m 0 c).arrAt_eq_of_after_last 18 t0_15 (by decide +kernel) _ fun j => ?_
  blk_simp
  refine (Pipeline.eq_sum_fin_of_reset_step_apply_last (fun n h => (outs m c n h).dg) 16 (fun _ => 0) _
    (fun t h j => (congrFun (congrArg Acc.dg (outs_first c m t h)) j).trans ((dg_step H t _ j).trans
      (congrArg (· + _) (show (Acc.zero (F := Ideal)).dg j = 0 by rw [eq_ix2 j]; unfold Acc.zero; pointwise [k0_pay3]))))
    (fun t h j => (congrFun (congrArg Acc.dg (outs_next c m t h)) j).trans (dg_step H t _ j)) (le_of_eq N_0) t0_15 rfl _).trans ?_
  rw [zero_add]
  exact sum_rows (fun R => dh D.par (D.row R) (j 1) * xh D.par (D.row R) (j 1))

theorem db_step (t : Fin cfg0.N) (o : Acc Ideal) (j : S1x1024.Idx) :
    (step (blks m c t) o).db j = o.db j + ((∑ r, dh D.par (D.row (rowOf t r)) (j 1) : ℝ) : EReal) := by
  rw [eq_ix2 j]
  exact db_read (holds H t) _ _ _
theorem db_arr : (dats m 0 c).arrAt 19 cfg0.N = fun i : S1x1024.Idx => ((∑ R, dh D.par (D.row R) (i 1) : ℝ) : EReal) := by
  refine (dats m 0 c).arrAt_eq_of_after_last 19 t0_15 (by decide +kernel) _ fun j => ?_
  blk_simp
  refine (Pipeline.eq_sum_fin_of_reset_step_apply_last (fun n h => (outs m c n h).db) 16 (fun _ => 0) _
    (fun t h j => (congrFun (congrArg Acc.db (outs_first c m t h)) j).trans ((db_step H t _ j).trans
      (congrArg (· + _) (show (Acc.zero (F := Ideal)).db j = 0 by rw [eq_ix2 j]; unfold Acc.zero; pointwise [k0_pay4]))))
    (fun t h j => (congrFun (congrArg Acc.db (outs_next c m t h)) j).trans (db_step H t _ j)) (le_of_eq N_0) t0_15 rfl _).trans ?_
  rw [zero_add]
  exact sum_rows (fun R => dh D.par (D.row R) (j 1))

end Cert.MixArr

end
-- ==== Proof.MixRef.lean ====
/-
The reference of the first layer's gradients at arguments that hold real numbers. Its forward lines are those of the
last layer's reference, and read as they do; the cotangent is given, and the transposed lines are the model's gradient.
-/
module

public import proofs.«01_k».proof.Proof.RefBwd
public import proofs.«01_k».proof.Proof.MixBlock
public import proofs.«01_k».proof.Proof.Gen.Reference4Ideal.Read

@[expose] public section

set_option maxRecDepth 16384

noncomputable section

open Idealize.ShloMosaic Idealize.SL.Sem
open Cert.Reference4Ideal Cert.Reference4Ideal.Gen Cert.Reference4Ideal.Read

namespace Cert.MixRef

open Cert.Core Cert.Model
open Cert.Ref (ex zs zs_ne ne_1024 ne_8 reduce_rows reduce_cols reduce_heads norm_grad gate_grad soft_grad dkv_low dkv_high col_hd)
open Cert.Mix (delta feat)

/-- The layer's targets as an array. -/
def targets (D : Input) : (⟨S1x8192x1024, .f32⟩ : BufTy).Contents (Elt Ideal) := fun i => (((D.row (i 1)).tgt (i 2) : ℝ) : EReal)

/-- The reference's argument arrays hold the layer's input `D`, and its cotangent is the model's. -/
structure Reads (x0 : (⟨S1x8192x768, .f32⟩ : BufTy).Contents (Elt Ideal)) (x1 : (⟨S1x8192x1024, .f32⟩ : BufTy).Contents (Elt Ideal))
    (x2 : (⟨S1x8192x256, .f32⟩ : BufTy).Contents (Elt Ideal)) (x3 : (⟨S1x256x512, .f32⟩ : BufTy).Contents (Elt Ideal))
    (x4 : (⟨S1024x1024, .f32⟩ : BufTy).Contents (Elt Ideal)) (x5 : (⟨S1x8192x1024, .f32⟩ : BufTy).Contents (Elt Ideal))
    (x6 x7 : (⟨S1024, .f32⟩ : BufTy).Contents (Elt Ideal)) (x8 : (⟨S1x8192x1024, .f32⟩ : BufTy).Contents (Elt Ideal))
    (D : Input) : Prop where
  fwd : Cert.Ref.Reads x0 x1 x2 x3 x4 x5 x6 x7 (targets D) D
  up : ∀ r k, x8 (ix3 (0 : Fin 1) r k) = ((dh D.par (D.row r) k : ℝ) : EReal)

section
variable {x0 : (⟨S1x8192x768, .f32⟩ : BufTy).Contents (Elt Ideal)} {x1 : (⟨S1x8192x1024, .f32⟩ : BufTy).Contents (Elt Ideal)}
  {x2 : (⟨S1x8192x256, .f32⟩ : BufTy).Contents (Elt Ideal)} {x3 : (⟨S1x256x512, .f32⟩ : BufTy).Contents (Elt Ideal)}
  {x4 : (⟨S1024x1024, .f32⟩ : BufTy).Contents (Elt Ideal)} {x5 : (⟨S1x8192x1024, .f32⟩ : BufTy).Contents (Elt Ideal)}
  {x6 x7 : (⟨S1024, .f32⟩ : BufTy).Contents (Elt Ideal)} {x8 : (⟨S1x8192x1024, .f32⟩ : BufTy).Contents (Elt Ideal)}
  {D : Input}
  (H : Reads x0 x1 x2 x3 x4 x5 x6 x7 x8 D)
include H

/-! ## Forward -/

theorem key_read (m : Fin 256) (a : Fin 4) (d : Fin 64) :
    val_main_v3 (F := Ideal) x3 (ix4 (0 : Fin 1) m a d) = ((D.par.kv m (kcol (col a d)) : ℝ) : EReal) := Cert.Ref.key_read H.fwd m a d
theorem value_read (m : Fin 256) (a : Fin 4) (d : Fin 64) :
    val_main_v5 (F := Ideal) x3 (ix4 (0 : Fin 1) m a d) = ((D.par.kv m (vcol (col a d)) : ℝ) : EReal) := Cert.Ref.value_read H.fwd m a d
theorem query_read (r : Fin 8192) (a : Fin 4) (d : Fin 64) :
    val_main_v1 (F := Ideal) x2 (ix4 (0 : Fin 1) r a d) = (((D.row r).qm (col a d) : ℝ) : EReal) := Cert.Ref.query_read H.fwd r a d
theorem zs_read (a : Fin 4) (r : Fin 8192) :
    val_main_v30 (F := Ideal) x2 x3 (ix3 (0 : Fin 1) a r) = ((zs x2 x3 D a r : ℝ) : EReal) := Cert.Ref.zs_read H.fwd a r
theorem prob_read (a : Fin 4) (r : Fin 8192) (m : Fin 256) :
    val_main_v33 (F := Ideal) x2 x3 (ix4 (0 : Fin 1) a r m) = ((prob D.par (D.row r) a m : ℝ) : EReal) := Cert.Ref.prob_read H.fwd a r m
theorem rsq_read (a : Fin 4) (r : Fin 8192) (u : Fin 1) :
    val_main_v36 (F := Ideal) x2 x3 (ix4 (0 : Fin 1) a r u) = ((1 / (zs x2 x3 D a r * zs x2 x3 D a r) : ℝ) : EReal) := Cert.Ref.rsq_read H.fwd a r u
theorem ex_read (a : Fin 4) (r : Fin 8192) (m : Fin 256) :
    val_main_v29 (F := Ideal) x2 x3 (ix4 (0 : Fin 1) a r m) = ((ex x2 x3 D a r m : ℝ) : EReal) := Cert.Ref.ex_read H.fwd a r m
theorem cat_read (r : Fin 8192) (c : Fin 1024) :
    val_main_v40 (F := Ideal) x0 x2 x3 (ix3 (0 : Fin 1) r c) = ((cat D.par (D.row r) c : ℝ) : EReal) := Cert.Ref.cat_read H.fwd r c
theorem sg_read (r : Fin 8192) (c : Fin 1024) :
    val_main_v41_2 (F := Ideal) x1 (ix3 (0 : Fin 1) r c) = ((sg (D.row r) c : ℝ) : EReal) := Cert.Ref.sg_read H.fwd r c
theorem dsg_read (r : Fin 8192) (c : Fin 1024) :
    val_main_v41_1 (F := Ideal) x1 (ix3 (0 : Fin 1) r c) = ((sg (D.row r) c * (1 - sg (D.row r) c) : ℝ) : EReal) := Cert.Ref.dsg_read H.fwd r c
theorem sl_read (r : Fin 8192) (c : Fin 1024) :
    val_main_v41_0 (F := Ideal) x1 (ix3 (0 : Fin 1) r c) = ((sl (D.row r) c : ℝ) : EReal) := Cert.Ref.sl_read H.fwd r c
theorem y_read (r : Fin 8192) (c : Fin 1024) :
    val_main_v42 (F := Ideal) x0 x1 x2 x3 (ix3 (0 : Fin 1) r c) = ((y D.par (D.row r) c : ℝ) : EReal) := Cert.Ref.y_read H.fwd r c
theorem xc_read (r : Fin 8192) (k : Fin 1024) :
    val_main_v52 (F := Ideal) x0 x1 x2 x3 x4 x5 (ix3 (0 : Fin 1) r k) = ((xc D.par (D.row r) k : ℝ) : EReal) := Cert.Ref.xc_read H.fwd r k
theorem xc2_read (r : Fin 8192) (k : Fin 1024) :
    val_main_v61 (F := Ideal) x0 x1 x2 x3 x4 x5 (ix3 (0 : Fin 1) r k) = ((xc D.par (D.row r) k : ℝ) : EReal) := Cert.Ref.xc2_read H.fwd r k
theorem var_read (r : Fin 8192) (u : Fin 1) :
    val_main_v63 (F := Ideal) x0 x1 x2 x3 x4 x5 (ix3 (0 : Fin 1) r u) = ((var D.par (D.row r) + eps : ℝ) : EReal) := Cert.Ref.var_read H.fwd r u
theorem rstd_read (r : Fin 8192) (u : Fin 1) :
    val_main_v64 (F := Ideal) x0 x1 x2 x3 x4 x5 (ix3 (0 : Fin 1) r u) = ((rstd D.par (D.row r) : ℝ) : EReal) := Cert.Ref.rstd_read H.fwd r u
theorem drstd_read (r : Fin 8192) (u : Fin 1) :
    val_main_v67 (F := Ideal) x0 x1 x2 x3 x4 x5 (ix3 (0 : Fin 1) r u) =
      ((-(1 / 2) * (rstd D.par (D.row r) / (var D.par (D.row r) + eps)) : ℝ) : EReal) := Cert.Ref.drstd_read H.fwd r u
theorem xh_read (r : Fin 8192) (k : Fin 1024) :
    val_main_v69 (F := Ideal) x0 x1 x2 x3 x4 x5 (ix3 (0 : Fin 1) r k) = ((xh D.par (D.row r) k : ℝ) : EReal) := Cert.Ref.xh_read H.fwd r k
theorem dh_read (r : Fin 8192) (k : Fin 1024) :
    val_main_v76 (F := Ideal) x8 (ix3 (0 : Fin 1) r k) = ((dh D.par (D.row r) k : ℝ) : EReal) := by
  pointwise [val_main_v76]; exact H.up r k

/-! ## Layer norm -/

theorem db_read (i : Fin 1) (k : Fin 1024) :
    val_main_v165 (F := Ideal) x8 (ix2 i k) = ((∑ R, dh D.par (D.row R) k : ℝ) : EReal) := by
  pointwise [val_main_v165, val_main_v79]
  rw [reduce_rows]
  pointwise [val_main_v78, val_main_v77, val_main_cst_18, val_main_cst_19]
  simp only [H.up, coe_sum]
theorem dg_read (i : Fin 1) (k : Fin 1024) :
    val_main_v164 (F := Ideal) x0 x1 x2 x3 x4 x5 x8 (ix2 i k) = ((∑ R, dh D.par (D.row R) k * xh D.par (D.row R) k : ℝ) : EReal) := by
  pointwise [val_main_v164, val_main_v85]
  rw [reduce_rows]
  pointwise [val_main_v82, val_main_v81, val_main_v80, val_main_cst_20, val_main_cst_21]
  simp only [dh_read H, xh_read H, ← EReal.coe_mul, coe_sum]
  exact congrArg _ (Finset.sum_congr rfl fun _ _ => mul_comm _ _)
theorem dxh_read (r : Fin 8192) (k : Fin 1024) :
    val_main_v84 (F := Ideal) x6 x8 (ix3 (0 : Fin 1) r k) = ((dxh D.par (D.row r) k : ℝ) : EReal) := by
  pointwise [val_main_v84, val_main_v83, val_main_v70]
  simp only [dh_read H, H.fwd.g, ← EReal.coe_mul, dxh]
theorem inner_read (r : Fin 8192) (u : Fin 1) :
    val_main_v88 (F := Ideal) x0 x1 x2 x3 x4 x5 x6 x8 (ix3 (0 : Fin 1) r u) = ((∑ j, xc D.par (D.row r) j * dxh D.par (D.row r) j : ℝ) : EReal) := by
  pointwise [val_main_v88, val_main_v87, val_main_v86, val_main_cst_22]
  simp only [xc2_read H, dxh_read H, ← EReal.coe_mul, coe_sum]
theorem straight_read (r : Fin 8192) (k : Fin 1024) :
    val_main_v90 (F := Ideal) x0 x1 x2 x3 x4 x5 x6 x8 (ix3 (0 : Fin 1) r k) = ((dxh D.par (D.row r) k * rstd D.par (D.row r) : ℝ) : EReal) := by
  pointwise [val_main_v90, val_main_v89]
  simp only [dxh_read H, rstd_read H, ← EReal.coe_mul]
theorem spread_read (r : Fin 8192) (k : Fin 1024) :
    val_main_v100 (F := Ideal) x0 x1 x2 x3 x4 x5 x6 x8 (ix3 (0 : Fin 1) r k) =
      (((∑ j, xc D.par (D.row r) j * dxh D.par (D.row r) j) * (-(1 / 2) * (rstd D.par (D.row r) / (var D.par (D.row r) + eps))) / 1024 * (2 * xc D.par (D.row r) k) : ℝ) : EReal) := by
  pointwise [val_main_v100, val_main_v99, val_main_v98, val_main_v97, val_main_v55, val_main_v54, val_main_cst_13]
  rw [reduce_cols]
  pointwise [val_main_v96, val_main_v95, val_main_v91, val_main_cst_24, val_main_cst_25]
  simp only [inner_read H, drstd_read H, xc_read H, bits_two, bits_1024, ← EReal.coe_mul, div_real _ ne_1024]
theorem mean_read (r : Fin 8192) (k : Fin 1024) :
    val_main_v110 (F := Ideal) x0 x1 x2 x3 x4 x5 x6 x8 (ix3 (0 : Fin 1) r k) =
      ((((∑ j, -(dxh D.par (D.row r) j * rstd D.par (D.row r)))
          + ∑ j, -((∑ j, xc D.par (D.row r) j * dxh D.par (D.row r) j) * (-(1 / 2) * (rstd D.par (D.row r) / (var D.par (D.row r) + eps))) / 1024 * (2 * xc D.par (D.row r) j))) / 1024 : ℝ) : EReal) := by
  pointwise [val_main_v110, val_main_v109, val_main_v108]
  rw [reduce_cols]
  pointwise [val_main_v107, val_main_v106, val_main_v105, val_main_v103, val_main_v102, val_main_v101, val_main_v94, val_main_v93, val_main_v92, val_main_cst_23, val_main_cst_26, val_main_cst_27, val_main_cst_28]
  simp only [straight_read H, spread_read H, ← EReal.coe_neg, coe_sum, ← EReal.coe_add, bits_1024, div_real _ ne_1024]
theorem dr_read (r : Fin 8192) (k : Fin 1024) :
    val_main_v111 (F := Ideal) x0 x1 x2 x3 x4 x5 x6 x8 (ix3 (0 : Fin 1) r k) = ((dr D.par (D.row r) k : ℝ) : EReal) := by
  pointwise [val_main_v111, val_main_v104]
  simp only [straight_read H, spread_read H, mean_read H, ← EReal.coe_add, norm_grad]
theorem dres_read (r : Fin 8192) (k : Fin 1024) :
    val_main_v157 (F := Ideal) x0 x1 x2 x3 x4 x5 x6 x8 (ix2 r k) = ((alpha * dr D.par (D.row r) k : ℝ) : EReal) := by
  pointwise [val_main_v157, val_main_v116, val_main_v115, val_main_cst_29]
  simp only [dr_read H, bits_alpha, ← EReal.coe_mul]
theorem dw_read (c k : Fin 1024) :
    val_main_v113 (F := Ideal) x0 x1 x2 x3 x4 x5 x6 x8 (ix2 c k) = ((∑ R, y D.par (D.row R) c * dr D.par (D.row R) k : ℝ) : EReal) := by
  pointwise [val_main_v113, val_main_v112]
  simp only [Fin.sum_univ_one, dr_read H, y_read H, ← EReal.coe_mul, coe_sum]
  exact congrArg _ (Finset.sum_congr rfl fun _ _ => mul_comm _ _)

/-! ## Gate -/

theorem dy_read (r : Fin 8192) (c : Fin 1024) :
    val_main_v114 (F := Ideal) x0 x1 x2 x3 x4 x5 x6 x8 (ix3 (0 : Fin 1) r c) = ((dy D.par (D.row r) c : ℝ) : EReal) := by
  pointwise [val_main_v114]
  simp only [dr_read H, H.fwd.w, ← EReal.coe_mul, coe_sum, dy]
theorem dcat_read (r : Fin 8192) (c : Fin 1024) :
    val_main_v118 (F := Ideal) x0 x1 x2 x3 x4 x5 x6 x8 (ix3 (0 : Fin 1) r c) = ((dcat D.par (D.row r) c : ℝ) : EReal) := by
  pointwise [val_main_v118]
  simp only [dy_read H, sl_read H, ← EReal.coe_mul, dcat]
theorem dgate_read (r : Fin 8192) (c : Fin 1024) :
    val_main_v161 (F := Ideal) x0 x1 x2 x3 x4 x5 x6 x8 (ix2 r c) = ((dgate D.par (D.row r) c : ℝ) : EReal) := by
  pointwise [val_main_v161, val_main_v119, val_main_call1_v2, val_main_call1_v1, val_main_call1_v0, val_main_v117]
  simp only [dy_read H, cat_read H, sg_read H, dsg_read H, H.fwd.gate, ← EReal.coe_mul, ← EReal.coe_add, gate_grad]
theorem dtok_read (r : Fin 8192) (c : Fin 768) :
    val_main_v158 (F := Ideal) x0 x1 x2 x3 x4 x5 x6 x8 (ix2 r c) = ((dcat D.par (D.row r) (tcol c) : ℝ) : EReal) := by
  pointwise [val_main_v158, val_main_v120]
  rw [dcat_read H]
  rfl

/-! ## Memory attention -/

theorem dmo_read (a : Fin 4) (d : Fin 64) (r : Fin 8192) :
    val_main_v123 (F := Ideal) x0 x1 x2 x3 x4 x5 x6 x8 (ix4 (0 : Fin 1) a d r) = ((dmo D.par (D.row r) (col a d) : ℝ) : EReal) := by
  pointwise [val_main_v123, val_main_v122, val_main_v121]
  rw [dcat_read H, dmo]
  exact congrArg (fun c => ((dcat D.par (D.row r) c : ℝ) : EReal)) (Fin.ext (by show 768 + (a.val * 64 + d.val) = 768 + (64 * a.val + d.val); omega))
theorem dp_read (a : Fin 4) (r : Fin 8192) (m : Fin 256) :
    val_main_v124 (F := Ideal) x0 x1 x2 x3 x4 x5 x6 x8 (ix4 (0 : Fin 1) a r m) = ((dp D.par (D.row r) a m : ℝ) : EReal) := by
  pointwise [val_main_v124]
  simp only [dmo_read H, value_read H, ← EReal.coe_mul, coe_sum, dp]
theorem ds_read (a : Fin 4) (r : Fin 8192) (m : Fin 256) :
    val_main_v141 (F := Ideal) x0 x1 x2 x3 x4 x5 x6 x8 (ix4 (0 : Fin 1) a r m) = ((ds D.par (D.row r) a m : ℝ) : EReal) := by
  pointwise [val_main_v141, val_main_v140, val_main_v139, val_main_v138, val_main_v137, val_main_v136, val_main_v135, val_main_v134, val_main_v133, val_main_v31, val_main_cst_32]
  rw [reduce_heads]
  pointwise [val_main_v132, val_main_v131, val_main_v130, val_main_v129, val_main_v128, val_main_v127, val_main_cst_30, val_main_cst_31]
  simp only [dp_read H, zs_read H, rsq_read H, ex_read H, bits_eight, ← EReal.coe_mul, div_real _ (zs_ne _ _), coe_sum, ← EReal.coe_neg, ← EReal.coe_add, div_real _ ne_8]
  exact congrArg _ (soft_grad H.fwd a r m)
theorem dqm_read (r : Fin 8192) (c : Fin 256) :
    val_main_v162 (F := Ideal) x0 x1 x2 x3 x4 x5 x6 x8 (ix2 r c) = ((dqm D.par (D.row r) c : ℝ) : EReal) := by
  pointwise [val_main_v162, val_main_v151, val_main_v145, val_main_v144]
  simp only [ds_read H, key_read H, ← EReal.coe_mul, coe_sum, dqm]
  exact congrArg _ (Finset.sum_congr rfl fun m _ => by
    rw [show col ⟨c.val / 64, _⟩ ⟨c.val % 64, _⟩ = c from col_hd c _]; rfl)
theorem dv_read (m : Fin 256) (a : Fin 4) (d : Fin 64) :
    val_main_v126 (F := Ideal) x0 x1 x2 x3 x4 x5 x6 x8 (ix4 (0 : Fin 1) m a d) =
      ((∑ R, prob D.par (D.row R) a m * dmo D.par (D.row R) (col a d) : ℝ) : EReal) := by
  pointwise [val_main_v126, val_main_v125]
  simp only [dmo_read H, prob_read H, ← EReal.coe_mul, coe_sum]
  exact congrArg _ (Finset.sum_congr rfl fun _ _ => mul_comm _ _)
theorem dk_read (m : Fin 256) (a : Fin 4) (d : Fin 64) :
    val_main_v143 (F := Ideal) x0 x1 x2 x3 x4 x5 x6 x8 (ix4 (0 : Fin 1) m a d) =
      ((∑ R, ds D.par (D.row R) a m * (D.row R).qm (col a d) : ℝ) : EReal) := by
  pointwise [val_main_v143, val_main_v142]
  simp only [ds_read H, query_read H, ← EReal.coe_mul, coe_sum]
theorem dkv_read (m : Fin 256) (j : Fin 512) :
    val_main_v163 (F := Ideal) x0 x1 x2 x3 x4 x5 x6 x8 (ix2 m j) = ((∑ R, dkv D.par (D.row R) m j : ℝ) : EReal) := by
  pointwise [val_main_v163, val_main_v152, val_main_v150, val_main_v149, val_main_v148, val_main_v147, val_main_v146, val_main_cst_33, val_main_cst_34]
  by_cases hj : j.val < 256
  · have e1 : ¬((1 ≤ j.val / 256 ∧ j.val / 256 - 1 < 1) ∧ j.val / 64 % 4 < 4 ∧ j.val % 64 < 64) := by omega
    have e2 : j.val / 256 < 1 ∧ j.val / 64 % 4 < 4 ∧ j.val % 64 < 64 := by omega
    simp only [dif_neg e1, dif_pos e2, dk_read H, dkv_low _ _ m j hj]
    exact zero_add _
  · have e1 : (1 ≤ j.val / 256 ∧ j.val / 256 - 1 < 1) ∧ j.val / 64 % 4 < 4 ∧ j.val % 64 < 64 := by omega
    have e2 : ¬(j.val / 256 < 1 ∧ j.val / 64 % 4 < 4 ∧ j.val % 64 < 64) := by omega
    simp only [dif_pos e1, dif_neg e2, dv_read H, dkv_high _ _ m j hj]
    exact add_zero _

/-! ## The token mixer's output -/

theorem dtokt_read (c : Fin 768) (r : Fin 8192) :
    val_main_v160 (F := Ideal) x0 x1 x2 x3 x4 x5 x6 x8 (ix2 c r) = ((dcat D.par (D.row r) (tcol c) : ℝ) : EReal) := by
  pointwise [val_main_v160, val_main_v159, val_main_v120]
  rw [dcat_read H]
  rfl
theorem sums_read (p : Fin 6) (r : Fin 8192) (s : Fin 2) :
    val_main_v156 (F := Ideal) x0 x1 x2 x3 x4 x5 x6 x8 (ix3 p r s) = ((delta D.par (D.row r) ⟨2 * p.val + s.val, by omega⟩ : ℝ) : EReal) := by
  pointwise [val_main_v156, val_main_v155, val_main_v154, val_main_v153, val_main_v120, val_main_cst_35]
  simp only [dcat_read H, H.fwd.tok, ← EReal.coe_mul, coe_sum, delta]
  refine congrArg Real.toEReal (Finset.sum_congr rfl fun d _ => ?_)
  exact congrArg₂ (fun a b => dcat D.par (D.row r) a * (D.row r).tok b) (Fin.ext (by simp only [tcol, feat]; omega))
    (Fin.ext (by simp only [feat]; omega))

end

end Cert.MixRef

end
-- ==== Proof.MixAll.lean ====
/-
The first layer's pair: the frames of its programs, and the equality of their results.
-/
module

public import proofs.«01_k».proof.Defs
public import proofs.«01_k».proof.Proof.Finite
public import proofs.«01_k».proof.Proof.MixFrame
public import proofs.«01_k».proof.Proof.MixArr
public import proofs.«01_k».proof.Proof.MixRef
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read

@[expose] public section

set_option maxRecDepth 16384
set_option maxHeartbeats 1000000

noncomputable section
namespace Cert.MixAll
open Idealize.ShloMosaic Idealize.SL.Sem
open Cert.Kernel4Ideal (nD τ sig spec0 cfg0 main_arg0 main_arg1 main_arg2 main_arg3 main_arg4 main_arg5 main_arg6 main_arg7 main_arg8
  main_v13 main_v14 main_v15)

theorem pre_facts : Pre_finite4.Facts := by constructor <;> decide

instance : Kernel4.Facts := Kernel4.Gen.facts
instance : Kernel4Ideal.Facts := Kernel4Ideal.Gen.facts
instance : Reference4Ideal.Facts := Reference4Ideal.Gen.facts
instance : Pre_finite4.Facts := pre_facts

/-- The precondition says that every element of every argument is a real. -/
theorem reals {x0 x1 x2 x3 x4 x5 x6 x7 x8} (h : Pre_finite4.fn (F := Ideal) x0 x1 x2 x3 x4 x5 x6 x7 x8 = fun _ => 1#1) :
    (∀ i, x0 i = (((x0 i : EReal).toReal : ℝ) : EReal)) ∧ (∀ i, x1 i = (((x1 i : EReal).toReal : ℝ) : EReal))
      ∧ (∀ i, x2 i = (((x2 i : EReal).toReal : ℝ) : EReal)) ∧ (∀ i, x3 i = (((x3 i : EReal).toReal : ℝ) : EReal))
      ∧ (∀ i, x4 i = (((x4 i : EReal).toReal : ℝ) : EReal)) ∧ (∀ i, x5 i = (((x5 i : EReal).toReal : ℝ) : EReal))
      ∧ (∀ i, x6 i = (((x6 i : EReal).toReal : ℝ) : EReal)) ∧ (∀ i, x7 i = (((x7 i : EReal).toReal : ℝ) : EReal))
      ∧ (∀ i, x8 i = (((x8 i : EReal).toReal : ℝ) : EReal)) :=
  letI := Finite.facts
  Finite.reals (x0 := x0) (x1 := x1) (x2 := x2) (x3 := x3) (x4 := x4) (x5 := x5) (x6 := x6) (x7 := x7) (x8 := x8) h

open Model in
/-- A row whose target makes a given vector its cotangent. -/
def withUp (W : Params) (x : Row) (u : Fin 1024 → ℝ) : Row :=
  { x with tgt := fun k => xh W x k * W.g k + W.b k - 1024 * u k }

open Model in
theorem dh_withUp (W : Params) (x : Row) (u : Fin 1024 → ℝ) (k : Fin 1024) : dh W (withUp W x u) k = u k := by
  show (xh W x k * W.g k + W.b k - (xh W x k * W.g k + W.b k - 1024 * u k)) * (1 / 1024) = u k
  ring

variable {m : (ℓ : Loc nD τ sig) → Buf (Elt Ideal) ℓ}

/-- The layer's input as the kernel's argument arrays of one device hold it. -/
theorem kernel_reads (h : Pre_Kernel4Ideal_finite4 m) (c : Dev nD) : ∃ D, MixArr.Reads m c D := by
  obtain ⟨h0, h1, h2, h3, h4, h5, h6, h7, h8⟩ := reals (h c)
  let W : Model.Params := ⟨fun r k => EReal.toReal (m ((c.tc : Thread nD τ).loc main_arg3) (ix3 (0 : Fin 1) r k)),
    fun r k => EReal.toReal (m ((c.tc : Thread nD τ).loc main_arg4) (ix2 r k)),
    fun k => EReal.toReal (m ((c.tc : Thread nD τ).loc main_arg6) (ix1 k)),
    fun k => EReal.toReal (m ((c.tc : Thread nD τ).loc main_arg7) (ix1 k))⟩
  let X : Fin 8192 → Model.Row := fun r => ⟨fun k => EReal.toReal (m ((c.tc : Thread nD τ).loc main_arg0) (ix3 (0 : Fin 1) r k)),
    fun k => EReal.toReal (m ((c.tc : Thread nD τ).loc main_arg1) (ix3 (0 : Fin 1) r k)),
    fun k => EReal.toReal (m ((c.tc : Thread nD τ).loc main_arg2) (ix3 (0 : Fin 1) r k)),
    fun k => EReal.toReal (m ((c.tc : Thread nD τ).loc main_arg5) (ix3 (0 : Fin 1) r k)), fun _ => 0⟩
  let u : Fin 8192 → Fin 1024 → ℝ := fun r k => EReal.toReal (m ((c.tc : Thread nD τ).loc main_arg8) (ix3 (0 : Fin 1) r k))
  exact ⟨⟨W, fun r => withUp W (X r) (u r)⟩, fun _ _ => h0 _, fun _ _ => h1 _, fun _ _ => h2 _, fun _ _ => h3 _, fun _ _ => h4 _, fun _ _ => h5 _,
    fun _ => h6 _, fun _ => h7 _, fun r k => (h8 _).trans (congrArg Real.toEReal (dh_withUp W (X r) (u r) k).symm)⟩

theorem reference_reads {c : Dev nD} {D : Model.Input} (R : MixArr.Reads m c D) :
    MixRef.Reads (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8)) D :=
  ⟨⟨R.tok, R.gate, R.qm, R.kv, R.w, R.h, R.g, R.b, fun _ _ => rfl⟩, R.up⟩

/-- Two arrays are equal when they agree at every coordinate. -/
theorem ext2 {a b : ℕ} {f g : (⟨2, ![a, b]⟩ : Shape).Idx → EReal} (h : ∀ i j, f (ix2 i j) = g (ix2 i j)) : f = g :=
  funext fun i => by rw [eq_ix2 i]; exact h _ _
theorem ext3 {a b d : ℕ} {f g : (⟨3, ![a, b, d]⟩ : Shape).Idx → EReal} (h : ∀ i j k, f (ix3 i j k) = g (ix3 i j k)) : f = g :=
  funext fun i => by rw [eq_ix3 i]; exact h _ _ _

/-- The valuation the operations after the region start from. -/
abbrev U (m : (ℓ : Loc nD τ sig) → Buf (Elt Ideal) ℓ) (c : Dev nD) :
    Valuation τ sig (Elt Ideal) :=
  Pipeline.withArrays spec0 c (Kernel4Ideal.Gen.V0 m c) fun w => (MixRun.dats m 0 c).arrAt w cfg0.N

theorem u_arr (c : Dev nD) (w : Fin 21) :
    U m c (Proc.devRef .tc (Pipeline.arrRef spec0 w)) = (MixRun.dats m 0 c).arrAt w cfg0.N :=
  Pipeline.withArrays_arr spec0 Kernel4Ideal.Gen.launch0.win.arr_inj c (Kernel4Ideal.Gen.V0 m c) _ w

theorem algebraic : algebraic_Kernel4Ideal_Reference4Ideal_pre_finite4 := by
  intro m g m' g' hpre hagree
  refine ⟨fun c => (MixRun.dats m 0 c).arrAt 10 cfg0.N,
    fun c => StableHlo.after Kernel4Ideal.Gen.hostOps1 (U m c) (Proc.devRef .tc main_v13),
    fun c => StableHlo.after Kernel4Ideal.Gen.hostOps1 (U m c) (Proc.devRef .tc main_v14),
    fun c => StableHlo.after Kernel4Ideal.Gen.hostOps1 (U m c) (Proc.devRef .tc main_v15),
    fun c => (MixRun.dats m 0 c).arrAt 14 cfg0.N,
    fun c => (MixRun.dats m 0 c).arrAt 15 cfg0.N,
    fun c => (MixRun.dats m 0 c).arrAt 16 cfg0.N,
    fun c => (MixRun.dats m 0 c).arrAt 17 cfg0.N,
    fun c => (MixRun.dats m 0 c).arrAt 18 cfg0.N,
    fun c => (MixRun.dats m 0 c).arrAt 19 cfg0.N, ?_, ?_⟩
  · refine θ_run_mono (θ_run_and (MixRun.run m g) (MixRun.frame_kernel m g)) fun r h c => ?_
    exact ⟨(h.1 c).1 10,
      (h.1 c).2 main_v13 (Pipeline.mem_restRefs_of main_v13 (by decide) (by decide)),
      (h.1 c).2 main_v14 (Pipeline.mem_restRefs_of main_v14 (by decide) (by decide)),
      (h.1 c).2 main_v15 (Pipeline.mem_restRefs_of main_v15 (by decide) (by decide)),
      (h.1 c).1 14, (h.1 c).1 15, (h.1 c).1 16, (h.1 c).1 17, (h.1 c).1 18, (h.1 c).1 19, h.2.1 c⟩
  · refine (θ_run _ _ _).mono (fun r h c => ?_) (Reference4Ideal.Value.run m' g')
    obtain ⟨a0, a1, a2, a3, a4, a5, a6, a7, a8⟩ := hagree c
    obtain ⟨D, R⟩ := kernel_reads hpre c
    have H := reference_reads R
    rw [← a0, ← a1, ← a2, ← a3, ← a4, ← a5, ← a6, ← a7, ← a8] at H
    obtain ⟨h0, h1, h2, h3, h4, h5, h6, h7, h8, h9, hargs⟩ := h c
    refine ⟨(h0.trans (Reference4Ideal.Read.val_main_v157_eq (StableHlo.launchContents m' c))).trans ?_,
      (h1.trans (Reference4Ideal.Read.val_main_v158_eq (StableHlo.launchContents m' c))).trans ?_,
      (h2.trans (Reference4Ideal.Read.val_main_v160_eq (StableHlo.launchContents m' c))).trans ?_,
      (h3.trans (Reference4Ideal.Read.val_main_v156_eq (StableHlo.launchContents m' c))).trans ?_,
      (h4.trans (Reference4Ideal.Read.val_main_v161_eq (StableHlo.launchContents m' c))).trans ?_,
      (h5.trans (Reference4Ideal.Read.val_main_v162_eq (StableHlo.launchContents m' c))).trans ?_,
      (h6.trans (Reference4Ideal.Read.val_main_v113_eq (StableHlo.launchContents m' c))).trans ?_,
      (h7.trans (Reference4Ideal.Read.val_main_v163_eq (StableHlo.launchContents m' c))).trans ?_,
      (h8.trans (Reference4Ideal.Read.val_main_v164_eq (StableHlo.launchContents m' c))).trans ?_,
      (h9.trans (Reference4Ideal.Read.val_main_v165_eq (StableHlo.launchContents m' c))).trans ?_, hargs⟩
    · exact ext2 fun r k => (MixRef.dres_read H r k).trans (congrFun (MixArr.dres_arr R) (ix2 r k)).symm
    · exact ext2 fun r k => (MixRef.dtok_read H r k).trans
        ((MixArr.dob_at _ r k).trans (congrFun ((u_arr c 11).trans (MixArr.dob_arr R)) (ix2 r k))).symm
    · exact ext2 fun k r => (MixRef.dtokt_read H k r).trans
        ((MixArr.dobt_at _ k r).trans (congrFun ((u_arr c 12).trans (MixArr.dobt_arr R)) (ix2 k r))).symm
    · exact ext3 fun p r s => (MixRef.sums_read H p r s).trans
        ((MixArr.stats_at _ p r s).trans ((congrFun ((u_arr c 13).trans MixArr.stats_arr) (ix3 p r ⟨2 + s.val, by omega⟩)).trans
          (MixArr.stats_val R p r s))).symm
    · exact ext2 fun r k => (MixRef.dgate_read H r k).trans (congrFun (MixArr.dgate_arr R) (ix2 r k)).symm
    · exact ext2 fun r k => (MixRef.dqm_read H r k).trans (congrFun (MixArr.dqm_arr R) (ix2 r k)).symm
    · exact ext2 fun r k => (MixRef.dw_read H r k).trans (congrFun (MixArr.dw_arr R) (ix2 r k)).symm
    · exact ext2 fun r k => (MixRef.dkv_read H r k).trans (congrFun (MixArr.dkv_arr R) (ix2 r k)).symm
    · exact ext2 fun r k => (MixRef.dg_read H r k).trans (congrFun (MixArr.dg_arr R) (ix2 r k)).symm
    · exact ext2 fun r k => (MixRef.db_read H r k).trans (congrFun (MixArr.db_arr R) (ix2 r k)).symm

theorem frame_reference : quiescent_Reference4Ideal := fun m g _ =>
  (θ_run Reference4Ideal.defs _ _).mono
    (fun r h => And.intro (fun c => (h c).2.2.2.2.2.2.2.2.2.2) (sem_eq_zero_of_no_sems (by decide) r.2))
    (Reference4Ideal.Value.run (F := Ideal) m g)

end Cert.MixAll
-- ==== Proof.lean ====
/-
The proof of `Cert.Claim`: the mixing layer's loss and gradients. The kernel's nine result arrays (Windows) and the
reference's (RefFwd, RefBwd) are the same functions of the layer's input.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Finite
public import proofs.«01_k».proof.Proof.Windows
public import proofs.«01_k».proof.Proof.RefBwd
public import proofs.«01_k».proof.Proof.AttnAll
public import proofs.«01_k».proof.Proof.MlaAll
public import proofs.«01_k».proof.Proof.MixAll

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite.Facts := Cert.Finite.facts

/-- The layer's input as the kernel's argument arrays of one device hold it. -/
def input (m : (ℓ : Loc Cert.KernelIdeal.nD Cert.KernelIdeal.τ Cert.KernelIdeal.sig) → Buf (Elt Ideal) ℓ)
    (c : Dev Cert.KernelIdeal.nD) : Cert.Model.Input where
  par :=
    { kv := fun r k => (m ((c.tc : Thread Cert.KernelIdeal.nD Cert.KernelIdeal.τ).loc Cert.KernelIdeal.main_arg3) (ix3 (0 : Fin 1) r k) : EReal).toReal
      w := fun r k => (m ((c.tc : Thread Cert.KernelIdeal.nD Cert.KernelIdeal.τ).loc Cert.KernelIdeal.main_arg4) (ix2 r k) : EReal).toReal
      g := fun k => (m ((c.tc : Thread Cert.KernelIdeal.nD Cert.KernelIdeal.τ).loc Cert.KernelIdeal.main_arg6) (ix1 k) : EReal).toReal
      b := fun k => (m ((c.tc : Thread Cert.KernelIdeal.nD Cert.KernelIdeal.τ).loc Cert.KernelIdeal.main_arg7) (ix1 k) : EReal).toReal }
  row := fun r =>
    { tok := fun k => (m ((c.tc : Thread Cert.KernelIdeal.nD Cert.KernelIdeal.τ).loc Cert.KernelIdeal.main_arg0) (ix3 (0 : Fin 1) r k) : EReal).toReal
      gate := fun k => (m ((c.tc : Thread Cert.KernelIdeal.nD Cert.KernelIdeal.τ).loc Cert.KernelIdeal.main_arg1) (ix3 (0 : Fin 1) r k) : EReal).toReal
      qm := fun k => (m ((c.tc : Thread Cert.KernelIdeal.nD Cert.KernelIdeal.τ).loc Cert.KernelIdeal.main_arg2) (ix3 (0 : Fin 1) r k) : EReal).toReal
      h := fun k => (m ((c.tc : Thread Cert.KernelIdeal.nD Cert.KernelIdeal.τ).loc Cert.KernelIdeal.main_arg5) (ix3 (0 : Fin 1) r k) : EReal).toReal
      tgt := fun k => (m ((c.tc : Thread Cert.KernelIdeal.nD Cert.KernelIdeal.τ).loc Cert.KernelIdeal.main_arg8) (ix3 (0 : Fin 1) r k) : EReal).toReal }

section
variable {m : (ℓ : Loc Cert.KernelIdeal.nD Cert.KernelIdeal.τ Cert.KernelIdeal.sig) → Buf (Elt Ideal) ℓ}

theorem kernel_reads (h : Pre_KernelIdeal_finite m) (c : Dev Cert.KernelIdeal.nD) :
    Cert.Windows.Reads m c (input m c) := by
  obtain ⟨h0, h1, h2, h3, h4, h5, h6, h7, h8⟩ := Cert.Finite.reals (h c)
  exact ⟨fun _ _ => h0 _, fun _ _ => h1 _, fun _ _ => h2 _, fun _ _ => h3 _, fun _ _ => h4 _, fun _ _ => h5 _,
    fun _ => h6 _, fun _ => h7 _, fun _ _ => h8 _⟩

theorem reference_reads {c : Dev Cert.KernelIdeal.nD} {D : Cert.Model.Input} (R : Cert.Windows.Reads m c D) :
    Cert.Ref.Reads (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) D :=
  ⟨R.tok, R.gate, R.qm, R.kv, R.w, R.h, R.g, R.b, R.tgt⟩

/-- Two functions of a pair of coordinates are equal when they agree at every pair. -/
theorem ext2 {a b : ℕ} {f g : (⟨2, ![a, b]⟩ : Shape).Idx → EReal} (h : ∀ i j, f (ix2 i j) = g (ix2 i j)) : f = g :=
  funext fun i => by rw [eq_ix2 i]; exact h _ _

theorem algebraic : algebraic_KernelIdeal_ReferenceIdeal_pre_finite := by
  intro m g m' g' hpre hagree
  refine ⟨fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    fun c => (Cert.KernelIdeal.Gen.dats m 0 c).arrAt 12 Cert.KernelIdeal.cfg0.N,
    fun c => (Cert.KernelIdeal.Gen.dats m 0 c).arrAt 13 Cert.KernelIdeal.cfg0.N,
    fun c => (Cert.KernelIdeal.Gen.dats m 0 c).arrAt 14 Cert.KernelIdeal.cfg0.N,
    fun c => (Cert.KernelIdeal.Gen.dats m 0 c).arrAt 15 Cert.KernelIdeal.cfg0.N,
    fun c => (Cert.KernelIdeal.Gen.dats m 0 c).arrAt 16 Cert.KernelIdeal.cfg0.N,
    fun c => (Cert.KernelIdeal.Gen.dats m 0 c).arrAt 17 Cert.KernelIdeal.cfg0.N, ?_, ?_⟩
  · run_from Cert.KernelIdeal.Value.run_blocks m g
  · refine (θ_run _ _ _).mono (fun r h c => ?_) (Cert.ReferenceIdeal.Value.run m' g')
    obtain ⟨a0, a1, a2, a3, a4, a5, a6, a7, a8⟩ := hagree c
    have R := kernel_reads hpre c
    have H := reference_reads R
    rw [← a0, ← a1, ← a2, ← a3, ← a4, ← a5, ← a6, ← a7, ← a8] at H
    obtain ⟨h0, h1, h2, h3, h4, h5, h6, h7, h8, hargs⟩ := h c
    refine ⟨(h0.trans (Cert.ReferenceIdeal.Read.val_main_v167_eq (StableHlo.launchContents m' c))).trans ?_,
      (h1.trans (Cert.ReferenceIdeal.Read.val_main_v168_eq (StableHlo.launchContents m' c))).trans ?_,
      (h2.trans (Cert.ReferenceIdeal.Read.val_main_v169_eq (StableHlo.launchContents m' c))).trans ?_,
      (h3.trans (Cert.ReferenceIdeal.Read.val_main_v170_eq (StableHlo.launchContents m' c))).trans ?_,
      (h4.trans (Cert.ReferenceIdeal.Read.val_main_v127_eq (StableHlo.launchContents m' c))).trans ?_,
      (h5.trans (Cert.ReferenceIdeal.Read.val_main_v171_eq (StableHlo.launchContents m' c))).trans ?_,
      (h6.trans (Cert.ReferenceIdeal.Read.val_main_v172_eq (StableHlo.launchContents m' c))).trans ?_,
      (h7.trans (Cert.ReferenceIdeal.Read.val_main_v173_eq (StableHlo.launchContents m' c))).trans ?_,
      (h8.trans (Cert.ReferenceIdeal.Read.val_main_v174_eq (StableHlo.launchContents m' c))).trans ?_, hargs⟩
    · refine Eq.trans ?_ (Cert.Windows.dres_arr R).symm
      exact ext2 fun r k => Cert.Ref.dres_read H r k
    · refine Eq.trans ?_ (Cert.Windows.dtok_arr R).symm
      exact ext2 fun r k => Cert.Ref.dtok_read H r k
    · refine Eq.trans ?_ (Cert.Windows.dgate_arr R).symm
      exact ext2 fun r k => Cert.Ref.dgate_read H r k
    · refine Eq.trans ?_ (Cert.Windows.dqm_arr R).symm
      exact ext2 fun r k => Cert.Ref.dqm_read H r k
    · refine Eq.trans ?_ (Cert.Windows.dw_arr R).symm
      exact ext2 fun r k => Cert.Ref.dw_read H r k
    · refine Eq.trans ?_ (Cert.Windows.dkv_arr R).symm
      exact ext2 fun r k => Cert.Ref.dkv_read H r k
    · refine Eq.trans ?_ (Cert.Windows.dg_arr R).symm
      exact ext2 fun r k => Cert.Ref.dg_read H r k
    · refine Eq.trans ?_ (Cert.Windows.db_arr R).symm
      exact ext2 fun r k => Cert.Ref.db_read H r k
    · refine Eq.trans ?_ (Cert.Windows.loss_arr R).symm
      exact ext2 fun r k => Cert.Ref.loss_read H r k
end

theorem frame_reference : quiescent_ReferenceIdeal := fun m g _ =>
  (θ_run Cert.ReferenceIdeal.defs _ _).mono
    (fun r h => And.intro (fun c => (h c).2.2.2.2.2.2.2.2.2) (sem_eq_zero_of_no_sems (by decide) r.2))
    (Cert.ReferenceIdeal.Value.run (F := Ideal) m g)

theorem claim : Cert.Claim :=
  ⟨inferInstance, inferInstance, inferInstance, inferInstance, inferInstance, inferInstance, inferInstance, inferInstance,
    inferInstance, inferInstance, inferInstance, inferInstance, inferInstance, inferInstance, inferInstance, inferInstance,
    fun m ρ _ => Cert.Kernel.Gen.frame m ρ, fun m ρ _ => Cert.KernelIdeal.Gen.frame m ρ,
    fun m ρ _ => Cert.KernelIdeal.Gen.frame m ρ, frame_reference,
    fun m ρ _ => frame_reference m ρ True.intro,
    fun m ρ _ => Cert.Kernel2.Gen.frame m ρ, fun m ρ _ => Cert.Kernel2Ideal.Gen.frame m ρ,
    fun m ρ _ => Cert.Kernel2Ideal.Gen.frame m ρ, Cert.AttnAll.frame_reference,
    fun m ρ _ => Cert.AttnAll.frame_reference m ρ True.intro,
    Cert.MlaAll.frame_kernel, fun m ρ _ => Cert.MlaRun.frame_kernel m ρ,
    fun m ρ _ => Cert.MlaRun.frame_kernel m ρ, Cert.MlaAll.frame_reference,
    fun m ρ _ => Cert.MlaAll.frame_reference m ρ True.intro,
    Cert.MixFrame.frame_kernel, fun m ρ _ => Cert.MixRun.frame_kernel m ρ,
    fun m ρ _ => Cert.MixRun.frame_kernel m ρ, Cert.MixAll.frame_reference,
    fun m ρ _ => Cert.MixAll.frame_reference m ρ True.intro,
    trivial, algebraic, Cert.AttnAll.preserves, Cert.AttnAll.algebraic, Cert.MlaAll.preserves, Cert.MlaAll.algebraic,
    trivial, Cert.MixAll.algebraic⟩

end Cert.Proof

end
